-- ==== Defs.lean ====
def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_mix_in [hPre_finite_mix_in : Cert.Pre_finite_mix_in.Facts] (m : (ℓ : Loc Cert.MixInIdeal.nD Cert.MixInIdeal.τ Cert.MixInIdeal.sig) → Buf (Elt Ideal) ℓ) : Prop :=
  ∀ c : Dev Cert.MixInIdeal.nD,
    (Cert.Pre_finite_mix_in.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_mix_in [hPre_finite_mix_in : Cert.Pre_finite_mix_in.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_mix_in.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_pool [hPre_finite_pool : Cert.Pre_finite_pool.Facts] (m : (ℓ : Loc Cert.MixerIdeal.nD Cert.MixerIdeal.τ Cert.MixerIdeal.sig) → Buf (Elt Ideal) ℓ) : Prop :=
  ∀ c : Dev Cert.MixerIdeal.nD,
    (Cert.Pre_finite_pool.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_pool [hPre_finite_pool : Cert.Pre_finite_pool.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_pool.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInIdeal_pre_finite_mix_in [hMixInIdeal : Cert.MixInIdeal.Facts] [hPre_finite_mix_in : Cert.Pre_finite_mix_in.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_mix_in m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixInRefIdeal_pre_finite_mix_in [hMixInRefIdeal : Cert.MixInRefIdeal.Facts] [hPre_finite_mix_in : Cert.Pre_finite_mix_in.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_mix_in m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ r.2.sem = fun _ => 0)

def quiescent_MixerIdeal_pre_finite_pool [hMixerIdeal : Cert.MixerIdeal.Facts] [hPre_finite_pool : Cert.Pre_finite_pool.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_pool m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16))
      ∧ r.2.sem = fun _ => 0)

def quiescent_MixerRefIdeal_pre_finite_pool [hMixerRefIdeal : Cert.MixerRefIdeal.Facts] [hPre_finite_pool : Cert.Pre_finite_pool.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_pool m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_MixIn_MixInIdeal : Prop :=
  True

def algebraic_MixInIdeal_MixInRefIdeal_pre_finite_mix_in [hMixInIdeal : Cert.MixInIdeal.Facts] [hMixInRefIdeal : Cert.MixInRefIdeal.Facts] [hPre_finite_mix_in : Cert.Pre_finite_mix_in.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_mix_in m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v3_0)) (v1 : (c : Dev Cert.MixInIdeal.nD) → Buf (Elt Ideal) ((c.tc : Thread Cert.MixInIdeal.nD Cert.MixInIdeal.τ).loc Cert.MixInIdeal.main_v3_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v3_0) = v0 c
          ∧ r.2.mem ((c.tc : Thread Cert.MixInIdeal.nD Cert.MixInIdeal.τ).loc Cert.MixInIdeal.main_v3_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v41) = v0 c
          ∧ r.2.mem ((c.tc : Thread Cert.MixInRefIdeal.nD Cert.MixInRefIdeal.τ).loc Cert.MixInRefIdeal.main_v42) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_Mixer_MixerIdeal : Prop :=
  True

def algebraic_MixerIdeal_MixerRefIdeal_pre_finite_pool [hMixerIdeal : Cert.MixerIdeal.Facts] [hMixerRefIdeal : Cert.MixerRefIdeal.Facts] [hPre_finite_pool : Cert.Pre_finite_pool.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_pool m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)
      ∧ m' ((c.tc : Thread Cert.MixerRefIdeal.nD Cert.MixerRefIdeal.τ).loc Cert.MixerRefIdeal.main_arg15) = m ((c.tc : Thread Cert.MixerIdeal.nD Cert.MixerIdeal.τ).loc Cert.MixerIdeal.main_arg15)
      ∧ m' ((c.tc : Thread Cert.MixerRefIdeal.nD Cert.MixerRefIdeal.τ).loc Cert.MixerRefIdeal.main_arg16) = m ((c.tc : Thread Cert.MixerIdeal.nD Cert.MixerIdeal.τ).loc Cert.MixerIdeal.main_arg16)) →
    ∃ (v0 : (c : Dev Cert.MixerIdeal.nD) → Buf (Elt Ideal) ((c.tc : Thread Cert.MixerIdeal.nD Cert.MixerIdeal.τ).loc Cert.MixerIdeal.main_v32)) (v1 : (c : Dev Cert.MixerIdeal.nD) → Buf (Elt Ideal) ((c.tc : Thread Cert.MixerIdeal.nD Cert.MixerIdeal.τ).loc Cert.MixerIdeal.main_v31)) (v2 : (c : Dev Cert.MixerIdeal.nD) → Buf (Elt Ideal) ((c.tc : Thread Cert.MixerIdeal.nD Cert.MixerIdeal.τ).loc Cert.MixerIdeal.main_v33)) (v3 : (c : Dev Cert.MixerIdeal.nD) → Buf (Elt Ideal) ((c.tc : Thread Cert.MixerIdeal.nD Cert.MixerIdeal.τ).loc Cert.MixerIdeal.main_v34)) (v4 : (c : Dev Cert.MixerIdeal.nD) → Buf (Elt Ideal) ((c.tc : Thread Cert.MixerIdeal.nD Cert.MixerIdeal.τ).loc Cert.MixerIdeal.main_v35)) (v5 : (c : Dev Cert.MixerIdeal.nD) → Buf (Elt Ideal) ((c.tc : Thread Cert.MixerIdeal.nD Cert.MixerIdeal.τ).loc Cert.MixerIdeal.main_v17_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v32) = v0 c
          ∧ r.2.mem ((c.tc : Thread Cert.MixerIdeal.nD Cert.MixerIdeal.τ).loc Cert.MixerIdeal.main_v31) = v1 c
          ∧ r.2.mem ((c.tc : Thread Cert.MixerIdeal.nD Cert.MixerIdeal.τ).loc Cert.MixerIdeal.main_v33) = v2 c
          ∧ r.2.mem ((c.tc : Thread Cert.MixerIdeal.nD Cert.MixerIdeal.τ).loc Cert.MixerIdeal.main_v34) = v3 c
          ∧ r.2.mem ((c.tc : Thread Cert.MixerIdeal.nD Cert.MixerIdeal.τ).loc Cert.MixerIdeal.main_v35) = v4 c
          ∧ r.2.mem ((c.tc : Thread Cert.MixerIdeal.nD Cert.MixerIdeal.τ).loc Cert.MixerIdeal.main_v17_1) = v5 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
          ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v235) = v0 c
          ∧ r.2.mem ((c.tc : Thread Cert.MixerRefIdeal.nD Cert.MixerRefIdeal.τ).loc Cert.MixerRefIdeal.main_v234) = v1 c
          ∧ r.2.mem ((c.tc : Thread Cert.MixerRefIdeal.nD Cert.MixerRefIdeal.τ).loc Cert.MixerRefIdeal.main_v233) = v2 c
          ∧ r.2.mem ((c.tc : Thread Cert.MixerRefIdeal.nD Cert.MixerRefIdeal.τ).loc Cert.MixerRefIdeal.main_v232) = v3 c
          ∧ r.2.mem ((c.tc : Thread Cert.MixerRefIdeal.nD Cert.MixerRefIdeal.τ).loc Cert.MixerRefIdeal.main_v144) = v4 c
          ∧ r.2.mem ((c.tc : Thread Cert.MixerRefIdeal.nD Cert.MixerRefIdeal.τ).loc Cert.MixerRefIdeal.main_v629) = v5 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14)
          ∧ r.2.mem ((c.tc : Thread Cert.MixerRefIdeal.nD Cert.MixerRefIdeal.τ).loc Cert.MixerRefIdeal.main_arg15) = m' ((c.tc : Thread Cert.MixerRefIdeal.nD Cert.MixerRefIdeal.τ).loc Cert.MixerRefIdeal.main_arg15)
          ∧ r.2.mem ((c.tc : Thread Cert.MixerRefIdeal.nD Cert.MixerRefIdeal.τ).loc Cert.MixerRefIdeal.main_arg16) = m' ((c.tc : Thread Cert.MixerRefIdeal.nD Cert.MixerRefIdeal.τ).loc Cert.MixerRefIdeal.main_arg16))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v24)) (v1 : (c : Dev Cert.FfnIdeal.nD) → Buf (Elt Ideal) ((c.tc : Thread Cert.FfnIdeal.nD Cert.FfnIdeal.τ).loc Cert.FfnIdeal.main_v23_2)) (v2 : (c : Dev Cert.FfnIdeal.nD) → Buf (Elt Ideal) ((c.tc : Thread Cert.FfnIdeal.nD Cert.FfnIdeal.τ).loc Cert.FfnIdeal.main_v23_3)) (v3 : (c : Dev Cert.FfnIdeal.nD) → Buf (Elt Ideal) ((c.tc : Thread Cert.FfnIdeal.nD Cert.FfnIdeal.τ).loc Cert.FfnIdeal.main_v22_6)) (v4 : (c : Dev Cert.FfnIdeal.nD) → Buf (Elt Ideal) ((c.tc : Thread Cert.FfnIdeal.nD Cert.FfnIdeal.τ).loc Cert.FfnIdeal.main_v23_0)) (v5 : (c : Dev Cert.FfnIdeal.nD) → Buf (Elt Ideal) ((c.tc : Thread Cert.FfnIdeal.nD Cert.FfnIdeal.τ).loc Cert.FfnIdeal.main_v23_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v24) = v0 c
          ∧ r.2.mem ((c.tc : Thread Cert.FfnIdeal.nD Cert.FfnIdeal.τ).loc Cert.FfnIdeal.main_v23_2) = v1 c
          ∧ r.2.mem ((c.tc : Thread Cert.FfnIdeal.nD Cert.FfnIdeal.τ).loc Cert.FfnIdeal.main_v23_3) = v2 c
          ∧ r.2.mem ((c.tc : Thread Cert.FfnIdeal.nD Cert.FfnIdeal.τ).loc Cert.FfnIdeal.main_v22_6) = v3 c
          ∧ r.2.mem ((c.tc : Thread Cert.FfnIdeal.nD Cert.FfnIdeal.τ).loc Cert.FfnIdeal.main_v23_0) = v4 c
          ∧ r.2.mem ((c.tc : Thread Cert.FfnIdeal.nD Cert.FfnIdeal.τ).loc Cert.FfnIdeal.main_v23_1) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v106) = v0 c
          ∧ r.2.mem ((c.tc : Thread Cert.FfnRefIdeal.nD Cert.FfnRefIdeal.τ).loc Cert.FfnRefIdeal.main_v104) = v1 c
          ∧ r.2.mem ((c.tc : Thread Cert.FfnRefIdeal.nD Cert.FfnRefIdeal.τ).loc Cert.FfnRefIdeal.main_v105) = v2 c
          ∧ r.2.mem ((c.tc : Thread Cert.FfnRefIdeal.nD Cert.FfnRefIdeal.τ).loc Cert.FfnRefIdeal.main_v107) = v3 c
          ∧ r.2.mem ((c.tc : Thread Cert.FfnRefIdeal.nD Cert.FfnRefIdeal.τ).loc Cert.FfnRefIdeal.main_v108) = v4 c
          ∧ r.2.mem ((c.tc : Thread Cert.FfnRefIdeal.nD Cert.FfnRefIdeal.τ).loc Cert.FfnRefIdeal.main_v109) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hMixIn : Cert.MixIn.Facts) (hMixInIdeal : Cert.MixInIdeal.Facts) (hMixInRefIdeal : Cert.MixInRefIdeal.Facts) (hMixer : Cert.Mixer.Facts) (hMixerIdeal : Cert.MixerIdeal.Facts) (hMixerRefIdeal : Cert.MixerRefIdeal.Facts) (hFfn : Cert.Ffn.Facts) (hFfnIdeal : Cert.FfnIdeal.Facts) (hFfnRefIdeal : Cert.FfnRefIdeal.Facts) (hPre_finite_mix_in : Cert.Pre_finite_mix_in.Facts) (hPre_finite_pool : Cert.Pre_finite_pool.Facts) (hPre_finite_ffn : Cert.Pre_finite_ffn.Facts),
    quiescent_MixIn (hMixIn := hMixIn)
    ∧ quiescent_MixInIdeal (hMixInIdeal := hMixInIdeal)
    ∧ quiescent_MixInIdeal_pre_finite_mix_in (hMixInIdeal := hMixInIdeal) (hPre_finite_mix_in := hPre_finite_mix_in)
    ∧ quiescent_MixInRefIdeal (hMixInRefIdeal := hMixInRefIdeal)
    ∧ quiescent_MixInRefIdeal_pre_finite_mix_in (hMixInRefIdeal := hMixInRefIdeal) (hPre_finite_mix_in := hPre_finite_mix_in)
    ∧ quiescent_Mixer (hMixer := hMixer)
    ∧ quiescent_MixerIdeal (hMixerIdeal := hMixerIdeal)
    ∧ quiescent_MixerIdeal_pre_finite_pool (hMixerIdeal := hMixerIdeal) (hPre_finite_pool := hPre_finite_pool)
    ∧ quiescent_MixerRefIdeal (hMixerRefIdeal := hMixerRefIdeal)
    ∧ quiescent_MixerRefIdeal_pre_finite_pool (hMixerRefIdeal := hMixerRefIdeal) (hPre_finite_pool := hPre_finite_pool)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ preserves_MixIn_MixInIdeal
    ∧ algebraic_MixInIdeal_MixInRefIdeal_pre_finite_mix_in (hMixInIdeal := hMixInIdeal) (hMixInRefIdeal := hMixInRefIdeal) (hPre_finite_mix_in := hPre_finite_mix_in)
    ∧ preserves_Mixer_MixerIdeal
    ∧ algebraic_MixerIdeal_MixerRefIdeal_pre_finite_pool (hMixerIdeal := hMixerIdeal) (hMixerRefIdeal := hMixerRefIdeal) (hPre_finite_pool := hPre_finite_pool)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
-- ==== Pre_finite_ffn.lean ====
abbrev S8192x1024 : Shape := ⟨2, ![8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x2816x1024 .f32) (main_arg5 : FVec F S1024 .f32) (main_arg6 : FVec F S8192x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_arg6 main_v13 main_v16
-- ==== Pre_finite_mix_in.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1536 : S_.BroadcastsInDim S1x1024x1536 (![] : Fin 0 → Fin S1x1024x1536.rank)
  reducesTo_S1x1024x1536_S_d0_1_2 : S1x1024x1536.ReducesTo [0, 1, 2] S_
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_

variable [Facts]

def fn_part1 {F : FTy → Type} [FloatOps F] (main_v13 : IVec S_ 1) (main_v15 : FVec F S8192x1536 .f32) (main_v16 : FVec F S8192x1536 .f32) : IVec S_ 1 :=
  let main_v17 : IVec S8192x1536 1 := cmpf .olt main_v15 main_v16
  let main_c_5 : IVec S_ 1 := constantI S_ 1 1#1
  let main_v18 : IVec S_ 1 := (fun x v => Host.reduce IntOp.andi x v reducesTo_S8192x1536_S_d0_1 h_S_) main_v17 main_c_5
  let main_v19 : IVec S_ 1 := andi main_v13 main_v18
  main_v19

def fn {F : FTy → Type} [FloatOps F] (main_arg0 : FVec F S8192x1024 .f32) (main_arg1 : FVec F S1x1024 .f32) (main_arg2 : FVec F S1x1024x1536 .f32) (main_arg3 : FVec F S8192x1024 .f32) (main_arg4 : FVec F S8192x1536 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1536 .f32 := Host.absf main_arg2
  let main_cst_2 : FVec F S_ .f32 := constant S_ .f32 0x7F800000#32
  let main_v10 : FVec F S1x1024x1536 .f32 := broadcastInDim S1x1024x1536 ![] bcast_S_S1x1024x1536 main_cst_2
  let main_v11 : IVec S1x1024x1536 1 := cmpf .olt main_v9 main_v10
  let main_c_3 : IVec S_ 1 := constantI S_ 1 1#1
  let main_v12 : IVec S_ 1 := (fun x v => Host.reduce IntOp.andi x v reducesTo_S1x1024x1536_S_d0_1_2 h_S_) main_v11 main_c_3
  let main_v13 : IVec S_ 1 := andi main_v8 main_v12
  let main_v14 : FVec F S8192x1536 .f32 := (extf .f32 · bitsLt_bf16_f32) main_arg4
  let main_v15 : FVec F S8192x1536 .f32 := Host.absf main_v14
  let main_cst_4 : FVec F S_ .f32 := constant S_ .f32 0x7F800000#32
  let main_v16 : FVec F S8192x1536 .f32 := broadcastInDim S8192x1536 ![] bcast_S_S8192x1536 main_cst_4
  fn_part1 (F := F) main_v13 main_v15 main_v16
-- ==== Pre_finite_pool.lean ====
abbrev S8192x1024 : Shape := ⟨2, ![8192, 1024]⟩
abbrev S8192x1536 : Shape := ⟨2, ![8192, 1536]⟩
abbrev S1x1024 : Shape := ⟨2, ![1, 1024]⟩
abbrev S1x4x512 : Shape := ⟨3, ![1, 4, 512]⟩
abbrev S1x512 : Shape := ⟨2, ![1, 512]⟩
abbrev S1x8x64x64 : Shape := ⟨4, ![1, 8, 64, 64]⟩
abbrev S1x4x128x128 : Shape := ⟨4, ![1, 4, 128, 128]⟩
abbrev S1x1024x1024 : Shape := ⟨3, ![1, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x1536 : S_.BroadcastsInDim S8192x1536 (![] : Fin 0 → Fin S8192x1536.rank)
  reducesTo_S8192x1536_S_d0_1 : S8192x1536.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x4x512 : S_.BroadcastsInDim S1x4x512 (![] : Fin 0 → Fin S1x4x512.rank)
  reducesTo_S1x4x512_S_d0_1_2 : S1x4x512.ReducesTo [0, 1, 2] S_
  bcast_S_S1x8x64x64 : S_.BroadcastsInDim S1x8x64x64 (![] : Fin 0 → Fin S1x8x64x64.rank)
  reducesTo_S1x8x64x64_S_d0_1_2_3 : S1x8x64x64.ReducesTo [0, 1, 2, 3] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg8 : FVec F S1x8x64x64 .f32) (main_arg9 : FVec F S1x512 .f32) (main_arg10 : FVec F S1x512 .f32) (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  let main_v54 : FVec F S1x8x64x64 .f32 := Host.absf main_arg8
  let main_cst_20 : FVec F S_ .f32 := constant S_ .f32 0x7F800000#32
  let main_v55 : FVec F S1x8x64x64 .f32 := broadcastInDim S1x8x64x64 ![] bcast_S_S1x8x64x64 main_cst_20
  let main_v56 : IVec S1x8x64x64 1 := cmpf .olt main_v54 main_v55
  let main_c_21 : IVec S_ 1 := constantI S_ 1 1#1
  let main_v57 : IVec S_ 1 := (fun x v => Host.reduce IntOp.andi x v reducesTo_S1x8x64x64_S_d0_1_2_3 h_S_) main_v56 main_c_21
  let main_v58 : IVec S_ 1 := andi main_v53 main_v57
  let main_v59 : FVec F S1x512 .f32 := Host.absf main_arg9
  let main_cst_22 : FVec F S_ .f32 := constant S_ .f32 0x7F800000#32
  let main_v60 : FVec F S1x512 .f32 := broadcastInDim S1x512 ![] bcast_S_S1x512 main_cst_22
  let main_v61 : IVec S1x512 1 := cmpf .olt main_v59 main_v60
  let main_c_23 : IVec S_ 1 := constantI S_ 1 1#1
  let main_v62 : IVec S_ 1 := (fun x v => Host.reduce IntOp.andi x v reducesTo_S1x512_S_d0_1 h_S_) main_v61 main_c_23
  let main_v63 : IVec S_ 1 := andi main_v58 main_v62
  let main_v64 : FVec F S1x512 .f32 := Host.absf main_arg10
  let main_cst_24 : FVec F S_ .f32 := constant S_ .f32 0x7F800000#32
  let main_v65 : FVec F S1x512 .f32 := broadcastInDim S1x512 ![] bcast_S_S1x512 main_cst_24
  let main_v66 : IVec S1x512 1 := cmpf .olt main_v64 main_v65
  let main_c_25 : IVec S_ 1 := constantI S_ 1 1#1
  let main_v67 : IVec S_ 1 := (fun x v => Host.reduce IntOp.andi x v reducesTo_S1x512_S_d0_1 h_S_) main_v66 main_c_25
  fn_part4 (F := F) main_v63 main_v67

def fn_part2 {F : FTy → Type} [FloatOps F] (main_arg4 : FVec F S1x4x512 .f32) (main_arg5 : FVec F S1x512 .f32) (main_arg6 : FVec F S1x8x64x64 .f32) (main_arg7 : FVec F S1x512 .f32) (main_arg8 : FVec F S1x8x64x64 .f32) (main_arg9 : FVec F S1x512 .f32) (main_arg10 : FVec F S1x512 .f32) (main_v33 : IVec S_ 1) : IVec S_ 1 :=
  let main_v34 : FVec F S1x4x512 .f32 := Host.absf main_arg4
  let main_cst_12 : FVec F S_ .f32 := constant S_ .f32 0x7F800000#32
  let main_v35 : FVec F S1x4x512 .f32 := broadcastInDim S1x4x512 ![] bcast_S_S1x4x512 main_cst_12
  let main_v36 : IVec S1x4x512 1 := cmpf .olt main_v34 main_v35
  let main_c_13 : IVec S_ 1 := constantI S_ 1 1#1
  let main_v37 : IVec S_ 1 := (fun x v => Host.reduce IntOp.andi x v reducesTo_S1x4x512_S_d0_1_2 h_S_) main_v36 main_c_13
  let main_v38 : IVec S_ 1 := andi main_v33 main_v37
  let main_v39 : FVec F S1x512 .f32 := Host.absf main_arg5
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  let main_v44 : FVec F S1x8x64x64 .f32 := Host.absf main_arg6
  let main_cst_16 : FVec F S_ .f32 := constant S_ .f32 0x7F800000#32
  let main_v45 : FVec F S1x8x64x64 .f32 := broadcastInDim S1x8x64x64 ![] bcast_S_S1x8x64x64 main_cst_16
  let main_v46 : IVec S1x8x64x64 1 := cmpf .olt main_v44 main_v45
  let main_c_17 : IVec S_ 1 := constantI S_ 1 1#1
  let main_v47 : IVec S_ 1 := (fun x v => Host.reduce IntOp.andi x v reducesTo_S1x8x64x64_S_d0_1_2_3 h_S_) main_v46 main_c_17
  let main_v48 : IVec S_ 1 := andi main_v43 main_v47
  let main_v49 : FVec F S1x512 .f32 := Host.absf main_arg7
  let main_cst_18 : FVec F S_ .f32 := constant S_ .f32 0x7F800000#32
  let main_v50 : FVec F S1x512 .f32 := broadcastInDim S1x512 ![] bcast_S_S1x512 main_cst_18
  fn_part3 (F := F) main_arg8 main_arg9 main_arg10 main_v48 main_v49 main_v50

def fn_part1 {F : FTy → Type} [FloatOps F] (main_arg4 : FVec F S1x4x512 .f32) (main_arg5 : FVec F S1x512 .f32) (main_arg6 : FVec F S1x8x64x64 .f32) (main_arg7 : FVec F S1x512 .f32) (main_arg8 : FVec F S1x8x64x64 .f32) (main_arg9 : FVec F S1x512 .f32) (main_arg10 : FVec F S1x512 .f32) (main_arg13 : FVec F S1x512 .f32) (main_arg15 : FVec F S1x512 .f32) (main_arg16 : FVec F S1x1024x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512 .f32 := Host.absf main_arg13
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg15
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x1024x1024 .f32 := Host.absf main_arg16
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  fn_part2 (F := F) main_arg4 main_arg5 main_arg6 main_arg7 main_arg8 main_arg9 main_arg10 main_v33

def fn {F : FTy → Type} [FloatOps F] (main_arg0 : FVec F S8192x1024 .f32) (main_arg1 : FVec F S8192x1024 .f32) (main_arg2 : FVec F S8192x1536 .f32) (main_arg3 : FVec F S1x1024 .f32) (main_arg4 : FVec F S1x4x512 .f32) (main_arg5 : FVec F S1x512 .f32) (main_arg6 : FVec F S1x8x64x64 .f32) (main_arg7 : FVec F S1x512 .f32) (main_arg8 : FVec F S1x8x64x64 .f32) (main_arg9 : FVec F S1x512 .f32) (main_arg10 : FVec F S1x512 .f32) (main_arg11 : FVec F S1x4x128x128 .f32) (main_arg12 : FVec F S1x512 .f32) (main_arg13 : FVec F S1x512 .f32) (main_arg14 : FVec F S1x512 .f32) (main_arg15 : FVec F S1x512 .f32) (main_arg16 : FVec F S1x1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1536 .f32 := Host.absf main_arg2
  let main_cst_0 : FVec F S_ .f32 := constant S_ .f32 0x7F800000#32
  let main_v5 : FVec F S8192x1536 .f32 := broadcastInDim S8192x1536 ![] bcast_S_S8192x1536 main_cst_0
  let main_v6 : IVec S8192x1536 1 := cmpf .olt main_v4 main_v5
  let main_c_1 : IVec S_ 1 := constantI S_ 1 1#1
  let main_v7 : IVec S_ 1 := (fun x v => Host.reduce IntOp.andi x v reducesTo_S8192x1536_S_d0_1 h_S_) main_v6 main_c_1
  let main_v8 : IVec S_ 1 := andi main_v3 main_v7
  let main_v9 : FVec F S1x4x128x128 .f32 := Host.absf main_arg11
  let main_cst_2 : FVec F S_ .f32 := constant S_ .f32 0x7F800000#32
  let main_v10 : FVec F S1x4x128x128 .f32 := broadcastInDim S1x4x128x128 ![] bcast_S_S1x4x128x128 main_cst_2
  let main_v11 : IVec S1x4x128x128 1 := cmpf .olt main_v9 main_v10
  let main_c_3 : IVec S_ 1 := constantI S_ 1 1#1
  let main_v12 : IVec S_ 1 := (fun x v => Host.reduce IntOp.andi x v reducesTo_S1x4x128x128_S_d0_1_2_3 h_S_) main_v11 main_c_3
  let main_v13 : IVec S_ 1 := andi main_v8 main_v12
  let main_v14 : FVec F S1x512 .f32 := Host.absf main_arg12
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_arg7 main_arg8 main_arg9 main_arg10 main_arg13 main_arg15 main_arg16 main_v13 main_v16
-- ==== MixIn.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S1024x1536 : Shape := ⟨2, ![1024, 1536]⟩
abbrev S1536x1024 : Shape := ⟨2, ![1536, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1024, .f32⟩
  | .hbm, ⟨4, _⟩ => ⟨S8192x1536, .bf16⟩
  | .hbm, ⟨5, _⟩ => ⟨S1024x1536, .f32⟩
  | .hbm, ⟨6, _⟩ => ⟨S1536x1024, .f32⟩
  | .hbm, ⟨7, _⟩ => ⟨S1536x1024, .bf16⟩
  | .hbm, ⟨8, _⟩ => ⟨S8192x1024, .f32⟩
  | .hbm, ⟨9, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1536x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixInRefIdeal.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1024, .f32⟩
  | .hbm, ⟨4, _⟩ => ⟨S8192x1536, .bf16⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1536, .f32⟩
  | .hbm, ⟨27, _⟩ => ⟨S8192x1536, .f32⟩
  | .hbm, ⟨28, _⟩ => ⟨S8192x1536, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Mixer.lean ====
abbrev S8192x1024 : Shape := ⟨2, ![8192, 1024]⟩
abbrev S8192x1536 : Shape := ⟨2, ![8192, 1536]⟩
abbrev S1x1024 : Shape := ⟨2, ![1, 1024]⟩
abbrev S1x4x512 : Shape := ⟨3, ![1, 4, 512]⟩
abbrev S1x512 : Shape := ⟨2, ![1, 512]⟩
abbrev S1x8x64x64 : Shape := ⟨4, ![1, 8, 64, 64]⟩
abbrev S1x4x128x128 : Shape := ⟨4, ![1, 4, 128, 128]⟩
abbrev S1x1024x1024 : Shape := ⟨3, ![1, 1024, 1024]⟩
abbrev S4x512 : Shape := ⟨2, ![4, 512]⟩
abbrev S_ : Shape := ⟨0, ![]⟩
abbrev S16x512 : Shape := ⟨2, ![16, 512]⟩
abbrev S1024x1024 : Shape := ⟨2, ![1024, 1024]⟩
abbrev S128x1024 : Shape := ⟨2, ![128, 1024]⟩
abbrev S8x64x64 : Shape := ⟨3, ![8, 64, 64]⟩
abbrev S4x128x128 : Shape := ⟨3, ![4, 128, 128]⟩
abbrev S8192x512 : Shape := ⟨2, ![8192, 512]⟩
abbrev S8192x2048 : Shape := ⟨2, ![8192, 2048]⟩
abbrev S512x1536 : Shape := ⟨2, ![512, 1536]⟩
abbrev S512x1024 : Shape := ⟨2, ![512, 1024]⟩
abbrev S512x512 : Shape := ⟨2, ![512, 512]⟩
abbrev S512x2048 : Shape := ⟨2, ![512, 2048]⟩
abbrev S528x512 : Shape := ⟨2, ![528, 512]⟩
abbrev S8x512 : Shape := ⟨2, ![8, 512]⟩
abbrev S2x256x256 : Shape := ⟨3, ![2, 256, 256]⟩
abbrev S1x64x64 : Shape := ⟨3, ![1, 64, 64]⟩
abbrev S64x64 : Shape := ⟨2, ![64, 64]⟩
abbrev S1x128x128 : Shape := ⟨3, ![1, 128, 128]⟩
abbrev S128x128 : Shape := ⟨2, ![128, 128]⟩
abbrev S512x256 : Shape := ⟨2, ![512, 256]⟩
abbrev S1x256x256 : Shape := ⟨3, ![1, 256, 256]⟩
abbrev S256x256 : Shape := ⟨2, ![256, 256]⟩
abbrev S16x1 : Shape := ⟨2, ![16, 1]⟩
abbrev S528x128 : Shape := ⟨2, ![528, 128]⟩
abbrev S512x128 : Shape := ⟨2, ![512, 128]⟩
abbrev S16x128 : Shape := ⟨2, ![16, 128]⟩
abbrev S496x128 : Shape := ⟨2, ![496, 128]⟩
abbrev S512 : Shape := ⟨1, ![512]⟩
abbrev S512x1 : Shape := ⟨2, ![512, 1]⟩
abbrev S544x256 : Shape := ⟨2, ![544, 256]⟩
abbrev S520x512 : Shape := ⟨2, ![520, 512]⟩
abbrev S16x256 : Shape := ⟨2, ![16, 256]⟩
abbrev S64x256 : Shape := ⟨2, ![64, 256]⟩
abbrev S128x256 : Shape := ⟨2, ![128, 256]⟩

abbrev nBuf : Space → Nat
  | .hbm => 59
  | .vmem => 66
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1536, .f32⟩
  | .hbm, ⟨3, _⟩ => ⟨S1x1024, .f32⟩
  | .hbm, ⟨4, _⟩ => ⟨S1x4x512, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x8x64x64, .f32⟩
  | .hbm, ⟨9, _⟩ => ⟨S1x512, .f32⟩
  | .hbm, ⟨10, _⟩ => ⟨S1x512, .f32⟩
  | .hbm, ⟨11, _⟩ => ⟨S1x4x128x128, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x1024x1024, .f32⟩
  | .hbm, ⟨17, _⟩ => ⟨S4x512, .f32⟩
  | .hbm, ⟨18, _⟩ => ⟨S_, .f32⟩
  | .hbm, ⟨19, _⟩ => ⟨S4x512, .f32⟩
  | .hbm, ⟨20, _⟩ => ⟨S16x512, .f32⟩
  | .hbm, ⟨21, _⟩ => ⟨S1024x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S1024x1024, .f32⟩
  | .hbm, ⟨31, _⟩ => ⟨S1024x1024, .bf16⟩
  | .hbm, ⟨32, _⟩ => ⟨S8x64x64, .f32⟩
  | .hbm, ⟨33, _⟩ => ⟨S8x64x64, .f32⟩
  | .hbm, ⟨34, _⟩ => ⟨S4x128x128, .f32⟩
  | .hbm, ⟨35, _⟩ => ⟨S8192x1024, .bf16⟩
  | .hbm, ⟨36, _⟩ => ⟨S8192x512, .f32⟩
  | .hbm, ⟨37, _⟩ => ⟨S8192x1024, .f32⟩
  | .hbm, ⟨38, _⟩ => ⟨S8192x1024, .bf16⟩
  | .hbm, ⟨39, _⟩ => ⟨S8192x2048, .f32⟩
  | .hbm, ⟨40, _⟩ => ⟨S8192x1536, .bf16⟩
  | .hbm, ⟨41, _⟩ => ⟨S544x256, .f32⟩
  | .hbm, ⟨42, _⟩ => ⟨S16x256, .f32⟩
  | .hbm, ⟨43, _⟩ => ⟨S16x256, .f32⟩
  | .hbm, ⟨44, _⟩ => ⟨S16x512, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S1x128x128, .f32⟩
  | .hbm, ⟨50, _⟩ => ⟨S1x128x128, .f32⟩
  | .hbm, ⟨51, _⟩ => ⟨S1x128x128, .f32⟩
  | .hbm, ⟨52, _⟩ => ⟨S1x128x128, .f32⟩
  | .hbm, ⟨53, _⟩ => ⟨S4x128x128, .f32⟩
  | .hbm, ⟨54, _⟩ => ⟨S1x4x128x128, .f32⟩
  | .hbm, ⟨55, _⟩ => ⟨S8192x512, .bf16⟩
  | .hbm, ⟨56, _⟩ => ⟨S1x512, .f32⟩
  | .hbm, ⟨57, _⟩ => ⟨S1x512, .f32⟩
  | .hbm, ⟨58, _⟩ => ⟨S1x512, .f32⟩
  | .local _ .vmem, ⟨0, _⟩ => ⟨S512x1536, .f32⟩
  | .local _ .vmem, ⟨1, _⟩ => ⟨S512x1536, .f32⟩
  | .local _ .vmem, ⟨2, _⟩ => ⟨S512x1024, .f32⟩
  | .local _ .vmem, ⟨3, _⟩ => ⟨S512x1024, .f32⟩
  | .local _ .vmem, ⟨4, _⟩ => ⟨S16x512, .f32⟩
  | .local _ .vmem, ⟨5, _⟩ => ⟨S8x64x64, .f32⟩
  | .local _ .vmem, ⟨6, _⟩ => ⟨S8x64x64, .f32⟩
  | .local _ .vmem, ⟨7, _⟩ => ⟨S4x128x128, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x2048, .f32⟩
  | .local _ .vmem, ⟨19, _⟩ => ⟨S512x2048, .f32⟩
  | .local _ .vmem, ⟨20, _⟩ => ⟨S528x512, .f32⟩
  | .local _ .vmem, ⟨21, _⟩ => ⟨S528x512, .f32⟩
  | .local _ .vmem, ⟨22, _⟩ => ⟨S512x512, .f32⟩
  | .local _ .vmem, ⟨23, _⟩ => ⟨S512x512, .f32⟩
  | .local _ .vmem, ⟨24, _⟩ => ⟨S8x512, .f32⟩
  | .local _ .vmem, ⟨25, _⟩ => ⟨S2x256x256, .bf16⟩
  | .local _ .vmem, ⟨26, _⟩ => ⟨S2x256x256, .bf16⟩
  | .local _ .vmem, ⟨27, _⟩ => ⟨S2x256x256, .bf16⟩
  | .local _ .vmem, ⟨28, _⟩ => ⟨S512x1024, .f32⟩
  | .local _ .vmem, ⟨29, _⟩ => ⟨S512x1024, .f32⟩
  | .local _ .vmem, ⟨30, _⟩ => ⟨S512x1536, .f32⟩
  | .local _ .vmem, ⟨31, _⟩ => ⟨S512x1536, .f32⟩
  | .local _ .vmem, ⟨32, _⟩ => ⟨S16x512, .f32⟩
  | .local _ .vmem, ⟨33, _⟩ => ⟨S16x512, .f32⟩
  | .local _ .vmem, ⟨34, _⟩ => ⟨S512x512, .f32⟩
  | .local _ .vmem, ⟨35, _⟩ => ⟨S512x512, .f32⟩
  | .local _ .vmem, ⟨36, _⟩ => ⟨S8x512, .f32⟩
  | .local _ .vmem, ⟨37, _⟩ => ⟨S8x512, .f32⟩
  | .local _ .vmem, ⟨38, _⟩ => ⟨S512x2048, .f32⟩
  | .local _ .vmem, ⟨39, _⟩ => ⟨S512x2048, .f32⟩
  | .local _ .vmem, ⟨40, _⟩ => ⟨S16x512, .f32⟩
  | .local _ .vmem, ⟨41, _⟩ => ⟨S8x64x64, .f32⟩
  | .local _ .vmem, ⟨42, _⟩ => ⟨S8x64x64, .f32⟩
  | .local _ .vmem, ⟨43, _⟩ => ⟨S4x128x128, .f32⟩
  | .local _ .vmem, ⟨44, _⟩ => ⟨S1024x1024, .bf16⟩
  | .local _ .vmem, ⟨45, _⟩ => ⟨S512x1536, .bf16⟩
  | .local _ .vmem, ⟨46, _⟩ => ⟨S512x1536, .bf16⟩
  | .local _ .vmem, ⟨47, _⟩ => ⟨S544x256, .f32⟩
  | .local _ .vmem, ⟨48, _⟩ => ⟨S528x512, .f32⟩
  | .local _ .vmem, ⟨49, _⟩ => ⟨S520x512, .f32⟩
  | .local _ .vmem, ⟨50, _⟩ => ⟨S512x512, .f32⟩
  | .local _ .vmem, ⟨51, _⟩ => ⟨S512x512, .f32⟩
  | .local _ .vmem, ⟨52, _⟩ => ⟨S512x512, .f32⟩
  | .local _ .vmem, ⟨53, _⟩ => ⟨S520x512, .f32⟩
  | .local _ .vmem, ⟨54, _⟩ => ⟨S520x512, .f32⟩
  | .local _ .vmem, ⟨55, _⟩ => ⟨S528x512, .f32⟩
  | .local _ .vmem, ⟨56, _⟩ => ⟨S8x512, .f32⟩
  | .local _ .vmem, ⟨57, _⟩ => ⟨S8x512, .f32⟩
  | .local _ .vmem, ⟨58, _⟩ => ⟨S16x512, .f32⟩
  | .local _ .vmem, ⟨59, _⟩ => ⟨S2x256x256, .bf16⟩
  | .local _ .vmem, ⟨60, _⟩ => ⟨S2x256x256, .bf16⟩
  | .local _ .vmem, ⟨61, _⟩ => ⟨S2x256x256, .bf16⟩
  | .local _ .vmem, ⟨62, _⟩ => ⟨S16x512, .f32⟩
  | .local _ .vmem, ⟨63, _⟩ => ⟨S2x256x256, .f32⟩
  | .local _ .vmem, ⟨64, _⟩ => ⟨S2x256x256, .f32⟩
  | .local _ .vmem, ⟨65, _⟩ => ⟨S2x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev main_v17_3 : Ref sig .tc := ⟨.hbm, 38, rfl⟩
abbrev main_v17_4 : Ref sig .tc := ⟨.hbm, 39, rfl⟩
abbrev main_v18_0 : Ref sig .tc := ⟨.hbm, 40, rfl⟩
abbrev main_v18_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc1_stg5_0 : Ref sig .tc := ⟨.vmem, 38, rfl⟩
abbrev cc1_stg5_1 : Ref sig .tc := ⟨.vmem, 39, rfl⟩
abbrev cc1_stg6_0 : Ref sig .tc := ⟨.vmem, 40, rfl⟩
abbrev cc1_stg7_0 : Ref sig .tc := ⟨.vmem, 41, rfl⟩
abbrev cc1_stg8_0 : Ref sig .tc := ⟨.vmem, 42, rfl⟩
abbrev cc1_stg9_0 : Ref sig .tc := ⟨.vmem, 43, rfl⟩
abbrev cc1_stg10_0 : Ref sig .tc := ⟨.vmem, 44, rfl⟩
abbrev cc1_stg11_0 : Ref sig .tc := ⟨.vmem, 45, rfl⟩
abbrev cc1_stg11_1 : Ref sig .tc := ⟨.vmem, 46, rfl⟩
abbrev cc1_stg12_0 : Ref sig .tc := ⟨.vmem, 47, rfl⟩
abbrev cc1_scratch0 : Ref sig .tc := ⟨.vmem, 48, rfl⟩
abbrev cc1_scratch1 : Ref sig .tc := ⟨.vmem, 49, rfl⟩
abbrev cc1_scratch2 : Ref sig .tc := ⟨.vmem, 50, rfl⟩
abbrev cc1_scratch3 : Ref sig .tc := ⟨.vmem, 51, rfl⟩
abbrev cc1_scratch4 : Ref sig .tc := ⟨.vmem, 52, rfl⟩
abbrev cc1_scratch5 : Ref sig .tc := ⟨.vmem, 53, rfl⟩
abbrev cc1_scratch6 : Ref sig .tc := ⟨.vmem, 54, rfl⟩
abbrev cc1_scratch7 : Ref sig .tc := ⟨.vmem, 55, rfl⟩
abbrev cc1_scratch8 : Ref sig .tc := ⟨.vmem, 56, rfl⟩
abbrev cc1_scratch9 : Ref sig .tc := ⟨.vmem, 57, rfl⟩
abbrev cc1_scratch10 : Ref sig .tc := ⟨.vmem, 58, rfl⟩
abbrev cc1_scratch11 : Ref sig .tc := ⟨.vmem, 59, rfl⟩
abbrev cc1_scratch12 : Ref sig .tc := ⟨.vmem, 60, rfl⟩
abbrev cc1_scratch13 : Ref sig .tc := ⟨.vmem, 61, rfl⟩
abbrev cc1_scratch14 : Ref sig .tc := ⟨.vmem, 62, rfl⟩
abbrev cc1_scratch15 : Ref sig .tc := ⟨.vmem, 63, rfl⟩
abbrev cc1_scratch16 : Ref sig .tc := ⟨.vmem, 64, rfl⟩
abbrev cc1_scratch17 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem11_0 : DmaSem sig := 37
abbrev cc1_sem11_1 : DmaSem sig := 38
abbrev cc1_sem12_0 : DmaSem sig := 39

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_53 : BitVec 32 := 0#32
  let c8_i32 : BitVec 32 := 8#32
  let v117 : BitVec 32 := Scalar.addi c0_i32_53 c8_i32
  let c1_i32 : BitVec 32 := 1#32
  ⟨c0_i32_53, v117, c1_i32⟩
def k0_mult1 (k0_t1 : Fin k0_t1_loop.trips) : BitVec 32 :=
  let c0_i32_53 : BitVec 32 := 0#32
  let c1_i32 : BitVec 32 := 1#32
  let arg22 : BitVec 32 := Scf.iv c0_i32_53 c1_i32 k0_t1
  let c8_i32_144 : BitVec 32 := 8#32
  let v327 : BitVec 32 := Scalar.muli arg22 c8_i32_144
  let c0_i32_145 : BitVec 32 := 0#32
  let v328 : BitVec 32 := Scalar.addi v327 c0_i32_145
  let c8_i32_146 : BitVec 32 := 8#32
  let v329 : BitVec 32 := Scalar.muli v328 c8_i32_146
  v329
def k0_off1 (k0_t1 : Fin k0_t1_loop.trips) (c0_i32_145 : BitVec 32) : Fin 2 → Nat :=
  let c0_i32_53 : BitVec 32 := 0#32
  let c1_i32 : BitVec 32 := 1#32
  let arg22 : BitVec 32 := Scf.iv c0_i32_53 c1_i32 k0_t1
  let c8_i32_144 : BitVec 32 := 8#32
  let v327 : BitVec 32 := Scalar.muli arg22 c8_i32_144
  let v328 : BitVec 32 := Scalar.addi v327 c0_i32_145
  let c8_i32_146 : BitVec 32 := 8#32
  let v329 : BitVec 32 := Scalar.muli v328 c8_i32_146
  let v330 : BitVec 32 := v329
  let v331 : Index := Scalar.indexCast v330
  let c0_147 : Index := 0#32
  ![v331.toNat, 0]
def k0_mult2 (k0_t1 : Fin k0_t1_loop.trips) : BitVec 32 :=
  let c0_i32_53 : BitVec 32 := 0#32
  let c1_i32 : BitVec 32 := 1#32
  let arg22 : BitVec 32 := Scf.iv c0_i32_53 c1_i32 k0_t1
  let c8_i32_158 : BitVec 32 := 8#32
  let v362 : BitVec 32 := Scalar.muli arg22 c8_i32_158
  let c1_i32_159 : BitVec 32 := 1#32
  let v363 : BitVec 32 := Scalar.addi v362 c1_i32_159
  let c8_i32_160 : BitVec 32 := 8#32
  let v364 : BitVec 32 := Scalar.muli v363 c8_i32_160
  v364
def k0_mult3 (k0_t1 : Fin k0_t1_loop.trips) : BitVec 32 :=
  let c0_i32_53 : BitVec 32 := 0#32
  let c1_i32 : BitVec 32 := 1#32
  let arg22 : BitVec 32 := Scf.iv c0_i32_53 c1_i32 k0_t1
  let c8_i32_172 : BitVec 32 := 8#32
  let v397 : BitVec 32 := Scalar.muli arg22 c8_i32_172
  let c2_i32_173 : BitVec 32 := 2#32
  let v398 : BitVec 32 := Scalar.addi v397 c2_i32_173
  let c8_i32_174 : BitVec 32 := 8#32
  let v399 : BitVec 32 := Scalar.muli v398 c8_i32_174
  v399
def k0_mult4 (k0_t1 : Fin k0_t1_loop.trips) : BitVec 32 :=
  let c0_i32_53 : BitVec 32 := 0#32
  let c1_i32 : BitVec 32 := 1#32
  let arg22 : BitVec 32 := Scf.iv c0_i32_53 c1_i32 k0_t1
  let c8_i32_186 : BitVec 32 := 8#32
  let v432 : BitVec 32 := Scalar.muli arg22 c8_i32_186
  let c3_i32 : BitVec 32 := 3#32
  let v433 : BitVec 32 := Scalar.addi v432 c3_i32
  let c8_i32_187 : BitVec 32 := 8#32
  let v434 : BitVec 32 := Scalar.muli v433 c8_i32_187
  v434
def k0_mult5 (k0_t1 : Fin k0_t1_loop.trips) : BitVec 32 :=
  let c0_i32_53 : BitVec 32 := 0#32
  let c1_i32 : BitVec 32 := 1#32
  let arg22 : BitVec 32 := Scf.iv c0_i32_53 c1_i32 k0_t1
  let c8_i32_199 : BitVec 32 := 8#32
  let v467 : BitVec 32 := Scalar.muli arg22 c8_i32_199
  let c4_i32_200 : BitVec 32 := 4#32
  let v468 : BitVec 32 := Scalar.addi v467 c4_i32_200
  let c8_i32_201 : BitVec 32 := 8#32
  let v469 : BitVec 32 := Scalar.muli v468 c8_i32_201
  v469
def k0_mult6 (k0_t1 : Fin k0_t1_loop.trips) : BitVec 32 :=
  let c0_i32_53 : BitVec 32 := 0#32
  let c1_i32 : BitVec 32 := 1#32
  let arg22 : BitVec 32 := Scf.iv c0_i32_53 c1_i32 k0_t1
  let c8_i32_213 : BitVec 32 := 8#32
  let v502 : BitVec 32 := Scalar.muli arg22 c8_i32_213
  let c5_i32 : BitVec 32 := 5#32
  let v503 : BitVec 32 := Scalar.addi v502 c5_i32
  let c8_i32_214 : BitVec 32 := 8#32
  let v504 : BitVec 32 := Scalar.muli v503 c8_i32_214
  v504
def k0_mult7 (k0_t1 : Fin k0_t1_loop.trips) : BitVec 32 :=
  let c0_i32_53 : BitVec 32 := 0#32
  let c1_i32 : BitVec 32 := 1#32
  let arg22 : BitVec 32 := Scf.iv c0_i32_53 c1_i32 k0_t1
  let c8_i32_226 : BitVec 32 := 8#32
  let v537 : BitVec 32 := Scalar.muli arg22 c8_i32_226
  let c6_i32 : BitVec 32 := 6#32
  let v538 : BitVec 32 := Scalar.addi v537 c6_i32
  let c8_i32_227 : BitVec 32 := 8#32
  let v539 : BitVec 32 := Scalar.muli v538 c8_i32_227
  v539
def k0_mult8 (k0_t1 : Fin k0_t1_loop.trips) : BitVec 32 :=
  let c0_i32_53 : BitVec 32 := 0#32
  let c1_i32 : BitVec 32 := 1#32
  let arg22 : BitVec 32 := Scf.iv c0_i32_53 c1_i32 k0_t1
  let c8_i32_239 : BitVec 32 := 8#32
  let v572 : BitVec 32 := Scalar.muli arg22 c8_i32_239
  let c7_i32 : BitVec 32 := 7#32
  let v573 : BitVec 32 := Scalar.addi v572 c7_i32
  let c8_i32_240 : BitVec 32 := 8#32
  let v574 : BitVec 32 := Scalar.muli v573 c8_i32_240
  v574
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![16], ![false]⟩

@[reducible] def k1_t1_loop : Scf.Loop 32 :=
  let c0_i32_59 : BitVec 32 := 0#32
  let c8_i32 : BitVec 32 := 8#32
  let v131 : BitVec 32 := Scalar.addi c0_i32_59 c8_i32
  let c1_i32 : BitVec 32 := 1#32
  ⟨c0_i32_59, v131, c1_i32⟩
def k1_mult1 (k1_t1 : Fin k1_t1_loop.trips) : BitVec 32 :=
  let c63_i32 : BitVec 32 := 63#32
  let c0_i32_59 : BitVec 32 := 0#32
  let c1_i32 : BitVec 32 := 1#32
  let arg32 : BitVec 32 := Scf.iv c0_i32_59 c1_i32 k1_t1
  let c8_i32_259 : BitVec 32 := 8#32
  let v598 : BitVec 32 := Scalar.muli arg32 c8_i32_259
  let c0_i32_260 : BitVec 32 := 0#32
  let v599 : BitVec 32 := Scalar.addi v598 c0_i32_260
  let v600 : BitVec 32 := Scalar.subi c63_i32 v599
  let c8_i32_261 : BitVec 32 := 8#32
  let v601 : BitVec 32 := Scalar.muli v600 c8_i32_261
  v601
def k1_off1 (k1_t1 : Fin k1_t1_loop.trips) (c0_i32_260 : BitVec 32) : Fin 2 → Nat :=
  let c63_i32 : BitVec 32 := 63#32
  let c0_i32_59 : BitVec 32 := 0#32
  let c1_i32 : BitVec 32 := 1#32
  let arg32 : BitVec 32 := Scf.iv c0_i32_59 c1_i32 k1_t1
  let c8_i32_259 : BitVec 32 := 8#32
  let v598 : BitVec 32 := Scalar.muli arg32 c8_i32_259
  let v599 : BitVec 32 := Scalar.addi v598 c0_i32_260
  let v600 : BitVec 32 := Scalar.subi c63_i32 v599
  let c8_i32_261 : BitVec 32 := 8#32
  let v601 : BitVec 32 := Scalar.muli v600 c8_i32_261
  let v602 : BitVec 32 := v601
  let v603 : Index := Scalar.indexCast v602
  let c0_262 : Index := 0#32
  ![v603.toNat, 0]
def k1_mult2 (k1_t1 : Fin k1_t1_loop.trips) : BitVec 32 :=
  let c63_i32_273 : BitVec 32 := 63#32
  let c0_i32_59 : BitVec 32 := 0#32
  let c1_i32 : BitVec 32 := 1#32
  let arg32 : BitVec 32 := Scf.iv c0_i32_59 c1_i32 k1_t1
  let c8_i32_271 : BitVec 32 := 8#32
  let v634 : BitVec 32 := Scalar.muli arg32 c8_i32_271
  let c1_i32_272 : BitVec 32 := 1#32
  let v635 : BitVec 32 := Scalar.addi v634 c1_i32_272
  let v636 : BitVec 32 := Scalar.subi c63_i32_273 v635
  let c8_i32_274 : BitVec 32 := 8#32
  let v637 : BitVec 32 := Scalar.muli v636 c8_i32_274
  v637
def k1_mult3 (k1_t1 : Fin k1_t1_loop.trips) : BitVec 32 :=
  let c63_i32_288 : BitVec 32 := 63#32
  let c0_i32_59 : BitVec 32 := 0#32
  let c1_i32 : BitVec 32 := 1#32
  let arg32 : BitVec 32 := Scf.iv c0_i32_59 c1_i32 k1_t1
  let c8_i32_286 : BitVec 32 := 8#32
  let v670 : BitVec 32 := Scalar.muli arg32 c8_i32_286
  let c2_i32_287 : BitVec 32 := 2#32
  let v671 : BitVec 32 := Scalar.addi v670 c2_i32_287
  let v672 : BitVec 32 := Scalar.subi c63_i32_288 v671
  let c8_i32_289 : BitVec 32 := 8#32
  let v673 : BitVec 32 := Scalar.muli v672 c8_i32_289
  v673
def k1_mult4 (k1_t1 : Fin k1_t1_loop.trips) : BitVec 32 :=
  let c63_i32_302 : BitVec 32 := 63#32
  let c0_i32_59 : BitVec 32 := 0#32
  let c1_i32 : BitVec 32 := 1#32
  let arg32 : BitVec 32 := Scf.iv c0_i32_59 c1_i32 k1_t1
  let c8_i32_301 : BitVec 32 := 8#32
  let v706 : BitVec 32 := Scalar.muli arg32 c8_i32_301
  let c3_i32 : BitVec 32 := 3#32
  let v707 : BitVec 32 := Scalar.addi v706 c3_i32
  let v708 : BitVec 32 := Scalar.subi c63_i32_302 v707
  let c8_i32_303 : BitVec 32 := 8#32
  let v709 : BitVec 32 := Scalar.muli v708 c8_i32_303
  v709
def k1_mult5 (k1_t1 : Fin k1_t1_loop.trips) : BitVec 32 :=
  let c63_i32_317 : BitVec 32 := 63#32
  let c0_i32_59 : BitVec 32 := 0#32
  let c1_i32 : BitVec 32 := 1#32
  let arg32 : BitVec 32 := Scf.iv c0_i32_59 c1_i32 k1_t1
  let c8_i32_315 : BitVec 32 := 8#32
  let v742 : BitVec 32 := Scalar.muli arg32 c8_i32_315
  let c4_i32_316 : BitVec 32 := 4#32
  let v743 : BitVec 32 := Scalar.addi v742 c4_i32_316
  let v744 : BitVec 32 := Scalar.subi c63_i32_317 v743
  let c8_i32_318 : BitVec 32 := 8#32
  let v745 : BitVec 32 := Scalar.muli v744 c8_i32_318
  v745
def k1_mult6 (k1_t1 : Fin k1_t1_loop.trips) : BitVec 32 :=
  let c63_i32_331 : BitVec 32 := 63#32
  let c0_i32_59 : BitVec 32 := 0#32
  let c1_i32 : BitVec 32 := 1#32
  let arg32 : BitVec 32 := Scf.iv c0_i32_59 c1_i32 k1_t1
  let c8_i32_330 : BitVec 32 := 8#32
  let v778 : BitVec 32 := Scalar.muli arg32 c8_i32_330
  let c5_i32 : BitVec 32 := 5#32
  let v779 : BitVec 32 := Scalar.addi v778 c5_i32
  let v780 : BitVec 32 := Scalar.subi c63_i32_331 v779
  let c8_i32_332 : BitVec 32 := 8#32
  let v781 : BitVec 32 := Scalar.muli v780 c8_i32_332
  v781
def k1_mult7 (k1_t1 : Fin k1_t1_loop.trips) : BitVec 32 :=
  let c63_i32_346 : BitVec 32 := 63#32
  let c0_i32_59 : BitVec 32 := 0#32
  let c1_i32 : BitVec 32 := 1#32
  let arg32 : BitVec 32 := Scf.iv c0_i32_59 c1_i32 k1_t1
  let c8_i32_344 : BitVec 32 := 8#32
  let v814 : BitVec 32 := Scalar.muli arg32 c8_i32_344
  let c6_i32_345 : BitVec 32 := 6#32
  let v815 : BitVec 32 := Scalar.addi v814 c6_i32_345
  let v816 : BitVec 32 := Scalar.subi c63_i32_346 v815
  let c8_i32_347 : BitVec 32 := 8#32
  let v817 : BitVec 32 := Scalar.muli v816 c8_i32_347
  v817
def k1_mult8 (k1_t1 : Fin k1_t1_loop.trips) : BitVec 32 :=
  let c63_i32_361 : BitVec 32 := 63#32
  let c0_i32_59 : BitVec 32 := 0#32
  let c1_i32 : BitVec 32 := 1#32
  let arg32 : BitVec 32 := Scf.iv c0_i32_59 c1_i32 k1_t1
  let c8_i32_359 : BitVec 32 := 8#32
  let v850 : BitVec 32 := Scalar.muli arg32 c8_i32_359
  let c7_i32_360 : BitVec 32 := 7#32
  let v851 : BitVec 32 := Scalar.addi v850 c7_i32_360
  let v852 : BitVec 32 := Scalar.subi c63_i32_361 v851
  let c8_i32_362 : BitVec 32 := 8#32
  let v853 : BitVec 32 := Scalar.muli v852 c8_i32_362
  v853
def k1_off2 (k1_t1 : Fin k1_t1_loop.trips) (c0_i32_260 : BitVec 32) : Fin 2 → Nat :=
  let c63_i32 : BitVec 32 := 63#32
  let c0_i32_59 : BitVec 32 := 0#32
  let c1_i32 : BitVec 32 := 1#32
  let arg32 : BitVec 32 := Scf.iv c0_i32_59 c1_i32 k1_t1
  let c8_i32_259 : BitVec 32 := 8#32
  let v598 : BitVec 32 := Scalar.muli arg32 c8_i32_259
  let v599 : BitVec 32 := Scalar.addi v598 c0_i32_260
  let v600 : BitVec 32 := Scalar.subi c63_i32 v599
  let c8_i32_261 : BitVec 32 := 8#32
  let v601 : BitVec 32 := Scalar.muli v600 c8_i32_261
  let v602 : BitVec 32 := v601
  let v888 : Index := Scalar.indexCast v602
  let c0_374 : Index := 0#32
  ![v888.toNat, 0]
def k1_cond2 (i : grid1.Coords) : BitVec 1 :=
  let arg0 : BitVec 32 := BitVec.ofNat 32 (i 0).val
  let c15_i32_257 : BitVec 32 := 15#32
  let v595 : BitVec 1 := Scalar.cmpi .eq arg0 c15_i32_257
  let v596 : BitVec 32 := Scalar.extui v595
  let c0_i32_258 : BitVec 32 := 0#32
  let v597 : BitVec 1 := Scalar.cmpi .ne v596 c0_i32_258
  v597

def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_5 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S16x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1536 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S544x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== MixerRefIdeal.lean ====
abbrev S8192x1024 : Shape := ⟨2, ![8192, 1024]⟩
abbrev S8192x1536 : Shape := ⟨2, ![8192, 1536]⟩
abbrev S1x1024 : Shape := ⟨2, ![1, 1024]⟩
abbrev S1x4x512 : Shape := ⟨3, ![1, 4, 512]⟩
abbrev S1x512 : Shape := ⟨2, ![1, 512]⟩
abbrev S1x8x64x64 : Shape := ⟨4, ![1, 8, 64, 64]⟩
abbrev S1x4x128x128 : Shape := ⟨4, ![1, 4, 128, 128]⟩
abbrev S1x1024x1024 : Shape := ⟨3, ![1, 1024, 1024]⟩
abbrev S8192x512 : Shape := ⟨2, ![8192, 512]⟩
abbrev S4x128x128 : Shape := ⟨3, ![4, 128, 128]⟩
abbrev S512 : Shape := ⟨1, ![512]⟩
abbrev S8192x4x128 : Shape := ⟨3, ![8192, 4, 128]⟩
abbrev S8192x1x128 : Shape := ⟨3, ![8192, 1, 128]⟩
abbrev S8192x128 : Shape := ⟨2, ![8192, 128]⟩
abbrev S_ : Shape := ⟨0, ![]⟩
abbrev S2x128 : Shape := ⟨2, ![2, 128]⟩
abbrev S8194x128 : Shape := ⟨2, ![8194, 128]⟩
abbrev S8192 : Shape := ⟨1, ![8192]⟩
abbrev S8192x1 : Shape := ⟨2, ![8192, 1]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S4x128x8192 : Shape := ⟨3, ![4, 128, 8192]⟩
abbrev S1x512x1024 : Shape := ⟨3, ![1, 512, 1024]⟩
abbrev S512x1024 : Shape := ⟨2, ![512, 1024]⟩
abbrev S4x8192x128 : Shape := ⟨3, ![4, 8192, 128]⟩
abbrev S4x512 : Shape := ⟨2, ![4, 512]⟩
abbrev S3x512 : Shape := ⟨2, ![3, 512]⟩
abbrev S8195x512 : Shape := ⟨2, ![8195, 512]⟩
abbrev S8x64x64 : Shape := ⟨3, ![8, 64, 64]⟩
abbrev S8192x8x64 : Shape := ⟨3, ![8192, 8, 64]⟩
abbrev S8x64x8192 : Shape := ⟨3, ![8, 64, 8192]⟩
abbrev S4096x512 : Shape := ⟨2, ![4096, 512]⟩
abbrev S2048x512 : Shape := ⟨2, ![2048, 512]⟩
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S2x512 : Shape := ⟨2, ![2, 512]⟩
abbrev S0x512 : Shape := ⟨2, ![0, 512]⟩
abbrev S7x512 : Shape := ⟨2, ![7, 512]⟩
abbrev S15x512 : Shape := ⟨2, ![15, 512]⟩
abbrev S31x512 : Shape := ⟨2, ![31, 512]⟩
abbrev S63x512 : Shape := ⟨2, ![63, 512]⟩
abbrev S127x512 : Shape := ⟨2, ![127, 512]⟩
abbrev S255x512 : Shape := ⟨2, ![255, 512]⟩
abbrev S511x512 : Shape := ⟨2, ![511, 512]⟩
abbrev S1023x512 : Shape := ⟨2, ![1023, 512]⟩
abbrev S2047x512 : Shape := ⟨2, ![2047, 512]⟩
abbrev S4095x512 : Shape := ⟨2, ![4095, 512]⟩

abbrev nBuf : Space → Nat
  | .hbm => 781
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1536, .f32⟩
  | 3 => ⟨S1x1024, .f32⟩
  | 4 => ⟨S1x4x512, .f32⟩
  | 5 => ⟨S1x512, .f32⟩
  | 6 => ⟨S1x8x64x64, .f32⟩
  | 7 => ⟨S1x512, .f32⟩
  | 8 => ⟨S1x8x64x64, .f32⟩
  | 9 => ⟨S1x512, .f32⟩
  | 10 => ⟨S1x512, .f32⟩
  | 11 => ⟨S1x4x128x128, .f32⟩
  | 12 => ⟨S1x512, .f32⟩
  | 13 => ⟨S1x512, .f32⟩
  | 14 => ⟨S1x512, .f32⟩
  | 15 => ⟨S1x512, .f32⟩
  | 16 => ⟨S1x1024x1024, .f32⟩
  | 17 => ⟨S8192x512, .f32⟩
  | 18 => ⟨S4x128x128, .f32⟩
  | 19 => ⟨S512, .f32⟩
  | 20 => ⟨S512, .f32⟩
  | 21 => ⟨S8192x4x128, .f32⟩
  | 22 => ⟨S8192x1x128, .f32⟩
  | 23 => ⟨S8192x128, .f32⟩
  | 24 => ⟨S_, .f32⟩
  | 25 => ⟨S2x128, .f32⟩
  | 26 => ⟨S8194x128, .f32⟩
  | 27 => ⟨S_, .f32⟩
  | 28 => ⟨S2x128, .f32⟩
  | 29 => ⟨S_, .f32⟩
  | 30 => ⟨S_, .f32⟩
  | 31 => ⟨S8194x128, .f32⟩
  | 32 => ⟨S8192x128, .f32⟩
  | 33 => ⟨S8192x128, .f32⟩
  | 34 => ⟨S8192x128, .f32⟩
  | 35 => ⟨S8192, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S8192, .f32⟩
  | 43 => ⟨S8192x1, .f32⟩
  | 44 => ⟨S8192x128, .f32⟩
  | 45 => ⟨S8192x128, .f32⟩
  | 46 => ⟨S8192x1x128, .f32⟩
  | 47 => ⟨S8192x128, .f32⟩
  | 48 => ⟨S8192x128, .f32⟩
  | 49 => ⟨S8192x1x128, .f32⟩
  | 50 => ⟨S8192x128, .f32⟩
  | 51 => ⟨S_, .f32⟩
  | 52 => ⟨S4x128, .f32⟩
  | 53 => ⟨S8196x128, .f32⟩
  | 54 => ⟨S_, .f32⟩
  | 55 => ⟨S4x128, .f32⟩
  | 56 => ⟨S_, .f32⟩
  | 57 => ⟨S_, .f32⟩
  | 58 => ⟨S8196x128, .f32⟩
  | 59 => ⟨S8192x128, .f32⟩
  | 60 => ⟨S8192x128, .f32⟩
  | 61 => ⟨S8192x128, .f32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .f32⟩
  | 70 => ⟨S8192x1, .f32⟩
  | 71 => ⟨S8192x128, .f32⟩
  | 72 => ⟨S8192x128, .f32⟩
  | 73 => ⟨S8192x1x128, .f32⟩
  | 74 => ⟨S8192x128, .f32⟩
  | 75 => ⟨S8192x128, .f32⟩
  | 76 => ⟨S8192x1x128, .f32⟩
  | 77 => ⟨S8192x128, .f32⟩
  | 78 => ⟨S_, .f32⟩
  | 79 => ⟨S8x128, .f32⟩
  | 80 => ⟨S8200x128, .f32⟩
  | 81 => ⟨S_, .f32⟩
  | 82 => ⟨S8x128, .f32⟩
  | 83 => ⟨S_, .f32⟩
  | 84 => ⟨S_, .f32⟩
  | 85 => ⟨S8200x128, .f32⟩
  | 86 => ⟨S8192x128, .f32⟩
  | 87 => ⟨S8192x128, .f32⟩
  | 88 => ⟨S8192x128, .f32⟩
  | 89 => ⟨S8192, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .f32⟩
  | 97 => ⟨S8192x1, .f32⟩
  | 98 => ⟨S8192x128, .f32⟩
  | 99 => ⟨S8192x128, .f32⟩
  | 100 => ⟨S8192x1x128, .f32⟩
  | 101 => ⟨S8192x128, .f32⟩
  | 102 => ⟨S8192x128, .f32⟩
  | 103 => ⟨S8192x1x128, .f32⟩
  | 104 => ⟨S8192x128, .f32⟩
  | 105 => ⟨S_, .f32⟩
  | 106 => ⟨S16x128, .f32⟩
  | 107 => ⟨S8208x128, .f32⟩
  | 108 => ⟨S_, .f32⟩
  | 109 => ⟨S16x128, .f32⟩
  | 110 => ⟨S_, .f32⟩
  | 111 => ⟨S_, .f32⟩
  | 112 => ⟨S8208x128, .f32⟩
  | 113 => ⟨S8192x128, .f32⟩
  | 114 => ⟨S8192x128, .f32⟩
  | 115 => ⟨S8192x128, .f32⟩
  | 116 => ⟨S8192, .i32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S8192, .f32⟩
  | 124 => ⟨S8192x1, .f32⟩
  | 125 => ⟨S8192x128, .f32⟩
  | 126 => ⟨S8192x128, .f32⟩
  | 127 => ⟨S8192x1x128, .f32⟩
  | _ => ⟨S8192x1024, .f32⟩

abbrev hbmTy0_1 (i : Nat) : BufTy := match i % 128 with
  | 0 => ⟨S8192x128, .f32⟩
  | 1 => ⟨S8192x128, .f32⟩
  | 2 => ⟨S8192x1x128, .f32⟩
  | 3 => ⟨S8192x1x128, .f32⟩
  | 4 => ⟨S8192x1x128, .f32⟩
  | 5 => ⟨S8192x1x128, .f32⟩
  | 6 => ⟨S8192x4x128, .f32⟩
  | 7 => ⟨S4x128x8192, .f32⟩
  | 8 => ⟨S8192x4x128, .f32⟩
  | 9 => ⟨S8192x512, .f32⟩
  | 10 => ⟨S1x512, .f32⟩
  | 11 => ⟨S8192x512, .f32⟩
  | 12 => ⟨S8192x512, .f32⟩
  | 13 => ⟨S1x512, .f32⟩
  | 14 => ⟨S8192x512, .f32⟩
  | 15 => ⟨S8192x512, .f32⟩
  | 16 => ⟨S512, .f32⟩
  | 17 => ⟨S8192x512, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x512, .f32⟩
  | 33 => ⟨S8192x512, .f32⟩
  | 34 => ⟨S1x512, .f32⟩
  | 35 => ⟨S8192x512, .f32⟩
  | 36 => ⟨S8192x512, .f32⟩
  | 37 => ⟨S1x512x1024, .f32⟩
  | 38 => ⟨S512x1024, .f32⟩
  | 39 => ⟨S8192x1024, .f32⟩
  | 40 => ⟨S8192x512, .f32⟩
  | 41 => ⟨S8192x512, .f32⟩
  | 42 => ⟨S_, .f32⟩
  | 43 => ⟨S512, .f32⟩
  | 44 => ⟨S1x512, .f32⟩
  | 45 => ⟨S8192x512, .f32⟩
  | 46 => ⟨S8192x512, .f32⟩
  | 47 => ⟨S_, .f32⟩
  | 48 => ⟨S512, .f32⟩
  | 49 => ⟨S8192x512, .f32⟩
  | 50 => ⟨S_, .f32⟩
  | 51 => ⟨S8192, .f32⟩
  | 52 => ⟨S8192x1, .f32⟩
  | 53 => ⟨S8192x512, .f32⟩
  | 54 => ⟨S8192x512, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S8192x512, .f32⟩
  | 68 => ⟨S_, .f32⟩
  | 69 => ⟨S512, .f32⟩
  | 70 => ⟨S1x512, .f32⟩
  | 71 => ⟨S8192x512, .f32⟩
  | 72 => ⟨S8192x512, .f32⟩
  | 73 => ⟨S_, .f32⟩
  | 74 => ⟨S512, .f32⟩
  | 75 => ⟨S_, .f32⟩
  | 76 => ⟨S512, .f32⟩
  | 77 => ⟨S1x512, .f32⟩
  | 78 => ⟨S_, .f32⟩
  | 79 => ⟨S512, .f32⟩
  | 80 => ⟨S8192x4x128, .f32⟩
  | 81 => ⟨S4x128x8192, .f32⟩
  | 82 => ⟨S4x8192x128, .f32⟩
  | 83 => ⟨S8192x4x128, .f32⟩
  | 84 => ⟨S4x128x128, .f32⟩
  | 85 => ⟨S4x128x128, .f32⟩
  | 86 => ⟨S8192x1x128, .f32⟩
  | 87 => ⟨S8192x128, .f32⟩
  | 88 => ⟨S8192x1x128, .f32⟩
  | 89 => ⟨S8192x128, .f32⟩
  | 90 => ⟨S8192x1x128, .f32⟩
  | 91 => ⟨S8192x128, .f32⟩
  | 92 => ⟨S8192x1x128, .f32⟩
  | 93 => ⟨S8192x128, .f32⟩
  | 94 => ⟨S8192x128, .f32⟩
  | 95 => ⟨S8192x1x128, .f32⟩
  | 96 => ⟨S_, .f32⟩
  | 97 => ⟨S8192x4x128, .f32⟩
  | 98 => ⟨S8192x128, .f32⟩
  | 99 => ⟨S8192x128, .f32⟩
  | 100 => ⟨S8192x128, .f32⟩
  | 101 => ⟨S_, .f32⟩
  | 102 => ⟨S8208x128, .f32⟩
  | 103 => ⟨S_, .f32⟩
  | 104 => ⟨S8208x128, .f32⟩
  | 105 => ⟨S8208x128, .f32⟩
  | 106 => ⟨S_, .f32⟩
  | 107 => ⟨S_, .f32⟩
  | 108 => ⟨S8208x128, .f32⟩
  | 109 => ⟨S16x128, .f32⟩
  | 110 => ⟨S8192x128, .f32⟩
  | 111 => ⟨S8192x1x128, .f32⟩
  | 112 => ⟨S_, .f32⟩
  | 113 => ⟨S8192x4x128, .f32⟩
  | 114 => ⟨S8192x4x128, .f32⟩
  | 115 => ⟨S8192x128, .f32⟩
  | 116 => ⟨S8192x1x128, .f32⟩
  | 117 => ⟨S_, .f32⟩
  | 118 => ⟨S8192x4x128, .f32⟩
  | 119 => ⟨S8192x4x128, .f32⟩
  | 120 => ⟨S8192x128, .f32⟩
  | 121 => ⟨S8192x128, .f32⟩
  | 122 => ⟨S8192x128, .f32⟩
  | 123 => ⟨S_, .f32⟩
  | 124 => ⟨S8200x128, .f32⟩
  | 125 => ⟨S_, .f32⟩
  | 126 => ⟨S8200x128, .f32⟩
  | 127 => ⟨S8200x128, .f32⟩
  | _ => ⟨S8192x1024, .f32⟩

abbrev hbmTy0_2 (i : Nat) : BufTy := match i % 128 with
  | 0 => ⟨S_, .f32⟩
  | 1 => ⟨S_, .f32⟩
  | 2 => ⟨S8200x128, .f32⟩
  | 3 => ⟨S8x128, .f32⟩
  | 4 => ⟨S8192x128, .f32⟩
  | 5 => ⟨S8192x1x128, .f32⟩
  | 6 => ⟨S_, .f32⟩
  | 7 => ⟨S8192x4x128, .f32⟩
  | 8 => ⟨S8192x4x128, .f32⟩
  | 9 => ⟨S8192x128, .f32⟩
  | 10 => ⟨S8192x1x128, .f32⟩
  | 11 => ⟨S_, .f32⟩
  | 12 => ⟨S8192x4x128, .f32⟩
  | 13 => ⟨S8192x4x128, .f32⟩
  | 14 => ⟨S8192x128, .f32⟩
  | 15 => ⟨S8192x128, .f32⟩
  | 16 => ⟨S8192x128, .f32⟩
  | 17 => ⟨S_, .f32⟩
  | 18 => ⟨S8196x128, .f32⟩
  | 19 => ⟨S_, .f32⟩
  | 20 => ⟨S8196x128, .f32⟩
  | 21 => ⟨S8196x128, .f32⟩
  | 22 => ⟨S_, .f32⟩
  | 23 => ⟨S_, .f32⟩
  | 24 => ⟨S8196x128, .f32⟩
  | 25 => ⟨S4x128, .f32⟩
  | 26 => ⟨S8192x128, .f32⟩
  | 27 => ⟨S8192x1x128, .f32⟩
  | 28 => ⟨S_, .f32⟩
  | 29 => ⟨S8192x4x128, .f32⟩
  | 30 => ⟨S8192x4x128, .f32⟩
  | 31 => ⟨S8192x128, .f32⟩
  | 32 => ⟨S8192x1x128, .f32⟩
  | 33 => ⟨S_, .f32⟩
  | 34 => ⟨S8192x4x128, .f32⟩
  | 35 => ⟨S8192x4x128, .f32⟩
  | 36 => ⟨S8192x128, .f32⟩
  | 37 => ⟨S8192x128, .f32⟩
  | 38 => ⟨S8192x128, .f32⟩
  | 39 => ⟨S_, .f32⟩
  | 40 => ⟨S8194x128, .f32⟩
  | 41 => ⟨S_, .f32⟩
  | 42 => ⟨S8194x128, .f32⟩
  | 43 => ⟨S8194x128, .f32⟩
  | 44 => ⟨S_, .f32⟩
  | 45 => ⟨S_, .f32⟩
  | 46 => ⟨S8194x128, .f32⟩
  | 47 => ⟨S2x128, .f32⟩
  | 48 => ⟨S8192x128, .f32⟩
  | 49 => ⟨S8192x1x128, .f32⟩
  | 50 => ⟨S_, .f32⟩
  | 51 => ⟨S8192x4x128, .f32⟩
  | 52 => ⟨S8192x4x128, .f32⟩
  | 53 => ⟨S8192x512, .f32⟩
  | 54 => ⟨S1x512, .f32⟩
  | 55 => ⟨S1x512, .f32⟩
  | 56 => ⟨S1x4x128x128, .f32⟩
  | 57 => ⟨S8192x512, .bf16⟩
  | 58 => ⟨S8192x512, .f32⟩
  | 59 => ⟨S4x512, .f32⟩
  | 60 => ⟨S512, .f32⟩
  | 61 => ⟨S_, .f32⟩
  | 62 => ⟨S3x512, .f32⟩
  | 63 => ⟨S8195x512, .f32⟩
  | 64 => ⟨S8192x512, .f32⟩
  | 65 => ⟨S1x512, .f32⟩
  | 66 => ⟨S512, .f32⟩
  | 67 => ⟨S1x512, .f32⟩
  | 68 => ⟨S8192x512, .f32⟩
  | 69 => ⟨S8192x512, .f32⟩
  | 70 => ⟨S1x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S1x512, .f32⟩
  | 84 => ⟨S8192x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S1x512, .f32⟩
  | 91 => ⟨S8192x512, .f32⟩
  | 92 => ⟨S8192x512, .f32⟩
  | 93 => ⟨S8192x512, .f32⟩
  | 94 => ⟨S8x64x64, .f32⟩
  | 95 => ⟨S512, .f32⟩
  | 96 => ⟨S8x64x64, .f32⟩
  | 97 => ⟨S512, .f32⟩
  | 98 => ⟨S512, .f32⟩
  | 99 => ⟨S8192x8x64, .f32⟩
  | 100 => ⟨S8x64x8192, .f32⟩
  | 101 => ⟨S8192x8x64, .f32⟩
  | 102 => ⟨S8192x512, .f32⟩
  | 103 => ⟨S1x512, .f32⟩
  | 104 => ⟨S8192x512, .f32⟩
  | 105 => ⟨S8192x512, .f32⟩
  | 106 => ⟨S8192x512, .f32⟩
  | 107 => ⟨S8192x512, .f32⟩
  | 108 => ⟨S_, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S8x64x8192, .f32⟩
  | 115 => ⟨S8192x8x64, .f32⟩
  | 116 => ⟨S8192x512, .f32⟩
  | 117 => ⟨S1x512, .f32⟩
  | 118 => ⟨S8192x512, .f32⟩
  | 119 => ⟨S8192x512, .f32⟩
  | 120 => ⟨S8192x512, .f32⟩
  | 121 => ⟨S8192x512, .f32⟩
  | 122 => ⟨S_, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S8192x1024, .f32⟩

abbrev hbmTy0_3 (i : Nat) : BufTy := match i % 128 with
  | 0 => ⟨S_, .f32⟩
  | 1 => ⟨S8192x512, .f32⟩
  | 2 => ⟨S8192x512, .f32⟩
  | 3 => ⟨S512, .f32⟩
  | 4 => ⟨S_, .f32⟩
  | 5 => ⟨S512, .f32⟩
  | 6 => ⟨S512, .f32⟩
  | 7 => ⟨S512, .f32⟩
  | 8 => ⟨S512, .f32⟩
  | 9 => ⟨S512, .i1⟩
  | 10 => ⟨S512, .f32⟩
  | 11 => ⟨S512, .f32⟩
  | 12 => ⟨S512, .f32⟩
  | 13 => ⟨S512, .f32⟩
  | 14 => ⟨S512, .f32⟩
  | 15 => ⟨S512, .f32⟩
  | 16 => ⟨S512, .f32⟩
  | 17 => ⟨S512, .f32⟩
  | 18 => ⟨S1x512, .f32⟩
  | 19 => ⟨S8192x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S2048x512, .f32⟩
  | 41 => ⟨S2048x512, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S1024x512, .f32⟩
  | 48 => ⟨S1024x512, .f32⟩
  | 49 => ⟨S1024x512, .f32⟩
  | 50 => ⟨S1024x512, .f32⟩
  | 51 => ⟨S1024x512, .f32⟩
  | 52 => ⟨S1024x512, .f32⟩
  | 53 => ⟨S1024x512, .f32⟩
  | 54 => ⟨S512x512, .f32⟩
  | 55 => ⟨S512x512, .f32⟩
  | 56 => ⟨S512x512, .f32⟩
  | 57 => ⟨S512x512, .f32⟩
  | 58 => ⟨S512x512, .f32⟩
  | 59 => ⟨S512x512, .f32⟩
  | 60 => ⟨S512x512, .f32⟩
  | 61 => ⟨S256x512, .f32⟩
  | 62 => ⟨S256x512, .f32⟩
  | 63 => ⟨S256x512, .f32⟩
  | 64 => ⟨S256x512, .f32⟩
  | 65 => ⟨S256x512, .f32⟩
  | 66 => ⟨S256x512, .f32⟩
  | 67 => ⟨S256x512, .f32⟩
  | 68 => ⟨S128x512, .f32⟩
  | 69 => ⟨S128x512, .f32⟩
  | 70 => ⟨S128x512, .f32⟩
  | 71 => ⟨S128x512, .f32⟩
  | 72 => ⟨S128x512, .f32⟩
  | 73 => ⟨S128x512, .f32⟩
  | 74 => ⟨S128x512, .f32⟩
  | 75 => ⟨S64x512, .f32⟩
  | 76 => ⟨S64x512, .f32⟩
  | 77 => ⟨S64x512, .f32⟩
  | 78 => ⟨S64x512, .f32⟩
  | 79 => ⟨S64x512, .f32⟩
  | 80 => ⟨S64x512, .f32⟩
  | 81 => ⟨S64x512, .f32⟩
  | 82 => ⟨S32x512, .f32⟩
  | 83 => ⟨S32x512, .f32⟩
  | 84 => ⟨S32x512, .f32⟩
  | 85 => ⟨S32x512, .f32⟩
  | 86 => ⟨S32x512, .f32⟩
  | 87 => ⟨S32x512, .f32⟩
  | 88 => ⟨S32x512, .f32⟩
  | 89 => ⟨S16x512, .f32⟩
  | 90 => ⟨S16x512, .f32⟩
  | 91 => ⟨S16x512, .f32⟩
  | 92 => ⟨S16x512, .f32⟩
  | 93 => ⟨S16x512, .f32⟩
  | 94 => ⟨S16x512, .f32⟩
  | 95 => ⟨S16x512, .f32⟩
  | 96 => ⟨S8x512, .f32⟩
  | 97 => ⟨S8x512, .f32⟩
  | 98 => ⟨S8x512, .f32⟩
  | 99 => ⟨S8x512, .f32⟩
  | 100 => ⟨S8x512, .f32⟩
  | 101 => ⟨S8x512, .f32⟩
  | 102 => ⟨S8x512, .f32⟩
  | 103 => ⟨S4x512, .f32⟩
  | 104 => ⟨S4x512, .f32⟩
  | 105 => ⟨S4x512, .f32⟩
  | 106 => ⟨S4x512, .f32⟩
  | 107 => ⟨S4x512, .f32⟩
  | 108 => ⟨S4x512, .f32⟩
  | 109 => ⟨S4x512, .f32⟩
  | 110 => ⟨S2x512, .f32⟩
  | 111 => ⟨S2x512, .f32⟩
  | 112 => ⟨S2x512, .f32⟩
  | 113 => ⟨S2x512, .f32⟩
  | 114 => ⟨S2x512, .f32⟩
  | 115 => ⟨S2x512, .f32⟩
  | 116 => ⟨S2x512, .f32⟩
  | 117 => ⟨S1x512, .f32⟩
  | 118 => ⟨S1x512, .f32⟩
  | 119 => ⟨S1x512, .f32⟩
  | 120 => ⟨S1x512, .f32⟩
  | 121 => ⟨S1x512, .f32⟩
  | 122 => ⟨S1x512, .f32⟩
  | 123 => ⟨S1x512, .f32⟩
  | 124 => ⟨S0x512, .f32⟩
  | 125 => ⟨S0x512, .f32⟩
  | 126 => ⟨S0x512, .f32⟩
  | 127 => ⟨S0x512, .f32⟩
  | _ => ⟨S8192x1024, .f32⟩

abbrev hbmTy0_4 (i : Nat) : BufTy := match i % 128 with
  | 0 => ⟨S0x512, .f32⟩
  | 1 => ⟨S0x512, .f32⟩
  | 2 => ⟨S0x512, .f32⟩
  | 3 => ⟨S1x512, .f32⟩
  | 4 => ⟨S1x512, .f32⟩
  | 5 => ⟨S1x512, .f32⟩
  | 6 => ⟨S1x512, .f32⟩
  | 7 => ⟨S_, .f32⟩
  | 8 => ⟨S2x512, .f32⟩
  | 9 => ⟨S_, .f32⟩
  | 10 => ⟨S2x512, .f32⟩
  | 11 => ⟨S2x512, .f32⟩
  | 12 => ⟨S_, .f32⟩
  | 13 => ⟨S2x512, .f32⟩
  | 14 => ⟨S_, .f32⟩
  | 15 => ⟨S2x512, .f32⟩
  | 16 => ⟨S2x512, .f32⟩
  | 17 => ⟨S1x512, .f32⟩
  | 18 => ⟨S1x512, .f32⟩
  | 19 => ⟨S1x512, .f32⟩
  | 20 => ⟨S1x512, .f32⟩
  | 21 => ⟨S1x512, .f32⟩
  | 22 => ⟨S1x512, .f32⟩
  | 23 => ⟨S1x512, .f32⟩
  | 24 => ⟨S1x512, .f32⟩
  | 25 => ⟨S2x512, .f32⟩
  | 26 => ⟨S1x512, .f32⟩
  | 27 => ⟨S2x512, .f32⟩
  | 28 => ⟨S_, .f32⟩
  | 29 => ⟨S4x512, .f32⟩
  | 30 => ⟨S_, .f32⟩
  | 31 => ⟨S4x512, .f32⟩
  | 32 => ⟨S4x512, .f32⟩
  | 33 => ⟨S_, .f32⟩
  | 34 => ⟨S4x512, .f32⟩
  | 35 => ⟨S_, .f32⟩
  | 36 => ⟨S4x512, .f32⟩
  | 37 => ⟨S4x512, .f32⟩
  | 38 => ⟨S3x512, .f32⟩
  | 39 => ⟨S3x512, .f32⟩
  | 40 => ⟨S3x512, .f32⟩
  | 41 => ⟨S3x512, .f32⟩
  | 42 => ⟨S3x512, .f32⟩
  | 43 => ⟨S3x512, .f32⟩
  | 44 => ⟨S3x512, .f32⟩
  | 45 => ⟨S1x512, .f32⟩
  | 46 => ⟨S4x512, .f32⟩
  | 47 => ⟨S1x512, .f32⟩
  | 48 => ⟨S4x512, .f32⟩
  | 49 => ⟨S_, .f32⟩
  | 50 => ⟨S8x512, .f32⟩
  | 51 => ⟨S_, .f32⟩
  | 52 => ⟨S8x512, .f32⟩
  | 53 => ⟨S8x512, .f32⟩
  | 54 => ⟨S_, .f32⟩
  | 55 => ⟨S8x512, .f32⟩
  | 56 => ⟨S_, .f32⟩
  | 57 => ⟨S8x512, .f32⟩
  | 58 => ⟨S8x512, .f32⟩
  | 59 => ⟨S7x512, .f32⟩
  | 60 => ⟨S7x512, .f32⟩
  | 61 => ⟨S7x512, .f32⟩
  | 62 => ⟨S7x512, .f32⟩
  | 63 => ⟨S7x512, .f32⟩
  | 64 => ⟨S7x512, .f32⟩
  | 65 => ⟨S7x512, .f32⟩
  | 66 => ⟨S1x512, .f32⟩
  | 67 => ⟨S8x512, .f32⟩
  | 68 => ⟨S1x512, .f32⟩
  | 69 => ⟨S8x512, .f32⟩
  | 70 => ⟨S_, .f32⟩
  | 71 => ⟨S16x512, .f32⟩
  | 72 => ⟨S_, .f32⟩
  | 73 => ⟨S16x512, .f32⟩
  | 74 => ⟨S16x512, .f32⟩
  | 75 => ⟨S_, .f32⟩
  | 76 => ⟨S16x512, .f32⟩
  | 77 => ⟨S_, .f32⟩
  | 78 => ⟨S16x512, .f32⟩
  | 79 => ⟨S16x512, .f32⟩
  | 80 => ⟨S15x512, .f32⟩
  | 81 => ⟨S15x512, .f32⟩
  | 82 => ⟨S15x512, .f32⟩
  | 83 => ⟨S15x512, .f32⟩
  | 84 => ⟨S15x512, .f32⟩
  | 85 => ⟨S15x512, .f32⟩
  | 86 => ⟨S15x512, .f32⟩
  | 87 => ⟨S1x512, .f32⟩
  | 88 => ⟨S16x512, .f32⟩
  | 89 => ⟨S1x512, .f32⟩
  | 90 => ⟨S16x512, .f32⟩
  | 91 => ⟨S_, .f32⟩
  | 92 => ⟨S32x512, .f32⟩
  | 93 => ⟨S_, .f32⟩
  | 94 => ⟨S32x512, .f32⟩
  | 95 => ⟨S32x512, .f32⟩
  | 96 => ⟨S_, .f32⟩
  | 97 => ⟨S32x512, .f32⟩
  | 98 => ⟨S_, .f32⟩
  | 99 => ⟨S32x512, .f32⟩
  | 100 => ⟨S32x512, .f32⟩
  | 101 => ⟨S31x512, .f32⟩
  | 102 => ⟨S31x512, .f32⟩
  | 103 => ⟨S31x512, .f32⟩
  | 104 => ⟨S31x512, .f32⟩
  | 105 => ⟨S31x512, .f32⟩
  | 106 => ⟨S31x512, .f32⟩
  | 107 => ⟨S31x512, .f32⟩
  | 108 => ⟨S1x512, .f32⟩
  | 109 => ⟨S32x512, .f32⟩
  | 110 => ⟨S1x512, .f32⟩
  | 111 => ⟨S32x512, .f32⟩
  | 112 => ⟨S_, .f32⟩
  | 113 => ⟨S64x512, .f32⟩
  | 114 => ⟨S_, .f32⟩
  | 115 => ⟨S64x512, .f32⟩
  | 116 => ⟨S64x512, .f32⟩
  | 117 => ⟨S_, .f32⟩
  | 118 => ⟨S64x512, .f32⟩
  | 119 => ⟨S_, .f32⟩
  | 120 => ⟨S64x512, .f32⟩
  | 121 => ⟨S64x512, .f32⟩
  | 122 => ⟨S63x512, .f32⟩
  | 123 => ⟨S63x512, .f32⟩
  | 124 => ⟨S63x512, .f32⟩
  | 125 => ⟨S63x512, .f32⟩
  | 126 => ⟨S63x512, .f32⟩
  | 127 => ⟨S63x512, .f32⟩
  | _ => ⟨S8192x1024, .f32⟩

abbrev hbmTy0_5 (i : Nat) : BufTy := match i % 128 with
  | 0 => ⟨S63x512, .f32⟩
  | 1 => ⟨S1x512, .f32⟩
  | 2 => ⟨S64x512, .f32⟩
  | 3 => ⟨S1x512, .f32⟩
  | 4 => ⟨S64x512, .f32⟩
  | 5 => ⟨S_, .f32⟩
  | 6 => ⟨S128x512, .f32⟩
  | 7 => ⟨S_, .f32⟩
  | 8 => ⟨S128x512, .f32⟩
  | 9 => ⟨S128x512, .f32⟩
  | 10 => ⟨S_, .f32⟩
  | 11 => ⟨S128x512, .f32⟩
  | 12 => ⟨S_, .f32⟩
  | 13 => ⟨S128x512, .f32⟩
  | 14 => ⟨S128x512, .f32⟩
  | 15 => ⟨S127x512, .f32⟩
  | 16 => ⟨S127x512, .f32⟩
  | 17 => ⟨S127x512, .f32⟩
  | 18 => ⟨S127x512, .f32⟩
  | 19 => ⟨S127x512, .f32⟩
  | 20 => ⟨S127x512, .f32⟩
  | 21 => ⟨S127x512, .f32⟩
  | 22 => ⟨S1x512, .f32⟩
  | 23 => ⟨S128x512, .f32⟩
  | 24 => ⟨S1x512, .f32⟩
  | 25 => ⟨S128x512, .f32⟩
  | 26 => ⟨S_, .f32⟩
  | 27 => ⟨S256x512, .f32⟩
  | 28 => ⟨S_, .f32⟩
  | 29 => ⟨S256x512, .f32⟩
  | 30 => ⟨S256x512, .f32⟩
  | 31 => ⟨S_, .f32⟩
  | 32 => ⟨S256x512, .f32⟩
  | 33 => ⟨S_, .f32⟩
  | 34 => ⟨S256x512, .f32⟩
  | 35 => ⟨S256x512, .f32⟩
  | 36 => ⟨S255x512, .f32⟩
  | 37 => ⟨S255x512, .f32⟩
  | 38 => ⟨S255x512, .f32⟩
  | 39 => ⟨S255x512, .f32⟩
  | 40 => ⟨S255x512, .f32⟩
  | 41 => ⟨S255x512, .f32⟩
  | 42 => ⟨S255x512, .f32⟩
  | 43 => ⟨S1x512, .f32⟩
  | 44 => ⟨S256x512, .f32⟩
  | 45 => ⟨S1x512, .f32⟩
  | 46 => ⟨S256x512, .f32⟩
  | 47 => ⟨S_, .f32⟩
  | 48 => ⟨S512x512, .f32⟩
  | 49 => ⟨S_, .f32⟩
  | 50 => ⟨S512x512, .f32⟩
  | 51 => ⟨S512x512, .f32⟩
  | 52 => ⟨S_, .f32⟩
  | 53 => ⟨S512x512, .f32⟩
  | 54 => ⟨S_, .f32⟩
  | 55 => ⟨S512x512, .f32⟩
  | 56 => ⟨S512x512, .f32⟩
  | 57 => ⟨S511x512, .f32⟩
  | 58 => ⟨S511x512, .f32⟩
  | 59 => ⟨S511x512, .f32⟩
  | 60 => ⟨S511x512, .f32⟩
  | 61 => ⟨S511x512, .f32⟩
  | 62 => ⟨S511x512, .f32⟩
  | 63 => ⟨S511x512, .f32⟩
  | 64 => ⟨S1x512, .f32⟩
  | 65 => ⟨S512x512, .f32⟩
  | 66 => ⟨S1x512, .f32⟩
  | 67 => ⟨S512x512, .f32⟩
  | 68 => ⟨S_, .f32⟩
  | 69 => ⟨S1024x512, .f32⟩
  | 70 => ⟨S_, .f32⟩
  | 71 => ⟨S1024x512, .f32⟩
  | 72 => ⟨S1024x512, .f32⟩
  | 73 => ⟨S_, .f32⟩
  | 74 => ⟨S1024x512, .f32⟩
  | 75 => ⟨S_, .f32⟩
  | 76 => ⟨S1024x512, .f32⟩
  | 77 => ⟨S1024x512, .f32⟩
  | 78 => ⟨S1023x512, .f32⟩
  | 79 => ⟨S1023x512, .f32⟩
  | 80 => ⟨S1023x512, .f32⟩
  | 81 => ⟨S1023x512, .f32⟩
  | 82 => ⟨S1023x512, .f32⟩
  | 83 => ⟨S1023x512, .f32⟩
  | 84 => ⟨S1023x512, .f32⟩
  | 85 => ⟨S1x512, .f32⟩
  | 86 => ⟨S1024x512, .f32⟩
  | 87 => ⟨S1x512, .f32⟩
  | 88 => ⟨S1024x512, .f32⟩
  | 89 => ⟨S_, .f32⟩
  | 90 => ⟨S2048x512, .f32⟩
  | 91 => ⟨S_, .f32⟩
  | 92 => ⟨S2048x512, .f32⟩
  | 93 => ⟨S2048x512, .f32⟩
  | 94 => ⟨S_, .f32⟩
  | 95 => ⟨S2048x512, .f32⟩
  | 96 => ⟨S_, .f32⟩
  | 97 => ⟨S2048x512, .f32⟩
  | 98 => ⟨S2048x512, .f32⟩
  | 99 => ⟨S2047x512, .f32⟩
  | 100 => ⟨S2047x512, .f32⟩
  | 101 => ⟨S2047x512, .f32⟩
  | 102 => ⟨S2047x512, .f32⟩
  | 103 => ⟨S2047x512, .f32⟩
  | 104 => ⟨S2047x512, .f32⟩
  | 105 => ⟨S2047x512, .f32⟩
  | 106 => ⟨S1x512, .f32⟩
  | 107 => ⟨S2048x512, .f32⟩
  | 108 => ⟨S1x512, .f32⟩
  | 109 => ⟨S2048x512, .f32⟩
  | 110 => ⟨S_, .f32⟩
  | 111 => ⟨S4096x512, .f32⟩
  | 112 => ⟨S_, .f32⟩
  | 113 => ⟨S4096x512, .f32⟩
  | 114 => ⟨S4096x512, .f32⟩
  | 115 => ⟨S_, .f32⟩
  | 116 => ⟨S4096x512, .f32⟩
  | 117 => ⟨S_, .f32⟩
  | 118 => ⟨S4096x512, .f32⟩
  | 119 => ⟨S4096x512, .f32⟩
  | 120 => ⟨S4095x512, .f32⟩
  | 121 => ⟨S4095x512, .f32⟩
  | 122 => ⟨S4095x512, .f32⟩
  | 123 => ⟨S4095x512, .f32⟩
  | 124 => ⟨S4095x512, .f32⟩
  | 125 => ⟨S4095x512, .f32⟩
  | 126 => ⟨S4095x512, .f32⟩
  | 127 => ⟨S1x512, .f32⟩
  | _ => ⟨S8192x1024, .f32⟩

abbrev hbmTy0_6 (i : Nat) : BufTy := match i % 128 with
  | 0 => ⟨S4096x512, .f32⟩
  | 1 => ⟨S1x512, .f32⟩
  | 2 => ⟨S4096x512, .f32⟩
  | 3 => ⟨S_, .f32⟩
  | 4 => ⟨S8192x512, .f32⟩
  | 5 => ⟨S_, .f32⟩
  | 6 => ⟨S8192x512, .f32⟩
  | 7 => ⟨S8192x512, .f32⟩
  | 8 => ⟨S_, .f32⟩
  | 9 => ⟨S8192x512, .f32⟩
  | 10 => ⟨S_, .f32⟩
  | 11 => ⟨S8192x512, .f32⟩
  | 12 => ⟨S8192x512, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_call0_call0_cst : Ref sig .tc := ⟨.hbm, 29, rfl⟩
abbrev main_call0_call0_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_call1_call0_cst : Ref sig .tc := ⟨.hbm, 56, rfl⟩
abbrev main_call1_call0_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_4 : Ref sig .tc := ⟨.hbm, 63, rfl⟩
abbrev main_v36 : Ref sig .tc := ⟨.hbm, 64, rfl⟩
abbrev main_v37 : Ref sig .tc := ⟨.hbm, 65, rfl⟩
abbrev main_c_5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_call2_call0_cst : Ref sig .tc := ⟨.hbm, 83, rfl⟩
abbrev main_call2_call0_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_8 : Ref sig .tc := ⟨.hbm, 90, rfl⟩
abbrev main_v57 : Ref sig .tc := ⟨.hbm, 91, rfl⟩
abbrev main_v58 : Ref sig .tc := ⟨.hbm, 92, rfl⟩
abbrev main_c_9 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_10 : Ref sig .tc := ⟨.hbm, 105, rfl⟩
abbrev main_v70 : Ref sig .tc := ⟨.hbm, 106, rfl⟩
abbrev main_v71 : Ref sig .tc := ⟨.hbm, 107, rfl⟩
abbrev main_cst_11 : Ref sig .tc := ⟨.hbm, 108, rfl⟩
abbrev main_v72 : Ref sig .tc := ⟨.hbm, 109, rfl⟩
abbrev main_call3_call0_cst : Ref sig .tc := ⟨.hbm, 110, rfl⟩
abbrev main_call3_call0_v0 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_12 : Ref sig .tc := ⟨.hbm, 117, rfl⟩
abbrev main_v78 : Ref sig .tc := ⟨.hbm, 118, rfl⟩
abbrev main_v79 : Ref sig .tc := ⟨.hbm, 119, rfl⟩
abbrev main_c_13 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_14 : Ref sig .tc := ⟨.hbm, 146, rfl⟩
abbrev main_v105 : Ref sig .tc := ⟨.hbm, 147, rfl⟩
abbrev main_v106 : Ref sig .tc := ⟨.hbm, 148, rfl⟩
abbrev main_cst_15 : Ref sig .tc := ⟨.hbm, 149, rfl⟩
abbrev main_v107 : Ref sig .tc := ⟨.hbm, 150, rfl⟩
abbrev main_v108 : Ref sig .tc := ⟨.hbm, 151, rfl⟩
abbrev main_cst_16 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_17 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_18 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_19 : Ref sig .tc := ⟨.hbm, 175, rfl⟩
abbrev main_v129 : Ref sig .tc := ⟨.hbm, 176, rfl⟩
abbrev main_v130 : Ref sig .tc := ⟨.hbm, 177, rfl⟩
abbrev main_cst_20 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_21 : Ref sig .tc := ⟨.hbm, 184, rfl⟩
abbrev main_v136 : Ref sig .tc := ⟨.hbm, 185, rfl⟩
abbrev main_v137 : Ref sig .tc := ⟨.hbm, 186, rfl⟩
abbrev main_cst_22 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_23 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_24 : Ref sig .tc := ⟨.hbm, 201, rfl⟩
abbrev main_v150 : Ref sig .tc := ⟨.hbm, 202, rfl⟩
abbrev main_cst_25 : Ref sig .tc := ⟨.hbm, 203, rfl⟩
abbrev main_v151 : Ref sig .tc := ⟨.hbm, 204, rfl⟩
abbrev main_v152 : Ref sig .tc := ⟨.hbm, 205, rfl⟩
abbrev main_cst_26 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_cst_27 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_28 : Ref sig .tc := ⟨.hbm, 229, rfl⟩
abbrev main_v174 : Ref sig .tc := ⟨.hbm, 230, rfl⟩
abbrev main_cst_29 : Ref sig .tc := ⟨.hbm, 231, rfl⟩
abbrev main_v175 : Ref sig .tc := ⟨.hbm, 232, rfl⟩
abbrev main_v176 : Ref sig .tc := ⟨.hbm, 233, rfl⟩
abbrev main_call4_call0_cst : Ref sig .tc := ⟨.hbm, 234, rfl⟩
abbrev main_call4_call0_v0 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_cst_30 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_31 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_32 : Ref sig .tc := ⟨.hbm, 251, rfl⟩
abbrev main_v190 : Ref sig .tc := ⟨.hbm, 252, rfl⟩
abbrev main_cst_33 : Ref sig .tc := ⟨.hbm, 253, rfl⟩
abbrev main_v191 : Ref sig .tc := ⟨.hbm, 254, rfl⟩
abbrev main_v192 : Ref sig .tc := ⟨.hbm, 255, rfl⟩
abbrev main_call5_call0_cst : Ref sig .tc := ⟨.hbm, 256, rfl⟩
abbrev main_call5_call0_v0 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_cst_34 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_cst_35 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_cst_36 : Ref sig .tc := ⟨.hbm, 273, rfl⟩
abbrev main_v206 : Ref sig .tc := ⟨.hbm, 274, rfl⟩
abbrev main_cst_37 : Ref sig .tc := ⟨.hbm, 275, rfl⟩
abbrev main_v207 : Ref sig .tc := ⟨.hbm, 276, rfl⟩
abbrev main_v208 : Ref sig .tc := ⟨.hbm, 277, rfl⟩
abbrev main_call6_call0_cst : Ref sig .tc := ⟨.hbm, 278, rfl⟩
abbrev main_call6_call0_v0 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_cst_38 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_cst_39 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_cst_40 : Ref sig .tc := ⟨.hbm, 295, rfl⟩
abbrev main_v222 : Ref sig .tc := ⟨.hbm, 296, rfl⟩
abbrev main_cst_41 : Ref sig .tc := ⟨.hbm, 297, rfl⟩
abbrev main_v223 : Ref sig .tc := ⟨.hbm, 298, rfl⟩
abbrev main_v224 : Ref sig .tc := ⟨.hbm, 299, rfl⟩
abbrev main_call7_call0_cst : Ref sig .tc := ⟨.hbm, 300, rfl⟩
abbrev main_call7_call0_v0 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_cst_42 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_cst_43 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_v282 : Ref sig .tc := ⟨.hbm, 361, rfl⟩
abbrev main_v283 : Ref sig .tc := ⟨.hbm, 362, rfl⟩
abbrev main_v284 : Ref sig .tc := ⟨.hbm, 363, rfl⟩
abbrev main_cst_44 : Ref sig .tc := ⟨.hbm, 364, rfl⟩
abbrev main_v285 : Ref sig .tc := ⟨.hbm, 365, rfl⟩
abbrev main_v286 : Ref sig .tc := ⟨.hbm, 366, rfl⟩
abbrev main_cst_45 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_cst_46 : Ref sig .tc := ⟨.hbm, 378, rfl⟩
abbrev main_v297 : Ref sig .tc := ⟨.hbm, 379, rfl⟩
abbrev main_v298 : Ref sig .tc := ⟨.hbm, 380, rfl⟩
abbrev main_cst_47 : Ref sig .tc := ⟨.hbm, 381, rfl⟩
abbrev main_v299 : Ref sig .tc := ⟨.hbm, 382, rfl⟩
abbrev main_v300 : Ref sig .tc := ⟨.hbm, 383, rfl⟩
abbrev main_cst_48 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_call8_cst : Ref sig .tc := ⟨.hbm, 388, rfl⟩
abbrev main_call8_v0 : Ref sig .tc := ⟨.hbm, 389, rfl⟩
abbrev main_call8_v1 : Ref sig .tc := ⟨.hbm, 390, rfl⟩
abbrev main_call8_v2 : Ref sig .tc := ⟨.hbm, 391, rfl⟩
abbrev main_call8_v3 : Ref sig .tc := ⟨.hbm, 392, rfl⟩
abbrev main_call8_v4 : Ref sig .tc := ⟨.hbm, 393, rfl⟩
abbrev main_call8_v5 : Ref sig .tc := ⟨.hbm, 394, rfl⟩
abbrev main_call8_v6 : Ref sig .tc := ⟨.hbm, 395, rfl⟩
abbrev main_call8_v7 : Ref sig .tc := ⟨.hbm, 396, rfl⟩
abbrev main_call8_v8 : Ref sig .tc := ⟨.hbm, 397, rfl⟩
abbrev main_call8_v9 : Ref sig .tc := ⟨.hbm, 398, rfl⟩
abbrev main_call8_v10 : Ref sig .tc := ⟨.hbm, 399, rfl⟩
abbrev main_call8_v11 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_v308 : Ref sig .tc := ⟨.hbm, 405, rfl⟩
abbrev main_cst_49 : Ref sig .tc := ⟨.hbm, 406, rfl⟩
abbrev main_v309 : Ref sig .tc := ⟨.hbm, 407, rfl⟩
abbrev main_v310 : Ref sig .tc := ⟨.hbm, 408, rfl⟩
abbrev main_v311 : Ref sig .tc := ⟨.hbm, 409, rfl⟩
abbrev main_v312 : Ref sig .tc := ⟨.hbm, 410, rfl⟩
abbrev main_cst_50 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_v316 : Ref sig .tc := ⟨.hbm, 415, rfl⟩
abbrev main_v317 : Ref sig .tc := ⟨.hbm, 416, rfl⟩
abbrev main_v318 : Ref sig .tc := ⟨.hbm, 417, rfl⟩
abbrev main_v319 : Ref sig .tc := ⟨.hbm, 418, rfl⟩
abbrev main_v320 : Ref sig .tc := ⟨.hbm, 419, rfl⟩
abbrev main_v321 : Ref sig .tc := ⟨.hbm, 420, rfl⟩
abbrev main_v322 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_v326 : Ref sig .tc := ⟨.hbm, 425, rfl⟩
abbrev main_v327 : Ref sig .tc := ⟨.hbm, 426, rfl⟩
abbrev main_v328 : Ref sig .tc := ⟨.hbm, 427, rfl⟩
abbrev main_v329 : Ref sig .tc := ⟨.hbm, 428, rfl⟩
abbrev main_v330 : Ref sig .tc := ⟨.hbm, 429, rfl⟩
abbrev main_v331 : Ref sig .tc := ⟨.hbm, 430, rfl⟩
abbrev main_v332 : Ref sig .tc := ⟨.hbm, 431, rfl⟩
abbrev main_v333 : Ref sig .tc := ⟨.hbm, 432, rfl⟩
abbrev main_v334 : Ref sig .tc := ⟨.hbm, 433, rfl⟩
abbrev main_v335 : Ref sig .tc := ⟨.hbm, 434, rfl⟩
abbrev main_v336 : Ref sig .tc := ⟨.hbm, 435, rfl⟩
abbrev main_v337 : Ref sig .tc := ⟨.hbm, 436, rfl⟩
abbrev main_v338 : Ref sig .tc := ⟨.hbm, 437, rfl⟩
abbrev main_v339 : Ref sig .tc := ⟨.hbm, 438, rfl⟩
abbrev main_v340 : Ref sig .tc := ⟨.hbm, 439, rfl⟩
abbrev main_v341 : Ref sig .tc := ⟨.hbm, 440, rfl⟩
abbrev main_v342 : Ref sig .tc := ⟨.hbm, 441, rfl⟩
abbrev main_v343 : Ref sig .tc := ⟨.hbm, 442, rfl⟩
abbrev main_v344 : Ref sig .tc := ⟨.hbm, 443, rfl⟩
abbrev main_v345 : Ref sig .tc := ⟨.hbm, 444, rfl⟩
abbrev main_v346 : Ref sig .tc := ⟨.hbm, 445, rfl⟩
abbrev main_v347 : Ref sig .tc := ⟨.hbm, 446, rfl⟩
abbrev main_v348 : Ref sig .tc := ⟨.hbm, 447, rfl⟩
abbrev main_v349 : Ref sig .tc := ⟨.hbm, 448, rfl⟩
abbrev main_v350 : Ref sig .tc := ⟨.hbm, 449, rfl⟩
abbrev main_v351 : Ref sig .tc := ⟨.hbm, 450, rfl⟩
abbrev main_v352 : Ref sig .tc := ⟨.hbm, 451, rfl⟩
abbrev main_v353 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_v357 : Ref sig .tc := ⟨.hbm, 456, rfl⟩
abbrev main_v358 : Ref sig .tc := ⟨.hbm, 457, rfl⟩
abbrev main_v359 : Ref sig .tc := ⟨.hbm, 458, rfl⟩
abbrev main_v360 : Ref sig .tc := ⟨.hbm, 459, rfl⟩
abbrev main_v361 : Ref sig .tc := ⟨.hbm, 460, rfl⟩
abbrev main_v362 : Ref sig .tc := ⟨.hbm, 461, rfl⟩
abbrev main_v363 : Ref sig .tc := ⟨.hbm, 462, rfl⟩
abbrev main_v364 : Ref sig .tc := ⟨.hbm, 463, rfl⟩
abbrev main_v365 : Ref sig .tc := ⟨.hbm, 464, rfl⟩
abbrev main_v366 : Ref sig .tc := ⟨.hbm, 465, rfl⟩
abbrev main_v367 : Ref sig .tc := ⟨.hbm, 466, rfl⟩
abbrev main_v368 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev main_v374 : Ref sig .tc := ⟨.hbm, 473, rfl⟩
abbrev main_v375 : Ref sig .tc := ⟨.hbm, 474, rfl⟩
abbrev main_v376 : Ref sig .tc := ⟨.hbm, 475, rfl⟩
abbrev main_v377 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_v388 : Ref sig .tc := ⟨.hbm, 487, rfl⟩
abbrev main_v389 : Ref sig .tc := ⟨.hbm, 488, rfl⟩
abbrev main_v390 : Ref sig .tc := ⟨.hbm, 489, rfl⟩
abbrev main_v391 : Ref sig .tc := ⟨.hbm, 490, rfl⟩
abbrev main_v392 : Ref sig .tc := ⟨.hbm, 491, rfl⟩
abbrev main_v393 : Ref sig .tc := ⟨.hbm, 492, rfl⟩
abbrev main_v394 : Ref sig .tc := ⟨.hbm, 493, rfl⟩
abbrev main_v395 : Ref sig .tc := ⟨.hbm, 494, rfl⟩
abbrev main_v396 : Ref sig .tc := ⟨.hbm, 495, rfl⟩
abbrev main_v397 : Ref sig .tc := ⟨.hbm, 496, rfl⟩
abbrev main_v398 : Ref sig .tc := ⟨.hbm, 497, rfl⟩
abbrev main_v399 : Ref sig .tc := ⟨.hbm, 498, rfl⟩
abbrev main_v400 : Ref sig .tc := ⟨.hbm, 499, rfl⟩
abbrev main_v401 : Ref sig .tc := ⟨.hbm, 500, rfl⟩
abbrev main_v402 : Ref sig .tc := ⟨.hbm, 501, rfl⟩
abbrev main_v403 : Ref sig .tc := ⟨.hbm, 502, rfl⟩
abbrev main_v404 : Ref sig .tc := ⟨.hbm, 503, rfl⟩
abbrev main_v405 : Ref sig .tc := ⟨.hbm, 504, rfl⟩
abbrev main_v406 : Ref sig .tc := ⟨.hbm, 505, rfl⟩
abbrev main_v407 : Ref sig .tc := ⟨.hbm, 506, rfl⟩
abbrev main_v408 : Ref sig .tc := ⟨.hbm, 507, rfl⟩
abbrev main_v409 : Ref sig .tc := ⟨.hbm, 508, rfl⟩
abbrev main_v410 : Ref sig .tc := ⟨.hbm, 509, rfl⟩
abbrev main_v411 : Ref sig .tc := ⟨.hbm, 510, rfl⟩
abbrev main_v412 : Ref sig .tc := ⟨.hbm, 511, rfl⟩
abbrev main_v413 : Ref sig .tc := ⟨.hbm, 512, rfl⟩
abbrev main_v414 : Ref sig .tc := ⟨.hbm, 513, rfl⟩
abbrev main_v415 : Ref sig .tc := ⟨.hbm, 514, rfl⟩
abbrev main_v416 : Ref sig .tc := ⟨.hbm, 515, rfl⟩
abbrev main_v417 : Ref sig .tc := ⟨.hbm, 516, rfl⟩
abbrev main_v418 : Ref sig .tc := ⟨.hbm, 517, rfl⟩
abbrev main_v419 : Ref sig .tc := ⟨.hbm, 518, rfl⟩
abbrev main_cst_51 : Ref sig .tc := ⟨.hbm, 519, rfl⟩
abbrev main_v420 : Ref sig .tc := ⟨.hbm, 520, rfl⟩
abbrev main_cst_52 : Ref sig .tc := ⟨.hbm, 521, rfl⟩
abbrev main_v421 : Ref sig .tc := ⟨.hbm, 522, rfl⟩
abbrev main_v422 : Ref sig .tc := ⟨.hbm, 523, rfl⟩
abbrev main_cst_53 : Ref sig .tc := ⟨.hbm, 524, rfl⟩
abbrev main_v423 : Ref sig .tc := ⟨.hbm, 525, rfl⟩
abbrev main_cst_54 : Ref sig .tc := ⟨.hbm, 526, rfl⟩
abbrev main_v424 : Ref sig .tc := ⟨.hbm, 527, rfl⟩
abbrev main_v425 : Ref sig .tc := ⟨.hbm, 528, rfl⟩
abbrev main_v426 : Ref sig .tc := ⟨.hbm, 529, rfl⟩
abbrev main_v427 : Ref sig .tc := ⟨.hbm, 530, rfl⟩
abbrev main_v428 : Ref sig .tc := ⟨.hbm, 531, rfl⟩
abbrev main_v429 : Ref sig .tc := ⟨.hbm, 532, rfl⟩
abbrev main_v430 : Ref sig .tc := ⟨.hbm, 533, rfl⟩
abbrev main_v431 : Ref sig .tc := ⟨.hbm, 534, rfl⟩
abbrev main_v432 : Ref sig .tc := ⟨.hbm, 535, rfl⟩
abbrev main_v433 : Ref sig .tc := ⟨.hbm, 536, rfl⟩
abbrev main_v434 : Ref sig .tc := ⟨.hbm, 537, rfl⟩
abbrev main_v435 : Ref sig .tc := ⟨.hbm, 538, rfl⟩
abbrev main_v436 : Ref sig .tc := ⟨.hbm, 539, rfl⟩
abbrev main_cst_55 : Ref sig .tc := ⟨.hbm, 540, rfl⟩
abbrev main_v437 : Ref sig .tc := ⟨.hbm, 541, rfl⟩
abbrev main_cst_56 : Ref sig .tc := ⟨.hbm, 542, rfl⟩
abbrev main_v438 : Ref sig .tc := ⟨.hbm, 543, rfl⟩
abbrev main_v439 : Ref sig .tc := ⟨.hbm, 544, rfl⟩
abbrev main_cst_57 : Ref sig .tc := ⟨.hbm, 545, rfl⟩
abbrev main_v440 : Ref sig .tc := ⟨.hbm, 546, rfl⟩
abbrev main_cst_58 : Ref sig .tc := ⟨.hbm, 547, rfl⟩
abbrev main_v441 : Ref sig .tc := ⟨.hbm, 548, rfl⟩
abbrev main_v442 : Ref sig .tc := ⟨.hbm, 549, rfl⟩
abbrev main_v443 : Ref sig .tc := ⟨.hbm, 550, rfl⟩
abbrev main_v444 : Ref sig .tc := ⟨.hbm, 551, rfl⟩
abbrev main_v445 : Ref sig .tc := ⟨.hbm, 552, rfl⟩
abbrev main_v446 : Ref sig .tc := ⟨.hbm, 553, rfl⟩
abbrev main_v447 : Ref sig .tc := ⟨.hbm, 554, rfl⟩
abbrev main_v448 : Ref sig .tc := ⟨.hbm, 555, rfl⟩
abbrev main_v449 : Ref sig .tc := ⟨.hbm, 556, rfl⟩
abbrev main_v450 : Ref sig .tc := ⟨.hbm, 557, rfl⟩
abbrev main_v451 : Ref sig .tc := ⟨.hbm, 558, rfl⟩
abbrev main_v452 : Ref sig .tc := ⟨.hbm, 559, rfl⟩
abbrev main_v453 : Ref sig .tc := ⟨.hbm, 560, rfl⟩
abbrev main_cst_59 : Ref sig .tc := ⟨.hbm, 561, rfl⟩
abbrev main_v454 : Ref sig .tc := ⟨.hbm, 562, rfl⟩
abbrev main_cst_60 : Ref sig .tc := ⟨.hbm, 563, rfl⟩
abbrev main_v455 : Ref sig .tc := ⟨.hbm, 564, rfl⟩
abbrev main_v456 : Ref sig .tc := ⟨.hbm, 565, rfl⟩
abbrev main_cst_61 : Ref sig .tc := ⟨.hbm, 566, rfl⟩
abbrev main_v457 : Ref sig .tc := ⟨.hbm, 567, rfl⟩
abbrev main_cst_62 : Ref sig .tc := ⟨.hbm, 568, rfl⟩
abbrev main_v458 : Ref sig .tc := ⟨.hbm, 569, rfl⟩
abbrev main_v459 : Ref sig .tc := ⟨.hbm, 570, rfl⟩
abbrev main_v460 : Ref sig .tc := ⟨.hbm, 571, rfl⟩
abbrev main_v461 : Ref sig .tc := ⟨.hbm, 572, rfl⟩
abbrev main_v462 : Ref sig .tc := ⟨.hbm, 573, rfl⟩
abbrev main_v463 : Ref sig .tc := ⟨.hbm, 574, rfl⟩
abbrev main_v464 : Ref sig .tc := ⟨.hbm, 575, rfl⟩
abbrev main_v465 : Ref sig .tc := ⟨.hbm, 576, rfl⟩
abbrev main_v466 : Ref sig .tc := ⟨.hbm, 577, rfl⟩
abbrev main_v467 : Ref sig .tc := ⟨.hbm, 578, rfl⟩
abbrev main_v468 : Ref sig .tc := ⟨.hbm, 579, rfl⟩
abbrev main_v469 : Ref sig .tc := ⟨.hbm, 580, rfl⟩
abbrev main_v470 : Ref sig .tc := ⟨.hbm, 581, rfl⟩
abbrev main_cst_63 : Ref sig .tc := ⟨.hbm, 582, rfl⟩
abbrev main_v471 : Ref sig .tc := ⟨.hbm, 583, rfl⟩
abbrev main_cst_64 : Ref sig .tc := ⟨.hbm, 584, rfl⟩
abbrev main_v472 : Ref sig .tc := ⟨.hbm, 585, rfl⟩
abbrev main_v473 : Ref sig .tc := ⟨.hbm, 586, rfl⟩
abbrev main_cst_65 : Ref sig .tc := ⟨.hbm, 587, rfl⟩
abbrev main_v474 : Ref sig .tc := ⟨.hbm, 588, rfl⟩
abbrev main_cst_66 : Ref sig .tc := ⟨.hbm, 589, rfl⟩
abbrev main_v475 : Ref sig .tc := ⟨.hbm, 590, rfl⟩
abbrev main_v476 : Ref sig .tc := ⟨.hbm, 591, rfl⟩
abbrev main_v477 : Ref sig .tc := ⟨.hbm, 592, rfl⟩
abbrev main_v478 : Ref sig .tc := ⟨.hbm, 593, rfl⟩
abbrev main_v479 : Ref sig .tc := ⟨.hbm, 594, rfl⟩
abbrev main_v480 : Ref sig .tc := ⟨.hbm, 595, rfl⟩
abbrev main_v481 : Ref sig .tc := ⟨.hbm, 596, rfl⟩
abbrev main_v482 : Ref sig .tc := ⟨.hbm, 597, rfl⟩
abbrev main_v483 : Ref sig .tc := ⟨.hbm, 598, rfl⟩
abbrev main_v484 : Ref sig .tc := ⟨.hbm, 599, rfl⟩
abbrev main_v485 : Ref sig .tc := ⟨.hbm, 600, rfl⟩
abbrev main_v486 : Ref sig .tc := ⟨.hbm, 601, rfl⟩
abbrev main_v487 : Ref sig .tc := ⟨.hbm, 602, rfl⟩
abbrev main_cst_67 : Ref sig .tc := ⟨.hbm, 603, rfl⟩
abbrev main_v488 : Ref sig .tc := ⟨.hbm, 604, rfl⟩
abbrev main_cst_68 : Ref sig .tc := ⟨.hbm, 605, rfl⟩
abbrev main_v489 : Ref sig .tc := ⟨.hbm, 606, rfl⟩
abbrev main_v490 : Ref sig .tc := ⟨.hbm, 607, rfl⟩
abbrev main_cst_69 : Ref sig .tc := ⟨.hbm, 608, rfl⟩
abbrev main_v491 : Ref sig .tc := ⟨.hbm, 609, rfl⟩
abbrev main_cst_70 : Ref sig .tc := ⟨.hbm, 610, rfl⟩
abbrev main_v492 : Ref sig .tc := ⟨.hbm, 611, rfl⟩
abbrev main_v493 : Ref sig .tc := ⟨.hbm, 612, rfl⟩
abbrev main_v494 : Ref sig .tc := ⟨.hbm, 613, rfl⟩
abbrev main_v495 : Ref sig .tc := ⟨.hbm, 614, rfl⟩
abbrev main_v496 : Ref sig .tc := ⟨.hbm, 615, rfl⟩
abbrev main_v497 : Ref sig .tc := ⟨.hbm, 616, rfl⟩
abbrev main_v498 : Ref sig .tc := ⟨.hbm, 617, rfl⟩
abbrev main_v499 : Ref sig .tc := ⟨.hbm, 618, rfl⟩
abbrev main_v500 : Ref sig .tc := ⟨.hbm, 619, rfl⟩
abbrev main_v501 : Ref sig .tc := ⟨.hbm, 620, rfl⟩
abbrev main_v502 : Ref sig .tc := ⟨.hbm, 621, rfl⟩
abbrev main_v503 : Ref sig .tc := ⟨.hbm, 622, rfl⟩
abbrev main_v504 : Ref sig .tc := ⟨.hbm, 623, rfl⟩
abbrev main_cst_71 : Ref sig .tc := ⟨.hbm, 624, rfl⟩
abbrev main_v505 : Ref sig .tc := ⟨.hbm, 625, rfl⟩
abbrev main_cst_72 : Ref sig .tc := ⟨.hbm, 626, rfl⟩
abbrev main_v506 : Ref sig .tc := ⟨.hbm, 627, rfl⟩
abbrev main_v507 : Ref sig .tc := ⟨.hbm, 628, rfl⟩
abbrev main_cst_73 : Ref sig .tc := ⟨.hbm, 629, rfl⟩
abbrev main_v508 : Ref sig .tc := ⟨.hbm, 630, rfl⟩
abbrev main_cst_74 : Ref sig .tc := ⟨.hbm, 631, rfl⟩
abbrev main_v509 : Ref sig .tc := ⟨.hbm, 632, rfl⟩
abbrev main_v510 : Ref sig .tc := ⟨.hbm, 633, rfl⟩
abbrev main_v511 : Ref sig .tc := ⟨.hbm, 634, rfl⟩
abbrev main_v512 : Ref sig .tc := ⟨.hbm, 635, rfl⟩
abbrev main_v513 : Ref sig .tc := ⟨.hbm, 636, rfl⟩
abbrev main_v514 : Ref sig .tc := ⟨.hbm, 637, rfl⟩
abbrev main_v515 : Ref sig .tc := ⟨.hbm, 638, rfl⟩
abbrev main_v516 : Ref sig .tc := ⟨.hbm, 639, rfl⟩
abbrev main_v517 : Ref sig .tc := ⟨.hbm, 640, rfl⟩
abbrev main_v518 : Ref sig .tc := ⟨.hbm, 641, rfl⟩
abbrev main_v519 : Ref sig .tc := ⟨.hbm, 642, rfl⟩
abbrev main_v520 : Ref sig .tc := ⟨.hbm, 643, rfl⟩
abbrev main_v521 : Ref sig .tc := ⟨.hbm, 644, rfl⟩
abbrev main_cst_75 : Ref sig .tc := ⟨.hbm, 645, rfl⟩
abbrev main_v522 : Ref sig .tc := ⟨.hbm, 646, rfl⟩
abbrev main_cst_76 : Ref sig .tc := ⟨.hbm, 647, rfl⟩
abbrev main_v523 : Ref sig .tc := ⟨.hbm, 648, rfl⟩
abbrev main_v524 : Ref sig .tc := ⟨.hbm, 649, rfl⟩
abbrev main_cst_77 : Ref sig .tc := ⟨.hbm, 650, rfl⟩
abbrev main_v525 : Ref sig .tc := ⟨.hbm, 651, rfl⟩
abbrev main_cst_78 : Ref sig .tc := ⟨.hbm, 652, rfl⟩
abbrev main_v526 : Ref sig .tc := ⟨.hbm, 653, rfl⟩
abbrev main_v527 : Ref sig .tc := ⟨.hbm, 654, rfl⟩
abbrev main_v528 : Ref sig .tc := ⟨.hbm, 655, rfl⟩
abbrev main_v529 : Ref sig .tc := ⟨.hbm, 656, rfl⟩
abbrev main_v530 : Ref sig .tc := ⟨.hbm, 657, rfl⟩
abbrev main_v531 : Ref sig .tc := ⟨.hbm, 658, rfl⟩
abbrev main_v532 : Ref sig .tc := ⟨.hbm, 659, rfl⟩
abbrev main_v533 : Ref sig .tc := ⟨.hbm, 660, rfl⟩
abbrev main_v534 : Ref sig .tc := ⟨.hbm, 661, rfl⟩
abbrev main_v535 : Ref sig .tc := ⟨.hbm, 662, rfl⟩
abbrev main_v536 : Ref sig .tc := ⟨.hbm, 663, rfl⟩
abbrev main_v537 : Ref sig .tc := ⟨.hbm, 664, rfl⟩
abbrev main_v538 : Ref sig .tc := ⟨.hbm, 665, rfl⟩
abbrev main_cst_79 : Ref sig .tc := ⟨.hbm, 666, rfl⟩
abbrev main_v539 : Ref sig .tc := ⟨.hbm, 667, rfl⟩
abbrev main_cst_80 : Ref sig .tc := ⟨.hbm, 668, rfl⟩
abbrev main_v540 : Ref sig .tc := ⟨.hbm, 669, rfl⟩
abbrev main_v541 : Ref sig .tc := ⟨.hbm, 670, rfl⟩
abbrev main_cst_81 : Ref sig .tc := ⟨.hbm, 671, rfl⟩
abbrev main_v542 : Ref sig .tc := ⟨.hbm, 672, rfl⟩
abbrev main_cst_82 : Ref sig .tc := ⟨.hbm, 673, rfl⟩
abbrev main_v543 : Ref sig .tc := ⟨.hbm, 674, rfl⟩
abbrev main_v544 : Ref sig .tc := ⟨.hbm, 675, rfl⟩
abbrev main_v545 : Ref sig .tc := ⟨.hbm, 676, rfl⟩
abbrev main_v546 : Ref sig .tc := ⟨.hbm, 677, rfl⟩
abbrev main_v547 : Ref sig .tc := ⟨.hbm, 678, rfl⟩
abbrev main_v548 : Ref sig .tc := ⟨.hbm, 679, rfl⟩
abbrev main_v549 : Ref sig .tc := ⟨.hbm, 680, rfl⟩
abbrev main_v550 : Ref sig .tc := ⟨.hbm, 681, rfl⟩
abbrev main_v551 : Ref sig .tc := ⟨.hbm, 682, rfl⟩
abbrev main_v552 : Ref sig .tc := ⟨.hbm, 683, rfl⟩
abbrev main_v553 : Ref sig .tc := ⟨.hbm, 684, rfl⟩
abbrev main_v554 : Ref sig .tc := ⟨.hbm, 685, rfl⟩
abbrev main_v555 : Ref sig .tc := ⟨.hbm, 686, rfl⟩
abbrev main_cst_83 : Ref sig .tc := ⟨.hbm, 687, rfl⟩
abbrev main_v556 : Ref sig .tc := ⟨.hbm, 688, rfl⟩
abbrev main_cst_84 : Ref sig .tc := ⟨.hbm, 689, rfl⟩
abbrev main_v557 : Ref sig .tc := ⟨.hbm, 690, rfl⟩
abbrev main_v558 : Ref sig .tc := ⟨.hbm, 691, rfl⟩
abbrev main_cst_85 : Ref sig .tc := ⟨.hbm, 692, rfl⟩
abbrev main_v559 : Ref sig .tc := ⟨.hbm, 693, rfl⟩
abbrev main_cst_86 : Ref sig .tc := ⟨.hbm, 694, rfl⟩
abbrev main_v560 : Ref sig .tc := ⟨.hbm, 695, rfl⟩
abbrev main_v561 : Ref sig .tc := ⟨.hbm, 696, rfl⟩
abbrev main_v562 : Ref sig .tc := ⟨.hbm, 697, rfl⟩
abbrev main_v563 : Ref sig .tc := ⟨.hbm, 698, rfl⟩
abbrev main_v564 : Ref sig .tc := ⟨.hbm, 699, rfl⟩
abbrev main_v565 : Ref sig .tc := ⟨.hbm, 700, rfl⟩
abbrev main_v566 : Ref sig .tc := ⟨.hbm, 701, rfl⟩
abbrev main_v567 : Ref sig .tc := ⟨.hbm, 702, rfl⟩
abbrev main_v568 : Ref sig .tc := ⟨.hbm, 703, rfl⟩
abbrev main_v569 : Ref sig .tc := ⟨.hbm, 704, rfl⟩
abbrev main_v570 : Ref sig .tc := ⟨.hbm, 705, rfl⟩
abbrev main_v571 : Ref sig .tc := ⟨.hbm, 706, rfl⟩
abbrev main_v572 : Ref sig .tc := ⟨.hbm, 707, rfl⟩
abbrev main_cst_87 : Ref sig .tc := ⟨.hbm, 708, rfl⟩
abbrev main_v573 : Ref sig .tc := ⟨.hbm, 709, rfl⟩
abbrev main_cst_88 : Ref sig .tc := ⟨.hbm, 710, rfl⟩
abbrev main_v574 : Ref sig .tc := ⟨.hbm, 711, rfl⟩
abbrev main_v575 : Ref sig .tc := ⟨.hbm, 712, rfl⟩
abbrev main_cst_89 : Ref sig .tc := ⟨.hbm, 713, rfl⟩
abbrev main_v576 : Ref sig .tc := ⟨.hbm, 714, rfl⟩
abbrev main_cst_90 : Ref sig .tc := ⟨.hbm, 715, rfl⟩
abbrev main_v577 : Ref sig .tc := ⟨.hbm, 716, rfl⟩
abbrev main_v578 : Ref sig .tc := ⟨.hbm, 717, rfl⟩
abbrev main_v579 : Ref sig .tc := ⟨.hbm, 718, rfl⟩
abbrev main_v580 : Ref sig .tc := ⟨.hbm, 719, rfl⟩
abbrev main_v581 : Ref sig .tc := ⟨.hbm, 720, rfl⟩
abbrev main_v582 : Ref sig .tc := ⟨.hbm, 721, rfl⟩
abbrev main_v583 : Ref sig .tc := ⟨.hbm, 722, rfl⟩
abbrev main_v584 : Ref sig .tc := ⟨.hbm, 723, rfl⟩
abbrev main_v585 : Ref sig .tc := ⟨.hbm, 724, rfl⟩
abbrev main_v586 : Ref sig .tc := ⟨.hbm, 725, rfl⟩
abbrev main_v587 : Ref sig .tc := ⟨.hbm, 726, rfl⟩
abbrev main_v588 : Ref sig .tc := ⟨.hbm, 727, rfl⟩
abbrev main_v589 : Ref sig .tc := ⟨.hbm, 728, rfl⟩
abbrev main_cst_91 : Ref sig .tc := ⟨.hbm, 729, rfl⟩
abbrev main_v590 : Ref sig .tc := ⟨.hbm, 730, rfl⟩
abbrev main_cst_92 : Ref sig .tc := ⟨.hbm, 731, rfl⟩
abbrev main_v591 : Ref sig .tc := ⟨.hbm, 732, rfl⟩
abbrev main_v592 : Ref sig .tc := ⟨.hbm, 733, rfl⟩
abbrev main_cst_93 : Ref sig .tc := ⟨.hbm, 734, rfl⟩
abbrev main_v593 : Ref sig .tc := ⟨.hbm, 735, rfl⟩
abbrev main_cst_94 : Ref sig .tc := ⟨.hbm, 736, rfl⟩
abbrev main_v594 : Ref sig .tc := ⟨.hbm, 737, rfl⟩
abbrev main_v595 : Ref sig .tc := ⟨.hbm, 738, rfl⟩
abbrev main_v596 : Ref sig .tc := ⟨.hbm, 739, rfl⟩
abbrev main_v597 : Ref sig .tc := ⟨.hbm, 740, rfl⟩
abbrev main_v598 : Ref sig .tc := ⟨.hbm, 741, rfl⟩
abbrev main_v599 : Ref sig .tc := ⟨.hbm, 742, rfl⟩
abbrev main_v600 : Ref sig .tc := ⟨.hbm, 743, rfl⟩
abbrev main_v601 : Ref sig .tc := ⟨.hbm, 744, rfl⟩
abbrev main_v602 : Ref sig .tc := ⟨.hbm, 745, rfl⟩
abbrev main_v603 : Ref sig .tc := ⟨.hbm, 746, rfl⟩
abbrev main_v604 : Ref sig .tc := ⟨.hbm, 747, rfl⟩
abbrev main_v605 : Ref sig .tc := ⟨.hbm, 748, rfl⟩
abbrev main_v606 : Ref sig .tc := ⟨.hbm, 749, rfl⟩
abbrev main_cst_95 : Ref sig .tc := ⟨.hbm, 750, rfl⟩
abbrev main_v607 : Ref sig .tc := ⟨.hbm, 751, rfl⟩
abbrev main_cst_96 : Ref sig .tc := ⟨.hbm, 752, rfl⟩
abbrev main_v608 : Ref sig .tc := ⟨.hbm, 753, rfl⟩
abbrev main_v609 : Ref sig .tc := ⟨.hbm, 754, rfl⟩
abbrev main_cst_97 : Ref sig .tc := ⟨.hbm, 755, rfl⟩
abbrev main_v610 : Ref sig .tc := ⟨.hbm, 756, rfl⟩
abbrev main_cst_98 : Ref sig .tc := ⟨.hbm, 757, rfl⟩
abbrev main_v611 : Ref sig .tc := ⟨.hbm, 758, rfl⟩
abbrev main_v612 : Ref sig .tc := ⟨.hbm, 759, rfl⟩
abbrev main_v613 : Ref sig .tc := ⟨.hbm, 760, rfl⟩
abbrev main_v614 : Ref sig .tc := ⟨.hbm, 761, rfl⟩
abbrev main_v615 : Ref sig .tc := ⟨.hbm, 762, rfl⟩
abbrev main_v616 : Ref sig .tc := ⟨.hbm, 763, rfl⟩
abbrev main_v617 : Ref sig .tc := ⟨.hbm, 764, rfl⟩
abbrev main_v618 : Ref sig .tc := ⟨.hbm, 765, rfl⟩
abbrev main_v619 : Ref sig .tc := ⟨.hbm, 766, rfl⟩
abbrev main_v620 : Ref sig .tc := ⟨.hbm, 767, rfl⟩
abbrev main_v621 : Ref sig .tc := ⟨.hbm, 768, rfl⟩
abbrev main_v622 : Ref sig .tc := ⟨.hbm, 769, rfl⟩
abbrev main_v623 : Ref sig .tc := ⟨.hbm, 770, rfl⟩
abbrev main_cst_99 : Ref sig .tc := ⟨.hbm, 771, rfl⟩
abbrev main_v624 : Ref sig .tc := ⟨.hbm, 772, rfl⟩
abbrev main_cst_100 : Ref sig .tc := ⟨.hbm, 773, rfl⟩
abbrev main_v625 : Ref sig .tc := ⟨.hbm, 774, rfl⟩
abbrev main_v626 : Ref sig .tc := ⟨.hbm, 775, rfl⟩
abbrev main_cst_101 : Ref sig .tc := ⟨.hbm, 776, rfl⟩
abbrev main_v627 : Ref sig .tc := ⟨.hbm, 777, rfl⟩
abbrev main_cst_102 : Ref sig .tc := ⟨.hbm, 778, rfl⟩
abbrev main_v628 : Ref sig .tc := ⟨.hbm, 779, rfl⟩
abbrev main_v629 : Ref sig .tc := ⟨.hbm, 780, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8x128 : Shape := ⟨2, ![8, 128]⟩
abbrev S512x1024 : Shape := ⟨2, ![512, 1024]⟩
abbrev S512x2816 : Shape := ⟨2, ![512, 2816]⟩
abbrev S1536x1024 : Shape := ⟨2, ![1536, 1024]⟩
abbrev S512x1536 : Shape := ⟨2, ![512, 1536]⟩
abbrev S1280x1024 : Shape := ⟨2, ![1280, 1024]⟩
abbrev S512x1280 : Shape := ⟨2, ![512, 1280]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 44
  | .vmem => 41
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S1x1024, .f32⟩
  | .hbm, ⟨32, _⟩ => ⟨S8192x2816, .bf16⟩
  | .hbm, ⟨33, _⟩ => ⟨S8192x2816, .bf16⟩
  | .hbm, ⟨34, _⟩ => ⟨S8192x2816, .bf16⟩
  | .hbm, ⟨35, _⟩ => ⟨S8192x1024, .f32⟩
  | .hbm, ⟨36, _⟩ => ⟨S8192x1024, .bf16⟩
  | .hbm, ⟨37, _⟩ => ⟨S8x128, .f32⟩
  | .hbm, ⟨38, _⟩ => ⟨S1x1024, .f32⟩
  | .hbm, ⟨39, _⟩ => ⟨S8192x2816, .bf16⟩
  | .hbm, ⟨40, _⟩ => ⟨S8192x2816, .bf16⟩
  | .hbm, ⟨41, _⟩ => ⟨S8192x1024, .f32⟩
  | .hbm, ⟨42, _⟩ => ⟨S1x1024, .f32⟩
  | .hbm, ⟨43, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x128, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S512x2816, .bf16⟩
  | .local _ .vmem, ⟨28, _⟩ => ⟨S2816x1024, .bf16⟩
  | .local _ .vmem, ⟨29, _⟩ => ⟨S2816x1024, .bf16⟩
  | .local _ .vmem, ⟨30, _⟩ => ⟨S2816x1024, .bf16⟩
  | .local _ .vmem, ⟨31, _⟩ => ⟨S512x1024, .f32⟩
  | .local _ .vmem, ⟨32, _⟩ => ⟨S512x1024, .f32⟩
  | .local _ .vmem, ⟨33, _⟩ => ⟨S1x1024, .f32⟩
  | .local _ .vmem, ⟨34, _⟩ => ⟨S512x2816, .bf16⟩
  | .local _ .vmem, ⟨35, _⟩ => ⟨S512x2816, .bf16⟩
  | .local _ .vmem, ⟨36, _⟩ => ⟨S512x2816, .bf16⟩
  | .local _ .vmem, ⟨37, _⟩ => ⟨S512x2816, .bf16⟩
  | .local _ .vmem, ⟨38, _⟩ => ⟨S512x1024, .f32⟩
  | .local _ .vmem, ⟨39, _⟩ => ⟨S512x1024, .f32⟩
  | .local _ .vmem, ⟨40, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev main_v22_5 : Ref sig .tc := ⟨.hbm, 37, rfl⟩
abbrev main_v22_6 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem6_1 : DmaSem sig := 32
abbrev cc1_sem7_0 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2816x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x2816 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== FfnRefIdeal.lean ====
abbrev S8192x1024 : Shape := ⟨2, ![8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S2816x1024 : Shape := ⟨2, ![2816, 1024]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S8192x1024, .f32⟩
  | 1 => ⟨S1x1024, .f32⟩
  | 2 => ⟨S1x1024x2816, .f32⟩
  | 3 => ⟨S1x1024x2816, .f32⟩
  | 4 => ⟨S1x2816x1024, .f32⟩
  | 5 => ⟨S1024, .f32⟩
  | 6 => ⟨S8192x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1024x2816, .f32⟩
  | 29 => ⟨S8192x2816, .f32⟩
  | 30 => ⟨S1024x2816, .f32⟩
  | 31 => ⟨S8192x2816, .f32⟩
  | 32 => ⟨S8192x2816, .f32⟩
  | 33 => ⟨S8192x2816, .f32⟩
  | 34 => ⟨S_, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S_, .f32⟩
  | 41 => ⟨S8192x2816, .f32⟩
  | 42 => ⟨S8192x2816, .f32⟩
  | 43 => ⟨S8192x2816, .f32⟩
  | 44 => ⟨S8192x2816, .f32⟩
  | 45 => ⟨S8192x2816, .f32⟩
  | 46 => ⟨S2816x1024, .f32⟩
  | 47 => ⟨S8192x1024, .f32⟩
  | 48 => ⟨S8192x1024, .f32⟩
  | 49 => ⟨S8192x1024, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1024, .f32⟩
  | 65 => ⟨S8192x1024, .f32⟩
  | 66 => ⟨S1x1024, .f32⟩
  | 67 => ⟨S8192x1024, .f32⟩
  | 68 => ⟨S8192x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192, .f32⟩
  | 76 => ⟨S_, .f32⟩
  | 77 => ⟨S8192, .f32⟩
  | 78 => ⟨S8192, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S8192, .f32⟩
  | 87 => ⟨S_, .f32⟩
  | 88 => ⟨S8192, .f32⟩
  | 89 => ⟨S8192, .f32⟩
  | 90 => ⟨S8192x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S8192x1024, .f32⟩
  | 97 => ⟨S8192x1024, .f32⟩
  | 98 => ⟨S_, .f32⟩
  | 99 => ⟨S1024, .f32⟩
  | 100 => ⟨S8192x1024, .f32⟩
  | 101 => ⟨S_, .f32⟩
  | 102 => ⟨S8192, .f32⟩
  | 103 => ⟨S8192x1, .f32⟩
  | 104 => ⟨S8192x1024, .f32⟩
  | 105 => ⟨S8192x1024, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x2816, .f32⟩
  | 118 => ⟨S8192x2816, .f32⟩
  | 119 => ⟨S8192x2816, .f32⟩
  | 120 => ⟨S8192x2816, .f32⟩
  | 121 => ⟨S8192x2816, .f32⟩
  | 122 => ⟨S8192x2816, .f32⟩
  | 123 => ⟨S8192x2816, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S_, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S8192x1024, .f32⟩
  | 12 => ⟨S8192x1024, .f32⟩
  | 13 => ⟨S8192x1024, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S1x1024, .f32⟩
  | 26 => ⟨S1x1, .f32⟩
  | 27 => ⟨S1x1024, .f32⟩
  | 28 => ⟨S8192x2816, .bf16⟩
  | 29 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_cst_12 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_cst_19 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_20 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_21 : Ref sig .tc := ⟨.hbm, 133, rfl⟩
abbrev main_v89 : Ref sig .tc := ⟨.hbm, 134, rfl⟩
abbrev main_v90 : Ref sig .tc := ⟨.hbm, 135, rfl⟩
abbrev main_cst_22 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_23 : Ref sig .tc := ⟨.hbm, 143, rfl⟩
abbrev main_v97 : Ref sig .tc := ⟨.hbm, 144, rfl⟩
abbrev main_v98 : Ref sig .tc := ⟨.hbm, 145, rfl⟩
abbrev main_cst_24 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩

abbrev nD : Nat := 1
abbrev τ : Topo := Topo.v7x

variable {F : FTy → Type} [FloatOps F]
-- ==== Proof.RowNorm.lean ====
/- The extended-real arithmetic that the claims share: sums and quotients of finite numbers, the constants,
   and the gradient of a row's root-mean-square normalisation, as the kernels write it and as the chain rule writes it. -/
module

public import Idealize.ShloMosaic.Lib.IdealHost
public import Idealize.ShloMosaic.Lib.ReduceAll

@[expose] public section

set_option maxRecDepth 16384

noncomputable section

namespace Cert.RowNorm

open Idealize.ShloMosaic

/-- A finite extended real: the image of a real number. -/
def Fin' (x : EReal) : Prop := x = ((x.toReal : ℝ) : EReal)

theorem fin_coe (r : ℝ) : Fin' (r : EReal) := by unfold Fin'; rw [EReal.toReal_coe]

theorem fin_of_abs_lt {x : EReal} (h : max x (-x) < ⊤) : Fin' x := by
  refine (EReal.coe_toReal ?_ ?_).symm
  · rintro rfl; simp at h
  · rintro rfl; simp at h

/-- A sum of finite numbers is the sum of the reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem fin_add {x y : EReal} (hx : Fin' x) (hy : Fin' y) : Fin' (x + y) := by
  rw [hx, hy, ← EReal.coe_add]; exact fin_coe _

theorem fin_mul {x y : EReal} (hx : Fin' x) (hy : Fin' y) : Fin' (x * y) := by
  rw [hx, hy, ← EReal.coe_mul]; exact fin_coe _

theorem fin_sum {ι : Type} (s : Finset ι) (f : ι → EReal) (h : ∀ i, Fin' (f i)) : Fin' (∑ i ∈ s, f i) := by
  rw [Finset.sum_congr rfl fun i _ => h i, coe_sum]; exact fin_coe _

/-- Division by a real that is not zero. -/
theorem div_coe_coe (x : ℝ) {y : ℝ} (h : y ≠ 0) : Ideal.div (x : EReal) (y : EReal) = ((x / y : ℝ) : EReal) := by
  rw [Ideal.div_coe h, ← EReal.coe_mul]; congr 1; ring

/-- The reciprocal square root of a positive real. -/
theorem rsqrt_pos {v : ℝ} (h : 0 < v) : Ideal.rsqrt (v : EReal) = (((Real.sqrt v)⁻¹ : ℝ) : EReal) := by
  rw [Ideal.rsqrt_coe, if_neg (not_lt.mpr h.le), if_neg h.ne']

/-! ## Constants -/

/-- `1024.0`. -/
theorem c1024 : Ideal.ofBits .f32 0x44800000#32 = ((1024 : ℝ) : EReal) := by
  simp [Ideal.ofBits, Ideal.ieee, -EReal.coe_mul]; norm_num

/-- `-0.5`. -/
theorem cneghalf : Ideal.ofBits .f32 0xBF000000#32 = ((-(1 / 2) : ℝ) : EReal) := by
  simp [Ideal.ofBits, Ideal.ieee, -EReal.coe_mul, -EReal.coe_neg]; norm_num

/-- The number that the word of `1e-6` denotes. -/
def eps : ℝ := 8796093 * 2 ^ (-43 : ℤ)

theorem ceps : Ideal.ofBits .f32 0x358637BD#32 = ((eps : ℝ) : EReal) := by
  simp [Ideal.ofBits, Ideal.ieee, eps, -EReal.coe_mul]

theorem eps_pos : 0 < eps := by unfold eps; positivity

/-- The word of `+inf`. -/
theorem cinf : Ideal.ofBits .f32 0x7F800000#32 = ⊤ := by simp [Ideal.ofBits, Ideal.ieee]

/-! ## One row of the normalisation's gradient -/

/-- The row's reciprocal root mean square, over the reals. -/
def rstd {ι : Type} [Fintype ι] (n : ℝ) (x : ι → ℝ) : ℝ := (Real.sqrt ((∑ k, x k * x k) / n + eps))⁻¹

theorem var_pos {ι : Type} [Fintype ι] {n : ℝ} (hn : 0 < n) (x : ι → ℝ) : 0 < (∑ k, x k * x k) / n + eps :=
  add_pos_of_nonneg_of_pos (div_nonneg (Finset.sum_nonneg fun k _ => mul_self_nonneg _) hn.le) eps_pos

/-- The reciprocal root mean square as the programs compute it. -/
theorem rstd_eq {ι : Type} [Fintype ι] {n : ℝ} (hn : 0 < n) (x : ι → ℝ) :
    Ideal.rsqrt (Ideal.div (∑ k, (x k : EReal) * (x k : EReal)) (n : EReal) + (eps : EReal)) = ((rstd n x : ℝ) : EReal) := by
  simp only [← EReal.coe_mul, coe_sum]
  rw [div_coe_coe _ hn.ne', ← EReal.coe_add, rsqrt_pos (var_pos hn x), rstd]

/-- The gradient with respect to one entry `x j` of the row, over the reals: `dxh` is the cotangent times the gain. -/
def dnorm {ι : Type} [Fintype ι] (n : ℝ) (x dxh : ι → ℝ) (j : ι) : ℝ :=
  rstd n x * (dxh j - x j * rstd n x * ((∑ k, dxh k * (x k * rstd n x)) / n))

/-- The chain rule's form of that gradient: the two halves of the derivative of `x * x` and the derivative
    of the reciprocal square root. -/
theorem dnorm_chain {ι : Type} [Fintype ι] {n : ℝ} (hn : 0 < n) (x dxh : ι → ℝ) (j : ι) :
    dxh j * rstd n x + (x j * ((∑ k, x k * dxh k) * (-(1 / 2) * (rstd n x / ((∑ k, x k * x k) / n + eps))) / n)
      + (∑ k, x k * dxh k) * (-(1 / 2) * (rstd n x / ((∑ k, x k * x k) / n + eps))) / n * x j) = dnorm n x dxh j := by
  have hv := var_pos hn x
  have hs : ∑ k, dxh k * (x k * rstd n x) = (∑ k, x k * dxh k) * rstd n x := by
    rw [Finset.sum_mul]; exact Finset.sum_congr rfl fun k _ => by ring
  have hr : rstd n x / ((∑ k, x k * x k) / n + eps) = rstd n x ^ 3 := by
    rw [rstd, div_eq_mul_inv, pow_succ, inv_pow, Real.sq_sqrt hv.le]; ring
  rw [dnorm, hs, hr]; ring

/-- The gradient of one entry as the kernels compute it over the extended reals; `n` and `e` are the row's length and the small constant. -/
def kdn {ι : Type} [Fintype ι] (n e : EReal) (x dxh : ι → EReal) (j : ι) : EReal :=
  Ideal.rsqrt (Ideal.div (∑ k, x k * x k) n + e)
    * (dxh j - x j * Ideal.rsqrt (Ideal.div (∑ k, x k * x k) n + e)
      * Ideal.div (∑ k, dxh k * (x k * Ideal.rsqrt (Ideal.div (∑ k, x k * x k) n + e))) n)

/-- On finite rows the kernels' form is the real gradient. -/
theorem kdn_eq {ι : Type} [Fintype ι] {n : ℝ} (hn : 0 < n) {x dxh : ι → EReal} (hx : ∀ k, Fin' (x k)) (hd : ∀ k, Fin' (dxh k)) (j : ι) :
    kdn (n : EReal) (eps : EReal) x dxh j = ((dnorm n (fun k => (x k).toReal) (fun k => (dxh k).toReal) j : ℝ) : EReal) := by
  obtain ⟨y, rfl⟩ : ∃ y : ι → ℝ, x = fun k => (y k : EReal) := ⟨_, funext hx⟩
  obtain ⟨z, rfl⟩ : ∃ z : ι → ℝ, dxh = fun k => (z k : EReal) := ⟨_, funext hd⟩
  simp only [EReal.toReal_coe]
  rw [kdn, rstd_eq hn]
  simp only [← EReal.coe_mul, coe_sum]
  rw [div_coe_coe _ hn.ne']
  simp only [← EReal.coe_mul, ← EReal.coe_sub]
  rfl

/-- The chain rule's sum, the earlier cotangent `a` in front, is that cotangent plus the kernels' form. -/
theorem chain_eq {ι : Type} [Fintype ι] {n : ℝ} (hn : 0 < n) (a : EReal) {x dxh : ι → EReal} (hx : ∀ k, Fin' (x k)) (hd : ∀ k, Fin' (dxh k)) (j : ι)
    (v q : EReal) (hv : v = Ideal.div (∑ k, x k * x k) (n : EReal) + (eps : EReal))
    (hq : q = Ideal.div ((∑ k, x k * dxh k) * (((-(1 / 2) : ℝ) : EReal) * Ideal.div (Ideal.rsqrt v) v)) (n : EReal)) :
    a + dxh j * Ideal.rsqrt v + x j * q + q * x j = a + kdn (n : EReal) (eps : EReal) x dxh j := by
  rw [kdn_eq hn hx hd]
  obtain ⟨y, rfl⟩ : ∃ y : ι → ℝ, x = fun k => (y k : EReal) := ⟨_, funext hx⟩
  obtain ⟨z, rfl⟩ : ∃ z : ι → ℝ, dxh = fun k => (z k : EReal) := ⟨_, funext hd⟩
  simp only [EReal.toReal_coe]
  have hr : Ideal.rsqrt v = ((rstd n y : ℝ) : EReal) := hv ▸ rstd_eq hn y
  have hv' : v = (((∑ k, y k * y k) / n + eps : ℝ) : EReal) := by
    rw [hv]; simp only [← EReal.coe_mul, coe_sum]; rw [div_coe_coe _ hn.ne', ← EReal.coe_add]
  rw [hr, hv', div_coe_coe _ (var_pos hn y).ne'] at hq
  simp only [← EReal.coe_mul, coe_sum] at hq
  rw [div_coe_coe _ hn.ne'] at hq
  rw [hr, hq, add_assoc, add_assoc]
  simp only [← EReal.coe_mul, ← EReal.coe_add]
  rw [← dnorm_chain hn y z j]

end Cert.RowNorm

end
-- ==== Proof.MixInPre.lean ====
/- What the claim's precondition says of the argument arrays: every entry of the arrays it names is a real number. -/
module

public import proofs.«01_k».proof.Proof.RowNorm
public import proofs.«01_k».proof.Pre_finite_mix_in
public import Idealize.ShloMosaic.Lib.Pointwise

@[expose] public section

set_option maxRecDepth 16384

noncomputable section

open Idealize.ShloMosaic

namespace Cert.Pre_finite_mix_in

open Facts

/-- The side conditions of the predicate's operations. -/
theorem side : Facts where
  bcast_S_S8192x1024 := by decide
  reducesTo_S8192x1024_S_d0_1 := by decide
  h_S_ := by decide
  bcast_S_S1x1024 := by decide
  reducesTo_S1x1024_S_d0_1 := by decide
  bcast_S_S1x1024x1536 := by decide
  reducesTo_S1x1024x1536_S_d0_1_2 := by decide
  bitsLt_bf16_f32 := by decide
  bcast_S_S8192x1536 := by decide
  reducesTo_S8192x1536_S_d0_1 := by decide

variable [Facts]

/-- A comparison bit of the predicate, decoded. -/
theorem bit {s : Shape} (a b : FVec Ideal s .f32) (j : s.Idx) (hb : b j = Ideal.ofBits .f32 0x7F800000#32)
    (h : cmpf .olt (Host.absf a) b j = 1#1) : RowNorm.Fin' (a j) := by
  have h' : Ideal.cmp .olt (max (a j) (-(a j))) (b j) = 1#1 := h
  rw [hb, RowNorm.cinf] at h'
  refine RowNorm.fin_of_abs_lt ?_
  by_contra hc
  simp only [Ideal.cmp, hc, decide_false, BitVec.ofBool, cond_false] at h'
  exact absurd h' (by decide)

theorem and_one {a b : IVec S_ 1} (h : andi a b = fun _ => 1#1) : (a = fun _ => 1#1) ∧ (b = fun _ => 1#1) := by
  have key : ∀ x y : BitVec 1, x &&& y = 1#1 → x = 1#1 ∧ y = 1#1 := by decide
  exact ⟨funext fun j => (key _ _ (congrFun h j)).1, funext fun j => (key _ _ (congrFun h j)).2⟩

theorem all_of {s : Shape} {axes : List (Fin s.rank)} (a b : FVec Ideal s .f32) (init : IVec S_ 1) (hr : s.ReducesTo axes S_) (hu : 0 < S_.numel)
    (hb : ∀ j, b j = Ideal.ofBits .f32 0x7F800000#32)
    (h : Host.reduce IntOp.andi (cmpf .olt (Host.absf a) b) init hr hu = fun _ => 1#1) (j : s.Idx) : RowNorm.Fin' (a j) :=
  bit a b j (hb j) (Host.reduce_andi_all _ _ _ _ (fun k => k.elim0) (congrFun h _) j)

/-- The predicate's meaning. -/
theorem finite (x : FVec Ideal S8192x1024 .f32) (g : FVec Ideal S1x1024 .f32) (w : FVec Ideal S1x1024x1536 .f32) (d2 : FVec Ideal S8192x1024 .f32) (du : FVec Ideal S8192x1536 .bf16)
    (h : fn (F := Ideal) x g w d2 du = fun _ => 1#1) :
    (∀ j, RowNorm.Fin' (x j)) ∧ (∀ j, RowNorm.Fin' (g j)) ∧ (∀ j, RowNorm.Fin' (w j)) ∧ ∀ j, RowNorm.Fin' (du j) := by
  dsimp only [fn, fn_part1] at h
  obtain ⟨h, h4⟩ := and_one h
  obtain ⟨h, h3⟩ := and_one h
  obtain ⟨h1, h2⟩ := and_one h
  exact ⟨all_of _ _ _ _ _ (fun _ => rfl) h1, all_of _ _ _ _ _ (fun _ => rfl) h2, all_of _ _ _ _ _ (fun _ => rfl) h3, all_of _ _ _ _ _ (fun _ => rfl) h4⟩

end Cert.Pre_finite_mix_in

end
-- ==== Proof.MixInValue.lean ====
/- The values of the mixer input projection's backward call: what the kernel's two result arrays hold, and the reference's. -/
module

public import proofs.«01_k».proof.Proof.RowNorm
public import proofs.«01_k».proof.Proof.Gen.MixInIdeal.Value
public import proofs.«01_k».proof.Proof.Gen.MixInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixInIdeal.Hand

open Cert.MixInIdeal Cert.MixInIdeal.Gen

variable (m : (ℓ : Loc nD τ sig) → Buf (Elt Ideal) ℓ)

/-- The block each window holds at a grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] :=
  (by decide +kernel : ∀ t : Fin grid0.N, _)

/-- The staged weight is the argument's, its axes exchanged. -/
theorem w_at (c : Dev nD) (t : Fin cfg0.N) (k : Fin 1536) (l : Fin 1024) : (iblk m c 3 t : FVec Ideal S1536x1024 .bf16) (ix2 k l) = m ((c : Thread nD τ).loc main_arg2) (ix3 0 l k) := by
  blk_simp [iblk]
  entry_read
  pointwise
  blk_ext [idx t]

theorem N_8 : cfg0.N = 8 := by decide +kernel

/-- The row of the whole array that row `r` of point `t`'s block is. -/
def row (t : Fin cfg0.N) (r : Fin 1024) : Fin 8192 :=
  ⟨t.val * 1024 + r.val, by have h : t.val < 8 := N_8 ▸ t.isLt
                            have := r.isLt
                            omega⟩

theorem du_at (c : Dev nD) (t : Fin cfg0.N) (r : Fin 1024) (k : Fin 1536) : (iblk m c 0 t : FVec Ideal S1024x1536 .bf16) (ix2 r k) = m ((c : Thread nD τ).loc main_arg4) (ix2 (row t r) k) := by
  blk_simp [iblk]
  entry_read
  blk_ext [idx t, row]

theorem x_at (c : Dev nD) (t : Fin cfg0.N) (r k : Fin 1024) : (iblk m c 1 t : FVec Ideal S1024x1024 .f32) (ix2 r k) = m ((c : Thread nD τ).loc main_arg0) (ix2 (row t r) k) := by
  blk_simp [iblk]
  entry_read
  blk_ext [idx t, row]

theorem d2_at (c : Dev nD) (t : Fin cfg0.N) (r k : Fin 1024) : (iblk m c 2 t : FVec Ideal S1024x1024 .f32) (ix2 r k) = m ((c : Thread nD τ).loc main_arg3) (ix2 (row t r) k) := by
  blk_simp [iblk]
  entry_read
  blk_ext [idx t, row]

theorem g_at (c : Dev nD) (t : Fin cfg0.N) (k : Fin 1024) : (iblk m c 4 t : FVec Ideal S1x1024 .f32) (ix2 0 k) = m ((c : Thread nD τ).loc main_arg1) (ix2 0 k) := by
  blk_simp [iblk]
  entry_read
  blk_ext [idx t]

/-- What a point stores for the rows' gradient, at an entry of its block. -/
theorem pay7_at (du : FVec Ideal S1024x1536 .bf16) (w : FVec Ideal S1536x1024 .bf16) (x : FVec Ideal S1024x1024 .f32) (g : FVec Ideal S1x1024 .f32) (d2 : FVec Ideal S1024x1024 .f32) (r l : Fin 1024) :
    k0_pay7 (F := Ideal) du w x g d2 (ix2 r l) = d2 (ix2 r l) + RowNorm.kdn (Ideal.ofBits .f32 0x44800000#32) (Ideal.ofBits .f32 0x358637BD#32)
      (fun k : Fin 1024 => x (ix2 r k)) (fun k => (∑ p : Fin 1536, du (ix2 r p) * w (ix2 p k)) * g (ix2 0 k)) l := by
  pointwise [k0_pay7, k0_pay5, k0_pay4, k0_pay3]
  rfl

/-- What a point adds to the gain's gradient. -/
theorem pay6_at (du : FVec Ideal S1024x1536 .bf16) (w : FVec Ideal S1536x1024 .bf16) (x : FVec Ideal S1024x1024 .f32) (l : Fin 1024) :
    k0_pay6 (F := Ideal) du w x (ix2 0 l) = ∑ r : Fin 1024, (∑ p : Fin 1536, du (ix2 r p) * w (ix2 p l)) * (x (ix2 r l)
      * Ideal.rsqrt (Ideal.div (∑ k : Fin 1024, x (ix2 r k) * x (ix2 r k)) (Ideal.ofBits .f32 0x44800000#32) + Ideal.ofBits .f32 0x358637BD#32)) := by
  pointwise [k0_pay6, k0_pay5, k0_pay4, k0_pay3]

/-- The rows' gradient as one function of the argument arrays. -/
def G5 (c : Dev nD) : FVec Ideal S8192x1024 .f32 := fun j =>
  (show EReal from m ((c : Thread nD τ).loc main_arg3) j) + RowNorm.kdn (Ideal.ofBits .f32 0x44800000#32) (Ideal.ofBits .f32 0x358637BD#32)
    (fun k : Fin 1024 => m ((c : Thread nD τ).loc main_arg0) (ix2 (j 0) k))
    (fun k => (∑ p : Fin 1536, (show EReal from m ((c : Thread nD τ).loc main_arg4) (ix2 (j 0) p)) * (show EReal from m ((c : Thread nD τ).loc main_arg2) (ix3 0 k p)))
      * (show EReal from m ((c : Thread nD τ).loc main_arg1) (ix2 0 k))) (j 1)

/-- The first result's array after the launch. -/
theorem final5 (c : Dev nD) : (dats m 0 c).arrAt 5 cfg0.N = G5 m c := by
  refine (dats m 0 c).arrAt_eq_of_covers 5 (G5 m c) (by decide +kernel) fun t hf y => ?_
  blk_simp
  rw [after0_5]
  have key : (outsAt0 m c t.val t.isLt).1 y = k0_pay7 (iblk m c 0 t) (iblk m c 3 t) (iblk m c 1 t) (iblk m c 4 t) (iblk m c 2 t) y := by
    by_cases h : t.val % 8 = 0
    · rw [outsAt0_A m c t h]; frame_out
    · rw [outsAt0_B m c t h]; frame_out
  rw [key]
  have hj : (win0_5.blk t).view.emb y = ix2 (row t (y 0)) (y 1) := by blk_ext [idx t, row]
  rw [hj]
  obtain ⟨r, l, rfl⟩ : ∃ (r l : Fin 1024), y = ix2 r l := ⟨y 0, y 1, eq_ix2 y⟩
  rw [pay7_at]
  simp only [du_at, w_at, x_at, g_at, d2_at]
  rfl

/-- One point's part of the gain's gradient, over the argument arrays. -/
def part (c : Dev nD) (R : Fin 8192) (l : Fin 1024) : EReal :=
  (∑ p : Fin 1536, (show EReal from m ((c : Thread nD τ).loc main_arg4) (ix2 R p)) * (show EReal from m ((c : Thread nD τ).loc main_arg2) (ix3 0 l p)))
    * ((show EReal from m ((c : Thread nD τ).loc main_arg0) (ix2 R l))
      * Ideal.rsqrt (Ideal.div (∑ k : Fin 1024, (show EReal from m ((c : Thread nD τ).loc main_arg0) (ix2 R k)) * (show EReal from m ((c : Thread nD τ).loc main_arg0) (ix2 R k))) (Ideal.ofBits .f32 0x44800000#32) + Ideal.ofBits .f32 0x358637BD#32))

/-- The gain's gradient as one function of the argument arrays. -/
def G6 (c : Dev nD) : FVec Ideal S1x1024 .f32 := fun j => ∑ R : Fin 8192, part m c R (j 1)

theorem pay6_part (c : Dev nD) (t : Fin cfg0.N) (l : Fin 1024) :
    k0_pay6 (F := Ideal) (iblk m c 0 t) (iblk m c 3 t) (iblk m c 1 t) (ix2 0 l) = ∑ r : Fin 1024, part m c (row t r) l := by
  rw [pay6_at]
  simp only [du_at, w_at, x_at]
  rfl

theorem pay1_apply (a b : FVec Ideal S1x1024 .f32) (j : S1x1024.Idx) : k0_pay1 (F := Ideal) a b j = b j + a j := by
  obtain ⟨p, q, rfl⟩ : ∃ (p : Fin 1) (q : Fin 1024), j = ix2 p q := ⟨_, _, eq_ix2 j⟩
  pointwise [k0_pay1]

theorem pay2_apply (j : S1x1024.Idx) : k0_pay2 (F := Ideal) j = 0 := by pointwise [k0_pay2]

/-- The sum over the grid's points of their rows is the sum over all rows. -/
theorem sum_rows (f : Fin 8192 → EReal) : ∑ t : Fin cfg0.N, ∑ r : Fin 1024, f (row t r) = ∑ R : Fin 8192, f R := by
  rw [Fin.sum_univ_tiles 8 1024 rfl f]
  exact Fintype.sum_equiv (finCongr N_8) _ _ fun t => rfl

/-- The second result's array after the launch. -/
theorem final6 (c : Dev nD) : (dats m 0 c).arrAt 6 cfg0.N = G6 m c := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t => k0_pay6 (F := Ideal) (iblk m c 0 t) (iblk m c 3 t) (iblk m c 1 t))
    (fun t h j => by rw [outsAt0_A m c t h]; frame_out; rw [pay1_apply, pay2_apply])
    (fun t h j => by rw [outsAt0_B m c t h]; frame_out; exact pay1_apply _ _ _) (le_of_eq N_8) t0_7 rfl j, zero_add]
  obtain ⟨l, rfl⟩ : ∃ l : Fin 1024, j = ix2 (0 : Fin 1) l := ⟨j 1, by rw [eq_ix2 j]; congr 1; exact Subsingleton.elim _ _⟩
  refine (Finset.sum_congr rfl fun t _ => pay6_part m c t l).trans ?_
  exact sum_rows fun R => part m c R l

end Cert.MixInIdeal.Hand

namespace Cert.MixInRefIdeal.Hand

open Cert.MixInRefIdeal Cert.MixInRefIdeal.Gen

variable (m : (ℓ : Loc nD τ sig) → Buf (Elt Ideal) ℓ)

/-- The cotangent of the normalised row times its gain. -/
def dxh (w : FVec Ideal S1x1024x1536 .f32) (g : FVec Ideal S1x1024 .f32) (du : FVec Ideal S8192x1536 .bf16) : FVec Ideal S8192x1024 .f32 :=
  mulf (Host.dotGeneral dot_S8192x1536_S1024x1536_S8192x1024_1_1_0_0_n_n none (extf .f32 du bitsLt_bf16_f32) (shapeCast _ w shapeCasts_S1x1024x1536_S1024x1536)) (broadcastInDim S8192x1024 ![0, 1] bcast_S1x1024_S8192x1024_0_1 (broadcastInDim S1x1024 ![1] bcast_S1024_S1x1024_1 (shapeCast _ g shapeCasts_S1x1024_S1024)))

/-- Each row's mean square plus the small constant. -/
def var (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- Half of the cotangent of each row's mean square, over the row's length. -/
def quo (x d : FVec Ideal S8192x1024 .f32) : FVec Ideal S8192x1024 .f32 :=
  broadcastInDim S8192x1024 ![0] bcast_S8192_S8192x1024_0 (Host.reduceAdd (Host.divf (mulf (shapeCast _ (Host.reduceAdd (mulf x d) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (var x)) (var x)))) (broadcastInDim S8192x1 ![] bcast_S_S8192x1 (constant S_ .f32 0x44800000#32))) (constant S_ .f32 0x00000000#32) reducesTo_S8192x1_S8192_d1 h_S_)

theorem dxh_at (w : FVec Ideal S1x1024x1536 .f32) (g : FVec Ideal S1x1024 .f32) (du : FVec Ideal S8192x1536 .bf16) (r : Fin 8192) (l : Fin 1024) :
    dxh w g du (ix2 r l) = (∑ k : Fin 1536, du (ix2 r k) * w (ix3 0 l k)) * g (ix2 0 l) := by
  pointwise [dxh]

theorem var_at (x : FVec Ideal S8192x1024 .f32) (r : Fin 8192) :
    var x (ix2 r 0) = Ideal.div (∑ k : Fin 1024, x (ix2 r k) * x (ix2 r k)) (Ideal.ofBits .f32 0x44800000#32) + Ideal.ofBits .f32 0x358637BD#32 := by
  pointwise [var]

theorem quo_at (x d : FVec Ideal S8192x1024 .f32) (r : Fin 8192) (l : Fin 1024) :
    quo x d (ix2 r l) = Ideal.div ((∑ k : Fin 1024, x (ix2 r k) * d (ix2 r k)) * (Ideal.ofBits .f32 0xBF000000#32 * Ideal.div (Ideal.rsqrt (var x (ix2 r 0))) (var x (ix2 r 0)))) (Ideal.ofBits .f32 0x44800000#32) := by
  pointwise [quo]
  exact Fin.sum_univ_one _

/-- The gain's gradient of the reference. -/
def gsum (x : FVec Ideal S8192x1024 .f32) (w : FVec Ideal S1x1024x1536 .f32) (du : FVec Ideal S8192x1536 .bf16) : FVec Ideal S1x1024 .f32 :=
  broadcastInDim S1x1024 ![1] bcast_S1024_S1x1024_1 (Host.reduceAdd (shapeCast _ (Host.reduceAdd (mulf (mulf x (broadcastInDim S8192x1024 ![0, 1] bcast_S8192x1_S8192x1024_0_1 (Host.rsqrt (var x)))) (Host.dotGeneral dot_S8192x1536_S1024x1536_S8192x1024_1_1_0_0_n_n none (extf .f32 du bitsLt_bf16_f32) (shapeCast _ w shapeCasts_S1x1024x1536_S1024x1536))) (constant S_ .f32 0x00000000#32) reducesTo_S8192x1024_S1024_d0 h_S_) shapeCasts_S1024_S1x1024) (constant S_ .f32 0x00000000#32) reducesTo_S1x1024_S1024_d0 h_S_)

theorem gsum_at (x : FVec Ideal S8192x1024 .f32) (w : FVec Ideal S1x1024x1536 .f32) (du : FVec Ideal S8192x1536 .bf16) (l : Fin 1024) :
    gsum x w du (ix2 0 l) = ∑ r : Fin 8192, x (ix2 r l) * Ideal.rsqrt (var x (ix2 r 0)) * (∑ k : Fin 1536, du (ix2 r k) * w (ix3 0 l k)) := by
  pointwise [gsum]
  exact Fin.sum_univ_one _

/-- The rows' gradient of the reference. -/
def rows (x : FVec Ideal S8192x1024 .f32) (g : FVec Ideal S1x1024 .f32) (w : FVec Ideal S1x1024x1536 .f32) (d2 : FVec Ideal S8192x1024 .f32) (du : FVec Ideal S8192x1536 .bf16) : FVec Ideal S8192x1024 .f32 :=
  addf (addf (addf d2 (mulf (dxh w g du) (broadcastInDim S8192x1024 ![0, 1] bcast_S8192x1_S8192x1024_0_1 (Host.rsqrt (var x)))))
      (mulf x (quo x (dxh w g du)))) (mulf (quo x (dxh w g du)) x)

open RowNorm in
/-- On finite arrays the reference's rows are the kernel's form of the gradient. -/
theorem rows_at (x : FVec Ideal S8192x1024 .f32) (g : FVec Ideal S1x1024 .f32) (w : FVec Ideal S1x1024x1536 .f32) (d2 : FVec Ideal S8192x1024 .f32) (du : FVec Ideal S8192x1536 .bf16)
    (hx : ∀ j, Fin' (x j)) (hg : ∀ j, Fin' (g j)) (hw : ∀ j, Fin' (w j)) (hdu : ∀ j, Fin' (du j)) (r : Fin 8192) (l : Fin 1024) :
    rows x g w d2 du (ix2 r l) = d2 (ix2 r l) + kdn (Ideal.ofBits .f32 0x44800000#32) (Ideal.ofBits .f32 0x358637BD#32)
      (fun k : Fin 1024 => x (ix2 r k)) (fun k => (∑ p : Fin 1536, du (ix2 r p) * w (ix3 0 k p)) * g (ix2 0 k)) l := by
  rw [c1024, ceps]
  have hv := var_at x r
  have hq := quo_at x (dxh w g du) r l
  rw [c1024, cneghalf] at hq
  rw [c1024, ceps] at hv
  have hd : (fun k : Fin 1024 => (∑ p : Fin 1536, du (ix2 r p) * w (ix3 0 k p)) * g (ix2 0 k)) = fun k => dxh w g du (ix2 r k) :=
    funext fun k => (dxh_at w g du r k).symm
  rw [hd]
  have hf : ∀ k : Fin 1024, Fin' (dxh w g du (ix2 r k)) := fun k => by
    rw [dxh_at]; exact fin_mul (fin_sum _ _ fun p => fin_mul (hdu _) (hw _)) (hg _)
  rw [← chain_eq (by norm_num) (d2 (ix2 r l)) (fun k => hx (ix2 r k)) hf l _ _ hv hq]
  pointwise [rows]

end Cert.MixInRefIdeal.Hand

end
-- ==== Proof.MixInClaim.lean ====
/- The claims about the mixer input projection's backward call. -/
module

public import proofs.«01_k».proof.Defs
public import proofs.«01_k».proof.Proof.MixInPre
public import proofs.«01_k».proof.Proof.MixInValue
public import proofs.«01_k».proof.Proof.Gen.MixIn.Frame

@[expose] public section

set_option maxRecDepth 16384

noncomputable section

open Idealize.ShloMosaic Idealize.ShloMosaic.TcCoe Idealize.SL.Sem
open Cert.MixInIdeal

namespace Cert.MixInClaim

/-- The reference ends with its arguments unchanged and every counter zero. -/
theorem ref_frame : Cert.quiescent_MixInRefIdeal (hMixInRefIdeal := Cert.MixInRefIdeal.Gen.facts) := fun m g _ =>
  (θ_run _ _ _).mono (fun r h => ⟨fun c => (h c).2.2, sem_eq_zero_of_no_sems (by decide) r.2⟩) (Cert.MixInRefIdeal.Value.run m g)

/-- The reference's first result is the kernel's, on finite arrays. -/
theorem rows_eq (m : (ℓ : Loc nD τ sig) → Buf (Elt Ideal) ℓ) (c : Dev nD)
    (x : FVec Ideal Cert.MixInRefIdeal.S8192x1024 .f32) (g : FVec Ideal Cert.MixInRefIdeal.S1x1024 .f32) (w : FVec Ideal Cert.MixInRefIdeal.S1x1024x1536 .f32) (d2 : FVec Ideal Cert.MixInRefIdeal.S8192x1024 .f32) (du : FVec Ideal Cert.MixInRefIdeal.S8192x1536 .bf16)
    (hx : ∀ j, RowNorm.Fin' (x j)) (hg : ∀ j, RowNorm.Fin' (g j)) (hw : ∀ j, RowNorm.Fin' (w j)) (hdu : ∀ j, RowNorm.Fin' (du j))
    (e0 : m ((c.tc : Thread nD τ).loc main_arg0) = x)
    (e1 : m ((c.tc : Thread nD τ).loc main_arg1) = g)
    (e2 : m ((c.tc : Thread nD τ).loc main_arg2) = w)
    (e3 : m ((c.tc : Thread nD τ).loc main_arg3) = d2)
    (e4 : m ((c.tc : Thread nD τ).loc main_arg4) = du) :
    (Gen.dats m 0 c).arrAt 5 cfg0.N = Cert.MixInRefIdeal.Hand.rows x g w d2 du := by
  subst e0 e1 e2 e3 e4
  rw [Hand.final5]
  funext j
  obtain ⟨r, l, rfl⟩ : ∃ (r : Fin 8192) (l : Fin 1024), j = ix2 r l := ⟨j 0, j 1, eq_ix2 j⟩
  exact (Cert.MixInRefIdeal.Hand.rows_at _ _ _ _ _ hx hg hw hdu r l).symm

/-- The reference's second result is the kernel's. -/
theorem gain_eq (m : (ℓ : Loc nD τ sig) → Buf (Elt Ideal) ℓ) (c : Dev nD)
    (x : FVec Ideal Cert.MixInRefIdeal.S8192x1024 .f32) (w : FVec Ideal Cert.MixInRefIdeal.S1x1024x1536 .f32) (du : FVec Ideal Cert.MixInRefIdeal.S8192x1536 .bf16)
    (e0 : m ((c.tc : Thread nD τ).loc main_arg0) = x)
    (e2 : m ((c.tc : Thread nD τ).loc main_arg2) = w)
    (e4 : m ((c.tc : Thread nD τ).loc main_arg4) = du) :
    (Gen.dats m 0 c).arrAt 6 cfg0.N = Cert.MixInRefIdeal.Hand.gsum x w du := by
  subst e0 e2 e4
  rw [Hand.final6]
  funext j
  obtain ⟨l, rfl⟩ : ∃ l : Fin 1024, j = ix2 (0 : Fin 1) l := ⟨j 1, by rw [eq_ix2 j]; congr 1; exact Subsingleton.elim _ _⟩
  refine Eq.trans ?_ (Cert.MixInRefIdeal.Hand.gsum_at _ _ _ l).symm
  refine Finset.sum_congr rfl fun r _ => ?_
  rw [Cert.MixInRefIdeal.Hand.var_at]
  exact mul_comm _ _

/-- The value claim of the call: both results are the reference's. -/
theorem algebraic : Cert.algebraic_MixInIdeal_MixInRefIdeal_pre_finite_mix_in (hMixInIdeal := Gen.facts) (hMixInRefIdeal := Cert.MixInRefIdeal.Gen.facts) (hPre_finite_mix_in := Cert.Pre_finite_mix_in.side) := by
  haveI := Cert.Pre_finite_mix_in.side
  intro m g m' g' hpre hagree
  have hfin := fun c => Cert.Pre_finite_mix_in.finite _ _ _ _ _ (hpre c)
  refine ⟨_, _, Value.run_blocks m g, ?_⟩
  refine (θ_run _ _ _).mono (fun r h c => ?_) (Cert.MixInRefIdeal.Value.run m' g')
  obtain ⟨h0, h1, h2, h3, h4⟩ := hagree c
  obtain ⟨fx, fg, fw, fdu⟩ := hfin c
  refine ⟨(h c).1.trans ?_, (h c).2.1.trans ?_, (h c).2.2⟩
  · exact (rows_eq m c _ _ _ _ _ (h0 ▸ fx) (h1 ▸ fg) (h2 ▸ fw) (h4 ▸ fdu) h0.symm h1.symm h2.symm h3.symm h4.symm).symm
  · exact (gain_eq m c _ _ _ h0.symm h2.symm h4.symm).symm

end Cert.MixInClaim

end
-- ==== Proof.PoolSpec.lean ====
/- The pool half of the mixer's backward pass over the real numbers: what every row's pooled value, gate and gradient are.
   Rows are natural numbers, so that a tile's row and the row of the whole array are one number. -/
module

public import proofs.«01_k».proof.Proof.RowNorm

@[expose] public section

set_option maxRecDepth 16384

noncomputable section

namespace Cert.Pool

open Cert.RowNorm

/-- The arrays the pool half is computed from. -/
structure Arrays where
  /-- The cotangent of the block's output. -/
  d2 : ℕ → Fin 1024 → ℝ
  /-- The pool's input columns. -/
  u : ℕ → Fin 512 → ℝ
  /-- The pool's weight, one matrix for each group of columns. -/
  wp : Fin 4 → Fin 128 → Fin 128 → ℝ
  /-- The pool's bias. -/
  pb : Fin 512 → ℝ
  /-- The pool's scale. -/
  ps : Fin 512 → ℝ
  /-- The gain of the pool's norm. -/
  gp : Fin 512 → ℝ
  /-- The rows of the output weight that the pool's columns meet. -/
  wo : Fin 512 → Fin 1024 → ℝ

variable (A : Arrays)

/-- The length of the window that group `g`'s columns are averaged over. -/
def win (g : ℕ) : ℕ := 2 ^ (g + 1)

/-- How many rows the window that ends at row `t` holds. -/
def cnt (w t : ℕ) : ℝ := ((min (t + 1) w : ℕ) : ℝ)

theorem cnt_pos {w : ℕ} (hw : 0 < w) (t : ℕ) : 0 < cnt w t := by
  unfold cnt; exact_mod_cast lt_min (Nat.succ_pos t) hw

theorem cnt_late {w t : ℕ} (h : w ≤ t + 1) : cnt w t = w := by
  unfold cnt; rw [min_eq_right h]

theorem win_pos (g : ℕ) : 0 < win g := Nat.pos_of_ne_zero (by unfold win; positivity)

/-- The input with sixteen rows of zeros in front. -/
def pad (p : ℕ) (j : Fin 512) : ℝ := if p < 16 then 0 else A.u (p - 16) j

/-- The column `c` of half `h`. -/
def col (h : Fin 2) (c : Fin 256) : Fin 512 := ⟨256 * h.val + c.val, by omega⟩

/-- The lane `k` of group `g`. -/
def lane (g : Fin 4) (k : Fin 128) : Fin 512 := ⟨128 * g.val + k.val, by omega⟩

/-- The group of a column. -/
def grp (j : Fin 512) : Fin 4 := ⟨j.val / 128, by omega⟩

/-- The half of a column, and its place there. -/
def half (j : Fin 512) : Fin 2 := ⟨j.val / 256, by omega⟩

/-- The place of a column in its half. -/
def low (j : Fin 512) : Fin 256 := ⟨j.val % 256, by omega⟩

/-- The two group weights of a half on the diagonal of one matrix. -/
def bd (h : Fin 2) (a b : Fin 256) : ℝ :=
  if a.val / 128 = b.val / 128 then A.wp ⟨2 * h.val + a.val / 128, by omega⟩ ⟨a.val % 128, by omega⟩ ⟨b.val % 128, by omega⟩ else 0

/-- The mean over the window, less the row itself. -/
def pooled (t : ℕ) (j : Fin 512) : ℝ :=
  (∑ d ∈ Finset.range (win (j.val / 128)), pad A (t + 16 - d) j) / cnt (win (j.val / 128)) t - pad A (t + 16) j

/-- The pooled row through the weight, and the bias. -/
def zp (t : ℕ) (j : Fin 512) : ℝ := ∑ c : Fin 256, pooled A t (col (half j) c) * bd A (half j) c (low j) + A.pb j

/-- The scaled row. -/
def yp (t : ℕ) (j : Fin 512) : ℝ := zp A t j * A.ps j

/-- The cotangent of the normalised row. -/
def dyn (t : ℕ) (j : Fin 512) : ℝ := ∑ k : Fin 1024, A.d2 t k * A.wo j k

/-- The normalised row. -/
def xh (t : ℕ) (j : Fin 512) : ℝ := yp A t j * rstd 512 (yp A t)

/-- The cotangent of the scaled row. -/
def dy (t : ℕ) (j : Fin 512) : ℝ := dnorm 512 (yp A t) (fun k => dyn A t k * A.gp k) j

/-- The cotangent of the weighted row. -/
def dz (t : ℕ) (j : Fin 512) : ℝ := dy A t j * A.ps j

/-- The cotangent of the pooled row. -/
def dp (t : ℕ) (j : Fin 512) : ℝ := ∑ c : Fin 256, dz A t (col (half j) c) * bd A (half j) (low j) c

/-- The cotangent of the window's sum: nothing past the last row. -/
def fw (t : ℕ) (j : Fin 512) : ℝ := if t < 8192 then dp A t j / cnt (win (j.val / 128)) t else 0

/-- The input's gradient. -/
def du (t : ℕ) (j : Fin 512) : ℝ := ∑ d ∈ Finset.range (win (j.val / 128)), fw A (t + d) j - dp A t j

end Cert.Pool

end
-- ==== Proof.PoolPre.lean ====
/- What the mixer claim's precondition says of the argument arrays: every entry of the arrays it names is a real number. -/
module

public import proofs.«01_k».proof.Proof.PoolSpec
public import proofs.«01_k».proof.Pre_finite_pool
public import Idealize.ShloMosaic.Lib.Pointwise

@[expose] public section

set_option maxRecDepth 16384

noncomputable section

open Idealize.ShloMosaic

namespace Cert.Pre_finite_pool

open Facts

/-- The side conditions of the predicate's operations. -/
theorem side : Facts where
  bcast_S_S8192x1024 := by decide
  reducesTo_S8192x1024_S_d0_1 := by decide
  h_S_ := by decide
  bcast_S_S8192x1536 := by decide
  reducesTo_S8192x1536_S_d0_1 := by decide
  bcast_S_S1x4x128x128 := by decide
  reducesTo_S1x4x128x128_S_d0_1_2_3 := by decide
  bcast_S_S1x512 := by decide
  reducesTo_S1x512_S_d0_1 := by decide
  bcast_S_S1x1024x1024 := by decide
  reducesTo_S1x1024x1024_S_d0_1_2 := by decide
  bcast_S_S1x4x512 := by decide
  reducesTo_S1x4x512_S_d0_1_2 := by decide
  bcast_S_S1x8x64x64 := by decide
  reducesTo_S1x8x64x64_S_d0_1_2_3 := by decide

variable [Facts]

/-- A comparison bit of the predicate, decoded. -/
theorem bit {s : Shape} (a b : FVec Ideal s .f32) (j : s.Idx) (hb : b j = Ideal.ofBits .f32 0x7F800000#32)
    (h : cmpf .olt (Host.absf a) b j = 1#1) : RowNorm.Fin' (a j) := by
  have h' : Ideal.cmp .olt (max (a j) (-(a j))) (b j) = 1#1 := h
  rw [hb, RowNorm.cinf] at h'
  refine RowNorm.fin_of_abs_lt ?_
  by_contra hc
  simp only [Ideal.cmp, hc, decide_false, BitVec.ofBool, cond_false] at h'
  exact absurd h' (by decide)

/-- Both parts of a conjunction hold. -/
theorem and_one {a b : IVec S_ 1} (h : andi a b = fun _ => 1#1) : (a = fun _ => 1#1) ∧ (b = fun _ => 1#1) := by
  have key : ∀ x y : BitVec 1, x &&& y = 1#1 → x = 1#1 ∧ y = 1#1 := by decide
  exact ⟨funext fun j => (key _ _ (congrFun h j)).1, funext fun j => (key _ _ (congrFun h j)).2⟩

/-- A conjunction over a whole array holds at every entry. -/
theorem all_of {s : Shape} {axes : List (Fin s.rank)} (a b : FVec Ideal s .f32) (init : IVec S_ 1) (hr : s.ReducesTo axes S_) (hu : 0 < S_.numel)
    (hb : ∀ j, b j = Ideal.ofBits .f32 0x7F800000#32)
    (h : Host.reduce IntOp.andi (cmpf .olt (Host.absf a) b) init hr hu = fun _ => 1#1) (j : s.Idx) : RowNorm.Fin' (a j) :=
  bit a b j (hb j) (Host.reduce_andi_all _ _ _ _ (fun k => k.elim0) (congrFun h _) j)

set_option maxRecDepth 65536 in
set_option maxHeartbeats 1000000 in
/-- The predicate's meaning. -/
theorem finite (a0 a1 : FVec Ideal S8192x1024 .f32) (a2 : FVec Ideal S8192x1536 .f32) (a3 : FVec Ideal S1x1024 .f32) (a4 : FVec Ideal S1x4x512 .f32) (a5 : FVec Ideal S1x512 .f32)
    (a6 : FVec Ideal S1x8x64x64 .f32) (a7 : FVec Ideal S1x512 .f32) (a8 : FVec Ideal S1x8x64x64 .f32) (a9 a10 : FVec Ideal S1x512 .f32) (a11 : FVec Ideal S1x4x128x128 .f32)
    (a12 a13 a14 a15 : FVec Ideal S1x512 .f32) (a16 : FVec Ideal S1x1024x1024 .f32)
    (h : fn (F := Ideal) a0 a1 a2 a3 a4 a5 a6 a7 a8 a9 a10 a11 a12 a13 a14 a15 a16 = fun _ => 1#1) :
    (∀ j, RowNorm.Fin' (a0 j)) ∧ (∀ j, RowNorm.Fin' (a2 j)) ∧ (∀ j, RowNorm.Fin' (a11 j)) ∧ (∀ j, RowNorm.Fin' (a12 j)) ∧ (∀ j, RowNorm.Fin' (a13 j)) ∧ (∀ j, RowNorm.Fin' (a15 j)) ∧ (∀ j, RowNorm.Fin' (a16 j)) ∧ (∀ j, RowNorm.Fin' (a4 j)) ∧ (∀ j, RowNorm.Fin' (a5 j)) ∧ (∀ j, RowNorm.Fin' (a6 j)) ∧ (∀ j, RowNorm.Fin' (a7 j)) ∧ (∀ j, RowNorm.Fin' (a8 j)) ∧ (∀ j, RowNorm.Fin' (a9 j)) ∧ (∀ j, RowNorm.Fin' (a10 j)) := by
  dsimp only [fn, fn_part1, fn_part2, fn_part3, fn_part4] at h
  obtain ⟨h, h14⟩ := and_one h
  obtain ⟨h, h13⟩ := and_one h
  obtain ⟨h, h12⟩ := and_one h
  obtain ⟨h, h11⟩ := and_one h
  obtain ⟨h, h10⟩ := and_one h
  obtain ⟨h, h9⟩ := and_one h
  obtain ⟨h, h8⟩ := and_one h
  obtain ⟨h, h7⟩ := and_one h
  obtain ⟨h, h6⟩ := and_one h
  obtain ⟨h, h5⟩ := and_one h
  obtain ⟨h, h4⟩ := and_one h
  obtain ⟨h, h3⟩ := and_one h
  obtain ⟨h1, h2⟩ := and_one h
  exact ⟨all_of _ _ _ _ _ (fun _ => rfl) h1, all_of _ _ _ _ _ (fun _ => rfl) h2, all_of _ _ _ _ _ (fun _ => rfl) h3, all_of _ _ _ _ _ (fun _ => rfl) h4, all_of _ _ _ _ _ (fun _ => rfl) h5, all_of _ _ _ _ _ (fun _ => rfl) h6, all_of _ _ _ _ _ (fun _ => rfl) h7, all_of _ _ _ _ _ (fun _ => rfl) h8, all_of _ _ _ _ _ (fun _ => rfl) h9, all_of _ _ _ _ _ (fun _ => rfl) h10, all_of _ _ _ _ _ (fun _ => rfl) h11, all_of _ _ _ _ _ (fun _ => rfl) h12, all_of _ _ _ _ _ (fun _ => rfl) h13, all_of _ _ _ _ _ (fun _ => rfl) h14⟩

end Cert.Pre_finite_pool

end
-- ==== Proof.PoolBody.lean ====
/- What the mixer's backward body computes for the pool, at one tile of rows: each stored value read at an entry,
   as the number that the specification gives the tile's row. -/
module

public import proofs.«01_k».proof.Proof.PoolSpec
public import proofs.«01_k».proof.Proof.Gen.MixerIdeal.Loops
public import proofs.«01_k».proof.Proof.Gen.MixerIdeal.Launch
public import proofs.«01_k».proof.Proof.Gen.MixerIdeal.Points
public import Idealize.ShloMosaic.Lib.KernelVsHost
public import Idealize.ShloMosaic.Lib.Pipeline.ValueKit

@[expose] public section

set_option maxRecDepth 16384

noncomputable section

namespace Cert.Pool

open Cert.MixerIdeal Cert.MixerIdeal.Gen
open Idealize.ShloMosaic Idealize.ShloMosaic.TcCoe
open Cert.RowNorm (coe_sum rstd dnorm eps ceps div_coe_coe rstd_eq)

/-! ## Window sums by doubling -/

/-- From row `w - 1` on, `V` holds the sums of the `w` rows of `e` that end at the row. -/
def Back (V : FVec Ideal S528x128 .f32) (e : ℕ → Fin 128 → ℝ) (w : ℕ) : Prop :=
  ∀ (p : Fin 528) (k : Fin 128), w ≤ p.val + 1 → V (ix2 p k) = ((∑ d ∈ Finset.range w, e (p.val - d) k : ℝ) : EReal)

/-- Up to row `528 - w`, `V` holds the sums of the `w` rows of `e` that begin at the row. -/
def Fwd (V : FVec Ideal S528x128 .f32) (e : ℕ → Fin 128 → ℝ) (w : ℕ) : Prop :=
  ∀ (p : Fin 528) (k : Fin 128), p.val + w ≤ 528 → V (ix2 p k) = ((∑ d ∈ Finset.range w, e (p.val + d) k : ℝ) : EReal)

theorem back_one {V : FVec Ideal S528x128 .f32} {e : ℕ → Fin 128 → ℝ} (h : ∀ (p : Fin 528) (k : Fin 128), V (ix2 p k) = ((e p.val k : ℝ) : EReal)) :
    Back V e 1 := fun p k _ => by rw [h, Finset.sum_range_one, Nat.sub_zero]

theorem fwd_one {V : FVec Ideal S528x128 .f32} {e : ℕ → Fin 128 → ℝ} (h : ∀ (p : Fin 528) (k : Fin 128), V (ix2 p k) = ((e p.val k : ℝ) : EReal)) :
    Fwd V e 1 := fun p k _ => by rw [h, Finset.sum_range_one, Nat.add_zero]

/-- A rotation by `w` rows and an addition double the windows that end at a row. -/
theorem back_step {V : FVec Ideal S528x128 .f32} {e : ℕ → Fin 128 → ℝ} {w : ℕ} (h : Back V e w) (n : BitVec 32) (hn : n.toNat = w) (h0 : 0 < w) (hw : w ≤ 264)
    (hr : S528x128.Rotates 0 none) : Back (addf V (dynamicRotate 0 n none V hr)) e (2 * w) := by
  intro p k hp
  have hq : (p.val + 528 - n.toNat % 528) % 528 = p.val - w := by rw [hn]; omega
  have e1 : dynamicRotate 0 n none V hr (ix2 p k) = V (ix2 ⟨p.val - w, by omega⟩ k) := by
    refine dynamicRotate_apply 0 n V hr _ _ fun b => ?_
    match b with
    | ⟨0, _⟩ => exact hq.symm
    | ⟨1, _⟩ => rfl
  show V (ix2 p k) + dynamicRotate 0 n none V hr (ix2 p k) = _
  rw [e1, h p k (by omega), h ⟨p.val - w, by omega⟩ k (by show w ≤ p.val - w + 1; omega), ← EReal.coe_add, two_mul, Finset.sum_range_add]
  congr 2
  exact Finset.sum_congr rfl fun d _ => by rw [Nat.sub_sub]

/-- A rotation back by `w` rows and an addition double the windows that begin at a row. -/
theorem fwd_step {V : FVec Ideal S528x128 .f32} {e : ℕ → Fin 128 → ℝ} {w : ℕ} (h : Fwd V e w) (n : BitVec 32) (hn : n.toNat = 528 - w) (h0 : 0 < w) (hw : w ≤ 264)
    (hr : S528x128.Rotates 0 none) : Fwd (addf V (dynamicRotate 0 n none V hr)) e (2 * w) := by
  intro p k hp
  have hq : (p.val + 528 - n.toNat % 528) % 528 = p.val + w := by rw [hn]; omega
  have e1 : dynamicRotate 0 n none V hr (ix2 p k) = V (ix2 ⟨p.val + w, by omega⟩ k) := by
    refine dynamicRotate_apply 0 n V hr _ _ fun b => ?_
    match b with
    | ⟨0, _⟩ => exact hq.symm
    | ⟨1, _⟩ => rfl
  show V (ix2 p k) + dynamicRotate 0 n none V hr (ix2 p k) = _
  rw [e1, h p k (by omega), h ⟨p.val + w, by omega⟩ k (by show p.val + w + w ≤ 528; omega), ← EReal.coe_add, two_mul, Finset.sum_range_add]
  congr 2
  exact Finset.sum_congr rfl fun d _ => by rw [Nat.add_assoc]

/-! ## The counts -/

/-- The first sixteen rows' reciprocal counts, as the body computes them from the tile's number. -/
theorem head_word (w : BitVec 32) (it : ℕ) (p : Fin 16)
    (h : (IntOp.minsi (IntOp.addi (IntOp.addi (Scalar.muli (BitVec.ofNat 32 it) 512#32) (BitVec.ofNat 32 p.val)) 1#32) w).toInt = (min (512 * it + p.val + 1) w.toNat : ℕ))
    (hw : 0 < w.toNat) :
    Ideal.div 1 (FloatOps.sitofp (F := Ideal) .f32 (IntOp.minsi (IntOp.addi (IntOp.addi (Scalar.muli (BitVec.ofNat 32 it) 512#32) (BitVec.ofNat 32 p.val)) 1#32) w))
      = ((1 / cnt w.toNat (512 * it + p.val) : ℝ) : EReal) := by
  show Ideal.div 1 ((((IntOp.minsi (IntOp.addi (IntOp.addi (Scalar.muli (BitVec.ofNat 32 it) 512#32) (BitVec.ofNat 32 p.val)) 1#32) w).toInt : ℝ)) : EReal) = _
  rw [h, show (1 : EReal) = ((1 : ℝ) : EReal) from rfl, Int.cast_natCast]
  exact div_coe_coe 1 (cnt_pos hw _).ne'

theorem word2 : ∀ (it p : Fin 16), (IntOp.minsi (IntOp.addi (IntOp.addi (Scalar.muli (BitVec.ofNat 32 it.val) 512#32) (BitVec.ofNat 32 p.val)) 1#32) 2#32).toInt = (min (512 * it.val + p.val + 1) 2 : ℕ) := by decide +kernel
theorem word4 : ∀ (it p : Fin 16), (IntOp.minsi (IntOp.addi (IntOp.addi (Scalar.muli (BitVec.ofNat 32 it.val) 512#32) (BitVec.ofNat 32 p.val)) 1#32) 4#32).toInt = (min (512 * it.val + p.val + 1) 4 : ℕ) := by decide +kernel
theorem word8 : ∀ (it p : Fin 16), (IntOp.minsi (IntOp.addi (IntOp.addi (Scalar.muli (BitVec.ofNat 32 it.val) 512#32) (BitVec.ofNat 32 p.val)) 1#32) 8#32).toInt = (min (512 * it.val + p.val + 1) 8 : ℕ) := by decide +kernel
theorem word16 : ∀ (it p : Fin 16), (IntOp.minsi (IntOp.addi (IntOp.addi (Scalar.muli (BitVec.ofNat 32 it.val) 512#32) (BitVec.ofNat 32 p.val)) 1#32) 16#32).toInt = (min (512 * it.val + p.val + 1) 16 : ℕ) := by decide +kernel

variable (it : Fin 16)

theorem inv0 (p : Fin 16) : k1_pay189 (F := Ideal) (BitVec.ofNat 32 it.val) (ix2 p 0) = ((1 / cnt (win 0) (512 * it.val + p.val) : ℝ) : EReal) := by
  pointwise [k1_pay189, k1_pay188]
  exact head_word 2#32 it.val p (word2 it p) (by decide)

theorem inv1 (p : Fin 16) : k1_pay192 (F := Ideal) (k1_pay188 (BitVec.ofNat 32 it.val)) (ix2 p 0) = ((1 / cnt (win 1) (512 * it.val + p.val) : ℝ) : EReal) := by
  pointwise [k1_pay192, k1_pay188]
  exact head_word 4#32 it.val p (word4 it p) (by decide)

theorem inv2 (p : Fin 16) : k1_pay194 (F := Ideal) (k1_pay188 (BitVec.ofNat 32 it.val)) (ix2 p 0) = ((1 / cnt (win 2) (512 * it.val + p.val) : ℝ) : EReal) := by
  pointwise [k1_pay194, k1_pay188]
  exact head_word 8#32 it.val p (word8 it p) (by decide)

theorem inv3 (p : Fin 16) : k1_pay197 (F := Ideal) (k1_pay188 (BitVec.ofNat 32 it.val)) (ix2 p 0) = ((1 / cnt (win 3) (512 * it.val + p.val) : ℝ) : EReal) := by
  pointwise [k1_pay197, k1_pay188]
  exact head_word 16#32 it.val p (word16 it p) (by decide)

/-! ## The pooled rows -/

/-- The rows of a group divided by their counts: the first sixteen by the counts, the others by the window's length. -/
def over (inv : FVec Ideal S16x1 .f32) (S : FVec Ideal S512x128 .f32) (b : BitVec FTy.f32.bits) : FVec Ideal S512x128 .f32 :=
  concatenate S512x128 0 [⟨S16x128, mulf (extractStridedSlice S16x128 ![0, 0] S slices_S512x128_o0_0_S16x128) (broadcastTo S16x128 inv broadcasts_S16x1_S16x128)⟩,
    ⟨S496x128, mulf (extractStridedSlice S496x128 ![16, 0] S slices_S512x128_o16_0_S496x128) (broadcast S496x128 (Scalar.ofBits .f32 b : Ideal .f32))⟩] concatenates_S16x128_S496x128_S512x128_d0

/-- The mean over the window that ends at a row, less the row. -/
def lessRow (M : FVec Ideal S512x128 .f32) (v : FVec Ideal S528x128 .f32) : FVec Ideal S512x128 .f32 :=
  subf M (extractStridedSlice S512x128 ![16, 0] v slices_S528x128_o16_0_S512x128)

/-- The window's sums at the tile's own rows. -/
def rows (S : FVec Ideal S528x128 .f32) : FVec Ideal S512x128 .f32 := extractStridedSlice S512x128 ![16, 0] S slices_S528x128_o16_0_S512x128

theorem over_at {g : ℕ} {inv : FVec Ideal S16x1 .f32} {S : FVec Ideal S512x128 .f32} {b : BitVec FTy.f32.bits} {f : ℕ → Fin 128 → ℝ} (hg : g < 4)
    (hinv : ∀ p : Fin 16, inv (ix2 p 0) = ((1 / cnt (win g) (512 * it.val + p.val) : ℝ) : EReal)) (hb : Ideal.ofBits .f32 b = ((1 / (win g : ℕ) : ℝ) : EReal))
    (hS : ∀ (i : Fin 512) (k : Fin 128), S (ix2 i k) = ((f i.val k : ℝ) : EReal)) (i : Fin 512) (k : Fin 128) :
    over inv S b (ix2 i k) = ((f i.val k / cnt (win g) (512 * it.val + i.val) : ℝ) : EReal) := by
  have hw : win g ≤ 16 := by unfold win; interval_cases g <;> decide
  unfold over
  pointwise
  split
  · rename_i h
    rw [hS, hinv, ← EReal.coe_mul]
    congr 1
    show f i.val k * (1 / cnt (win g) (512 * it.val + i.val)) = _
    ring
  · rename_i h
    have hc : cnt (win g) (512 * it.val + i.val) = ((win g : ℕ) : ℝ) := cnt_late (by omega)
    have hf : f (16 + (i.val - 16)) k = f i.val k := congrArg (fun n => f n k) (by omega)
    refine (congrArg₂ (fun a b : EReal => a * b) (hS _ _) hb).trans ?_
    show ((f (16 + (i.val - 16)) k : ℝ) : EReal) * ((1 / (win g : ℕ) : ℝ) : EReal) = _
    rw [hf, ← EReal.coe_mul, hc]
    refine congrArg (fun r : ℝ => (r : EReal)) ?_
    ring

variable (A : Arrays)

/-- A group's pooled rows. -/
theorem pooled_at (g : Fin 4) {inv : FVec Ideal S16x1 .f32} {S v : FVec Ideal S528x128 .f32} {b : BitVec FTy.f32.bits}
    (hinv : ∀ p : Fin 16, inv (ix2 p 0) = ((1 / cnt (win g.val) (512 * it.val + p.val) : ℝ) : EReal)) (hb : Ideal.ofBits .f32 b = ((1 / (win g.val : ℕ) : ℝ) : EReal))
    (hv : ∀ (p : Fin 528) (k : Fin 128), v (ix2 p k) = ((pad A (512 * it.val + p.val) (lane g k) : ℝ) : EReal))
    (hS : Back S (fun p k => pad A (512 * it.val + p) (lane g k)) (win g.val)) (i : Fin 512) (k : Fin 128) :
    lessRow (over inv (rows S) b) v (ix2 i k) = ((pooled A (512 * it.val + i.val) (lane g k) : ℝ) : EReal) := by
  have hw : win g.val ≤ 16 := by have := g.isLt; unfold win; interval_cases g.val <;> decide
  have hl : (lane g k).val / 128 = g.val := by show (128 * g.val + k.val) / 128 = g.val; omega
  have h1 := over_at it (inv := inv) (S := rows S) (b := b) (f := fun i k => ∑ d ∈ Finset.range (win g.val), pad A (512 * it.val + i + 16 - d) (lane g k)) g.isLt hinv hb
    (fun i k => by
      unfold rows
      pointwise
      rw [hS _ _ (by show win g.val ≤ 16 + i.val + 1; omega)]
      congr 1
      refine Finset.sum_congr rfl fun d hd => ?_
      have := Finset.mem_range.mp hd
      exact congrArg (fun n => pad A n (lane g k)) (by show 512 * it.val + (16 + i.val - d) = _; omega)) i k
  unfold lessRow
  pointwise
  rw [h1, hv, ← EReal.coe_sub, pooled, hl]
  congr 3
  show 512 * it.val + (16 + i.val) = _
  omega

/-- Half, quarter, eighth and sixteenth. -/
theorem chalf : Ideal.ofBits .f32 0x3F000000#32 = ((1 / (win 0 : ℕ) : ℝ) : EReal) := by
  simp [Ideal.ofBits, Ideal.ieee, win, -EReal.coe_mul]; norm_num
theorem cquarter : Ideal.ofBits .f32 0x3E800000#32 = ((1 / (win 1 : ℕ) : ℝ) : EReal) := by
  simp [Ideal.ofBits, Ideal.ieee, win, -EReal.coe_mul]; norm_num
theorem ceighth : Ideal.ofBits .f32 0x3E000000#32 = ((1 / (win 2 : ℕ) : ℝ) : EReal) := by
  simp [Ideal.ofBits, Ideal.ieee, win, -EReal.coe_mul]; norm_num
theorem csixteenth : Ideal.ofBits .f32 0x3D800000#32 = ((1 / (win 3 : ℕ) : ℝ) : EReal) := by
  simp [Ideal.ofBits, Ideal.ieee, win, -EReal.coe_mul]; norm_num

/-- `512.0`. -/
theorem c512 : Ideal.ofBits .f32 0x44000000#32 = ((512 : ℝ) : EReal) := by
  simp [Ideal.ofBits, Ideal.ieee, -EReal.coe_mul]; norm_num

/-- The tile's input rows of group `g`, the sixteen rows before them in front. -/
def EIn (g : Fin 4) (v : FVec Ideal S528x128 .f32) : Prop :=
  ∀ (p : Fin 528) (k : Fin 128), v (ix2 p k) = ((pad A (512 * it.val + p.val) (lane g k) : ℝ) : EReal)

variable {A} {it}

theorem pool0 {v : FVec Ideal S528x128 .f32} (hv : EIn it A 0 v) (i : Fin 512) (k : Fin 128) :
    k1_pay190 (F := Ideal) (BitVec.ofNat 32 it.val) v (ix2 i k) = ((pooled A (512 * it.val + i.val) (lane 0 k) : ℝ) : EReal) :=
  pooled_at it A 0 (inv0 it) chalf hv (back_step (back_one (e := fun p k => pad A (512 * it.val + p) (lane 0 k)) hv) 1#32 rfl (by decide) (by decide) rotates_S528x128_d0) i k

theorem pool1 {v : FVec Ideal S528x128 .f32} (hv : EIn it A 1 v) (i : Fin 512) (k : Fin 128) :
    k1_pay193 (F := Ideal) (k1_pay188 (BitVec.ofNat 32 it.val)) v (k1_pay191 v) (ix2 i k) = ((pooled A (512 * it.val + i.val) (lane 1 k) : ℝ) : EReal) :=
  pooled_at it A 1 (inv1 it) cquarter hv (back_step (back_step (back_one (e := fun p k => pad A (512 * it.val + p) (lane 1 k)) hv) 1#32 rfl (by decide) (by decide) rotates_S528x128_d0) 2#32 rfl (by decide) (by decide) rotates_S528x128_d0) i k

theorem pool2 {v : FVec Ideal S528x128 .f32} (hv : EIn it A 2 v) (i : Fin 512) (k : Fin 128) :
    k1_pay195 (F := Ideal) (k1_pay188 (BitVec.ofNat 32 it.val)) v (ix2 i k) = ((pooled A (512 * it.val + i.val) (lane 2 k) : ℝ) : EReal) :=
  pooled_at it A 2 (inv2 it) ceighth hv (back_step (back_step (back_step (back_one (e := fun p k => pad A (512 * it.val + p) (lane 2 k)) hv) 1#32 rfl (by decide) (by decide) rotates_S528x128_d0) 2#32 rfl (by decide) (by decide) rotates_S528x128_d0) 4#32 rfl (by decide) (by decide) rotates_S528x128_d0) i k

/-- The last group's pooled rows, from the sum that the body has formed by its first rotation. -/
def pool3v (it : Fin 16) (v : FVec Ideal S528x128 .f32) : FVec Ideal S512x128 .f32 :=
  let a := addf (k1_pay196 v) (dynamicRotate 0 2#32 none (k1_pay196 v) rotates_S528x128_d0)
  let b := addf a (dynamicRotate 0 4#32 none a rotates_S528x128_d0)
  let d := addf b (dynamicRotate 0 8#32 none b rotates_S528x128_d0)
  lessRow (over (k1_pay197 (F := Ideal) (k1_pay188 (BitVec.ofNat 32 it.val))) (rows d) 0x3D800000#32) v

theorem pool3 {v : FVec Ideal S528x128 .f32} (hv : EIn it A 3 v) (i : Fin 512) (k : Fin 128) :
    pool3v it v (ix2 i k) = ((pooled A (512 * it.val + i.val) (lane 3 k) : ℝ) : EReal) :=
  pooled_at it A 3 (inv3 it) csixteenth hv (back_step (back_step (back_step (back_step (back_one (e := fun p k => pad A (512 * it.val + p) (lane 3 k)) hv) 1#32 rfl (by decide) (by decide) rotates_S528x128_d0) 2#32 rfl (by decide) (by decide) rotates_S528x128_d0) 4#32 rfl (by decide) (by decide) rotates_S528x128_d0) 8#32 rfl (by decide) (by decide) rotates_S528x128_d0) i k

/-- The four groups side by side. -/
def side4 (a b c d : FVec Ideal S512x128 .f32) : FVec Ideal S512x512 .f32 :=
  concatenate S512x512 1 [⟨S512x128, a⟩, ⟨S512x128, b⟩, ⟨S512x128, c⟩, ⟨S512x128, d⟩] concatenates_S512x128_S512x128_S512x128_S512x128_S512x512_d1

theorem side4_at {a b c d : FVec Ideal S512x128 .f32} {f : ℕ → Fin 512 → ℝ} {o : ℕ}
    (ha : ∀ (i : Fin 512) (k : Fin 128), a (ix2 i k) = ((f (o + i.val) (lane 0 k) : ℝ) : EReal))
    (hb : ∀ (i : Fin 512) (k : Fin 128), b (ix2 i k) = ((f (o + i.val) (lane 1 k) : ℝ) : EReal))
    (hc : ∀ (i : Fin 512) (k : Fin 128), c (ix2 i k) = ((f (o + i.val) (lane 2 k) : ℝ) : EReal))
    (hd : ∀ (i : Fin 512) (k : Fin 128), d (ix2 i k) = ((f (o + i.val) (lane 3 k) : ℝ) : EReal)) (i j : Fin 512) :
    side4 a b c d (ix2 i j) = ((f (o + i.val) j : ℝ) : EReal) := by
  unfold side4
  pointwise
  have hj := j.isLt
  split
  · rename_i h
    rw [ha]
    exact congrArg (fun j => ((f (o + i.val) j : ℝ) : EReal)) (Fin.ext (by show 128 * 0 + j.val = j.val; omega))
  · split
    · rename_i h h'
      rw [hb]
      exact congrArg (fun j => ((f (o + i.val) j : ℝ) : EReal)) (Fin.ext (by show 128 * 1 + (j.val - 128) = j.val; omega))
    · split
      · rename_i h h' h''
        rw [hc]
        exact congrArg (fun j => ((f (o + i.val) j : ℝ) : EReal)) (Fin.ext (by show 128 * 2 + (j.val - 128 - 128) = j.val; omega))
      · rename_i h h' h''
        rw [hd]
        exact congrArg (fun j => ((f (o + i.val) j : ℝ) : EReal)) (Fin.ext (by show 128 * 3 + (j.val - 128 - 128 - 128) = j.val; omega))

/-- The pooled rows of the tile. -/
theorem pool_at {v0 v1 v2 v3 : FVec Ideal S528x128 .f32} (h0 : EIn it A 0 v0) (h1 : EIn it A 1 v1) (h2 : EIn it A 2 v2) (h3 : EIn it A 3 v3) (i j : Fin 512) :
    k1_pay198 (F := Ideal) (k1_pay188 (BitVec.ofNat 32 it.val)) (k1_pay190 (BitVec.ofNat 32 it.val) v0) (k1_pay193 (k1_pay188 (BitVec.ofNat 32 it.val)) v1 (k1_pay191 v1))
      (k1_pay195 (k1_pay188 (BitVec.ofNat 32 it.val)) v2) v3 (k1_pay196 v3) 2#32 (ix2 i j) = ((pooled A (512 * it.val + i.val) j : ℝ) : EReal) :=
  side4_at (f := pooled A) (o := 512 * it.val) (pool0 h0) (pool1 h1) (pool2 h2) (pool3 h3) i j

/-! ## From the pooled rows to the gradients -/

/-- The packed vectors' rows that the pool half reads: bias, scale and gain. -/
structure Rows (A : Arrays) (r : FVec Ideal S16x512 .f32) : Prop where
  pb : ∀ j : Fin 512, r (ix2 8 j) = ((A.pb j : ℝ) : EReal)
  ps : ∀ j : Fin 512, r (ix2 9 j) = ((A.ps j : ℝ) : EReal)
  gp : ∀ j : Fin 512, r (ix2 11 j) = ((A.gp j : ℝ) : EReal)

/-- Half `h` of the block-diagonal weight. -/
def Wt (A : Arrays) (h : Fin 2) (w : FVec Ideal S1x256x256 .bf16) : Prop := ∀ a b : Fin 256, w (ix3 0 a b) = ((bd A h a b : ℝ) : EReal)

/-- A tile's rows hold `f`. -/
def Holds (it : Fin 16) (f : ℕ → Fin 512 → ℝ) {φ : FTy} (v : FVec Ideal S512x512 φ) : Prop :=
  ∀ i j : Fin 512, v (ix2 i j) = ((f (512 * it.val + i.val) j : ℝ) : EReal)

/-- The product with the output weight holds the normalised rows' cotangent in its last columns. -/
def Cot (A : Arrays) (it : Fin 16) (q : FVec Ideal S512x1024 .f32) : Prop :=
  ∀ i j : Fin 512, q (ix2 i ⟨512 + j.val, by omega⟩) = ((dyn A (512 * it.val + i.val) j : ℝ) : EReal)

/-- Each row's sum of squares. -/
def Sq (A : Arrays) (it : Fin 16) (s : FVec Ideal S512x1 .f32) : Prop :=
  ∀ i : Fin 512, s (ix2 i 0) = ((∑ k, yp A (512 * it.val + i.val) k * yp A (512 * it.val + i.val) k : ℝ) : EReal)

theorem col_first {j : Fin 512} (h : j.val < 256) (c : Fin 256) : col (half j) c = ⟨c.val, by omega⟩ :=
  Fin.ext (by show 256 * (j.val / 256) + c.val = c.val; omega)

theorem col_second {j : Fin 512} (h : ¬j.val < 256) (c : Fin 256) : col (half j) c = ⟨256 + c.val, by omega⟩ :=
  Fin.ext (by show 256 * (j.val / 256) + c.val = 256 + c.val; omega)

theorem half_first {j : Fin 512} (h : j.val < 256) : half j = 0 := Fin.ext (by show j.val / 256 = 0; omega)
theorem half_second {j : Fin 512} (h : ¬j.val < 256) : half j = 1 := Fin.ext (by show j.val / 256 = 1; omega)
theorem low_first {j : Fin 512} (h : j.val < 256) : low j = ⟨j.val, h⟩ := Fin.ext (by show j.val % 256 = j.val; omega)
theorem low_second {j : Fin 512} (h : ¬j.val < 256) : low j = ⟨j.val - 256, by omega⟩ := Fin.ext (by show j.val % 256 = j.val - 256; omega)

section Gates

variable {r : FVec Ideal S16x512 .f32} {s : IVec S16x1 32} {a b d : FVec Ideal S512x128 .f32} {v e : FVec Ideal S528x128 .f32} {n : BitVec 32}
  {w1 w2 : FVec Ideal S1x256x256 .bf16}

theorem zp_at (hP : Holds it (pooled A) (k1_pay198 s a b d v e n)) (hr : Rows A r) (h1 : Wt A 0 w1) (h2 : Wt A 1 w2) :
    Holds it (zp A) (k1_pay199 r s a b d v e n w1 w2) := by
  intro i j
  pointwise [k1_pay199]
  rw [hr.pb]
  split
  · rename_i h
    simp only [hP i _, h1 _ _, ← EReal.coe_mul, coe_sum, ← EReal.coe_add]
    rw [zp, half_first h, low_first h]
    simp only [← half_first h, col_first h]
  · rename_i h
    simp only [hP i _, h2 _ _, ← EReal.coe_mul, coe_sum, ← EReal.coe_add]
    rw [zp, half_second h, low_second h]
    simp only [← half_second h, col_second h]

theorem yp_at (hP : Holds it (pooled A) (k1_pay198 s a b d v e n)) (hr : Rows A r) (h1 : Wt A 0 w1) (h2 : Wt A 1 w2) :
    Holds it (yp A) (k1_pay201 r s a b d v e n w1 w2) := by
  intro i j
  pointwise [k1_pay201, k1_pay200]
  rw [zp_at hP hr h1 h2 i j, hr.ps, ← EReal.coe_mul]
  rfl

theorem sq_at (hP : Holds it (pooled A) (k1_pay198 s a b d v e n)) (hr : Rows A r) (h1 : Wt A 0 w1) (h2 : Wt A 1 w2) :
    Sq A it (k1_pay202 r s a b d v e n w1 w2) := by
  intro i
  pointwise [k1_pay202]
  simp only [yp_at hP hr h1 h2 i _, ← EReal.coe_mul, coe_sum]

end Gates

section Norm

variable {r : FVec Ideal S16x512 .f32} {q : FVec Ideal S512x1024 .f32} {y : FVec Ideal S512x512 .f32} {s : FVec Ideal S512x1 .f32} {g : FVec Ideal S1x512 .f32}

theorem rstd_at (hs : Sq A it s) (i : Fin 512) : k1_pay204 s k1_pay203 (ix2 i 0) = ((rstd 512 (yp A (512 * it.val + i.val)) : ℝ) : EReal) := by
  pointwise [k1_pay204, k1_pay203]
  rw [hs i, c512, ceps, ← rstd_eq (by norm_num)]
  simp only [← EReal.coe_mul, coe_sum]

theorem xh_at (hy : Holds it (yp A) y) (hs : Sq A it s) : Holds it (xh A) (k1_pay206 y s k1_pay203) := by
  intro i j
  pointwise [k1_pay206]
  rw [hy i j, rstd_at hs i, ← EReal.coe_mul]
  rfl

theorem dy_at (hr : Rows A r) (hq : Cot A it q) (hy : Holds it (yp A) y) (hs : Sq A it s) : Holds it (dy A) (k1_pay207 r q y s k1_pay203) := by
  intro i j
  pointwise [k1_pay207, k1_pay205]
  simp only [hr.gp, hq i _, xh_at hy hs i _, rstd_at hs i, c512, ← EReal.coe_mul, coe_sum]
  rw [div_coe_coe _ (by norm_num)]
  simp only [← EReal.coe_mul, ← EReal.coe_sub]
  rfl

/-- The tile's part of the gain's gradient. -/
theorem dgain_at (hq : Cot A it q) (hy : Holds it (yp A) y) (hs : Sq A it s) (j : Fin 512) :
    k1_pay208 q y s k1_pay203 (ix2 0 j) = ((∑ i : Fin 512, dyn A (512 * it.val + i.val) j * xh A (512 * it.val + i.val) j : ℝ) : EReal) := by
  pointwise [k1_pay208, k1_pay205]
  simp only [hq _ j, xh_at hy hs _ j, ← EReal.coe_mul, coe_sum]

theorem dz_at (hr : Rows A r) (hq : Cot A it q) (hy : Holds it (yp A) y) (hs : Sq A it s) :
    Holds it (dz A) (k1_pay209 r q (k1_pay200 r) y s k1_pay203) := by
  intro i j
  pointwise [k1_pay209, k1_pay200]
  rw [dy_at hr hq hy hs i j, hr.ps, ← EReal.coe_mul]
  rfl

theorem dzb_at (hr : Rows A r) (hq : Cot A it q) (hy : Holds it (yp A) y) (hs : Sq A it s) :
    Holds it (dz A) (k1_pay210 r q (k1_pay200 r) y s k1_pay203) := dz_at hr hq hy hs

/-- The tile's part of the bias's gradient. -/
theorem dbias_at (hr : Rows A r) (hq : Cot A it q) (hy : Holds it (yp A) y) (hs : Sq A it s) (j : Fin 512) :
    k1_pay232 (k1_pay209 r q (k1_pay200 r) y s k1_pay203) (ix2 0 j) = ((∑ i : Fin 512, dz A (512 * it.val + i.val) j : ℝ) : EReal) := by
  pointwise [k1_pay232]
  simp only [dz_at hr hq hy hs _ j, coe_sum]

/-- The tile's part of the scale's gradient. -/
theorem dscale_at {z : FVec Ideal S512x512 .f32} (hz : Holds it (zp A) z) (hr : Rows A r) (hq : Cot A it q) (hy : Holds it (yp A) y) (hs : Sq A it s) (j : Fin 512) :
    k1_pay233 z (k1_pay207 r q y s k1_pay203) (ix2 0 j) = ((∑ i : Fin 512, dy A (512 * it.val + i.val) j * zp A (512 * it.val + i.val) j : ℝ) : EReal) := by
  pointwise [k1_pay233]
  simp only [dy_at hr hq hy hs _ j, hz _ j, ← EReal.coe_mul, coe_sum]

/-- The tile's part of the weight's gradient, added to what was there. -/
theorem dweight_at {P : FVec Ideal S512x512 .bf16} (hP : Holds it (pooled A) P) (hr : Rows A r) (hq : Cot A it q) (hy : Holds it (yp A) y) (hs : Sq A it s)
    (W : FVec Ideal S2x256x256 .f32) (h : Fin 2) (a b : Fin 256) :
    k1_pay211 r q P (k1_pay200 r) y s k1_pay203 W (ix3 h a b)
      = W (ix3 h a b) + ((∑ i : Fin 512, pooled A (512 * it.val + i.val) (col h a) * dz A (512 * it.val + i.val) (col h b) : ℝ) : EReal) := by
  pointwise [k1_pay211]
  congr 1
  simp only [hP _ _, dzb_at hr hq hy hs _ _, ← EReal.coe_mul, coe_sum]
  have hh : h = 0 ∨ h = 1 := by have := h.isLt; rcases (by omega : h.val = 0 ∨ h.val = 1) with e | e <;> [left; right] <;> exact Fin.ext e
  rcases hh with rfl | rfl
  · rw [dif_pos (by decide)]
    refine congrArg (fun r : ℝ => (r : EReal)) (Finset.sum_congr rfl fun i _ => ?_)
    rw [show col 0 a = ⟨a.val, by omega⟩ from Fin.ext (by show 256 * 0 + a.val = a.val; omega), show col 0 b = ⟨b.val, by omega⟩ from Fin.ext (by show 256 * 0 + b.val = b.val; omega)]
  · rw [dif_neg (by decide)]
    rfl

/-- The pooled rows' cotangent. -/
theorem dp_at {w1 w2 : FVec Ideal S1x256x256 .bf16} (h1 : Wt A 0 w1) (h2 : Wt A 1 w2) (hr : Rows A r) (hq : Cot A it q) (hy : Holds it (yp A) y) (hs : Sq A it s) :
    Holds it (dp A) (k1_pay214 (F := Ideal) (k1_pay210 r q (k1_pay200 r) y s k1_pay203) (k1_pay212 r q (k1_pay200 r) y s k1_pay203) (k1_pay213 w1)
      (constant S512x256 FTy.f32 0#32) w2) := by
  intro i j
  pointwise [k1_pay214, k1_pay212, k1_pay213]
  split
  · rename_i h
    simp only [dzb_at hr hq hy hs i _, h1 _ _, ← EReal.coe_mul, coe_sum]
    rw [dp, half_first h, low_first h]
    simp only [← half_first h, col_first h]
  · rename_i h
    simp only [dzb_at hr hq hy hs i _, h2 _ _, ← EReal.coe_mul, coe_sum]
    rw [dp, half_second h, low_second h]
    simp only [← half_second h, col_second h]

end Norm

/-! ## The windows' cotangents and the input's gradient -/

/-- A group's rows of the windows' cotangent. -/
def FIn (A : Arrays) (it : Fin 16) (g : Fin 4) (v : FVec Ideal S512x128 .f32) : Prop :=
  ∀ (i : Fin 512) (k : Fin 128), v (ix2 i k) = ((fw A (512 * it.val + i.val) (lane g k) : ℝ) : EReal)

/-- A group's rows of the windows' cotangent, the sixteen rows after them behind. -/
def EOut (A : Arrays) (it : Fin 16) (g : Fin 4) (v : FVec Ideal S528x128 .f32) : Prop :=
  ∀ (p : Fin 528) (k : Fin 128), v (ix2 p k) = ((fw A (512 * it.val + p.val) (lane g k) : ℝ) : EReal)

theorem lane_grp (g : Fin 4) (k : Fin 128) : (lane g k).val / 128 = g.val := by show (128 * g.val + k.val) / 128 = g.val; omega

/-- The rows of one group divided by their counts. -/
theorem f_of (g : Fin 4) {inv : FVec Ideal S16x1 .f32} {S : FVec Ideal S512x128 .f32} {b : BitVec FTy.f32.bits}
    (hinv : ∀ p : Fin 16, inv (ix2 p 0) = ((1 / cnt (win g.val) (512 * it.val + p.val) : ℝ) : EReal)) (hb : Ideal.ofBits .f32 b = ((1 / (win g.val : ℕ) : ℝ) : EReal))
    (hS : ∀ (i : Fin 512) (k : Fin 128), S (ix2 i k) = ((dp A (512 * it.val + i.val) (lane g k) : ℝ) : EReal)) : FIn A it g (over inv S b) := by
  intro i k
  rw [over_at it (g := g.val) (f := fun i k => dp A (512 * it.val + i) (lane g k)) g.isLt hinv hb hS i k, fw, if_pos (by omega), lane_grp]

section Windows

variable {P : FVec Ideal S512x512 .bf16} {Q : FVec Ideal S512x256 .bf16} {w : FVec Ideal S256x256 .bf16} {z : FVec Ideal S512x256 .f32} {w2 : FVec Ideal S1x256x256 .bf16}

theorem f0_at (hd : Holds it (dp A) (k1_pay214 P Q w z w2)) : FIn A it 0 (k1_pay215 (k1_pay189 (BitVec.ofNat 32 it.val)) P Q w z w2) := by
  intro i k
  refine Eq.trans ?_ (f_of 0 (inv0 it) chalf (S := extractStridedSlice S512x128 ![0, 0] (k1_pay214 P Q w z w2) slices_S512x512_o0_0_S512x128) (fun i k => ?_) i k)
  · unfold k1_pay215; rw [shapeCast_self]; rfl
  · pointwise
    rw [hd]; exact congrArg (fun j => ((dp A (512 * it.val + i.val) j : ℝ) : EReal)) (Fin.ext (by show k.val = 128 * 0 + k.val; omega))

theorem f1_at (hd : Holds it (dp A) (k1_pay214 P Q w z w2)) : FIn A it 1 (k1_pay216 (k1_pay192 (k1_pay188 (BitVec.ofNat 32 it.val))) P Q w z w2) := by
  intro i k
  refine Eq.trans ?_ (f_of 1 (inv1 it) cquarter (S := extractStridedSlice S512x128 ![0, 128] (k1_pay214 P Q w z w2) slices_S512x512_o0_128_S512x128) (fun i k => ?_) i k)
  · unfold k1_pay216; rw [shapeCast_self]; rfl
  · pointwise
    rw [hd]; rfl

theorem f2_at (hd : Holds it (dp A) (k1_pay214 P Q w z w2)) : FIn A it 2 (k1_pay217 (k1_pay194 (k1_pay188 (BitVec.ofNat 32 it.val))) P Q w z w2) := by
  intro i k
  refine Eq.trans ?_ (f_of 2 (inv2 it) ceighth (S := extractStridedSlice S512x128 ![0, 256] (k1_pay214 P Q w z w2) slices_S512x512_o0_256_S512x128) (fun i k => ?_) i k)
  · unfold k1_pay217; rw [shapeCast_self]; rfl
  · pointwise
    rw [hd]; rfl

theorem f3_at (hd : Holds it (dp A) (k1_pay214 P Q w z w2)) :
    FIn A it 3 (k1_pay221 (k1_pay219 (k1_pay197 (k1_pay188 (BitVec.ofNat 32 it.val))) P Q w z w2) (k1_pay220 P Q w z w2)) := by
  intro i k
  refine Eq.trans ?_ (f_of 3 (inv3 it) csixteenth (S := extractStridedSlice S512x128 ![0, 384] (k1_pay214 P Q w z w2) slices_S512x512_o0_384_S512x128) (fun i k => ?_) i k)
  · unfold k1_pay221; rw [shapeCast_self]; rfl
  · pointwise
    rw [hd]; rfl

/-- The sum over the windows that begin at a row, less the row's own cotangent. -/
def lessDp (S : FVec Ideal S528x128 .f32) (D : FVec Ideal S512x128 .f32) : FVec Ideal S512x128 .bf16 :=
  truncf .bf16 (subf (extractStridedSlice S512x128 ![0, 0] S slices_S528x128_o0_0_S512x128) D) bitsLt_bf16_f32

theorem du_of (g : Fin 4) {S : FVec Ideal S528x128 .f32} {D : FVec Ideal S512x128 .f32}
    (hS : Fwd S (fun p k => fw A (512 * it.val + p) (lane g k)) (win g.val)) (hD : ∀ (i : Fin 512) (k : Fin 128), D (ix2 i k) = ((dp A (512 * it.val + i.val) (lane g k) : ℝ) : EReal))
    (i : Fin 512) (k : Fin 128) : lessDp S D (ix2 i k) = ((du A (512 * it.val + i.val) (lane g k) : ℝ) : EReal) := by
  have hw : win g.val ≤ 16 := by have := g.isLt; unfold win; interval_cases g.val <;> decide
  unfold lessDp
  pointwise
  rw [hS _ _ (by show i.val + win g.val ≤ 528; omega), hD, ← EReal.coe_sub, du, lane_grp]
  refine congrArg (fun r : ℝ => ((r - dp A (512 * it.val + i.val) (lane g k) : ℝ) : EReal)) (Finset.sum_congr rfl fun d _ => ?_)
  exact congrArg (fun n => fw A n (lane g k)) (by show 512 * it.val + (i.val + d) = _; omega)

variable {D : FVec Ideal S512x512 .f32} {v : FVec Ideal S528x128 .f32}

theorem du0_at (hD : Holds it (dp A) D) (hv : EOut A it 0 v) (i : Fin 512) (k : Fin 128) :
    k1_pay223 (F := Ideal) D v (ix2 i k) = ((du A (512 * it.val + i.val) (lane 0 k) : ℝ) : EReal) :=
  du_of 0 (fwd_step (fwd_one (e := fun p k => fw A (512 * it.val + p) (lane 0 k)) hv) 527#32 rfl (by decide) (by decide) rotates_S528x128_d0)
    (D := extractStridedSlice S512x128 ![0, 0] D slices_S512x512_o0_0_S512x128)
    (fun i k => by pointwise; rw [hD]; exact congrArg (fun j => ((dp A (512 * it.val + i.val) j : ℝ) : EReal)) (Fin.ext (by show k.val = 128 * 0 + k.val; omega))) i k

theorem du1_at (hD : Holds it (dp A) D) (hv : EOut A it 1 v) (i : Fin 512) (k : Fin 128) :
    k1_pay224 (F := Ideal) D v (ix2 i k) = ((du A (512 * it.val + i.val) (lane 1 k) : ℝ) : EReal) :=
  du_of 1 (fwd_step (fwd_step (fwd_one (e := fun p k => fw A (512 * it.val + p) (lane 1 k)) hv) 527#32 rfl (by decide) (by decide) rotates_S528x128_d0)
      526#32 rfl (by decide) (by decide) rotates_S528x128_d0)
    (D := extractStridedSlice S512x128 ![0, 128] D slices_S512x512_o0_128_S512x128)
    (fun i k => by pointwise; rw [hD]; rfl) i k

theorem du2_at (hD : Holds it (dp A) D) (hv : EOut A it 2 v) (i : Fin 512) (k : Fin 128) :
    k1_pay226 (F := Ideal) D (k1_pay225 v) 524#32 (ix2 i k) = ((du A (512 * it.val + i.val) (lane 2 k) : ℝ) : EReal) :=
  du_of 2 (fwd_step (fwd_step (fwd_step (fwd_one (e := fun p k => fw A (512 * it.val + p) (lane 2 k)) hv) 527#32 rfl (by decide) (by decide) rotates_S528x128_d0)
      526#32 rfl (by decide) (by decide) rotates_S528x128_d0) 524#32 rfl (by decide) (by decide) rotates_S528x128_d0)
    (D := extractStridedSlice S512x128 ![0, 256] D slices_S512x512_o0_256_S512x128)
    (fun i k => by pointwise; rw [hD]; rfl) i k

theorem du3_at (hD : Holds it (dp A) D) (hv : EOut A it 3 v) (i : Fin 512) (k : Fin 128) :
    k1_pay227 (F := Ideal) D v (ix2 i k) = ((du A (512 * it.val + i.val) (lane 3 k) : ℝ) : EReal) :=
  du_of 3 (fwd_step (fwd_step (fwd_step (fwd_step (fwd_one (e := fun p k => fw A (512 * it.val + p) (lane 3 k)) hv) 527#32 rfl (by decide) (by decide) rotates_S528x128_d0)
      526#32 rfl (by decide) (by decide) rotates_S528x128_d0) 524#32 rfl (by decide) (by decide) rotates_S528x128_d0) 520#32 rfl (by decide) (by decide) rotates_S528x128_d0)
    (D := extractStridedSlice S512x128 ![0, 384] D slices_S512x512_o0_384_S512x128)
    (fun i k => by pointwise; rw [hD]; rfl) i k

end Windows

end Cert.Pool

end
-- ==== Proof.PoolTile.lean ====
/- One tile of the backward body's pool half: the lists of stored rectangles, read back at an entry. -/
module

public import proofs.«01_k».proof.Proof.PoolBody
public import Idealize.ShloMosaic.Lib.WholeRead

@[expose] public section

set_option maxRecDepth 16384

noncomputable section

namespace Cert.Pool

open Cert.MixerIdeal Cert.MixerIdeal.Gen
open Idealize.ShloMosaic Idealize.ShloMosaic.TcCoe
open Cert.RowNorm (coe_sum rstd dnorm eps ceps div_coe_coe rstd_eq)

/-- A rectangle of a matrix sends its entry to the entry shifted by its corner. -/
theorem idx2 {n m n' m' a b : ℕ} (inb : ∀ k : Fin 2, (![a, b] : Fin 2 → ℕ) k + (![n, m] : Fin 2 → ℕ) k ≤ (⟨2, ![n', m']⟩ : Shape).size k) (i : Fin n) (j : Fin m)
    (hi : a + i.val < n') (hj : b + j.val < m') :
    (Rect.unit (s := ⟨2, ![n', m']⟩) ![a, b] ![n, m] inb).toLoadRect.idx (ix2 i j) = ix2 ⟨a + i.val, hi⟩ ⟨b + j.val, hj⟩ := by
  funext k
  match k with
  | ⟨0, _⟩ => exact Fin.ext (by show a + 1 * i.val = a + i.val; omega)
  | ⟨1, _⟩ => exact Fin.ext (by show b + 1 * j.val = b + j.val; omega)

/-- A rectangle of a stack of matrices likewise. -/
theorem idx3 {l n m l' n' m' o a b : ℕ} (inb : ∀ k : Fin 3, (![o, a, b] : Fin 3 → ℕ) k + (![l, n, m] : Fin 3 → ℕ) k ≤ (⟨3, ![l', n', m']⟩ : Shape).size k) (h : Fin l) (i : Fin n) (j : Fin m)
    (hh : o + h.val < l') (hi : a + i.val < n') (hj : b + j.val < m') :
    (Rect.unit (s := ⟨3, ![l', n', m']⟩) ![o, a, b] ![l, n, m] inb).toLoadRect.idx (ix3 h i j) = ix3 ⟨o + h.val, hh⟩ ⟨a + i.val, hi⟩ ⟨b + j.val, hj⟩ := by
  funext k
  match k with
  | ⟨0, _⟩ => exact Fin.ext (by show o + 1 * h.val = o + h.val; omega)
  | ⟨1, _⟩ => exact Fin.ext (by show a + 1 * i.val = a + i.val; omega)
  | ⟨2, _⟩ => exact Fin.ext (by show b + 1 * j.val = b + j.val; omega)

/-- An entry is in a matrix's rectangle when its row and its column are. -/
theorem mem2 {n m n' m' a b : ℕ} (inb : ∀ k : Fin 2, (![a, b] : Fin 2 → ℕ) k + (![n, m] : Fin 2 → ℕ) k ≤ (⟨2, ![n', m']⟩ : Shape).size k) (i : Fin n') (j : Fin m')
    (hi : a ≤ i.val ∧ i.val < a + n) (hj : b ≤ j.val ∧ j.val < b + m) : (ix2 i j : (⟨2, ![n', m']⟩ : Shape).Idx) ∈ (Rect.unit (s := ⟨2, ![n', m']⟩) ![a, b] ![n, m] inb).set := by
  rw [Rect.mem_set_unit]
  intro k
  match k with
  | ⟨0, _⟩ => exact hi
  | ⟨1, _⟩ => exact hj

variable {A : Arrays} {it : Fin 16}

/-! ## The input's rows, the rows before the tile in front -/

/-- The stores of the tile's input: its own rows after the sixteen before them. -/
def L14 (i : grid1.Coords) (a : FVec Ideal S512x512 .f32) (b : FVec Ideal S16x512 .f32) : List (View.Piece (Elt Ideal) S528x512 .f32) :=
  [⟨Rect.unit ![16, 0] S512x512.size inb_S528x512_S512x512_16_0, k1_pay125 (F := Ideal) a⟩, ⟨Rect.unit ![0, 0] S16x512.size inb_S528x512_S16x512_0_0, k1_pay124 (F := Ideal) i b⟩]

theorem head_at {i : grid1.Coords} (hi : Scalar.subi 15#32 (BitVec.ofNat 32 (i 0).val) = BitVec.ofNat 32 it.val) {b : FVec Ideal S16x512 .f32}
    (hb : it.val ≠ 0 → ∀ (p : Fin 16) (j : Fin 512), b (ix2 p j) = ((A.u (512 * it.val + p.val - 16) j : ℝ) : EReal)) (p : Fin 16) (j : Fin 512) :
    k1_pay124 (F := Ideal) i b (ix2 p j) = ((pad A (512 * it.val + p.val) j : ℝ) : EReal) := by
  unfold k1_pay124
  rw [shapeCast_self]
  dsimp only
  rw [hi]
  by_cases h : it.val = 0
  · rw [h]
    refine (show _ = Ideal.ofBits .f32 0x00000000#32 from rfl).trans ?_
    rw [Ideal.ofBits_zero_f32, pad, if_pos (by omega)]
    rfl
  · have hc : Scalar.cmpi .eq (BitVec.ofNat 32 it.val) 0#32 = 0#1 := by
      have : ∀ t : Fin 16, t.val ≠ 0 → Scalar.cmpi .eq (BitVec.ofNat 32 t.val) 0#32 = 0#1 := by decide +kernel
      exact this it h
    rw [hc]
    refine (show _ = b (ix2 p j) from rfl).trans ?_
    rw [hb h, pad, if_neg (by omega)]

theorem L14_at {i : grid1.Coords} (hi : Scalar.subi 15#32 (BitVec.ofNat 32 (i 0).val) = BitVec.ofNat 32 it.val) {a : FVec Ideal S512x512 .f32} {b : FVec Ideal S16x512 .f32}
    (ha : ∀ p j : Fin 512, a (ix2 p j) = ((A.u (512 * it.val + p.val) j : ℝ) : EReal))
    (hb : it.val ≠ 0 → ∀ (p : Fin 16) (j : Fin 512), b (ix2 p j) = ((A.u (512 * it.val + p.val - 16) j : ℝ) : EReal)) (p : Fin 528) (j : Fin 512) :
    View.canon (L14 i a b) (ix2 p j) = ((pad A (512 * it.val + p.val) j : ℝ) : EReal) := by
  refine (View.canon_apply_of_pieces (fun y : S528x512.Idx => ((pad A (512 * it.val + (y 0).val) (y 1) : ℝ) : EReal)) (L14 i a b) ?_ (ix2 p j) ?_)
  · intro q hq x
    simp only [L14, List.mem_cons, List.not_mem_nil, or_false] at hq
    rcases hq with rfl | rfl
    · obtain ⟨k, l, rfl⟩ : ∃ (k l : Fin 512), x = ix2 k l := ⟨x 0, x 1, eq_ix2 x⟩
      refine (show k1_pay125 a (ix2 k l) = a (ix2 k l) by unfold k1_pay125; rw [shapeCast_self]).trans ?_
      refine Eq.trans ?_ (congrArg₂ (fun t c => ((pad A t c : ℝ) : EReal)) (show 512 * it.val + 16 + k.val = 512 * it.val + (16 + 1 * k.val) by omega)
        (show l = _ from Fin.ext (by show l.val = 0 + 1 * l.val; omega)))
      rw [ha, pad, if_neg (by omega)]
      exact congrArg (fun t => ((A.u t l : ℝ) : EReal)) (by omega)
    · obtain ⟨k, l, rfl⟩ : ∃ (k : Fin 16) (l : Fin 512), x = ix2 k l := ⟨x 0, x 1, eq_ix2 x⟩
      refine (head_at hi hb k l).trans ?_
      show _ = ((pad A (512 * it.val + (0 + 1 * k.val)) _ : ℝ) : EReal)
      exact congrArg₂ (fun t c => ((pad A t c : ℝ) : EReal)) (by omega) (Fin.ext (by show l.val = 0 + 1 * l.val; omega))
  · by_cases h : p.val < 16
    · exact ⟨⟨Rect.unit ![0, 0] S16x512.size inb_S528x512_S16x512_0_0, k1_pay124 (F := Ideal) i b⟩, by unfold L14; exact List.mem_cons_of_mem _ List.mem_cons_self,
        mem2 (n := 16) (m := 512) inb_S528x512_S16x512_0_0 p j (by omega) (by omega)⟩
    · exact ⟨⟨Rect.unit ![16, 0] S512x512.size inb_S528x512_S512x512_16_0, k1_pay125 (F := Ideal) a⟩, by unfold L14; exact List.mem_cons_self,
        mem2 (n := 512) (m := 512) inb_S528x512_S512x512_16_0 p j (by omega) (by omega)⟩

/-- A read of one group's columns of the input's rows. -/
theorem ein_of {κ : Kind} {sp : Space} (v : View sig κ sp S528x512 .f32) {i : grid1.Coords} (hi : Scalar.subi 15#32 (BitVec.ofNat 32 (i 0).val) = BitVec.ofNat 32 it.val)
    {a : FVec Ideal S512x512 .f32} {b : FVec Ideal S16x512 .f32}
    (ha : ∀ p j : Fin 512, a (ix2 p j) = ((A.u (512 * it.val + p.val) j : ℝ) : EReal))
    (hb : it.val ≠ 0 → ∀ (p : Fin 16) (j : Fin 512), b (ix2 p j) = ((A.u (512 * it.val + p.val - 16) j : ℝ) : EReal)) (g : Fin 4) (o : ℕ) (ho : o = 128 * g.val)
    (inb : ∀ k : Fin 2, (![0, o] : Fin 2 → ℕ) k + (![528, 128] : Fin 2 → ℕ) k ≤ S528x512.size k) :
    EIn it A g (v.readCov (L14 i a b) (Rect.unit (s := S528x512) ![0, o] ![528, 128] inb).toLoadRect) := by
  intro p k
  subst ho
  rw [View.readCov_eq_canon']
  refine (congrArg (View.canon (L14 i a b)) (idx2 inb p k (by omega) (by omega))).trans ?_
  rw [L14_at hi ha hb]
  exact congrArg₂ (fun t c => ((pad A (512 * it.val + t) c : ℝ) : EReal)) (Nat.zero_add _) (Fin.ext rfl)

/-! ## The product with the output weight -/

/-- The row of the reordered output weight that the pool's column `j` meets. -/
def wrow (j : Fin 512) : Fin 1024 := ⟨(if j.val < 128 then 256 else if j.val < 256 then 640 else if j.val < 384 then 128 else 512) + j.val, by split_ifs <;> omega⟩

theorem cot_at {d : FVec Ideal S512x1024 .f32} {w : FVec Ideal S1024x1024 .bf16} (hd : ∀ (i : Fin 512) (k : Fin 1024), d (ix2 i k) = ((A.d2 (512 * it.val + i.val) k : ℝ) : EReal))
    (hw : ∀ (j : Fin 512) (k : Fin 1024), w (ix2 (wrow j) k) = ((A.wo j k : ℝ) : EReal)) : Cot A it (k1_pay129 d w) := by
  intro i j
  have key : ∀ r : Fin 1024, r = wrow j → (∑ k : Fin 1024, d (ix2 i k) * w (ix2 r k)) = ((dyn A (512 * it.val + i.val) j : ℝ) : EReal) := by
    rintro r rfl
    simp only [hd, hw, ← EReal.coe_mul, coe_sum]
    rfl
  pointwise [k1_pay129]
  split_ifs <;> first | (exfalso; omega) | exact key _ (Fin.ext (by unfold wrow; dsimp only; split_ifs <;> omega))

/-! ## Reading a list of stored rectangles -/

/-- A stored rectangle that the entry lies outside of is passed over. -/
theorem skip2 {n m n' m' a b : ℕ} {e : EltTy} {inb : ∀ k : Fin 2, (![a, b] : Fin 2 → ℕ) k + (![n, m] : Fin 2 → ℕ) k ≤ (⟨2, ![n', m']⟩ : Shape).size k}
    {w : (Rect.unit (s := ⟨2, ![n', m']⟩) ![a, b] ![n, m] inb).shape.Idx → Elt Ideal e} (L : List (View.Piece (Elt Ideal) ⟨2, ![n', m']⟩ e)) {i : Fin n'} {j : Fin m'}
    (h : ¬(a ≤ i.val ∧ i.val < a + n) ∨ ¬(b ≤ j.val ∧ j.val < b + m)) :
    View.canon ((⟨Rect.unit (s := ⟨2, ![n', m']⟩) ![a, b] ![n, m] inb, w⟩ : View.Piece (Elt Ideal) ⟨2, ![n', m']⟩ e) :: L) (ix2 i j) = View.canon L (ix2 i j) := by
  refine View.canon_cons_of_not_mem _ _ fun hm => ?_
  have hm' := (Rect.mem_set_unit (inb := inb)).mp hm
  rcases h with h | h
  · exact h (hm' 0)
  · exact h (hm' 1)

/-- The newest stored rectangle that holds the entry gives its value. -/
theorem hit2 {n m n' m' a b : ℕ} {e : EltTy} {inb : ∀ k : Fin 2, (![a, b] : Fin 2 → ℕ) k + (![n, m] : Fin 2 → ℕ) k ≤ (⟨2, ![n', m']⟩ : Shape).size k}
    {w : (Rect.unit (s := ⟨2, ![n', m']⟩) ![a, b] ![n, m] inb).shape.Idx → Elt Ideal e} (L : List (View.Piece (Elt Ideal) ⟨2, ![n', m']⟩ e)) {i : Fin n'} {j : Fin m'}
    (p : Fin n) (q : Fin m) (hi : i.val = a + p.val) (hj : j.val = b + q.val) :
    View.canon ((⟨Rect.unit (s := ⟨2, ![n', m']⟩) ![a, b] ![n, m] inb, w⟩ : View.Piece (Elt Ideal) ⟨2, ![n', m']⟩ e) :: L) (ix2 i j) = w (ix2 p q) := by
  have e : (ix2 i j : (⟨2, ![n', m']⟩ : Shape).Idx) = (Rect.unit (s := ⟨2, ![n', m']⟩) ![a, b] ![n, m] inb).emb (ix2 p q) := by
    refine ((idx2 inb p q (by omega) (by omega)).trans ?_).symm
    exact congrArg₂ ix2 (Fin.ext hi.symm) (Fin.ext hj.symm)
  rw [e]
  exact View.canon_cons_emb _ _ _ _

/-- Rectangles that agree with one function, over a list that agrees with it where they are not. -/
theorem canon_over {S : Shape} {e : EltTy} (G : S.Idx → Elt Ideal e) (Z : List (View.Piece (Elt Ideal) S e)) (y : S.Idx) :
    ∀ L : List (View.Piece (Elt Ideal) S e), (∀ p ∈ L, ∀ x, p.2 x = G (p.1.emb x)) → ((∀ p ∈ L, y ∉ p.1.set) → View.canon Z y = G y) → View.canon (L ++ Z) y = G y
  | [], _, hz => hz (fun _ h => absurd h List.not_mem_nil)
  | p :: L, hL, hz => by
    by_cases hm : y ∈ p.1.set
    · obtain ⟨x, rfl⟩ := p.1.exists_idx_of_mem hm
      rw [show p.1.idx x = p.1.emb x from rfl, List.cons_append, View.canon_cons_emb]
      exact hL p List.mem_cons_self x
    · rw [List.cons_append, View.canon_cons_of_not_mem _ _ hm]
      refine canon_over G Z y L (fun q hq => hL q (List.mem_cons_of_mem _ hq)) fun h => hz fun q hq => ?_
      rcases List.mem_cons.mp hq with rfl | hq'
      · exact hm
      · exact h q hq'

/-! ## The windows' cotangents -/

section Out

variable {P : FVec Ideal S512x512 .bf16} {Q : FVec Ideal S512x256 .bf16} {w : FVec Ideal S256x256 .bf16} {z : FVec Ideal S512x256 .f32} {w2 : FVec Ideal S1x256x256 .bf16}
  {s : FVec Ideal S16x512 .f32}

/-- The stores of the windows' cotangents: the tile's four groups, and the sixteen rows after the tile. -/
def L21 (b : BitVec 32) (P : FVec Ideal S512x512 .bf16) (Q : FVec Ideal S512x256 .bf16) (w : FVec Ideal S256x256 .bf16) (z : FVec Ideal S512x256 .f32) (w2 : FVec Ideal S1x256x256 .bf16)
    (s : FVec Ideal S16x512 .f32) : List (View.Piece (Elt Ideal) S528x512 .f32) :=
  [⟨Rect.unit ![512, 0] S16x512.size inb_S528x512_S16x512_512_0, k1_pay222 (F := Ideal) s⟩,
    ⟨Rect.unit ![0, 384] S512x128.size inb_S528x512_S512x128_0_384, k1_pay221 (F := Ideal) (k1_pay219 (k1_pay197 (k1_pay188 b)) P Q w z w2) (k1_pay220 P Q w z w2)⟩,
    ⟨Rect.unit ![0, 256] S512x128.size inb_S528x512_S512x128_0_256, k1_pay217 (F := Ideal) (k1_pay194 (k1_pay188 b)) P Q w z w2⟩,
    ⟨Rect.unit ![0, 128] S512x128.size inb_S528x512_S512x128_0_128, k1_pay216 (F := Ideal) (k1_pay192 (k1_pay188 b)) P Q w z w2⟩,
    ⟨Rect.unit ![0, 0] S512x128.size inb_S528x512_S512x128_0_0, k1_pay215 (F := Ideal) (k1_pay189 b) P Q w z w2⟩]

theorem L21_at (hd : Holds it (dp A) (k1_pay214 P Q w z w2)) (hs : ∀ (p : Fin 16) (j : Fin 512), s (ix2 p j) = ((fw A (512 * it.val + 512 + p.val) j : ℝ) : EReal)) (p : Fin 528) (j : Fin 512) :
    View.canon (L21 (BitVec.ofNat 32 it.val) P Q w z w2 s) (ix2 p j) = ((fw A (512 * it.val + p.val) j : ℝ) : EReal) := by
  unfold L21
  by_cases h : 512 ≤ p.val
  · refine (hit2 _ ⟨p.val - 512, by omega⟩ j (by show p.val = 512 + (p.val - 512); omega) (by omega)).trans ?_
    refine (show k1_pay222 (F := Ideal) s _ = s _ by unfold k1_pay222; rw [shapeCast_self]).trans ((hs _ _).trans ?_)
    exact congrArg (fun t => ((fw A t j : ℝ) : EReal)) (by show 512 * it.val + 512 + (p.val - 512) = _; omega)
  refine (skip2 _ (by omega)).trans ?_
  by_cases h3 : 384 ≤ j.val
  · refine (hit2 _ ⟨p.val, by omega⟩ ⟨j.val - 384, by omega⟩ (by show p.val = 0 + p.val; omega) (by show j.val = 384 + (j.val - 384); omega)).trans ((f3_at hd _ _).trans ?_)
    exact congrArg (fun j => ((fw A (512 * it.val + p.val) j : ℝ) : EReal)) (Fin.ext (by show 128 * 3 + (j.val - 384) = j.val; omega))
  refine (skip2 _ (by omega)).trans ?_
  by_cases h2 : 256 ≤ j.val
  · refine (hit2 _ ⟨p.val, by omega⟩ ⟨j.val - 256, by omega⟩ (by show p.val = 0 + p.val; omega) (by show j.val = 256 + (j.val - 256); omega)).trans ((f2_at hd _ _).trans ?_)
    exact congrArg (fun j => ((fw A (512 * it.val + p.val) j : ℝ) : EReal)) (Fin.ext (by show 128 * 2 + (j.val - 256) = j.val; omega))
  refine (skip2 _ (by omega)).trans ?_
  by_cases h1 : 128 ≤ j.val
  · refine (hit2 _ ⟨p.val, by omega⟩ ⟨j.val - 128, by omega⟩ (by show p.val = 0 + p.val; omega) (by show j.val = 128 + (j.val - 128); omega)).trans ((f1_at hd _ _).trans ?_)
    exact congrArg (fun j => ((fw A (512 * it.val + p.val) j : ℝ) : EReal)) (Fin.ext (by show 128 * 1 + (j.val - 128) = j.val; omega))
  refine (skip2 _ (by omega)).trans ?_
  refine (hit2 _ ⟨p.val, by omega⟩ ⟨j.val, by omega⟩ (by show p.val = 0 + p.val; omega) (by show j.val = 0 + j.val; omega)).trans ((f0_at hd _ _).trans ?_)
  exact congrArg (fun j => ((fw A (512 * it.val + p.val) j : ℝ) : EReal)) (Fin.ext (by show 128 * 0 + j.val = j.val; omega))

/-- A read of one group's columns of the windows' cotangents. -/
theorem eout_of {κ : Kind} {sp : Space} (v : View sig κ sp S528x512 .f32) (hd : Holds it (dp A) (k1_pay214 P Q w z w2))
    (hs : ∀ (p : Fin 16) (j : Fin 512), s (ix2 p j) = ((fw A (512 * it.val + 512 + p.val) j : ℝ) : EReal)) (g : Fin 4) (o : ℕ) (ho : o = 128 * g.val)
    (inb : ∀ k : Fin 2, (![0, o] : Fin 2 → ℕ) k + (![528, 128] : Fin 2 → ℕ) k ≤ S528x512.size k) :
    EOut A it g (v.readCov (L21 (BitVec.ofNat 32 it.val) P Q w z w2 s) (Rect.unit (s := S528x512) ![0, o] ![528, 128] inb).toLoadRect) := by
  intro p k
  subst ho
  rw [View.readCov_eq_canon']
  refine (congrArg (View.canon (L21 (BitVec.ofNat 32 it.val) P Q w z w2 s)) (idx2 inb p k (by omega) (by omega))).trans ?_
  rw [L21_at hd hs]
  exact congrArg₂ (fun t c => ((fw A (512 * it.val + t) c : ℝ) : EReal)) (Nat.zero_add _) (Fin.ext rfl)

/-- A read of the windows' cotangents' first sixteen rows: what the tile before it takes over. -/
theorem carry_of {κ : Kind} {sp : Space} (v : View sig κ sp S528x512 .f32) (hd : Holds it (dp A) (k1_pay214 P Q w z w2))
    (hs : ∀ (p : Fin 16) (j : Fin 512), s (ix2 p j) = ((fw A (512 * it.val + 512 + p.val) j : ℝ) : EReal))
    (inb : ∀ k : Fin 2, (![0, 0] : Fin 2 → ℕ) k + (![16, 512] : Fin 2 → ℕ) k ≤ S528x512.size k) (p : Fin 16) (j : Fin 512) :
    v.readCov (L21 (BitVec.ofNat 32 it.val) P Q w z w2 s) (Rect.unit (s := S528x512) ![0, 0] ![16, 512] inb).toLoadRect (ix2 p j) = ((fw A (512 * it.val + p.val) j : ℝ) : EReal) := by
  rw [View.readCov_eq_canon']
  refine (congrArg (View.canon (L21 (BitVec.ofNat 32 it.val) P Q w z w2 s)) (idx2 inb p j (by omega) (by omega))).trans ?_
  rw [L21_at hd hs]
  exact congrArg₂ (fun t c => ((fw A (512 * it.val + t) c : ℝ) : EReal)) (Nat.zero_add _) (Fin.ext (Nat.zero_add _))

end Out

/-! ## The input's gradient -/

/-- The stores of the tile's gradient: the pool's four groups over the others. -/
def L12 (D : FVec Ideal S512x512 .f32) (v0 v1 v2 v3 : FVec Ideal S528x128 .f32) (L : List (View.Piece (Elt Ideal) S512x1536 .bf16)) : List (View.Piece (Elt Ideal) S512x1536 .bf16) :=
  ⟨Rect.unit ![0, 1408] S512x128.size inb_S512x1536_S512x128_0_1408, k1_pay227 (F := Ideal) D v3⟩ ::
    ⟨Rect.unit ![0, 1280] S512x128.size inb_S512x1536_S512x128_0_1280, k1_pay226 (F := Ideal) D (k1_pay225 v2) 524#32⟩ ::
    ⟨Rect.unit ![0, 1152] S512x128.size inb_S512x1536_S512x128_0_1152, k1_pay224 (F := Ideal) D v1⟩ ::
    ⟨Rect.unit ![0, 1024] S512x128.size inb_S512x1536_S512x128_0_1024, k1_pay223 (F := Ideal) D v0⟩ :: L

theorem L12_at {D : FVec Ideal S512x512 .f32} {v0 v1 v2 v3 : FVec Ideal S528x128 .f32} (L : List (View.Piece (Elt Ideal) S512x1536 .bf16))
    (hD : Holds it (dp A) D) (h0 : EOut A it 0 v0) (h1 : EOut A it 1 v1) (h2 : EOut A it 2 v2) (h3 : EOut A it 3 v3) (i j : Fin 512) :
    View.canon (L12 D v0 v1 v2 v3 L) (ix2 i (⟨1024 + j.val, by omega⟩ : Fin 1536)) = ((du A (512 * it.val + i.val) j : ℝ) : EReal) := by
  unfold L12
  by_cases hj3 : 384 ≤ j.val
  · refine (hit2 _ i ⟨j.val - 384, by omega⟩ (by omega) (by show 1024 + j.val = 1408 + (j.val - 384); omega)).trans ((du3_at hD h3 _ _).trans ?_)
    exact congrArg (fun j => ((du A (512 * it.val + i.val) j : ℝ) : EReal)) (Fin.ext (by show 128 * 3 + (j.val - 384) = j.val; omega))
  refine (skip2 _ (.inr (by show ¬(1408 ≤ 1024 + j.val ∧ _); omega))).trans ?_
  by_cases hj2 : 256 ≤ j.val
  · refine (hit2 _ i ⟨j.val - 256, by omega⟩ (by omega) (by show 1024 + j.val = 1280 + (j.val - 256); omega)).trans ((du2_at hD h2 _ _).trans ?_)
    exact congrArg (fun j => ((du A (512 * it.val + i.val) j : ℝ) : EReal)) (Fin.ext (by show 128 * 2 + (j.val - 256) = j.val; omega))
  refine (skip2 _ (.inr (by show ¬(1280 ≤ 1024 + j.val ∧ _); omega))).trans ?_
  by_cases hj1 : 128 ≤ j.val
  · refine (hit2 _ i ⟨j.val - 128, by omega⟩ (by omega) (by show 1024 + j.val = 1152 + (j.val - 128); omega)).trans ((du1_at hD h1 _ _).trans ?_)
    exact congrArg (fun j => ((du A (512 * it.val + i.val) j : ℝ) : EReal)) (Fin.ext (by show 128 * 1 + (j.val - 128) = j.val; omega))
  refine (skip2 _ (.inr (by show ¬(1152 ≤ 1024 + j.val ∧ _); omega))).trans ?_
  refine (hit2 _ i ⟨j.val, by omega⟩ (by omega) (by show 1024 + j.val = 1024 + j.val; omega)).trans ((du0_at hD h0 _ _).trans ?_)
  exact congrArg (fun j => ((du A (512 * it.val + i.val) j : ℝ) : EReal)) (Fin.ext (by show 128 * 0 + j.val = j.val; omega))

/-! ## The block-diagonal weight -/

/-- The stores of the block-diagonal weight: its four blocks over zeros. -/
def L27 (a0 a1 a2 a3 : FVec Ideal S1x128x128 .f32) : List (View.Piece (Elt Ideal) S2x256x256 .bf16) :=
  [⟨Rect.unit ![1, 128, 128] S1x128x128.size inb_S2x256x256_S1x128x128_1_128_128, k1_pay123 (F := Ideal) a3⟩,
    ⟨Rect.unit ![1, 0, 0] S1x128x128.size inb_S2x256x256_S1x128x128_1_0_0, k1_pay122 (F := Ideal) a2⟩,
    ⟨Rect.unit ![0, 128, 128] S1x128x128.size inb_S2x256x256_S1x128x128_0_128_128, k1_pay121 (F := Ideal) a1⟩,
    ⟨Rect.unit ![0, 0, 0] S1x128x128.size inb_S2x256x256_S1x128x128_0_0_0, k1_pay120 (F := Ideal) (k1_pay31 a0)⟩] ++
  [⟨Rect.unit ![0, 0, 0] S2x256x256.size inb_S2x256x256_S2x256x256_0_0_0, k1_pay30 (F := Ideal)⟩]

theorem bd_of (h d : ℕ) (hh : h < 2) (hd : d < 2) (a b : Fin 128) (x y : Fin 256) (g : Fin 4) (hx : x.val = 128 * d + a.val) (hy : y.val = 128 * d + b.val) (hg : g.val = 2 * h + d) :
    A.wp g a b = bd A ⟨h, hh⟩ x y := by
  have e1 : x.val / 128 = d := by omega
  have e2 : y.val / 128 = d := by omega
  rw [bd, if_pos (e1.trans e2.symm)]
  congr 1
  · exact Fin.ext (by show g.val = 2 * h + x.val / 128; omega)
  · exact Fin.ext (by show a.val = x.val % 128; omega)
  · exact Fin.ext (by show b.val = y.val % 128; omega)

theorem L27_at {a0 a1 a2 a3 : FVec Ideal S1x128x128 .f32} (h0 : ∀ a b : Fin 128, a0 (ix3 0 a b) = ((A.wp 0 a b : ℝ) : EReal)) (h1 : ∀ a b : Fin 128, a1 (ix3 0 a b) = ((A.wp 1 a b : ℝ) : EReal))
    (h2 : ∀ a b : Fin 128, a2 (ix3 0 a b) = ((A.wp 2 a b : ℝ) : EReal)) (h3 : ∀ a b : Fin 128, a3 (ix3 0 a b) = ((A.wp 3 a b : ℝ) : EReal)) (h : Fin 2) (x y : Fin 256) :
    View.canon (L27 a0 a1 a2 a3) (ix3 h x y) = ((bd A h x y : ℝ) : EReal) := by
  refine canon_over (e := .bf16) (fun q : S2x256x256.Idx => ((bd A (q 0) (q 1) (q 2) : ℝ) : EReal)) _ (ix3 h x y) _ ?_ ?_
  · intro q hq t
    simp only [List.mem_cons, List.not_mem_nil, or_false] at hq
    rcases hq with rfl | rfl | rfl | rfl
    all_goals
      obtain ⟨o, a, b, rfl⟩ : ∃ (o : Fin 1) (a b : Fin 128), t = ix3 o a b := ⟨t 0, t 1, t 2, by funext k; match k with | ⟨0, _⟩ => rfl | ⟨1, _⟩ => rfl | ⟨2, _⟩ => rfl⟩
      obtain rfl : o = 0 := Subsingleton.elim _ _
    · refine (show k1_pay123 (F := Ideal) a3 (ix3 0 a b) = a3 (ix3 0 a b) by pointwise [k1_pay123]).trans ((h3 a b).trans (congrArg _ ?_))
      exact bd_of 1 1 (by decide) (by decide) a b _ _ 3 (by show 128 + 1 * a.val = _; omega) (by show 128 + 1 * b.val = _; omega) rfl
    · refine (show k1_pay122 (F := Ideal) a2 (ix3 0 a b) = a2 (ix3 0 a b) by pointwise [k1_pay122]).trans ((h2 a b).trans (congrArg _ ?_))
      exact bd_of 1 0 (by decide) (by decide) a b _ _ 2 (by show 0 + 1 * a.val = _; omega) (by show 0 + 1 * b.val = _; omega) rfl
    · refine (show k1_pay121 (F := Ideal) a1 (ix3 0 a b) = a1 (ix3 0 a b) by pointwise [k1_pay121]).trans ((h1 a b).trans (congrArg _ ?_))
      exact bd_of 0 1 (by decide) (by decide) a b _ _ 1 (by show 128 + 1 * a.val = _; omega) (by show 128 + 1 * b.val = _; omega) rfl
    · refine (show k1_pay120 (F := Ideal) (k1_pay31 a0) (ix3 0 a b) = a0 (ix3 0 a b) by pointwise [k1_pay120, k1_pay31]).trans ((h0 a b).trans (congrArg _ ?_))
      exact bd_of 0 0 (by decide) (by decide) a b _ _ 0 (by show 0 + 1 * a.val = _; omega) (by show 0 + 1 * b.val = _; omega) rfl
  · intro hn
    have key : x.val / 128 ≠ y.val / 128 := by
      intro he
      have hin : ∀ (o d : ℕ) (inb : ∀ k : Fin 3, (![o, 128 * d, 128 * d] : Fin 3 → ℕ) k + (![1, 128, 128] : Fin 3 → ℕ) k ≤ S2x256x256.size k), h.val = o → x.val / 128 = d →
          (ix3 h x y : S2x256x256.Idx) ∈ (Rect.unit (s := S2x256x256) ![o, 128 * d, 128 * d] ![1, 128, 128] inb).set := by
        intro o d inb ho hd
        rw [Rect.mem_set_unit]
        intro k
        match k with
        | ⟨0, _⟩ => show o ≤ h.val ∧ h.val < o + 1; omega
        | ⟨1, _⟩ => show 128 * d ≤ x.val ∧ x.val < 128 * d + 128; omega
        | ⟨2, _⟩ => show 128 * d ≤ y.val ∧ y.val < 128 * d + 128; omega
      rcases (by omega : h.val = 0 ∨ h.val = 1) with hh | hh <;> rcases (by omega : x.val / 128 = 0 ∨ x.val / 128 = 1) with hx | hx
      · exact hn _ (List.mem_cons_of_mem _ (List.mem_cons_of_mem _ (List.mem_cons_of_mem _ List.mem_cons_self))) (hin 0 0 inb_S2x256x256_S1x128x128_0_0_0 hh hx)
      · exact hn _ (List.mem_cons_of_mem _ (List.mem_cons_of_mem _ List.mem_cons_self)) (hin 0 1 inb_S2x256x256_S1x128x128_0_128_128 hh hx)
      · exact hn _ (List.mem_cons_of_mem _ List.mem_cons_self) (hin 1 0 inb_S2x256x256_S1x128x128_1_0_0 hh hx)
      · exact hn _ List.mem_cons_self (hin 1 1 inb_S2x256x256_S1x128x128_1_128_128 hh hx)
    have e : (ix3 h x y : S2x256x256.Idx) = (Rect.unit (s := S2x256x256) ![0, 0, 0] S2x256x256.size inb_S2x256x256_S2x256x256_0_0_0).emb (ix3 h x y) := by
      refine ((idx3 inb_S2x256x256_S2x256x256_0_0_0 h x y (by omega) (by omega) (by omega)).trans ?_).symm
      congr 1 <;> exact Fin.ext (Nat.zero_add _)
    refine (congrArg _ e).trans ((View.canon_cons_emb _ _ _ _).trans ?_)
    show k1_pay30 (F := Ideal) (ix3 h x y) = ((bd A h x y : ℝ) : EReal)
    rw [bd, if_neg key]
    pointwise [k1_pay30]
    exact EReal.coe_zero.symm

/-- A read of one half of the block-diagonal weight. -/
theorem wt_of {κ : Kind} {sp : Space} (v : View sig κ sp S2x256x256 .bf16) {a0 a1 a2 a3 : FVec Ideal S1x128x128 .f32} (h0 : ∀ a b : Fin 128, a0 (ix3 0 a b) = ((A.wp 0 a b : ℝ) : EReal))
    (h1 : ∀ a b : Fin 128, a1 (ix3 0 a b) = ((A.wp 1 a b : ℝ) : EReal)) (h2 : ∀ a b : Fin 128, a2 (ix3 0 a b) = ((A.wp 2 a b : ℝ) : EReal))
    (h3 : ∀ a b : Fin 128, a3 (ix3 0 a b) = ((A.wp 3 a b : ℝ) : EReal)) (h : Fin 2) (o : ℕ) (ho : h.val = o)
    (inb : ∀ k : Fin 3, (![o, 0, 0] : Fin 3 → ℕ) k + (![1, 256, 256] : Fin 3 → ℕ) k ≤ S2x256x256.size k) :
    Wt A h (v.readCov (L27 a0 a1 a2 a3) (Rect.unit (s := S2x256x256) ![o, 0, 0] ![1, 256, 256] inb).toLoadRect) := by
  intro a b
  rw [View.readCov_eq_canon']
  refine (congrArg (View.canon (L27 a0 a1 a2 a3)) (idx3 inb 0 a b (by show o + 0 < 2; omega) (by omega) (by omega))).trans ?_
  rw [L27_at h0 h1 h2 h3]
  have e0 : (⟨o + (0 : Fin 1).val, by show o + 0 < 2; omega⟩ : Fin 2) = h := Fin.ext (by show o + 0 = h.val; omega)
  have e1 : (⟨0 + a.val, by omega⟩ : Fin 256) = a := Fin.ext (Nat.zero_add _)
  have e2 : (⟨0 + b.val, by omega⟩ : Fin 256) = b := Fin.ext (Nat.zero_add _)
  rw [e0, e1, e2]

/-! ## The gathered rows of sums -/

section Sums

variable {a0 a1 a2 a3 a4 a5 a6 a7 a8 a9 a10 a11 : FVec Ideal S1x512 .f32} {z : FVec Ideal S4x512 .f32} {s : FVec Ideal S16x512 .f32}

theorem row8 (j : Fin 512) : k1_pay1 a10 a7 a0 a1 a2 a3 a11 a4 a5 a6 a8 a9 z s (ix2 8 j) = s (ix2 8 j) + a8 (ix2 0 j) := by
  pointwise [k1_pay1]
theorem row9 (j : Fin 512) : k1_pay1 a10 a7 a0 a1 a2 a3 a11 a4 a5 a6 a8 a9 z s (ix2 9 j) = s (ix2 9 j) + a9 (ix2 0 j) := by
  pointwise [k1_pay1]
theorem row11 (j : Fin 512) : k1_pay1 a10 a7 a0 a1 a2 a3 a11 a4 a5 a6 a8 a9 z s (ix2 11 j) = s (ix2 11 j) + a11 (ix2 0 j) := by
  pointwise [k1_pay1]

end Sums

end Cert.Pool

end
-- ==== Proof.MixOwn.lean ====
module

public import proofs.«01_k».proof.Proof.Gen.MixerIdeal.Loops
public import proofs.«01_k».proof.Proof.Gen.MixerIdeal.Launch
public import proofs.«01_k».proof.Proof.Gen.MixerIdeal.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.MixOwn

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A list of pieces stored in a buffer. -/
abbrev Ps (F : FTy → Type) (s : Shape) (e : EltTy) : Type := List (View.Piece (Elt F) s e)

variable (c : Dev nD) {s : Shape} {e : EltTy} (m : Memref sig .tc .vmem s e)

/-- The buffer, at these contents. -/
abbrev hasV (x : Vec F s e) : sProp 𝕄 := owns (c : Thread nD τ) m fullShare x

/-- The buffer, at anything. -/
abbrev hasAny : sProp 𝕄 := iprop(∃ d : Vec F s e, hasV c m d)

/-- The buffer with these pieces stored in it, over anything. -/
abbrev hasPs (L : Ps F s e) : sProp 𝕄 :=
  iprop(∃ f, m.view.loc (c : Thread nD τ) ↦[m.view.set]{fullShare} m.view.writes (Elt F) f L)

variable {c m}

/-- A whole buffer at these contents is its cells holding them. -/
theorem own_eq (h : m.IsWhole) (x : Vec F s e) :
    owns (c : Thread nD τ) m fullShare x = (m.view.loc (c : Thread nD τ) ↦[m.view.set]{fullShare} h.unread x : sProp 𝕄) := by
  have h₁ : owns (c : Thread nD τ) m fullShare x ⊢ (m.view.loc (c : Thread nD τ) ↦[m.view.set]{fullShare} h.unread x : sProp 𝕄) := by
    unfold owns
    iintro ⟨%f, %hf, H⟩
    have e := h.eq_unread hf; subst e
    iexact H
  have h₂ : (m.view.loc (c : Thread nD τ) ↦[m.view.set]{fullShare} h.unread x : sProp 𝕄) ⊢ owns (c : Thread nD τ) m fullShare x := by
    unfold owns
    iintro H
    iexists _; isplitr; · ipureintro; exact h.read_unread _
    iexact H
  exact BI.equiv_iff.mp ⟨h₁, h₂⟩

/-- A buffer holding pieces that fill it is owned at what they make. -/
theorem own_cov {L : Ps F s e} (h : ∀ y, ∃ pc ∈ L, y ∈ pc.1.set) :
    hasPs c m L ⊢ hasV c m (m.view.read (Elt F) (m.view.writes (Elt F) m.view.junk L)) := by
  unfold hasPs hasV owns
  iintro ⟨%f, H⟩
  iexists _; isplitr; swap; · iexact H
  ipureintro; exact View.read_writes_of_cover _ _ _ _ _ h

/-- A buffer with pieces stored in it is owned at something. -/
theorem own_any {L : Ps F s e} : hasPs c m L ⊢ hasAny c m := by
  unfold hasPs hasAny hasV owns
  iintro ⟨%f, H⟩
  iexists _; iexists _; isplitr; swap; · iexact H
  ipureintro; rfl

end Cert.MixOwn

end
-- ==== Proof.MixBwdLoop.lean ====
module

public import proofs.«01_k».proof.Proof.MixOwn

@[expose] public section

set_option maxRecDepth 16384

noncomputable section

namespace Cert.MixBwd

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid1.Coords)
  (arg1 : Memref sig .tc .vmem S512x1024 .f32) (harg1 : arg1.IsWhole) (arg2 : Memref sig .tc .vmem S512x1536 .f32) (harg2 : arg2.IsWhole) (arg3 : Memref sig .tc .vmem S16x512 .f32) (harg3 : arg3.IsWhole)
  (arg4 : Memref sig .tc .vmem S512x512 .f32) (harg4 : arg4.IsWhole) (arg5 : Memref sig .tc .vmem S8x512 .f32) (harg5 : arg5.IsWhole) (arg6 : Memref sig .tc .vmem S512x2048 .f32) (harg6 : arg6.IsWhole)
  (arg7 : Memref sig .tc .vmem S16x512 .f32) (harg7 : arg7.IsWhole) (arg8 : Memref sig .tc .vmem S8x64x64 .f32) (harg8 : arg8.IsWhole) (arg9 : Memref sig .tc .vmem S8x64x64 .f32) (harg9 : arg9.IsWhole)
  (arg10 : Memref sig .tc .vmem S4x128x128 .f32) (harg10 : arg10.IsWhole) (arg11 : Memref sig .tc .vmem S1024x1024 .bf16) (harg11 : arg11.IsWhole) (arg12 : Memref sig .tc .vmem S512x1536 .bf16) (harg12 : arg12.IsWhole)
  (arg13 : Memref sig .tc .vmem S544x256 .f32) (harg13 : arg13.IsWhole) (arg14 : Memref sig .tc .vmem S528x512 .f32) (harg14 : arg14.IsWhole) (arg15 : Memref sig .tc .vmem S520x512 .f32) (harg15 : arg15.IsWhole)
  (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole)
  (arg19 : Memref sig .tc .vmem S520x512 .f32) (harg19 : arg19.IsWhole) (arg20 : Memref sig .tc .vmem S520x512 .f32) (harg20 : arg20.IsWhole) (arg21 : Memref sig .tc .vmem S528x512 .f32) (harg21 : arg21.IsWhole)
  (arg22 : Memref sig .tc .vmem S8x512 .f32) (harg22 : arg22.IsWhole) (arg23 : Memref sig .tc .vmem S8x512 .f32) (harg23 : arg23.IsWhole) (arg24 : Memref sig .tc .vmem S16x512 .f32) (harg24 : arg24.IsWhole)
  (arg25 : Memref sig .tc .vmem S2x256x256 .bf16) (harg25 : arg25.IsWhole) (arg26 : Memref sig .tc .vmem S2x256x256 .bf16) (harg26 : arg26.IsWhole) (arg27 : Memref sig .tc .vmem S2x256x256 .bf16) (harg27 : arg27.IsWhole)
  (arg28 : Memref sig .tc .vmem S16x512 .f32) (harg28 : arg28.IsWhole) (arg29 : Memref sig .tc .vmem S2x256x256 .f32) (harg29 : arg29.IsWhole) (arg30 : Memref sig .tc .vmem S2x256x256 .f32) (harg30 : arg30.IsWhole)
  (arg31 : Memref sig .tc .vmem S2x256x256 .f32) (harg31 : arg31.IsWhole)

section Loop

variable (𝒱 : Variants) (bd : Option 𝒱.V) (v106 v116 : FVec F S512x512 .f32)
  (v130 : IVec S8x512 32) (X16 : BufTy.Contents (Elt F) arg16.view.ty)
  (X17 : BufTy.Contents (Elt F) arg17.view.ty) (g : BufTy.Contents (Elt F) arg19.view.ty)
  (v : Vec F S8x512 .f32) (init : Vec F S8x512 .f32)

local notation "ST" => st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v106 v116 v130 X16 X17 init

/-- The eight rows below the tile, stored before the scan: the carry from the tile after. -/
abbrev tailPiece (v : Vec F S8x512 .f32) : View.Piece (Elt F) S520x512 .f32 :=
  ⟨Rect.unit ![512, 0] S8x512.size inb_S520x512_S8x512_512_0, v⟩

/-- The eight trips of the scan store eight slabs of eight rows each: with the eight rows below, every row. -/
theorem scan_covers (y : S520x512.Idx) : ∃ pc ∈ (ST 8).2 ++ [tailPiece v], y ∈ pc.1.set :=
  View.cover_of_tiledL ((ST 8).2 ++ [tailPiece v]) S8x512.size (by sl_kernel_rfl) y

/-- What the scan's loop keeps: the two operands it reads, the state's carry, the eight rows below the tile, and the
rows the trips before `k` stored. After the last trip every row is stored, so the contents are named without what
the buffer held at entry. -/
abbrev scanInv (k : ℕ) (acc : Vec F S8x512 .f32) : sProp 𝕄 :=
  iprop((arg16.view.loc (c : Thread nD τ) ↦[arg16.view.set]{fullShare} X16)
    ∗ (arg17.view.loc (c : Thread nD τ) ↦[arg17.view.set]{fullShare} X17)
    ∗ (∃ f, (arg19.view.loc (c : Thread nD τ) ↦[arg19.view.set]{fullShare} f)
        ∗ ⌜f = arg19.view.writes (Elt F) (if k < 8 then g else arg19.view.junk) ((ST k).2 ++ [tailPiece v])⌝)
    ∗ ⌜acc = (ST k).1⌝)

set_option warn.classDefReducibility false in
/-- The scan's loop by that invariant. -/
@[sl_loop] def scanLoop (E : Set ℕ) :
    Idealize.ShloMosaic.LoopInv (M := 𝕄) Idealize.ShloMosaic.frame (wpE (defs₀ (F := F)) 𝒱 (c : Thread nD τ) bd) E k1_t1_loop.lb k1_t1_loop.ub k1_t1_loop.st k1_t1_ok init
      (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v106 v116 v130) where
  inv := scanInv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 𝒱 bd v106 v116 v130 X16 X17 g v init
  step k acc := by
    iintro ⟨HR, HS, ⟨%f, HW, %hf⟩, %hacc⟩
    subst hacc
    iapply (wp_wand_r Idealize.ShloMosaic.frame (wpE (defs₀ (F := F)) 𝒱 (c : Thread nD τ) bd) E)
    isplitl [HR HS HW]
    · iapply ((trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v106 v116 v130 X16 X17 k).2.2 E (ST k).1 f)
      iframe HR HS HW
    · iintro %yld ⟨%hres, HR, HS, HW⟩
      iframe HR HS
      isplitl [HW]
      · iexists _; isplitl [HW]; · iexact HW
        ipureintro
        have hk : k.val < 8 := Nat.lt_of_lt_of_le k.isLt k1_t1_abs.2.1
        rw [hf, if_pos hk, ← View.writes_append, ← List.append_assoc]
        by_cases h : k.val + 1 < 8
        · rw [if_pos h]; simp only [st_k1_t1_succ]
        · rw [if_neg h]
          have e : k.val + 1 = 8 := by omega
          have e2 := st_k1_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v106 v116 v130 X16 X17 init k
          rw [e] at e2 ⊢
          refine Eq.trans (b := arg19.view.writes (Elt F) g ((ST 8).2 ++ [tailPiece v])) (by rw [e2]) ?_
          exact (harg19.eq_unread (View.read_writes_of_cover _ _ arg19.view arg19.view.junk _
            (scan_covers c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 𝒱 bd v106 v116 v130 X16 X17 v init))).trans (harg19.eq_unread rfl).symm
      ipureintro; rw [hres]; simp only [st_k1_t1_succ]

end Loop

end Cert.MixBwd

end
-- ==== Proof.MixBwdRun.lean ====
module

public import proofs.«01_k».proof.Proof.MixBwdLoop

@[expose] public section

set_option maxRecDepth 16384

noncomputable section

namespace Cert.MixBwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid1.Coords)
  (arg1 : Memref sig .tc .vmem S512x1024 .f32) (harg1 : arg1.IsWhole) (arg2 : Memref sig .tc .vmem S512x1536 .f32) (harg2 : arg2.IsWhole) (arg3 : Memref sig .tc .vmem S16x512 .f32) (harg3 : arg3.IsWhole)
  (arg4 : Memref sig .tc .vmem S512x512 .f32) (harg4 : arg4.IsWhole) (arg5 : Memref sig .tc .vmem S8x512 .f32) (harg5 : arg5.IsWhole) (arg6 : Memref sig .tc .vmem S512x2048 .f32) (harg6 : arg6.IsWhole)
  (arg7 : Memref sig .tc .vmem S16x512 .f32) (harg7 : arg7.IsWhole) (arg8 : Memref sig .tc .vmem S8x64x64 .f32) (harg8 : arg8.IsWhole) (arg9 : Memref sig .tc .vmem S8x64x64 .f32) (harg9 : arg9.IsWhole)
  (arg10 : Memref sig .tc .vmem S4x128x128 .f32) (harg10 : arg10.IsWhole) (arg11 : Memref sig .tc .vmem S1024x1024 .bf16) (harg11 : arg11.IsWhole) (arg12 : Memref sig .tc .vmem S512x1536 .bf16) (harg12 : arg12.IsWhole)
  (arg13 : Memref sig .tc .vmem S544x256 .f32) (harg13 : arg13.IsWhole) (arg14 : Memref sig .tc .vmem S528x512 .f32) (harg14 : arg14.IsWhole) (arg15 : Memref sig .tc .vmem S520x512 .f32) (harg15 : arg15.IsWhole)
  (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole)
  (arg19 : Memref sig .tc .vmem S520x512 .f32) (harg19 : arg19.IsWhole) (arg20 : Memref sig .tc .vmem S520x512 .f32) (harg20 : arg20.IsWhole) (arg21 : Memref sig .tc .vmem S528x512 .f32) (harg21 : arg21.IsWhole)
  (arg22 : Memref sig .tc .vmem S8x512 .f32) (harg22 : arg22.IsWhole) (arg23 : Memref sig .tc .vmem S8x512 .f32) (harg23 : arg23.IsWhole) (arg24 : Memref sig .tc .vmem S16x512 .f32) (harg24 : arg24.IsWhole)
  (arg25 : Memref sig .tc .vmem S2x256x256 .bf16) (harg25 : arg25.IsWhole) (arg26 : Memref sig .tc .vmem S2x256x256 .bf16) (harg26 : arg26.IsWhole) (arg27 : Memref sig .tc .vmem S2x256x256 .bf16) (harg27 : arg27.IsWhole)
  (arg28 : Memref sig .tc .vmem S16x512 .f32) (harg28 : arg28.IsWhole) (arg29 : Memref sig .tc .vmem S2x256x256 .f32) (harg29 : arg29.IsWhole) (arg30 : Memref sig .tc .vmem S2x256x256 .f32) (harg30 : arg30.IsWhole)
  (arg31 : Memref sig .tc .vmem S2x256x256 .f32) (harg31 : arg31.IsWhole)

/-- The first point's condition: the grid coordinate is zero. -/
abbrev isFirst (i : grid1.Coords) : Prop := (Scalar.cmpi .ne (Scalar.extui (Scalar.cmpi .eq (BitVec.ofNat 32 (i 0).val) 0#32)) 0#32) = 1#1

/-- The last point's condition, as the body computes it. -/
abbrev isLast (i : grid1.Coords) : Prop := k1_cond2 i = 1#1

set_option maxHeartbeats 4000000 in
/-- The backward body at the first point: on its blocks, with any scratch contents, it ends with the inputs as
they were and with these pieces stored; the packed gradients are left alone. -/
def runA (hc0 : isFirst i) (hc1 : ¬isLast i)
    (x1 : Vec F S512x1024 .f32) (x2 : Vec F S512x1536 .f32) (x3 : Vec F S16x512 .f32) (x4 : Vec F S512x512 .f32) (x5 : Vec F S8x512 .f32) (x6 : Vec F S512x2048 .f32) (x7 : Vec F S16x512 .f32) (x8 : Vec F S8x64x64 .f32) (x9 : Vec F S8x64x64 .f32) (x10 : Vec F S4x128x128 .f32) (x11 : Vec F S1024x1024 .bf16) :
    Σ' (L12 : Ps F S512x1536 .bf16), Σ' (L13 : Ps F S544x256 .f32), Σ' (L14 : Ps F S528x512 .f32), Σ' (L15 : Ps F S520x512 .f32), Σ' (L16 : Ps F S512x512 .f32), Σ' (L17 : Ps F S512x512 .f32), Σ' (L18 : Ps F S512x512 .f32), Σ' (L19 : Ps F S520x512 .f32), Σ' (L20 : Ps F S520x512 .f32), Σ' (L21 : Ps F S528x512 .f32), Σ' (L22 : Ps F S8x512 .f32), Σ' (L23 : Ps F S8x512 .f32), Σ' (L24 : Ps F S16x512 .f32), Σ' (L25 : Ps F S2x256x256 .bf16), Σ' (L26 : Ps F S2x256x256 .bf16), Σ' (L27 : Ps F S2x256x256 .bf16), Σ' (L28 : Ps F S16x512 .f32), Σ' (L29 : Ps F S2x256x256 .f32), Σ' (L30 : Ps F S2x256x256 .f32), { L31 : Ps F S2x256x256 .f32 //
      ∀ (x13 : Vec F S544x256 .f32) (E : Set ℕ) (K : PUnit → sProp 𝕄),
        iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasV c arg9 x9 ∗ hasV c arg10 x10 ∗ hasV c arg11 x11 ∗ hasAny c arg12 ∗ hasV c arg13 x13 ∗ hasAny c arg14 ∗ hasAny c arg15 ∗ hasAny c arg16 ∗ hasAny c arg17 ∗ hasAny c arg18 ∗ hasAny c arg19 ∗ hasAny c arg20 ∗ hasAny c arg21 ∗ hasAny c arg22 ∗ hasAny c arg23 ∗ hasAny c arg24 ∗ hasAny c arg25 ∗ hasAny c arg26 ∗ hasAny c arg27 ∗ hasAny c arg28 ∗ hasAny c arg29 ∗ hasAny c arg30 ∗ hasAny c arg31
            ∗ (iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasV c arg9 x9 ∗ hasV c arg10 x10 ∗ hasV c arg11 x11 ∗ hasPs c arg12 L12 ∗ hasV c arg13 x13 ∗ hasPs c arg14 L14 ∗ hasPs c arg15 L15 ∗ hasPs c arg16 L16 ∗ hasPs c arg17 L17 ∗ hasPs c arg18 L18 ∗ hasPs c arg19 L19 ∗ hasPs c arg20 L20 ∗ hasPs c arg21 L21 ∗ hasPs c arg22 L22 ∗ hasPs c arg23 L23 ∗ hasPs c arg24 L24 ∗ hasPs c arg25 L25 ∗ hasPs c arg26 L26 ∗ hasPs c arg27 L27 ∗ hasPs c arg28 L28 ∗ hasPs c arg29 L29 ∗ hasPs c arg30 L30 ∗ hasPs c arg31 L31) -∗ K ⟨⟩))
          ⊢ wp frame (wpE (defs₀ (F := F)) Variants.none c none) E (cc1_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, [], ?_, ?_, ?_, ?_, ?_, ?_, ?_, ?_, ?_, ?_, ?_, ?_, ?_, ?_, ?_, ?_, ?_, ?_, fun x13 E K => ?run⟩
  case run =>
    unfold hasAny hasPs hasV
    simp only [own_eq harg1, own_eq harg2, own_eq harg3, own_eq harg4, own_eq harg5, own_eq harg6, own_eq harg7, own_eq harg8, own_eq harg9, own_eq harg10, own_eq harg11, own_eq harg13]
    unfold owns
    iintro ⟨H1, H2, H3, H4, H5, H6, H7, H8, H9, H10, H11, ⟨%d12, %f12, -, H12⟩, H13, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
    simp only [cc1_mixer_bwd_eq_skeleton]; unfold cc1_mixer_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton]
    set_option sl_exec.stopBefore "k1_part20" in sl_exec (disch := first | sl_exact hc0 | sl_exact hc1)
    rw [if_neg (show ¬ Scf.trips k1_t1_loop.lb k1_t1_loop.ub k1_t1_loop.st < 8 by decide)]
    simp only [k1_part20_eq_skeleton]
    sl_exec (disch := first | sl_exact hc0 | sl_exact hc1)
    sl_step
    iapply Hk
    iframe H1 H2 H3 H4 H5 H6 H7 H8 H9 H10 H11
    isplitl [H12]; · iexists _; iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31

set_option maxHeartbeats 4000000 in
/-- The backward body at a point between: as at the first, over the scratch the point before left; the packed
weights are read and left alone. -/
def runB (hc0 : ¬isFirst i) (hc1 : ¬isLast i)
    (x1 : Vec F S512x1024 .f32) (x2 : Vec F S512x1536 .f32) (x3 : Vec F S16x512 .f32) (x4 : Vec F S512x512 .f32) (x5 : Vec F S8x512 .f32) (x6 : Vec F S512x2048 .f32) (x7 : Vec F S16x512 .f32) (x8 : Vec F S8x64x64 .f32) (x9 : Vec F S8x64x64 .f32) (x10 : Vec F S4x128x128 .f32) (x11 : Vec F S1024x1024 .bf16) (s22 : Vec F S8x512 .f32) (s23 : Vec F S8x512 .f32) (s24 : Vec F S16x512 .f32) (s25 : Vec F S2x256x256 .bf16) (s26 : Vec F S2x256x256 .bf16) (s27 : Vec F S2x256x256 .bf16) (s28 : Vec F S16x512 .f32) (s29 : Vec F S2x256x256 .f32) (s30 : Vec F S2x256x256 .f32) (s31 : Vec F S2x256x256 .f32) :
    Σ' (L12 : Ps F S512x1536 .bf16), Σ' (L13 : Ps F S544x256 .f32), Σ' (L14 : Ps F S528x512 .f32), Σ' (L15 : Ps F S520x512 .f32), Σ' (L16 : Ps F S512x512 .f32), Σ' (L17 : Ps F S512x512 .f32), Σ' (L18 : Ps F S512x512 .f32), Σ' (L19 : Ps F S520x512 .f32), Σ' (L20 : Ps F S520x512 .f32), Σ' (L21 : Ps F S528x512 .f32), Σ' (L22 : Ps F S8x512 .f32), Σ' (L23 : Ps F S8x512 .f32), Σ' (L24 : Ps F S16x512 .f32), Σ' (L25 : Ps F S2x256x256 .bf16), Σ' (L26 : Ps F S2x256x256 .bf16), Σ' (L27 : Ps F S2x256x256 .bf16), Σ' (L28 : Ps F S16x512 .f32), Σ' (L29 : Ps F S2x256x256 .f32), Σ' (L30 : Ps F S2x256x256 .f32), { L31 : Ps F S2x256x256 .f32 //
      ∀ (x13 : Vec F S544x256 .f32) (E : Set ℕ) (K : PUnit → sProp 𝕄),
        iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasV c arg9 x9 ∗ hasV c arg10 x10 ∗ hasV c arg11 x11 ∗ hasAny c arg12 ∗ hasV c arg13 x13 ∗ hasAny c arg14 ∗ hasAny c arg15 ∗ hasAny c arg16 ∗ hasAny c arg17 ∗ hasAny c arg18 ∗ hasAny c arg19 ∗ hasAny c arg20 ∗ hasAny c arg21 ∗ hasV c arg22 s22 ∗ hasV c arg23 s23 ∗ hasV c arg24 s24 ∗ hasV c arg25 s25 ∗ hasV c arg26 s26 ∗ hasV c arg27 s27 ∗ hasV c arg28 s28 ∗ hasV c arg29 s29 ∗ hasV c arg30 s30 ∗ hasV c arg31 s31
            ∗ (iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasV c arg9 x9 ∗ hasV c arg10 x10 ∗ hasV c arg11 x11 ∗ hasPs c arg12 L12 ∗ hasV c arg13 x13 ∗ hasPs c arg14 L14 ∗ hasPs c arg15 L15 ∗ hasPs c arg16 L16 ∗ hasPs c arg17 L17 ∗ hasPs c arg18 L18 ∗ hasPs c arg19 L19 ∗ hasPs c arg20 L20 ∗ hasPs c arg21 L21 ∗ hasPs c arg22 L22 ∗ hasPs c arg23 L23 ∗ hasPs c arg24 L24 ∗ hasV c arg25 s25 ∗ hasV c arg26 s26 ∗ hasV c arg27 s27 ∗ hasPs c arg28 L28 ∗ hasPs c arg29 L29 ∗ hasPs c arg30 L30 ∗ hasPs c arg31 L31) -∗ K ⟨⟩))
          ⊢ wp frame (wpE (defs₀ (F := F)) Variants.none c none) E (cc1_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, [], ?_, ?_, ?_, ?_, ?_, ?_, ?_, ?_, ?_, ?_, ?_, [], [], [], ?_, ?_, ?_, ?_, fun x13 E K => ?run⟩
  case run =>
    unfold hasAny hasPs hasV
    simp only [own_eq harg1, own_eq harg2, own_eq harg3, own_eq harg4, own_eq harg5, own_eq harg6, own_eq harg7, own_eq harg8, own_eq harg9, own_eq harg10, own_eq harg11, own_eq harg13, own_eq harg22, own_eq harg23, own_eq harg24, own_eq harg25, own_eq harg26, own_eq harg27, own_eq harg28, own_eq harg29, own_eq harg30, own_eq harg31]
    unfold owns
    iintro ⟨H1, H2, H3, H4, H5, H6, H7, H8, H9, H10, H11, ⟨%d12, %f12, -, H12⟩, H13, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, H22, H23, H24, H25, H26, H27, H28, H29, H30, H31, Hk⟩
    simp only [cc1_mixer_bwd_eq_skeleton]; unfold cc1_mixer_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton]
    set_option sl_exec.stopBefore "k1_part20" in sl_exec (disch := first | sl_exact hc0 | sl_exact hc1)
    rw [if_neg (show ¬ Scf.trips k1_t1_loop.lb k1_t1_loop.ub k1_t1_loop.st < 8 by decide)]
    simp only [k1_part20_eq_skeleton]
    sl_exec (disch := first | sl_exact hc0 | sl_exact hc1)
    sl_step
    iapply Hk
    iframe H1 H2 H3 H4 H5 H6 H7 H8 H9 H10 H11
    isplitl [H12]; · iexists _; iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iframe H25 H26 H27
    isplitl [H28]; · iexists _; iexact H28
    isplitl [H29]; · iexists _; iexact H29
    isplitl [H30]; · iexists _; iexact H30
    iexists _; iexact H31

set_option maxHeartbeats 4000000 in
/-- The backward body at the last point: as before, and the packed gradients are stored. -/
def runC (hc0 : ¬isFirst i) (hc1 : isLast i)
    (x1 : Vec F S512x1024 .f32) (x2 : Vec F S512x1536 .f32) (x3 : Vec F S16x512 .f32) (x4 : Vec F S512x512 .f32) (x5 : Vec F S8x512 .f32) (x6 : Vec F S512x2048 .f32) (x7 : Vec F S16x512 .f32) (x8 : Vec F S8x64x64 .f32) (x9 : Vec F S8x64x64 .f32) (x10 : Vec F S4x128x128 .f32) (x11 : Vec F S1024x1024 .bf16) (s22 : Vec F S8x512 .f32) (s23 : Vec F S8x512 .f32) (s24 : Vec F S16x512 .f32) (s25 : Vec F S2x256x256 .bf16) (s26 : Vec F S2x256x256 .bf16) (s27 : Vec F S2x256x256 .bf16) (s28 : Vec F S16x512 .f32) (s29 : Vec F S2x256x256 .f32) (s30 : Vec F S2x256x256 .f32) (s31 : Vec F S2x256x256 .f32) :
    Σ' (L12 : Ps F S512x1536 .bf16), Σ' (L13 : Ps F S544x256 .f32), Σ' (L14 : Ps F S528x512 .f32), Σ' (L15 : Ps F S520x512 .f32), Σ' (L16 : Ps F S512x512 .f32), Σ' (L17 : Ps F S512x512 .f32), Σ' (L18 : Ps F S512x512 .f32), Σ' (L19 : Ps F S520x512 .f32), Σ' (L20 : Ps F S520x512 .f32), Σ' (L21 : Ps F S528x512 .f32), Σ' (L22 : Ps F S8x512 .f32), Σ' (L23 : Ps F S8x512 .f32), Σ' (L24 : Ps F S16x512 .f32), Σ' (L25 : Ps F S2x256x256 .bf16), Σ' (L26 : Ps F S2x256x256 .bf16), Σ' (L27 : Ps F S2x256x256 .bf16), Σ' (L28 : Ps F S16x512 .f32), Σ' (L29 : Ps F S2x256x256 .f32), Σ' (L30 : Ps F S2x256x256 .f32), { L31 : Ps F S2x256x256 .f32 //
      ∀ (E : Set ℕ) (K : PUnit → sProp 𝕄),
        iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasV c arg9 x9 ∗ hasV c arg10 x10 ∗ hasV c arg11 x11 ∗ hasAny c arg12 ∗ hasAny c arg13 ∗ hasAny c arg14 ∗ hasAny c arg15 ∗ hasAny c arg16 ∗ hasAny c arg17 ∗ hasAny c arg18 ∗ hasAny c arg19 ∗ hasAny c arg20 ∗ hasAny c arg21 ∗ hasV c arg22 s22 ∗ hasV c arg23 s23 ∗ hasV c arg24 s24 ∗ hasV c arg25 s25 ∗ hasV c arg26 s26 ∗ hasV c arg27 s27 ∗ hasV c arg28 s28 ∗ hasV c arg29 s29 ∗ hasV c arg30 s30 ∗ hasV c arg31 s31
            ∗ (iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasV c arg9 x9 ∗ hasV c arg10 x10 ∗ hasV c arg11 x11 ∗ hasPs c arg12 L12 ∗ hasPs c arg13 L13 ∗ hasPs c arg14 L14 ∗ hasPs c arg15 L15 ∗ hasPs c arg16 L16 ∗ hasPs c arg17 L17 ∗ hasPs c arg18 L18 ∗ hasPs c arg19 L19 ∗ hasPs c arg20 L20 ∗ hasPs c arg21 L21 ∗ hasPs c arg22 L22 ∗ hasPs c arg23 L23 ∗ hasPs c arg24 L24 ∗ hasV c arg25 s25 ∗ hasV c arg26 s26 ∗ hasV c arg27 s27 ∗ hasPs c arg28 L28 ∗ hasPs c arg29 L29 ∗ hasPs c arg30 L30 ∗ hasPs c arg31 L31) -∗ K ⟨⟩))
          ⊢ wp frame (wpE (defs₀ (F := F)) Variants.none c none) E (cc1_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, ?_, ?_, ?_, ?_, ?_, ?_, [], [], [], ?_, ?_, ?_, ?_, fun E K => ?run⟩
  case run =>
    unfold hasAny hasPs hasV
    simp only [own_eq harg1, own_eq harg2, own_eq harg3, own_eq harg4, own_eq harg5, own_eq harg6, own_eq harg7, own_eq harg8, own_eq harg9, own_eq harg10, own_eq harg11, own_eq harg22, own_eq harg23, own_eq harg24, own_eq harg25, own_eq harg26, own_eq harg27, own_eq harg28, own_eq harg29, own_eq harg30, own_eq harg31]
    unfold owns
    iintro ⟨H1, H2, H3, H4, H5, H6, H7, H8, H9, H10, H11, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, H22, H23, H24, H25, H26, H27, H28, H29, H30, H31, Hk⟩
    simp only [cc1_mixer_bwd_eq_skeleton]; unfold cc1_mixer_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton]
    set_option sl_exec.stopBefore "k1_part20" in sl_exec (disch := first | sl_exact hc0 | sl_exact hc1)
    rw [if_neg (show ¬ Scf.trips k1_t1_loop.lb k1_t1_loop.ub k1_t1_loop.st < 8 by decide)]
    simp only [k1_part20_eq_skeleton]
    sl_exec (disch := first | sl_exact hc0 | sl_exact hc1)
    sl_step
    iapply Hk
    iframe H1 H2 H3 H4 H5 H6 H7 H8 H9 H10 H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iframe H25 H26 H27
    isplitl [H28]; · iexists _; iexact H28
    isplitl [H29]; · iexists _; iexact H29
    isplitl [H30]; · iexists _; iexact H30
    iexists _; iexact H31

end Cert.MixBwd

end
-- ==== Proof.MixBwdMem.lean ====
module

public import proofs.«01_k».proof.Proof.MixBwdRun

@[expose] public section

set_option maxRecDepth 16384

noncomputable section

namespace Cert.MixBwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The memrefs one run of the backward body is called with. -/
structure Mem where
  a1 : Memref sig .tc .vmem S512x1024 .f32
  h1 : a1.IsWhole
  a2 : Memref sig .tc .vmem S512x1536 .f32
  h2 : a2.IsWhole
  a3 : Memref sig .tc .vmem S16x512 .f32
  h3 : a3.IsWhole
  a4 : Memref sig .tc .vmem S512x512 .f32
  h4 : a4.IsWhole
  a5 : Memref sig .tc .vmem S8x512 .f32
  h5 : a5.IsWhole
  a6 : Memref sig .tc .vmem S512x2048 .f32
  h6 : a6.IsWhole
  a7 : Memref sig .tc .vmem S16x512 .f32
  h7 : a7.IsWhole
  a8 : Memref sig .tc .vmem S8x64x64 .f32
  h8 : a8.IsWhole
  a9 : Memref sig .tc .vmem S8x64x64 .f32
  h9 : a9.IsWhole
  a10 : Memref sig .tc .vmem S4x128x128 .f32
  h10 : a10.IsWhole
  a11 : Memref sig .tc .vmem S1024x1024 .bf16
  h11 : a11.IsWhole
  a12 : Memref sig .tc .vmem S512x1536 .bf16
  h12 : a12.IsWhole
  a13 : Memref sig .tc .vmem S544x256 .f32
  h13 : a13.IsWhole
  a14 : Memref sig .tc .vmem S528x512 .f32
  h14 : a14.IsWhole
  a15 : Memref sig .tc .vmem S520x512 .f32
  h15 : a15.IsWhole
  a16 : Memref sig .tc .vmem S512x512 .f32
  h16 : a16.IsWhole
  a17 : Memref sig .tc .vmem S512x512 .f32
  h17 : a17.IsWhole
  a18 : Memref sig .tc .vmem S512x512 .f32
  h18 : a18.IsWhole
  a19 : Memref sig .tc .vmem S520x512 .f32
  h19 : a19.IsWhole
  a20 : Memref sig .tc .vmem S520x512 .f32
  h20 : a20.IsWhole
  a21 : Memref sig .tc .vmem S528x512 .f32
  h21 : a21.IsWhole
  a22 : Memref sig .tc .vmem S8x512 .f32
  h22 : a22.IsWhole
  a23 : Memref sig .tc .vmem S8x512 .f32
  h23 : a23.IsWhole
  a24 : Memref sig .tc .vmem S16x512 .f32
  h24 : a24.IsWhole
  a25 : Memref sig .tc .vmem S2x256x256 .bf16
  h25 : a25.IsWhole
  a26 : Memref sig .tc .vmem S2x256x256 .bf16
  h26 : a26.IsWhole
  a27 : Memref sig .tc .vmem S2x256x256 .bf16
  h27 : a27.IsWhole
  a28 : Memref sig .tc .vmem S16x512 .f32
  h28 : a28.IsWhole
  a29 : Memref sig .tc .vmem S2x256x256 .f32
  h29 : a29.IsWhole
  a30 : Memref sig .tc .vmem S2x256x256 .f32
  h30 : a30.IsWhole
  a31 : Memref sig .tc .vmem S2x256x256 .f32
  h31 : a31.IsWhole

/-- The blocks the body reads. -/
structure In (F : FTy → Type) where
  x1 : Vec F S512x1024 .f32
  x2 : Vec F S512x1536 .f32
  x3 : Vec F S16x512 .f32
  x4 : Vec F S512x512 .f32
  x5 : Vec F S8x512 .f32
  x6 : Vec F S512x2048 .f32
  x7 : Vec F S16x512 .f32
  x8 : Vec F S8x64x64 .f32
  x9 : Vec F S8x64x64 .f32
  x10 : Vec F S4x128x128 .f32
  x11 : Vec F S1024x1024 .bf16

/-- The scratch carried from point to point. -/
structure Car (F : FTy → Type) where
  s22 : Vec F S8x512 .f32
  s23 : Vec F S8x512 .f32
  s24 : Vec F S16x512 .f32
  s25 : Vec F S2x256x256 .bf16
  s26 : Vec F S2x256x256 .bf16
  s27 : Vec F S2x256x256 .bf16
  s28 : Vec F S16x512 .f32
  s29 : Vec F S2x256x256 .f32
  s30 : Vec F S2x256x256 .f32
  s31 : Vec F S2x256x256 .f32

variable (c : Dev nD) (i : grid1.Coords) (M : Mem)

/-- The body on these memrefs. -/
abbrev Mem.body : Prog (TpuEff nD τ sig (Elt F) Λ₀ .tc) PUnit :=
  cc1_mixer_bwd i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 M.a28 M.h28 M.a29 M.h29 M.a30 M.h30 M.a31 M.h31

/-- The input buffers at their blocks. -/
abbrev Mem.ins (x : In F) : sProp 𝕄 :=
  iprop(hasV c M.a1 x.x1 ∗ hasV c M.a2 x.x2 ∗ hasV c M.a3 x.x3 ∗ hasV c M.a4 x.x4 ∗ hasV c M.a5 x.x5 ∗ hasV c M.a6 x.x6 ∗ hasV c M.a7 x.x7 ∗ hasV c M.a8 x.x8 ∗ hasV c M.a9 x.x9 ∗ hasV c M.a10 x.x10 ∗ hasV c M.a11 x.x11)

/-- All scratch at anything. -/
abbrev Mem.scr : sProp 𝕄 :=
  iprop(hasAny c M.a14 ∗ hasAny c M.a15 ∗ hasAny c M.a16 ∗ hasAny c M.a17 ∗ hasAny c M.a18 ∗ hasAny c M.a19 ∗ hasAny c M.a20 ∗ hasAny c M.a21 ∗ hasAny c M.a22 ∗ hasAny c M.a23 ∗ hasAny c M.a24 ∗ hasAny c M.a25 ∗ hasAny c M.a26 ∗ hasAny c M.a27 ∗ hasAny c M.a28 ∗ hasAny c M.a29 ∗ hasAny c M.a30 ∗ hasAny c M.a31)

/-- The scratch with its carried part at these contents and the rest at anything. -/
abbrev Mem.car (s : Car F) : sProp 𝕄 :=
  iprop(hasAny c M.a14 ∗ hasAny c M.a15 ∗ hasAny c M.a16 ∗ hasAny c M.a17 ∗ hasAny c M.a18 ∗ hasAny c M.a19 ∗ hasAny c M.a20 ∗ hasAny c M.a21 ∗ hasV c M.a22 s.s22 ∗ hasV c M.a23 s.s23 ∗ hasV c M.a24 s.s24 ∗ hasV c M.a25 s.s25 ∗ hasV c M.a26 s.s26 ∗ hasV c M.a27 s.s27 ∗ hasV c M.a28 s.s28 ∗ hasV c M.a29 s.s29 ∗ hasV c M.a30 s.s30 ∗ hasV c M.a31 s.s31)

end Cert.MixBwd

end
-- ==== Proof.MixBwdStepA.lean ====
module

public import proofs.«01_k».proof.Proof.MixBwdMem

@[expose] public section

set_option maxRecDepth 16384

noncomputable section

namespace Cert.MixBwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid1.Coords) (M : Mem) (x : In F)

/-- The first point's run on these memrefs. -/
abbrev runA' (hc0 : isFirst i) (hc1 : ¬isLast i) :=
  runA c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 M.a28 M.h28 M.a29 M.h29 M.a30 M.h30 M.a31 M.h31 hc0 hc1 x.x1 x.x2 x.x3 x.x4 x.x5 x.x6 x.x7 x.x8 x.x9 x.x10 x.x11

/-- The pieces stored in buffer 12 at the first point fill it. -/
theorem covA12 (hc0 : isFirst i) (hc1 : ¬isLast i) (y : S512x1536.Idx) :
    ∃ pc ∈ (runA' c i M x hc0 hc1).1, y ∈ pc.1.set :=
  View.cover_of_tiledBy _ ![512, 128] (by sl_kernel_rfl) y

/-- The pieces stored in buffer 22 at the first point fill it. -/
theorem covA22 (hc0 : isFirst i) (hc1 : ¬isLast i) (y : S8x512.Idx) :
    ∃ pc ∈ (runA' c i M x hc0 hc1).2.2.2.2.2.2.2.2.2.2.1, y ∈ pc.1.set :=
  View.cover_of_tiledL _ S8x512.size (by sl_kernel_rfl) y

/-- The pieces stored in buffer 23 at the first point fill it. -/
theorem covA23 (hc0 : isFirst i) (hc1 : ¬isLast i) (y : S8x512.Idx) :
    ∃ pc ∈ (runA' c i M x hc0 hc1).2.2.2.2.2.2.2.2.2.2.2.1, y ∈ pc.1.set :=
  View.cover_of_tiledL _ S8x512.size (by sl_kernel_rfl) y

/-- The pieces stored in buffer 24 at the first point fill it. -/
theorem covA24 (hc0 : isFirst i) (hc1 : ¬isLast i) (y : S16x512.Idx) :
    ∃ pc ∈ (runA' c i M x hc0 hc1).2.2.2.2.2.2.2.2.2.2.2.2.1, y ∈ pc.1.set :=
  View.cover_of_tiledL _ S16x512.size (by sl_kernel_rfl) y

/-- The pieces stored in buffer 25 at the first point fill it. -/
theorem covA25 (hc0 : isFirst i) (hc1 : ¬isLast i) (y : S2x256x256.Idx) :
    ∃ pc ∈ (runA' c i M x hc0 hc1).2.2.2.2.2.2.2.2.2.2.2.2.2.1, y ∈ pc.1.set :=
  View.cover_of_wholeMem _ (by sl_whole_mem) y

/-- The pieces stored in buffer 26 at the first point fill it. -/
theorem covA26 (hc0 : isFirst i) (hc1 : ¬isLast i) (y : S2x256x256.Idx) :
    ∃ pc ∈ (runA' c i M x hc0 hc1).2.2.2.2.2.2.2.2.2.2.2.2.2.2.1, y ∈ pc.1.set :=
  View.cover_of_wholeMem _ (by sl_whole_mem) y

/-- The pieces stored in buffer 27 at the first point fill it. -/
theorem covA27 (hc0 : isFirst i) (hc1 : ¬isLast i) (y : S2x256x256.Idx) :
    ∃ pc ∈ (runA' c i M x hc0 hc1).2.2.2.2.2.2.2.2.2.2.2.2.2.2.2.1, y ∈ pc.1.set :=
  View.cover_of_wholeMem _ (by sl_whole_mem) y

/-- The pieces stored in buffer 28 at the first point fill it. -/
theorem covA28 (hc0 : isFirst i) (hc1 : ¬isLast i) (y : S16x512.Idx) :
    ∃ pc ∈ (runA' c i M x hc0 hc1).2.2.2.2.2.2.2.2.2.2.2.2.2.2.2.2.1, y ∈ pc.1.set :=
  View.cover_of_tiledL _ S16x512.size (by sl_kernel_rfl) y

/-- The pieces stored in buffer 29 at the first point fill it. -/
theorem covA29 (hc0 : isFirst i) (hc1 : ¬isLast i) (y : S2x256x256.Idx) :
    ∃ pc ∈ (runA' c i M x hc0 hc1).2.2.2.2.2.2.2.2.2.2.2.2.2.2.2.2.2.1, y ∈ pc.1.set :=
  View.cover_of_tiledL _ S2x256x256.size (by sl_kernel_rfl) y

/-- The pieces stored in buffer 30 at the first point fill it. -/
theorem covA30 (hc0 : isFirst i) (hc1 : ¬isLast i) (y : S2x256x256.Idx) :
    ∃ pc ∈ (runA' c i M x hc0 hc1).2.2.2.2.2.2.2.2.2.2.2.2.2.2.2.2.2.2.1, y ∈ pc.1.set :=
  View.cover_of_tiledL _ S2x256x256.size (by sl_kernel_rfl) y

/-- The pieces stored in buffer 31 at the first point fill it. -/
theorem covA31 (hc0 : isFirst i) (hc1 : ¬isLast i) (y : S2x256x256.Idx) :
    ∃ pc ∈ (runA' c i M x hc0 hc1).2.2.2.2.2.2.2.2.2.2.2.2.2.2.2.2.2.2.2.1, y ∈ pc.1.set :=
  View.cover_of_tiledL _ S2x256x256.size (by sl_kernel_rfl) y

/-- What the body leaves in the block of `du` at the first point. -/
def duA (hc0 : isFirst i) (hc1 : ¬isLast i) : Vec F S512x1536 .bf16 :=
  M.a12.view.read (Elt F) (M.a12.view.writes (Elt F) M.a12.view.junk (runA' c i M x hc0 hc1).1)

/-- What the body leaves in the carried scratch at the first point. -/
def carA (hc0 : isFirst i) (hc1 : ¬isLast i) : Car F where
  s22 := M.a22.view.read (Elt F) (M.a22.view.writes (Elt F) M.a22.view.junk (runA' c i M x hc0 hc1).2.2.2.2.2.2.2.2.2.2.1)
  s23 := M.a23.view.read (Elt F) (M.a23.view.writes (Elt F) M.a23.view.junk (runA' c i M x hc0 hc1).2.2.2.2.2.2.2.2.2.2.2.1)
  s24 := M.a24.view.read (Elt F) (M.a24.view.writes (Elt F) M.a24.view.junk (runA' c i M x hc0 hc1).2.2.2.2.2.2.2.2.2.2.2.2.1)
  s25 := M.a25.view.read (Elt F) (M.a25.view.writes (Elt F) M.a25.view.junk (runA' c i M x hc0 hc1).2.2.2.2.2.2.2.2.2.2.2.2.2.1)
  s26 := M.a26.view.read (Elt F) (M.a26.view.writes (Elt F) M.a26.view.junk (runA' c i M x hc0 hc1).2.2.2.2.2.2.2.2.2.2.2.2.2.2.1)
  s27 := M.a27.view.read (Elt F) (M.a27.view.writes (Elt F) M.a27.view.junk (runA' c i M x hc0 hc1).2.2.2.2.2.2.2.2.2.2.2.2.2.2.2.1)
  s28 := M.a28.view.read (Elt F) (M.a28.view.writes (Elt F) M.a28.view.junk (runA' c i M x hc0 hc1).2.2.2.2.2.2.2.2.2.2.2.2.2.2.2.2.1)
  s29 := M.a29.view.read (Elt F) (M.a29.view.writes (Elt F) M.a29.view.junk (runA' c i M x hc0 hc1).2.2.2.2.2.2.2.2.2.2.2.2.2.2.2.2.2.1)
  s30 := M.a30.view.read (Elt F) (M.a30.view.writes (Elt F) M.a30.view.junk (runA' c i M x hc0 hc1).2.2.2.2.2.2.2.2.2.2.2.2.2.2.2.2.2.2.1)
  s31 := M.a31.view.read (Elt F) (M.a31.view.writes (Elt F) M.a31.view.junk (runA' c i M x hc0 hc1).2.2.2.2.2.2.2.2.2.2.2.2.2.2.2.2.2.2.2.1)

set_option maxHeartbeats 4000000 in
/-- The first point: the body, called on its blocks, ends with `duA` in its block of `du` and `carA` in the carried scratch. -/
theorem tripleA (hc0 : isFirst i) (hc1 : ¬isLast i) (x13 : Vec F S544x256 .f32) (E : Set ℕ) (K : PUnit → sProp 𝕄) :
    iprop(M.ins c x ∗ hasAny c M.a12 ∗ hasV c M.a13 x13 ∗ M.scr (F := F) c
        ∗ (iprop(M.ins c x ∗ hasV c M.a12 (duA c i M x hc0 hc1) ∗ hasV c M.a13 x13 ∗ M.car c (carA c i M x hc0 hc1)) -∗ K ⟨⟩))
      ⊢ wp frame (wpE (defs₀ (F := F)) Variants.none c none) E (M.body i) K := by
  unfold Mem.ins Mem.scr Mem.car
  iintro ⟨⟨H1, H2, H3, H4, H5, H6, H7, H8, H9, H10, H11⟩, H12, H13, ⟨H14, H15, H16, H17, H18, H19, H20, H21, H22, H23, H24, H25, H26, H27, H28, H29, H30, H31⟩, Hk⟩
  have h := (runA' c i M x hc0 hc1).2.2.2.2.2.2.2.2.2.2.2.2.2.2.2.2.2.2.2.2 x13 E K
  iapply h
  iframe H1 H2 H3 H4 H5 H6 H7 H8 H9 H10 H11 H12 H13 H14 H15 H16 H17 H18 H19 H20 H21 H22 H23 H24 H25 H26 H27 H28 H29 H30 H31
  iintro ⟨H1, H2, H3, H4, H5, H6, H7, H8, H9, H10, H11, H12, H13, H14, H15, H16, H17, H18, H19, H20, H21, H22, H23, H24, H25, H26, H27, H28, H29, H30, H31⟩
  iapply Hk
  isplitl [H1 H2 H3 H4 H5 H6 H7 H8 H9 H10 H11]
  · iframe H1 H2 H3 H4 H5 H6 H7 H8 H9 H10 H11
  isplitl [H12]; · iapply (own_cov (covA12 c i M x hc0 hc1)); iexact H12
  isplitl [H13]; · iexact H13
  isplitl [H14]; · iapply own_any; iexact H14
  isplitl [H15]; · iapply own_any; iexact H15
  isplitl [H16]; · iapply own_any; iexact H16
  isplitl [H17]; · iapply own_any; iexact H17
  isplitl [H18]; · iapply own_any; iexact H18
  isplitl [H19]; · iapply own_any; iexact H19
  isplitl [H20]; · iapply own_any; iexact H20
  isplitl [H21]; · iapply own_any; iexact H21
  isplitl [H22]; · iapply (own_cov (covA22 c i M x hc0 hc1)); iexact H22
  isplitl [H23]; · iapply (own_cov (covA23 c i M x hc0 hc1)); iexact H23
  isplitl [H24]; · iapply (own_cov (covA24 c i M x hc0 hc1)); iexact H24
  isplitl [H25]; · iapply (own_cov (covA25 c i M x hc0 hc1)); iexact H25
  isplitl [H26]; · iapply (own_cov (covA26 c i M x hc0 hc1)); iexact H26
  isplitl [H27]; · iapply (own_cov (covA27 c i M x hc0 hc1)); iexact H27
  isplitl [H28]; · iapply (own_cov (covA28 c i M x hc0 hc1)); iexact H28
  isplitl [H29]; · iapply (own_cov (covA29 c i M x hc0 hc1)); iexact H29
  isplitl [H30]; · iapply (own_cov (covA30 c i M x hc0 hc1)); iexact H30
  iapply (own_cov (covA31 c i M x hc0 hc1)); iexact H31

end Cert.MixBwd

end
-- ==== Proof.MixBwdStepB.lean ====
module

public import proofs.«01_k».proof.Proof.MixBwdMem

@[expose] public section

set_option maxRecDepth 16384

noncomputable section

namespace Cert.MixBwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid1.Coords) (M : Mem) (x : In F) (s : Car F)

/-- The middle point's run on these memrefs. -/
abbrev runB' (hc0 : ¬isFirst i) (hc1 : ¬isLast i) :=
  runB c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 M.a28 M.h28 M.a29 M.h29 M.a30 M.h30 M.a31 M.h31 hc0 hc1 x.x1 x.x2 x.x3 x.x4 x.x5 x.x6 x.x7 x.x8 x.x9 x.x10 x.x11 s.s22 s.s23 s.s24 s.s25 s.s26 s.s27 s.s28 s.s29 s.s30 s.s31

/-- The pieces stored in buffer 12 at the middle point fill it. -/
theorem covB12 (hc0 : ¬isFirst i) (hc1 : ¬isLast i) (y : S512x1536.Idx) :
    ∃ pc ∈ (runB' c i M x s hc0 hc1).1, y ∈ pc.1.set :=
  View.cover_of_tiledBy _ ![512, 128] (by sl_kernel_rfl) y

/-- The pieces stored in buffer 22 at the middle point fill it. -/
theorem covB22 (hc0 : ¬isFirst i) (hc1 : ¬isLast i) (y : S8x512.Idx) :
    ∃ pc ∈ (runB' c i M x s hc0 hc1).2.2.2.2.2.2.2.2.2.2.1, y ∈ pc.1.set :=
  View.cover_of_tiledL _ S8x512.size (by sl_kernel_rfl) y

/-- The pieces stored in buffer 23 at the middle point fill it. -/
theorem covB23 (hc0 : ¬isFirst i) (hc1 : ¬isLast i) (y : S8x512.Idx) :
    ∃ pc ∈ (runB' c i M x s hc0 hc1).2.2.2.2.2.2.2.2.2.2.2.1, y ∈ pc.1.set :=
  View.cover_of_tiledL _ S8x512.size (by sl_kernel_rfl) y

/-- The pieces stored in buffer 24 at the middle point fill it. -/
theorem covB24 (hc0 : ¬isFirst i) (hc1 : ¬isLast i) (y : S16x512.Idx) :
    ∃ pc ∈ (runB' c i M x s hc0 hc1).2.2.2.2.2.2.2.2.2.2.2.2.1, y ∈ pc.1.set :=
  View.cover_of_tiledL _ S16x512.size (by sl_kernel_rfl) y

/-- The pieces stored in buffer 28 at the middle point fill it. -/
theorem covB28 (hc0 : ¬isFirst i) (hc1 : ¬isLast i) (y : S16x512.Idx) :
    ∃ pc ∈ (runB' c i M x s hc0 hc1).2.2.2.2.2.2.2.2.2.2.2.2.2.2.2.2.1, y ∈ pc.1.set :=
  View.cover_of_tiledL _ S16x512.size (by sl_kernel_rfl) y

/-- The pieces stored in buffer 29 at the middle point fill it. -/
theorem covB29 (hc0 : ¬isFirst i) (hc1 : ¬isLast i) (y : S2x256x256.Idx) :
    ∃ pc ∈ (runB' c i M x s hc0 hc1).2.2.2.2.2.2.2.2.2.2.2.2.2.2.2.2.2.1, y ∈ pc.1.set :=
  View.cover_of_tiledL _ S2x256x256.size (by sl_kernel_rfl) y

/-- The pieces stored in buffer 30 at the middle point fill it. -/
theorem covB30 (hc0 : ¬isFirst i) (hc1 : ¬isLast i) (y : S2x256x256.Idx) :
    ∃ pc ∈ (runB' c i M x s hc0 hc1).2.2.2.2.2.2.2.2.2.2.2.2.2.2.2.2.2.2.1, y ∈ pc.1.set :=
  View.cover_of_tiledL _ S2x256x256.size (by sl_kernel_rfl) y

/-- The pieces stored in buffer 31 at the middle point fill it. -/
theorem covB31 (hc0 : ¬isFirst i) (hc1 : ¬isLast i) (y : S2x256x256.Idx) :
    ∃ pc ∈ (runB' c i M x s hc0 hc1).2.2.2.2.2.2.2.2.2.2.2.2.2.2.2.2.2.2.2.1, y ∈ pc.1.set :=
  View.cover_of_tiledL _ S2x256x256.size (by sl_kernel_rfl) y

/-- What the body leaves in the block of `du` at the middle point. -/
def duB (hc0 : ¬isFirst i) (hc1 : ¬isLast i) : Vec F S512x1536 .bf16 :=
  M.a12.view.read (Elt F) (M.a12.view.writes (Elt F) M.a12.view.junk (runB' c i M x s hc0 hc1).1)

/-- What the body leaves in the carried scratch at the middle point. -/
def carB (hc0 : ¬isFirst i) (hc1 : ¬isLast i) : Car F where
  s22 := M.a22.view.read (Elt F) (M.a22.view.writes (Elt F) M.a22.view.junk (runB' c i M x s hc0 hc1).2.2.2.2.2.2.2.2.2.2.1)
  s23 := M.a23.view.read (Elt F) (M.a23.view.writes (Elt F) M.a23.view.junk (runB' c i M x s hc0 hc1).2.2.2.2.2.2.2.2.2.2.2.1)
  s24 := M.a24.view.read (Elt F) (M.a24.view.writes (Elt F) M.a24.view.junk (runB' c i M x s hc0 hc1).2.2.2.2.2.2.2.2.2.2.2.2.1)
  s25 := s.s25
  s26 := s.s26
  s27 := s.s27
  s28 := M.a28.view.read (Elt F) (M.a28.view.writes (Elt F) M.a28.view.junk (runB' c i M x s hc0 hc1).2.2.2.2.2.2.2.2.2.2.2.2.2.2.2.2.1)
  s29 := M.a29.view.read (Elt F) (M.a29.view.writes (Elt F) M.a29.view.junk (runB' c i M x s hc0 hc1).2.2.2.2.2.2.2.2.2.2.2.2.2.2.2.2.2.1)
  s30 := M.a30.view.read (Elt F) (M.a30.view.writes (Elt F) M.a30.view.junk (runB' c i M x s hc0 hc1).2.2.2.2.2.2.2.2.2.2.2.2.2.2.2.2.2.2.1)
  s31 := M.a31.view.read (Elt F) (M.a31.view.writes (Elt F) M.a31.view.junk (runB' c i M x s hc0 hc1).2.2.2.2.2.2.2.2.2.2.2.2.2.2.2.2.2.2.2.1)

set_option maxHeartbeats 4000000 in
/-- The middle point: the body, called on its blocks, ends with `duB` in its block of `du` and `carB` in the carried scratch. -/
theorem tripleB (hc0 : ¬isFirst i) (hc1 : ¬isLast i) (x13 : Vec F S544x256 .f32) (E : Set ℕ) (K : PUnit → sProp 𝕄) :
    iprop(M.ins c x ∗ hasAny c M.a12 ∗ hasV c M.a13 x13 ∗ M.car c s
        ∗ (iprop(M.ins c x ∗ hasV c M.a12 (duB c i M x s hc0 hc1) ∗ hasV c M.a13 x13 ∗ M.car c (carB c i M x s hc0 hc1)) -∗ K ⟨⟩))
      ⊢ wp frame (wpE (defs₀ (F := F)) Variants.none c none) E (M.body i) K := by
  unfold Mem.ins Mem.car
  iintro ⟨⟨H1, H2, H3, H4, H5, H6, H7, H8, H9, H10, H11⟩, H12, H13, ⟨H14, H15, H16, H17, H18, H19, H20, H21, H22, H23, H24, H25, H26, H27, H28, H29, H30, H31⟩, Hk⟩
  have h := (runB' c i M x s hc0 hc1).2.2.2.2.2.2.2.2.2.2.2.2.2.2.2.2.2.2.2.2 x13 E K
  iapply h
  iframe H1 H2 H3 H4 H5 H6 H7 H8 H9 H10 H11 H12 H13 H14 H15 H16 H17 H18 H19 H20 H21 H22 H23 H24 H25 H26 H27 H28 H29 H30 H31
  iintro ⟨H1, H2, H3, H4, H5, H6, H7, H8, H9, H10, H11, H12, H13, H14, H15, H16, H17, H18, H19, H20, H21, H22, H23, H24, H25, H26, H27, H28, H29, H30, H31⟩
  iapply Hk
  isplitl [H1 H2 H3 H4 H5 H6 H7 H8 H9 H10 H11]
  · iframe H1 H2 H3 H4 H5 H6 H7 H8 H9 H10 H11
  isplitl [H12]; · iapply (own_cov (covB12 c i M x s hc0 hc1)); iexact H12
  isplitl [H13]; · iexact H13
  isplitl [H14]; · iapply own_any; iexact H14
  isplitl [H15]; · iapply own_any; iexact H15
  isplitl [H16]; · iapply own_any; iexact H16
  isplitl [H17]; · iapply own_any; iexact H17
  isplitl [H18]; · iapply own_any; iexact H18
  isplitl [H19]; · iapply own_any; iexact H19
  isplitl [H20]; · iapply own_any; iexact H20
  isplitl [H21]; · iapply own_any; iexact H21
  isplitl [H22]; · iapply (own_cov (covB22 c i M x s hc0 hc1)); iexact H22
  isplitl [H23]; · iapply (own_cov (covB23 c i M x s hc0 hc1)); iexact H23
  isplitl [H24]; · iapply (own_cov (covB24 c i M x s hc0 hc1)); iexact H24
  iframe H25 H26 H27
  isplitl [H28]; · iapply (own_cov (covB28 c i M x s hc0 hc1)); iexact H28
  isplitl [H29]; · iapply (own_cov (covB29 c i M x s hc0 hc1)); iexact H29
  isplitl [H30]; · iapply (own_cov (covB30 c i M x s hc0 hc1)); iexact H30
  iapply (own_cov (covB31 c i M x s hc0 hc1)); iexact H31

end Cert.MixBwd

end
-- ==== Proof.MixBwdStepC.lean ====
module

public import proofs.«01_k».proof.Proof.MixBwdMem

@[expose] public section

set_option maxRecDepth 16384

noncomputable section

namespace Cert.MixBwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid1.Coords) (M : Mem) (x : In F) (s : Car F)

/-- The last point's run on these memrefs. -/
abbrev runC' (hc0 : ¬isFirst i) (hc1 : isLast i) :=
  runC c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 M.a28 M.h28 M.a29 M.h29 M.a30 M.h30 M.a31 M.h31 hc0 hc1 x.x1 x.x2 x.x3 x.x4 x.x5 x.x6 x.x7 x.x8 x.x9 x.x10 x.x11 s.s22 s.s23 s.s24 s.s25 s.s26 s.s27 s.s28 s.s29 s.s30 s.s31

/-- The pieces stored in buffer 12 at the last point fill it. -/
theorem covC12 (hc0 : ¬isFirst i) (hc1 : isLast i) (y : S512x1536.Idx) :
    ∃ pc ∈ (runC' c i M x s hc0 hc1).1, y ∈ pc.1.set :=
  View.cover_of_tiledBy _ ![512, 128] (by sl_kernel_rfl) y

/-- The pieces stored in buffer 13 at the last point fill it. -/
theorem covC13 (hc0 : ¬isFirst i) (hc1 : isLast i) (y : S544x256.Idx) :
    ∃ pc ∈ (runC' c i M x s hc0 hc1).2.1, y ∈ pc.1.set :=
  View.cover_of_tiledBy _ ![16, 256] (by sl_kernel_rfl) y

/-- The pieces stored in buffer 22 at the last point fill it. -/
theorem covC22 (hc0 : ¬isFirst i) (hc1 : isLast i) (y : S8x512.Idx) :
    ∃ pc ∈ (runC' c i M x s hc0 hc1).2.2.2.2.2.2.2.2.2.2.1, y ∈ pc.1.set :=
  View.cover_of_tiledL _ S8x512.size (by sl_kernel_rfl) y

/-- The pieces stored in buffer 23 at the last point fill it. -/
theorem covC23 (hc0 : ¬isFirst i) (hc1 : isLast i) (y : S8x512.Idx) :
    ∃ pc ∈ (runC' c i M x s hc0 hc1).2.2.2.2.2.2.2.2.2.2.2.1, y ∈ pc.1.set :=
  View.cover_of_tiledL _ S8x512.size (by sl_kernel_rfl) y

/-- The pieces stored in buffer 24 at the last point fill it. -/
theorem covC24 (hc0 : ¬isFirst i) (hc1 : isLast i) (y : S16x512.Idx) :
    ∃ pc ∈ (runC' c i M x s hc0 hc1).2.2.2.2.2.2.2.2.2.2.2.2.1, y ∈ pc.1.set :=
  View.cover_of_tiledL _ S16x512.size (by sl_kernel_rfl) y

/-- The pieces stored in buffer 28 at the last point fill it. -/
theorem covC28 (hc0 : ¬isFirst i) (hc1 : isLast i) (y : S16x512.Idx) :
    ∃ pc ∈ (runC' c i M x s hc0 hc1).2.2.2.2.2.2.2.2.2.2.2.2.2.2.2.2.1, y ∈ pc.1.set :=
  View.cover_of_tiledL _ S16x512.size (by sl_kernel_rfl) y

/-- The pieces stored in buffer 29 at the last point fill it. -/
theorem covC29 (hc0 : ¬isFirst i) (hc1 : isLast i) (y : S2x256x256.Idx) :
    ∃ pc ∈ (runC' c i M x s hc0 hc1).2.2.2.2.2.2.2.2.2.2.2.2.2.2.2.2.2.1, y ∈ pc.1.set :=
  View.cover_of_tiledL _ S2x256x256.size (by sl_kernel_rfl) y

/-- The pieces stored in buffer 30 at the last point fill it. -/
theorem covC30 (hc0 : ¬isFirst i) (hc1 : isLast i) (y : S2x256x256.Idx) :
    ∃ pc ∈ (runC' c i M x s hc0 hc1).2.2.2.2.2.2.2.2.2.2.2.2.2.2.2.2.2.2.1, y ∈ pc.1.set :=
  View.cover_of_tiledL _ S2x256x256.size (by sl_kernel_rfl) y

/-- The pieces stored in buffer 31 at the last point fill it. -/
theorem covC31 (hc0 : ¬isFirst i) (hc1 : isLast i) (y : S2x256x256.Idx) :
    ∃ pc ∈ (runC' c i M x s hc0 hc1).2.2.2.2.2.2.2.2.2.2.2.2.2.2.2.2.2.2.2.1, y ∈ pc.1.set :=
  View.cover_of_tiledL _ S2x256x256.size (by sl_kernel_rfl) y

/-- What the body leaves in the block of `du` at the last point. -/
def duC (hc0 : ¬isFirst i) (hc1 : isLast i) : Vec F S512x1536 .bf16 :=
  M.a12.view.read (Elt F) (M.a12.view.writes (Elt F) M.a12.view.junk (runC' c i M x s hc0 hc1).1)

/-- The packed gradients the body stores at the last point. -/
def sgC (hc0 : ¬isFirst i) (hc1 : isLast i) : Vec F S544x256 .f32 :=
  M.a13.view.read (Elt F) (M.a13.view.writes (Elt F) M.a13.view.junk (runC' c i M x s hc0 hc1).2.1)

/-- What the body leaves in the carried scratch at the last point. -/
def carC (hc0 : ¬isFirst i) (hc1 : isLast i) : Car F where
  s22 := M.a22.view.read (Elt F) (M.a22.view.writes (Elt F) M.a22.view.junk (runC' c i M x s hc0 hc1).2.2.2.2.2.2.2.2.2.2.1)
  s23 := M.a23.view.read (Elt F) (M.a23.view.writes (Elt F) M.a23.view.junk (runC' c i M x s hc0 hc1).2.2.2.2.2.2.2.2.2.2.2.1)
  s24 := M.a24.view.read (Elt F) (M.a24.view.writes (Elt F) M.a24.view.junk (runC' c i M x s hc0 hc1).2.2.2.2.2.2.2.2.2.2.2.2.1)
  s25 := s.s25
  s26 := s.s26
  s27 := s.s27
  s28 := M.a28.view.read (Elt F) (M.a28.view.writes (Elt F) M.a28.view.junk (runC' c i M x s hc0 hc1).2.2.2.2.2.2.2.2.2.2.2.2.2.2.2.2.1)
  s29 := M.a29.view.read (Elt F) (M.a29.view.writes (Elt F) M.a29.view.junk (runC' c i M x s hc0 hc1).2.2.2.2.2.2.2.2.2.2.2.2.2.2.2.2.2.1)
  s30 := M.a30.view.read (Elt F) (M.a30.view.writes (Elt F) M.a30.view.junk (runC' c i M x s hc0 hc1).2.2.2.2.2.2.2.2.2.2.2.2.2.2.2.2.2.2.1)
  s31 := M.a31.view.read (Elt F) (M.a31.view.writes (Elt F) M.a31.view.junk (runC' c i M x s hc0 hc1).2.2.2.2.2.2.2.2.2.2.2.2.2.2.2.2.2.2.2.1)

set_option maxHeartbeats 4000000 in
/-- The last point: the body, called on its blocks, ends with `duC` in its block of `du` and `carC` in the carried scratch. -/
theorem tripleC (hc0 : ¬isFirst i) (hc1 : isLast i) (E : Set ℕ) (K : PUnit → sProp 𝕄) :
    iprop(M.ins c x ∗ hasAny c M.a12 ∗ hasAny c M.a13 ∗ M.car c s
        ∗ (iprop(M.ins c x ∗ hasV c M.a12 (duC c i M x s hc0 hc1) ∗ hasV c M.a13 (sgC c i M x s hc0 hc1) ∗ M.car c (carC c i M x s hc0 hc1)) -∗ K ⟨⟩))
      ⊢ wp frame (wpE (defs₀ (F := F)) Variants.none c none) E (M.body i) K := by
  unfold Mem.ins Mem.car
  iintro ⟨⟨H1, H2, H3, H4, H5, H6, H7, H8, H9, H10, H11⟩, H12, H13, ⟨H14, H15, H16, H17, H18, H19, H20, H21, H22, H23, H24, H25, H26, H27, H28, H29, H30, H31⟩, Hk⟩
  have h := (runC' c i M x s hc0 hc1).2.2.2.2.2.2.2.2.2.2.2.2.2.2.2.2.2.2.2.2 E K
  iapply h
  iframe H1 H2 H3 H4 H5 H6 H7 H8 H9 H10 H11 H12 H13 H14 H15 H16 H17 H18 H19 H20 H21 H22 H23 H24 H25 H26 H27 H28 H29 H30 H31
  iintro ⟨H1, H2, H3, H4, H5, H6, H7, H8, H9, H10, H11, H12, H13, H14, H15, H16, H17, H18, H19, H20, H21, H22, H23, H24, H25, H26, H27, H28, H29, H30, H31⟩
  iapply Hk
  isplitl [H1 H2 H3 H4 H5 H6 H7 H8 H9 H10 H11]
  · iframe H1 H2 H3 H4 H5 H6 H7 H8 H9 H10 H11
  isplitl [H12]; · iapply (own_cov (covC12 c i M x s hc0 hc1)); iexact H12
  isplitl [H13]; · iapply (own_cov (covC13 c i M x s hc0 hc1)); iexact H13
  isplitl [H14]; · iapply own_any; iexact H14
  isplitl [H15]; · iapply own_any; iexact H15
  isplitl [H16]; · iapply own_any; iexact H16
  isplitl [H17]; · iapply own_any; iexact H17
  isplitl [H18]; · iapply own_any; iexact H18
  isplitl [H19]; · iapply own_any; iexact H19
  isplitl [H20]; · iapply own_any; iexact H20
  isplitl [H21]; · iapply own_any; iexact H21
  isplitl [H22]; · iapply (own_cov (covC22 c i M x s hc0 hc1)); iexact H22
  isplitl [H23]; · iapply (own_cov (covC23 c i M x s hc0 hc1)); iexact H23
  isplitl [H24]; · iapply (own_cov (covC24 c i M x s hc0 hc1)); iexact H24
  iframe H25 H26 H27
  isplitl [H28]; · iapply (own_cov (covC28 c i M x s hc0 hc1)); iexact H28
  isplitl [H29]; · iapply (own_cov (covC29 c i M x s hc0 hc1)); iexact H29
  isplitl [H30]; · iapply (own_cov (covC30 c i M x s hc0 hc1)); iexact H30
  iapply (own_cov (covC31 c i M x s hc0 hc1)); iexact H31

end Cert.MixBwd

end
-- ==== Proof.PoolPoint.lean ====
/- What one point of the backward pass leaves of the pool half: its rows' gradient, the rows handed to the tile before
   it, and the sums with the tile's part added. -/
module

public import proofs.«01_k».proof.Proof.PoolTile
public import proofs.«01_k».proof.Proof.MixBwdStepA
public import proofs.«01_k».proof.Proof.MixBwdStepB
public import proofs.«01_k».proof.Proof.MixBwdStepC
import all proofs.«01_k».proof.Proof.MixBwdRun

@[expose] public section

set_option maxRecDepth 16384

noncomputable section

namespace Cert.Pool

open Cert.MixerIdeal Cert.MixerIdeal.Gen Cert.MixBwd
open Idealize.ShloMosaic Idealize.ShloMosaic.TcCoe

/-- The values that one tile's pool half is computed from. -/
structure Tile where
  /-- The packed vectors. -/
  r : FVec Ideal S16x512 .f32
  /-- The product with the output weight. -/
  q : FVec Ideal S512x1024 .f32
  /-- The four groups of the input, the sixteen rows before the tile in front. -/
  v0 : FVec Ideal S528x128 .f32
  v1 : FVec Ideal S528x128 .f32
  v2 : FVec Ideal S528x128 .f32
  v3 : FVec Ideal S528x128 .f32
  /-- The two halves of the block-diagonal weight. -/
  w1 : FVec Ideal S1x256x256 .bf16
  w2 : FVec Ideal S1x256x256 .bf16
  /-- The windows' cotangents of the sixteen rows after the tile. -/
  e : FVec Ideal S16x512 .f32

namespace Tile

variable (T : Tile) (b : BitVec 32)

/-- The pooled rows. -/
def pl : FVec Ideal S512x512 .bf16 :=
  k1_pay198 (k1_pay188 b) (k1_pay190 b T.v0) (k1_pay193 (k1_pay188 b) T.v1 (k1_pay191 T.v1)) (k1_pay195 (k1_pay188 b) T.v2) T.v3 (k1_pay196 T.v3) 2#32
/-- The rows through the weight, with the bias. -/
def z : FVec Ideal S512x512 .f32 :=
  k1_pay199 T.r (k1_pay188 b) (k1_pay190 b T.v0) (k1_pay193 (k1_pay188 b) T.v1 (k1_pay191 T.v1)) (k1_pay195 (k1_pay188 b) T.v2) T.v3 (k1_pay196 T.v3) 2#32 T.w1 T.w2
/-- The scaled rows. -/
def y : FVec Ideal S512x512 .f32 :=
  k1_pay201 T.r (k1_pay188 b) (k1_pay190 b T.v0) (k1_pay193 (k1_pay188 b) T.v1 (k1_pay191 T.v1)) (k1_pay195 (k1_pay188 b) T.v2) T.v3 (k1_pay196 T.v3) 2#32 T.w1 T.w2
/-- Each row's sum of squares. -/
def sq : FVec Ideal S512x1 .f32 :=
  k1_pay202 T.r (k1_pay188 b) (k1_pay190 b T.v0) (k1_pay193 (k1_pay188 b) T.v1 (k1_pay191 T.v1)) (k1_pay195 (k1_pay188 b) T.v2) T.v3 (k1_pay196 T.v3) 2#32 T.w1 T.w2
/-- The weighted rows' cotangent. -/
def P : FVec Ideal S512x512 .bf16 := k1_pay210 T.r T.q (k1_pay200 T.r) (T.y b) (T.sq b) k1_pay203
/-- Its first half. -/
def Q : FVec Ideal S512x256 .bf16 := k1_pay212 T.r T.q (k1_pay200 T.r) (T.y b) (T.sq b) k1_pay203
/-- The pooled rows' cotangent. -/
def D : FVec Ideal S512x512 .f32 := k1_pay214 (F := Ideal) (T.P b) (T.Q b) (k1_pay213 T.w1) (constant S512x256 FTy.f32 0#32) T.w2
/-- The stores of the windows' cotangents. -/
def L : List (View.Piece (Elt Ideal) S528x512 .f32) := L21 b (T.P b) (T.Q b) (k1_pay213 T.w1) (constant S512x256 FTy.f32 0#32) T.w2 T.e

/-- The tile's values are those of the arrays' rows. -/
structure Ok (A : Arrays) (it : Fin 16) : Prop where
  r : Rows A T.r
  q : Cot A it T.q
  v0 : EIn it A 0 T.v0
  v1 : EIn it A 1 T.v1
  v2 : EIn it A 2 T.v2
  v3 : EIn it A 3 T.v3
  w1 : Wt A 0 T.w1
  w2 : Wt A 1 T.w2
  e : ∀ (p : Fin 16) (j : Fin 512), T.e (ix2 p j) = ((fw A (512 * it.val + 512 + p.val) j : ℝ) : EReal)

variable {T} {A : Arrays} {it : Fin 16} (h : T.Ok A it)
include h

theorem Ok.pl : Holds it (pooled A) (T.pl (BitVec.ofNat 32 it.val)) := pool_at h.v0 h.v1 h.v2 h.v3
theorem Ok.z : Holds it (zp A) (T.z (BitVec.ofNat 32 it.val)) := zp_at h.pl h.r h.w1 h.w2
theorem Ok.y : Holds it (yp A) (T.y (BitVec.ofNat 32 it.val)) := yp_at h.pl h.r h.w1 h.w2
theorem Ok.sq : Sq A it (T.sq (BitVec.ofNat 32 it.val)) := sq_at h.pl h.r h.w1 h.w2
theorem Ok.D : Holds it (dp A) (T.D (BitVec.ofNat 32 it.val)) := dp_at h.w1 h.w2 h.r h.q h.y h.sq

end Tile

/-! ## The points' blocks -/

/-- The point's blocks hold the arrays' rows. -/
structure InOk (A : Arrays) (it : Fin 16) (x : In Ideal) : Prop where
  d2 : ∀ (i : Fin 512) (k : Fin 1024), x.x1 (ix2 i k) = ((A.d2 (512 * it.val + i.val) k : ℝ) : EReal)
  u : ∀ i j : Fin 512, x.x2 (ix2 i (⟨1024 + j.val, by omega⟩ : Fin 1536)) = ((A.u (512 * it.val + i.val) j : ℝ) : EReal)
  uh : it.val ≠ 0 → ∀ (p : Fin 16) (j : Fin 512), x.x3 (ix2 p j) = ((A.u (512 * it.val + p.val - 16) j : ℝ) : EReal)
  pv : Rows A x.x7
  wp : ∀ (g : Fin 4) (a b : Fin 128), x.x10 (ix3 g a b) = ((A.wp g a b : ℝ) : EReal)
  wo : ∀ (j : Fin 512) (k : Fin 1024), x.x11 (ix2 (wrow j) k) = ((A.wo j k : ℝ) : EReal)

/-- The carried scratch holds the windows' cotangents of the rows after the tile, and the block-diagonal weight. -/
structure CarOk (A : Arrays) (it : Fin 16) (s : Car Ideal) : Prop where
  e : ∀ (p : Fin 16) (j : Fin 512), s.s24 (ix2 p j) = ((fw A (512 * it.val + 512 + p.val) j : ℝ) : EReal)
  w : ∀ (h : Fin 2) (a b : Fin 256), s.s27 (ix3 h a b) = ((bd A h a b : ℝ) : EReal)

/-- What a point leaves: the tile's gradient; the rows handed on; the sums `o` with the tile's part. -/
structure Done (A : Arrays) (it : Fin 16) (o8 o9 o11 : Fin 512 → EReal) (o31 : Fin 2 → Fin 256 → Fin 256 → EReal) (d : Vec Ideal S512x1536 .bf16) (s : Car Ideal) : Prop where
  du : ∀ i j : Fin 512, d (ix2 i (⟨1024 + j.val, by omega⟩ : Fin 1536)) = ((du A (512 * it.val + i.val) j : ℝ) : EReal)
  e : ∀ (p : Fin 16) (j : Fin 512), s.s24 (ix2 p j) = ((fw A (512 * it.val + p.val) j : ℝ) : EReal)
  w : ∀ (h : Fin 2) (a b : Fin 256), s.s27 (ix3 h a b) = ((bd A h a b : ℝ) : EReal)
  pb : ∀ j : Fin 512, s.s28 (ix2 8 j) = o8 j + ((∑ i : Fin 512, dz A (512 * it.val + i.val) j : ℝ) : EReal)
  ps : ∀ j : Fin 512, s.s28 (ix2 9 j) = o9 j + ((∑ i : Fin 512, dy A (512 * it.val + i.val) j * zp A (512 * it.val + i.val) j : ℝ) : EReal)
  gp : ∀ j : Fin 512, s.s28 (ix2 11 j) = o11 j + ((∑ i : Fin 512, dyn A (512 * it.val + i.val) j * xh A (512 * it.val + i.val) j : ℝ) : EReal)
  dw : ∀ (h : Fin 2) (a b : Fin 256), s.s31 (ix3 h a b) = o31 h a b + ((∑ i : Fin 512, pooled A (512 * it.val + i.val) (col h a) * dz A (512 * it.val + i.val) (col h b) : ℝ) : EReal)

/-- The stores of the tile's input at a point. -/
def in14 (i : grid1.Coords) (M : Mem) (x : In Ideal) : List (View.Piece (Elt Ideal) S528x512 .f32) :=
  L14 i (View.readAt (Elt Ideal) M.a2.view (Rect.unit (s := S512x1536) ![0, 1024] S512x512.size inb_S512x1536_S512x512_0_1024).toLoadRect (M.h2.unread x.x2))
    (View.readAt (Elt Ideal) M.a3.view (Rect.unit (s := S16x512) ![0, 0] S16x512.size inb_S16x512_S16x512_0_0).toLoadRect (M.h3.unread x.x3))

/-- The tile's values as the body reads them, from the weight's halves and the rows after the tile. -/
def tileOf (i : grid1.Coords) (M : Mem) (x : In Ideal) (w1 w2 : FVec Ideal S1x256x256 .bf16) (e : FVec Ideal S16x512 .f32) : Tile where
  r := k1_pay128 (View.readAt (Elt Ideal) M.a7.view (Rect.unit (s := S16x512) ![0, 0] S16x512.size inb_S16x512_S16x512_0_0).toLoadRect (M.h7.unread x.x7))
  q := k1_pay129 (View.readAt (Elt Ideal) M.a1.view (Rect.unit (s := S512x1024) ![0, 0] S512x1024.size inb_S512x1024_S512x1024_0_0).toLoadRect (M.h1.unread x.x1))
    (View.readAt (Elt Ideal) M.a11.view (Rect.unit (s := S1024x1024) ![0, 0] S1024x1024.size inb_S1024x1024_S1024x1024_0_0).toLoadRect (M.h11.unread x.x11))
  v0 := M.a14.view.readCov (in14 i M x) (Rect.unit (s := S528x512) ![0, 0] S528x128.size inb_S528x512_S528x128_0_0).toLoadRect
  v1 := M.a14.view.readCov (in14 i M x) (Rect.unit (s := S528x512) ![0, 128] S528x128.size inb_S528x512_S528x128_0_128).toLoadRect
  v2 := M.a14.view.readCov (in14 i M x) (Rect.unit (s := S528x512) ![0, 256] S528x128.size inb_S528x512_S528x128_0_256).toLoadRect
  v3 := M.a14.view.readCov (in14 i M x) (Rect.unit (s := S528x512) ![0, 384] S528x128.size inb_S528x512_S528x128_0_384).toLoadRect
  w1 := w1
  w2 := w2
  e := e

/-- The tile's values at a point that finds the scratch filled. -/
def tileB (i : grid1.Coords) (M : Mem) (x : In Ideal) (s : Car Ideal) : Tile :=
  tileOf i M x (View.readAt (Elt Ideal) M.a27.view (Rect.unit (s := S2x256x256) ![0, 0, 0] S1x256x256.size inb_S2x256x256_S1x256x256_0_0_0).toLoadRect (M.h27.unread s.s27))
    (View.readAt (Elt Ideal) M.a27.view (Rect.unit (s := S2x256x256) ![1, 0, 0] S1x256x256.size inb_S2x256x256_S1x256x256_1_0_0).toLoadRect (M.h27.unread s.s27))
    (View.readAt (Elt Ideal) M.a24.view (Rect.unit (s := S16x512) ![0, 0] S16x512.size inb_S16x512_S16x512_0_0).toLoadRect (M.h24.unread s.s24))

/-- The stores of the block-diagonal weight at the first point. -/
def in27 (M : Mem) (x : In Ideal) : List (View.Piece (Elt Ideal) S2x256x256 .bf16) :=
  L27 (View.readAt (Elt Ideal) M.a10.view (Rect.unit (s := S4x128x128) ![0, 0, 0] S1x128x128.size inb_S4x128x128_S1x128x128_0_0_0).toLoadRect (M.h10.unread x.x10))
    (View.readAt (Elt Ideal) M.a10.view (Rect.unit (s := S4x128x128) ![1, 0, 0] S1x128x128.size inb_S4x128x128_S1x128x128_1_0_0).toLoadRect (M.h10.unread x.x10))
    (View.readAt (Elt Ideal) M.a10.view (Rect.unit (s := S4x128x128) ![2, 0, 0] S1x128x128.size inb_S4x128x128_S1x128x128_2_0_0).toLoadRect (M.h10.unread x.x10))
    (View.readAt (Elt Ideal) M.a10.view (Rect.unit (s := S4x128x128) ![3, 0, 0] S1x128x128.size inb_S4x128x128_S1x128x128_3_0_0).toLoadRect (M.h10.unread x.x10))

/-- The tile's values at the first point, which fills the scratch. -/
def tileA (i : grid1.Coords) (M : Mem) (x : In Ideal) : Tile :=
  tileOf i M x (M.a27.view.readCov (in27 M x) (Rect.unit (s := S2x256x256) ![0, 0, 0] S1x256x256.size inb_S2x256x256_S1x256x256_0_0_0).toLoadRect)
    (M.a27.view.readCov (in27 M x) (Rect.unit (s := S2x256x256) ![1, 0, 0] S1x256x256.size inb_S2x256x256_S1x256x256_1_0_0).toLoadRect)
    (M.a24.view.readCov (Val := Elt Ideal) [⟨Rect.unit (s := S16x512) ![0, 0] S16x512.size inb_S16x512_S16x512_0_0, k1_pay6 (F := Ideal)⟩] (Rect.unit (s := S16x512) ![0, 0] S16x512.size inb_S16x512_S16x512_0_0).toLoadRect)

/-- A whole matrix's rectangle is the matrix. -/
theorem idxW {n m : ℕ} (inb : ∀ k : Fin 2, (![0, 0] : Fin 2 → ℕ) k + (![n, m] : Fin 2 → ℕ) k ≤ (⟨2, ![n, m]⟩ : Shape).size k) (i : Fin n) (j : Fin m) :
    (Rect.unit (s := ⟨2, ![n, m]⟩) ![0, 0] ![n, m] inb).toLoadRect.idx (ix2 i j) = ix2 i j :=
  (idx2 inb i j (by omega) (by omega)).trans (congrArg₂ ix2 (Fin.ext (Nat.zero_add _)) (Fin.ext (Nat.zero_add _)))

/-- A read of a whole block is the block. -/
theorem readW {κ : Kind} {sp : Space} {n m : ℕ} {e : EltTy} {a : Memref sig κ sp ⟨2, ![n, m]⟩ e} (h : a.IsWhole) (X : (⟨2, ![n, m]⟩ : Shape).Idx → Elt Ideal e)
    (inb : ∀ k : Fin 2, (![0, 0] : Fin 2 → ℕ) k + (![n, m] : Fin 2 → ℕ) k ≤ (⟨2, ![n, m]⟩ : Shape).size k) (i : Fin n) (j : Fin m) :
    View.readAt (Elt Ideal) a.view (Rect.unit (s := ⟨2, ![n, m]⟩) ![0, 0] ![n, m] inb).toLoadRect (h.unread X) (ix2 i j) = X (ix2 i j) :=
  (Memref.IsWhole.readAt_unread h X _ _).trans (congrArg X (idxW inb i j))

variable {A : Arrays} {it : Fin 16} {i : grid1.Coords} {M : Mem} {x : In Ideal} {s : Car Ideal}

theorem tileOf_ok (hi : Scalar.subi 15#32 (BitVec.ofNat 32 (i 0).val) = BitVec.ofNat 32 it.val) (hx : InOk A it x) {w1 w2 : FVec Ideal S1x256x256 .bf16} {e : FVec Ideal S16x512 .f32}
    (h1 : Wt A 0 w1) (h2 : Wt A 1 w2) (he : ∀ (p : Fin 16) (j : Fin 512), e (ix2 p j) = ((fw A (512 * it.val + 512 + p.val) j : ℝ) : EReal)) : (tileOf i M x w1 w2 e).Ok A it := by
  have hr : ∀ (p : Fin 16) (j : Fin 512), (tileOf i M x w1 w2 e).r (ix2 p j) = x.x7 (ix2 p j) := fun p j => by
    refine (show (tileOf i M x w1 w2 e).r (ix2 p j) = View.readAt (Elt Ideal) M.a7.view (Rect.unit (s := S16x512) ![0, 0] S16x512.size inb_S16x512_S16x512_0_0).toLoadRect (M.h7.unread x.x7) (ix2 p j) by
      unfold tileOf k1_pay128; dsimp only; rw [shapeCast_self]).trans ?_
    exact readW M.h7 x.x7 inb_S16x512_S16x512_0_0 p j
  have ha : ∀ p j : Fin 512, View.readAt (Elt Ideal) M.a2.view (Rect.unit (s := S512x1536) ![0, 1024] S512x512.size inb_S512x1536_S512x512_0_1024).toLoadRect (M.h2.unread x.x2) (ix2 p j)
      = ((A.u (512 * it.val + p.val) j : ℝ) : EReal) := fun p j => by
    refine (Memref.IsWhole.readAt_unread M.h2 x.x2 _ _).trans ((congrArg x.x2 (idx2 inb_S512x1536_S512x512_0_1024 p j (by omega) (by omega))).trans ?_)
    exact Eq.trans (congrArg (fun k : Fin 512 => x.x2 (ix2 k (⟨1024 + j.val, by omega⟩ : Fin 1536))) (Fin.ext (Nat.zero_add _))) (hx.u p j)
  have hb : it.val ≠ 0 → ∀ (p : Fin 16) (j : Fin 512), View.readAt (Elt Ideal) M.a3.view (Rect.unit (s := S16x512) ![0, 0] S16x512.size inb_S16x512_S16x512_0_0).toLoadRect (M.h3.unread x.x3) (ix2 p j)
      = ((A.u (512 * it.val + p.val - 16) j : ℝ) : EReal) := fun h p j =>
    (readW M.h3 x.x3 inb_S16x512_S16x512_0_0 p j).trans (hx.uh h p j)
  exact
    { r := ⟨fun j => (hr 8 j).trans (hx.pv.pb j), fun j => (hr 9 j).trans (hx.pv.ps j), fun j => (hr 11 j).trans (hx.pv.gp j)⟩
      q := cot_at (fun i k => (readW M.h1 x.x1 inb_S512x1024_S512x1024_0_0 i k).trans (hx.d2 i k)) (fun j k => (readW M.h11 x.x11 inb_S1024x1024_S1024x1024_0_0 (wrow j) k).trans (hx.wo j k))
      v0 := ein_of M.a14.view hi ha hb 0 0 rfl inb_S528x512_S528x128_0_0
      v1 := ein_of M.a14.view hi ha hb 1 128 rfl inb_S528x512_S528x128_0_128
      v2 := ein_of M.a14.view hi ha hb 2 256 rfl inb_S528x512_S528x128_0_256
      v3 := ein_of M.a14.view hi ha hb 3 384 rfl inb_S528x512_S528x128_0_384
      w1 := h1
      w2 := h2
      e := he }

theorem tileB_ok (hi : Scalar.subi 15#32 (BitVec.ofNat 32 (i 0).val) = BitVec.ofNat 32 it.val) (hx : InOk A it x) (hs : CarOk A it s) : (tileB i M x s).Ok A it := by
  have hw : ∀ (h : Fin 2) (o : ℕ) (ho : h.val = o) (inb : ∀ k : Fin 3, (![o, 0, 0] : Fin 3 → ℕ) k + (![1, 256, 256] : Fin 3 → ℕ) k ≤ S2x256x256.size k),
      Wt A h (View.readAt (Elt Ideal) M.a27.view (Rect.unit (s := S2x256x256) ![o, 0, 0] ![1, 256, 256] inb).toLoadRect (M.h27.unread s.s27)) := fun h o ho inb a b => by
    refine (Memref.IsWhole.readAt_unread M.h27 s.s27 _ _).trans ((congrArg s.s27 (idx3 inb 0 a b (by show o + 0 < 2; omega) (by omega) (by omega))).trans ?_)
    have e0 : (⟨o + (0 : Fin 1).val, by show o + 0 < 2; omega⟩ : Fin 2) = h := Fin.ext (by show o + 0 = h.val; omega)
    have e1 : (⟨0 + a.val, by omega⟩ : Fin 256) = a := Fin.ext (Nat.zero_add _)
    have e2 : (⟨0 + b.val, by omega⟩ : Fin 256) = b := Fin.ext (Nat.zero_add _)
    rw [e0, e1, e2]
    exact hs.w h a b
  exact tileOf_ok hi hx (hw 0 0 rfl inb_S2x256x256_S1x256x256_0_0_0) (hw 1 1 rfl inb_S2x256x256_S1x256x256_1_0_0) (fun p j => (readW M.h24 s.s24 inb_S16x512_S16x512_0_0 p j).trans (hs.e p j))

theorem block_at (hx : InOk A it x) (g : Fin 4) (o : ℕ) (ho : g.val = o) (inb : ∀ k : Fin 3, (![o, 0, 0] : Fin 3 → ℕ) k + (![1, 128, 128] : Fin 3 → ℕ) k ≤ S4x128x128.size k) (a b : Fin 128) :
    View.readAt (Elt Ideal) M.a10.view (Rect.unit (s := S4x128x128) ![o, 0, 0] ![1, 128, 128] inb).toLoadRect (M.h10.unread x.x10) (ix3 0 a b) = ((A.wp g a b : ℝ) : EReal) := by
  refine (Memref.IsWhole.readAt_unread M.h10 x.x10 _ _).trans ((congrArg x.x10 (idx3 inb 0 a b (by show o + 0 < 4; omega) (by omega) (by omega))).trans ?_)
  have e0 : (⟨o + (0 : Fin 1).val, by show o + 0 < 4; omega⟩ : Fin 4) = g := Fin.ext (by show o + 0 = g.val; omega)
  have e1 : (⟨0 + a.val, by omega⟩ : Fin 128) = a := Fin.ext (Nat.zero_add _)
  have e2 : (⟨0 + b.val, by omega⟩ : Fin 128) = b := Fin.ext (Nat.zero_add _)
  rw [e0, e1, e2]
  exact hx.wp g a b

theorem tileA_ok (hi : Scalar.subi 15#32 (BitVec.ofNat 32 (i 0).val) = BitVec.ofNat 32 it.val) (hl : it.val = 15) (hx : InOk A it x) : (tileA i M x).Ok A it := by
  have hw : ∀ (h : Fin 2) (o : ℕ) (ho : h.val = o) (inb : ∀ k : Fin 3, (![o, 0, 0] : Fin 3 → ℕ) k + (![1, 256, 256] : Fin 3 → ℕ) k ≤ S2x256x256.size k),
      Wt A h (M.a27.view.readCov (in27 M x) (Rect.unit (s := S2x256x256) ![o, 0, 0] ![1, 256, 256] inb).toLoadRect) := fun h o ho inb =>
    wt_of M.a27.view (block_at hx 0 0 rfl inb_S4x128x128_S1x128x128_0_0_0) (block_at hx 1 1 rfl inb_S4x128x128_S1x128x128_1_0_0) (block_at hx 2 2 rfl inb_S4x128x128_S1x128x128_2_0_0)
      (block_at hx 3 3 rfl inb_S4x128x128_S1x128x128_3_0_0) h o ho inb
  refine tileOf_ok hi hx (hw 0 0 rfl inb_S2x256x256_S1x256x256_0_0_0) (hw 1 1 rfl inb_S2x256x256_S1x256x256_1_0_0) fun p j => ?_
  rw [View.readCov_eq_canon']
  refine (congrArg (View.canon _) (idxW inb_S16x512_S16x512_0_0 p j)).trans ?_
  refine (hit2 _ p j (Nat.zero_add _).symm (Nat.zero_add _).symm).trans ?_
  rw [fw, if_neg (by omega)]
  pointwise [k1_pay6]
  exact EReal.coe_zero.symm

/-! ## What the points leave -/

section Leave

variable {b : BitVec 32} {T : Tile}

/-- The gradient of the tile's input, from the stores. -/
theorem du_left (hb : b = BitVec.ofNat 32 it.val) (h : T.Ok A it) {κ : Kind} {sp : Space} (v : View sig κ sp S528x512 .f32) (L : List (View.Piece (Elt Ideal) S512x1536 .bf16)) (i j : Fin 512) :
    View.canon (L12 (T.D b) (v.readCov (T.L b) (Rect.unit (s := S528x512) ![0, 0] S528x128.size inb_S528x512_S528x128_0_0).toLoadRect)
      (v.readCov (T.L b) (Rect.unit (s := S528x512) ![0, 128] S528x128.size inb_S528x512_S528x128_0_128).toLoadRect)
      (v.readCov (T.L b) (Rect.unit (s := S528x512) ![0, 256] S528x128.size inb_S528x512_S528x128_0_256).toLoadRect)
      (v.readCov (T.L b) (Rect.unit (s := S528x512) ![0, 384] S528x128.size inb_S528x512_S528x128_0_384).toLoadRect) L) (ix2 i (⟨1024 + j.val, by omega⟩ : Fin 1536))
      = ((du A (512 * it.val + i.val) j : ℝ) : EReal) := by
  subst hb
  exact L12_at L h.D (eout_of v h.D h.e 0 0 rfl inb_S528x512_S528x128_0_0) (eout_of v h.D h.e 1 128 rfl inb_S528x512_S528x128_0_128)
    (eout_of v h.D h.e 2 256 rfl inb_S528x512_S528x128_0_256) (eout_of v h.D h.e 3 384 rfl inb_S528x512_S528x128_0_384) i j

/-- A list whose newest store is of the whole matrix reads as that store. -/
theorem whole_at {n m : ℕ} {e : EltTy} {inb : ∀ k : Fin 2, (![0, 0] : Fin 2 → ℕ) k + (![n, m] : Fin 2 → ℕ) k ≤ (⟨2, ![n, m]⟩ : Shape).size k}
    {w : (Rect.unit (s := ⟨2, ![n, m]⟩) ![0, 0] ![n, m] inb).shape.Idx → Elt Ideal e} (L : List (View.Piece (Elt Ideal) ⟨2, ![n, m]⟩ e)) (i : Fin n) (j : Fin m) :
    View.canon ((⟨Rect.unit (s := ⟨2, ![n, m]⟩) ![0, 0] ![n, m] inb, w⟩ : View.Piece (Elt Ideal) ⟨2, ![n, m]⟩ e) :: L) (ix2 i j) = w (ix2 i j) :=
  hit2 L i j (Nat.zero_add _).symm (Nat.zero_add _).symm

/-- A list whose newest store is of the whole stack reads as that store. -/
theorem whole3_at {l n m : ℕ} {e : EltTy} {inb : ∀ k : Fin 3, (![0, 0, 0] : Fin 3 → ℕ) k + (![l, n, m] : Fin 3 → ℕ) k ≤ (⟨3, ![l, n, m]⟩ : Shape).size k}
    {w : (Rect.unit (s := ⟨3, ![l, n, m]⟩) ![0, 0, 0] ![l, n, m] inb).shape.Idx → Elt Ideal e} (L : List (View.Piece (Elt Ideal) ⟨3, ![l, n, m]⟩ e)) (h : Fin l) (i : Fin n) (j : Fin m) :
    View.canon ((⟨Rect.unit (s := ⟨3, ![l, n, m]⟩) ![0, 0, 0] ![l, n, m] inb, w⟩ : View.Piece (Elt Ideal) ⟨3, ![l, n, m]⟩ e) :: L) (ix3 h i j) = w (ix3 h i j) := by
  have e : (ix3 h i j : (⟨3, ![l, n, m]⟩ : Shape).Idx) = (Rect.unit (s := ⟨3, ![l, n, m]⟩) ![0, 0, 0] ![l, n, m] inb).emb (ix3 h i j) := by
    refine ((idx3 inb h i j (by omega) (by omega) (by omega)).trans ?_).symm
    congr 1 <;> exact Fin.ext (Nat.zero_add _)
  refine (congrArg _ e).trans (View.canon_cons_emb _ _ _ _)

/-- The rows handed on. -/
theorem e_left (hb : b = BitVec.ofNat 32 it.val) (h : T.Ok A it) {κ : Kind} {sp : Space} (v : View sig κ sp S528x512 .f32) (L : List (View.Piece (Elt Ideal) S16x512 .f32)) (p : Fin 16) (j : Fin 512) :
    View.canon ((⟨Rect.unit (s := S16x512) ![0, 0] S16x512.size inb_S16x512_S16x512_0_0, k1_pay228 (F := Ideal)
      (v.readCov (T.L b) (Rect.unit (s := S528x512) ![0, 0] S16x512.size inb_S528x512_S16x512_0_0).toLoadRect)⟩ : View.Piece (Elt Ideal) S16x512 .f32) :: L) (ix2 p j)
      = ((fw A (512 * it.val + p.val) j : ℝ) : EReal) := by
  subst hb
  refine (whole_at L p j).trans ?_
  unfold k1_pay228
  dsimp only
  rw [shapeCast_self]
  exact carry_of v h.D h.e inb_S528x512_S16x512_0_0 p j

variable {a0 a1 a2 a3 a4 a5 a6 a7 a10 : FVec Ideal S1x512 .f32} {zz : FVec Ideal S4x512 .f32} {s28 : FVec Ideal S16x512 .f32} {s31 : FVec Ideal S2x256x256 .f32}

theorem pb_left (hb : b = BitVec.ofNat 32 it.val) (h : T.Ok A it) {a9 a11 : FVec Ideal S1x512 .f32} (j : Fin 512) :
    k1_pay1 a10 a7 a0 a1 a2 a3 a11 a4 a5 a6 (k1_pay232 (k1_pay209 T.r T.q (k1_pay200 T.r) (T.y b) (T.sq b) k1_pay203)) a9 zz s28 (ix2 8 j)
      = s28 (ix2 8 j) + ((∑ i : Fin 512, dz A (512 * it.val + i.val) j : ℝ) : EReal) := by
  subst hb
  exact (row8 j).trans (congrArg _ (dbias_at h.r h.q h.y h.sq j))

theorem ps_left (hb : b = BitVec.ofNat 32 it.val) (h : T.Ok A it) {a8 a11 : FVec Ideal S1x512 .f32} (j : Fin 512) :
    k1_pay1 a10 a7 a0 a1 a2 a3 a11 a4 a5 a6 a8 (k1_pay233 (T.z b) (k1_pay207 T.r T.q (T.y b) (T.sq b) k1_pay203)) zz s28 (ix2 9 j)
      = s28 (ix2 9 j) + ((∑ i : Fin 512, dy A (512 * it.val + i.val) j * zp A (512 * it.val + i.val) j : ℝ) : EReal) := by
  subst hb
  exact (row9 j).trans (congrArg _ (dscale_at h.z h.r h.q h.y h.sq j))

theorem gp_left (hb : b = BitVec.ofNat 32 it.val) (h : T.Ok A it) {a8 a9 : FVec Ideal S1x512 .f32} (j : Fin 512) :
    k1_pay1 a10 a7 a0 a1 a2 a3 (k1_pay208 T.q (T.y b) (T.sq b) k1_pay203) a4 a5 a6 a8 a9 zz s28 (ix2 11 j)
      = s28 (ix2 11 j) + ((∑ i : Fin 512, dyn A (512 * it.val + i.val) j * xh A (512 * it.val + i.val) j : ℝ) : EReal) := by
  subst hb
  exact (row11 j).trans (congrArg _ (dgain_at h.q h.y h.sq j))

theorem dw_left (hb : b = BitVec.ofNat 32 it.val) (h : T.Ok A it) (k : Fin 2) (x y : Fin 256) :
    k1_pay211 T.r T.q (T.pl b) (k1_pay200 T.r) (T.y b) (T.sq b) k1_pay203 s31 (ix3 k x y)
      = s31 (ix3 k x y) + ((∑ i : Fin 512, pooled A (512 * it.val + i.val) (col k x) * dz A (512 * it.val + i.val) (col k y) : ℝ) : EReal) := by
  subst hb
  exact dweight_at h.pl h.r h.q h.y h.sq s31 k x y

end Leave

end Cert.Pool

end
-- ==== Proof.PoolNames.lean ====
/- The values that the backward body names at a point, as the tile gives them. -/
module

public import proofs.«01_k».proof.Proof.PoolPoint
import all proofs.«01_k».proof.Proof.MixBwdRun

@[expose] public section

set_option maxRecDepth 16384

noncomputable section

namespace Cert.Pool

open Cert.MixerIdeal Cert.MixerIdeal.Gen Cert.MixBwd
open Idealize.ShloMosaic Idealize.ShloMosaic.TcCoe

variable (i : grid1.Coords) (M : Mem) (x : In Ideal) (s : Car Ideal)

/-! ## The points between -/

/-- The first group of the tile's input. -/
theorem v0B : runB.sl.v319 (F := Ideal) i M.a2 M.h2 M.a3 M.h3 M.a14 x.x2 x.x3 = (tileB i M x s).v0 := by
  unfold runB.sl.v319; rfl

/-- The second group. -/
theorem v1B : runB.sl.v339 (F := Ideal) i M.a2 M.h2 M.a3 M.h3 M.a14 x.x2 x.x3 = (tileB i M x s).v1 := by
  unfold runB.sl.v339; rfl

/-- The third group. -/
theorem v2B : runB.sl.v361 (F := Ideal) i M.a2 M.h2 M.a3 M.h3 M.a14 x.x2 x.x3 = (tileB i M x s).v2 := by
  unfold runB.sl.v361; rfl

/-- The fourth group. -/
theorem v3B : runB.sl.v385 (F := Ideal) i M.a2 M.h2 M.a3 M.h3 M.a14 x.x2 x.x3 = (tileB i M x s).v3 := by
  unfold runB.sl.v385; rfl

/-- The pooled rows. -/
theorem plB : runB.sl.r_44 (F := Ideal) i M.a2 M.h2 M.a3 M.h3 M.a14 x.x2 x.x3 = (tileB i M x s).pl (Scalar.subi 15#32 (BitVec.ofNat 32 (i 0).val)) := by
  unfold runB.sl.r_44; rfl

/-- The weighted rows. -/
theorem zB : runB.sl.r_45 (F := Ideal) i M.a2 M.h2 M.a3 M.h3 M.a7 M.h7 M.a14 M.a27 M.h27 x.x2 x.x3 x.x7 s.s27 = (tileB i M x s).z (Scalar.subi 15#32 (BitVec.ofNat 32 (i 0).val)) := by
  unfold runB.sl.r_45; rfl

/-- The scaled rows. -/
theorem yB : runB.sl.r_47 (F := Ideal) i M.a2 M.h2 M.a3 M.h3 M.a7 M.h7 M.a14 M.a27 M.h27 x.x2 x.x3 x.x7 s.s27 = (tileB i M x s).y (Scalar.subi 15#32 (BitVec.ofNat 32 (i 0).val)) := by
  unfold runB.sl.r_47; rfl

/-- The sums of squares. -/
theorem sqB : runB.sl.r_48 (F := Ideal) i M.a2 M.h2 M.a3 M.h3 M.a7 M.h7 M.a14 M.a27 M.h27 x.x2 x.x3 x.x7 s.s27 = (tileB i M x s).sq (Scalar.subi 15#32 (BitVec.ofNat 32 (i 0).val)) := by
  unfold runB.sl.r_48; rfl

/-- The weighted rows' cotangent. -/
theorem PB : runB.sl.r_52 (F := Ideal) i M.a1 M.h1 M.a2 M.h2 M.a3 M.h3 M.a7 M.h7 M.a11 M.h11 M.a14 M.a27 M.h27 x.x1 x.x2 x.x3 x.x7 x.x11 s.s27 = (tileB i M x s).P (Scalar.subi 15#32 (BitVec.ofNat 32 (i 0).val)) := by
  unfold runB.sl.r_52; rw [yB i M x s, sqB i M x s]; rfl

/-- Its first half. -/
theorem QB : runB.sl.r_53 (F := Ideal) i M.a1 M.h1 M.a2 M.h2 M.a3 M.h3 M.a7 M.h7 M.a11 M.h11 M.a14 M.a27 M.h27 x.x1 x.x2 x.x3 x.x7 x.x11 s.s27 = (tileB i M x s).Q (Scalar.subi 15#32 (BitVec.ofNat 32 (i 0).val)) := by
  unfold runB.sl.r_53; rw [yB i M x s, sqB i M x s]; rfl

/-- The pooled rows' cotangent. -/
theorem DB : runB.sl.r_55 (F := Ideal) i M.a1 M.h1 M.a2 M.h2 M.a3 M.h3 M.a7 M.h7 M.a11 M.h11 M.a14 M.a27 M.h27 x.x1 x.x2 x.x3 x.x7 x.x11 s.s27 = (tileB i M x s).D (Scalar.subi 15#32 (BitVec.ofNat 32 (i 0).val)) := by
  unfold runB.sl.r_55; rw [PB i M x s, QB i M x s]; rfl

/-- The stores of the windows' cotangents. -/
theorem LB : runB.sl.H21_5 (F := Ideal) i M.a1 M.h1 M.a2 M.h2 M.a3 M.h3 M.a7 M.h7 M.a11 M.h11 M.a14 M.a24 M.h24 M.a27 M.h27 x.x1 x.x2 x.x3 x.x7 x.x11 s.s24 s.s27 = (tileB i M x s).L (Scalar.subi 15#32 (BitVec.ofNat 32 (i 0).val)) := by
  unfold runB.sl.H21_5 runB.sl.r_56 runB.sl.r_57; rw [PB i M x s, QB i M x s]; rfl

/-- The scaled rows' cotangent. -/
theorem dyB : runB.sl.r_49 (F := Ideal) i M.a1 M.h1 M.a2 M.h2 M.a3 M.h3 M.a7 M.h7 M.a11 M.h11 M.a14 M.a27 M.h27 x.x1 x.x2 x.x3 x.x7 x.x11 s.s27 = k1_pay207 (tileB i M x s).r (tileB i M x s).q ((tileB i M x s).y (Scalar.subi 15#32 (BitVec.ofNat 32 (i 0).val))) ((tileB i M x s).sq (Scalar.subi 15#32 (BitVec.ofNat 32 (i 0).val))) k1_pay203 := by
  unfold runB.sl.r_49; rw [yB i M x s, sqB i M x s]; rfl

/-- The gain's part. -/
theorem dgainB : runB.sl.r_50 (F := Ideal) i M.a1 M.h1 M.a2 M.h2 M.a3 M.h3 M.a7 M.h7 M.a11 M.h11 M.a14 M.a27 M.h27 x.x1 x.x2 x.x3 x.x7 x.x11 s.s27 = k1_pay208 (tileB i M x s).q ((tileB i M x s).y (Scalar.subi 15#32 (BitVec.ofNat 32 (i 0).val))) ((tileB i M x s).sq (Scalar.subi 15#32 (BitVec.ofNat 32 (i 0).val))) k1_pay203 := by
  unfold runB.sl.r_50; rw [yB i M x s, sqB i M x s]; rfl

/-- The weighted rows' cotangent, unrounded. -/
theorem dzzB : runB.sl.r_51 (F := Ideal) i M.a1 M.h1 M.a2 M.h2 M.a3 M.h3 M.a7 M.h7 M.a11 M.h11 M.a14 M.a27 M.h27 x.x1 x.x2 x.x3 x.x7 x.x11 s.s27 = k1_pay209 (tileB i M x s).r (tileB i M x s).q (k1_pay200 (tileB i M x s).r) ((tileB i M x s).y (Scalar.subi 15#32 (BitVec.ofNat 32 (i 0).val))) ((tileB i M x s).sq (Scalar.subi 15#32 (BitVec.ofNat 32 (i 0).val))) k1_pay203 := by
  unfold runB.sl.r_51; rw [yB i M x s, sqB i M x s]; rfl

/-- The bias's part. -/
theorem dbiasB : runB.sl.r_62 (F := Ideal) i M.a1 M.h1 M.a2 M.h2 M.a3 M.h3 M.a7 M.h7 M.a11 M.h11 M.a14 M.a27 M.h27 x.x1 x.x2 x.x3 x.x7 x.x11 s.s27 = k1_pay232 (k1_pay209 (tileB i M x s).r (tileB i M x s).q (k1_pay200 (tileB i M x s).r) ((tileB i M x s).y (Scalar.subi 15#32 (BitVec.ofNat 32 (i 0).val))) ((tileB i M x s).sq (Scalar.subi 15#32 (BitVec.ofNat 32 (i 0).val))) k1_pay203) := by
  unfold runB.sl.r_62; rw [dzzB i M x s]

/-- The scale's part. -/
theorem dscaleB : runB.sl.r_63 (F := Ideal) i M.a1 M.h1 M.a2 M.h2 M.a3 M.h3 M.a7 M.h7 M.a11 M.h11 M.a14 M.a27 M.h27 x.x1 x.x2 x.x3 x.x7 x.x11 s.s27 = k1_pay233 ((tileB i M x s).z (Scalar.subi 15#32 (BitVec.ofNat 32 (i 0).val))) (k1_pay207 (tileB i M x s).r (tileB i M x s).q ((tileB i M x s).y (Scalar.subi 15#32 (BitVec.ofNat 32 (i 0).val))) ((tileB i M x s).sq (Scalar.subi 15#32 (BitVec.ofNat 32 (i 0).val))) k1_pay203) := by
  unfold runB.sl.r_63; rw [zB i M x s, dyB i M x s]

/-! ## The last point -/

/-- The first group of the tile's input. -/
theorem v0C : runC.sl.v319 (F := Ideal) i M.a2 M.h2 M.a3 M.h3 M.a14 x.x2 x.x3 = (tileB i M x s).v0 := by
  unfold runC.sl.v319; rfl

/-- The second group. -/
theorem v1C : runC.sl.v339 (F := Ideal) i M.a2 M.h2 M.a3 M.h3 M.a14 x.x2 x.x3 = (tileB i M x s).v1 := by
  unfold runC.sl.v339; rfl

/-- The third group. -/
theorem v2C : runC.sl.v361 (F := Ideal) i M.a2 M.h2 M.a3 M.h3 M.a14 x.x2 x.x3 = (tileB i M x s).v2 := by
  unfold runC.sl.v361; rfl

/-- The fourth group. -/
theorem v3C : runC.sl.v385 (F := Ideal) i M.a2 M.h2 M.a3 M.h3 M.a14 x.x2 x.x3 = (tileB i M x s).v3 := by
  unfold runC.sl.v385; rfl

/-- The pooled rows. -/
theorem plC : runC.sl.r_44 (F := Ideal) i M.a2 M.h2 M.a3 M.h3 M.a14 x.x2 x.x3 = (tileB i M x s).pl (Scalar.subi 15#32 (BitVec.ofNat 32 (i 0).val)) := by
  unfold runC.sl.r_44; rfl

/-- The weighted rows. -/
theorem zC : runC.sl.r_45 (F := Ideal) i M.a2 M.h2 M.a3 M.h3 M.a7 M.h7 M.a14 M.a27 M.h27 x.x2 x.x3 x.x7 s.s27 = (tileB i M x s).z (Scalar.subi 15#32 (BitVec.ofNat 32 (i 0).val)) := by
  unfold runC.sl.r_45; rfl

/-- The scaled rows. -/
theorem yC : runC.sl.r_47 (F := Ideal) i M.a2 M.h2 M.a3 M.h3 M.a7 M.h7 M.a14 M.a27 M.h27 x.x2 x.x3 x.x7 s.s27 = (tileB i M x s).y (Scalar.subi 15#32 (BitVec.ofNat 32 (i 0).val)) := by
  unfold runC.sl.r_47; rfl

/-- The sums of squares. -/
theorem sqC : runC.sl.r_48 (F := Ideal) i M.a2 M.h2 M.a3 M.h3 M.a7 M.h7 M.a14 M.a27 M.h27 x.x2 x.x3 x.x7 s.s27 = (tileB i M x s).sq (Scalar.subi 15#32 (BitVec.ofNat 32 (i 0).val)) := by
  unfold runC.sl.r_48; rfl

/-- The weighted rows' cotangent. -/
theorem PC : runC.sl.r_52 (F := Ideal) i M.a1 M.h1 M.a2 M.h2 M.a3 M.h3 M.a7 M.h7 M.a11 M.h11 M.a14 M.a27 M.h27 x.x1 x.x2 x.x3 x.x7 x.x11 s.s27 = (tileB i M x s).P (Scalar.subi 15#32 (BitVec.ofNat 32 (i 0).val)) := by
  unfold runC.sl.r_52; rw [yC i M x s, sqC i M x s]; rfl

/-- Its first half. -/
theorem QC : runC.sl.r_53 (F := Ideal) i M.a1 M.h1 M.a2 M.h2 M.a3 M.h3 M.a7 M.h7 M.a11 M.h11 M.a14 M.a27 M.h27 x.x1 x.x2 x.x3 x.x7 x.x11 s.s27 = (tileB i M x s).Q (Scalar.subi 15#32 (BitVec.ofNat 32 (i 0).val)) := by
  unfold runC.sl.r_53; rw [yC i M x s, sqC i M x s]; rfl

/-- The pooled rows' cotangent. -/
theorem DC : runC.sl.r_55 (F := Ideal) i M.a1 M.h1 M.a2 M.h2 M.a3 M.h3 M.a7 M.h7 M.a11 M.h11 M.a14 M.a27 M.h27 x.x1 x.x2 x.x3 x.x7 x.x11 s.s27 = (tileB i M x s).D (Scalar.subi 15#32 (BitVec.ofNat 32 (i 0).val)) := by
  unfold runC.sl.r_55; rw [PC i M x s, QC i M x s]; rfl

/-- The stores of the windows' cotangents. -/
theorem LC : runC.sl.H21_5 (F := Ideal) i M.a1 M.h1 M.a2 M.h2 M.a3 M.h3 M.a7 M.h7 M.a11 M.h11 M.a14 M.a24 M.h24 M.a27 M.h27 x.x1 x.x2 x.x3 x.x7 x.x11 s.s24 s.s27 = (tileB i M x s).L (Scalar.subi 15#32 (BitVec.ofNat 32 (i 0).val)) := by
  unfold runC.sl.H21_5 runC.sl.r_56 runC.sl.r_57; rw [PC i M x s, QC i M x s]; rfl

/-- The scaled rows' cotangent. -/
theorem dyC : runC.sl.r_49 (F := Ideal) i M.a1 M.h1 M.a2 M.h2 M.a3 M.h3 M.a7 M.h7 M.a11 M.h11 M.a14 M.a27 M.h27 x.x1 x.x2 x.x3 x.x7 x.x11 s.s27 = k1_pay207 (tileB i M x s).r (tileB i M x s).q ((tileB i M x s).y (Scalar.subi 15#32 (BitVec.ofNat 32 (i 0).val))) ((tileB i M x s).sq (Scalar.subi 15#32 (BitVec.ofNat 32 (i 0).val))) k1_pay203 := by
  unfold runC.sl.r_49; rw [yC i M x s, sqC i M x s]; rfl

/-- The gain's part. -/
theorem dgainC : runC.sl.r_50 (F := Ideal) i M.a1 M.h1 M.a2 M.h2 M.a3 M.h3 M.a7 M.h7 M.a11 M.h11 M.a14 M.a27 M.h27 x.x1 x.x2 x.x3 x.x7 x.x11 s.s27 = k1_pay208 (tileB i M x s).q ((tileB i M x s).y (Scalar.subi 15#32 (BitVec.ofNat 32 (i 0).val))) ((tileB i M x s).sq (Scalar.subi 15#32 (BitVec.ofNat 32 (i 0).val))) k1_pay203 := by
  unfold runC.sl.r_50; rw [yC i M x s, sqC i M x s]; rfl

/-- The weighted rows' cotangent, unrounded. -/
theorem dzzC : runC.sl.r_51 (F := Ideal) i M.a1 M.h1 M.a2 M.h2 M.a3 M.h3 M.a7 M.h7 M.a11 M.h11 M.a14 M.a27 M.h27 x.x1 x.x2 x.x3 x.x7 x.x11 s.s27 = k1_pay209 (tileB i M x s).r (tileB i M x s).q (k1_pay200 (tileB i M x s).r) ((tileB i M x s).y (Scalar.subi 15#32 (BitVec.ofNat 32 (i 0).val))) ((tileB i M x s).sq (Scalar.subi 15#32 (BitVec.ofNat 32 (i 0).val))) k1_pay203 := by
  unfold runC.sl.r_51; rw [yC i M x s, sqC i M x s]; rfl

/-- The bias's part. -/
theorem dbiasC : runC.sl.r_62 (F := Ideal) i M.a1 M.h1 M.a2 M.h2 M.a3 M.h3 M.a7 M.h7 M.a11 M.h11 M.a14 M.a27 M.h27 x.x1 x.x2 x.x3 x.x7 x.x11 s.s27 = k1_pay232 (k1_pay209 (tileB i M x s).r (tileB i M x s).q (k1_pay200 (tileB i M x s).r) ((tileB i M x s).y (Scalar.subi 15#32 (BitVec.ofNat 32 (i 0).val))) ((tileB i M x s).sq (Scalar.subi 15#32 (BitVec.ofNat 32 (i 0).val))) k1_pay203) := by
  unfold runC.sl.r_62; rw [dzzC i M x s]

/-- The scale's part. -/
theorem dscaleC : runC.sl.r_63 (F := Ideal) i M.a1 M.h1 M.a2 M.h2 M.a3 M.h3 M.a7 M.h7 M.a11 M.h11 M.a14 M.a27 M.h27 x.x1 x.x2 x.x3 x.x7 x.x11 s.s27 = k1_pay233 ((tileB i M x s).z (Scalar.subi 15#32 (BitVec.ofNat 32 (i 0).val))) (k1_pay207 (tileB i M x s).r (tileB i M x s).q ((tileB i M x s).y (Scalar.subi 15#32 (BitVec.ofNat 32 (i 0).val))) ((tileB i M x s).sq (Scalar.subi 15#32 (BitVec.ofNat 32 (i 0).val))) k1_pay203) := by
  unfold runC.sl.r_63; rw [zC i M x s, dyC i M x s]

/-! ## The first point -/

/-- The first group of the tile's input. -/
theorem v0A : runA.sl.v319 (F := Ideal) i M.a2 M.h2 M.a3 M.h3 M.a14 x.x2 x.x3 = (tileA i M x).v0 := by
  unfold runA.sl.v319; rfl

/-- The second group. -/
theorem v1A : runA.sl.v339 (F := Ideal) i M.a2 M.h2 M.a3 M.h3 M.a14 x.x2 x.x3 = (tileA i M x).v1 := by
  unfold runA.sl.v339; rfl

/-- The third group. -/
theorem v2A : runA.sl.v361 (F := Ideal) i M.a2 M.h2 M.a3 M.h3 M.a14 x.x2 x.x3 = (tileA i M x).v2 := by
  unfold runA.sl.v361; rfl

/-- The fourth group. -/
theorem v3A : runA.sl.v385 (F := Ideal) i M.a2 M.h2 M.a3 M.h3 M.a14 x.x2 x.x3 = (tileA i M x).v3 := by
  unfold runA.sl.v385; rfl

/-- The pooled rows. -/
theorem plA : runA.sl.r_45 (F := Ideal) i M.a2 M.h2 M.a3 M.h3 M.a14 x.x2 x.x3 = (tileA i M x).pl (Scalar.subi 15#32 (BitVec.ofNat 32 (i 0).val)) := by
  unfold runA.sl.r_45; rfl

/-- The weighted rows. -/
theorem zA : runA.sl.r_46 (F := Ideal) i M.a2 M.h2 M.a3 M.h3 M.a7 M.h7 M.a10 M.h10 M.a14 M.a27 x.x2 x.x3 x.x7 x.x10 = (tileA i M x).z (Scalar.subi 15#32 (BitVec.ofNat 32 (i 0).val)) := by
  unfold runA.sl.r_46; rfl

/-- The scaled rows. -/
theorem yA : runA.sl.r_48 (F := Ideal) i M.a2 M.h2 M.a3 M.h3 M.a7 M.h7 M.a10 M.h10 M.a14 M.a27 x.x2 x.x3 x.x7 x.x10 = (tileA i M x).y (Scalar.subi 15#32 (BitVec.ofNat 32 (i 0).val)) := by
  unfold runA.sl.r_48; rfl

/-- The sums of squares. -/
theorem sqA : runA.sl.r_49 (F := Ideal) i M.a2 M.h2 M.a3 M.h3 M.a7 M.h7 M.a10 M.h10 M.a14 M.a27 x.x2 x.x3 x.x7 x.x10 = (tileA i M x).sq (Scalar.subi 15#32 (BitVec.ofNat 32 (i 0).val)) := by
  unfold runA.sl.r_49; rfl

/-- The weighted rows' cotangent. -/
theorem PA : runA.sl.r_53 (F := Ideal) i M.a1 M.h1 M.a2 M.h2 M.a3 M.h3 M.a7 M.h7 M.a10 M.h10 M.a11 M.h11 M.a14 M.a27 x.x1 x.x2 x.x3 x.x7 x.x10 x.x11 = (tileA i M x).P (Scalar.subi 15#32 (BitVec.ofNat 32 (i 0).val)) := by
  unfold runA.sl.r_53; rw [yA i M x, sqA i M x]; rfl

/-- Its first half. -/
theorem QA : runA.sl.r_54 (F := Ideal) i M.a1 M.h1 M.a2 M.h2 M.a3 M.h3 M.a7 M.h7 M.a10 M.h10 M.a11 M.h11 M.a14 M.a27 x.x1 x.x2 x.x3 x.x7 x.x10 x.x11 = (tileA i M x).Q (Scalar.subi 15#32 (BitVec.ofNat 32 (i 0).val)) := by
  unfold runA.sl.r_54; rw [yA i M x, sqA i M x]; rfl

/-- The pooled rows' cotangent. -/
theorem DA : runA.sl.r_56 (F := Ideal) i M.a1 M.h1 M.a2 M.h2 M.a3 M.h3 M.a7 M.h7 M.a10 M.h10 M.a11 M.h11 M.a14 M.a27 x.x1 x.x2 x.x3 x.x7 x.x10 x.x11 = (tileA i M x).D (Scalar.subi 15#32 (BitVec.ofNat 32 (i 0).val)) := by
  unfold runA.sl.r_56; rw [PA i M x, QA i M x]; rfl

/-- The stores of the windows' cotangents. -/
theorem LA : runA.sl.H21_5 (F := Ideal) i M.a1 M.h1 M.a2 M.h2 M.a3 M.h3 M.a7 M.h7 M.a10 M.h10 M.a11 M.h11 M.a14 M.a24 M.a27 x.x1 x.x2 x.x3 x.x7 x.x10 x.x11 = (tileA i M x).L (Scalar.subi 15#32 (BitVec.ofNat 32 (i 0).val)) := by
  unfold runA.sl.H21_5 runA.sl.r_57 runA.sl.r_58; rw [PA i M x, QA i M x]; rfl

/-- The scaled rows' cotangent. -/
theorem dyA : runA.sl.r_50 (F := Ideal) i M.a1 M.h1 M.a2 M.h2 M.a3 M.h3 M.a7 M.h7 M.a10 M.h10 M.a11 M.h11 M.a14 M.a27 x.x1 x.x2 x.x3 x.x7 x.x10 x.x11 = k1_pay207 (tileA i M x).r (tileA i M x).q ((tileA i M x).y (Scalar.subi 15#32 (BitVec.ofNat 32 (i 0).val))) ((tileA i M x).sq (Scalar.subi 15#32 (BitVec.ofNat 32 (i 0).val))) k1_pay203 := by
  unfold runA.sl.r_50; rw [yA i M x, sqA i M x]; rfl

/-- The gain's part. -/
theorem dgainA : runA.sl.r_51 (F := Ideal) i M.a1 M.h1 M.a2 M.h2 M.a3 M.h3 M.a7 M.h7 M.a10 M.h10 M.a11 M.h11 M.a14 M.a27 x.x1 x.x2 x.x3 x.x7 x.x10 x.x11 = k1_pay208 (tileA i M x).q ((tileA i M x).y (Scalar.subi 15#32 (BitVec.ofNat 32 (i 0).val))) ((tileA i M x).sq (Scalar.subi 15#32 (BitVec.ofNat 32 (i 0).val))) k1_pay203 := by
  unfold runA.sl.r_51; rw [yA i M x, sqA i M x]; rfl

/-- The weighted rows' cotangent, unrounded. -/
theorem dzzA : runA.sl.r_52 (F := Ideal) i M.a1 M.h1 M.a2 M.h2 M.a3 M.h3 M.a7 M.h7 M.a10 M.h10 M.a11 M.h11 M.a14 M.a27 x.x1 x.x2 x.x3 x.x7 x.x10 x.x11 = k1_pay209 (tileA i M x).r (tileA i M x).q (k1_pay200 (tileA i M x).r) ((tileA i M x).y (Scalar.subi 15#32 (BitVec.ofNat 32 (i 0).val))) ((tileA i M x).sq (Scalar.subi 15#32 (BitVec.ofNat 32 (i 0).val))) k1_pay203 := by
  unfold runA.sl.r_52; rw [yA i M x, sqA i M x]; rfl

/-- The bias's part. -/
theorem dbiasA : runA.sl.r_63 (F := Ideal) i M.a1 M.h1 M.a2 M.h2 M.a3 M.h3 M.a7 M.h7 M.a10 M.h10 M.a11 M.h11 M.a14 M.a27 x.x1 x.x2 x.x3 x.x7 x.x10 x.x11 = k1_pay232 (k1_pay209 (tileA i M x).r (tileA i M x).q (k1_pay200 (tileA i M x).r) ((tileA i M x).y (Scalar.subi 15#32 (BitVec.ofNat 32 (i 0).val))) ((tileA i M x).sq (Scalar.subi 15#32 (BitVec.ofNat 32 (i 0).val))) k1_pay203) := by
  unfold runA.sl.r_63; rw [dzzA i M x]

/-- The scale's part. -/
theorem dscaleA : runA.sl.r_64 (F := Ideal) i M.a1 M.h1 M.a2 M.h2 M.a3 M.h3 M.a7 M.h7 M.a10 M.h10 M.a11 M.h11 M.a14 M.a27 x.x1 x.x2 x.x3 x.x7 x.x10 x.x11 = k1_pay233 ((tileA i M x).z (Scalar.subi 15#32 (BitVec.ofNat 32 (i 0).val))) (k1_pay207 (tileA i M x).r (tileA i M x).q ((tileA i M x).y (Scalar.subi 15#32 (BitVec.ofNat 32 (i 0).val))) ((tileA i M x).sq (Scalar.subi 15#32 (BitVec.ofNat 32 (i 0).val))) k1_pay203) := by
  unfold runA.sl.r_64; rw [zA i M x, dyA i M x]

end Cert.Pool

end
-- ==== Proof.PoolLists.lean ====
/- The stores of the backward body at its points, in the terms of the pool half. -/
module

public import proofs.«01_k».proof.Proof.PoolNames
import all proofs.«01_k».proof.Proof.MixBwdRun

@[expose] public section

set_option maxRecDepth 16384

noncomputable section

namespace Cert.Pool

open Cert.MixerIdeal Cert.MixerIdeal.Gen Cert.MixBwd
open Idealize.ShloMosaic Idealize.ShloMosaic.TcCoe

variable (i : grid1.Coords) (M : Mem) (x : In Ideal) (s : Car Ideal) (c : Dev nD)

set_option maxHeartbeats 1000000 in
/-- The stores of the input's gradient at the first point. -/
theorem list12A (hc0 : isFirst i) (hc1 : ¬isLast i) : ∃ L, (runA' (F := Ideal) c i M x hc0 hc1).1 = L12 ((tileA i M x).D (Scalar.subi 15#32 (BitVec.ofNat 32 (i 0).val)))
      (M.a21.view.readCov ((tileA i M x).L (Scalar.subi 15#32 (BitVec.ofNat 32 (i 0).val))) (Rect.unit (s := S528x512) ![0, 0] S528x128.size inb_S528x512_S528x128_0_0).toLoadRect)
      (M.a21.view.readCov ((tileA i M x).L (Scalar.subi 15#32 (BitVec.ofNat 32 (i 0).val))) (Rect.unit (s := S528x512) ![0, 128] S528x128.size inb_S528x512_S528x128_0_128).toLoadRect)
      (M.a21.view.readCov ((tileA i M x).L (Scalar.subi 15#32 (BitVec.ofNat 32 (i 0).val))) (Rect.unit (s := S528x512) ![0, 256] S528x128.size inb_S528x512_S528x128_0_256).toLoadRect)
      (M.a21.view.readCov ((tileA i M x).L (Scalar.subi 15#32 (BitVec.ofNat 32 (i 0).val))) (Rect.unit (s := S528x512) ![0, 384] S528x128.size inb_S528x512_S528x128_0_384).toLoadRect) L := by
  unfold runA' runA
  dsimp only
  unfold runA.sl.r_59 runA.sl.v529 runA.sl.v537 runA.sl.v547 runA.sl.v559
  rw [DA i M x, LA i M x]
  exact ⟨_, rfl⟩

set_option maxHeartbeats 1000000 in
/-- The stores of the rows handed on at the first point. -/
theorem list24A (hc0 : isFirst i) (hc1 : ¬isLast i) : ∃ L : List (View.Piece (Elt Ideal) S16x512 .f32), (runA' (F := Ideal) c i M x hc0 hc1).2.2.2.2.2.2.2.2.2.2.2.2.1 =
   ((⟨(Rect.unit (s := S16x512) ![0, 0] S16x512.size inb_S16x512_S16x512_0_0), k1_pay228 (F := Ideal)
      (M.a21.view.readCov ((tileA i M x).L (Scalar.subi 15#32 (BitVec.ofNat 32 (i 0).val))) (Rect.unit (s := S528x512) ![0, 0] S16x512.size inb_S528x512_S16x512_0_0).toLoadRect)⟩ : View.Piece (Elt Ideal) S16x512 .f32) :: L) := by
  unfold runA' runA
  dsimp only
  unfold runA.sl.v573
  rw [LA i M x]
  exact ⟨_, rfl⟩

set_option maxHeartbeats 1000000 in
/-- The stores of the vectors' sums at the first point. -/
theorem list28A (hc0 : isFirst i) (hc1 : ¬isLast i) : ∃ (a10 a7 a0 a1 a2 a3 a4 a5 a6 : FVec Ideal S1x512 .f32) (zz : FVec Ideal S4x512 .f32) (L : List (View.Piece (Elt Ideal) S16x512 .f32)), (runA' (F := Ideal) c i M x hc0 hc1).2.2.2.2.2.2.2.2.2.2.2.2.2.2.2.2.1 =
   ((⟨(Rect.unit (s := S16x512) ![0, 0] S16x512.size inb_S16x512_S16x512_0_0), k1_pay1 a10 a7 a0 a1 a2 a3 (k1_pay208 (tileA i M x).q ((tileA i M x).y (Scalar.subi 15#32 (BitVec.ofNat 32 (i 0).val))) ((tileA i M x).sq (Scalar.subi 15#32 (BitVec.ofNat 32 (i 0).val))) k1_pay203) a4 a5 a6
      (k1_pay232 (k1_pay209 (tileA i M x).r (tileA i M x).q (k1_pay200 (tileA i M x).r) ((tileA i M x).y (Scalar.subi 15#32 (BitVec.ofNat 32 (i 0).val))) ((tileA i M x).sq (Scalar.subi 15#32 (BitVec.ofNat 32 (i 0).val))) k1_pay203))
      (k1_pay233 ((tileA i M x).z (Scalar.subi 15#32 (BitVec.ofNat 32 (i 0).val))) (k1_pay207 (tileA i M x).r (tileA i M x).q ((tileA i M x).y (Scalar.subi 15#32 (BitVec.ofNat 32 (i 0).val))) ((tileA i M x).sq (Scalar.subi 15#32 (BitVec.ofNat 32 (i 0).val))) k1_pay203)) zz
      (M.a28.view.readCov (Val := Elt Ideal) [⟨(Rect.unit (s := S16x512) ![0, 0] S16x512.size inb_S16x512_S16x512_0_0), k1_pay7 (F := Ideal)⟩] (Rect.unit (s := S16x512) ![0, 0] S16x512.size inb_S16x512_S16x512_0_0).toLoadRect)⟩ : View.Piece (Elt Ideal) S16x512 .f32) :: L) := by
  unfold runA' runA
  dsimp only
  unfold runA.sl.v589 runA.sl.H28_1
  rw [dgainA i M x, dbiasA i M x, dscaleA i M x]
  exact ⟨_, _, _, _, _, _, _, _, _, _, _, rfl⟩

set_option maxHeartbeats 1000000 in
/-- The stores of the weight's sums at the first point. -/
theorem list31A (hc0 : isFirst i) (hc1 : ¬isLast i) : ∃ L : List (View.Piece (Elt Ideal) S2x256x256 .f32), (runA' (F := Ideal) c i M x hc0 hc1).2.2.2.2.2.2.2.2.2.2.2.2.2.2.2.2.2.2.2.1 =
   ((⟨(Rect.unit (s := S2x256x256) ![0, 0, 0] S2x256x256.size inb_S2x256x256_S2x256x256_0_0_0), k1_pay211 (tileA i M x).r (tileA i M x).q ((tileA i M x).pl (Scalar.subi 15#32 (BitVec.ofNat 32 (i 0).val))) (k1_pay200 (tileA i M x).r) ((tileA i M x).y (Scalar.subi 15#32 (BitVec.ofNat 32 (i 0).val))) ((tileA i M x).sq (Scalar.subi 15#32 (BitVec.ofNat 32 (i 0).val))) k1_pay203
      (M.a31.view.readCov (Val := Elt Ideal) [⟨(Rect.unit (s := S2x256x256) ![0, 0, 0] S2x256x256.size inb_S2x256x256_S2x256x256_0_0_0), k1_pay10 (F := Ideal)⟩] (Rect.unit (s := S2x256x256) ![0, 0, 0] S2x256x256.size inb_S2x256x256_S2x256x256_0_0_0).toLoadRect)⟩ : View.Piece (Elt Ideal) S2x256x256 .f32) :: L) := by
  unfold runA' runA
  dsimp only
  unfold runA.sl.v458 runA.sl.H31_1
  rw [plA i M x, yA i M x, sqA i M x]
  exact ⟨_, rfl⟩

set_option maxHeartbeats 1000000 in
/-- The stores of the block-diagonal weight at the first point. -/
theorem list27A (hc0 : isFirst i) (hc1 : ¬isLast i) : (runA' (F := Ideal) c i M x hc0 hc1).2.2.2.2.2.2.2.2.2.2.2.2.2.2.2.1 = in27 M x := by
  unfold runA' runA
  dsimp only
  unfold runA.sl.H27_5
  rfl

set_option maxHeartbeats 1000000 in
/-- The stores of the input's gradient at a point between. -/
theorem list12B (hc0 : ¬isFirst i) (hc1 : ¬isLast i) : ∃ L, (runB' (F := Ideal) c i M x s hc0 hc1).1 = L12 ((tileB i M x s).D (Scalar.subi 15#32 (BitVec.ofNat 32 (i 0).val)))
      (M.a21.view.readCov ((tileB i M x s).L (Scalar.subi 15#32 (BitVec.ofNat 32 (i 0).val))) (Rect.unit (s := S528x512) ![0, 0] S528x128.size inb_S528x512_S528x128_0_0).toLoadRect)
      (M.a21.view.readCov ((tileB i M x s).L (Scalar.subi 15#32 (BitVec.ofNat 32 (i 0).val))) (Rect.unit (s := S528x512) ![0, 128] S528x128.size inb_S528x512_S528x128_0_128).toLoadRect)
      (M.a21.view.readCov ((tileB i M x s).L (Scalar.subi 15#32 (BitVec.ofNat 32 (i 0).val))) (Rect.unit (s := S528x512) ![0, 256] S528x128.size inb_S528x512_S528x128_0_256).toLoadRect)
      (M.a21.view.readCov ((tileB i M x s).L (Scalar.subi 15#32 (BitVec.ofNat 32 (i 0).val))) (Rect.unit (s := S528x512) ![0, 384] S528x128.size inb_S528x512_S528x128_0_384).toLoadRect) L := by
  unfold runB' runB
  dsimp only
  unfold runB.sl.r_58 runB.sl.v529 runB.sl.v537 runB.sl.v547 runB.sl.v559
  rw [DB i M x s, LB i M x s]
  exact ⟨_, rfl⟩

set_option maxHeartbeats 1000000 in
/-- The stores of the rows handed on at a point between. -/
theorem list24B (hc0 : ¬isFirst i) (hc1 : ¬isLast i) : ∃ L : List (View.Piece (Elt Ideal) S16x512 .f32), (runB' (F := Ideal) c i M x s hc0 hc1).2.2.2.2.2.2.2.2.2.2.2.2.1 =
   ((⟨(Rect.unit (s := S16x512) ![0, 0] S16x512.size inb_S16x512_S16x512_0_0), k1_pay228 (F := Ideal)
      (M.a21.view.readCov ((tileB i M x s).L (Scalar.subi 15#32 (BitVec.ofNat 32 (i 0).val))) (Rect.unit (s := S528x512) ![0, 0] S16x512.size inb_S528x512_S16x512_0_0).toLoadRect)⟩ : View.Piece (Elt Ideal) S16x512 .f32) :: L) := by
  unfold runB' runB
  dsimp only
  unfold runB.sl.v573
  rw [LB i M x s]
  exact ⟨_, rfl⟩

set_option maxHeartbeats 1000000 in
/-- The stores of the vectors' sums at a point between. -/
theorem list28B (hc0 : ¬isFirst i) (hc1 : ¬isLast i) : ∃ (a10 a7 a0 a1 a2 a3 a4 a5 a6 : FVec Ideal S1x512 .f32) (zz : FVec Ideal S4x512 .f32) (L : List (View.Piece (Elt Ideal) S16x512 .f32)), (runB' (F := Ideal) c i M x s hc0 hc1).2.2.2.2.2.2.2.2.2.2.2.2.2.2.2.2.1 =
   ((⟨(Rect.unit (s := S16x512) ![0, 0] S16x512.size inb_S16x512_S16x512_0_0), k1_pay1 a10 a7 a0 a1 a2 a3 (k1_pay208 (tileB i M x s).q ((tileB i M x s).y (Scalar.subi 15#32 (BitVec.ofNat 32 (i 0).val))) ((tileB i M x s).sq (Scalar.subi 15#32 (BitVec.ofNat 32 (i 0).val))) k1_pay203) a4 a5 a6
      (k1_pay232 (k1_pay209 (tileB i M x s).r (tileB i M x s).q (k1_pay200 (tileB i M x s).r) ((tileB i M x s).y (Scalar.subi 15#32 (BitVec.ofNat 32 (i 0).val))) ((tileB i M x s).sq (Scalar.subi 15#32 (BitVec.ofNat 32 (i 0).val))) k1_pay203))
      (k1_pay233 ((tileB i M x s).z (Scalar.subi 15#32 (BitVec.ofNat 32 (i 0).val))) (k1_pay207 (tileB i M x s).r (tileB i M x s).q ((tileB i M x s).y (Scalar.subi 15#32 (BitVec.ofNat 32 (i 0).val))) ((tileB i M x s).sq (Scalar.subi 15#32 (BitVec.ofNat 32 (i 0).val))) k1_pay203)) zz
      (View.readAt (Elt Ideal) M.a28.view (Rect.unit (s := S16x512) ![0, 0] S16x512.size inb_S16x512_S16x512_0_0).toLoadRect (M.h28.unread s.s28))⟩ : View.Piece (Elt Ideal) S16x512 .f32) :: L) := by
  unfold runB' runB
  dsimp only
  rw [dgainB i M x s, dbiasB i M x s, dscaleB i M x s]
  exact ⟨_, _, _, _, _, _, _, _, _, _, _, rfl⟩

set_option maxHeartbeats 1000000 in
/-- The stores of the weight's sums at a point between. -/
theorem list31B (hc0 : ¬isFirst i) (hc1 : ¬isLast i) : ∃ L : List (View.Piece (Elt Ideal) S2x256x256 .f32), (runB' (F := Ideal) c i M x s hc0 hc1).2.2.2.2.2.2.2.2.2.2.2.2.2.2.2.2.2.2.2.1 =
   ((⟨(Rect.unit (s := S2x256x256) ![0, 0, 0] S2x256x256.size inb_S2x256x256_S2x256x256_0_0_0), k1_pay211 (tileB i M x s).r (tileB i M x s).q ((tileB i M x s).pl (Scalar.subi 15#32 (BitVec.ofNat 32 (i 0).val))) (k1_pay200 (tileB i M x s).r) ((tileB i M x s).y (Scalar.subi 15#32 (BitVec.ofNat 32 (i 0).val))) ((tileB i M x s).sq (Scalar.subi 15#32 (BitVec.ofNat 32 (i 0).val))) k1_pay203
      (View.readAt (Elt Ideal) M.a31.view (Rect.unit (s := S2x256x256) ![0, 0, 0] S2x256x256.size inb_S2x256x256_S2x256x256_0_0_0).toLoadRect (M.h31.unread s.s31))⟩ : View.Piece (Elt Ideal) S2x256x256 .f32) :: L) := by
  unfold runB' runB
  dsimp only
  rw [plB i M x s, yB i M x s, sqB i M x s]
  exact ⟨_, rfl⟩

set_option maxHeartbeats 1000000 in
/-- The stores of the input's gradient at the last point. -/
theorem list12C (hc0 : ¬isFirst i) (hc1 : isLast i) : ∃ L, (runC' (F := Ideal) c i M x s hc0 hc1).1 = L12 ((tileB i M x s).D (Scalar.subi 15#32 (BitVec.ofNat 32 (i 0).val)))
      (M.a21.view.readCov ((tileB i M x s).L (Scalar.subi 15#32 (BitVec.ofNat 32 (i 0).val))) (Rect.unit (s := S528x512) ![0, 0] S528x128.size inb_S528x512_S528x128_0_0).toLoadRect)
      (M.a21.view.readCov ((tileB i M x s).L (Scalar.subi 15#32 (BitVec.ofNat 32 (i 0).val))) (Rect.unit (s := S528x512) ![0, 128] S528x128.size inb_S528x512_S528x128_0_128).toLoadRect)
      (M.a21.view.readCov ((tileB i M x s).L (Scalar.subi 15#32 (BitVec.ofNat 32 (i 0).val))) (Rect.unit (s := S528x512) ![0, 256] S528x128.size inb_S528x512_S528x128_0_256).toLoadRect)
      (M.a21.view.readCov ((tileB i M x s).L (Scalar.subi 15#32 (BitVec.ofNat 32 (i 0).val))) (Rect.unit (s := S528x512) ![0, 384] S528x128.size inb_S528x512_S528x128_0_384).toLoadRect) L := by
  unfold runC' runC
  dsimp only
  unfold runC.sl.r_58 runC.sl.v529 runC.sl.v537 runC.sl.v547 runC.sl.v559
  rw [DC i M x s, LC i M x s]
  exact ⟨_, rfl⟩

set_option maxHeartbeats 1000000 in
/-- The stores of the rows handed on at the last point. -/
theorem list24C (hc0 : ¬isFirst i) (hc1 : isLast i) : ∃ L : List (View.Piece (Elt Ideal) S16x512 .f32), (runC' (F := Ideal) c i M x s hc0 hc1).2.2.2.2.2.2.2.2.2.2.2.2.1 =
   ((⟨(Rect.unit (s := S16x512) ![0, 0] S16x512.size inb_S16x512_S16x512_0_0), k1_pay228 (F := Ideal)
      (M.a21.view.readCov ((tileB i M x s).L (Scalar.subi 15#32 (BitVec.ofNat 32 (i 0).val))) (Rect.unit (s := S528x512) ![0, 0] S16x512.size inb_S528x512_S16x512_0_0).toLoadRect)⟩ : View.Piece (Elt Ideal) S16x512 .f32) :: L) := by
  unfold runC' runC
  dsimp only
  unfold runC.sl.v573
  rw [LC i M x s]
  exact ⟨_, rfl⟩

set_option maxHeartbeats 1000000 in
/-- The stores of the vectors' sums at the last point. -/
theorem list28C (hc0 : ¬isFirst i) (hc1 : isLast i) : ∃ (a10 a7 a0 a1 a2 a3 a4 a5 a6 : FVec Ideal S1x512 .f32) (zz : FVec Ideal S4x512 .f32) (L : List (View.Piece (Elt Ideal) S16x512 .f32)), (runC' (F := Ideal) c i M x s hc0 hc1).2.2.2.2.2.2.2.2.2.2.2.2.2.2.2.2.1 =
   ((⟨(Rect.unit (s := S16x512) ![0, 0] S16x512.size inb_S16x512_S16x512_0_0), k1_pay1 a10 a7 a0 a1 a2 a3 (k1_pay208 (tileB i M x s).q ((tileB i M x s).y (Scalar.subi 15#32 (BitVec.ofNat 32 (i 0).val))) ((tileB i M x s).sq (Scalar.subi 15#32 (BitVec.ofNat 32 (i 0).val))) k1_pay203) a4 a5 a6
      (k1_pay232 (k1_pay209 (tileB i M x s).r (tileB i M x s).q (k1_pay200 (tileB i M x s).r) ((tileB i M x s).y (Scalar.subi 15#32 (BitVec.ofNat 32 (i 0).val))) ((tileB i M x s).sq (Scalar.subi 15#32 (BitVec.ofNat 32 (i 0).val))) k1_pay203))
      (k1_pay233 ((tileB i M x s).z (Scalar.subi 15#32 (BitVec.ofNat 32 (i 0).val))) (k1_pay207 (tileB i M x s).r (tileB i M x s).q ((tileB i M x s).y (Scalar.subi 15#32 (BitVec.ofNat 32 (i 0).val))) ((tileB i M x s).sq (Scalar.subi 15#32 (BitVec.ofNat 32 (i 0).val))) k1_pay203)) zz
      (View.readAt (Elt Ideal) M.a28.view (Rect.unit (s := S16x512) ![0, 0] S16x512.size inb_S16x512_S16x512_0_0).toLoadRect (M.h28.unread s.s28))⟩ : View.Piece (Elt Ideal) S16x512 .f32) :: L) := by
  unfold runC' runC
  dsimp only
  unfold runC.sl.H28_1
  rw [dgainC i M x s, dbiasC i M x s, dscaleC i M x s]
  exact ⟨_, _, _, _, _, _, _, _, _, _, _, rfl⟩

set_option maxHeartbeats 1000000 in
/-- The stores of the weight's sums at the last point. -/
theorem list31C (hc0 : ¬isFirst i) (hc1 : isLast i) : ∃ L : List (View.Piece (Elt Ideal) S2x256x256 .f32), (runC' (F := Ideal) c i M x s hc0 hc1).2.2.2.2.2.2.2.2.2.2.2.2.2.2.2.2.2.2.2.1 =
   ((⟨(Rect.unit (s := S2x256x256) ![0, 0, 0] S2x256x256.size inb_S2x256x256_S2x256x256_0_0_0), k1_pay211 (tileB i M x s).r (tileB i M x s).q ((tileB i M x s).pl (Scalar.subi 15#32 (BitVec.ofNat 32 (i 0).val))) (k1_pay200 (tileB i M x s).r) ((tileB i M x s).y (Scalar.subi 15#32 (BitVec.ofNat 32 (i 0).val))) ((tileB i M x s).sq (Scalar.subi 15#32 (BitVec.ofNat 32 (i 0).val))) k1_pay203
      (View.readAt (Elt Ideal) M.a31.view (Rect.unit (s := S2x256x256) ![0, 0, 0] S2x256x256.size inb_S2x256x256_S2x256x256_0_0_0).toLoadRect (M.h31.unread s.s31))⟩ : View.Piece (Elt Ideal) S2x256x256 .f32) :: L) := by
  unfold runC' runC
  dsimp only
  unfold runC.sl.H31_1
  rw [plC i M x s, yC i M x s, sqC i M x s]
  exact ⟨_, rfl⟩

/-- The stores of the packed result, from the stores of the sums. -/
def L13 (M : Mem) (l28 : List (View.Piece (Elt Ideal) S16x512 .f32)) (l31 : List (View.Piece (Elt Ideal) S2x256x256 .f32)) (a b d e : FVec Ideal S64x256 .f32) : List (View.Piece (Elt Ideal) S544x256 .f32) :=
  [⟨Rect.unit ![416, 0] S128x256.size inb_S544x256_S128x256_416_0, k1_pay3 (F := Ideal) (M.a31.view.readCov l31 (Rect.unit (s := S2x256x256) ![1, 0, 0] S1x256x256.size inb_S2x256x256_S1x256x256_1_0_0).toLoadRect)⟩,
    ⟨Rect.unit ![224, 0] S64x256.size inb_S544x256_S64x256_224_0, a⟩,
    ⟨Rect.unit ![96, 0] S64x256.size inb_S544x256_S64x256_96_0, b⟩,
    ⟨Rect.unit ![288, 0] S128x256.size inb_S544x256_S128x256_288_0, k1_pay116 (F := Ideal) (M.a31.view.readCov l31 (Rect.unit (s := S2x256x256) ![0, 0, 0] S1x256x256.size inb_S2x256x256_S1x256x256_0_0_0).toLoadRect)⟩,
    ⟨Rect.unit ![160, 0] S64x256.size inb_S544x256_S64x256_160_0, d⟩,
    ⟨Rect.unit ![32, 0] S64x256.size inb_S544x256_S64x256_32_0, e⟩,
    ⟨Rect.unit ![16, 0] S16x256.size inb_S544x256_S16x256_16_0, M.a28.view.readCov l28 (Rect.unit (s := S16x512) ![0, 256] S16x256.size inb_S16x512_S16x256_0_256).toLoadRect⟩,
    ⟨Rect.unit ![0, 0] S16x256.size inb_S544x256_S16x256_0_0, M.a28.view.readCov l28 (Rect.unit (s := S16x512) ![0, 0] S16x256.size inb_S16x512_S16x256_0_0).toLoadRect⟩]

set_option maxHeartbeats 1000000 in
/-- The stores of the packed result at the last point. -/
theorem list13C (hc0 : ¬isFirst i) (hc1 : isLast i) : ∃ (l28 : List (View.Piece (Elt Ideal) S16x512 .f32)) (l31 : List (View.Piece (Elt Ideal) S2x256x256 .f32)) (a b d e : FVec Ideal S64x256 .f32),
    (runC' (F := Ideal) c i M x s hc0 hc1).2.1 = L13 M l28 l31 a b d e ∧ (runC' (F := Ideal) c i M x s hc0 hc1).2.2.2.2.2.2.2.2.2.2.2.2.2.2.2.2.1 = l28 ∧ (runC' (F := Ideal) c i M x s hc0 hc1).2.2.2.2.2.2.2.2.2.2.2.2.2.2.2.2.2.2.2.1 = l31 := by
  unfold runC' runC
  dsimp only
  unfold runC.sl.v598 runC.sl.v600 runC.sl.v636 runC.sl.v679
  exact ⟨_, _, _, _, _, _, rfl, rfl, rfl⟩

end Cert.Pool

end
-- ==== Proof.PoolDone.lean ====
/- What the backward pass's points leave of the pool half: at the first point, at a point between, at the last. -/
module

public import proofs.«01_k».proof.Proof.PoolLists

@[expose] public section

set_option maxRecDepth 16384

noncomputable section

namespace Cert.Pool

open Cert.MixerIdeal Cert.MixerIdeal.Gen Cert.MixBwd
open Idealize.ShloMosaic Idealize.ShloMosaic.TcCoe

variable {A : Arrays} {it : Fin 16} {i : grid1.Coords} {M : Mem} {x : In Ideal} {s : Car Ideal} {c : Dev nD}

/-- Stores of the pool half's form leave the tile's part. -/
theorem done_of {b : BitVec 32} {T : Tile} (hb : b = BitVec.ofNat 32 it.val) (h : T.Ok A it) {κ : Kind} {sp : Space} (v : View sig κ sp S528x512 .f32)
    {l12 : List (View.Piece (Elt Ideal) S512x1536 .bf16)} {l24 l28 : List (View.Piece (Elt Ideal) S16x512 .f32)} {l31 : List (View.Piece (Elt Ideal) S2x256x256 .f32)}
    {rd28 : FVec Ideal S16x512 .f32} {rd31 : FVec Ideal S2x256x256 .f32} {d : Vec Ideal S512x1536 .bf16} {s : Car Ideal}
    (e12 : ∃ L, l12 = L12 (T.D b) (v.readCov (T.L b) (Rect.unit (s := S528x512) ![0, 0] S528x128.size inb_S528x512_S528x128_0_0).toLoadRect)
      (v.readCov (T.L b) (Rect.unit (s := S528x512) ![0, 128] S528x128.size inb_S528x512_S528x128_0_128).toLoadRect)
      (v.readCov (T.L b) (Rect.unit (s := S528x512) ![0, 256] S528x128.size inb_S528x512_S528x128_0_256).toLoadRect)
      (v.readCov (T.L b) (Rect.unit (s := S528x512) ![0, 384] S528x128.size inb_S528x512_S528x128_0_384).toLoadRect) L)
    (e24 : ∃ L : List (View.Piece (Elt Ideal) S16x512 .f32), l24 = ((⟨(Rect.unit (s := S16x512) ![0, 0] S16x512.size inb_S16x512_S16x512_0_0), k1_pay228 (F := Ideal)
      (v.readCov (T.L b) (Rect.unit (s := S528x512) ![0, 0] S16x512.size inb_S528x512_S16x512_0_0).toLoadRect)⟩ : View.Piece (Elt Ideal) S16x512 .f32) :: L))
    (e28 : ∃ (a10 a7 a0 a1 a2 a3 a4 a5 a6 : FVec Ideal S1x512 .f32) (zz : FVec Ideal S4x512 .f32) (L : List (View.Piece (Elt Ideal) S16x512 .f32)), l28 =
      ((⟨(Rect.unit (s := S16x512) ![0, 0] S16x512.size inb_S16x512_S16x512_0_0), k1_pay1 a10 a7 a0 a1 a2 a3 (k1_pay208 T.q (T.y b) (T.sq b) k1_pay203) a4 a5 a6
        (k1_pay232 (k1_pay209 T.r T.q (k1_pay200 T.r) (T.y b) (T.sq b) k1_pay203)) (k1_pay233 (T.z b) (k1_pay207 T.r T.q (T.y b) (T.sq b) k1_pay203)) zz rd28⟩ :
        View.Piece (Elt Ideal) S16x512 .f32) :: L))
    (e31 : ∃ L : List (View.Piece (Elt Ideal) S2x256x256 .f32), l31 =
      ((⟨(Rect.unit (s := S2x256x256) ![0, 0, 0] S2x256x256.size inb_S2x256x256_S2x256x256_0_0_0), k1_pay211 T.r T.q (T.pl b) (k1_pay200 T.r) (T.y b) (T.sq b) k1_pay203 rd31⟩ :
        View.Piece (Elt Ideal) S2x256x256 .f32) :: L))
    (hd : d = View.canon l12) (h24 : s.s24 = View.canon l24) (h28 : s.s28 = View.canon l28) (h31 : s.s31 = View.canon l31)
    (hw : ∀ (h : Fin 2) (a b : Fin 256), s.s27 (ix3 h a b) = ((bd A h a b : ℝ) : EReal)) {o8 o9 o11 : Fin 512 → EReal} {o31 : Fin 2 → Fin 256 → Fin 256 → EReal}
    (r8 : ∀ j, rd28 (ix2 8 j) = o8 j) (r9 : ∀ j, rd28 (ix2 9 j) = o9 j) (r11 : ∀ j, rd28 (ix2 11 j) = o11 j) (r31 : ∀ h a b, rd31 (ix3 h a b) = o31 h a b) :
    Done A it o8 o9 o11 o31 d s := by
  obtain ⟨L, rfl⟩ := e12
  obtain ⟨L', rfl⟩ := e24
  obtain ⟨a10, a7, a0, a1, a2, a3, a4, a5, a6, zz, L'', rfl⟩ := e28
  obtain ⟨L3, rfl⟩ := e31
  constructor
  · intro i' j
    rw [hd]
    exact du_left hb h v _ i' j
  · intro p j
    rw [h24]
    exact e_left hb h v _ p j
  · exact hw
  · intro j
    rw [h28]
    exact (whole_at _ 8 j).trans ((pb_left hb h j).trans (congrArg (· + _) (r8 j)))
  · intro j
    rw [h28]
    exact (whole_at _ 9 j).trans ((ps_left hb h j).trans (congrArg (· + _) (r9 j)))
  · intro j
    rw [h28]
    exact (whole_at _ 11 j).trans ((gp_left hb h j).trans (congrArg (· + _) (r11 j)))
  · intro k a b
    rw [h31]
    exact (whole3_at _ k a b).trans ((dw_left hb h k a b).trans (congrArg (· + _) (r31 k a b)))

/-- A read of the weight's whole sums is the sums. -/
theorem read31 (k : Fin 2) (a b : Fin 256) :
    View.readAt (Elt Ideal) M.a31.view (Rect.unit (s := S2x256x256) ![0, 0, 0] S2x256x256.size inb_S2x256x256_S2x256x256_0_0_0).toLoadRect (M.h31.unread s.s31) (ix3 k a b) = s.s31 (ix3 k a b) := by
  refine (Memref.IsWhole.readAt_unread M.h31 s.s31 _ _).trans (congrArg s.s31 ((idx3 inb_S2x256x256_S2x256x256_0_0_0 k a b (by omega) (by omega) (by omega)).trans ?_))
  congr 1 <;> exact Fin.ext (Nat.zero_add _)

/-- What a point between the first and the last leaves. -/
theorem doneB (hc0 : ¬isFirst i) (hc1 : ¬isLast i) (hi : Scalar.subi 15#32 (BitVec.ofNat 32 (i 0).val) = BitVec.ofNat 32 it.val) (hx : InOk A it x) (hs : CarOk A it s) :
    Done A it (fun j => s.s28 (ix2 8 j)) (fun j => s.s28 (ix2 9 j)) (fun j => s.s28 (ix2 11 j)) (fun h a b => s.s31 (ix3 h a b)) (duB c i M x s hc0 hc1) (carB c i M x s hc0 hc1) :=
  done_of (d := duB c i M x s hc0 hc1) (s := carB c i M x s hc0 hc1) hi (tileB_ok (M := M) hi hx hs) M.a21.view (list12B i M x s c hc0 hc1) (list24B i M x s c hc0 hc1) (list28B i M x s c hc0 hc1) (list31B i M x s c hc0 hc1)
    (View.read_writes_junk_eq_canon _ _) (View.read_writes_junk_eq_canon _ _) (View.read_writes_junk_eq_canon _ _) (View.read_writes_junk_eq_canon _ _) hs.w
    (fun j => readW M.h28 s.s28 inb_S16x512_S16x512_0_0 8 j) (fun j => readW M.h28 s.s28 inb_S16x512_S16x512_0_0 9 j) (fun j => readW M.h28 s.s28 inb_S16x512_S16x512_0_0 11 j) read31

/-- What the last point leaves. -/
theorem doneC (hc0 : ¬isFirst i) (hc1 : isLast i) (hi : Scalar.subi 15#32 (BitVec.ofNat 32 (i 0).val) = BitVec.ofNat 32 it.val) (hx : InOk A it x) (hs : CarOk A it s) :
    Done A it (fun j => s.s28 (ix2 8 j)) (fun j => s.s28 (ix2 9 j)) (fun j => s.s28 (ix2 11 j)) (fun h a b => s.s31 (ix3 h a b)) (duC c i M x s hc0 hc1) (carC c i M x s hc0 hc1) :=
  done_of (d := duC c i M x s hc0 hc1) (s := carC c i M x s hc0 hc1) hi (tileB_ok (M := M) hi hx hs) M.a21.view (list12C i M x s c hc0 hc1) (list24C i M x s c hc0 hc1) (list28C i M x s c hc0 hc1) (list31C i M x s c hc0 hc1)
    (View.read_writes_junk_eq_canon _ _) (View.read_writes_junk_eq_canon _ _) (View.read_writes_junk_eq_canon _ _) (View.read_writes_junk_eq_canon _ _) hs.w
    (fun j => readW M.h28 s.s28 inb_S16x512_S16x512_0_0 8 j) (fun j => readW M.h28 s.s28 inb_S16x512_S16x512_0_0 9 j) (fun j => readW M.h28 s.s28 inb_S16x512_S16x512_0_0 11 j) read31

/-- The vectors' sums start at zero. -/
theorem zero28 (p : Fin 16) (j : Fin 512) : M.a28.view.readCov (Val := Elt Ideal) [⟨(Rect.unit (s := S16x512) ![0, 0] S16x512.size inb_S16x512_S16x512_0_0), k1_pay7 (F := Ideal)⟩]
    (Rect.unit (s := S16x512) ![0, 0] S16x512.size inb_S16x512_S16x512_0_0).toLoadRect (ix2 p j) = 0 := by
  rw [View.readCov_eq_canon']
  refine (congrArg (View.canon _) (idxW inb_S16x512_S16x512_0_0 p j)).trans ((whole_at _ p j).trans ?_)
  pointwise [k1_pay7]

/-- The weight's sums start at zero. -/
theorem zero31 (k : Fin 2) (a b : Fin 256) : M.a31.view.readCov (Val := Elt Ideal) [⟨(Rect.unit (s := S2x256x256) ![0, 0, 0] S2x256x256.size inb_S2x256x256_S2x256x256_0_0_0), k1_pay10 (F := Ideal)⟩]
    (Rect.unit (s := S2x256x256) ![0, 0, 0] S2x256x256.size inb_S2x256x256_S2x256x256_0_0_0).toLoadRect (ix3 k a b) = 0 := by
  rw [View.readCov_eq_canon']
  refine (congrArg (View.canon _) ((idx3 inb_S2x256x256_S2x256x256_0_0_0 k a b (by omega) (by omega) (by omega)).trans ?_)).trans ((whole3_at _ k a b).trans ?_)
  · congr 1 <;> exact Fin.ext (Nat.zero_add _)
  · pointwise [k1_pay10]

/-- What the first point leaves. -/
theorem doneA (hc0 : isFirst i) (hc1 : ¬isLast i) (hi : Scalar.subi 15#32 (BitVec.ofNat 32 (i 0).val) = BitVec.ofNat 32 it.val) (hl : it.val = 15) (hx : InOk A it x) :
    Done A it (fun _ => 0) (fun _ => 0) (fun _ => 0) (fun _ _ _ => 0) (duA c i M x hc0 hc1) (carA c i M x hc0 hc1) :=
  done_of (d := duA c i M x hc0 hc1) (s := carA c i M x hc0 hc1) hi (tileA_ok (M := M) hi hl hx) M.a21.view (list12A i M x c hc0 hc1) (list24A i M x c hc0 hc1) (list28A i M x c hc0 hc1) (list31A i M x c hc0 hc1)
    (View.read_writes_junk_eq_canon _ _) (View.read_writes_junk_eq_canon _ _) (View.read_writes_junk_eq_canon _ _) (View.read_writes_junk_eq_canon _ _)
    (fun h a b => by
      refine (congrFun (View.read_writes_junk_eq_canon _ _) _).trans ?_
      rw [list27A]
      exact L27_at (block_at hx 0 0 rfl inb_S4x128x128_S1x128x128_0_0_0) (block_at hx 1 1 rfl inb_S4x128x128_S1x128x128_1_0_0) (block_at hx 2 2 rfl inb_S4x128x128_S1x128x128_2_0_0)
        (block_at hx 3 3 rfl inb_S4x128x128_S1x128x128_3_0_0) h a b)
    (zero28 8) (zero28 9) (zero28 11) zero31

/-! ## The packed result -/

/-- A matrix's read from stores is what the stores hold there. -/
theorem canonW {κ : Kind} {sp : Space} {n m n' m' o p : ℕ} {e : EltTy} (v : View sig κ sp ⟨2, ![n', m']⟩ e) (L : List (View.Piece (Elt Ideal) ⟨2, ![n', m']⟩ e))
    (inb : ∀ k : Fin 2, (![o, p] : Fin 2 → ℕ) k + (![n, m] : Fin 2 → ℕ) k ≤ (⟨2, ![n', m']⟩ : Shape).size k) (i : Fin n) (j : Fin m) (i' : Fin n') (j' : Fin m')
    (hi : i'.val = o + i.val) (hj : j'.val = p + j.val) :
    v.readCov L (Rect.unit (s := ⟨2, ![n', m']⟩) ![o, p] ![n, m] inb).toLoadRect (ix2 i j) = View.canon L (ix2 i' j') := by
  rw [View.readCov_eq_canon']
  refine congrArg (View.canon L) ((idx2 inb i j (by omega) (by omega)).trans ?_)
  exact congrArg₂ ix2 (Fin.ext hi.symm) (Fin.ext hj.symm)

/-- A half's read from stores is what the stores hold there. -/
theorem canonH {κ : Kind} {sp : Space} (v : View sig κ sp S2x256x256 .f32) (L : List (View.Piece (Elt Ideal) S2x256x256 .f32)) (o : ℕ) (h : Fin 2) (ho : h.val = o)
    (inb : ∀ k : Fin 3, (![o, 0, 0] : Fin 3 → ℕ) k + (![1, 256, 256] : Fin 3 → ℕ) k ≤ S2x256x256.size k) (a b : Fin 256) :
    v.readCov L (Rect.unit (s := S2x256x256) ![o, 0, 0] ![1, 256, 256] inb).toLoadRect (ix3 0 a b) = View.canon L (ix3 h a b) := by
  rw [View.readCov_eq_canon']
  refine congrArg (View.canon L) ((idx3 inb 0 a b (by show o + 0 < 2; omega) (by omega) (by omega)).trans ?_)
  have e0 : (⟨o + (0 : Fin 1).val, by show o + 0 < 2; omega⟩ : Fin 2) = h := Fin.ext (by show o + 0 = h.val; omega)
  have e1 : (⟨0 + a.val, by omega⟩ : Fin 256) = a := Fin.ext (Nat.zero_add _)
  have e2 : (⟨0 + b.val, by omega⟩ : Fin 256) = b := Fin.ext (Nat.zero_add _)
  rw [e0, e1, e2]

/-- The comparison of a column's number with 128. -/
theorem ge128 : ∀ b : Fin 256, IntOp.cmpi CmpIPredicate.sge (BitVec.ofNat 32 b.val) 128#32 = if 128 ≤ b.val then 1#1 else 0#1 := by
  decide +kernel

/-- The diagonal blocks of the first half. -/
theorem diag0 (w : FVec Ideal S1x256x256 .f32) (a : Fin 128) (b : Fin 256) : k1_pay116 (F := Ideal) w (ix2 a b) = w (ix3 0 (⟨128 * (b.val / 128) + a.val, by omega⟩ : Fin 256) b) := by
  pointwise [k1_pay116]
  rw [ge128 b]
  by_cases h : 128 ≤ b.val
  · rw [if_pos h]
    exact congrArg (fun k => w (ix3 0 k b)) (Fin.ext (by show 128 + a.val = 128 * (b.val / 128) + a.val; omega))
  · rw [if_neg h]
    exact congrArg (fun k => w (ix3 0 k b)) (Fin.ext (by show a.val = 128 * (b.val / 128) + a.val; omega))

/-- The diagonal blocks of the second half. -/
theorem diag1 (w : FVec Ideal S1x256x256 .f32) (a : Fin 128) (b : Fin 256) : k1_pay3 (F := Ideal) w (ix2 a b) = w (ix3 0 (⟨128 * (b.val / 128) + a.val, by omega⟩ : Fin 256) b) :=
  diag0 w a b

/-- Stores of the packed result's form leave the sums' rows and the diagonal blocks. -/
theorem pack_of {sg : Vec Ideal S544x256 .f32} {s28 : Vec Ideal S16x512 .f32} {s31 : Vec Ideal S2x256x256 .f32} {l28 : List (View.Piece (Elt Ideal) S16x512 .f32)}
    {l31 : List (View.Piece (Elt Ideal) S2x256x256 .f32)} {a b d e : FVec Ideal S64x256 .f32} (g : sg = View.canon (L13 M l28 l31 a b d e)) (g28 : s28 = View.canon l28) (g31 : s31 = View.canon l31) :
    (∀ (p : Fin 16) (j : Fin 256), sg (ix2 (⟨p.val, by omega⟩ : Fin 544) j) = s28 (ix2 p (⟨j.val, by omega⟩ : Fin 512)))
    ∧ (∀ (p : Fin 16) (j : Fin 256), sg (ix2 (⟨16 + p.val, by omega⟩ : Fin 544) j) = s28 (ix2 p (⟨256 + j.val, by omega⟩ : Fin 512)))
    ∧ ∀ (h : Fin 2) (a : Fin 128) (b : Fin 256), sg (ix2 (⟨288 + 128 * h.val + a.val, by omega⟩ : Fin 544) b) = s31 (ix3 h (⟨128 * (b.val / 128) + a.val, by omega⟩ : Fin 256) b) := by
  rw [g, g28, g31]
  unfold L13
  refine ⟨fun p j => ?_, fun p j => ?_, fun h x y => ?_⟩
  · iterate 7 rw [skip2 _ (Or.inl (by dsimp only; omega))]
    refine (hit2 (i := (⟨p.val, by omega⟩ : Fin 544)) _ p j (by dsimp only; omega) (by omega)).trans ?_
    exact canonW M.a28.view l28 inb_S16x512_S16x256_0_0 p j p _ (Nat.zero_add _).symm (Nat.zero_add _).symm
  · iterate 6 rw [skip2 _ (Or.inl (by dsimp only; omega))]
    refine (hit2 _ p j rfl (Nat.zero_add _).symm).trans ?_
    exact canonW M.a28.view l28 inb_S16x512_S16x256_0_256 p j p _ (Nat.zero_add _).symm rfl
  · match h with
    | 0 =>
      iterate 3 rw [skip2 _ (Or.inl (by dsimp only; omega))]
      exact (hit2 _ x y rfl (Nat.zero_add _).symm).trans ((diag0 _ x y).trans (canonH M.a31.view l31 0 0 rfl inb_S2x256x256_S1x256x256_0_0_0 _ y))
    | 1 =>
      exact (hit2 _ x y rfl (Nat.zero_add _).symm).trans ((diag1 _ x y).trans (canonH M.a31.view l31 1 1 rfl inb_S2x256x256_S1x256x256_1_0_0 _ y))

/-- What the last point packs: the sums' rows and the diagonal blocks. -/
theorem packC (hc0 : ¬isFirst i) (hc1 : isLast i) :
    (∀ (p : Fin 16) (j : Fin 256), sgC c i M x s hc0 hc1 (ix2 (⟨p.val, by omega⟩ : Fin 544) j) = (carC c i M x s hc0 hc1).s28 (ix2 p (⟨j.val, by omega⟩ : Fin 512)))
    ∧ (∀ (p : Fin 16) (j : Fin 256), sgC c i M x s hc0 hc1 (ix2 (⟨16 + p.val, by omega⟩ : Fin 544) j) = (carC c i M x s hc0 hc1).s28 (ix2 p (⟨256 + j.val, by omega⟩ : Fin 512)))
    ∧ ∀ (h : Fin 2) (a : Fin 128) (b : Fin 256), sgC c i M x s hc0 hc1 (ix2 (⟨288 + 128 * h.val + a.val, by omega⟩ : Fin 544) b)
        = (carC c i M x s hc0 hc1).s31 (ix3 h (⟨128 * (b.val / 128) + a.val, by omega⟩ : Fin 256) b) :=
  Exists.elim (list13C i M x s c hc0 hc1) fun _ h => Exists.elim h fun _ h => Exists.elim h fun _ h => Exists.elim h fun _ h => Exists.elim h fun _ h => Exists.elim h fun _ h =>
    pack_of (sg := sgC c i M x s hc0 hc1) (s28 := (carC c i M x s hc0 hc1).s28) (s31 := (carC c i M x s hc0 hc1).s31) ((View.read_writes_junk_eq_canon _ _).trans (congrArg View.canon h.1))
      ((View.read_writes_junk_eq_canon _ _).trans (congrArg View.canon h.2.1)) ((View.read_writes_junk_eq_canon _ _).trans (congrArg View.canon h.2.2))

end Cert.Pool

end
-- ==== Proof.MixBwdRegion.lean ====
module

public import proofs.«01_k».proof.Proof.MixBwdStepA
public import proofs.«01_k».proof.Proof.MixBwdStepB
public import proofs.«01_k».proof.Proof.MixBwdStepC
public import Idealize.ShloMosaic.Lib.Pipeline.RegionArraysS

@[expose] public section

set_option maxRecDepth 16384

noncomputable section

namespace Cert.MixBwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The memrefs the body is called with at point `t`. -/
abbrev mem (t : Fin cfg1.N) : Mem where
  a1 := win1_0.stage (cfg1.slots t 0)
  h1 := hstage1_0 ((cfg1.slots t 0).cast nbuf1_0)
  a2 := win1_1.stage (cfg1.slots t 1)
  h2 := hstage1_1 ((cfg1.slots t 1).cast nbuf1_1)
  a3 := win1_2.stage (cfg1.slots t 2)
  h3 := hstage1_2 ((cfg1.slots t 2).cast nbuf1_2)
  a4 := win1_3.stage (cfg1.slots t 3)
  h4 := hstage1_3 ((cfg1.slots t 3).cast nbuf1_3)
  a5 := win1_4.stage (cfg1.slots t 4)
  h5 := hstage1_4 ((cfg1.slots t 4).cast nbuf1_4)
  a6 := win1_5.stage (cfg1.slots t 5)
  h6 := hstage1_5 ((cfg1.slots t 5).cast nbuf1_5)
  a7 := win1_6.stage (cfg1.slots t 6)
  h7 := hstage1_6 ((cfg1.slots t 6).cast nbuf1_6)
  a8 := win1_7.stage (cfg1.slots t 7)
  h8 := hstage1_7 ((cfg1.slots t 7).cast nbuf1_7)
  a9 := win1_8.stage (cfg1.slots t 8)
  h9 := hstage1_8 ((cfg1.slots t 8).cast nbuf1_8)
  a10 := win1_9.stage (cfg1.slots t 9)
  h10 := hstage1_9 ((cfg1.slots t 9).cast nbuf1_9)
  a11 := win1_10.stage (cfg1.slots t 10)
  h11 := hstage1_10 ((cfg1.slots t 10).cast nbuf1_10)
  a12 := win1_11.stage (cfg1.slots t 11)
  h12 := hstage1_11 ((cfg1.slots t 11).cast nbuf1_11)
  a13 := win1_12.stage (cfg1.slots t 12)
  h13 := hstage1_12 ((cfg1.slots t 12).cast nbuf1_12)
  a14 := Memref.whole cc1_scratch0
  h14 := Memref.isWhole_whole _
  a15 := Memref.whole cc1_scratch1
  h15 := Memref.isWhole_whole _
  a16 := Memref.whole cc1_scratch2
  h16 := Memref.isWhole_whole _
  a17 := Memref.whole cc1_scratch3
  h17 := Memref.isWhole_whole _
  a18 := Memref.whole cc1_scratch4
  h18 := Memref.isWhole_whole _
  a19 := Memref.whole cc1_scratch5
  h19 := Memref.isWhole_whole _
  a20 := Memref.whole cc1_scratch6
  h20 := Memref.isWhole_whole _
  a21 := Memref.whole cc1_scratch7
  h21 := Memref.isWhole_whole _
  a22 := Memref.whole cc1_scratch8
  h22 := Memref.isWhole_whole _
  a23 := Memref.whole cc1_scratch9
  h23 := Memref.isWhole_whole _
  a24 := Memref.whole cc1_scratch10
  h24 := Memref.isWhole_whole _
  a25 := Memref.whole cc1_scratch11
  h25 := Memref.isWhole_whole _
  a26 := Memref.whole cc1_scratch12
  h26 := Memref.isWhole_whole _
  a27 := Memref.whole cc1_scratch13
  h27 := Memref.isWhole_whole _
  a28 := Memref.whole cc1_scratch14
  h28 := Memref.isWhole_whole _
  a29 := Memref.whole cc1_scratch15
  h29 := Memref.isWhole_whole _
  a30 := Memref.whole cc1_scratch16
  h30 := Memref.isWhole_whole _
  a31 := Memref.whole cc1_scratch17
  h31 := Memref.isWhole_whole _

variable (V : (c : Dev nD) → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks the body reads at point `t`. -/
def ins (c : Dev nD) (t : Fin cfg1.N) : In F where
  x1 := iblk V c 0 t
  x2 := iblk V c 1 t
  x3 := iblk V c 2 t
  x4 := iblk V c 3 t
  x5 := iblk V c 4 t
  x6 := iblk V c 5 t
  x7 := iblk V c 6 t
  x8 := iblk V c 7 t
  x9 := iblk V c 8 t
  x10 := iblk V c 9 t
  x11 := iblk V c 10 t

/-- The first point's condition holds at point 0 only. -/
theorem first_iff : ∀ t : Fin cfg1.N, isFirst (grid1.coords t) ↔ t.val = 0 := fun t => by
  have ht : t.val < 16 := Nat.lt_of_lt_of_eq t.isLt N_1
  have e0 : (grid1.coords t 0).val = t.val / 1 % 16 := Pipeline.Grid.coords_val t 0 (by decide) rfl
  simp only [isFirst, e0]
  word_cmp

/-- The last point's condition holds at point 15 only. -/
theorem last_iff : ∀ t : Fin cfg1.N, isLast (grid1.coords t) ↔ t.val = 15 := fun t => by
  have ht : t.val < 16 := Nat.lt_of_lt_of_eq t.isLt N_1
  have e0 : (grid1.coords t 0).val = t.val / 1 % 16 := Pipeline.Grid.coords_val t 0 (by decide) rfl
  simp only [isLast, k1_cond2, e0]
  word_cmp

/-- Before the last point the packed gradients' window is idle, and not written back. -/
theorem idle_12 : ∀ t : Fin cfg1.N, ¬t.val = 15 → cfg1.idle 12 (grid1.coords t) = true := by decide +kernel
theorem noFlush_12 : ∀ t : Fin cfg1.N, ¬t.val = 15 → (cfg1.win 12).flush t = false := by decide +kernel
theorem live_12 : ∀ t : Fin cfg1.N, t.val = 15 → cfg1.idle 12 (grid1.coords t) = false := by decide +kernel

/-- What a run of the body leaves: its rows' gradient, the packed gradients, the carried scratch. -/
structure Left (F : FTy → Type) where
  du : Vec F S512x1536 .bf16
  sg : Vec F S544x256 .f32
  car : Car F

/-- What the body leaves at position `n`. -/
def outsAt (c : Dev nD) : (n : ℕ) → n < cfg1.N → Left F
  | 0, hn =>
    have h0 := (first_iff ⟨0, hn⟩).mpr rfl
    have h1 : ¬isLast (grid1.coords ⟨0, hn⟩) := fun h => absurd ((last_iff ⟨0, hn⟩).mp h) (by decide : ¬(0 = 15))
    ⟨duA c (grid1.coords ⟨0, hn⟩) (mem ⟨0, hn⟩) (ins V c ⟨0, hn⟩) h0 h1,
      (mem ⟨0, hn⟩).a13.view.read (Elt F) (mem ⟨0, hn⟩).a13.view.junk,
      carA c (grid1.coords ⟨0, hn⟩) (mem ⟨0, hn⟩) (ins V c ⟨0, hn⟩) h0 h1⟩
  | n + 1, hn =>
    have h0 := fun h => Nat.succ_ne_zero n ((first_iff ⟨n + 1, hn⟩).mp h)
    if hl : n + 1 = 15 then
      ⟨duC c (grid1.coords ⟨n + 1, hn⟩) (mem ⟨n + 1, hn⟩) (ins V c ⟨n + 1, hn⟩) (outsAt c n (Nat.lt_of_succ_lt hn)).car h0 ((last_iff ⟨n + 1, hn⟩).mpr hl),
        sgC c (grid1.coords ⟨n + 1, hn⟩) (mem ⟨n + 1, hn⟩) (ins V c ⟨n + 1, hn⟩) (outsAt c n (Nat.lt_of_succ_lt hn)).car h0 ((last_iff ⟨n + 1, hn⟩).mpr hl),
        carC c (grid1.coords ⟨n + 1, hn⟩) (mem ⟨n + 1, hn⟩) (ins V c ⟨n + 1, hn⟩) (outsAt c n (Nat.lt_of_succ_lt hn)).car h0 ((last_iff ⟨n + 1, hn⟩).mpr hl)⟩
    else
      ⟨duB c (grid1.coords ⟨n + 1, hn⟩) (mem ⟨n + 1, hn⟩) (ins V c ⟨n + 1, hn⟩) (outsAt c n (Nat.lt_of_succ_lt hn)).car h0 (fun h => hl ((last_iff ⟨n + 1, hn⟩).mp h)),
        (mem ⟨n + 1, hn⟩).a13.view.read (Elt F) (mem ⟨n + 1, hn⟩).a13.view.junk,
        carB c (grid1.coords ⟨n + 1, hn⟩) (mem ⟨n + 1, hn⟩) (ins V c ⟨n + 1, hn⟩) (outsAt c n (Nat.lt_of_succ_lt hn)).car h0 (fun h => hl ((last_iff ⟨n + 1, hn⟩).mp h))⟩

/-- Every scoped buffer the region neither stages nor keeps as scratch. -/
abbrev rest (c : Dev nD) : sProp 𝕄 :=
  iprop(Pipeline.scopedRestBut spec1 c [cc1_scratch0, cc1_scratch1, cc1_scratch2, cc1_scratch3, cc1_scratch4, cc1_scratch5, cc1_scratch6, cc1_scratch7, cc1_scratch8, cc1_scratch9, cc1_scratch10, cc1_scratch11, cc1_scratch12, cc1_scratch13, cc1_scratch14, cc1_scratch15, cc1_scratch16, cc1_scratch17] ∗ ∃ r, prngReg (Ix := Unit) (Name := ℕ) (U := UR sig nD τ) (Lvl := ℕ) c r)

/-- The region's invariant before position `n`: all scratch at anything, then the carried scratch at what the point before left. -/
def inv (c : Dev nD) : (n : ℕ) → n ≤ cfg1.N → sProp 𝕄
  | 0, _ => iprop((mem t1_0).scr (F := F) c ∗ rest c)
  | n + 1, hn => iprop((mem ⟨n, hn⟩).car c (outsAt V c n hn).car ∗ rest c)

/-- The region's proof data. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => (outsAt V c t.val t.isLt).du
    | ⟨12, _⟩ => (outsAt V c t.val t.isLt).sg
  Φ t := inv V c t.val (Nat.le_of_lt_succ t.isLt)
  q w := Pipeline.shareOf spec1 w
  owed _ := 0

/-- The arrays are the entry contents. -/
theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = (outsAt V c t.val t.isLt).du := by dsimp only [dat]
theorem after_12 (c : Dev nD) (t : Fin cfg1.N) : (dat V c).after 12 t = (outsAt V c t.val t.isLt).sg := by dsimp only [dat]
/-- An input window's buffer holds its block before the body runs. -/
theorem before_in (c : Dev nD) (t : Fin cfg1.N) :
    (∀ d, (dat V c).before 0 t d = iblk V c 0 t)
    ∧ (∀ d, (dat V c).before 1 t d = iblk V c 1 t)
    ∧ (∀ d, (dat V c).before 2 t d = iblk V c 2 t)
    ∧ (∀ d, (dat V c).before 3 t d = iblk V c 3 t)
    ∧ (∀ d, (dat V c).before 4 t d = iblk V c 4 t)
    ∧ (∀ d, (dat V c).before 5 t d = iblk V c 5 t)
    ∧ (∀ d, (dat V c).before 6 t d = iblk V c 6 t)
    ∧ (∀ d, (dat V c).before 7 t d = iblk V c 7 t)
    ∧ (∀ d, (dat V c).before 8 t d = iblk V c 8 t)
    ∧ (∀ d, (dat V c).before 9 t d = iblk V c 9 t)
    ∧ (∀ d, (dat V c).before 10 t d = iblk V c 10 t) := by
  refine ⟨?_, ?_, ?_, ?_, ?_, ?_, ?_, ?_, ?_, ?_, ?_⟩ <;>
  exact fun d => ((dat V c).before_in_eq_fetched _ rfl (fun _ => rfl) (fun _ _ _ => rfl) (fun t => by
      first | rw [after_0] | rw [after_1] | rw [after_2] | rw [after_3] | rw [after_4] | rw [after_5] | rw [after_6] | rw [after_7] | rw [after_8] | rw [after_9] | rw [after_10]
      unfold Dat.blockOf iblk; rw [A_eq]) t d).trans
    (by unfold Dat.fetched Dat.blockOf iblk; rw [A_eq]; rfl)
theorem leaves_0 (c : Dev nD) (t : Fin cfg1.N) : (dat V c).leavesExact 0 t = owns (c : Thread nD τ) (mem t).a1 fullShare ((dat V c).after 0 t) := by
  unfold Dat.leavesExact; rw [show cfg1.idle 0 (grid1.coords t) = false from rfl]
theorem leaves_1 (c : Dev nD) (t : Fin cfg1.N) : (dat V c).leavesExact 1 t = owns (c : Thread nD τ) (mem t).a2 fullShare ((dat V c).after 1 t) := by
  unfold Dat.leavesExact; rw [show cfg1.idle 1 (grid1.coords t) = false from rfl]
theorem leaves_2 (c : Dev nD) (t : Fin cfg1.N) : (dat V c).leavesExact 2 t = owns (c : Thread nD τ) (mem t).a3 fullShare ((dat V c).after 2 t) := by
  unfold Dat.leavesExact; rw [show cfg1.idle 2 (grid1.coords t) = false from rfl]
theorem leaves_3 (c : Dev nD) (t : Fin cfg1.N) : (dat V c).leavesExact 3 t = owns (c : Thread nD τ) (mem t).a4 fullShare ((dat V c).after 3 t) := by
  unfold Dat.leavesExact; rw [show cfg1.idle 3 (grid1.coords t) = false from rfl]
theorem leaves_4 (c : Dev nD) (t : Fin cfg1.N) : (dat V c).leavesExact 4 t = owns (c : Thread nD τ) (mem t).a5 fullShare ((dat V c).after 4 t) := by
  unfold Dat.leavesExact; rw [show cfg1.idle 4 (grid1.coords t) = false from rfl]
theorem leaves_5 (c : Dev nD) (t : Fin cfg1.N) : (dat V c).leavesExact 5 t = owns (c : Thread nD τ) (mem t).a6 fullShare ((dat V c).after 5 t) := by
  unfold Dat.leavesExact; rw [show cfg1.idle 5 (grid1.coords t) = false from rfl]
theorem leaves_6 (c : Dev nD) (t : Fin cfg1.N) : (dat V c).leavesExact 6 t = owns (c : Thread nD τ) (mem t).a7 fullShare ((dat V c).after 6 t) := by
  unfold Dat.leavesExact; rw [show cfg1.idle 6 (grid1.coords t) = false from rfl]
theorem leaves_7 (c : Dev nD) (t : Fin cfg1.N) : (dat V c).leavesExact 7 t = owns (c : Thread nD τ) (mem t).a8 fullShare ((dat V c).after 7 t) := by
  unfold Dat.leavesExact; rw [show cfg1.idle 7 (grid1.coords t) = false from rfl]
theorem leaves_8 (c : Dev nD) (t : Fin cfg1.N) : (dat V c).leavesExact 8 t = owns (c : Thread nD τ) (mem t).a9 fullShare ((dat V c).after 8 t) := by
  unfold Dat.leavesExact; rw [show cfg1.idle 8 (grid1.coords t) = false from rfl]
theorem leaves_9 (c : Dev nD) (t : Fin cfg1.N) : (dat V c).leavesExact 9 t = owns (c : Thread nD τ) (mem t).a10 fullShare ((dat V c).after 9 t) := by
  unfold Dat.leavesExact; rw [show cfg1.idle 9 (grid1.coords t) = false from rfl]
theorem leaves_10 (c : Dev nD) (t : Fin cfg1.N) : (dat V c).leavesExact 10 t = owns (c : Thread nD τ) (mem t).a11 fullShare ((dat V c).after 10 t) := by
  unfold Dat.leavesExact; rw [show cfg1.idle 10 (grid1.coords t) = false from rfl]
theorem leaves_11 (c : Dev nD) (t : Fin cfg1.N) : (dat V c).leavesExact 11 t = owns (c : Thread nD τ) (mem t).a12 fullShare ((dat V c).after 11 t) := by
  unfold Dat.leavesExact; rw [show cfg1.idle 11 (grid1.coords t) = false from rfl]
theorem leaves_12 (c : Dev nD) (t : Fin cfg1.N) (h : t.val = 15) : (dat V c).leavesExact 12 t = owns (c : Thread nD τ) (mem t).a13 fullShare ((dat V c).after 12 t) := by
  unfold Dat.leavesExact; rw [live_12 t h]

/-- What the body is called with at point `t`. -/
def bodyPre (c : Dev nD) (t : Fin cfg1.N) : sProp 𝕄 :=
  iprop((dat V c).Φ t.castSucc ∗ (dat V c).owesAt () t.castSucc ∗ (∃ d, hasV c (mem t).a1 ((dat V c).before 0 t d)) ∗ (∃ d, hasV c (mem t).a2 ((dat V c).before 1 t d)) ∗ (∃ d, hasV c (mem t).a3 ((dat V c).before 2 t d)) ∗ (∃ d, hasV c (mem t).a4 ((dat V c).before 3 t d)) ∗ (∃ d, hasV c (mem t).a5 ((dat V c).before 4 t d)) ∗ (∃ d, hasV c (mem t).a6 ((dat V c).before 5 t d)) ∗ (∃ d, hasV c (mem t).a7 ((dat V c).before 6 t d)) ∗ (∃ d, hasV c (mem t).a8 ((dat V c).before 7 t d)) ∗ (∃ d, hasV c (mem t).a9 ((dat V c).before 8 t d)) ∗ (∃ d, hasV c (mem t).a10 ((dat V c).before 9 t d)) ∗ (∃ d, hasV c (mem t).a11 ((dat V c).before 10 t d)) ∗ (∃ d, hasV c (mem t).a12 ((dat V c).before 11 t d)) ∗ (∃ d, hasV c (mem t).a13 ((dat V c).before 12 t d)))

/-- What the body leaves at point `t`. -/
def bodyPost (c : Dev nD) (t : Fin cfg1.N) : sProp 𝕄 :=
  iprop((dat V c).Φ t.succ ∗ (dat V c).owesAt () t.succ ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t ∗ (dat V c).leavesExact 7 t ∗ (dat V c).leavesExact 8 t ∗ (dat V c).leavesExact 9 t ∗ (dat V c).leavesExact 10 t ∗ (dat V c).leavesExact 11 t ∗ (dat V c).leavesExact 12 t)

set_option maxHeartbeats 4000000 in
/-- The body at any point. -/
theorem sound_body (c : Dev nD) (t : Fin cfg1.N) :
    bodyPre V c t ⊢ wp frame (wpE (defs₀ (F := F)) Variants.none c none) Set.univ ((mem t).body (grid1.coords t)) (fun _ => bodyPost V c t) := by
  unfold bodyPre bodyPost
  obtain ⟨b0, b1, b2, b3, b4, b5, b6, b7, b8, b9, b10⟩ := before_in V c t
  simp only [b0, b1, b2, b3, b4, b5, b6, b7, b8, b9, b10]
  rw [show (dat V c).owesAt () t.succ = (dat V c).owesAt () t.castSucc from rfl, leaves_0, after_0, leaves_1, after_1, leaves_2, after_2, leaves_3, after_3, leaves_4, after_4, leaves_5, after_5, leaves_6, after_6, leaves_7, after_7, leaves_8, after_8, leaves_9, after_9, leaves_10, after_10, leaves_11, after_11]
  rw [show (dat V c).Φ t.succ = inv V c (t.val + 1) t.isLt from rfl, show (dat V c).Φ t.castSucc = inv V c t.val (Nat.le_of_lt t.isLt) from rfl]
  obtain ⟨n, hn⟩ := t
  cases n with
  | zero =>
    rw [Dat.leavesExact_idle (dat V c) 12 ⟨0, hn⟩ (idle_12 ⟨0, hn⟩ (by decide : ¬(0 = 15))) (noFlush_12 ⟨0, hn⟩ (by decide : ¬(0 = 15)))]
    unfold inv
    dsimp only
    have h0 := (first_iff ⟨0, hn⟩).mpr rfl
    have h1 : ¬isLast (grid1.coords ⟨0, hn⟩) := fun h => absurd ((last_iff ⟨0, hn⟩).mp h) (by decide : ¬(0 = 15))
    rw [show (outsAt V c 0 hn) = ⟨duA c (grid1.coords ⟨0, hn⟩) (mem ⟨0, hn⟩) (ins V c ⟨0, hn⟩) h0 h1,
      (mem ⟨0, hn⟩).a13.view.read (Elt F) (mem ⟨0, hn⟩).a13.view.junk,
      carA c (grid1.coords ⟨0, hn⟩) (mem ⟨0, hn⟩) (ins V c ⟨0, hn⟩) h0 h1⟩ from rfl]
    dsimp only
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (tripleA c (grid1.coords ⟨0, hn⟩) (mem ⟨0, hn⟩) (ins V c ⟨0, hn⟩) h0 h1 _ Set.univ _)
    isplitl [H0 H1 H2 H3 H4 H5 H6 H7 H8 H9 H10]
    · unfold Mem.ins
      iframe H0 H1 H2 H3 H4 H5 H6 H7 H8 H9 H10
    isplitl [H11]; · iexists _; iexact H11
    iframe H12 HS
    iintro ⟨HI, H11, H12, HS⟩
    unfold Mem.ins
    icases HI with ⟨H0, H1, H2, H3, H4, H5, H6, H7, H8, H9, H10⟩
    isplitl [HS HR]
    · iframe HS HR
    iframe Ho H0 H1 H2 H3 H4 H5 H6 H7 H8 H9 H10 H11
    iexists _; iexact H12
  | succ n =>
    have h0 := fun h => Nat.succ_ne_zero n ((first_iff ⟨n + 1, hn⟩).mp h)
    by_cases hl : n + 1 = 15
    · have h1 := (last_iff ⟨n + 1, hn⟩).mpr hl
      rw [leaves_12 V c ⟨n + 1, hn⟩ hl, after_12]
      unfold inv
      dsimp only
      rw [show (outsAt V c (n + 1) hn) = ⟨duC c (grid1.coords ⟨n + 1, hn⟩) (mem ⟨n + 1, hn⟩) (ins V c ⟨n + 1, hn⟩) (outsAt V c n (Nat.lt_of_succ_lt hn)).car h0 h1,
        sgC c (grid1.coords ⟨n + 1, hn⟩) (mem ⟨n + 1, hn⟩) (ins V c ⟨n + 1, hn⟩) (outsAt V c n (Nat.lt_of_succ_lt hn)).car h0 h1,
        carC c (grid1.coords ⟨n + 1, hn⟩) (mem ⟨n + 1, hn⟩) (ins V c ⟨n + 1, hn⟩) (outsAt V c n (Nat.lt_of_succ_lt hn)).car h0 h1⟩ from (dif_pos hl).trans rfl]
      dsimp only
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (tripleC c (grid1.coords ⟨n + 1, hn⟩) (mem ⟨n + 1, hn⟩) (ins V c ⟨n + 1, hn⟩) (outsAt V c n (Nat.lt_of_succ_lt hn)).car h0 h1 Set.univ _)
      isplitl [H0 H1 H2 H3 H4 H5 H6 H7 H8 H9 H10]
      · unfold Mem.ins
        iframe H0 H1 H2 H3 H4 H5 H6 H7 H8 H9 H10
      isplitl [H11]; · iexists _; iexact H11
      isplitl [H12]; · iexists _; iexact H12
      isplitl [HS]; · iexact HS
      iintro ⟨HI, H11, H12, HS⟩
      unfold Mem.ins
      icases HI with ⟨H0, H1, H2, H3, H4, H5, H6, H7, H8, H9, H10⟩
      isplitl [HS HR]
      · iframe HS HR
      iframe Ho H0 H1 H2 H3 H4 H5 H6 H7 H8 H9 H10 H11 H12
    · have h1 := fun h => hl ((last_iff ⟨n + 1, hn⟩).mp h)
      rw [Dat.leavesExact_idle (dat V c) 12 ⟨n + 1, hn⟩ (idle_12 ⟨n + 1, hn⟩ hl) (noFlush_12 ⟨n + 1, hn⟩ hl)]
      unfold inv
      dsimp only
      rw [show (outsAt V c (n + 1) hn) = ⟨duB c (grid1.coords ⟨n + 1, hn⟩) (mem ⟨n + 1, hn⟩) (ins V c ⟨n + 1, hn⟩) (outsAt V c n (Nat.lt_of_succ_lt hn)).car h0 h1,
        (mem ⟨n + 1, hn⟩).a13.view.read (Elt F) (mem ⟨n + 1, hn⟩).a13.view.junk,
        carB c (grid1.coords ⟨n + 1, hn⟩) (mem ⟨n + 1, hn⟩) (ins V c ⟨n + 1, hn⟩) (outsAt V c n (Nat.lt_of_succ_lt hn)).car h0 h1⟩ from (dif_neg hl).trans rfl]
      dsimp only
      iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (tripleB c (grid1.coords ⟨n + 1, hn⟩) (mem ⟨n + 1, hn⟩) (ins V c ⟨n + 1, hn⟩) (outsAt V c n (Nat.lt_of_succ_lt hn)).car h0 h1 _ Set.univ _)
      isplitl [H0 H1 H2 H3 H4 H5 H6 H7 H8 H9 H10]
      · unfold Mem.ins
        iframe H0 H1 H2 H3 H4 H5 H6 H7 H8 H9 H10
      isplitl [H11]; · iexists _; iexact H11
      iframe H12 HS
      iintro ⟨HI, H11, H12, HS⟩
      unfold Mem.ins
      icases HI with ⟨H0, H1, H2, H3, H4, H5, H6, H7, H8, H9, H10⟩
      isplitl [HS HR]
      · iframe HS HR
      iframe Ho H0 H1 H2 H3 H4 H5 H6 H7 H8 H9 H10 H11
      iexists _; iexact H12

/-- The body table's row at point `t`'s slots is the body on that point's memrefs. -/
theorem defs₀_row (t : Fin cfg1.N) :
    defs₀ (F := F) .tc cfg1.body (cfg1.bodyArgs t (cfg1.slots t)) = (mem t).body (grid1.coords t) := by
  unfold defs₀; rw [Defs.onTc_tc]

/-- The body obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- The scoped rest and the generator register are the invariant before the first point. -/
theorem inv_in (c : Dev nD) : iprop(Pipeline.scopedRest spec1 c ∗ ∃ r, prngReg c r) ⊢ (dat V c).Φ 0 := by
  rw [show (dat V c).Φ 0 = inv V c 0 (Nat.zero_le _) from rfl, scopedRest1_split]
  unfold inv Mem.scr rest
  simp only [hasAny, hasV, owns_whole]
  iintro ⟨⟨HS, HR⟩, Hg⟩
  isplitl [HS]; · iexact HS
  isplitl [HR] <;> iassumption

/-- The invariant after the last point gives them back. -/
theorem inv_out (c : Dev nD) : (dat V c).Φ (Fin.last cfg1.N) ⊢ iprop(Pipeline.scopedRest spec1 c ∗ ∃ r, prngReg c r) := by
  rw [show (dat V c).Φ (Fin.last cfg1.N) = inv V c (15 + 1) (le_of_eq N_1.symm) from rfl, scopedRest1_split]
  unfold inv Mem.car rest
  simp only [hasAny, hasV, owns_whole]
  iintro ⟨⟨HS0, HS1, HS2, HS3, HS4, HS5, HS6, HS7, HS8, HS9, HS10, HS11, HS12, HS13, HS14, HS15, HS16, HS17⟩, HR, Hg⟩
  isplitr [Hg]
  · isplitr [HR]
    · iframe HS0 HS1 HS2 HS3 HS4 HS5 HS6 HS7
      isplitl [HS8]; · iexists _; iexact HS8
      isplitl [HS9]; · iexists _; iexact HS9
      isplitl [HS10]; · iexists _; iexact HS10
      isplitl [HS11]; · iexists _; iexact HS11
      isplitl [HS12]; · iexists _; iexact HS12
      isplitl [HS13]; · iexists _; iexact HS13
      isplitl [HS14]; · iexists _; iexact HS14
      isplitl [HS15]; · iexists _; iexact HS15
      isplitl [HS16]; · iexists _; iexact HS16
      iexists _; iexact HS17
    iexact HR
  iexact Hg

end Cert.MixBwd

end
-- ==== Proof.PoolRegion.lean ====
/- What the backward region leaves of the pool half: every row's gradient, and the packed sums over all rows. -/
module

public import proofs.«01_k».proof.Proof.PoolDone
public import proofs.«01_k».proof.Proof.MixBwdRegion

@[expose] public section

set_option maxRecDepth 16384

noncomputable section

namespace Cert.Pool

open Cert.MixerIdeal Cert.MixerIdeal.Gen Cert.MixBwd
open Idealize.ShloMosaic Idealize.ShloMosaic.TcCoe

/-- The tile a point works on: the last one first. -/
def tile (n : ℕ) (hn : n < cfg1.N) : Fin 16 := ⟨15 - n, by omega⟩

/-- The arrays the region finds hold real entries. -/
structure ArrOk (A : Arrays) (V : (c : Dev nD) → Valuation τ sig (Elt Ideal)) (c : Dev nD) : Prop where
  d2 : ∀ (t : Fin 8192) (k : Fin 1024), (V c main_arg0 : FVec Ideal S8192x1024 .f32) (ix2 t k) = ((A.d2 t.val k : ℝ) : EReal)
  u : ∀ (t : Fin 8192) (j : Fin 512), (V c main_arg2 : FVec Ideal S8192x1536 .f32) (ix2 t (⟨1024 + j.val, by omega⟩ : Fin 1536)) = ((A.u t.val j : ℝ) : EReal)
  pv : Rows A (V c main_v2 : FVec Ideal S16x512 .f32)
  wp : ∀ (g : Fin 4) (a b : Fin 128), (V c main_v16 : FVec Ideal S4x128x128 .f32) (ix3 g a b) = ((A.wp g a b : ℝ) : EReal)
  wo : ∀ (j : Fin 512) (k : Fin 1024), (V c main_v13 : FVec Ideal S1024x1024 .bf16) (ix2 (wrow j) k) = ((A.wo j k : ℝ) : EReal)

/-- The blocks the windows hold at a point. -/
theorem idxs : ∀ t : Fin cfg1.N, win1_0.index t = ![15 - t.val, 0] ∧ win1_1.index t = ![15 - t.val, 0] ∧ win1_2.index t = ![32 * (15 - t.val) - 1, 2] ∧ win1_6.index t = ![0, 0]
    ∧ win1_9.index t = ![0, 0, 0] ∧ win1_10.index t = ![0, 0] ∧ win1_11.index t = ![15 - t.val, 0] ∧ win1_12.index t = ![0, 0] :=
  (by decide +kernel : ∀ t : Fin grid1.N, _)

variable {A : Arrays} {V : (c : Dev nD) → Valuation τ sig (Elt Ideal)} {c : Dev nD}

theorem d2_in (t : Fin cfg1.N) (i : Fin 512) (k : Fin 1024) : (iblk V c 0 t : FVec Ideal S512x1024 .f32) (ix2 i k)
    = (V c main_arg0 : FVec Ideal S8192x1024 .f32) (ix2 ⟨512 * (tile t.val t.isLt).val + i.val, by omega⟩ k) := by
  blk_simp [iblk]
  blk_ext [idxs t, tile]

theorem u_in (t : Fin cfg1.N) (i j : Fin 512) : (iblk V c 1 t : FVec Ideal S512x1536 .f32) (ix2 i (⟨1024 + j.val, by omega⟩ : Fin 1536))
    = (V c main_arg2 : FVec Ideal S8192x1536 .f32) (ix2 ⟨512 * (tile t.val t.isLt).val + i.val, by omega⟩ (⟨1024 + j.val, by omega⟩ : Fin 1536)) := by
  blk_simp [iblk]
  blk_ext [idxs t, tile]

theorem uh_in (t : Fin cfg1.N) (h : (tile t.val t.isLt).val ≠ 0) (p : Fin 16) (j : Fin 512) : (iblk V c 2 t : FVec Ideal S16x512 .f32) (ix2 p j)
    = (V c main_arg2 : FVec Ideal S8192x1536 .f32) (ix2 ⟨512 * (tile t.val t.isLt).val + p.val - 16, by omega⟩ (⟨1024 + j.val, by omega⟩ : Fin 1536)) := by
  unfold tile at h ⊢
  dsimp only at h ⊢
  blk_simp [iblk]
  blk_ext [idxs t]

theorem pv_in (t : Fin cfg1.N) (p : Fin 16) (j : Fin 512) : (iblk V c 6 t : FVec Ideal S16x512 .f32) (ix2 p j) = (V c main_v2 : FVec Ideal S16x512 .f32) (ix2 p j) := by
  blk_simp [iblk]
  blk_ext [idxs t]

theorem wp_in (t : Fin cfg1.N) (g : Fin 4) (a b : Fin 128) : (iblk V c 9 t : FVec Ideal S4x128x128 .f32) (ix3 g a b) = (V c main_v16 : FVec Ideal S4x128x128 .f32) (ix3 g a b) := by
  blk_simp [iblk]
  blk_ext [idxs t]

theorem wo_in (t : Fin cfg1.N) (j k : Fin 1024) : (iblk V c 10 t : FVec Ideal S1024x1024 .bf16) (ix2 j k) = (V c main_v13 : FVec Ideal S1024x1024 .bf16) (ix2 j k) := by
  blk_simp [iblk]
  blk_ext [idxs t]

/-- A point's blocks hold the rows of the arrays. -/
theorem ins_ok (h : ArrOk A V c) (t : Fin cfg1.N) : InOk A (tile t.val t.isLt) (ins V c t) where
  d2 i k := (d2_in t i k).trans (h.d2 _ k)
  u i j := (u_in t i j).trans (h.u _ j)
  uh h0 p j := (uh_in t h0 p j).trans (h.u _ j)
  pv := ⟨fun j => (pv_in t 8 j).trans (h.pv.pb j), fun j => (pv_in t 9 j).trans (h.pv.ps j), fun j => (pv_in t 11 j).trans (h.pv.gp j)⟩
  wp g a b := (wp_in t g a b).trans (h.wp g a b)
  wo j k := (wo_in t _ k).trans (h.wo j k)

/-- The tile's number, as the body computes it. -/
theorem tile_eq : ∀ t : Fin cfg1.N, Scalar.subi 15#32 (BitVec.ofNat 32 (grid1.coords t 0).val) = BitVec.ofNat 32 (tile t.val t.isLt).val :=
  (by decide +kernel : ∀ t : Fin grid1.N, Scalar.subi 15#32 (BitVec.ofNat 32 (grid1.coords t 0).val) = BitVec.ofNat 32 (15 - t.val))

/-- A sum over the rows of the last `n + 1` tiles. -/
def upTo (n : ℕ) (f : ℕ → ℝ) : ℝ := ∑ k ∈ Finset.range (n + 1), ∑ i : Fin 512, f (512 * (15 - k) + i.val)

theorem upTo_zero (f : ℕ → ℝ) : upTo 0 f = ∑ i : Fin 512, f (512 * 15 + i.val) := by
  unfold upTo
  rw [Finset.sum_range_one]

theorem upTo_succ (n : ℕ) (f : ℕ → ℝ) : upTo (n + 1) f = upTo n f + ∑ i : Fin 512, f (512 * (15 - (n + 1)) + i.val) :=
  Finset.sum_range_succ _ (n + 1)

/-- All tiles' rows are all rows. -/
theorem upTo_all (f : ℕ → ℝ) : upTo 15 f = ∑ t : Fin 8192, f t.val := by
  refine (Finset.sum_range_reflect (fun k => ∑ i : Fin 512, f (512 * k + i.val)) 16).trans ?_
  rw [Finset.sum_range]
  refine ((Fin.sum_univ_tiles 16 512 rfl fun t : Fin 8192 => f t.val).trans ?_).symm
  refine Finset.sum_congr rfl fun k _ => Finset.sum_congr rfl fun i _ => ?_
  exact congrArg f (by show k.val * 512 + i.val = 512 * k.val + i.val; omega)

/-- What the point at position `n` leaves: its tile's gradient, the rows handed on, the sums over the tiles so far. -/
abbrev AtOk (A : Arrays) (n : ℕ) (hn : n < cfg1.N) (l : Left Ideal) : Prop :=
  Done A (tile n hn) (fun j => ((upTo n (fun t => dz A t j) - ∑ i : Fin 512, dz A (512 * (tile n hn).val + i.val) j : ℝ) : EReal))
    (fun j => ((upTo n (fun t => dy A t j * zp A t j) - ∑ i : Fin 512, dy A (512 * (tile n hn).val + i.val) j * zp A (512 * (tile n hn).val + i.val) j : ℝ) : EReal))
    (fun j => ((upTo n (fun t => dyn A t j * xh A t j) - ∑ i : Fin 512, dyn A (512 * (tile n hn).val + i.val) j * xh A (512 * (tile n hn).val + i.val) j : ℝ) : EReal))
    (fun h a b => ((upTo n (fun t => pooled A t (col h a) * dz A t (col h b)) - ∑ i : Fin 512, pooled A (512 * (tile n hn).val + i.val) (col h a) * dz A (512 * (tile n hn).val + i.val) (col h b) : ℝ) : EReal))
    l.du l.car

/-- The sums' values at a position. -/
theorem AtOk.sums {n : ℕ} {hn : n < cfg1.N} {l : Left Ideal} (h : AtOk A n hn l) :
    (∀ j : Fin 512, l.car.s28 (ix2 8 j) = ((upTo n (fun t => dz A t j) : ℝ) : EReal)) ∧ (∀ j : Fin 512, l.car.s28 (ix2 9 j) = ((upTo n (fun t => dy A t j * zp A t j) : ℝ) : EReal))
    ∧ (∀ j : Fin 512, l.car.s28 (ix2 11 j) = ((upTo n (fun t => dyn A t j * xh A t j) : ℝ) : EReal))
    ∧ ∀ (h : Fin 2) (a b : Fin 256), l.car.s31 (ix3 h a b) = ((upTo n (fun t => pooled A t (col h a) * dz A t (col h b)) : ℝ) : EReal) := by
  refine ⟨fun j => (h.pb j).trans ?_, fun j => (h.ps j).trans ?_, fun j => (h.gp j).trans ?_, fun k a b => (h.dw k a b).trans ?_⟩ <;>
    exact (EReal.coe_add _ _).symm.trans (congrArg _ (sub_add_cancel _ _))

/-- The next point finds the scratch as it needs it. -/
theorem AtOk.next {n : ℕ} {hn : n < cfg1.N} {l : Left Ideal} (h : AtOk A n hn l) (hn' : n + 1 < cfg1.N) : CarOk A (tile (n + 1) hn') l.car where
  e p j := (h.e p j).trans (congrArg (fun t => ((fw A t j : ℝ) : EReal)) (by
    have : n + 1 < 16 := Nat.lt_of_lt_of_eq hn' N_1
    show 512 * (15 - n) + p.val = 512 * (15 - (n + 1)) + 512 + p.val
    omega))
  w := h.w

/-- A step adds the tile's part to the sums so far. -/
theorem step_of {n : ℕ} {hn : n < cfg1.N} {l : Left Ideal} (h : AtOk A n hn l) (hn' : n + 1 < cfg1.N) {d : Vec Ideal S512x1536 .bf16} {s : Car Ideal} {g : Vec Ideal S544x256 .f32}
    (k : Done A (tile (n + 1) hn') (fun j => l.car.s28 (ix2 8 j)) (fun j => l.car.s28 (ix2 9 j)) (fun j => l.car.s28 (ix2 11 j)) (fun h a b => l.car.s31 (ix3 h a b)) d s) :
    AtOk A (n + 1) hn' ⟨d, g, s⟩ := by
  obtain ⟨h8, h9, h11, h31⟩ := h.sums
  have e : ∀ f : ℕ → ℝ, upTo n f = upTo (n + 1) f - ∑ i : Fin 512, f (512 * (tile (n + 1) hn').val + i.val) := fun f => by
    rw [upTo_succ]
    exact (add_sub_cancel_right _ _).symm
  refine ⟨k.du, k.e, k.w, fun j => (k.pb j).trans ?_, fun j => (k.ps j).trans ?_, fun j => (k.gp j).trans ?_, fun x a b => (k.dw x a b).trans ?_⟩
  · exact congrArg (· + _) ((h8 j).trans (congrArg _ (e _)))
  · exact congrArg (· + _) ((h9 j).trans (congrArg _ (e _)))
  · exact congrArg (· + _) ((h11 j).trans (congrArg _ (e _)))
  · exact congrArg (· + _) ((h31 x a b).trans (congrArg _ (e _)))

/-- The first point's part is the sums so far. -/
theorem start_of {hn : 0 < cfg1.N} {d : Vec Ideal S512x1536 .bf16} {s : Car Ideal} {g : Vec Ideal S544x256 .f32} (k : Done A (tile 0 hn) (fun _ => 0) (fun _ => 0) (fun _ => 0) (fun _ _ _ => 0) d s) :
    AtOk A 0 hn ⟨d, g, s⟩ := by
  have e : ∀ f : ℕ → ℝ, (0 : EReal) = ((upTo 0 f - ∑ i : Fin 512, f (512 * (tile 0 hn).val + i.val) : ℝ) : EReal) := fun f => by
    rw [upTo_zero]
    exact (EReal.coe_zero.symm.trans (congrArg (fun r : ℝ => (r : EReal)) (sub_self (∑ i : Fin 512, f (512 * 15 + i.val))).symm))
  refine ⟨k.du, k.e, k.w, fun j => (k.pb j).trans ?_, fun j => (k.ps j).trans ?_, fun j => (k.gp j).trans ?_, fun x a b => (k.dw x a b).trans ?_⟩
  · exact congrArg (· + _) (e fun t => dz A t j)
  · exact congrArg (· + _) (e fun t => dy A t j * zp A t j)
  · exact congrArg (· + _) (e fun t => dyn A t j * xh A t j)
  · exact congrArg (· + _) (e fun t => pooled A t (col x a) * dz A t (col x b))

/-- Every point leaves its tile's part. -/
theorem at_ok (h : ArrOk A V c) : ∀ (n : ℕ) (hn : n < cfg1.N), AtOk A n hn (outsAt V c n hn)
  | 0, hn => by
    have h0 := (first_iff ⟨0, hn⟩).mpr rfl
    have h1 : ¬isLast (grid1.coords ⟨0, hn⟩) := fun h => absurd ((last_iff ⟨0, hn⟩).mp h) (by decide : ¬(0 = 15))
    have e : outsAt V c 0 hn = ⟨duA c (grid1.coords ⟨0, hn⟩) (mem ⟨0, hn⟩) (ins V c ⟨0, hn⟩) h0 h1, (mem ⟨0, hn⟩).a13.view.read (Elt Ideal) (mem ⟨0, hn⟩).a13.view.junk,
      carA c (grid1.coords ⟨0, hn⟩) (mem ⟨0, hn⟩) (ins V c ⟨0, hn⟩) h0 h1⟩ := rfl
    rw [e]
    exact start_of (doneA h0 h1 (tile_eq ⟨0, hn⟩) rfl (ins_ok h ⟨0, hn⟩))
  | n + 1, hn => by
    have h' := at_ok h n (Nat.lt_of_succ_lt hn)
    have h0 : ¬isFirst (grid1.coords ⟨n + 1, hn⟩) := fun h => Nat.succ_ne_zero n ((first_iff ⟨n + 1, hn⟩).mp h)
    by_cases hl : n + 1 = 15
    · rw [show outsAt V c (n + 1) hn = _ from (dif_pos hl).trans rfl]
      exact step_of h' hn (doneC h0 ((last_iff ⟨n + 1, hn⟩).mpr hl) (tile_eq ⟨n + 1, hn⟩) (ins_ok h ⟨n + 1, hn⟩) (h'.next hn))
    · rw [show outsAt V c (n + 1) hn = _ from (dif_neg hl).trans rfl]
      exact step_of h' hn (doneB h0 (fun h => hl ((last_iff ⟨n + 1, hn⟩).mp h)) (tile_eq ⟨n + 1, hn⟩) (ins_ok h ⟨n + 1, hn⟩) (h'.next hn))

/-- The position of the point that works on a row. -/
theorem at_lt (t : Fin 8192) : 15 - t.val / 512 < cfg1.N := Nat.lt_of_lt_of_eq (by omega) N_1.symm

/-- The gradient's array: each point's block. -/
def G11 (V : (c : Dev nD) → Valuation τ sig (Elt Ideal)) (c : Dev nD) : FVec Ideal S8192x1536 .bf16 := fun y =>
  (outsAt V c (15 - (y 0).val / 512) (at_lt (y 0))).du (ix2 (⟨(y 0).val % 512, Nat.mod_lt _ (by decide)⟩ : Fin 512) (y 1))

/-- The gradient's array after the region. -/
theorem arr11 : (dat V c).arrAt 11 cfg1.N = G11 V c := by
  refine (dat V c).arrAt_eq_of_covers 11 (G11 V c) (by decide +kernel) fun t hf y => ?_
  blk_simp
  rw [after_11]
  have ht : t.val < 16 := Nat.lt_of_lt_of_eq t.isLt N_1
  obtain ⟨i, j, rfl⟩ : ∃ (i : Fin 512) (j : Fin 1536), y = ix2 i j := ⟨y 0, y 1, eq_ix2 y⟩
  have hj : (win1_11.blk t).view.emb (ix2 i j) = ix2 (⟨512 * (15 - t.val) + i.val, by omega⟩ : Fin 8192) j := by blk_ext [idxs t]
  rw [hj]
  have key : ∀ (n : ℕ) (hn : n < cfg1.N) (r : Fin 512), n = t.val → r = i → (outsAt V c t.val t.isLt).du (ix2 i j) = (outsAt V c n hn).du (ix2 r j) := by
    rintro n hn r rfl rfl; rfl
  exact key _ _ _ (by show 15 - (512 * (15 - t.val) + i.val) / 512 = t.val; omega) (Fin.ext (by show (512 * (15 - t.val) + i.val) % 512 = i.val; omega))

/-- The packed sums' array after the region. -/
theorem arr12 : (dat V c).arrAt 12 cfg1.N = (outsAt V c 15 (Nat.lt_of_lt_of_eq (by decide) N_1.symm)).sg := by
  refine (dat V c).arrAt_eq_of_after_last 12 t1_15 (by decide +kernel) _ fun j => ?_
  blk_simp
  rw [after_12]
  rfl

/-- The gradient of the input, in the region's array. -/
theorem du_end (h : ArrOk A V c) (t : Fin 8192) (j : Fin 512) : (dat V c).arrAt 11 cfg1.N (ix2 t (⟨1024 + j.val, by omega⟩ : Fin 1536)) = ((du A t.val j : ℝ) : EReal) := by
  rw [arr11]
  refine ((at_ok h _ (at_lt t)).du (⟨t.val % 512, Nat.mod_lt _ (by decide)⟩ : Fin 512) j).trans ?_
  exact congrArg (fun t => ((du A t j : ℝ) : EReal)) (by show 512 * (15 - (15 - t.val / 512)) + t.val % 512 = t.val; omega)

/-- What the last point packs, of what it leaves. -/
theorem pack_last (n : ℕ) (hl : n + 1 = 15) (hn : n + 1 < cfg1.N) :
    (∀ (p : Fin 16) (j : Fin 256), (outsAt V c (n + 1) hn).sg (ix2 (⟨p.val, by omega⟩ : Fin 544) j) = (outsAt V c (n + 1) hn).car.s28 (ix2 p (⟨j.val, by omega⟩ : Fin 512)))
    ∧ (∀ (p : Fin 16) (j : Fin 256), (outsAt V c (n + 1) hn).sg (ix2 (⟨16 + p.val, by omega⟩ : Fin 544) j) = (outsAt V c (n + 1) hn).car.s28 (ix2 p (⟨256 + j.val, by omega⟩ : Fin 512)))
    ∧ ∀ (h : Fin 2) (a : Fin 128) (b : Fin 256), (outsAt V c (n + 1) hn).sg (ix2 (⟨288 + 128 * h.val + a.val, by omega⟩ : Fin 544) b)
        = (outsAt V c (n + 1) hn).car.s31 (ix3 h (⟨128 * (b.val / 128) + a.val, by omega⟩ : Fin 256) b) := by
  rw [show outsAt V c (n + 1) hn = _ from (dif_pos hl).trans rfl]
  exact packC _ _

theorem lt15 : 15 < cfg1.N := Nat.lt_of_lt_of_eq (by decide) N_1.symm

/-- The sums' row `p` over both packed halves. -/
theorem row_end (p : Fin 16) (j : Fin 512) :
    (dat V c).arrAt 12 cfg1.N (ix2 (⟨16 * (j.val / 256) + p.val, by omega⟩ : Fin 544) (⟨j.val % 256, Nat.mod_lt _ (by decide)⟩ : Fin 256)) = (outsAt V c 15 lt15).car.s28 (ix2 p j) := by
  obtain ⟨h0, h1, -⟩ := pack_last (V := V) (c := c) 14 rfl lt15
  rw [arr12]
  rcases (by omega : j.val < 256 ∨ 256 ≤ j.val) with h | h
  · have e1 : (⟨16 * (j.val / 256) + p.val, by omega⟩ : Fin 544) = ⟨p.val, by omega⟩ := Fin.ext (by dsimp only; omega)
    rw [e1]
    refine (h0 p ⟨j.val % 256, Nat.mod_lt _ (by decide)⟩).trans (congrArg (fun k => (outsAt V c 15 lt15).car.s28 (ix2 p k)) (Fin.ext (by show j.val % 256 = j.val; omega)))
  · have e1 : (⟨16 * (j.val / 256) + p.val, by omega⟩ : Fin 544) = ⟨16 + p.val, by omega⟩ := Fin.ext (by dsimp only; omega)
    rw [e1]
    refine (h1 p ⟨j.val % 256, Nat.mod_lt _ (by decide)⟩).trans (congrArg (fun k => (outsAt V c 15 lt15).car.s28 (ix2 p k)) (Fin.ext (by show 256 + j.val % 256 = j.val; omega)))

/-- The bias's gradient, in the region's array. -/
theorem pb_end (h : ArrOk A V c) (j : Fin 512) :
    (dat V c).arrAt 12 cfg1.N (ix2 (⟨16 * (j.val / 256) + 8, by omega⟩ : Fin 544) (⟨j.val % 256, Nat.mod_lt _ (by decide)⟩ : Fin 256)) = ((∑ t : Fin 8192, dz A t.val j : ℝ) : EReal) :=
  (row_end 8 j).trans (((at_ok h 15 lt15).sums.1 j).trans (congrArg _ (upTo_all _)))

/-- The scale's gradient, in the region's array. -/
theorem ps_end (h : ArrOk A V c) (j : Fin 512) :
    (dat V c).arrAt 12 cfg1.N (ix2 (⟨16 * (j.val / 256) + 9, by omega⟩ : Fin 544) (⟨j.val % 256, Nat.mod_lt _ (by decide)⟩ : Fin 256)) = ((∑ t : Fin 8192, dy A t.val j * zp A t.val j : ℝ) : EReal) :=
  (row_end 9 j).trans (((at_ok h 15 lt15).sums.2.1 j).trans (congrArg _ (upTo_all _)))

/-- The gain's gradient, in the region's array. -/
theorem gp_end (h : ArrOk A V c) (j : Fin 512) :
    (dat V c).arrAt 12 cfg1.N (ix2 (⟨16 * (j.val / 256) + 11, by omega⟩ : Fin 544) (⟨j.val % 256, Nat.mod_lt _ (by decide)⟩ : Fin 256)) = ((∑ t : Fin 8192, dyn A t.val j * xh A t.val j : ℝ) : EReal) :=
  (row_end 11 j).trans (((at_ok h 15 lt15).sums.2.2.1 j).trans (congrArg _ (upTo_all _)))

/-- The weight's gradient, in the region's array: half `h`'s block `d` in columns `128 d` and up. -/
theorem wp_end (h : ArrOk A V c) (k d : Fin 2) (a b : Fin 128) :
    (dat V c).arrAt 12 cfg1.N (ix2 (⟨288 + 128 * k.val + a.val, by omega⟩ : Fin 544) (⟨128 * d.val + b.val, by omega⟩ : Fin 256))
      = ((∑ t : Fin 8192, pooled A t.val (⟨256 * k.val + 128 * d.val + a.val, by omega⟩ : Fin 512) * dz A t.val (⟨256 * k.val + 128 * d.val + b.val, by omega⟩ : Fin 512) : ℝ) : EReal) := by
  obtain ⟨-, -, h2⟩ := pack_last (V := V) (c := c) 14 rfl lt15
  rw [arr12]
  refine (h2 k a ⟨128 * d.val + b.val, by omega⟩).trans (((at_ok h 15 lt15).sums.2.2.2 k _ _).trans (congrArg _ ((upTo_all _).trans ?_)))
  have e1 : col k (⟨128 * ((128 * d.val + b.val) / 128) + a.val, by omega⟩ : Fin 256) = (⟨256 * k.val + 128 * d.val + a.val, by omega⟩ : Fin 512) :=
    Fin.ext (by unfold col; dsimp only; omega)
  have e2 : col k (⟨128 * d.val + b.val, by omega⟩ : Fin 256) = (⟨256 * k.val + 128 * d.val + b.val, by omega⟩ : Fin 512) :=
    Fin.ext (by unfold col; dsimp only; omega)
  rw [e1, e2]

end Cert.Pool

end
-- ==== Proof.MixFwdLoop.lean ====
module

public import proofs.«01_k».proof.Proof.MixOwn

@[expose] public section

set_option maxRecDepth 16384

noncomputable section

namespace Cert.MixFwd

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S512x1536 .f32) (harg1 : arg1.IsWhole) (arg2 : Memref sig .tc .vmem S512x1024 .f32) (harg2 : arg2.IsWhole) (arg3 : Memref sig .tc .vmem S16x512 .f32) (harg3 : arg3.IsWhole)
  (arg4 : Memref sig .tc .vmem S8x64x64 .f32) (harg4 : arg4.IsWhole) (arg5 : Memref sig .tc .vmem S8x64x64 .f32) (harg5 : arg5.IsWhole) (arg6 : Memref sig .tc .vmem S4x128x128 .f32) (harg6 : arg6.IsWhole)
  (arg7 : Memref sig .tc .vmem S1024x1024 .bf16) (harg7 : arg7.IsWhole) (arg8 : Memref sig .tc .vmem S1x1024 .f32) (harg8 : arg8.IsWhole) (arg9 : Memref sig .tc .vmem S512x1024 .bf16) (harg9 : arg9.IsWhole)
  (arg10 : Memref sig .tc .vmem S512x512 .f32) (harg10 : arg10.IsWhole) (arg11 : Memref sig .tc .vmem S512x1024 .f32) (harg11 : arg11.IsWhole) (arg12 : Memref sig .tc .vmem S512x1024 .bf16) (harg12 : arg12.IsWhole)
  (arg13 : Memref sig .tc .vmem S512x2048 .f32) (harg13 : arg13.IsWhole) (arg14 : Memref sig .tc .vmem S528x512 .f32) (harg14 : arg14.IsWhole) (arg15 : Memref sig .tc .vmem S528x512 .f32) (harg15 : arg15.IsWhole)
  (arg16 : Memref sig .tc .vmem S512x512 .f32) (harg16 : arg16.IsWhole) (arg17 : Memref sig .tc .vmem S512x512 .f32) (harg17 : arg17.IsWhole) (arg18 : Memref sig .tc .vmem S8x512 .f32) (harg18 : arg18.IsWhole)
  (arg19 : Memref sig .tc .vmem S2x256x256 .bf16) (harg19 : arg19.IsWhole) (arg20 : Memref sig .tc .vmem S2x256x256 .bf16) (harg20 : arg20.IsWhole) (arg21 : Memref sig .tc .vmem S2x256x256 .bf16) (harg21 : arg21.IsWhole)

section Loop

variable (𝒱 : Variants) (bd : Option 𝒱.V) (arg0 : BitVec 32) (v106 v110 : FVec F S512x512 .f32)
  (v116 : IVec S8x512 32) (X16 : BufTy.Contents (Elt F) arg16.view.ty)
  (X17 : BufTy.Contents (Elt F) arg17.view.ty) (G : BufTy.Contents (Elt F) arg10.view.ty)
  (init : Vec F S8x512 .f32)

local notation "ST" => st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v106 v110 v116 X16 X17 init

/-- The eight trips of the scan store eight slabs of eight rows each: together every row of the tile. -/
theorem scan_covers (y : S512x512.Idx) : ∃ pc ∈ (ST 8).2, y ∈ pc.1.set :=
  View.cover_of_tiledL (ST 8).2 S8x512.size (by sl_kernel_rfl) y

/-- What the scan's loop keeps: the two operands it reads, the state's carry, and the rows the trips
before `k` stored. After the last trip every row is stored, so the contents are named without what
the buffer held at entry. -/
abbrev scanInv (k : ℕ) (acc : Vec F S8x512 .f32) : sProp 𝕄 :=
  iprop((arg16.view.loc (c : Thread nD τ) ↦[arg16.view.set]{fullShare} X16)
    ∗ (arg17.view.loc (c : Thread nD τ) ↦[arg17.view.set]{fullShare} X17)
    ∗ (∃ f, (arg10.view.loc (c : Thread nD τ) ↦[arg10.view.set]{fullShare} f)
        ∗ ⌜f = arg10.view.writes (Elt F) (if k < 8 then G else arg10.view.junk) (ST k).2⌝)
    ∗ ⌜acc = (ST k).1⌝)

set_option warn.classDefReducibility false in
/-- The scan's loop by that invariant. -/
@[sl_loop] def scanLoop (E : Set ℕ) :
    Idealize.ShloMosaic.LoopInv (M := 𝕄) Idealize.ShloMosaic.frame (wpE (defs₀ (F := F)) 𝒱 (c : Thread nD τ) bd) E k0_t1_loop.lb k0_t1_loop.ub k0_t1_loop.st k0_t1_ok init
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v106 v110 v116) where
  inv := scanInv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 𝒱 bd arg0 v106 v110 v116 X16 X17 G init
  step k acc := by
    iintro ⟨HR, HS, ⟨%f, HW, %hf⟩, %hacc⟩
    subst hacc
    iapply (wp_wand_r Idealize.ShloMosaic.frame (wpE (defs₀ (F := F)) 𝒱 (c : Thread nD τ) bd) E)
    isplitl [HR HS HW]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v106 v110 v116 X16 X17 k).2.2 E (ST k).1 f)
      iframe HR HS HW
    · iintro %yld ⟨%hres, HR, HS, HW⟩
      iframe HR HS
      isplitl [HW]
      · iexists _; isplitl [HW]; · iexact HW
        ipureintro
        have hk : k.val < 8 := Nat.lt_of_lt_of_le k.isLt k0_t1_abs.2.1
        rw [hf, if_pos hk, ← View.writes_append]
        by_cases h : k.val + 1 < 8
        · rw [if_pos h]; simp only [st_k0_t1_succ]
        · rw [if_neg h]
          have e : k.val + 1 = 8 := by omega
          have e2 := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 v106 v110 v116 X16 X17 init k
          rw [e] at e2 ⊢
          refine Eq.trans (b := arg10.view.writes (Elt F) G (ST 8).2) (by rw [e2]) ?_
          exact (harg10.eq_unread (View.read_writes_of_cover _ _ arg10.view arg10.view.junk _
            (scan_covers c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 𝒱 bd arg0 v106 v110 v116 X16 X17 init))).trans (harg10.eq_unread rfl).symm
      ipureintro; rw [hres]; simp only [st_k0_t1_succ]

end Loop

end Cert.MixFwd

end
-- ==== Proof.MixFwdRun.lean ====
module

public import proofs.«01_k».proof.Proof.MixFwdLoop

@[expose] public section

set_option maxRecDepth 16384

noncomputable section

namespace Cert.MixFwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S512x1536 .f32) (harg1 : arg1.IsWhole) (arg2 : Memref sig .tc .vmem S512x1024 .f32) (harg2 : arg2.IsWhole) (arg3 : Memref sig .tc .vmem S16x512 .f32) (harg3 : arg3.IsWhole)
  (arg4 : Memref sig .tc .vmem S8x64x64 .f32) (harg4 : arg4.IsWhole) (arg5 : Memref sig .tc .vmem S8x64x64 .f32) (harg5 : arg5.IsWhole) (arg6 : Memref sig .tc .vmem S4x128x128 .f32) (harg6 : arg6.IsWhole)
  (arg7 : Memref sig .tc .vmem S1024x1024 .bf16) (harg7 : arg7.IsWhole) (arg8 : Memref sig .tc .vmem S1x1024 .f32) (harg8 : arg8.IsWhole) (arg9 : Memref sig .tc .vmem S512x1024 .bf16) (harg9 : arg9.IsWhole)
  (arg10 : Memref sig .tc .vmem S512x512 .f32) (harg10 : arg10.IsWhole) (arg11 : Memref sig .tc .vmem S512x1024 .f32) (harg11 : arg11.IsWhole) (arg12 : Memref sig .tc .vmem S512x1024 .bf16) (harg12 : arg12.IsWhole)
  (arg13 : Memref sig .tc .vmem S512x2048 .f32) (harg13 : arg13.IsWhole) (arg14 : Memref sig .tc .vmem S528x512 .f32) (harg14 : arg14.IsWhole) (arg15 : Memref sig .tc .vmem S528x512 .f32) (harg15 : arg15.IsWhole)
  (arg16 : Memref sig .tc .vmem S512x512 .f32) (harg16 : arg16.IsWhole) (arg17 : Memref sig .tc .vmem S512x512 .f32) (harg17 : arg17.IsWhole) (arg18 : Memref sig .tc .vmem S8x512 .f32) (harg18 : arg18.IsWhole)
  (arg19 : Memref sig .tc .vmem S2x256x256 .bf16) (harg19 : arg19.IsWhole) (arg20 : Memref sig .tc .vmem S2x256x256 .bf16) (harg20 : arg20.IsWhole) (arg21 : Memref sig .tc .vmem S2x256x256 .bf16) (harg21 : arg21.IsWhole)

/-- The first point's condition: the grid coordinate is zero. -/
abbrev isFirst (i : grid0.Coords) : Prop := (Scalar.cmpi .ne (Scalar.extui (Scalar.cmpi .eq (BitVec.ofNat 32 (i 0).val) 0#32)) 0#32) = 1#1

set_option maxHeartbeats 2000000 in
/-- The forward body at the first tile: on its blocks, with any scratch contents, it ends with the inputs as
they were and with these pieces stored in each output and scratch buffer. -/
def runA (hc : isFirst i)
    (x1 : Vec F S512x1536 .f32) (x2 : Vec F S512x1024 .f32) (x3 : Vec F S16x512 .f32) (x4 : Vec F S8x64x64 .f32) (x5 : Vec F S8x64x64 .f32) (x6 : Vec F S4x128x128 .f32) (x7 : Vec F S1024x1024 .bf16) (x8 : Vec F S1x1024 .f32) :
    Σ' (L9 : Ps F S512x1024 .bf16), Σ' (L10 : Ps F S512x512 .f32), Σ' (L11 : Ps F S512x1024 .f32), Σ' (L12 : Ps F S512x1024 .bf16), Σ' (L13 : Ps F S512x2048 .f32), Σ' (L14 : Ps F S528x512 .f32), Σ' (L15 : Ps F S528x512 .f32), Σ' (L16 : Ps F S512x512 .f32), Σ' (L17 : Ps F S512x512 .f32), Σ' (L18 : Ps F S8x512 .f32), Σ' (L19 : Ps F S2x256x256 .bf16), Σ' (L20 : Ps F S2x256x256 .bf16), { L21 : Ps F S2x256x256 .bf16 //
      ∀ (E : Set ℕ) (K : PUnit → sProp 𝕄),
        iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasAny c arg9 ∗ hasAny c arg10 ∗ hasAny c arg11 ∗ hasAny c arg12 ∗ hasAny c arg13 ∗ hasAny c arg14 ∗ hasAny c arg15 ∗ hasAny c arg16 ∗ hasAny c arg17 ∗ hasAny c arg18 ∗ hasAny c arg19 ∗ hasAny c arg20 ∗ hasAny c arg21
            ∗ (iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasPs c arg9 L9 ∗ hasPs c arg10 L10 ∗ hasPs c arg11 L11 ∗ hasPs c arg12 L12 ∗ hasPs c arg13 L13 ∗ hasPs c arg14 L14 ∗ hasPs c arg15 L15 ∗ hasPs c arg16 L16 ∗ hasPs c arg17 L17 ∗ hasPs c arg18 L18 ∗ hasPs c arg19 L19 ∗ hasPs c arg20 L20 ∗ hasPs c arg21 L21) -∗ K ⟨⟩))
          ⊢ wp frame (wpE (defs₀ (F := F)) Variants.none c none) E (cc0_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, ?_, ?_, ?_, fun E K => ?run⟩
  case run =>
    unfold hasAny hasPs hasV
    simp only [own_eq harg1, own_eq harg2, own_eq harg3, own_eq harg4, own_eq harg5, own_eq harg6, own_eq harg7, own_eq harg8]
    unfold owns
    iintro ⟨H1, H2, H3, H4, H5, H6, H7, H8, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    simp only [cc0_mixer_fwd_eq_skeleton]; unfold cc0_mixer_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    set_option sl_exec.maxSteps 133 in sl_exec (disch := first | sl_exact hc)
    rw [if_neg (show ¬ Scf.trips k0_t1_loop.lb k0_t1_loop.ub k0_t1_loop.st < 8 by decide)]
    sl_exec (disch := first | sl_exact hc)
    sl_step
    iapply Hk
    iframe H1 H2 H3 H4 H5 H6 H7 H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

set_option maxHeartbeats 2000000 in
/-- The forward body at a later tile: as at the first, over the scratch the tile before left; the packed
weights are read and left alone. -/
def runB (hc : ¬isFirst i)
    (x1 : Vec F S512x1536 .f32) (x2 : Vec F S512x1024 .f32) (x3 : Vec F S16x512 .f32) (x4 : Vec F S8x64x64 .f32) (x5 : Vec F S8x64x64 .f32) (x6 : Vec F S4x128x128 .f32) (x7 : Vec F S1024x1024 .bf16) (x8 : Vec F S1x1024 .f32) (s14 : Vec F S528x512 .f32) (s15 : Vec F S528x512 .f32) (s18 : Vec F S8x512 .f32) (s19 : Vec F S2x256x256 .bf16) (s20 : Vec F S2x256x256 .bf16) (s21 : Vec F S2x256x256 .bf16) :
    Σ' (L9 : Ps F S512x1024 .bf16), Σ' (L10 : Ps F S512x512 .f32), Σ' (L11 : Ps F S512x1024 .f32), Σ' (L12 : Ps F S512x1024 .bf16), Σ' (L13 : Ps F S512x2048 .f32), Σ' (L14 : Ps F S528x512 .f32), Σ' (L15 : Ps F S528x512 .f32), Σ' (L16 : Ps F S512x512 .f32), Σ' (L17 : Ps F S512x512 .f32), Σ' (L18 : Ps F S8x512 .f32), Σ' (L19 : Ps F S2x256x256 .bf16), Σ' (L20 : Ps F S2x256x256 .bf16), { L21 : Ps F S2x256x256 .bf16 //
      ∀ (E : Set ℕ) (K : PUnit → sProp 𝕄),
        iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasAny c arg9 ∗ hasAny c arg10 ∗ hasAny c arg11 ∗ hasAny c arg12 ∗ hasAny c arg13 ∗ hasV c arg14 s14 ∗ hasV c arg15 s15 ∗ hasAny c arg16 ∗ hasAny c arg17 ∗ hasV c arg18 s18 ∗ hasV c arg19 s19 ∗ hasV c arg20 s20 ∗ hasV c arg21 s21
            ∗ (iprop(hasV c arg1 x1 ∗ hasV c arg2 x2 ∗ hasV c arg3 x3 ∗ hasV c arg4 x4 ∗ hasV c arg5 x5 ∗ hasV c arg6 x6 ∗ hasV c arg7 x7 ∗ hasV c arg8 x8 ∗ hasPs c arg9 L9 ∗ hasPs c arg10 L10 ∗ hasPs c arg11 L11 ∗ hasPs c arg12 L12 ∗ hasPs c arg13 L13 ∗ hasPs c arg14 L14 ∗ hasPs c arg15 L15 ∗ hasPs c arg16 L16 ∗ hasPs c arg17 L17 ∗ hasPs c arg18 L18 ∗ hasV c arg19 s19 ∗ hasV c arg20 s20 ∗ hasV c arg21 s21) -∗ K ⟨⟩))
          ⊢ wp frame (wpE (defs₀ (F := F)) Variants.none c none) E (cc0_mixer_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, [], [], [], fun E K => ?run⟩
  case run =>
    unfold hasAny hasPs hasV
    simp only [own_eq harg1, own_eq harg2, own_eq harg3, own_eq harg4, own_eq harg5, own_eq harg6, own_eq harg7, own_eq harg8, own_eq harg14, own_eq harg15, own_eq harg18, own_eq harg19, own_eq harg20, own_eq harg21]
    unfold owns
    iintro ⟨H1, H2, H3, H4, H5, H6, H7, H8, ⟨%d9, %f9, -, H9⟩, ⟨%d10, %f10, -, H10⟩, ⟨%d11, %f11, -, H11⟩, ⟨%d12, %f12, -, H12⟩, ⟨%d13, %f13, -, H13⟩, H14, H15, ⟨%d16, %f16, -, H16⟩, ⟨%d17, %f17, -, H17⟩, H18, H19, H20, H21, Hk⟩
    simp only [cc0_mixer_fwd_eq_skeleton]; unfold cc0_mixer_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    set_option sl_exec.maxSteps 40 in sl_exec (disch := first | sl_exact hc)
    rw [if_neg (show ¬ Scf.trips k0_t1_loop.lb k0_t1_loop.ub k0_t1_loop.st < 8 by decide)]
    sl_exec (disch := first | sl_exact hc)
    sl_step
    iapply Hk
    iframe H1 H2 H3 H4 H5 H6 H7 H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iframe H19 H20 H21

end Cert.MixFwd

end
-- ==== Proof.MixFwdMem.lean ====
module

public import proofs.«01_k».proof.Proof.MixFwdRun

@[expose] public section

set_option maxRecDepth 16384

noncomputable section

namespace Cert.MixFwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The memrefs one run of the forward body is called with. -/
structure Mem where
  a1 : Memref sig .tc .vmem S512x1536 .f32
  h1 : a1.IsWhole
  a2 : Memref sig .tc .vmem S512x1024 .f32
  h2 : a2.IsWhole
  a3 : Memref sig .tc .vmem S16x512 .f32
  h3 : a3.IsWhole
  a4 : Memref sig .tc .vmem S8x64x64 .f32
  h4 : a4.IsWhole
  a5 : Memref sig .tc .vmem S8x64x64 .f32
  h5 : a5.IsWhole
  a6 : Memref sig .tc .vmem S4x128x128 .f32
  h6 : a6.IsWhole
  a7 : Memref sig .tc .vmem S1024x1024 .bf16
  h7 : a7.IsWhole
  a8 : Memref sig .tc .vmem S1x1024 .f32
  h8 : a8.IsWhole
  a9 : Memref sig .tc .vmem S512x1024 .bf16
  h9 : a9.IsWhole
  a10 : Memref sig .tc .vmem S512x512 .f32
  h10 : a10.IsWhole
  a11 : Memref sig .tc .vmem S512x1024 .f32
  h11 : a11.IsWhole
  a12 : Memref sig .tc .vmem S512x1024 .bf16
  h12 : a12.IsWhole
  a13 : Memref sig .tc .vmem S512x2048 .f32
  h13 : a13.IsWhole
  a14 : Memref sig .tc .vmem S528x512 .f32
  h14 : a14.IsWhole
  a15 : Memref sig .tc .vmem S528x512 .f32
  h15 : a15.IsWhole
  a16 : Memref sig .tc .vmem S512x512 .f32
  h16 : a16.IsWhole
  a17 : Memref sig .tc .vmem S512x512 .f32
  h17 : a17.IsWhole
  a18 : Memref sig .tc .vmem S8x512 .f32
  h18 : a18.IsWhole
  a19 : Memref sig .tc .vmem S2x256x256 .bf16
  h19 : a19.IsWhole
  a20 : Memref sig .tc .vmem S2x256x256 .bf16
  h20 : a20.IsWhole
  a21 : Memref sig .tc .vmem S2x256x256 .bf16
  h21 : a21.IsWhole

/-- The blocks the body reads. -/
structure In (F : FTy → Type) where
  x1 : Vec F S512x1536 .f32
  x2 : Vec F S512x1024 .f32
  x3 : Vec F S16x512 .f32
  x4 : Vec F S8x64x64 .f32
  x5 : Vec F S8x64x64 .f32
  x6 : Vec F S4x128x128 .f32
  x7 : Vec F S1024x1024 .bf16
  x8 : Vec F S1x1024 .f32

/-- The blocks the body leaves. -/
structure Out (F : FTy → Type) where
  o9 : Vec F S512x1024 .bf16
  o10 : Vec F S512x512 .f32
  o11 : Vec F S512x1024 .f32
  o12 : Vec F S512x1024 .bf16
  o13 : Vec F S512x2048 .f32

/-- The scratch carried from tile to tile. -/
structure Car (F : FTy → Type) where
  s14 : Vec F S528x512 .f32
  s15 : Vec F S528x512 .f32
  s18 : Vec F S8x512 .f32
  s19 : Vec F S2x256x256 .bf16
  s20 : Vec F S2x256x256 .bf16
  s21 : Vec F S2x256x256 .bf16

variable (c : Dev nD) (i : grid0.Coords) (M : Mem)

/-- The body on these memrefs. -/
abbrev Mem.body : Prog (TpuEff nD τ sig (Elt F) Λ₀ .tc) PUnit :=
  cc0_mixer_fwd i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21

/-- The input buffers at their blocks. -/
abbrev Mem.ins (x : In F) : sProp 𝕄 :=
  iprop(hasV c M.a1 x.x1 ∗ hasV c M.a2 x.x2 ∗ hasV c M.a3 x.x3 ∗ hasV c M.a4 x.x4 ∗ hasV c M.a5 x.x5 ∗ hasV c M.a6 x.x6 ∗ hasV c M.a7 x.x7 ∗ hasV c M.a8 x.x8)

/-- The output buffers at these blocks. -/
abbrev Mem.outs (o : Out F) : sProp 𝕄 :=
  iprop(hasV c M.a9 o.o9 ∗ hasV c M.a10 o.o10 ∗ hasV c M.a11 o.o11 ∗ hasV c M.a12 o.o12 ∗ hasV c M.a13 o.o13)

/-- The output buffers at anything. -/
abbrev Mem.outsAny : sProp 𝕄 :=
  iprop(hasAny c M.a9 ∗ hasAny c M.a10 ∗ hasAny c M.a11 ∗ hasAny c M.a12 ∗ hasAny c M.a13)

/-- All scratch at anything. -/
abbrev Mem.scr : sProp 𝕄 :=
  iprop(hasAny c M.a14 ∗ hasAny c M.a15 ∗ hasAny c M.a16 ∗ hasAny c M.a17 ∗ hasAny c M.a18 ∗ hasAny c M.a19 ∗ hasAny c M.a20 ∗ hasAny c M.a21)

/-- The scratch with its carried part at these contents and the rest at anything. -/
abbrev Mem.car (s : Car F) : sProp 𝕄 :=
  iprop(hasV c M.a14 s.s14 ∗ hasV c M.a15 s.s15 ∗ hasAny c M.a16 ∗ hasAny c M.a17 ∗ hasV c M.a18 s.s18 ∗ hasV c M.a19 s.s19 ∗ hasV c M.a20 s.s20 ∗ hasV c M.a21 s.s21)

end Cert.MixFwd

end
-- ==== Proof.MixFwdStepA.lean ====
module

public import proofs.«01_k».proof.Proof.MixFwdMem

@[expose] public section

set_option maxRecDepth 16384

noncomputable section

namespace Cert.MixFwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (M : Mem)

section Cases

variable (x : In F) (s : Car F)

/-- The first tile's run on these memrefs. -/
abbrev runA' (hc : isFirst i) :=
  runA c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 hc x.x1 x.x2 x.x3 x.x4 x.x5 x.x6 x.x7 x.x8

/-- The pieces stored in buffer 9 at a first tile fill it. -/
theorem covA9 (hc : isFirst i) (y : S512x1024.Idx) :
    ∃ pc ∈ (runA' c i M x hc).1, y ∈ pc.1.set :=
  View.cover_of_tiledL (runA' c i M x hc).1 S512x128.size (by sl_kernel_rfl) y

/-- The pieces stored in buffer 10 at a first tile fill it. -/
theorem covA10 (hc : isFirst i) (y : S512x512.Idx) :
    ∃ pc ∈ (runA' c i M x hc).2.1, y ∈ pc.1.set :=
  View.cover_of_tiledL (runA' c i M x hc).2.1 S8x512.size (by sl_kernel_rfl) y

/-- The pieces stored in buffer 11 at a first tile fill it. -/
theorem covA11 (hc : isFirst i) (y : S512x1024.Idx) :
    ∃ pc ∈ (runA' c i M x hc).2.2.1, y ∈ pc.1.set :=
  View.cover_of_tiledL _ S512x1024.size (by sl_kernel_rfl) y

/-- The pieces stored in buffer 12 at a first tile fill it. -/
theorem covA12 (hc : isFirst i) (y : S512x1024.Idx) :
    ∃ pc ∈ (runA' c i M x hc).2.2.2.1, y ∈ pc.1.set :=
  View.cover_of_tiledL _ S512x1024.size (by sl_kernel_rfl) y

/-- The pieces stored in buffer 13 at a first tile fill it. -/
theorem covA13 (hc : isFirst i) (y : S512x2048.Idx) :
    ∃ pc ∈ (runA' c i M x hc).2.2.2.2.1, y ∈ pc.1.set :=
  View.cover_of_tiledL (runA' c i M x hc).2.2.2.2.1 S512x512.size (by sl_kernel_rfl) y

/-- The pieces stored in buffer 14 at a first tile fill it. -/
theorem covA14 (hc : isFirst i) (y : S528x512.Idx) :
    ∃ pc ∈ (runA' c i M x hc).2.2.2.2.2.1, y ∈ pc.1.set :=
  View.cover_of_tiledBy _ ![16, 512] (by sl_kernel_rfl) y

/-- The pieces stored in buffer 15 at a first tile fill it. -/
theorem covA15 (hc : isFirst i) (y : S528x512.Idx) :
    ∃ pc ∈ (runA' c i M x hc).2.2.2.2.2.2.1, y ∈ pc.1.set :=
  View.cover_of_tiledBy _ ![16, 512] (by sl_kernel_rfl) y

/-- The pieces stored in buffer 18 at a first tile fill it. -/
theorem covA18 (hc : isFirst i) (y : S8x512.Idx) :
    ∃ pc ∈ (runA' c i M x hc).2.2.2.2.2.2.2.2.2.1, y ∈ pc.1.set :=
  View.cover_of_tiledL _ S8x512.size (by sl_kernel_rfl) y

/-- The pieces stored in buffer 19 at a first tile fill it. -/
theorem covA19 (hc : isFirst i) (y : S2x256x256.Idx) :
    ∃ pc ∈ (runA' c i M x hc).2.2.2.2.2.2.2.2.2.2.1, y ∈ pc.1.set :=
  View.cover_of_wholeMem _  (by sl_whole_mem) y

/-- The pieces stored in buffer 20 at a first tile fill it. -/
theorem covA20 (hc : isFirst i) (y : S2x256x256.Idx) :
    ∃ pc ∈ (runA' c i M x hc).2.2.2.2.2.2.2.2.2.2.2.1, y ∈ pc.1.set :=
  View.cover_of_wholeMem _  (by sl_whole_mem) y

/-- The pieces stored in buffer 21 at a first tile fill it. -/
theorem covA21 (hc : isFirst i) (y : S2x256x256.Idx) :
    ∃ pc ∈ (runA' c i M x hc).2.2.2.2.2.2.2.2.2.2.2.2.1, y ∈ pc.1.set :=
  View.cover_of_wholeMem _  (by sl_whole_mem) y

/-- What the body leaves in its output buffers at a first tile. -/
def outA (hc : isFirst i) : Out F where
  o9 := M.a9.view.read (Elt F) (M.a9.view.writes (Elt F) M.a9.view.junk (runA' c i M x hc).1)
  o10 := M.a10.view.read (Elt F) (M.a10.view.writes (Elt F) M.a10.view.junk (runA' c i M x hc).2.1)
  o11 := M.a11.view.read (Elt F) (M.a11.view.writes (Elt F) M.a11.view.junk (runA' c i M x hc).2.2.1)
  o12 := M.a12.view.read (Elt F) (M.a12.view.writes (Elt F) M.a12.view.junk (runA' c i M x hc).2.2.2.1)
  o13 := M.a13.view.read (Elt F) (M.a13.view.writes (Elt F) M.a13.view.junk (runA' c i M x hc).2.2.2.2.1)

/-- What the body leaves in the carried scratch at a first tile. -/
def carA (hc : isFirst i) : Car F where
  s14 := M.a14.view.read (Elt F) (M.a14.view.writes (Elt F) M.a14.view.junk (runA' c i M x hc).2.2.2.2.2.1)
  s15 := M.a15.view.read (Elt F) (M.a15.view.writes (Elt F) M.a15.view.junk (runA' c i M x hc).2.2.2.2.2.2.1)
  s18 := M.a18.view.read (Elt F) (M.a18.view.writes (Elt F) M.a18.view.junk (runA' c i M x hc).2.2.2.2.2.2.2.2.2.1)
  s19 := M.a19.view.read (Elt F) (M.a19.view.writes (Elt F) M.a19.view.junk (runA' c i M x hc).2.2.2.2.2.2.2.2.2.2.1)
  s20 := M.a20.view.read (Elt F) (M.a20.view.writes (Elt F) M.a20.view.junk (runA' c i M x hc).2.2.2.2.2.2.2.2.2.2.2.1)
  s21 := M.a21.view.read (Elt F) (M.a21.view.writes (Elt F) M.a21.view.junk (runA' c i M x hc).2.2.2.2.2.2.2.2.2.2.2.2.1)

set_option maxHeartbeats 4000000 in
/-- The first tile: the body, called on its blocks, ends with `outA` in the outputs and `carA` in the carried scratch. -/
theorem tripleA (hc : isFirst i) (E : Set ℕ) (K : PUnit → sProp 𝕄) :
    iprop(M.ins c x ∗ M.outsAny (F := F) c ∗ M.scr (F := F) c
        ∗ (iprop(M.ins c x ∗ M.outs c (outA c i M x hc) ∗ M.car c (carA c i M x hc)) -∗ K ⟨⟩))
      ⊢ wp frame (wpE (defs₀ (F := F)) Variants.none c none) E (M.body i) K := by
  unfold Mem.ins Mem.outsAny Mem.outs Mem.scr Mem.car
  iintro ⟨⟨H1, H2, H3, H4, H5, H6, H7, H8⟩, ⟨H9, H10, H11, H12, H13⟩, ⟨H14, H15, H16, H17, H18, H19, H20, H21⟩, Hk⟩
  have h := (runA' c i M x hc).2.2.2.2.2.2.2.2.2.2.2.2.2 E K
  iapply h
  iframe H1 H2 H3 H4 H5 H6 H7 H8 H9 H10 H11 H12 H13 H14 H15 H16 H17 H18 H19 H20 H21
  iintro ⟨H1, H2, H3, H4, H5, H6, H7, H8, H9, H10, H11, H12, H13, H14, H15, H16, H17, H18, H19, H20, H21⟩
  iapply Hk
  isplitl [H1 H2 H3 H4 H5 H6 H7 H8]
  · iframe H1 H2 H3 H4 H5 H6 H7 H8
  isplitl [H9 H10 H11 H12 H13]
  · isplitl [H9]; · iapply (own_cov (covA9 c i M x hc)); iexact H9
    isplitl [H10]; · iapply (own_cov (covA10 c i M x hc)); iexact H10
    isplitl [H11]; · iapply (own_cov (covA11 c i M x hc)); iexact H11
    isplitl [H12]; · iapply (own_cov (covA12 c i M x hc)); iexact H12
    iapply (own_cov (covA13 c i M x hc)); iexact H13
  isplitl [H14]; · iapply (own_cov (covA14 c i M x hc)); iexact H14
  isplitl [H15]; · iapply (own_cov (covA15 c i M x hc)); iexact H15
  isplitl [H16]; · iapply own_any; iexact H16
  isplitl [H17]; · iapply own_any; iexact H17
  isplitl [H18]; · iapply (own_cov (covA18 c i M x hc)); iexact H18
  isplitl [H19]; · iapply (own_cov (covA19 c i M x hc)); iexact H19
  isplitl [H20]; · iapply (own_cov (covA20 c i M x hc)); iexact H20
  iapply (own_cov (covA21 c i M x hc)); iexact H21

end Cases

end Cert.MixFwd

end
-- ==== Proof.MixFwdStepB.lean ====
module

public import proofs.«01_k».proof.Proof.MixFwdMem

@[expose] public section

set_option maxRecDepth 16384

noncomputable section

namespace Cert.MixFwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (M : Mem)

section Cases

variable (x : In F) (s : Car F)

/-- The later tile's run on these memrefs. -/
abbrev runB' (hc : ¬isFirst i) :=
  runB c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 hc x.x1 x.x2 x.x3 x.x4 x.x5 x.x6 x.x7 x.x8 s.s14 s.s15 s.s18 s.s19 s.s20 s.s21

/-- The pieces stored in buffer 9 at a later tile fill it. -/
theorem covB9 (hc : ¬isFirst i) (y : S512x1024.Idx) :
    ∃ pc ∈ (runB' c i M x s hc).1, y ∈ pc.1.set :=
  View.cover_of_tiledL (runB' c i M x s hc).1 S512x128.size (by sl_kernel_rfl) y

/-- The pieces stored in buffer 10 at a later tile fill it. -/
theorem covB10 (hc : ¬isFirst i) (y : S512x512.Idx) :
    ∃ pc ∈ (runB' c i M x s hc).2.1, y ∈ pc.1.set :=
  View.cover_of_tiledL (runB' c i M x s hc).2.1 S8x512.size (by sl_kernel_rfl) y

/-- The pieces stored in buffer 11 at a later tile fill it. -/
theorem covB11 (hc : ¬isFirst i) (y : S512x1024.Idx) :
    ∃ pc ∈ (runB' c i M x s hc).2.2.1, y ∈ pc.1.set :=
  View.cover_of_tiledL _ S512x1024.size (by sl_kernel_rfl) y

/-- The pieces stored in buffer 12 at a later tile fill it. -/
theorem covB12 (hc : ¬isFirst i) (y : S512x1024.Idx) :
    ∃ pc ∈ (runB' c i M x s hc).2.2.2.1, y ∈ pc.1.set :=
  View.cover_of_tiledL _ S512x1024.size (by sl_kernel_rfl) y

/-- The pieces stored in buffer 13 at a later tile fill it. -/
theorem covB13 (hc : ¬isFirst i) (y : S512x2048.Idx) :
    ∃ pc ∈ (runB' c i M x s hc).2.2.2.2.1, y ∈ pc.1.set :=
  View.cover_of_tiledL (runB' c i M x s hc).2.2.2.2.1 S512x512.size (by sl_kernel_rfl) y

/-- The pieces stored in buffer 14 at a later tile fill it. -/
theorem covB14 (hc : ¬isFirst i) (y : S528x512.Idx) :
    ∃ pc ∈ (runB' c i M x s hc).2.2.2.2.2.1, y ∈ pc.1.set :=
  View.cover_of_tiledBy _ ![16, 512] (by sl_kernel_rfl) y

/-- The pieces stored in buffer 15 at a later tile fill it. -/
theorem covB15 (hc : ¬isFirst i) (y : S528x512.Idx) :
    ∃ pc ∈ (runB' c i M x s hc).2.2.2.2.2.2.1, y ∈ pc.1.set :=
  View.cover_of_tiledBy _ ![16, 512] (by sl_kernel_rfl) y

/-- The pieces stored in buffer 18 at a later tile fill it. -/
theorem covB18 (hc : ¬isFirst i) (y : S8x512.Idx) :
    ∃ pc ∈ (runB' c i M x s hc).2.2.2.2.2.2.2.2.2.1, y ∈ pc.1.set :=
  View.cover_of_tiledL _ S8x512.size (by sl_kernel_rfl) y

/-- What the body leaves in its output buffers at a later tile. -/
def outB (hc : ¬isFirst i) : Out F where
  o9 := M.a9.view.read (Elt F) (M.a9.view.writes (Elt F) M.a9.view.junk (runB' c i M x s hc).1)
  o10 := M.a10.view.read (Elt F) (M.a10.view.writes (Elt F) M.a10.view.junk (runB' c i M x s hc).2.1)
  o11 := M.a11.view.read (Elt F) (M.a11.view.writes (Elt F) M.a11.view.junk (runB' c i M x s hc).2.2.1)
  o12 := M.a12.view.read (Elt F) (M.a12.view.writes (Elt F) M.a12.view.junk (runB' c i M x s hc).2.2.2.1)
  o13 := M.a13.view.read (Elt F) (M.a13.view.writes (Elt F) M.a13.view.junk (runB' c i M x s hc).2.2.2.2.1)

/-- What the body leaves in the carried scratch at a later tile. -/
def carB (hc : ¬isFirst i) : Car F where
  s14 := M.a14.view.read (Elt F) (M.a14.view.writes (Elt F) M.a14.view.junk (runB' c i M x s hc).2.2.2.2.2.1)
  s15 := M.a15.view.read (Elt F) (M.a15.view.writes (Elt F) M.a15.view.junk (runB' c i M x s hc).2.2.2.2.2.2.1)
  s18 := M.a18.view.read (Elt F) (M.a18.view.writes (Elt F) M.a18.view.junk (runB' c i M x s hc).2.2.2.2.2.2.2.2.2.1)
  s19 := s.s19
  s20 := s.s20
  s21 := s.s21

set_option maxHeartbeats 4000000 in
/-- The later tile: the body, called on its blocks, ends with `outB` in the outputs and `carB` in the carried scratch. -/
theorem tripleB (hc : ¬isFirst i) (E : Set ℕ) (K : PUnit → sProp 𝕄) :
    iprop(M.ins c x ∗ M.outsAny (F := F) c ∗ M.car c s
        ∗ (iprop(M.ins c x ∗ M.outs c (outB c i M x s hc) ∗ M.car c (carB c i M x s hc)) -∗ K ⟨⟩))
      ⊢ wp frame (wpE (defs₀ (F := F)) Variants.none c none) E (M.body i) K := by
  unfold Mem.ins Mem.outsAny Mem.outs Mem.car
  iintro ⟨⟨H1, H2, H3, H4, H5, H6, H7, H8⟩, ⟨H9, H10, H11, H12, H13⟩, ⟨H14, H15, H16, H17, H18, H19, H20, H21⟩, Hk⟩
  have h := (runB' c i M x s hc).2.2.2.2.2.2.2.2.2.2.2.2.2 E K
  iapply h
  iframe H1 H2 H3 H4 H5 H6 H7 H8 H9 H10 H11 H12 H13 H14 H15 H16 H17 H18 H19 H20 H21
  iintro ⟨H1, H2, H3, H4, H5, H6, H7, H8, H9, H10, H11, H12, H13, H14, H15, H16, H17, H18, H19, H20, H21⟩
  iapply Hk
  isplitl [H1 H2 H3 H4 H5 H6 H7 H8]
  · iframe H1 H2 H3 H4 H5 H6 H7 H8
  isplitl [H9 H10 H11 H12 H13]
  · isplitl [H9]; · iapply (own_cov (covB9 c i M x s hc)); iexact H9
    isplitl [H10]; · iapply (own_cov (covB10 c i M x s hc)); iexact H10
    isplitl [H11]; · iapply (own_cov (covB11 c i M x s hc)); iexact H11
    isplitl [H12]; · iapply (own_cov (covB12 c i M x s hc)); iexact H12
    iapply (own_cov (covB13 c i M x s hc)); iexact H13
  isplitl [H14]; · iapply (own_cov (covB14 c i M x s hc)); iexact H14
  isplitl [H15]; · iapply (own_cov (covB15 c i M x s hc)); iexact H15
  isplitl [H16]; · iapply own_any; iexact H16
  isplitl [H17]; · iapply own_any; iexact H17
  isplitl [H18]; · iapply (own_cov (covB18 c i M x s hc)); iexact H18
  iframe H19 H20 H21

end Cases

end Cert.MixFwd

end
-- ==== Proof.MixFwdRegion.lean ====
module

public import proofs.«01_k».proof.Proof.MixFwdStepA
public import proofs.«01_k».proof.Proof.MixFwdStepB
public import Idealize.ShloMosaic.Lib.Pipeline.RegionArraysS

@[expose] public section

set_option maxRecDepth 16384

noncomputable section

namespace Cert.MixFwd

open Cert.MixerIdeal Cert.MixerIdeal.Gen Cert.MixOwn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The memrefs the body is called with at point `t`. -/
abbrev mem (t : Fin cfg0.N) : Mem where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := Memref.whole cc0_scratch0
  h14 := Memref.isWhole_whole _
  a15 := Memref.whole cc0_scratch1
  h15 := Memref.isWhole_whole _
  a16 := Memref.whole cc0_scratch2
  h16 := Memref.isWhole_whole _
  a17 := Memref.whole cc0_scratch3
  h17 := Memref.isWhole_whole _
  a18 := Memref.whole cc0_scratch4
  h18 := Memref.isWhole_whole _
  a19 := Memref.whole cc0_scratch5
  h19 := Memref.isWhole_whole _
  a20 := Memref.whole cc0_scratch6
  h20 := Memref.isWhole_whole _
  a21 := Memref.whole cc0_scratch7
  h21 := Memref.isWhole_whole _

variable (V : (c : Dev nD) → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks the body reads at point `t`. -/
def ins (c : Dev nD) (t : Fin cfg0.N) : In F where
  x1 := iblk V c 0 t
  x2 := iblk V c 1 t
  x3 := iblk V c 2 t
  x4 := iblk V c 3 t
  x5 := iblk V c 4 t
  x6 := iblk V c 5 t
  x7 := iblk V c 6 t
  x8 := iblk V c 7 t

/-- The first point's condition holds at point 0 only. -/
theorem first_iff : ∀ t : Fin cfg0.N, isFirst (grid0.coords t) ↔ t.val = 0 := fun t => by
  have ht : t.val < 16 := Nat.lt_of_lt_of_eq t.isLt N_0
  have e0 : (grid0.coords t 0).val = t.val / 1 % 16 := Pipeline.Grid.coords_val t 0 (by decide) rfl
  simp only [isFirst, e0]
  word_cmp

/-- What the body leaves at position `n`: the output blocks and the carried scratch. -/
def outsAt (c : Dev nD) : (n : ℕ) → n < cfg0.N → Out F × Car F
  | 0, hn => (outA c (grid0.coords ⟨0, hn⟩) (mem ⟨0, hn⟩) (ins V c ⟨0, hn⟩) ((first_iff ⟨0, hn⟩).mpr rfl),
      carA c (grid0.coords ⟨0, hn⟩) (mem ⟨0, hn⟩) (ins V c ⟨0, hn⟩) ((first_iff ⟨0, hn⟩).mpr rfl))
  | n + 1, hn => (outB c (grid0.coords ⟨n + 1, hn⟩) (mem ⟨n + 1, hn⟩) (ins V c ⟨n + 1, hn⟩) (outsAt c n (Nat.lt_of_succ_lt hn)).2
        (fun h => Nat.succ_ne_zero n ((first_iff ⟨n + 1, hn⟩).mp h)),
      carB c (grid0.coords ⟨n + 1, hn⟩) (mem ⟨n + 1, hn⟩) (ins V c ⟨n + 1, hn⟩) (outsAt c n (Nat.lt_of_succ_lt hn)).2
        (fun h => Nat.succ_ne_zero n ((first_iff ⟨n + 1, hn⟩).mp h)))

/-- Every scoped buffer the region neither stages nor keeps as scratch. -/
abbrev rest (c : Dev nD) : sProp 𝕄 :=
  iprop(Pipeline.scopedRestBut spec0 c [cc0_scratch0, cc0_scratch1, cc0_scratch2, cc0_scratch3, cc0_scratch4, cc0_scratch5, cc0_scratch6, cc0_scratch7] ∗ ∃ r, prngReg (Ix := Unit) (Name := ℕ) (U := UR sig nD τ) (Lvl := ℕ) c r)

/-- The region's invariant before position `n`: all scratch at anything, then the carried scratch at what the point before left. -/
def inv (c : Dev nD) : (n : ℕ) → n ≤ cfg0.N → sProp 𝕄
  | 0, _ => iprop((mem t0_0).scr (F := F) c ∗ rest c)
  | n + 1, hn => iprop((mem ⟨n, hn⟩).car c (outsAt V c n hn).2 ∗ rest c)

/-- The region's proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1.o9
    | ⟨9, _⟩ => (outsAt V c t.val t.isLt).1.o10
    | ⟨10, _⟩ => (outsAt V c t.val t.isLt).1.o11
    | ⟨11, _⟩ => (outsAt V c t.val t.isLt).1.o12
    | ⟨12, _⟩ => (outsAt V c t.val t.isLt).1.o13
  Φ t := inv V c t.val (Nat.le_of_lt_succ t.isLt)
  q _ := fullShare
  owed _ := 0

/-- The arrays are the entry contents. -/
theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = (outsAt V c t.val t.isLt).1.o9 := by dsimp only [dat]
theorem after_9 (c : Dev nD) (t : Fin cfg0.N) : (dat V c).after 9 t = (outsAt V c t.val t.isLt).1.o10 := by dsimp only [dat]
theorem after_10 (c : Dev nD) (t : Fin cfg0.N) : (dat V c).after 10 t = (outsAt V c t.val t.isLt).1.o11 := by dsimp only [dat]
theorem after_11 (c : Dev nD) (t : Fin cfg0.N) : (dat V c).after 11 t = (outsAt V c t.val t.isLt).1.o12 := by dsimp only [dat]
theorem after_12 (c : Dev nD) (t : Fin cfg0.N) : (dat V c).after 12 t = (outsAt V c t.val t.isLt).1.o13 := by dsimp only [dat]
/-- An input window's buffer holds its block before the body runs. -/
theorem before_in (c : Dev nD) (t : Fin cfg0.N) :
    (∀ d, (dat V c).before 0 t d = iblk V c 0 t)
    ∧ (∀ d, (dat V c).before 1 t d = iblk V c 1 t)
    ∧ (∀ d, (dat V c).before 2 t d = iblk V c 2 t)
    ∧ (∀ d, (dat V c).before 3 t d = iblk V c 3 t)
    ∧ (∀ d, (dat V c).before 4 t d = iblk V c 4 t)
    ∧ (∀ d, (dat V c).before 5 t d = iblk V c 5 t)
    ∧ (∀ d, (dat V c).before 6 t d = iblk V c 6 t)
    ∧ (∀ d, (dat V c).before 7 t d = iblk V c 7 t) := by
  refine ⟨?_, ?_, ?_, ?_, ?_, ?_, ?_, ?_⟩ <;>
  exact fun d => ((dat V c).before_in_eq_fetched _ rfl (fun _ => rfl) (fun _ _ _ => rfl) (fun t => by
      first | rw [after_0] | rw [after_1] | rw [after_2] | rw [after_3] | rw [after_4] | rw [after_5] | rw [after_6] | rw [after_7]
      unfold Dat.blockOf iblk; rw [A_eq]) t d).trans
    (by unfold Dat.fetched Dat.blockOf iblk; rw [A_eq]; rfl)

/-- What the body is called with at point `t`. -/
def bodyPre (c : Dev nD) (t : Fin cfg0.N) : sProp 𝕄 :=
  iprop((dat V c).Φ t.castSucc ∗ (dat V c).owesAt () t.castSucc ∗ (∃ d, hasV c (mem t).a1 ((dat V c).before 0 t d)) ∗ (∃ d, hasV c (mem t).a2 ((dat V c).before 1 t d)) ∗ (∃ d, hasV c (mem t).a3 ((dat V c).before 2 t d)) ∗ (∃ d, hasV c (mem t).a4 ((dat V c).before 3 t d)) ∗ (∃ d, hasV c (mem t).a5 ((dat V c).before 4 t d)) ∗ (∃ d, hasV c (mem t).a6 ((dat V c).before 5 t d)) ∗ (∃ d, hasV c (mem t).a7 ((dat V c).before 6 t d)) ∗ (∃ d, hasV c (mem t).a8 ((dat V c).before 7 t d)) ∗ (∃ d, hasV c (mem t).a9 ((dat V c).before 8 t d)) ∗ (∃ d, hasV c (mem t).a10 ((dat V c).before 9 t d)) ∗ (∃ d, hasV c (mem t).a11 ((dat V c).before 10 t d)) ∗ (∃ d, hasV c (mem t).a12 ((dat V c).before 11 t d)) ∗ (∃ d, hasV c (mem t).a13 ((dat V c).before 12 t d)))

/-- What the body leaves at point `t`. -/
def bodyPost (c : Dev nD) (t : Fin cfg0.N) : sProp 𝕄 :=
  iprop((dat V c).Φ t.succ ∗ (dat V c).owesAt () t.succ ∗ hasV c (mem t).a1 ((dat V c).after 0 t) ∗ hasV c (mem t).a2 ((dat V c).after 1 t) ∗ hasV c (mem t).a3 ((dat V c).after 2 t) ∗ hasV c (mem t).a4 ((dat V c).after 3 t) ∗ hasV c (mem t).a5 ((dat V c).after 4 t) ∗ hasV c (mem t).a6 ((dat V c).after 5 t) ∗ hasV c (mem t).a7 ((dat V c).after 6 t) ∗ hasV c (mem t).a8 ((dat V c).after 7 t) ∗ hasV c (mem t).a9 ((dat V c).after 8 t) ∗ hasV c (mem t).a10 ((dat V c).after 9 t) ∗ hasV c (mem t).a11 ((dat V c).after 10 t) ∗ hasV c (mem t).a12 ((dat V c).after 11 t) ∗ hasV c (mem t).a13 ((dat V c).after 12 t))

set_option maxHeartbeats 4000000 in
/-- The body at any point. -/
theorem sound_body (c : Dev nD) (t : Fin cfg0.N) :
    bodyPre V c t ⊢ wp frame (wpE (defs₀ (F := F)) Variants.none c none) Set.univ ((mem t).body (grid0.coords t)) (fun _ => bodyPost V c t) := by
  unfold bodyPre bodyPost
  obtain ⟨b0, b1, b2, b3, b4, b5, b6, b7⟩ := before_in V c t
  simp only [b0, b1, b2, b3, b4, b5, b6, b7]
  rw [show (dat V c).owesAt () t.succ = (dat V c).owesAt () t.castSucc from rfl, after_0, after_1, after_2, after_3, after_4, after_5, after_6, after_7, after_8, after_9, after_10, after_11, after_12]
  rw [show (dat V c).Φ t.succ = inv V c (t.val + 1) t.isLt from rfl, show (dat V c).Φ t.castSucc = inv V c t.val (Nat.le_of_lt t.isLt) from rfl]
  obtain ⟨n, hn⟩ := t
  cases n with
  | zero =>
    unfold inv
    rw [show (outsAt V c 0 hn) = (outA c (grid0.coords ⟨0, hn⟩) (mem ⟨0, hn⟩) (ins V c ⟨0, hn⟩) ((first_iff ⟨0, hn⟩).mpr rfl),
      carA c (grid0.coords ⟨0, hn⟩) (mem ⟨0, hn⟩) (ins V c ⟨0, hn⟩) ((first_iff ⟨0, hn⟩).mpr rfl)) from rfl]
    dsimp only
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (tripleA c (grid0.coords ⟨0, hn⟩) (mem ⟨0, hn⟩) (ins V c ⟨0, hn⟩) ((first_iff ⟨0, hn⟩).mpr rfl) Set.univ _)
    isplitl [H0 H1 H2 H3 H4 H5 H6 H7]
    · unfold Mem.ins
      iframe H0 H1 H2 H3 H4 H5 H6 H7
    isplitl [H8 H9 H10 H11 H12]
    · unfold Mem.outsAny
      isplitl [H8]; · iexists _; iexact H8
      isplitl [H9]; · iexists _; iexact H9
      isplitl [H10]; · iexists _; iexact H10
      isplitl [H11]; · iexists _; iexact H11
      iexists _; iexact H12
    isplitl [HS]; · iexact HS
    iintro ⟨HI, HO, HS⟩
    unfold Mem.ins Mem.outs
    icases HI with ⟨H0, H1, H2, H3, H4, H5, H6, H7⟩
    icases HO with ⟨H8, H9, H10, H11, H12⟩
    isplitl [HS HR]
    · isplitl [HS]; · iexact HS
      iexact HR
    iframe Ho H0 H1 H2 H3 H4 H5 H6 H7 H8 H9 H10 H11 H12
  | succ n =>
    unfold inv
    rw [show (outsAt V c (n + 1) hn) = (outB c (grid0.coords ⟨n + 1, hn⟩) (mem ⟨n + 1, hn⟩) (ins V c ⟨n + 1, hn⟩) (outsAt V c n (Nat.lt_of_succ_lt hn)).2
        (fun h => Nat.succ_ne_zero n ((first_iff ⟨n + 1, hn⟩).mp h)),
      carB c (grid0.coords ⟨n + 1, hn⟩) (mem ⟨n + 1, hn⟩) (ins V c ⟨n + 1, hn⟩) (outsAt V c n (Nat.lt_of_succ_lt hn)).2
        (fun h => Nat.succ_ne_zero n ((first_iff ⟨n + 1, hn⟩).mp h))) from rfl]
    dsimp only
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (tripleB c (grid0.coords ⟨n + 1, hn⟩) (mem ⟨n + 1, hn⟩) (ins V c ⟨n + 1, hn⟩) (outsAt V c n (Nat.lt_of_succ_lt hn)).2 (fun h => Nat.succ_ne_zero n ((first_iff ⟨n + 1, hn⟩).mp h)) Set.univ _)
    isplitl [H0 H1 H2 H3 H4 H5 H6 H7]
    · unfold Mem.ins
      iframe H0 H1 H2 H3 H4 H5 H6 H7
    isplitl [H8 H9 H10 H11 H12]
    · unfold Mem.outsAny
      isplitl [H8]; · iexists _; iexact H8
      isplitl [H9]; · iexists _; iexact H9
      isplitl [H10]; · iexists _; iexact H10
      isplitl [H11]; · iexists _; iexact H11
      iexists _; iexact H12
    isplitl [HS]; · iexact HS
    iintro ⟨HI, HO, HS⟩
    unfold Mem.ins Mem.outs
    icases HI with ⟨H0, H1, H2, H3, H4, H5, H6, H7⟩
    icases HO with ⟨H8, H9, H10, H11, H12⟩
    isplitl [HS HR]
    · isplitl [HS]; · iexact HS
      iexact HR
    iframe Ho H0 H1 H2 H3 H4 H5 H6 H7 H8 H9 H10 H11 H12

/-- The body table's row at point `t`'s slots is the body on that point's memrefs. -/
theorem defs₀_row (t : Fin cfg0.N) :
    defs₀ (F := F) .tc cfg0.body (cfg0.bodyArgs t (cfg0.slots t)) = (mem t).body (grid0.coords t) := by
  unfold defs₀; rw [Defs.onTc_tc]

/-- The body obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- The scoped rest and the generator register are the invariant before the first point. -/
theorem inv_in (c : Dev nD) : iprop(Pipeline.scopedRest spec0 c ∗ ∃ r, prngReg c r) ⊢ (dat V c).Φ 0 := by
  rw [show (dat V c).Φ 0 = inv V c 0 (Nat.zero_le _) from rfl, scopedRest0_split]
  unfold inv Mem.scr rest
  simp only [hasAny, hasV, owns_whole]
  iintro ⟨⟨HS, HR⟩, Hg⟩
  isplitl [HS]; · iexact HS
  isplitl [HR] <;> iassumption

/-- The invariant after the last point gives them back. -/
theorem inv_out (c : Dev nD) : (dat V c).Φ (Fin.last cfg0.N) ⊢ iprop(Pipeline.scopedRest spec0 c ∗ ∃ r, prngReg c r) := by
  rw [show (dat V c).Φ (Fin.last cfg0.N) = inv V c (15 + 1) (le_of_eq N_0.symm) from rfl, scopedRest0_split]
  unfold inv Mem.car rest
  simp only [hasAny, hasV, owns_whole]
  iintro ⟨⟨HS0, HS1, HS2, HS3, HS4, HS5, HS6, HS7⟩, HR, Hg⟩
  isplitr [Hg]
  · isplitr [HR]
    · isplitl [HS0]; · iexists _; iexact HS0
      isplitl [HS1]; · iexists _; iexact HS1
      iframe HS2 HS3
      isplitl [HS4]; · iexists _; iexact HS4
      isplitl [HS5]; · iexists _; iexact HS5
      isplitl [HS6]; · iexists _; iexact HS6
      iexists _; iexact HS7
    iexact HR
  iexact Hg

end Cert.MixFwd

end
-- ==== Proof.MixerRun.lean ====
module

public import proofs.«01_k».proof.Proof.MixFwdRegion
public import proofs.«01_k».proof.Proof.MixBwdRegion
public import proofs.«01_k».proof.Proof.Gen.MixerIdeal.Regions
public import Idealize.ShloMosaic.Lib.Pipeline.FrameSuffix

@[expose] public section

set_option maxRecDepth 16384

noncomputable section

namespace Cert.MixerRun

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

variable (m : (ℓ : Loc nD τ sig) → Buf (Elt F) ℓ)

/-! ## What the two regions leave -/

/-- The buffers after the forward region: its five outputs as its run leaves them. -/
def left0 (c : Dev nD) : Valuation τ sig (Elt F) :=
  Pipeline.withArrays spec0 c (V1 m c) (fun w => (MixFwd.dat (V1 m) c).arrAt w cfg0.N)

/-- What the forward region leaves, as the unknowns the valuations are written over. -/
def outs2 : Outs (F := F) := fun _ r c => left0 m c r

/-- The buffers after the backward region. -/
def left1 (c : Dev nD) : Valuation τ sig (Elt F) :=
  Pipeline.withArrays spec1 c (V2 m (outs2 m) c) (fun w => (MixBwd.dat (V2 m (outs2 m)) c).arrAt w cfg1.N)

/-- What both regions leave. -/
def outs : Outs (F := F) := fun
  | 2, r, c => left0 m c r
  | _, r, c => left1 m c r

/-- The valuation between the two regions does not read what the second leaves. -/
theorem V2_outs (c : Dev nD) : V2 m (outs m) c = V2 m (outs2 m) c := rfl

/-- The proof data of the two regions. -/
def pdats : (p : Fin 2) → (c : Dev nD) → Dat τ (Elt F) Unit ℕ (UR sig nD τ) ℕ (cfgs p) c
  | 0, c => MixFwd.dat (V1 m) c
  | 1, c => MixBwd.dat (V2 m (outs m)) c

/-- The forward region's windows are on distinct arrays. -/
theorem shared0 : Pipeline.SharedIn spec0 := by decide

/-- An output array of the forward region after it. -/
theorem left0_arr (c : Dev nD) (w : Fin cfg0.W) :
    left0 m c (Pipeline.arrRef spec0 w) = (MixFwd.dat (V1 m) c).arrAt w cfg0.N :=
  (MixFwd.dat (V1 m) c).withArrays_arrAt shared0 (V1 m c) (fun w => MixFwd.A_eq (V1 m) c w) w

/-- An output array of the backward region after it. -/
theorem left1_arr (c : Dev nD) (w : Fin cfg1.W) :
    left1 m c (Pipeline.arrRef spec1 w) = (MixBwd.dat (V2 m (outs2 m)) c).arrAt w cfg1.N :=
  (MixBwd.dat (V2 m (outs2 m)) c).withArrays_arrAt sharedIn1 (V2 m (outs2 m) c) (fun w => MixBwd.A_eq (V2 m (outs2 m)) c w) w

/-- The outputs of the forward region in the valuation after it. -/
theorem V2_out (c : Dev nD) (r : Ref sig .tc) (h : r ∈ ([main_v17_0, main_v17_1, main_v17_2, main_v17_3, main_v17_4] : List (Ref sig .tc))) :
    V2 m (outs m) c r = left0 m c r := by
  simp only [List.mem_cons, List.not_mem_nil, or_false] at h
  rcases h with rfl | rfl | rfl | rfl | rfl <;> simp [V2, outs, Function.update_of_ne, StableHlo.devRef_ne_of_ne]

/-- The outputs of the backward region in the valuation after it. -/
theorem V3_out (c : Dev nD) (r : Ref sig .tc) (h : r ∈ ([main_v18_0, main_v18_1] : List (Ref sig .tc))) :
    V3 m (outs m) c r = left1 m c r := by
  simp only [List.mem_cons, List.not_mem_nil, or_false] at h
  rcases h with rfl | rfl <;> simp [V3, outs, Function.update_of_ne, StableHlo.devRef_ne_of_ne]

/-- Every other window of the forward region is an input. -/
theorem in0 : ∀ w : Fin 13, Pipeline.arrRef spec0 w ∉ ([main_v17_0, main_v17_1, main_v17_2, main_v17_3, main_v17_4] : List (Ref sig .tc)) → (cfg0.win w).isOut = false := by decide
/-- The forward region's outputs are arrays of its windows. -/
theorem sub0 : ∀ b ∈ ([main_v17_0, main_v17_1, main_v17_2, main_v17_3, main_v17_4] : List (Ref sig .tc)), b ∈ Finset.univ.image (Pipeline.arrRef spec0) := by decide
/-- Every other window of the backward region is an input. -/
theorem in1 : ∀ w : Fin 13, Pipeline.arrRef spec1 w ∉ ([main_v18_0, main_v18_1] : List (Ref sig .tc)) → (cfg1.win w).isOut = false := by decide
/-- The backward region's outputs are arrays of its windows. -/
theorem sub1 : ∀ b ∈ ([main_v18_0, main_v18_1] : List (Ref sig .tc)), b ∈ Finset.univ.image (Pipeline.arrRef spec1) := by decide

/-! ## The regions as segments -/

/-- What rides beside the buffers between two items: the core's obligations (none) and its generator register. -/
def E (c : Dev nD) : sProp 𝕄 :=
  iprop((∃ W, owes (c : Thread nD τ) (0 : CellTallies nD τ sig Unit) W) ∗ ∃ r, prngReg c r)

set_option backward.isDefEq.respectTransparency.types false in
/-- The forward region: entered with every unscoped buffer at `V1`, left with them at `V2`. -/
def reg0 : RegionSeg (pcfgs (F := F)) adm (pdats m) () defs₀ Variants.none L lv 0 where
  win := launch0.win.to₀
  block_pos := block_pos0
  stage_whole := stage_whole0
  K := PEmpty
  osem k := k.elim
  ho := Pipeline.OwnSemFacts.none _
  hbody c := (MixFwd.body_obligation (V1 m) c).loose
  hwaits := Pipeline.hwaits_of_owed_zero _ _ _ _ L lv 0 fun _ _ => rfl
  pre c := iprop(unscopedBufs c (fun b => V1 m c b) ∗ E c)
  post c := iprop(unscopedBufs c (fun b => V2 m (outs m) c b) ∗ E c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) winFacts0 arr_whole0 c
      ((pdats m 0 c).share_full fun _ => rfl) (fun b => V1 m c b) fun w => MixFwd.A_eq (V1 m) c w
    unfold E
    iintro ⟨⟨Hub, HO, HX⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HX] <;> iassumption
  hin c := by
    rw [show (pdats m 0 c).Φ 0 = (MixFwd.dat (V1 m) c).Φ 0 from rfl]
    iintro ⟨HX, -, Hr⟩
    iapply (MixFwd.inv_in (V1 m) c)
    isplitl [Hr] <;> iassumption
  hout c := by
    rw [Pipeline.ownSems0_none, show (pdats m 0 c).Φ (Fin.last _) = (MixFwd.dat (V1 m) c).Φ (Fin.last _) from rfl]
    iintro Hr
    ihave H := (MixFwd.inv_out (V1 m) c) $$ Hr
    icases H with ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ) winFacts0 arr_whole0 c
      (pdats m) ((pdats m 0 c).share_full fun _ => rfl) (fun b => V1 m c b) (fun b => V2 m (outs m) c b) ((pdats m 0 c).arrAt · cfg0.N)
      (fun w => by
        by_cases h : Pipeline.arrRef spec0 w ∈ ([main_v17_0, main_v17_1, main_v17_2, main_v17_3, main_v17_4] : List (Ref sig .tc))
        · exact (left0_arr m c w).symm.trans (V2_out m c _ h).symm
        · exact (((MixFwd.dat (V1 m) c).arrAt_in w (in0 w h) _).trans (MixFwd.A_eq (V1 m) c w)).trans (V2_of m (outs m) c _ h).symm)
      (fun b hb => V2_of m (outs m) c b fun h => hb (sub0 b h))
    unfold E
    iintro ⟨Ha, HO, HX, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact HX

set_option backward.isDefEq.respectTransparency.types false in
/-- The backward region: entered with every unscoped buffer at `V2`, left with them at `V3`. Windows 1 and 2, and 3 and 4,
    read the same arrays, each at its share. -/
def reg1 : RegionSeg (pcfgs (F := F)) adm (pdats m) () defs₀ Variants.none L lv 1 where
  win := launch₀1.win
  block_pos := block_pos1
  stage_whole := stage_whole1
  K := PEmpty
  osem k := k.elim
  ho := Pipeline.OwnSemFacts.none _
  hbody c := (MixBwd.body_obligation (V2 m (outs m)) c).loose
  hwaits := Pipeline.hwaits_of_owed_zero _ _ _ _ L lv 1 fun _ _ => rfl
  pre c := iprop(unscopedBufs c (fun b => V2 m (outs m) c b) ∗ E c)
  post c := iprop(unscopedBufs c (fun b => V3 m (outs m) c b) ∗ E c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs_shared (p := 1) (pcfgs (F := F)) adm (pdats m) winFacts₀1 sharedIn1 arr_whole1 c
      (fun w _ => rfl) (fun b => V2 m (outs m) c b) fun w => MixBwd.A_eq (V2 m (outs m)) c w
    unfold E
    iintro ⟨⟨Hub, HO, HX⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HX] <;> iassumption
  hin c := by
    rw [show (pdats m 1 c).Φ 0 = (MixBwd.dat (V2 m (outs m)) c).Φ 0 from rfl]
    iintro ⟨HX, -, Hr⟩
    iapply (MixBwd.inv_in (V2 m (outs m)) c)
    isplitl [Hr] <;> iassumption
  hout c := by
    rw [Pipeline.ownSems0_none, show (pdats m 1 c).Φ (Fin.last _) = (MixBwd.dat (V2 m (outs m)) c).Φ (Fin.last _) from rfl]
    iintro Hr
    ihave H := (MixBwd.inv_out (V2 m (outs m)) c) $$ Hr
    icases H with ⟨Hs, Hg⟩
    isplitl [Hg]; · iexact Hg
    isplitr; · iempintro
    iexact Hs
  hexit c := by
    have hjoin := Pipeline.unscopedBufs_of_arrays_shared (p := 1) (pcfgs (F := F)) adm (Ix := Unit) (Name := ℕ) (U := UR sig nD τ) (Lvl := ℕ) winFacts₀1 sharedIn1 arr_whole1 c
      (pdats m) (fun w _ => rfl) (fun b => V2 m (outs m) c b) (fun b => V3 m (outs m) c b) ((pdats m 1 c).arrAt · cfg1.N)
      (fun w => by
        by_cases h : Pipeline.arrRef spec1 w ∈ ([main_v18_0, main_v18_1] : List (Ref sig .tc))
        · exact (left1_arr m c w).symm.trans (V3_out m c _ h).symm
        · exact (((MixBwd.dat (V2 m (outs m)) c).arrAt_in w (in1 w h) _).trans (MixBwd.A_eq (V2 m (outs m)) c w)).trans (V3_of m (outs m) c _ h).symm)
      (fun b hb => V3_of m (outs m) c b fun h => hb (sub1 b h))
    unfold E
    iintro ⟨Ha, HO, HX, Hrest⟩
    imodintro
    isplitl [Ha Hrest]
    · iapply hjoin; isplitl [Ha] <;> iassumption
    isplitl [HO]
    · unfold Pipeline.Dat.owesAt Pipeline.owesWithin
      icases HO with ⟨%W, -, HO⟩; iexists W; iexact HO
    iexact HX

/-- The launch's buffers held at a valuation are the unscoped buffers at it. -/
theorem of_held (c : Dev nD) (V : Valuation τ sig (Elt F)) :
    (iprop(StableHlo.held (c : Thread nD τ) (Pipeline.ucRefs τ sig) V ∗ E c) : sProp 𝕄) ⊢ iprop(unscopedBufs c (fun b => V b) ∗ E c) := by
  rw [Pipeline.unscopedBufs_held]

/-- The unscoped buffers at a valuation are the launch's buffers held at it. -/
theorem to_held (c : Dev nD) (V : Valuation τ sig (Elt F)) :
    (iprop(unscopedBufs c (fun b => V b) ∗ E c) : sProp 𝕄) ⊢ iprop(StableHlo.held (c : Thread nD τ) (Pipeline.ucRefs τ sig) V ∗ E c) := by
  rw [Pipeline.unscopedBufs_held]

/-- What rides beside the buffers includes the core's obligations. -/
theorem owes_of (c : Dev nD) : E (F := F) c ⊢ iprop(∃ W, owes (c : Thread nD τ) (0 : CellTallies nD τ sig Unit) W) := by
  unfold E
  iintro ⟨HO, -⟩
  iexact HO

/-- A core's launch state is its buffers held at the launch contents beside what rides along. -/
theorem at_launch (ρ : Dev nD → PrngReg) (c : Dev nD) (V : Valuation τ sig (Elt F)) :
    (iprop((unscopedBufs c (fun b => V b) ∗ unscopedSems0 c ∗ owes (c : Thread nD τ) (0 : CellTallies nD τ sig Unit) ∅
      ∗ Pipeline.launchCred (fun _ => (0 : CellTallies nD τ sig Unit)) c ∗ prngReg c (ρ c) ∗ BI.emp) ∗ levAts L lv) : sProp 𝕄)
    ⊢ |={Set.univ}=> iprop(StableHlo.held (c : Thread nD τ) (Pipeline.ucRefs τ sig) V ∗ E c) := by
  rw [Pipeline.unscopedBufs_held]
  unfold E
  iintro ⟨⟨Hub, -, HO, -, Hg, -⟩, -⟩
  imodintro
  isplitl [Hub]; · iexact Hub
  isplitl [HO]; · iexists _; iexact HO
  iexists _; iexact Hg

/-! ## The run -/

/-- The reference is one of the launch's unscoped TensorCore buffers. -/
abbrev Unscoped (r : Ref sig .tc) : Prop := ¬ (Proc.devRef (τ := τ) .tc r).isScoped

set_option backward.isDefEq.respectTransparency.types false in
/-- The whole program from any launch: it terminates, every unscoped buffer ends at the last valuation, and every
    semaphore counter at zero. -/
theorem run (ρ : Dev nD → PrngReg) :
    θ_run defs (onTc (τ := τ) (main (F := F))) ⟨m, fun _ => 0, ρ⟩ (fun r => (∀ c : Dev nD, ∀ b : Ref sig .tc, Unscoped b →
      r.2.mem ((c.tc : Thread nD τ).loc b) = V4 m (outs m) c b) ∧ r.2.sem = fun _ => 0) := by
  refine Pipeline.θ_run_regions_kit_dev_sems (pcfgs (F := F)) adm (pdats m) () cellOf_inj emb₁ defs₀ Variants.none L lv m ρ main
    (segs m (outs m) Variants.none L lv (fun _ => E) () (pdats m) (reg0 m) (reg1 m))
    (fun c Q => by
      rewrite [main_chain c, Seg.run_eq_chain,
        show (segs m (outs m) Variants.none L lv (fun _ => E) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (V4 m (outs m) c))
    (hch := fun c => ⟨.rfl, of_held c (V1 m c), .rfl, to_held c (V3 m (outs m) c), sep_mono .rfl (owes_of c)⟩)
    (hinit := Pipeline.initEach L lv fun c => at_launch ρ c (V0 m c)) (QY := fun c s => ∀ b : Ref sig .tc, Unscoped b → s.mem ((c.tc : Thread nD τ).loc b) = V4 m (outs m) c b)
    (hfin := fun c s' => ?_) (hQ := fun _ h hz => ⟨h, funext fun g => hz g (.inr (regions_no_unscoped g.2))⟩)
  · -- the launch element is the pipelines' own
    rw [ownU_emb₁]
    iintro H
    imodintro
    isplitl [H]; · iexact H
    rw [BI.bigSep_emp_const]; iempintro
  · -- the end: every buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, hb⟩)
    · iexact HSI

/-- The frame: each argument ends as launched, and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run _ _ _).mono (fun r h => ⟨fun c => ⟨(h.1 c main_arg0 (by decide)).trans (V4_main_arg0 m (outs m) c), (h.1 c main_arg1 (by decide)).trans (V4_main_arg1 m (outs m) c), (h.1 c main_arg2 (by decide)).trans (V4_main_arg2 m (outs m) c), (h.1 c main_arg3 (by decide)).trans (V4_main_arg3 m (outs m) c), (h.1 c main_arg4 (by decide)).trans (V4_main_arg4 m (outs m) c), (h.1 c main_arg5 (by decide)).trans (V4_main_arg5 m (outs m) c), (h.1 c main_arg6 (by decide)).trans (V4_main_arg6 m (outs m) c), (h.1 c main_arg7 (by decide)).trans (V4_main_arg7 m (outs m) c), (h.1 c main_arg8 (by decide)).trans (V4_main_arg8 m (outs m) c), (h.1 c main_arg9 (by decide)).trans (V4_main_arg9 m (outs m) c), (h.1 c main_arg10 (by decide)).trans (V4_main_arg10 m (outs m) c), (h.1 c main_arg11 (by decide)).trans (V4_main_arg11 m (outs m) c), (h.1 c main_arg12 (by decide)).trans (V4_main_arg12 m (outs m) c), (h.1 c main_arg13 (by decide)).trans (V4_main_arg13 m (outs m) c), (h.1 c main_arg14 (by decide)).trans (V4_main_arg14 m (outs m) c), (h.1 c main_arg15 (by decide)).trans (V4_main_arg15 m (outs m) c), (h.1 c main_arg16 (by decide)).trans (V4_main_arg16 m (outs m) c)⟩, h.2⟩) (run m ρ)

end Cert.MixerRun

end
-- ==== Proof.PoolKernel.lean ====
/- The mixer's kernel program, its pool half: what its results hold, from arguments with real entries. -/
module

public import proofs.«01_k».proof.Proof.PoolRegion
public import proofs.«01_k».proof.Proof.MixerRun

@[expose] public section

set_option maxRecDepth 16384

noncomputable section

namespace Cert.Pool

open Cert.MixerIdeal Cert.MixerIdeal.Gen Cert.MixerRun
open Idealize.ShloMosaic Idealize.ShloMosaic.TcCoe

variable (m : (ℓ : Loc nD τ sig) → Buf (Elt Ideal) ℓ) (c : Dev nD)

/-- The arguments hold real entries. -/
structure ArgOk (A : Arrays) : Prop where
  d2 : ∀ (t : Fin 8192) (k : Fin 1024), (m ((c : Thread nD τ).loc main_arg0) : FVec Ideal S8192x1024 .f32) (ix2 t k) = ((A.d2 t.val k : ℝ) : EReal)
  u : ∀ (t : Fin 8192) (j : Fin 512), (m ((c : Thread nD τ).loc main_arg2) : FVec Ideal S8192x1536 .f32) (ix2 t (⟨1024 + j.val, by omega⟩ : Fin 1536)) = ((A.u t.val j : ℝ) : EReal)
  wp : ∀ (g : Fin 4) (a b : Fin 128), (m ((c : Thread nD τ).loc main_arg11) : FVec Ideal S1x4x128x128 .f32) (ix4 0 g a b) = ((A.wp g a b : ℝ) : EReal)
  pb : ∀ j : Fin 512, (m ((c : Thread nD τ).loc main_arg12) : FVec Ideal S1x512 .f32) (ix2 0 j) = ((A.pb j : ℝ) : EReal)
  ps : ∀ j : Fin 512, (m ((c : Thread nD τ).loc main_arg13) : FVec Ideal S1x512 .f32) (ix2 0 j) = ((A.ps j : ℝ) : EReal)
  gp : ∀ j : Fin 512, (m ((c : Thread nD τ).loc main_arg15) : FVec Ideal S1x512 .f32) (ix2 0 j) = ((A.gp j : ℝ) : EReal)
  wo : ∀ (j : Fin 512) (k : Fin 1024), (m ((c : Thread nD τ).loc main_arg16) : FVec Ideal S1x1024x1024 .f32) (ix3 0 (⟨512 + j.val, by omega⟩ : Fin 1024) k) = ((A.wo j k : ℝ) : EReal)

set_option maxHeartbeats 4000000 in
/-- The packed vectors the host hands to the regions. -/
theorem v2_in : V1 m c main_v2 = concatenate S16x512 0 [⟨S4x512, (V1 m c main_v0 : (⟨S4x512, .f32⟩ : BufTy).Contents (Elt Ideal))⟩, ⟨S1x512, (m ((c : Thread nD τ).loc main_arg5) : (⟨S1x512, .f32⟩ : BufTy).Contents (Elt Ideal))⟩,
    ⟨S1x512, (m ((c : Thread nD τ).loc main_arg7) : (⟨S1x512, .f32⟩ : BufTy).Contents (Elt Ideal))⟩, ⟨S1x512, (m ((c : Thread nD τ).loc main_arg9) : (⟨S1x512, .f32⟩ : BufTy).Contents (Elt Ideal))⟩,
    ⟨S1x512, (m ((c : Thread nD τ).loc main_arg10) : (⟨S1x512, .f32⟩ : BufTy).Contents (Elt Ideal))⟩, ⟨S1x512, (m ((c : Thread nD τ).loc main_arg12) : (⟨S1x512, .f32⟩ : BufTy).Contents (Elt Ideal))⟩,
    ⟨S1x512, (m ((c : Thread nD τ).loc main_arg13) : (⟨S1x512, .f32⟩ : BufTy).Contents (Elt Ideal))⟩, ⟨S1x512, (m ((c : Thread nD τ).loc main_arg14) : (⟨S1x512, .f32⟩ : BufTy).Contents (Elt Ideal))⟩,
    ⟨S1x512, (m ((c : Thread nD τ).loc main_arg15) : (⟨S1x512, .f32⟩ : BufTy).Contents (Elt Ideal))⟩, ⟨S4x512, (V1 m c main_v1 : (⟨S4x512, .f32⟩ : BufTy).Contents (Elt Ideal))⟩]
    concatenates_S4x512_S1x512_S1x512_S1x512_S1x512_S1x512_S1x512_S1x512_S1x512_S4x512_S16x512_d0 := rfl

set_option maxHeartbeats 4000000 in
/-- The output weight's rows in the order the host hands them to the regions. -/
theorem v13_in : V1 m c main_v13 = (truncf .bf16 (concatenate S1024x1024 0 [⟨S128x1024, extractStridedSlice S128x1024 ![0, 0] (V1 m c main_v3 : (⟨S1024x1024, .f32⟩ : BufTy).Contents (Elt Ideal)) slices_S1024x1024_S128x1024_0_0⟩, ⟨S128x1024, extractStridedSlice S128x1024 ![256, 0] (V1 m c main_v3 : (⟨S1024x1024, .f32⟩ : BufTy).Contents (Elt Ideal)) slices_S1024x1024_S128x1024_256_0⟩, ⟨S128x1024, extractStridedSlice S128x1024 ![512, 0] (V1 m c main_v3 : (⟨S1024x1024, .f32⟩ : BufTy).Contents (Elt Ideal)) slices_S1024x1024_S128x1024_512_0⟩, ⟨S128x1024, extractStridedSlice S128x1024 ![768, 0] (V1 m c main_v3 : (⟨S1024x1024, .f32⟩ : BufTy).Contents (Elt Ideal)) slices_S1024x1024_S128x1024_768_0⟩, ⟨S128x1024, extractStridedSlice S128x1024 ![128, 0] (V1 m c main_v3 : (⟨S1024x1024, .f32⟩ : BufTy).Contents (Elt Ideal)) slices_S1024x1024_S128x1024_128_0⟩, ⟨S128x1024, extractStridedSlice S128x1024 ![384, 0] (V1 m c main_v3 : (⟨S1024x1024, .f32⟩ : BufTy).Contents (Elt Ideal)) slices_S1024x1024_S128x1024_384_0⟩, ⟨S128x1024, extractStridedSlice S128x1024 ![640, 0] (V1 m c main_v3 : (⟨S1024x1024, .f32⟩ : BufTy).Contents (Elt Ideal)) slices_S1024x1024_S128x1024_640_0⟩, ⟨S128x1024, extractStridedSlice S128x1024 ![896, 0] (V1 m c main_v3 : (⟨S1024x1024, .f32⟩ : BufTy).Contents (Elt Ideal)) slices_S1024x1024_S128x1024_896_0⟩]
    concatenates_S128x1024_S128x1024_S128x1024_S128x1024_S128x1024_S128x1024_S128x1024_S128x1024_S1024x1024_d0) bitsLt_bf16_f32 : FVec Ideal S1024x1024 .bf16) := rfl

/-- The output weight without its batch axis. -/
theorem v3_in (j k : Fin 1024) : (V1 m c main_v3 : FVec Ideal S1024x1024 .f32) (ix2 j k) = (m ((c : Thread nD τ).loc main_arg16) : FVec Ideal S1x1024x1024 .f32) (ix3 0 j k) := by
  show StableHlo.after hostOps0 (V0 m c) main_v3 (ix2 j k) = _
  entry_read
  pointwise

theorem row8_in (j : Fin 512) : (V1 m c main_v2 : FVec Ideal S16x512 .f32) (ix2 8 j) = (m ((c : Thread nD τ).loc main_arg12) : FVec Ideal S1x512 .f32) (ix2 0 j) := by
  rw [v2_in]
  pointwise

theorem row9_in (j : Fin 512) : (V1 m c main_v2 : FVec Ideal S16x512 .f32) (ix2 9 j) = (m ((c : Thread nD τ).loc main_arg13) : FVec Ideal S1x512 .f32) (ix2 0 j) := by
  rw [v2_in]
  pointwise

theorem row11_in (j : Fin 512) : (V1 m c main_v2 : FVec Ideal S16x512 .f32) (ix2 11 j) = (m ((c : Thread nD τ).loc main_arg15) : FVec Ideal S1x512 .f32) (ix2 0 j) := by
  rw [v2_in]
  pointwise

theorem block_in (g : Fin 4) (a b : Fin 128) : (V1 m c main_v16 : FVec Ideal S4x128x128 .f32) (ix3 g a b) = (m ((c : Thread nD τ).loc main_arg11) : FVec Ideal S1x4x128x128 .f32) (ix4 0 g a b) := by
  show StableHlo.after hostOps0 (V0 m c) main_v16 (ix3 g a b) = _
  entry_read
  pointwise

/-- Block 4 of the output weight's rows stands at position 2. -/
theorem wo_512 (i : Fin 128) (k : Fin 1024) : (V1 m c main_v13 : FVec Ideal S1024x1024 .bf16) (ix2 (⟨256 + i.val, by omega⟩ : Fin 1024) k)
    = (V1 m c main_v3 : FVec Ideal S1024x1024 .f32) (ix2 (⟨512 + i.val, by omega⟩ : Fin 1024) k) := by
  rw [v13_in]
  pointwise
  rw [dif_neg (by omega), dif_neg (by omega), dif_pos (by omega)]
  exact congrArg (fun r : Fin 1024 => V1 m c main_v3 (ix2 r k)) (Fin.ext (by dsimp only; omega))

/-- Block 5 of the output weight's rows stands at position 6. -/
theorem wo_640 (i : Fin 128) (k : Fin 1024) : (V1 m c main_v13 : FVec Ideal S1024x1024 .bf16) (ix2 (⟨768 + i.val, by omega⟩ : Fin 1024) k)
    = (V1 m c main_v3 : FVec Ideal S1024x1024 .f32) (ix2 (⟨640 + i.val, by omega⟩ : Fin 1024) k) := by
  rw [v13_in]
  pointwise
  rw [dif_neg (by omega), dif_neg (by omega), dif_neg (by omega), dif_neg (by omega), dif_neg (by omega), dif_neg (by omega), dif_pos (by omega)]
  exact congrArg (fun r : Fin 1024 => V1 m c main_v3 (ix2 r k)) (Fin.ext (by dsimp only; omega))

/-- Block 6 of the output weight's rows stands at position 3. -/
theorem wo_768 (i : Fin 128) (k : Fin 1024) : (V1 m c main_v13 : FVec Ideal S1024x1024 .bf16) (ix2 (⟨384 + i.val, by omega⟩ : Fin 1024) k)
    = (V1 m c main_v3 : FVec Ideal S1024x1024 .f32) (ix2 (⟨768 + i.val, by omega⟩ : Fin 1024) k) := by
  rw [v13_in]
  pointwise
  rw [dif_neg (by omega), dif_neg (by omega), dif_neg (by omega), dif_pos (by omega)]
  exact congrArg (fun r : Fin 1024 => V1 m c main_v3 (ix2 r k)) (Fin.ext (by dsimp only; omega))

/-- Block 7 of the output weight's rows stands at position 7. -/
theorem wo_896 (i : Fin 128) (k : Fin 1024) : (V1 m c main_v13 : FVec Ideal S1024x1024 .bf16) (ix2 (⟨896 + i.val, by omega⟩ : Fin 1024) k)
    = (V1 m c main_v3 : FVec Ideal S1024x1024 .f32) (ix2 (⟨896 + i.val, by omega⟩ : Fin 1024) k) := by
  rw [v13_in]
  pointwise
  rw [dif_neg (by omega), dif_neg (by omega), dif_neg (by omega), dif_neg (by omega), dif_neg (by omega), dif_neg (by omega), dif_neg (by omega)]
  exact congrArg (fun r : Fin 1024 => V1 m c main_v3 (ix2 r k)) (Fin.ext (by dsimp only; omega))

/-- The pool half's rows of the output weight, at the rows the region reads. -/
theorem wo_host (j : Fin 512) (k : Fin 1024) : (V1 m c main_v13 : FVec Ideal S1024x1024 .bf16) (ix2 (wrow j) k)
    = (m ((c : Thread nD τ).loc main_arg16) : FVec Ideal S1x1024x1024 .f32) (ix3 0 (⟨512 + j.val, by omega⟩ : Fin 1024) k) := by
  refine Eq.trans ?_ (v3_in m c (⟨512 + j.val, by omega⟩ : Fin 1024) k)
  rcases (by omega : j.val < 128 ∨ (128 ≤ j.val ∧ j.val < 256) ∨ (256 ≤ j.val ∧ j.val < 384) ∨ 384 ≤ j.val) with h | h | h | h
  · rw [show wrow j = (⟨256 + (⟨j.val - 0, by omega⟩ : Fin 128).val, by dsimp only; omega⟩ : Fin 1024) from
        Fin.ext (by unfold wrow; dsimp only; split_ifs <;> omega), wo_512]
    exact congrArg (fun r : Fin 1024 => V1 m c main_v3 (ix2 r k)) (Fin.ext (by dsimp only; omega))
  · rw [show wrow j = (⟨768 + (⟨j.val - 128, by omega⟩ : Fin 128).val, by dsimp only; omega⟩ : Fin 1024) from
        Fin.ext (by unfold wrow; dsimp only; split_ifs <;> omega), wo_640]
    exact congrArg (fun r : Fin 1024 => V1 m c main_v3 (ix2 r k)) (Fin.ext (by dsimp only; omega))
  · rw [show wrow j = (⟨384 + (⟨j.val - 256, by omega⟩ : Fin 128).val, by dsimp only; omega⟩ : Fin 1024) from
        Fin.ext (by unfold wrow; dsimp only; split_ifs <;> omega), wo_768]
    exact congrArg (fun r : Fin 1024 => V1 m c main_v3 (ix2 r k)) (Fin.ext (by dsimp only; omega))
  · rw [show wrow j = (⟨896 + (⟨j.val - 384, by omega⟩ : Fin 128).val, by dsimp only; omega⟩ : Fin 1024) from
        Fin.ext (by unfold wrow; dsimp only; split_ifs <;> omega), wo_896]
    exact congrArg (fun r : Fin 1024 => V1 m c main_v3 (ix2 r k)) (Fin.ext (by dsimp only; omega))

end Cert.Pool

end
-- ==== Proof.PoolResults.lean ====
/- What the mixer's kernel program leaves in its pool half's results, from arguments with real entries. -/
module

public import proofs.«01_k».proof.Proof.PoolKernel

@[expose] public section

set_option maxRecDepth 16384

noncomputable section

namespace Cert.Pool

open Cert.MixerIdeal Cert.MixerIdeal.Gen Cert.MixerRun
open Idealize.ShloMosaic Idealize.ShloMosaic.TcCoe

section Tail

variable (σ : Valuation τ sig (Elt Ideal))

/-- The columns of `du` the program returns. -/
theorem tail_du (t : Fin 8192) (j : Fin 512) : (StableHlo.after hostOps2 σ main_v32 : FVec Ideal S8192x512 .bf16) (ix2 t j)
    = (σ main_v18_0 : FVec Ideal S8192x1536 .bf16) (ix2 t (⟨1024 + j.val, by omega⟩ : Fin 1536)) := by
  show StableHlo.after hostOps2 σ main_v32 (ix2 t j) = _
  entry_read
  pointwise

set_option maxHeartbeats 4000000 in
/-- The packed rows, the two halves of the columns side by side. -/
theorem tail_rows : StableHlo.after hostOps2 σ main_v21 = concatenate S16x512 1 [⟨S16x256, extractStridedSlice S16x256 ![0, 0] (σ main_v18_1 : (⟨S544x256, .f32⟩ : BufTy).Contents (Elt Ideal)) slices_S544x256_S16x256_0_0⟩,
    ⟨S16x256, extractStridedSlice S16x256 ![16, 0] (σ main_v18_1 : (⟨S544x256, .f32⟩ : BufTy).Contents (Elt Ideal)) slices_S544x256_S16x256_16_0⟩] concatenates_S16x256_S16x256_S16x512_d1 := rfl

/-- A packed row, in the region's array. -/
theorem tail_row (p : Fin 16) (j : Fin 512) : (StableHlo.after hostOps2 σ main_v21 : FVec Ideal S16x512 .f32) (ix2 p j)
    = (σ main_v18_1 : FVec Ideal S544x256 .f32) (ix2 (⟨16 * (j.val / 256) + p.val, by omega⟩ : Fin 544) (⟨j.val % 256, Nat.mod_lt _ (by decide)⟩ : Fin 256)) := by
  rw [tail_rows]
  pointwise
  split_ifs with h
  all_goals first
    | exact absurd rfl (by assumption)
    | exact congrArg₂ (fun (r : Fin 544) (q : Fin 256) => (σ main_v18_1 : FVec Ideal S544x256 .f32) (ix2 r q)) (Fin.ext (by dsimp only; omega)) (Fin.ext (by dsimp only; omega))

/-- The three rows the program returns. -/
theorem tail_v33 (j : Fin 512) : (StableHlo.after hostOps2 σ main_v33 : FVec Ideal S1x512 .f32) (ix2 0 j) = (StableHlo.after hostOps2 σ main_v21 : FVec Ideal S16x512 .f32) (ix2 8 j) := by
  show extractStridedSlice S1x512 ![8, 0] (StableHlo.after hostOps2 σ main_v21 : FVec Ideal S16x512 .f32) slices_S16x512_S1x512_8_0 (ix2 0 j) = _
  pointwise
theorem tail_v34 (j : Fin 512) : (StableHlo.after hostOps2 σ main_v34 : FVec Ideal S1x512 .f32) (ix2 0 j) = (StableHlo.after hostOps2 σ main_v21 : FVec Ideal S16x512 .f32) (ix2 9 j) := by
  show extractStridedSlice S1x512 ![9, 0] (StableHlo.after hostOps2 σ main_v21 : FVec Ideal S16x512 .f32) slices_S16x512_S1x512_9_0 (ix2 0 j) = _
  pointwise
theorem tail_v35 (j : Fin 512) : (StableHlo.after hostOps2 σ main_v35 : FVec Ideal S1x512 .f32) (ix2 0 j) = (StableHlo.after hostOps2 σ main_v21 : FVec Ideal S16x512 .f32) (ix2 11 j) := by
  show extractStridedSlice S1x512 ![11, 0] (StableHlo.after hostOps2 σ main_v21 : FVec Ideal S16x512 .f32) slices_S16x512_S1x512_11_0 (ix2 0 j) = _
  pointwise

set_option maxHeartbeats 4000000 in
/-- The four diagonal blocks of the weight's gradient. -/
theorem tail_blocks : StableHlo.after hostOps2 σ main_v31 = (broadcastInDim S1x4x128x128 ![1, 2, 3] bcast_S4x128x128_S1x4x128x128_1_2_3 (concatenate S4x128x128 0
    [⟨S1x128x128, broadcastInDim S1x128x128 ![1, 2] bcast_S128x128_S1x128x128_1_2 (extractStridedSlice S128x128 ![288, 0] (σ main_v18_1 : (⟨S544x256, .f32⟩ : BufTy).Contents (Elt Ideal)) slices_S544x256_S128x128_288_0)⟩,
     ⟨S1x128x128, broadcastInDim S1x128x128 ![1, 2] bcast_S128x128_S1x128x128_1_2 (extractStridedSlice S128x128 ![288, 128] (σ main_v18_1 : (⟨S544x256, .f32⟩ : BufTy).Contents (Elt Ideal)) slices_S544x256_S128x128_288_128)⟩,
     ⟨S1x128x128, broadcastInDim S1x128x128 ![1, 2] bcast_S128x128_S1x128x128_1_2 (extractStridedSlice S128x128 ![416, 0] (σ main_v18_1 : (⟨S544x256, .f32⟩ : BufTy).Contents (Elt Ideal)) slices_S544x256_S128x128_416_0)⟩,
     ⟨S1x128x128, broadcastInDim S1x128x128 ![1, 2] bcast_S128x128_S1x128x128_1_2 (extractStridedSlice S128x128 ![416, 128] (σ main_v18_1 : (⟨S544x256, .f32⟩ : BufTy).Contents (Elt Ideal)) slices_S544x256_S128x128_416_128)⟩]
    concatenates_S1x128x128_S1x128x128_S1x128x128_S1x128x128_S4x128x128_d0) : (⟨S1x4x128x128, .f32⟩ : BufTy).Contents (Elt Ideal)) := rfl

/-- An entry of a diagonal block. -/
theorem tail_block (g : Fin 4) (a b : Fin 128) : (StableHlo.after hostOps2 σ main_v31 : FVec Ideal S1x4x128x128 .f32) (ix4 0 g a b)
    = (σ main_v18_1 : FVec Ideal S544x256 .f32) (ix2 (⟨288 + 128 * (g.val / 2) + a.val, by omega⟩ : Fin 544) (⟨128 * (g.val % 2) + b.val, by omega⟩ : Fin 256)) := by
  rw [tail_blocks]
  pointwise
  fin_cases g <;> simp

end Tail

variable (m : (ℓ : Loc nD τ sig) → Buf (Elt Ideal) ℓ) (c : Dev nD)

/-- What the backward region finds, from the arguments. -/
theorem arr_ok {A : Arrays} (h : ArgOk m c A) : ArrOk A (V2 m (outs2 m)) c where
  d2 t k := by rw [V2_of m (outs2 m) c main_arg0 (by decide), V1_of m c main_arg0 (by decide)]; exact h.d2 t k
  u t j := by rw [V2_of m (outs2 m) c main_arg2 (by decide), V1_of m c main_arg2 (by decide)]; exact h.u t j
  pv := by
    rw [V2_of m (outs2 m) c main_v2 (by decide)]
    exact ⟨fun j => (row8_in m c j).trans (h.pb j), fun j => (row9_in m c j).trans (h.ps j), fun j => (row11_in m c j).trans (h.gp j)⟩
  wp g a b := by rw [V2_of m (outs2 m) c main_v16 (by decide)]; exact (block_in m c g a b).trans (h.wp g a b)
  wo j k := by rw [V2_of m (outs2 m) c main_v13 (by decide)]; exact (wo_host m c j k).trans (h.wo j k)

/-- What the backward region leaves in its two arrays. -/
theorem out0 : (V3 m (outs m) c main_v18_0 : FVec Ideal S8192x1536 .bf16) = (Cert.MixBwd.dat (V2 m (outs2 m)) c).arrAt 11 cfg1.N :=
  (V3_out m c main_v18_0 (by decide)).trans (left1_arr m c 11)
theorem out1 : (V3 m (outs m) c main_v18_1 : FVec Ideal S544x256 .f32) = (Cert.MixBwd.dat (V2 m (outs2 m)) c).arrAt 12 cfg1.N :=
  (V3_out m c main_v18_1 (by decide)).trans (left1_arr m c 12)

variable {m c} {A : Arrays}

/-- The cotangent of the pool's input. -/
theorem du_res (h : ArgOk m c A) (t : Fin 8192) (j : Fin 512) : (V4 m (outs m) c main_v32 : FVec Ideal S8192x512 .bf16) (ix2 t j) = ((du A t.val j : ℝ) : EReal) := by
  refine (tail_du (V3 m (outs m) c) t j).trans ?_
  rw [out0]
  exact du_end (arr_ok m c h) t j

/-- The gradient of the pool's weight. -/
theorem wp_res (h : ArgOk m c A) (g : Fin 4) (a b : Fin 128) : (V4 m (outs m) c main_v31 : FVec Ideal S1x4x128x128 .f32) (ix4 0 g a b)
    = ((∑ t : Fin 8192, pooled A t.val (⟨128 * g.val + a.val, by omega⟩ : Fin 512) * dz A t.val (⟨128 * g.val + b.val, by omega⟩ : Fin 512) : ℝ) : EReal) := by
  refine (tail_block (V3 m (outs m) c) g a b).trans ?_
  rw [out1]
  refine (wp_end (arr_ok m c h) (⟨g.val / 2, by omega⟩ : Fin 2) (⟨g.val % 2, by omega⟩ : Fin 2) a b).trans ?_
  refine congrArg (fun x : ℝ => (x : EReal)) (Finset.sum_congr rfl fun t _ => ?_)
  exact congrArg₂ (fun p q : Fin 512 => pooled A t.val p * dz A t.val q) (Fin.ext (by dsimp only; omega)) (Fin.ext (by dsimp only; omega))

/-- The gradient of the pool's bias. -/
theorem pb_res (h : ArgOk m c A) (j : Fin 512) : (V4 m (outs m) c main_v33 : FVec Ideal S1x512 .f32) (ix2 0 j) = ((∑ t : Fin 8192, dz A t.val j : ℝ) : EReal) := by
  refine ((tail_v33 (V3 m (outs m) c) j).trans (tail_row (V3 m (outs m) c) 8 j)).trans ?_
  rw [out1]
  exact pb_end (arr_ok m c h) j

/-- The gradient of the pool's scale. -/
theorem ps_res (h : ArgOk m c A) (j : Fin 512) : (V4 m (outs m) c main_v34 : FVec Ideal S1x512 .f32) (ix2 0 j) = ((∑ t : Fin 8192, dy A t.val j * zp A t.val j : ℝ) : EReal) := by
  refine ((tail_v34 (V3 m (outs m) c) j).trans (tail_row (V3 m (outs m) c) 9 j)).trans ?_
  rw [out1]
  exact ps_end (arr_ok m c h) j

/-- The gradient of the pool norm's gain. -/
theorem gp_res (h : ArgOk m c A) (j : Fin 512) : (V4 m (outs m) c main_v35 : FVec Ideal S1x512 .f32) (ix2 0 j) = ((∑ t : Fin 8192, dyn A t.val j * xh A t.val j : ℝ) : EReal) := by
  refine ((tail_v35 (V3 m (outs m) c) j).trans (tail_row (V3 m (outs m) c) 11 j)).trans ?_
  rw [out1]
  exact gp_end (arr_ok m c h) j

end Cert.Pool

end
-- ==== Proof.PoolSum.lean ====
/- Running sums over the rows of a matrix of real entries, from the first row on and up to the last, and the window sums
   that are their differences. -/
module

public import proofs.«01_k».proof.Proof.RowNorm
public import Idealize.ShloMosaic.Lib.Pointwise

@[expose] public section

set_option maxRecDepth 16384

noncomputable section

namespace Cert.Pool

open Cert.RowNorm Finset
open Idealize.ShloMosaic

/-- A fold of a sum over all window positions is the sum over them. -/
theorem fold_sum (K : ℕ) (f : Fin K → EReal) : (List.finRange K).foldl (fun r n => r + f n) 0 = ∑ n : Fin K, f n := by
  rw [Fin.sum_univ_def, List.sum_eq_foldl, List.foldl_map]

/-- A position of a window of `n` rows and one column. -/
theorem sum_window (n : ℕ) (f : (⟨2, ![n, 1]⟩ : Shape).Idx → EReal) : ∑ k : Fin (⟨2, ![n, 1]⟩ : Shape).numel, f ((⟨2, ![n, 1]⟩ : Shape).rowMajor.symm k) = ∑ i : Fin n, f (ix2 i (0 : Fin 1)) := by
  rw [Equiv.sum_comp (⟨2, ![n, 1]⟩ : Shape).rowMajor.symm f, sum_idx2]
  exact Finset.sum_congr rfl fun i _ => Fin.sum_univ_one _

variable {M C : ℕ}

/-- What a window position adds: the entry there, or nothing in the padding of `lo` rows. -/
def term (lo : ℕ) (x : (⟨2, ![M + 1, C]⟩ : Shape).Idx → EReal) (j p : Fin 2 → ℕ)
    [Decidable (∀ a : Fin 2, ![lo, 0] a ≤ j a * ![1, 1] a + p a ∧ j a * ![1, 1] a + p a - ![lo, 0] a < ![M + 1, C] a)] : EReal :=
  if hin : ∀ a : Fin 2, ![lo, 0] a ≤ j a * ![1, 1] a + p a ∧ j a * ![1, 1] a + p a - ![lo, 0] a < ![M + 1, C] a then
    x (fun a => ⟨j a * ![1, 1] a + p a - ![lo, 0] a, (hin a).2⟩) else 0

/-- That entry, as a number. -/
theorem term_eq {lo : ℕ} {x : (⟨2, ![M + 1, C]⟩ : Shape).Idx → EReal} {X : ℕ → ℝ} {l : Fin C} (hx : ∀ n : Fin (M + 1), x (ix2 n l) = ((X n.val : ℝ) : EReal)) (t n : Fin (M + 1))
    [Decidable (∀ a : Fin 2, ![lo, 0] a ≤ (ix2 t l a).val * ![1, 1] a + (ix2 n (0 : Fin 1) a).val ∧ (ix2 t l a).val * ![1, 1] a + (ix2 n (0 : Fin 1) a).val - ![lo, 0] a < ![M + 1, C] a)] :
    term lo x (fun a => (ix2 t l a).val) (fun a => (ix2 n (0 : Fin 1) a).val) = ((if lo ≤ t.val + n.val ∧ t.val + n.val - lo < M + 1 then X (t.val + n.val - lo) else 0 : ℝ) : EReal) := by
  unfold term
  split_ifs with h h' h'
  · refine Eq.trans (congrArg x ?_) (hx ⟨t.val + n.val - lo, h'.2⟩)
    funext a
    fin_cases a
    · exact Fin.ext (by simp [ix2])
    · exact Fin.ext (by simp [ix2])
  · exact absurd (by simpa [ix2] using h 0) h'
  · refine absurd (fun a => ?_) h
    fin_cases a
    · simpa [ix2] using h'
    · simp [ix2]
  · rfl

/-- The running sum from the first row on: row `t` holds the sum of the rows up to `t`. -/
theorem cumsum_at (x : FVec Ideal ⟨2, ![M + 1, C]⟩ .f32) (v : FVec Ideal ⟨0, ![]⟩ .f32) (hv : v = fun _ => (0 : EReal)) (X : ℕ → ℝ) (l : Fin C)
    (hx : ∀ n : Fin (M + 1), x (ix2 n l) = ((X n.val : ℝ) : EReal))
    (h : (⟨2, ![M + 1, C]⟩ : Shape).ReduceWindows ![M + 1, 1] ![1, 1] ![M, 0] ![0, 0] ⟨2, ![M + 1, C]⟩) (hu : 0 < (⟨0, ![]⟩ : Shape).numel) (t : Fin (M + 1)) :
    Host.reduceWindowAdd (F := Ideal) ![M + 1, 1] ![1, 1] ![M, 0] ![0, 0] x v h hu (ix2 t l) = ((∑ i ∈ range (t.val + 1), X i : ℝ) : EReal) := by
  subst hv
  show Ideal.hostReduceWindowAdd _ _ _ _ h x (0 : EReal) (ix2 t l) = _
  unfold Ideal.hostReduceWindowAdd Host.reduceWindow
  dsimp only
  refine (fold_sum _ _).trans ?_
  refine (Finset.sum_congr rfl fun k _ => ?_).trans ((sum_window (M + 1) (fun p => term M x (fun a => (ix2 t l a).val) (fun a => (p a).val))).trans ?_)
  · unfold term
    congr
  refine (Finset.sum_congr rfl fun n _ => term_eq hx t n).trans ?_
  rw [coe_sum]
  refine congrArg (fun r : ℝ => (r : EReal)) ?_
  rw [Fin.sum_univ_eq_sum_range (fun n => if M ≤ t.val + n ∧ t.val + n - M < M + 1 then X (t.val + n - M) else 0) (M + 1)]
  have ht := t.isLt
  rw [show range (M + 1) = range ((M - t.val) + (t.val + 1)) from congrArg range (by omega), sum_range_add, sum_eq_zero, zero_add]
  · refine sum_congr rfl fun i hi => ?_
    have := mem_range.mp hi
    rw [if_pos (by omega)]
    exact congrArg X (by omega)
  · intro i hi
    have := mem_range.mp hi
    rw [if_neg (by omega)]

/-- The running sum up to the last row: row `t` holds the sum of the rows from `t` on. -/
theorem revsum_at (x : FVec Ideal ⟨2, ![M + 1, C]⟩ .f32) (v : FVec Ideal ⟨0, ![]⟩ .f32) (hv : v = fun _ => (0 : EReal)) (X : ℕ → ℝ) (l : Fin C)
    (hx : ∀ n : Fin (M + 1), x (ix2 n l) = ((X n.val : ℝ) : EReal))
    (h : (⟨2, ![M + 1, C]⟩ : Shape).ReduceWindows ![M + 1, 1] ![1, 1] ![0, 0] ![M, 0] ⟨2, ![M + 1, C]⟩) (hu : 0 < (⟨0, ![]⟩ : Shape).numel) (t : Fin (M + 1)) :
    Host.reduceWindowAdd (F := Ideal) ![M + 1, 1] ![1, 1] ![0, 0] ![M, 0] x v h hu (ix2 t l) = ((∑ i ∈ range (M + 1 - t.val), X (t.val + i) : ℝ) : EReal) := by
  subst hv
  show Ideal.hostReduceWindowAdd _ _ _ _ h x (0 : EReal) (ix2 t l) = _
  unfold Ideal.hostReduceWindowAdd Host.reduceWindow
  dsimp only
  refine (fold_sum _ _).trans ?_
  refine (Finset.sum_congr rfl fun k _ => ?_).trans ((sum_window (M + 1) (fun p => term 0 x (fun a => (ix2 t l a).val) (fun a => (p a).val))).trans ?_)
  · unfold term
    congr
  refine (Finset.sum_congr rfl fun n _ => term_eq hx t n).trans ?_
  rw [coe_sum]
  refine congrArg (fun r : ℝ => (r : EReal)) ?_
  rw [Fin.sum_univ_eq_sum_range (fun n => if 0 ≤ t.val + n ∧ t.val + n - 0 < M + 1 then X (t.val + n - 0) else 0) (M + 1)]
  have ht := t.isLt
  rw [show range (M + 1) = range ((M + 1 - t.val) + t.val) from congrArg range (by omega), sum_range_add]
  refine (congrArg₂ (· + ·) (sum_congr rfl fun i hi => ?_) (sum_eq_zero fun i hi => ?_)).trans (add_zero _)
  · have := mem_range.mp hi
    rw [if_pos (by omega)]
    rfl
  · have := mem_range.mp hi
    rw [if_neg (by omega)]

/-- Two running sums differ by the sum over a window, counted back from its last row. -/
theorem win_diff (X : ℕ → ℝ) (t w : ℕ) : ∑ i ∈ range (t + w + 1), X i - ∑ i ∈ range (t + 1), X i = ∑ d ∈ range w, X (t + w - d) := by
  rw [show t + w + 1 = (t + 1) + w by omega, sum_range_add, add_sub_cancel_left, ← sum_range_reflect]
  exact sum_congr rfl fun d hd => congrArg X (by have := mem_range.mp hd; omega)

/-- A running sum of differences at a distance leaves the sum over a window, where nothing stands past row `N`. -/
theorem win_fwd (F : ℕ → ℝ) (N t w : ℕ) (ht : t ≤ N) (hF : ∀ s, N ≤ s → F s = 0) :
    ∑ i ∈ range (N - t), (F (t + i) - F (t + w + i)) = ∑ d ∈ range w, F (t + d) := by
  have h1 : ∑ i ∈ range (N - t + w), F (t + i) = ∑ i ∈ range (N - t), F (t + i) := by
    rw [sum_range_add]
    rw [sum_eq_zero (s := range w) fun i _ => hF _ (by omega), add_zero]
  have h2 : ∑ i ∈ range (w + (N - t)), F (t + i) = ∑ d ∈ range w, F (t + d) + ∑ i ∈ range (N - t), F (t + w + i) := by
    rw [sum_range_add]
    exact congrArg _ (sum_congr rfl fun i _ => congrArg F (by omega))
  rw [sum_sub_distrib, ← h1, add_comm (N - t) w, h2, add_sub_cancel_right]

end Cert.Pool

end
-- ==== Proof.PoolRefA.lean ====
/- The reference's pooled rows: the differences of its running sums are the window sums. -/
module

public import proofs.«01_k».proof.Proof.PoolSpec
public import proofs.«01_k».proof.Proof.PoolSum
public import proofs.«01_k».proof.Proof.Gen.MixerRefIdeal.Run

@[expose] public section

set_option maxRecDepth 16384

noncomputable section

namespace Cert.Pool

open Cert.MixerRefIdeal Cert.MixerRefIdeal.Value Cert.RowNorm Finset
open Idealize.ShloMosaic Idealize.ShloMosaic.TcCoe

/-- The reference's arguments hold real entries. -/
structure RefOk (A : Arrays) (σ : Valuation τ sig (Elt Ideal)) : Prop where
  d2 : ∀ (t : Fin 8192) (k : Fin 1024), (σ (Proc.devRef .tc main_arg0) : FVec Ideal S8192x1024 .f32) (ix2 t k) = ((A.d2 t.val k : ℝ) : EReal)
  u : ∀ (t : Fin 8192) (j : Fin 512), (σ (Proc.devRef .tc main_arg2) : FVec Ideal S8192x1536 .f32) (ix2 t (⟨1024 + j.val, by omega⟩ : Fin 1536)) = ((A.u t.val j : ℝ) : EReal)
  wp : ∀ (g : Fin 4) (a b : Fin 128), (σ (Proc.devRef .tc main_arg11) : FVec Ideal S1x4x128x128 .f32) (ix4 0 g a b) = ((A.wp g a b : ℝ) : EReal)
  pb : ∀ j : Fin 512, (σ (Proc.devRef .tc main_arg12) : FVec Ideal S1x512 .f32) (ix2 0 j) = ((A.pb j : ℝ) : EReal)
  ps : ∀ j : Fin 512, (σ (Proc.devRef .tc main_arg13) : FVec Ideal S1x512 .f32) (ix2 0 j) = ((A.ps j : ℝ) : EReal)
  gp : ∀ j : Fin 512, (σ (Proc.devRef .tc main_arg15) : FVec Ideal S1x512 .f32) (ix2 0 j) = ((A.gp j : ℝ) : EReal)
  wo : ∀ (j : Fin 512) (k : Fin 1024), (σ (Proc.devRef .tc main_arg16) : FVec Ideal S1x1024x1024 .f32) (ix3 0 (⟨512 + j.val, by omega⟩ : Fin 1024) k) = ((A.wo j k : ℝ) : EReal)

variable {A : Arrays} {σ : Valuation τ sig (Elt Ideal)}

/-- The pool's input columns by groups. -/
theorem v4_at (h : RefOk A σ) (t : Fin 8192) (g : Fin 4) (k : Fin 128) : (res_main_v4 σ : FVec Ideal S8192x4x128 .f32) (ix3 t g k) = ((A.u t.val (lane g k) : ℝ) : EReal) := by
  refine Eq.trans ?_ (h.u t (lane g k))
  pointwise [res_main_v4]
  exact congrArg (fun q : Fin 1536 => (σ (Proc.devRef .tc main_arg2) : FVec Ideal S8192x1536 .f32) (ix2 t q)) (Fin.ext (by unfold lane; dsimp only; omega))

/-- A small number as a word is that number. -/
theorem toInt_small {n : ℕ} (hn : n < 2 ^ 31) : (BitVec.ofNat 32 n).toInt = (n : ℤ) := by
  rw [BitVec.toInt_eq_toNat_of_lt (by rw [BitVec.toNat_ofNat]; omega), BitVec.toNat_ofNat]
  congr 1; omega

/-- The number of rows in a window, as the reference counts them. -/
theorem cnt_word (w t : ℕ) (hw : w ≤ 16) (ht : t < 8192) : (FloatOps.sitofp (F := Ideal) .f32 (IntOp.minsi (IntOp.addi (1#32) (BitVec.ofNat 32 t)) (BitVec.ofNat 32 w)) : EReal) = ((cnt w t : ℝ) : EReal) := by
  have e : IntOp.addi (1#32) (BitVec.ofNat 32 t) = BitVec.ofNat 32 (t + 1) := by
    unfold IntOp.addi
    apply BitVec.eq_of_toNat_eq
    simp only [BitVec.toNat_add, BitVec.toNat_ofNat]
    omega
  have e' : (IntOp.minsi (BitVec.ofNat 32 (t + 1)) (BitVec.ofNat 32 w)).toInt = ((min (t + 1) w : ℕ) : ℤ) := by
    have hs : (BitVec.ofNat 32 (t + 1)).slt (BitVec.ofNat 32 w) = decide (t + 1 < w) := by
      unfold BitVec.slt
      rw [toInt_small (by omega), toInt_small (by omega)]
      exact decide_eq_decide.mpr Nat.cast_lt
    unfold IntOp.minsi
    rw [hs]
    by_cases h : t + 1 < w
    · rw [if_pos (by simpa using h), toInt_small (by omega), min_eq_left h.le]
    · rw [if_neg (by simpa using h), toInt_small (by omega), min_eq_right (Nat.le_of_not_lt h)]
  rw [e]
  show (((IntOp.minsi (BitVec.ofNat 32 (t + 1)) (BitVec.ofNat 32 w)).toInt : ℝ) : EReal) = _
  rw [e']
  unfold cnt
  norm_cast

/-- An entry of the zeros a running sum starts from. -/
theorem zero_word : (broadcastInDim S_ ![] Gen.bcast_S_S_ (constant S_ .f32 0x00000000#32) : FVec Ideal S_ .f32) = fun _ => (0 : EReal) := by
  funext j
  pointwise

/-- A pooled entry from two running sums, the count and the row's own entry. -/
theorem pool_eq (t : ℕ) (g : Fin 4) (w : ℕ) (hw : win g.val = w) (k : Fin 128) :
    Ideal.div (((∑ i ∈ range (w + t + 1), (if i < w then 0 else A.u (i - w) (lane g k)) : ℝ) : EReal) - ((∑ i ∈ range (t + 1), (if i < w then 0 else A.u (i - w) (lane g k)) : ℝ) : EReal)) ((cnt w t : ℝ) : EReal)
      - ((A.u t (lane g k) : ℝ) : EReal) = ((pooled A t (lane g k) : ℝ) : EReal) := by
  have hg : (lane g k).val / 128 = g.val := by unfold lane; dsimp only; omega
  rw [← EReal.coe_sub, div_coe_coe _ (cnt_pos (hw ▸ win_pos _) t).ne', ← EReal.coe_sub, add_comm w t, win_diff]
  unfold pooled
  rw [hg, hw]
  have hw16 : w ≤ 16 := by subst hw; unfold win; exact (Nat.pow_le_pow_right (by decide) (by omega : g.val + 1 ≤ 4))
  refine congrArg (fun r : ℝ => (r : EReal)) (congrArg₂ (fun a b : ℝ => a / cnt w t - b) (sum_congr rfl fun d hd => ?_) ?_)
  · have := mem_range.mp hd
    unfold pad
    by_cases h : t + w - d < w
    · rw [if_pos h, if_pos (by omega)]
    · rw [if_neg h, if_neg (by omega)]
      exact congrArg (fun t => A.u t (lane g k)) (by omega)
  · unfold pad
    rw [if_neg (by omega)]
    exact congrArg (fun t => A.u t (lane g k)) (by omega)

/-- The number of rows in group 0's windows. -/
theorem v20_at (t : Fin 8192) : (res_main_v20 σ : FVec Ideal S8192x1 .f32) (ix2 t 0) = ((cnt 2 t.val : ℝ) : EReal) := by
  pointwise [res_main_v20]
  exact cnt_word 2 t.val (by decide) t.isLt

/-- Group 0's running sums. -/
theorem v10_at (h : RefOk A σ) (t : Fin 8194) (k : Fin 128) : (res_main_v10 σ : FVec Ideal S8194x128 .f32) (ix2 t k)
    = ((∑ i ∈ range (t.val + 1), (if i < 2 then 0 else A.u (i - 2) (lane 0 k)) : ℝ) : EReal) := by
  unfold res_main_v10
  refine cumsum_at (M := 8193) (C := 128) _ _ zero_word (fun i => if i < 2 then 0 else A.u (i - 2) (lane 0 k)) k (fun n => ?_) _ _ t
  pointwise
  by_cases hn : n.val < 2
  · rw [dif_pos hn, if_pos hn]; rfl
  · rw [dif_neg hn, if_neg hn]; exact v4_at h _ 0 k

/-- Group 0's pooled rows. -/
theorem pool0_at (h : RefOk A σ) (t : Fin 8192) (k : Fin 128) : (res_main_v93 σ : FVec Ideal S8192x4x128 .f32) (ix3 t (0 : Fin 4) k) = ((pooled A t.val (lane 0 k) : ℝ) : EReal) := by
  pointwise [res_main_v93]
  rw [v10_at h, v10_at h, v20_at, v4_at h]
  exact pool_eq t.val 0 2 rfl k
/-- The number of rows in group 1's windows. -/
theorem v41_at (t : Fin 8192) : (res_main_v41 σ : FVec Ideal S8192x1 .f32) (ix2 t 0) = ((cnt 4 t.val : ℝ) : EReal) := by
  pointwise [res_main_v41]
  exact cnt_word 4 t.val (by decide) t.isLt

/-- Group 1's running sums. -/
theorem v31_at (h : RefOk A σ) (t : Fin 8196) (k : Fin 128) : (res_main_v31 σ : FVec Ideal S8196x128 .f32) (ix2 t k)
    = ((∑ i ∈ range (t.val + 1), (if i < 4 then 0 else A.u (i - 4) (lane 1 k)) : ℝ) : EReal) := by
  unfold res_main_v31
  refine cumsum_at (M := 8195) (C := 128) _ _ zero_word (fun i => if i < 4 then 0 else A.u (i - 4) (lane 1 k)) k (fun n => ?_) _ _ t
  pointwise
  by_cases hn : n.val < 4
  · rw [dif_pos hn, if_pos hn]; rfl
  · rw [dif_neg hn, if_neg hn]; exact v4_at h _ 1 k

/-- Group 1's pooled rows. -/
theorem pool1_at (h : RefOk A σ) (t : Fin 8192) (k : Fin 128) : (res_main_v93 σ : FVec Ideal S8192x4x128 .f32) (ix3 t (1 : Fin 4) k) = ((pooled A t.val (lane 1 k) : ℝ) : EReal) := by
  pointwise [res_main_v93]
  rw [v31_at h, v31_at h, v41_at, v4_at h]
  exact pool_eq t.val 1 4 rfl k
/-- The number of rows in group 2's windows. -/
theorem v62_at (t : Fin 8192) : (res_main_v62 σ : FVec Ideal S8192x1 .f32) (ix2 t 0) = ((cnt 8 t.val : ℝ) : EReal) := by
  pointwise [res_main_v62]
  exact cnt_word 8 t.val (by decide) t.isLt

/-- Group 2's running sums. -/
theorem v52_at (h : RefOk A σ) (t : Fin 8200) (k : Fin 128) : (res_main_v52 σ : FVec Ideal S8200x128 .f32) (ix2 t k)
    = ((∑ i ∈ range (t.val + 1), (if i < 8 then 0 else A.u (i - 8) (lane 2 k)) : ℝ) : EReal) := by
  unfold res_main_v52
  refine cumsum_at (M := 8199) (C := 128) _ _ zero_word (fun i => if i < 8 then 0 else A.u (i - 8) (lane 2 k)) k (fun n => ?_) _ _ t
  pointwise
  by_cases hn : n.val < 8
  · rw [dif_pos hn, if_pos hn]; rfl
  · rw [dif_neg hn, if_neg hn]; exact v4_at h _ 2 k

/-- Group 2's pooled rows. -/
theorem pool2_at (h : RefOk A σ) (t : Fin 8192) (k : Fin 128) : (res_main_v93 σ : FVec Ideal S8192x4x128 .f32) (ix3 t (2 : Fin 4) k) = ((pooled A t.val (lane 2 k) : ℝ) : EReal) := by
  pointwise [res_main_v93]
  rw [v52_at h, v52_at h, v62_at, v4_at h]
  exact pool_eq t.val 2 8 rfl k
/-- The number of rows in group 3's windows. -/
theorem v83_at (t : Fin 8192) : (res_main_v83 σ : FVec Ideal S8192x1 .f32) (ix2 t 0) = ((cnt 16 t.val : ℝ) : EReal) := by
  pointwise [res_main_v83]
  exact cnt_word 16 t.val (by decide) t.isLt

/-- Group 3's running sums. -/
theorem v73_at (h : RefOk A σ) (t : Fin 8208) (k : Fin 128) : (res_main_v73 σ : FVec Ideal S8208x128 .f32) (ix2 t k)
    = ((∑ i ∈ range (t.val + 1), (if i < 16 then 0 else A.u (i - 16) (lane 3 k)) : ℝ) : EReal) := by
  unfold res_main_v73
  refine cumsum_at (M := 8207) (C := 128) _ _ zero_word (fun i => if i < 16 then 0 else A.u (i - 16) (lane 3 k)) k (fun n => ?_) _ _ t
  pointwise
  by_cases hn : n.val < 16
  · rw [dif_pos hn, if_pos hn]; rfl
  · rw [dif_neg hn, if_neg hn]; exact v4_at h _ 3 k

/-- Group 3's pooled rows. -/
theorem pool3_at (h : RefOk A σ) (t : Fin 8192) (k : Fin 128) : (res_main_v93 σ : FVec Ideal S8192x4x128 .f32) (ix3 t (3 : Fin 4) k) = ((pooled A t.val (lane 3 k) : ℝ) : EReal) := by
  pointwise [res_main_v93]
  rw [v73_at h, v73_at h, v83_at, v4_at h]
  exact pool_eq t.val 3 16 rfl k

end Cert.Pool

end
-- ==== Proof.PoolRefB.lean ====
/- The reference's norm, its gradient and the gradients of the pool's weights, entry by entry. -/
module

public import proofs.«01_k».proof.Proof.PoolRefA
public import proofs.«01_k».proof.Proof.PoolBody

@[expose] public section

set_option maxRecDepth 16384

noncomputable section

namespace Cert.Pool

open Cert.MixerRefIdeal Cert.MixerRefIdeal.Value Cert.RowNorm Finset
open Idealize.ShloMosaic Idealize.ShloMosaic.TcCoe

variable {A : Arrays} {σ : Valuation τ sig (Elt Ideal)}

/-- Every group's pooled rows. -/
theorem pooled_ref (h : RefOk A σ) (t : Fin 8192) (g : Fin 4) (k : Fin 128) : (res_main_v93 σ : FVec Ideal S8192x4x128 .f32) (ix3 t g k) = ((pooled A t.val (lane g k) : ℝ) : EReal) := by
  fin_cases g
  · exact pool0_at h t k
  · exact pool1_at h t k
  · exact pool2_at h t k
  · exact pool3_at h t k

/-- A sum over a half's columns against one column of its two weights on the diagonal is a sum over a group's lanes. -/
theorem sum_half (F : Fin 512 → ℝ) (W : Fin 256 → ℝ) (G : Fin 128 → ℝ) (j : Fin 512)
    (h1 : ∀ (c : Fin 256) (i : Fin 128), c.val = 128 * (j.val / 128 % 2) + i.val → W c = G i) (h0 : ∀ c : Fin 256, c.val / 128 ≠ j.val / 128 % 2 → W c = 0) :
    ∑ c : Fin 256, F (col (half j) c) * W c = ∑ i : Fin 128, F (lane (grp j) i) * G i := by
  rw [Fin.sum_univ_tiles 2 128 rfl]
  rw [Finset.sum_eq_single (⟨j.val / 128 % 2, by omega⟩ : Fin 2)]
  · refine sum_congr rfl fun i _ => ?_
    rw [h1 _ i (by dsimp only; omega)]
    exact congrArg (fun q => F q * G i) (Fin.ext (by unfold col half lane grp; dsimp only; omega))
  · intro b _ hb
    refine sum_eq_zero fun i _ => ?_
    rw [h0 _ ?_, mul_zero]
    intro he
    refine hb (Fin.ext ?_)
    dsimp only at he ⊢
    omega
  · intro hn; exact absurd (mem_univ _) hn

/-- The pooled row through the weight, and the bias. -/
theorem v99_at (h : RefOk A σ) (t : Fin 8192) (j : Fin 512) : (res_main_v99 σ : FVec Ideal S8192x512 .f32) (ix2 t j) = ((zp A t.val j : ℝ) : EReal) := by
  pointwise [res_main_v99, res_main_v1]
  simp only [pooled_ref h, h.wp, h.pb, ← EReal.coe_mul, coe_sum, ← EReal.coe_add]
  refine congrArg (fun r : ℝ => (r : EReal)) (congrArg (fun r : ℝ => r + A.pb j) ?_)
  rw [sum_half (pooled A t.val) (fun c => bd A (half j) c (low j)) (fun i => A.wp (grp j) i ⟨j.val % 128, Nat.mod_lt _ (by decide)⟩) j ?_ ?_]
  · exact sum_congr rfl fun i _ => mul_comm _ _
  · intro c i hc
    unfold bd
    rw [if_pos (by unfold low; dsimp only; omega)]
    exact congr (congrArg₂ A.wp (Fin.ext (by unfold half grp; dsimp only; omega)) (Fin.ext (by dsimp only; omega))) (Fin.ext (by unfold low; dsimp only; omega))
  · intro c hc
    unfold bd
    rw [if_neg (by unfold low; dsimp only; omega)]

/-- The scaled row. -/
theorem v102_at (h : RefOk A σ) (t : Fin 8192) (j : Fin 512) : (res_main_v102 σ : FVec Ideal S8192x512 .f32) (ix2 t j) = ((yp A t.val j : ℝ) : EReal) := by
  pointwise [res_main_v102, res_main_v100]
  rw [v99_at h, h.ps, ← EReal.coe_mul]
  rfl

/-- The mean square and the small constant. -/
theorem v110_at (h : RefOk A σ) (t : Fin 8192) : (res_main_v110 σ : FVec Ideal S8192x1 .f32) (ix2 t 0) = (((∑ k, yp A t.val k * yp A t.val k) / 512 + eps : ℝ) : EReal) := by
  pointwise [res_main_v110]
  simp only [v102_at h, ← EReal.coe_mul, coe_sum]
  rw [c512, ceps, div_coe_coe _ (by norm_num), ← EReal.coe_add]

/-- The reciprocal root mean square. -/
theorem v111_at (h : RefOk A σ) (t : Fin 8192) : (res_main_v111 σ : FVec Ideal S8192x1 .f32) (ix2 t 0) = ((rstd 512 (yp A t.val) : ℝ) : EReal) := by
  pointwise [res_main_v111]
  rw [v110_at h, rsqrt_pos (var_pos (by norm_num) _)]
  rfl

/-- The normalised row. -/
theorem v116_at (h : RefOk A σ) (t : Fin 8192) (j : Fin 512) : (res_main_v116 σ : FVec Ideal S8192x512 .f32) (ix2 t j) = ((xh A t.val j : ℝ) : EReal) := by
  pointwise [res_main_v116]
  rw [v102_at h, v111_at h, ← EReal.coe_mul]
  rfl

/-- The cotangent of the normalised row. -/
theorem v123_at (h : RefOk A σ) (t : Fin 8192) (j : Fin 512) : (res_main_v123 σ : FVec Ideal S8192x512 .f32) (ix2 t j) = ((dyn A t.val j : ℝ) : EReal) := by
  pointwise [res_main_v123, res_main_v121]
  simp only [h.d2, h.wo, ← EReal.coe_mul, coe_sum]
  rfl

/-- The same times the gain. -/
theorem v128_at (h : RefOk A σ) (t : Fin 8192) (j : Fin 512) : (res_main_v128 σ : FVec Ideal S8192x512 .f32) (ix2 t j) = ((dyn A t.val j * A.gp j : ℝ) : EReal) := by
  pointwise [res_main_v128, res_main_v117]
  rw [v123_at h, h.gp, ← EReal.coe_mul]

/-- Half of the cotangent of the mean square, over the row's length. -/
theorem v139_at (h : RefOk A σ) (t : Fin 8192) (j : Fin 512) : (res_main_v139 σ : FVec Ideal S8192x512 .f32) (ix2 t j)
    = (((∑ k, yp A t.val k * (dyn A t.val k * A.gp k)) * (-(1 / 2) * (rstd 512 (yp A t.val) / ((∑ k, yp A t.val k * yp A t.val k) / 512 + eps))) / 512 : ℝ) : EReal) := by
  pointwise [res_main_v139]
  rw [Fin.sum_univ_one]
  simp only [v102_at h, v128_at h, v111_at h, v110_at h, ← EReal.coe_mul, coe_sum]
  rw [c512, cneghalf, div_coe_coe _ (var_pos (n := 512) (by norm_num) (yp A t.val)).ne', ← EReal.coe_mul, ← EReal.coe_mul, div_coe_coe _ (by norm_num)]

/-- The cotangent of the scaled row. -/
theorem v143_at (h : RefOk A σ) (t : Fin 8192) (j : Fin 512) : (res_main_v143 σ : FVec Ideal S8192x512 .f32) (ix2 t j) = ((dy A t.val j : ℝ) : EReal) := by
  pointwise [res_main_v143]
  rw [v128_at h, v111_at h, v102_at h, v139_at h]
  simp only [← EReal.coe_mul, ← EReal.coe_add]
  refine congrArg (fun r : ℝ => (r : EReal)) ?_
  rw [add_assoc]
  exact dnorm_chain (n := 512) (by norm_num) (yp A t.val) (fun k => dyn A t.val k * A.gp k) j

/-- The cotangent of the weighted row. -/
theorem v149_at (h : RefOk A σ) (t : Fin 8192) (j : Fin 512) : (res_main_v149 σ : FVec Ideal S8192x512 .f32) (ix2 t j) = ((dz A t.val j : ℝ) : EReal) := by
  pointwise [res_main_v149, res_main_v100]
  rw [v143_at h, h.ps, ← EReal.coe_mul]
  rfl

/-- The same by groups, the rows last. -/
theorem v155_at (h : RefOk A σ) (g : Fin 4) (k : Fin 128) (t : Fin 8192) : (res_main_v155 σ : FVec Ideal S4x128x8192 .f32) (ix3 g k t) = ((dz A t.val (lane g k) : ℝ) : EReal) := by
  pointwise [res_main_v155]
  refine (v149_at h t _).trans (congrArg (fun q => ((dz A t.val q : ℝ) : EReal)) (Fin.ext (by unfold lane; dsimp only; omega)))

/-- The cotangent of the pooled row. -/
theorem v157_at (h : RefOk A σ) (t : Fin 8192) (g : Fin 4) (k : Fin 128) : (res_main_v157 σ : FVec Ideal S8192x4x128 .f32) (ix3 t g k) = ((dp A t.val (lane g k) : ℝ) : EReal) := by
  pointwise [res_main_v157, res_main_v1]
  simp only [v155_at h, h.wp, ← EReal.coe_mul, coe_sum]
  refine congrArg (fun r : ℝ => (r : EReal)) ?_
  have hl : (lane g k).val = 128 * g.val + k.val := rfl
  have hg : grp (lane g k) = g := Fin.ext (by unfold grp; dsimp only; omega)
  unfold dp
  rw [sum_half (dz A t.val) (fun c => bd A (half (lane g k)) (low (lane g k)) c) (fun i => A.wp g k i) (lane g k) ?_ ?_, hg]
  · intro c i hc
    unfold bd
    rw [if_pos (by unfold low; dsimp only; omega)]
    exact congr (congrArg₂ A.wp (Fin.ext (by unfold half low; dsimp only; omega)) (Fin.ext (by unfold low; dsimp only; omega))) (Fin.ext (by dsimp only; omega))
  · intro c hc
    unfold bd
    rw [if_neg (by unfold low; dsimp only; omega)]

end Cert.Pool

end
-- ==== Proof.PoolRefC.lean ====
/- The reference's five results, entry by entry. -/
module

public import proofs.«01_k».proof.Proof.PoolRefB

@[expose] public section

set_option maxRecDepth 16384

noncomputable section

namespace Cert.Pool

open Cert.MixerRefIdeal Cert.MixerRefIdeal.Value Cert.RowNorm Finset
open Idealize.ShloMosaic Idealize.ShloMosaic.TcCoe

variable {A : Arrays} {σ : Valuation τ sig (Elt Ideal)}

/-- What stands in row `n` of the array the running sum up to the last row is taken of. -/
def step (A : Arrays) (w : ℕ) (q : Fin 512) (n : ℕ) : ℝ := -(fw A n q) + (if n < w then 0 else fw A (n - w) q)

/-- A group's running sum at a window's distance is the sum over the window that starts at the row. -/
theorem step_sum (t : Fin 8192) (w : ℕ) (q : Fin 512) : ∑ i ∈ range (8192 + w - (w + t.val)), step A w q (w + t.val + i) = ∑ d ∈ range w, fw A (t.val + d) q := by
  have ht := t.isLt
  rw [show 8192 + w - (w + t.val) = 8192 - t.val by omega, ← win_fwd (fun s => fw A s q) 8192 t.val w (by omega) (fun s hs => if_neg (by omega))]
  refine sum_congr rfl fun i _ => ?_
  unfold step
  rw [if_neg (by omega), show w + t.val + i - w = t.val + i by omega, show w + t.val + i = t.val + w + i by omega]
  ring

/-- The cotangent of a window's sum in a row of the array. -/
theorem fw_row (t : Fin 8192) (g : Fin 4) (w : ℕ) (hw : win g.val = w) (k : Fin 128) : fw A t.val (lane g k) = dp A t.val (lane g k) / cnt w t.val := by
  unfold fw
  rw [if_pos t.isLt, show (lane g k).val / 128 = g.val by unfold lane; dsimp only; omega, hw]

/-- When an entry of a padded array is one of the array that was padded. -/
theorem in_pad {N : ℕ} (lo : ℕ) (n : Fin N) (k : Fin 128) :
    (∀ a : Fin 2, ![lo, 0] a ≤ (ix2 n k a).val ∧ ((ix2 n k a).val - ![lo, 0] a) % (![0, 0] a + 1) = 0 ∧ ((ix2 n k a).val - ![lo, 0] a) / (![0, 0] a + 1) < ![8192, 128] a)
      ↔ lo ≤ n.val ∧ n.val - lo < 8192 := by
  rw [Fin.forall_fin_two]
  simp [ix2, Nat.mod_one]

/-- The negated cotangents with zero rows after them. -/
theorem pad_lo {n : ℕ} {q : Fin 512} {P : Prop} [Decidable P] (hP : P ↔ n < 8192) (r : P → EReal) (hr : ∀ p, r p = -((fw A n q : ℝ) : EReal)) :
    (if h : P then r h else (0 : EReal)) = ((-(fw A n q) : ℝ) : EReal) := by
  split_ifs with h
  · rw [hr h, EReal.coe_neg]
  · rw [show fw A n q = 0 from if_neg fun hn => h (hP.mpr hn), neg_zero, EReal.coe_zero]

/-- The cotangents with zero rows before them. -/
theorem pad_hi {n w : ℕ} {q : Fin 512} {P : Prop} [Decidable P] (hP : P ↔ w ≤ n) (r : P → EReal) (hr : ∀ p, r p = ((fw A (n - w) q : ℝ) : EReal)) :
    (if h : P then r h else (0 : EReal)) = (((if n < w then 0 else fw A (n - w) q) : ℝ) : EReal) := by
  split_ifs with h h' h'
  · exact absurd (hP.mp h) (by omega)
  · exact hr h
  · rfl
  · exact absurd (hP.mpr (by omega)) h

/-- Group 0's part of the pooled row's cotangent. -/
theorem v161_at (h : RefOk A σ) (t : Fin 8192) (k : Fin 128) : (res_main_v161 σ : FVec Ideal S8192x128 .f32) (ix2 t k) = ((dp A t.val (lane 0 k) : ℝ) : EReal) := by
  pointwise [res_main_v161]
  exact v157_at h t 0 k

/-- Group 0's cotangents of the windows' sums. -/
theorem v220_at (h : RefOk A σ) (t : Fin 8192) (k : Fin 128) : (res_main_v220 σ : FVec Ideal S8192x128 .f32) (ix2 t k) = ((fw A t.val (lane 0 k) : ℝ) : EReal) := by
  pointwise [res_main_v220]
  rw [v161_at h, v20_at, div_coe_coe _ (cnt_pos (by decide) t.val).ne', fw_row t 0 2 rfl k]

/-- Group 0's running sums up to the last row. -/
theorem v225_at (h : RefOk A σ) (t : Fin 8194) (k : Fin 128) : (res_main_v225 σ : FVec Ideal S8194x128 .f32) (ix2 t k)
    = ((∑ i ∈ range (8194 - t.val), step A 2 (lane 0 k) (t.val + i) : ℝ) : EReal) := by
  unfold res_main_v225
  refine revsum_at (M := 8193) (C := 128) _ _ zero_word (step A 2 (lane 0 k)) k (fun n => ?_) _ _ t
  pointwise
  have hn := n.isLt
  refine (congrArg₂ (fun a b : EReal => a + b) (pad_lo (A := A) (q := lane 0 k) ((in_pad 0 n k).trans (by omega)) _ fun p => ?_) (pad_hi (A := A) (q := lane 0 k) ((in_pad 2 n k).trans (by omega)) _ fun p => ?_)).trans (EReal.coe_add _ _).symm
  · exact congrArg (fun e : EReal => -e) (v220_at h ⟨n.val, _⟩ k)
  · exact v220_at h ⟨n.val - 2, _⟩ k

/-- Group 0's sums over the windows that start at a row. -/
theorem w0_at (h : RefOk A σ) (t : Fin 8192) (k : Fin 128) : (res_main_v225 σ : FVec Ideal S8194x128 .f32) (ix2 (⟨2 + t.val, by omega⟩ : Fin 8194) k)
    = ((∑ d ∈ range 2, fw A (t.val + d) (lane 0 k) : ℝ) : EReal) := by
  rw [v225_at h]
  exact congrArg (fun r : ℝ => (r : EReal)) (step_sum t 2 (lane 0 k))

/-- Group 1's part of the pooled row's cotangent. -/
theorem v163_at (h : RefOk A σ) (t : Fin 8192) (k : Fin 128) : (res_main_v163 σ : FVec Ideal S8192x128 .f32) (ix2 t k) = ((dp A t.val (lane 1 k) : ℝ) : EReal) := by
  pointwise [res_main_v163]
  exact v157_at h t 1 k

/-- Group 1's cotangents of the windows' sums. -/
theorem v204_at (h : RefOk A σ) (t : Fin 8192) (k : Fin 128) : (res_main_v204 σ : FVec Ideal S8192x128 .f32) (ix2 t k) = ((fw A t.val (lane 1 k) : ℝ) : EReal) := by
  pointwise [res_main_v204]
  rw [v163_at h, v41_at, div_coe_coe _ (cnt_pos (by decide) t.val).ne', fw_row t 1 4 rfl k]

/-- Group 1's running sums up to the last row. -/
theorem v209_at (h : RefOk A σ) (t : Fin 8196) (k : Fin 128) : (res_main_v209 σ : FVec Ideal S8196x128 .f32) (ix2 t k)
    = ((∑ i ∈ range (8196 - t.val), step A 4 (lane 1 k) (t.val + i) : ℝ) : EReal) := by
  unfold res_main_v209
  refine revsum_at (M := 8195) (C := 128) _ _ zero_word (step A 4 (lane 1 k)) k (fun n => ?_) _ _ t
  pointwise
  have hn := n.isLt
  refine (congrArg₂ (fun a b : EReal => a + b) (pad_lo (A := A) (q := lane 1 k) ((in_pad 0 n k).trans (by omega)) _ fun p => ?_) (pad_hi (A := A) (q := lane 1 k) ((in_pad 4 n k).trans (by omega)) _ fun p => ?_)).trans (EReal.coe_add _ _).symm
  · exact congrArg (fun e : EReal => -e) (v204_at h ⟨n.val, _⟩ k)
  · exact v204_at h ⟨n.val - 4, _⟩ k

/-- Group 1's sums over the windows that start at a row. -/
theorem w1_at (h : RefOk A σ) (t : Fin 8192) (k : Fin 128) : (res_main_v209 σ : FVec Ideal S8196x128 .f32) (ix2 (⟨4 + t.val, by omega⟩ : Fin 8196) k)
    = ((∑ d ∈ range 4, fw A (t.val + d) (lane 1 k) : ℝ) : EReal) := by
  rw [v209_at h]
  exact congrArg (fun r : ℝ => (r : EReal)) (step_sum t 4 (lane 1 k))

/-- Group 2's part of the pooled row's cotangent. -/
theorem v165_at (h : RefOk A σ) (t : Fin 8192) (k : Fin 128) : (res_main_v165 σ : FVec Ideal S8192x128 .f32) (ix2 t k) = ((dp A t.val (lane 2 k) : ℝ) : EReal) := by
  pointwise [res_main_v165]
  exact v157_at h t 2 k

/-- Group 2's cotangents of the windows' sums. -/
theorem v188_at (h : RefOk A σ) (t : Fin 8192) (k : Fin 128) : (res_main_v188 σ : FVec Ideal S8192x128 .f32) (ix2 t k) = ((fw A t.val (lane 2 k) : ℝ) : EReal) := by
  pointwise [res_main_v188]
  rw [v165_at h, v62_at, div_coe_coe _ (cnt_pos (by decide) t.val).ne', fw_row t 2 8 rfl k]

/-- Group 2's running sums up to the last row. -/
theorem v193_at (h : RefOk A σ) (t : Fin 8200) (k : Fin 128) : (res_main_v193 σ : FVec Ideal S8200x128 .f32) (ix2 t k)
    = ((∑ i ∈ range (8200 - t.val), step A 8 (lane 2 k) (t.val + i) : ℝ) : EReal) := by
  unfold res_main_v193
  refine revsum_at (M := 8199) (C := 128) _ _ zero_word (step A 8 (lane 2 k)) k (fun n => ?_) _ _ t
  pointwise
  have hn := n.isLt
  refine (congrArg₂ (fun a b : EReal => a + b) (pad_lo (A := A) (q := lane 2 k) ((in_pad 0 n k).trans (by omega)) _ fun p => ?_) (pad_hi (A := A) (q := lane 2 k) ((in_pad 8 n k).trans (by omega)) _ fun p => ?_)).trans (EReal.coe_add _ _).symm
  · exact congrArg (fun e : EReal => -e) (v188_at h ⟨n.val, _⟩ k)
  · exact v188_at h ⟨n.val - 8, _⟩ k

/-- Group 2's sums over the windows that start at a row. -/
theorem w2_at (h : RefOk A σ) (t : Fin 8192) (k : Fin 128) : (res_main_v193 σ : FVec Ideal S8200x128 .f32) (ix2 (⟨8 + t.val, by omega⟩ : Fin 8200) k)
    = ((∑ d ∈ range 8, fw A (t.val + d) (lane 2 k) : ℝ) : EReal) := by
  rw [v193_at h]
  exact congrArg (fun r : ℝ => (r : EReal)) (step_sum t 8 (lane 2 k))

/-- Group 3's part of the pooled row's cotangent. -/
theorem v167_at (h : RefOk A σ) (t : Fin 8192) (k : Fin 128) : (res_main_v167 σ : FVec Ideal S8192x128 .f32) (ix2 t k) = ((dp A t.val (lane 3 k) : ℝ) : EReal) := by
  pointwise [res_main_v167]
  exact v157_at h t 3 k

/-- Group 3's cotangents of the windows' sums. -/
theorem v172_at (h : RefOk A σ) (t : Fin 8192) (k : Fin 128) : (res_main_v172 σ : FVec Ideal S8192x128 .f32) (ix2 t k) = ((fw A t.val (lane 3 k) : ℝ) : EReal) := by
  pointwise [res_main_v172]
  rw [v167_at h, v83_at, div_coe_coe _ (cnt_pos (by decide) t.val).ne', fw_row t 3 16 rfl k]

/-- Group 3's running sums up to the last row. -/
theorem v177_at (h : RefOk A σ) (t : Fin 8208) (k : Fin 128) : (res_main_v177 σ : FVec Ideal S8208x128 .f32) (ix2 t k)
    = ((∑ i ∈ range (8208 - t.val), step A 16 (lane 3 k) (t.val + i) : ℝ) : EReal) := by
  unfold res_main_v177
  refine revsum_at (M := 8207) (C := 128) _ _ zero_word (step A 16 (lane 3 k)) k (fun n => ?_) _ _ t
  pointwise
  have hn := n.isLt
  refine (congrArg₂ (fun a b : EReal => a + b) (pad_lo (A := A) (q := lane 3 k) ((in_pad 0 n k).trans (by omega)) _ fun p => ?_) (pad_hi (A := A) (q := lane 3 k) ((in_pad 16 n k).trans (by omega)) _ fun p => ?_)).trans (EReal.coe_add _ _).symm
  · exact congrArg (fun e : EReal => -e) (v172_at h ⟨n.val, _⟩ k)
  · exact v172_at h ⟨n.val - 16, _⟩ k

/-- Group 3's sums over the windows that start at a row. -/
theorem w3_at (h : RefOk A σ) (t : Fin 8192) (k : Fin 128) : (res_main_v177 σ : FVec Ideal S8208x128 .f32) (ix2 (⟨16 + t.val, by omega⟩ : Fin 8208) k)
    = ((∑ d ∈ range 16, fw A (t.val + d) (lane 3 k) : ℝ) : EReal) := by
  rw [v177_at h]
  exact congrArg (fun r : ℝ => (r : EReal)) (step_sum t 16 (lane 3 k))

/-- The sum of the groups' gradients, each in its own columns. -/
def duAll (σ : Valuation τ sig (Elt Ideal)) : FVec Ideal S8192x4x128 .f32 :=
  (addf (addf (addf (addf (addf (addf (addf (Idealize.ShloMosaic.pad S8192x4x128 ![0, 3, 0] ![0, 0, 0] ![0, 0, 0] (broadcastInDim S8192x1x128 ![0, 2] Gen.bcast_S8192x128_S8192x1x128_0_2 (Host.negf (res_main_v167 σ))) (constant S_ .f32 0x00000000#32) Gen.pads_S8192x1x128_S8192x4x128_000_300_000 Gen.h_S_) (Idealize.ShloMosaic.pad S8192x4x128 ![0, 3, 0] ![0, 0, 0] ![0, 0, 0] (broadcastInDim S8192x1x128 ![0, 2] Gen.bcast_S8192x128_S8192x1x128_0_2 (extractStridedSlice S8192x128 ![16, 0] (res_main_v177 σ) Gen.slices_S8208x128_S8192x128_16_0)) (constant S_ .f32 0x00000000#32) Gen.pads_S8192x1x128_S8192x4x128_000_300_000 Gen.h_S_)) (Idealize.ShloMosaic.pad S8192x4x128 ![0, 2, 0] ![0, 1, 0] ![0, 0, 0] (broadcastInDim S8192x1x128 ![0, 2] Gen.bcast_S8192x128_S8192x1x128_0_2 (Host.negf (res_main_v165 σ))) (constant S_ .f32 0x00000000#32) Gen.pads_S8192x1x128_S8192x4x128_000_210_000 Gen.h_S_)) (Idealize.ShloMosaic.pad S8192x4x128 ![0, 2, 0] ![0, 1, 0] ![0, 0, 0] (broadcastInDim S8192x1x128 ![0, 2] Gen.bcast_S8192x128_S8192x1x128_0_2 (extractStridedSlice S8192x128 ![8, 0] (res_main_v193 σ) Gen.slices_S8200x128_S8192x128_8_0)) (constant S_ .f32 0x00000000#32) Gen.pads_S8192x1x128_S8192x4x128_000_210_000 Gen.h_S_)) (Idealize.ShloMosaic.pad S8192x4x128 ![0, 1, 0] ![0, 2, 0] ![0, 0, 0] (broadcastInDim S8192x1x128 ![0, 2] Gen.bcast_S8192x128_S8192x1x128_0_2 (Host.negf (res_main_v163 σ))) (constant S_ .f32 0x00000000#32) Gen.pads_S8192x1x128_S8192x4x128_000_120_000 Gen.h_S_)) (Idealize.ShloMosaic.pad S8192x4x128 ![0, 1, 0] ![0, 2, 0] ![0, 0, 0] (broadcastInDim S8192x1x128 ![0, 2] Gen.bcast_S8192x128_S8192x1x128_0_2 (extractStridedSlice S8192x128 ![4, 0] (res_main_v209 σ) Gen.slices_S8196x128_S8192x128_4_0)) (constant S_ .f32 0x00000000#32) Gen.pads_S8192x1x128_S8192x4x128_000_120_000 Gen.h_S_)) (Idealize.ShloMosaic.pad S8192x4x128 ![0, 0, 0] ![0, 3, 0] ![0, 0, 0] (broadcastInDim S8192x1x128 ![0, 2] Gen.bcast_S8192x128_S8192x1x128_0_2 (Host.negf (res_main_v161 σ))) (constant S_ .f32 0x00000000#32) Gen.pads_S8192x1x128_S8192x4x128_000_030_000 Gen.h_S_)) (Idealize.ShloMosaic.pad S8192x4x128 ![0, 0, 0] ![0, 3, 0] ![0, 0, 0] (broadcastInDim S8192x1x128 ![0, 2] Gen.bcast_S8192x128_S8192x1x128_0_2 (extractStridedSlice S8192x128 ![2, 0] (res_main_v225 σ) Gen.slices_S8194x128_S8192x128_2_0)) (constant S_ .f32 0x00000000#32) Gen.pads_S8192x1x128_S8192x4x128_000_030_000 Gen.h_S_))

/-- The input's gradient in a group's columns. -/
theorem du_eq (t : ℕ) (g : Fin 4) (w : ℕ) (hw : win g.val = w) (k : Fin 128) : -(dp A t (lane g k)) + ∑ d ∈ range w, fw A (t + d) (lane g k) = du A t (lane g k) := by
  unfold du
  rw [show (lane g k).val / 128 = g.val by unfold lane; dsimp only; omega, hw]
  ring

/-- The gradient of the input in group 0's columns. -/
theorem duAll0_at (h : RefOk A σ) (t : Fin 8192) (k : Fin 128) : duAll σ (ix3 t (0 : Fin 4) k) = ((du A t.val (lane 0 k) : ℝ) : EReal) := by
  pointwise [duAll]
  rw [v161_at h, w0_at h, ← EReal.coe_neg, ← EReal.coe_add]
  exact congrArg (fun r : ℝ => (r : EReal)) (du_eq t.val 0 2 rfl k)

/-- The gradient of the input in group 1's columns. -/
theorem duAll1_at (h : RefOk A σ) (t : Fin 8192) (k : Fin 128) : duAll σ (ix3 t (1 : Fin 4) k) = ((du A t.val (lane 1 k) : ℝ) : EReal) := by
  pointwise [duAll]
  rw [v163_at h, w1_at h, ← EReal.coe_neg, ← EReal.coe_add]
  exact congrArg (fun r : ℝ => (r : EReal)) (du_eq t.val 1 4 rfl k)

/-- The gradient of the input in group 2's columns. -/
theorem duAll2_at (h : RefOk A σ) (t : Fin 8192) (k : Fin 128) : duAll σ (ix3 t (2 : Fin 4) k) = ((du A t.val (lane 2 k) : ℝ) : EReal) := by
  pointwise [duAll]
  rw [v165_at h, w2_at h, ← EReal.coe_neg, ← EReal.coe_add]
  exact congrArg (fun r : ℝ => (r : EReal)) (du_eq t.val 2 8 rfl k)

/-- The gradient of the input in group 3's columns. -/
theorem duAll3_at (h : RefOk A σ) (t : Fin 8192) (k : Fin 128) : duAll σ (ix3 t (3 : Fin 4) k) = ((du A t.val (lane 3 k) : ℝ) : EReal) := by
  pointwise [duAll]
  rw [v167_at h, w3_at h, ← EReal.coe_neg, ← EReal.coe_add]
  exact congrArg (fun r : ℝ => (r : EReal)) (du_eq t.val 3 16 rfl k)

/-- The gradient of the input. -/
theorem ref_du (h : RefOk A σ) (t : Fin 8192) (j : Fin 512) : (truncf .bf16 (shapeCast _ (duAll σ) Gen.shapeCasts_S8192x4x128_S8192x512) Gen.bitsLt_bf16_f32 : FVec Ideal S8192x512 .bf16) (ix2 t j) = ((du A t.val j : ℝ) : EReal) := by
  have key : ∀ (g : Fin 4) (k : Fin 128), duAll σ (ix3 t g k) = ((du A t.val (lane g k) : ℝ) : EReal) := by
    intro g k
    fin_cases g
    · exact duAll0_at h t k
    · exact duAll1_at h t k
    · exact duAll2_at h t k
    · exact duAll3_at h t k
  pointwise
  refine (key _ _).trans (congrArg (fun q => ((du A t.val q : ℝ) : EReal)) (Fin.ext (by unfold lane; dsimp only; omega)))

/-- The gradient of the weight. -/
theorem ref_wp (h : RefOk A σ) (g : Fin 4) (a b : Fin 128) : (broadcastInDim S1x4x128x128 ![1, 2, 3] Gen.bcast_S4x128x128_S1x4x128x128_1_2_3 (transpose S4x128x128 [0, 2, 1] (Host.dotGeneral (φ₁ := .f32) (φ₂ := .f32) dot_S4x128x8192_S8192x4x128_S4x128x128_2_0_1_2_0_1 none (res_main_v155 σ) (res_main_v93 σ)) Gen.transposes_S4x128x128_S4x128x128_0_2_1) : FVec Ideal S1x4x128x128 .f32) (ix4 0 g a b)
    = ((∑ t : Fin 8192, pooled A t.val (lane g a) * dz A t.val (lane g b) : ℝ) : EReal) := by
  pointwise
  simp only [v155_at h, pooled_ref h, ← EReal.coe_mul, coe_sum]
  exact congrArg (fun r : ℝ => (r : EReal)) (sum_congr rfl fun t _ => mul_comm _ _)

/-- The gradient of the bias. -/
theorem ref_pb (h : RefOk A σ) (j : Fin 512) : (broadcastInDim S1x512 ![1] Gen.bcast_S512_S1x512_1 (Host.reduceAdd (shapeCast _ (Host.reduceAdd (res_main_v149 σ) (constant S_ .f32 0x00000000#32) Gen.reducesTo_S8192x512_S512_d0 Gen.h_S_) Gen.shapeCasts_S512_S1x512) (constant S_ .f32 0x00000000#32) Gen.reducesTo_S1x512_S512_d0 Gen.h_S_) : FVec Ideal S1x512 .f32) (ix2 0 j)
    = ((∑ t : Fin 8192, dz A t.val j : ℝ) : EReal) := by
  pointwise
  rw [Fin.sum_univ_one]
  simp only [v149_at h, coe_sum]

/-- The gradient of the scale. -/
theorem ref_ps (h : RefOk A σ) (j : Fin 512) : (broadcastInDim S1x512 ![1] Gen.bcast_S512_S1x512_1 (Host.reduceAdd (shapeCast _ (Host.reduceAdd (mulf (res_main_v99 σ) (res_main_v143 σ)) (constant S_ .f32 0x00000000#32) Gen.reducesTo_S8192x512_S512_d0 Gen.h_S_) Gen.shapeCasts_S512_S1x512) (constant S_ .f32 0x00000000#32) Gen.reducesTo_S1x512_S512_d0 Gen.h_S_) : FVec Ideal S1x512 .f32) (ix2 0 j)
    = ((∑ t : Fin 8192, dy A t.val j * zp A t.val j : ℝ) : EReal) := by
  pointwise
  rw [Fin.sum_univ_one]
  simp only [v99_at h, v143_at h, ← EReal.coe_mul, coe_sum]
  exact congrArg (fun r : ℝ => (r : EReal)) (sum_congr rfl fun t _ => mul_comm _ _)

/-- The gradient of the norm's gain. -/
theorem ref_gp (h : RefOk A σ) (j : Fin 512) : (broadcastInDim S1x512 ![1] Gen.bcast_S512_S1x512_1 (Host.reduceAdd (shapeCast _ (Host.reduceAdd (mulf (res_main_v116 σ) (res_main_v123 σ)) (constant S_ .f32 0x00000000#32) Gen.reducesTo_S8192x512_S512_d0 Gen.h_S_) Gen.shapeCasts_S512_S1x512) (constant S_ .f32 0x00000000#32) Gen.reducesTo_S1x512_S512_d0 Gen.h_S_) : FVec Ideal S1x512 .f32) (ix2 0 j)
    = ((∑ t : Fin 8192, dyn A t.val j * xh A t.val j : ℝ) : EReal) := by
  pointwise
  rw [Fin.sum_univ_one]
  simp only [v116_at h, v123_at h, ← EReal.coe_mul, coe_sum]
  exact congrArg (fun r : ℝ => (r : EReal)) (sum_congr rfl fun t _ => mul_comm _ _)

end Cert.Pool

end
-- ==== Proof.LruSpec.lean ====
/- The recurrent half of the mixer over the real numbers: the convolution, the gates, the decay and the recurrence's states.
   Rows are natural numbers, so that a tile's row and the row of the whole array are one number. -/
module

public import proofs.«01_k».proof.Proof.RowNorm

@[expose] public section

noncomputable section

namespace Cert.Lru

/-- The arrays the recurrent half's states are computed from. -/
structure Arrays where
  /-- The recurrence's input columns. -/
  u : ℕ → Fin 512 → ℝ
  /-- The convolution's four rows of weights. -/
  cw : Fin 4 → Fin 512 → ℝ
  /-- The convolution's bias. -/
  cb : Fin 512 → ℝ
  /-- The decay gate's weight, one matrix for each head. -/
  wa : Fin 8 → Fin 64 → Fin 64 → ℝ
  /-- The decay gate's bias. -/
  ba : Fin 512 → ℝ
  /-- The input gate's weight. -/
  wx : Fin 8 → Fin 64 → Fin 64 → ℝ
  /-- The input gate's bias. -/
  bx : Fin 512 → ℝ
  /-- The decay's parameter. -/
  lam : Fin 512 → ℝ

/-- The state before row `t`: nothing before the first row, then the decayed state plus the row's input. -/
def pre (a b : ℕ → ℝ) : ℕ → ℝ
  | 0 => 0
  | t + 1 => a t * pre a b t + b t

/-- Two rows' decays as one. -/
def pairA (a : ℕ → ℝ) (k : ℕ) : ℝ := a (2 * k) * a (2 * k + 1)

/-- Two rows' inputs as one. -/
def pairB (a b : ℕ → ℝ) (k : ℕ) : ℝ := a (2 * k + 1) * b (2 * k) + b (2 * k + 1)

/-- The recurrence over pairs of rows passes through every second state. -/
theorem pre_pair (a b : ℕ → ℝ) (k : ℕ) : pre (pairA a) (pairB a b) k = pre a b (2 * k) := by
  induction k with
  | zero => rfl
  | succ k ih =>
    rw [show 2 * (k + 1) = 2 * k + 1 + 1 from by ring]
    show pairA a k * pre (pairA a) (pairB a b) k + pairB a b k = a (2 * k + 1) * (a (2 * k) * pre a b (2 * k) + b (2 * k)) + b (2 * k + 1)
    rw [ih]; unfold pairA pairB; ring

/-- The logistic function. -/
def sg (x : ℝ) : ℝ := 1 / (1 + Real.exp (-x))

/-- The logarithm of one plus the exponential. -/
def sp (z : ℝ) : ℝ := max z 0 + Real.log (1 + Real.exp (-|z|))

/-- The floor under the multiplier's square. -/
def floor : ℝ := 9223372 * 2 ^ (-63 : ℤ)

variable (A : Arrays)

/-- The input with three rows of zeros in front. -/
def padu (p : ℕ) (j : Fin 512) : ℝ := if p < 3 then 0 else A.u (p - 3) j

/-- The convolution over a row and the three before it. -/
def xc (t : ℕ) (j : Fin 512) : ℝ :=
  A.cb j + padu A t j * A.cw 0 j + padu A (t + 1) j * A.cw 1 j + padu A (t + 2) j * A.cw 2 j + padu A (t + 3) j * A.cw 3 j

/-- The head of a column, and its place there. -/
def head (j : Fin 512) : Fin 8 := ⟨j.val / 64, by omega⟩

/-- The place of a column in its head. -/
def low (j : Fin 512) : Fin 64 := ⟨j.val % 64, by omega⟩

/-- The column at a place of a head. -/
def lane (g : Fin 8) (k : Fin 64) : Fin 512 := ⟨64 * g.val + k.val, by omega⟩

/-- A row through a gate's weight and bias. -/
def gate (w : Fin 8 → Fin 64 → Fin 64 → ℝ) (c : Fin 512 → ℝ) (t : ℕ) (j : Fin 512) : ℝ :=
  ∑ k : Fin 64, w (head j) k (low j) * xc A t (lane (head j) k) + c j

/-- The logarithm of a row's decay. -/
def la (t : ℕ) (j : Fin 512) : ℝ := -8 * sg (gate A A.wa A.ba t j) * sp (-A.lam j)

/-- A row's decay. -/
def dec (t : ℕ) (j : Fin 512) : ℝ := Real.exp (la A t j)

/-- A row's input to the recurrence. -/
def inp (t : ℕ) (j : Fin 512) : ℝ :=
  Real.sqrt (max (-(Real.exp (2 * la A t j) - 1)) floor) * (sg (gate A A.wx A.bx t j) * xc A t j)

/-- The state after row `t`. -/
def st (t : ℕ) (j : Fin 512) : ℝ := pre (fun k => dec A k j) (fun k => inp A k j) (t + 1)

end Cert.Lru

end
-- ==== Proof.LruScan.lean ====
/- One level of the reference's scan by pairs of rows, at any number of rows. -/
module

public import proofs.«01_k».proof.Proof.LruSpec
public import Idealize.ShloMosaic.Lib.Pointwise

@[expose] public section

noncomputable section

namespace Cert.Lru

open Idealize.ShloMosaic

/-- A table of rows of 512 entries. -/
abbrev Rows (n : ℕ) : Shape := ⟨2, ![n, 512]⟩

/-- The table holds the function's values. -/
def On {n : ℕ} (x : FVec Ideal (Rows n) .f32) (f : ℕ → Fin 512 → ℝ) : Prop := ∀ (i : Fin n) (j : Fin 512), x (ix2 i j) = ((f i.val j : ℝ) : EReal)

/-- An index of a table is its row and its column. -/
theorem at_ix {n : ℕ} (k : (Rows n).Idx) (i : Fin n) (j : Fin 512) (h0 : (k 0).val = i.val) (h1 : (k 1).val = j.val) : k = ix2 i j := by
  funext a
  match a with
  | ⟨0, _⟩ => exact Fin.ext h0
  | ⟨1, _⟩ => exact Fin.ext h1

/-- Every second row from row `s` on. -/
theorem slice_at {N n s : ℕ} (x : FVec Ideal (Rows N) .f32) (h : (Rows N).SlicesBy (![s, 0] : Fin 2 → ℕ) ![2, 1] (Rows n)) (i : Fin n) (j : Fin 512)
    (hi : s + 2 * i.val < N) : Host.slice (Rows n) ![s, 0] ![2, 1] x h (ix2 i j) = x (ix2 ⟨s + 2 * i.val, hi⟩ j) := by
  rw [Host.slice_apply]
  refine congrArg x (at_ix _ _ _ ?_ ?_)
  · rfl
  · show 0 + 1 * j.val = j.val
    omega

/-- The first rows. -/
theorem cut_at {N n : ℕ} (x : FVec Ideal (Rows N) .f32) (h : (Rows N).Slices (![0, 0] : Fin 2 → ℕ) (Rows n)) (i : Fin n) (j : Fin 512)
    (hi : i.val < N) : extractStridedSlice (Rows n) ![0, 0] x h (ix2 i j) = x (ix2 ⟨i.val, hi⟩ j) := by
  rw [Pointwise.extractStridedSlice_apply]
  refine congrArg x (at_ix _ _ _ ?_ ?_)
  · show 0 + i.val = i.val
    omega
  · show 0 + j.val = j.val
    omega

/-- Rows spread out to every second place, zeros between. -/
theorem spread_at {n N lo hi : ℕ} (x : FVec Ideal (Rows n) .f32) {u : Shape} (v : u.Idx → EReal)
    (h : (Rows n).Pads (![lo, 0] : Fin 2 → ℕ) ![hi, 0] ![1, 0] (Rows N)) (hu : 0 < u.numel) (hv : ∀ k, v k = 0) (i : Fin N) (j : Fin 512) :
    pad (Rows N) ![lo, 0] ![hi, 0] ![1, 0] x v h hu (ix2 i j)
      = if hin : lo ≤ i.val ∧ (i.val - lo) % 2 = 0 ∧ (i.val - lo) / 2 < n then x (ix2 ⟨(i.val - lo) / 2, hin.2.2⟩ j) else 0 := by
  rw [pad_apply]
  by_cases hin : lo ≤ i.val ∧ (i.val - lo) % 2 = 0 ∧ (i.val - lo) / 2 < n
  · rw [dif_pos hin, dif_pos]
    · refine congrArg x (at_ix _ _ _ rfl ?_)
      show (j.val - 0) / 1 = j.val
      omega
    · intro a
      match a with
      | ⟨0, _⟩ => exact hin
      | ⟨1, _⟩ =>
        show 0 ≤ j.val ∧ (j.val - 0) % 1 = 0 ∧ (j.val - 0) / 1 < 512
        omega
  · rw [dif_neg hin, dif_neg]
    · exact hv _
    · exact fun hall => hin (hall 0)

/-- The decays of pairs of rows. -/
theorem downA {N n : ℕ} {x : FVec Ideal (Rows N) .f32} {a : ℕ → Fin 512 → ℝ} (hx : On x a) (hN : N = 2 * n)
    (h0 : (Rows N).SlicesBy (![0, 0] : Fin 2 → ℕ) ![2, 1] (Rows n)) (h1 : (Rows N).SlicesBy (![1, 0] : Fin 2 → ℕ) ![2, 1] (Rows n)) :
    On (mulf (Host.slice (Rows n) ![0, 0] ![2, 1] x h0) (Host.slice (Rows n) ![1, 0] ![2, 1] x h1)) fun k j => pairA (fun t => a t j) k := by
  intro i j
  show Host.slice (Rows n) ![0, 0] ![2, 1] x h0 (ix2 i j) * Host.slice (Rows n) ![1, 0] ![2, 1] x h1 (ix2 i j) = _
  rw [slice_at x h0 i j (by omega), slice_at x h1 i j (by omega), hx, hx, ← EReal.coe_mul]
  show ((a (0 + 2 * i.val) j * a (1 + 2 * i.val) j : ℝ) : EReal) = _
  rw [Nat.zero_add, Nat.add_comm 1]; rfl

/-- The inputs of pairs of rows. -/
theorem downB {N n : ℕ} {x y : FVec Ideal (Rows N) .f32} {a b : ℕ → Fin 512 → ℝ} (hx : On x a) (hy : On y b) (hN : N = 2 * n)
    (h0 : (Rows N).SlicesBy (![0, 0] : Fin 2 → ℕ) ![2, 1] (Rows n)) (h1 : (Rows N).SlicesBy (![1, 0] : Fin 2 → ℕ) ![2, 1] (Rows n)) :
    On (addf (mulf (Host.slice (Rows n) ![1, 0] ![2, 1] x h1) (Host.slice (Rows n) ![0, 0] ![2, 1] y h0)) (Host.slice (Rows n) ![1, 0] ![2, 1] y h1))
      fun k j => pairB (fun t => a t j) (fun t => b t j) k := by
  intro i j
  show Host.slice (Rows n) ![1, 0] ![2, 1] x h1 (ix2 i j) * Host.slice (Rows n) ![0, 0] ![2, 1] y h0 (ix2 i j) + Host.slice (Rows n) ![1, 0] ![2, 1] y h1 (ix2 i j) = _
  rw [slice_at x h1 i j (by omega), slice_at y h0 i j (by omega), slice_at y h1 i j (by omega), hx, hy, hy, ← EReal.coe_mul, ← EReal.coe_add]
  show ((a (1 + 2 * i.val) j * b (0 + 2 * i.val) j + b (1 + 2 * i.val) j : ℝ) : EReal) = _
  rw [Nat.zero_add, Nat.add_comm 1]; rfl

/-- The states of all rows from those of the pairs. -/
theorem up {N n m : ℕ} {x y : FVec Ideal (Rows N) .f32} {z : FVec Ideal (Rows n) .f32} {a b : ℕ → Fin 512 → ℝ} (hx : On x a) (hy : On y b)
    (hz : On z fun k j => pre (pairA fun t => a t j) (pairB (fun t => a t j) fun t => b t j) (k + 1)) (hN : N = 2 * n) (hn : n = m + 1)
    (h2 : (Rows N).SlicesBy (![2, 0] : Fin 2 → ℕ) ![2, 1] (Rows m)) (hf : (Rows N).Slices (![0, 0] : Fin 2 → ℕ) (Rows 1))
    (hc : (Rows n).Slices (![0, 0] : Fin 2 → ℕ) (Rows m)) (hcat : Shape.Concatenates [Rows 1, Rows m] (Rows n) 0)
    (he : (Rows n).Pads (![0, 0] : Fin 2 → ℕ) ![1, 0] ![1, 0] (Rows N)) (ho : (Rows n).Pads (![1, 0] : Fin 2 → ℕ) ![0, 0] ![1, 0] (Rows N))
    {u : Shape} (v : FVec Ideal u .f32) (hv : ∀ k, v k = 0) (hu : 0 < u.numel) :
    On (addf (pad (Rows N) ![0, 0] ![1, 0] ![1, 0] (concatenate (Rows n) 0 [⟨Rows 1, extractStridedSlice (Rows 1) ![0, 0] y hf⟩, ⟨Rows m, (addf (mulf (Host.slice (Rows m) ![2, 0] ![2, 1] x h2) (extractStridedSlice (Rows m) ![0, 0] z hc)) (Host.slice (Rows m) ![2, 0] ![2, 1] y h2) : FVec Ideal (Rows m) .f32)⟩] hcat) v he hu)
        (pad (Rows N) ![1, 0] ![0, 0] ![1, 0] z v ho hu) : FVec Ideal (Rows N) .f32)
      fun k j => pre (fun t => a t j) (fun t => b t j) (k + 1) := by
  intro i j
  have hi := i.isLt
  have hz' : ∀ (k : Fin n) (l : Fin 512), z (ix2 k l) = ((pre (fun t => a t l) (fun t => b t l) (2 * (k.val + 1)) : ℝ) : EReal) :=
    fun k l => (hz k l).trans (congrArg (fun r : ℝ => (r : EReal)) (pre_pair _ _ _))
  show (pad (Rows N) ![0, 0] ![1, 0] ![1, 0] (concatenate (Rows n) 0 [⟨Rows 1, extractStridedSlice (Rows 1) ![0, 0] y hf⟩, ⟨Rows m, (addf (mulf (Host.slice (Rows m) ![2, 0] ![2, 1] x h2) (extractStridedSlice (Rows m) ![0, 0] z hc)) (Host.slice (Rows m) ![2, 0] ![2, 1] y h2) : FVec Ideal (Rows m) .f32)⟩] hcat) v he hu (ix2 i j) : EReal)
      + pad (Rows N) ![1, 0] ![0, 0] ![1, 0] z v ho hu (ix2 i j) = _
  rw [spread_at _ v he hu hv, spread_at _ v ho hu hv]
  rcases Nat.even_or_odd' i.val with ⟨q, hq | hq⟩
  · have hq' : (i.val - 0) / 2 = q := by omega
    rw [dif_pos ⟨by omega, by omega, by omega⟩, dif_neg (by omega), add_zero, concatenate_pair_apply]
    by_cases h0 : q = 0
    · subst h0
      rw [dif_pos (by show (i.val - 0) / 2 < 1; omega)]
      refine (congrArg _ (at_ix (n := 1) _ (0 : Fin 1) j (by show (i.val - 0) / 2 = 0; omega) rfl)).trans ?_
      rw [cut_at y hf _ j (by show (0 : ℕ) < N; omega), hy]
      have e : i.val = 0 := by omega
      rw [e]
      show ((b 0 j : ℝ) : EReal) = ((a 0 j * 0 + b 0 j : ℝ) : EReal)
      rw [mul_zero, zero_add]
    · obtain ⟨p, rfl⟩ : ∃ p, q = p + 1 := ⟨q - 1, by omega⟩
      have hpm : p < m := by omega
      rw [dif_neg (by show ¬(i.val - 0) / 2 < 1; omega)]
      refine (congrArg _ (at_ix (n := m) _ (⟨p, hpm⟩ : Fin m) j (by show (i.val - 0) / 2 - 1 = p; omega) rfl)).trans ?_
      show Host.slice (Rows m) ![2, 0] ![2, 1] x h2 (ix2 ⟨p, hpm⟩ j) * extractStridedSlice (Rows m) ![0, 0] z hc (ix2 ⟨p, hpm⟩ j) + Host.slice (Rows m) ![2, 0] ![2, 1] y h2 (ix2 ⟨p, hpm⟩ j) = _
      rw [slice_at x h2 _ j (by show 2 + 2 * p < N; omega), slice_at y h2 _ j (by show 2 + 2 * p < N; omega), cut_at z hc _ j (by show p < n; omega), hx, hy, hz', ← EReal.coe_mul, ← EReal.coe_add]
      show ((a (2 + 2 * p) j * pre _ _ (2 * (p + 1)) + b (2 + 2 * p) j : ℝ) : EReal) = _
      rw [hq, show 2 + 2 * p = 2 * (p + 1) from by ring]; rfl
  · rw [dif_neg (by omega), dif_pos ⟨by omega, by omega, by omega⟩, zero_add, hz']
    show ((pre _ _ (2 * ((i.val - 1) / 2 + 1)) : ℝ) : EReal) = _
    rw [show 2 * ((i.val - 1) / 2 + 1) = i.val + 1 from by omega]

end Cert.Lru

end
-- ==== Proof.LruMath.lean ====
/- The recurrent half's scalar functions over the extended reals, in the forms the two programs compute them. -/
module

public import proofs.«01_k».proof.Proof.LruSpec
public import Idealize.ShloMosaic.Lib.Pointwise

@[expose] public section

noncomputable section

namespace Cert.Lru

open Idealize.ShloMosaic
open Cert.RowNorm (div_coe_coe rsqrt_pos)

/-- The larger of two numbers. -/
theorem coe_max (x y : ℝ) : ((max x y : ℝ) : EReal) = max (x : EReal) (y : EReal) := EReal.coe_strictMono.monotone.map_max

theorem floor_pos : 0 < floor := by unfold floor; positivity

/-- The word the floor is written as. -/
theorem cfloor : Ideal.ofBits .f32 0x2B8CBCCC#32 = ((floor : ℝ) : EReal) := by
  unfold floor; simp [Ideal.ofBits, Ideal.ieee]

/-- The word minus eight is written as. -/
theorem cm8 : Ideal.ofBits .f32 0xC1000000#32 = ((-8 : ℝ) : EReal) := by
  simp [Ideal.ofBits, Ideal.ieee]; norm_cast; norm_num

/-- The word one half is written as. -/
theorem chalf : Ideal.ofBits .f32 0x3F000000#32 = ((1 / 2 : ℝ) : EReal) := by
  simp [Ideal.ofBits, Ideal.ieee]; norm_cast; norm_num

/-- The logistic function by the exponential. -/
theorem sg_exp (x : ℝ) : Ideal.div 1 (1 + Ideal.exp (-(x : EReal))) = ((sg x : ℝ) : EReal) := by
  rw [← EReal.coe_neg, Ideal.exp_coe, show (1 : EReal) = ((1 : ℝ) : EReal) from rfl, ← EReal.coe_add]
  exact div_coe_coe 1 (by positivity)

/-- The logistic function is half the hyperbolic tangent of the half, and a half. -/
theorem half_tanh (x : ℝ) : 1 / 2 * Real.tanh (1 / 2 * x) + 1 / 2 = sg x := by
  unfold sg
  rw [Real.tanh_eq_sinh_div_cosh, Real.sinh_eq, Real.cosh_eq]
  have h : Real.exp (-x) = Real.exp (-(1 / 2 * x)) * Real.exp (-(1 / 2 * x)) := by rw [← Real.exp_add]; ring_nf
  have h1 : Real.exp (1 / 2 * x) * Real.exp (-(1 / 2 * x)) = 1 := by rw [← Real.exp_add]; simp
  rw [h]
  generalize Real.exp (1 / 2 * x) = p at *
  have hq := Real.exp_pos (-(1 / 2 * x))
  generalize Real.exp (-(1 / 2 * x)) = q at *
  have hp : 0 < p := by
    by_contra hc
    have := mul_nonpos_of_nonpos_of_nonneg (not_lt.mp hc) hq.le
    linarith
  field_simp
  nlinarith

/-- The logistic function by the hyperbolic tangent. -/
theorem sg_tanh (x : ℝ) : ((1 / 2 : ℝ) : EReal) * Ideal.tanh (((1 / 2 : ℝ) : EReal) * (x : EReal)) + ((1 / 2 : ℝ) : EReal) = ((sg x : ℝ) : EReal) := by
  rw [← EReal.coe_mul, Ideal.tanh_coe, ← EReal.coe_mul, ← EReal.coe_add, half_tanh]

/-- The logarithm of one plus the exponential, by the logarithm. -/
theorem sp_log (z : ℝ) : max (z : EReal) 0 + Ideal.log (1 + Ideal.exp (-(max (z : EReal) (-(z : EReal))))) = ((sp z : ℝ) : EReal) := by
  have e : max (z : EReal) (-(z : EReal)) = ((|z| : ℝ) : EReal) := by rw [← EReal.coe_neg, ← coe_max]; rfl
  rw [e, ← EReal.coe_neg, Ideal.exp_coe, show (1 : EReal) = ((1 : ℝ) : EReal) from rfl, ← EReal.coe_add, Ideal.log_coe, if_neg (not_le.mpr (by positivity)),
    show (0 : EReal) = ((0 : ℝ) : EReal) from rfl, ← coe_max, ← EReal.coe_add]
  rfl

/-- The square root of what the floor holds up. -/
theorem root (y : ℝ) : Ideal.sqrt (max (y : EReal) ((floor : ℝ) : EReal)) = ((Real.sqrt (max y floor) : ℝ) : EReal) := by
  rw [← coe_max, Ideal.sqrt_coe, if_neg (not_lt.mpr (le_max_of_le_right floor_pos.le))]

/-- The same as the number times its reciprocal root. -/
theorem root_mul (y : ℝ) : max (y : EReal) ((floor : ℝ) : EReal) * Ideal.rsqrt (max (y : EReal) ((floor : ℝ) : EReal)) = ((Real.sqrt (max y floor) : ℝ) : EReal) := by
  have h : 0 < max y floor := lt_max_of_lt_right floor_pos
  rw [← coe_max, rsqrt_pos h, ← EReal.coe_mul]
  congr 1
  rw [← div_eq_mul_inv, Real.div_sqrt]

/-- The multiplier's square by the hyperbolic tangent. -/
theorem square_tanh (l : ℝ) : -Real.tanh l * (1 + Real.exp l * Real.exp l) = -(Real.exp (2 * l) - 1) := by
  rw [Real.tanh_eq_sinh_div_cosh, Real.sinh_eq, Real.cosh_eq]
  have h : Real.exp (2 * l) = Real.exp l * Real.exp l := by rw [← Real.exp_add]; ring_nf
  have h1 : Real.exp l * Real.exp (-l) = 1 := by rw [← Real.exp_add]; simp
  rw [h]
  have hp := Real.exp_pos l
  have hq := Real.exp_pos (-l)
  generalize Real.exp l = p at *
  generalize Real.exp (-l) = q at *
  field_simp
  nlinarith

end Cert.Lru

end
-- ==== Proof.LruBody.lean ====
/- The forward body's convolution, gates, decays and inputs at one tile, entry by entry. -/
module

public import proofs.«01_k».proof.Proof.LruScan
public import proofs.«01_k».proof.Proof.LruMath
public import proofs.«01_k».proof.Proof.Gen.MixerIdeal.Skeleton

@[expose] public section

noncomputable section

namespace Cert.Lru

open Cert.MixerIdeal Cert.MixerIdeal.Gen
open Idealize.ShloMosaic
open Cert.RowNorm (coe_sum)

/-- A tile of 512 rows holds the function's rows from row `o` on. -/
abbrev At {e : FTy} (o : ℕ) (x : FVec Ideal S512x512 e) (f : ℕ → Fin 512 → ℝ) : Prop := ∀ i j : Fin 512, x (ix2 i j) = ((f (o + i.val) j : ℝ) : EReal)

/-- A gate's weight as two block-diagonal matrices of four heads each. -/
def diag (w : Fin 8 → Fin 64 → Fin 64 → ℝ) (h : Fin 2) (x y : Fin 256) : ℝ :=
  if x.val / 64 = y.val / 64 then w ⟨4 * h.val + x.val / 64, by omega⟩ ⟨x.val % 64, by omega⟩ ⟨y.val % 64, by omega⟩ else 0

/-- The matrix holds the block-diagonal matrix. -/
def Dg (w : Fin 8 → Fin 64 → Fin 64 → ℝ) (h : Fin 2) (W : FVec Ideal S1x256x256 .bf16) : Prop := ∀ x y : Fin 256, W (ix3 0 x y) = ((diag w h x y : ℝ) : EReal)

/-- A row times the block-diagonal matrix meets one head only. -/
theorem diag_sum (w : Fin 8 → Fin 64 → Fin 64 → ℝ) (f : Fin 512 → ℝ) (h : Fin 2) (y : Fin 256) (j : Fin 512) (hj : j.val = 256 * h.val + y.val) :
    ∑ x : Fin 256, f ⟨256 * h.val + x.val, by omega⟩ * diag w h x y = ∑ k : Fin 64, w (head j) k (low j) * f (lane (head j) k) := by
  refine (Fintype.sum_of_injective (fun k : Fin 64 => (⟨64 * (y.val / 64) + k.val, by omega⟩ : Fin 256)) (fun k l e => Fin.ext (by have := congrArg Fin.val e; dsimp only at this; omega)) _ _ (fun x hx => ?_) fun k => ?_).symm
  · rw [diag, if_neg, mul_zero]
    exact fun e => hx ⟨⟨x.val % 64, by omega⟩, Fin.ext (by show 64 * (y.val / 64) + x.val % 64 = x.val; omega)⟩
  · rw [diag, if_pos (by show (64 * (y.val / 64) + k.val) / 64 = _; omega), mul_comm]
    have e : head j = ⟨4 * h.val + (64 * (y.val / 64) + k.val) / 64, by omega⟩ := Fin.ext (by show j.val / 64 = 4 * h.val + (64 * (y.val / 64) + k.val) / 64; omega)
    have e1 : low j = ⟨y.val % 64, by omega⟩ := Fin.ext (by show j.val % 64 = y.val % 64; omega)
    have e2 : k = ⟨(64 * (y.val / 64) + k.val) % 64, by omega⟩ := Fin.ext (by show k.val = (64 * (y.val / 64) + k.val) % 64; omega)
    refine congrArg₂ (· * ·) (congrArg f (Fin.ext ?_)) (by rw [e, e1]; exact congrArg (fun q => w _ q _) e2)
    show 64 * (j.val / 64) + k.val = 256 * h.val + (64 * (y.val / 64) + k.val)
    omega

/-- The vectors the body is handed as rows of one array. -/
structure Par (A : Arrays) (r : FVec Ideal S16x512 .f32) : Prop where
  cw : ∀ (k : Fin 4) (j : Fin 512), r (ix2 ⟨k.val, by omega⟩ j) = ((A.cw k j : ℝ) : EReal)
  cb : ∀ j : Fin 512, r (ix2 4 j) = ((A.cb j : ℝ) : EReal)
  ba : ∀ j : Fin 512, r (ix2 5 j) = ((A.ba j : ℝ) : EReal)
  bx : ∀ j : Fin 512, r (ix2 6 j) = ((A.bx j : ℝ) : EReal)
  lam : ∀ j : Fin 512, r (ix2 7 j) = ((A.lam j : ℝ) : EReal)

variable {A : Arrays} {o : ℕ} {r : FVec Ideal S16x512 .f32} (hr : Par A r)

include hr in
/-- The convolution. -/
theorem xc_at {v0 v1 v2 v3 : FVec Ideal S512x512 .f32} (h0 : At o v0 fun t => padu A t) (h1 : At o v1 fun t => padu A (t + 1)) (h2 : At o v2 fun t => padu A (t + 2)) (h3 : At o v3 fun t => padu A (t + 3)) :
    At o (k0_pay105 (F := Ideal) r v0 v1 v2 v3) (xc A) := by
  intro i j
  pointwise [k0_pay105, k0_pay104]
  rw [hr.cb, h0, h1, h2, h3]
  have e := fun k => hr.cw k j
  rw [show r (ix2 0 j) = _ from e 0, show r (ix2 1 j) = _ from e 1, show r (ix2 2 j) = _ from e 2, show r (ix2 3 j) = _ from e 3]
  simp only [← EReal.coe_mul, ← EReal.coe_add]
  rfl

/-- One half of a gate's product. -/
theorem half_sum {w : Fin 8 → Fin 64 → Fin 64 → ℝ} {c : Fin 512 → ℝ} (h : Fin 2) {x : FVec Ideal S512x512 .bf16} {W : FVec Ideal S1x256x256 .bf16} (hx : At o x (xc A)) (hw : Dg w h W) (i j : Fin 512) (y : Fin 256)
    (hj : j.val = 256 * h.val + y.val) (s : Fin 256 → Fin 512) (hs : ∀ k, s k = ⟨256 * h.val + k.val, by omega⟩) :
    Ideal.ofBits .f32 0x3F000000#32 * Ideal.tanh (Ideal.ofBits .f32 0x3F000000#32 * (∑ k : Fin 256, x (ix2 i (s k)) * W (ix3 0 k y) + ((c j : ℝ) : EReal))) + Ideal.ofBits .f32 0x3F000000#32
      = ((sg (gate A w c (o + i.val) j) : ℝ) : EReal) := by
  simp only [hs, hx i _, hw _ _, ← EReal.coe_mul, coe_sum, ← EReal.coe_add]
  rw [diag_sum w (xc A (o + i.val)) h y j hj, chalf]
  exact sg_tanh _

include hr in
/-- The recurrence's gate. -/
theorem ra_at {x : FVec Ideal S512x512 .bf16} {w1 w2 : FVec Ideal S1x256x256 .bf16} (hx : At o x (xc A)) (h1 : Dg A.wa 0 w1) (h2 : Dg A.wa 1 w2) :
    At o (k0_pay107 (F := Ideal) r x w1 w2) fun t j => sg (gate A A.wa A.ba t j) := by
  intro i j
  pointwise [k0_pay107]
  rw [hr.ba]
  split
  · exact half_sum 0 hx h1 i j ⟨j.val, by omega⟩ (by show j.val = 256 * 0 + j.val; omega) _ fun k => Fin.ext (by show k.val = 256 * 0 + k.val; omega)
  · exact half_sum 1 hx h2 i j ⟨j.val - 256, by omega⟩ (by show j.val = 256 * 1 + (j.val - 256); omega) _ fun k => Fin.ext (by show 256 + k.val = 256 * 1 + k.val; omega)

include hr in
/-- The input's gate. -/
theorem ia_at {x : FVec Ideal S512x512 .bf16} {w1 w2 : FVec Ideal S1x256x256 .bf16} (hx : At o x (xc A)) (h1 : Dg A.wx 0 w1) (h2 : Dg A.wx 1 w2) :
    At o (k0_pay108 (F := Ideal) r x w1 w2) fun t j => sg (gate A A.wx A.bx t j) := by
  intro i j
  pointwise [k0_pay108]
  rw [hr.bx]
  split
  · exact half_sum 0 hx h1 i j ⟨j.val, by omega⟩ (by show j.val = 256 * 0 + j.val; omega) _ fun k => Fin.ext (by show k.val = 256 * 0 + k.val; omega)
  · exact half_sum 1 hx h2 i j ⟨j.val - 256, by omega⟩ (by show j.val = 256 * 1 + (j.val - 256); omega) _ fun k => Fin.ext (by show 256 + k.val = 256 * 1 + k.val; omega)

variable {v : FVec Ideal S512x512 .f32} (hv : At o v fun t j => sg (gate A A.wa A.ba t j))
include hr hv

/-- The logarithm of the decay. -/
theorem la_at : At o (k0_pay109 (F := Ideal) r v) (la A) := by
  intro i j
  pointwise [k0_pay109]
  rw [show v (ix2 i j) = ((sg (gate A A.wa A.ba (o + i.val) j) : ℝ) : EReal) from hv i j, hr.lam, cm8, zero_sub, ← EReal.coe_neg, zero_sub]
  refine (congrArg (fun e : EReal => ((-8 : ℝ) : EReal) * _ * e) (sp_log (-A.lam j))).trans ?_
  rw [← EReal.coe_mul, ← EReal.coe_mul]
  rfl

/-- The decay. -/
theorem dec_at : At o (k0_pay112 (F := Ideal) r v) (dec A) := by
  intro i j
  pointwise [k0_pay112, k0_pay110]
  rw [la_at hr hv i j, Ideal.exp_coe]
  rfl

/-- The input's multiplier. -/
theorem mul_at : At o (k0_pay111 (F := Ideal) r v) fun t j => Real.sqrt (max (-(Real.exp (2 * la A t j) - 1)) floor) := by
  intro i j
  pointwise [k0_pay111, k0_pay110]
  rw [la_at hr hv i j, cfloor, zero_sub, Ideal.tanh_coe, Ideal.exp_coe, ← EReal.coe_neg, show (1 : EReal) = ((1 : ℝ) : EReal) from rfl, ← EReal.coe_mul, ← EReal.coe_add, ← EReal.coe_mul, square_tanh]
  exact root_mul _

omit hr in
/-- The recurrence's input. -/
theorem inp_at {g x : FVec Ideal S512x512 .f32} (hg : At o g fun t j => sg (gate A A.wx A.bx t j)) (hx : At o x (xc A)) (hr : Par A r) :
    At o (k0_pay114 (F := Ideal) (k0_pay111 r v) (k0_pay113 x g)) (inp A) := by
  intro i j
  pointwise [k0_pay114, k0_pay113]
  rw [mul_at hr hv i j, show g (ix2 i j) = _ from hg i j, hx i j, ← EReal.coe_mul, ← EReal.coe_mul]
  rfl

end Cert.Lru

end
-- ==== Proof.LruBlock.lean ====
/- Eight rows of the recurrence as the forward body scans them: three doublings, then the state carried in. -/
module

public import proofs.«01_k».proof.Proof.LruScan
public import proofs.«01_k».proof.Proof.Gen.MixerIdeal.Skeleton
public import Idealize.ShloMosaic.Lib.KernelVsHost

@[expose] public section

noncomputable section

namespace Cert.Lru

open Cert.MixerIdeal Cert.MixerIdeal.Gen
open Idealize.ShloMosaic

/-- A doubling of the decays: a row's times the row's `d` before it. -/
def stA (d : ℕ) (f : ℕ → ℝ) (r : ℕ) : ℝ := if d ≤ r then f r * f (r - d) else f r

/-- A doubling of the inputs. -/
def stB (d : ℕ) (f g : ℕ → ℝ) (r : ℕ) : ℝ := if d ≤ r then f r * g (r - d) + g r else g r

/-- After three doublings, eight rows' decays and inputs take the state before them to the state after each. -/
theorem eight (a b : ℕ → ℝ) (o r : ℕ) (hr : r < 8) :
    stA 4 (stA 2 (stA 1 fun s => a (o + s))) r * pre a b o + stB 4 (stA 2 (stA 1 fun s => a (o + s))) (stB 2 (stA 1 fun s => a (o + s)) (stB 1 (fun s => a (o + s)) fun s => b (o + s))) r
      = pre a b (o + r + 1) := by
  interval_cases r <;> simp [stA, stB, pre, ← Nat.add_assoc] <;> ring

/-- The condition that a row is at least `d` rows down, of the body's row numbers. -/
def cond (n : BitVec 32) : IVec S8x512 1 := cmpi .sge (iota .tc S8x512 32 [0] iota_S8x512_d0_w32) (broadcast S8x512 n)

theorem cond_at (n : BitVec 32) (h : n = 1#32 ∨ n = 2#32 ∨ n = 4#32) (r : Fin 8) (j : Fin 512) : cond n (ix2 r j) = if n.toNat ≤ r.val then 1#1 else 0#1 := by
  refine (show _ = IntOp.cmpi .sge (BitVec.ofNat 32 r.val) n from ?_).trans ?_
  · unfold cond
    pointwise
  · revert r
    rcases h with rfl | rfl | rfl <;> decide +kernel

/-- The row `d` rows up, turned around at the top. -/
theorem roll_at (n : BitVec 32) (h : n.toNat ≤ 8) (x : FVec Ideal S8x512 .f32) (r : Fin 8) (j : Fin 512) (hr : n.toNat ≤ r.val) :
    dynamicRotate 0 n none x rotates_S8x512_d0 (ix2 r j) = x (ix2 ⟨r.val - n.toNat, by omega⟩ j) := by
  refine dynamicRotate_apply 0 n x rotates_S8x512_d0 _ _ fun b => ?_
  match b with
  | ⟨0, _⟩ =>
    show r.val - n.toNat = (r.val + 8 - n.toNat % 8) % 8
    have := r.isLt
    rcases Nat.lt_or_eq_of_le h with h | h
    · rw [Nat.mod_eq_of_lt h]; omega
    · omega
  | ⟨1, _⟩ => rfl

variable {x y : FVec Ideal S8x512 .f32} {f g : ℕ → Fin 512 → ℝ}

/-- One doubling of the decays as the body does it. -/
theorem rotA (n : BitVec 32) (hn : n = 1#32 ∨ n = 2#32 ∨ n = 4#32) (hx : On (n := 8) x f) :
    On (n := 8) (select (cond n) (mulf x (dynamicRotate 0 n none x rotates_S8x512_d0)) x : FVec Ideal S8x512 .f32) fun r j => stA n.toNat (fun s => f s j) r := by
  intro r j
  show Scalar.select (cond n (ix2 r j)) (x (ix2 r j) * dynamicRotate 0 n none x rotates_S8x512_d0 (ix2 r j)) (x (ix2 r j)) = ((stA n.toNat (fun s => f s j) r.val : ℝ) : EReal)
  rw [cond_at n hn, stA]
  by_cases h : n.toNat ≤ r.val
  · rw [if_pos h, if_pos h, roll_at n (by rcases hn with rfl | rfl | rfl <;> decide) x r j h, hx, hx, ← EReal.coe_mul]; rfl
  · rw [if_neg h, if_neg h]; exact hx r j

/-- One doubling of the inputs as the body does it. -/
theorem rotB (n : BitVec 32) (hn : n = 1#32 ∨ n = 2#32 ∨ n = 4#32) (hx : On (n := 8) x f) (hy : On (n := 8) y g) :
    On (n := 8) (select (cond n) (addf (mulf x (dynamicRotate 0 n none y rotates_S8x512_d0)) y) y : FVec Ideal S8x512 .f32) fun r j => stB n.toNat (fun s => f s j) (fun s => g s j) r := by
  intro r j
  show Scalar.select (cond n (ix2 r j)) (x (ix2 r j) * dynamicRotate 0 n none y rotates_S8x512_d0 (ix2 r j) + y (ix2 r j)) (y (ix2 r j)) = ((stB n.toNat (fun s => f s j) (fun s => g s j) r.val : ℝ) : EReal)
  rw [cond_at n hn, stB]
  by_cases h : n.toNat ≤ r.val
  · rw [if_pos h, if_pos h, roll_at n (by rcases hn with rfl | rfl | rfl <;> decide) y r j h, hx, hy, hy, ← EReal.coe_mul, ← EReal.coe_add]; rfl
  · rw [if_neg h, if_neg h]; exact hy r j

/-- The body's row numbers. -/
abbrev rn : IVec S8x512 32 := iota .tc S8x512 32 [0] iota_S8x512_d0_w32

/-- Eight rows' states from the state before them. -/
def blk (h x y : FVec Ideal S8x512 .f32) : FVec Ideal S8x512 .f32 := k0_pay97 (F := Ideal) h (k0_pay36 rn x y) (k0_pay37 rn x)

/-- The last of eight rows, in all eight. -/
def last (v : FVec Ideal S8x512 .f32) : FVec Ideal S8x512 .f32 :=
  broadcastTo S8x512 (shapeCast S1x512 (extractStridedSlice S1x512 ![7, 0] v slices_S8x512_o7_0_S1x512) shapeCasts_S1x512_S1x512) broadcasts_S1x512_S8x512

theorem last_at (v : FVec Ideal S8x512 .f32) (r : Fin 8) (j : Fin 512) : last v (ix2 r j) = v (ix2 7 j) := by
  unfold last
  rw [shapeCast_self]
  pointwise

variable {a b : ℕ → Fin 512 → ℝ} {h : FVec Ideal S8x512 .f32} {o : ℕ}

/-- The state before row `t`. -/
abbrev bef (a b : ℕ → Fin 512 → ℝ) (t : ℕ) (j : Fin 512) : ℝ := pre (fun k => a k j) (fun k => b k j) t

theorem blk_at (hx : On (n := 8) x fun r j => a (o + r) j) (hy : On (n := 8) y fun r j => b (o + r) j) (hh : On (n := 8) h fun _ j => bef a b o j) :
    On (n := 8) (blk h x y) fun r j => bef a b (o + r + 1) j := by
  intro r j
  have hA := rotA 4#32 (.inr (.inr rfl)) (rotA 2#32 (.inr (.inl rfl)) (rotA 1#32 (.inl rfl) hx))
  have hB := rotB 4#32 (.inr (.inr rfl)) (rotA 2#32 (.inr (.inl rfl)) (rotA 1#32 (.inl rfl) hx)) (rotB 2#32 (.inr (.inl rfl)) (rotA 1#32 (.inl rfl) hx) (rotB 1#32 (.inl rfl) hx hy))
  show k0_pay37 (F := Ideal) rn x (ix2 r j) * h (ix2 r j) + k0_pay36 (F := Ideal) rn x y (ix2 r j) = _
  refine (congrArg₂ (fun p q : EReal => p * h (ix2 r j) + q) (hA r j) (hB r j)).trans ?_
  dsimp only
  rw [hh, ← EReal.coe_mul, ← EReal.coe_add]
  exact congrArg (fun t : ℝ => (t : EReal)) (eight (fun k => a k j) (fun k => b k j) o r.val r.isLt)

theorem last_on (hv : On (n := 8) h fun r j => bef a b (o + r + 1) j) : On (n := 8) (last h) fun _ j => bef a b (o + 8) j :=
  fun r j => (last_at h r j).trans (hv 7 j)

end Cert.Lru

end
-- ==== Proof.LruTrips.lean ====
/- The scan of a tile of 512 rows in the forward body: eight trips of eight blocks of eight rows, the state carried through. -/
module

public import proofs.«01_k».proof.Proof.LruBlock
public import proofs.«01_k».proof.Proof.MixFwdMem
import all proofs.«01_k».proof.Proof.Gen.MixerIdeal.Loops

@[expose] public section

set_option maxRecDepth 16384

noncomputable section

namespace Cert.Lru

open Cert.MixerIdeal Cert.MixerIdeal.Gen Cert.MixFwd
open Idealize.ShloMosaic Idealize.ShloMosaic.TcCoe

/-- The state before each of the blocks of a trip. -/
def chain (x y : ℕ → FVec Ideal S8x512 .f32) (h : FVec Ideal S8x512 .f32) : ℕ → FVec Ideal S8x512 .f32
  | 0 => h
  | n + 1 => last (blk (chain x y h n) (x n) (y n))

/-- The rows after each of the blocks of a trip. -/
def rowsOf (x y : ℕ → FVec Ideal S8x512 .f32) (h : FVec Ideal S8x512 .f32) (n : ℕ) : FVec Ideal S8x512 .f32 := blk (chain x y h n) (x n) (y n)

variable (c : Dev nD) (i : grid0.Coords) (M : Mem) (arg0 : BitVec 32) (v106 v110 : FVec Ideal S512x512 .f32)
  (X16 : BufTy.Contents (Elt Ideal) M.a16.view.ty) (X17 : BufTy.Contents (Elt Ideal) M.a17.view.ty) (init : FVec Ideal S8x512 .f32) (k : Fin k0_t1_loop.trips)

/-- Block `n` of trip `k`, read off a buffer of 512 rows. -/
def blkOf (v : Memref sig .tc .vmem S512x512 .f32) (X : BufTy.Contents (Elt Ideal) v.view.ty) (n : ℕ) : FVec Ideal S8x512 .f32 :=
  View.readAt (Elt Ideal) v.view (Rect.unit (s := S512x512) (k0_off1 k (BitVec.ofNat 32 (Fin.ofNat 8 n).val)) S8x512.size (k0_off1_inb k (Fin.ofNat 8 n))).toLoadRect X

/-- The states stored by block `n` of trip `k`. -/
def piece (acc : FVec Ideal S8x512 .f32) (n : Fin 8) : View.Piece (Elt Ideal) S512x512 .f32 :=
  ⟨Rect.unit (s := S512x512) (k0_off1 k (BitVec.ofNat 32 n.val)) S8x512.size (k0_off1_inb k n), rowsOf (blkOf k M.a16 X16) (blkOf k M.a17 X17) acc n.val⟩

/-- One trip of the scan's loop on these memrefs. -/
abbrev tripM := trip_k0_t1 (F := Ideal) Variants.none c none i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 arg0 v106 v110 rn X16 X17 k

/-- The scan's loop on these memrefs: the state carried and the stores so far. -/
abbrev scanM := st_k0_t1 (F := Ideal) Variants.none c none i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 arg0 v106 v110 rn X16 X17 init

set_option maxHeartbeats 1000000 in
/-- A trip hands on the state after its eight blocks. -/
theorem trip_res (acc : FVec Ideal S8x512 .f32) : (tripM c i M arg0 v106 v110 X16 X17 k).1 acc = chain (blkOf k M.a16 X16) (blkOf k M.a17 X17) acc 8 := by
  unfold tripM trip_k0_t1
  dsimp only
  rfl

set_option maxHeartbeats 1000000 in
/-- A trip stores the rows after each of its blocks. -/
theorem trip_list (acc : FVec Ideal S8x512 .f32) : (tripM c i M arg0 v106 v110 X16 X17 k).2.1 acc
    = [piece M X16 X17 k acc 7, piece M X16 X17 k acc 6, piece M X16 X17 k acc 5, piece M X16 X17 k acc 4, piece M X16 X17 k acc 3, piece M X16 X17 k acc 2, piece M X16 X17 k acc 1, piece M X16 X17 k acc 0] := by
  unfold tripM trip_k0_t1
  dsimp only
  rfl

variable {a b : ℕ → Fin 512 → ℝ} {o : ℕ} {X16 : BufTy.Contents (Elt Ideal) M.a16.view.ty} {X17 : BufTy.Contents (Elt Ideal) M.a17.view.ty} {init : FVec Ideal S8x512 .f32}

/-- The blocks of a buffer whose 512 rows hold `f` from row `o` on. -/
def Reads (v : Memref sig .tc .vmem S512x512 .f32) (X : BufTy.Contents (Elt Ideal) v.view.ty) (f : ℕ → Fin 512 → ℝ) (o : ℕ) : Prop :=
  ∀ (k : Fin k0_t1_loop.trips) (n : Fin 8), On (n := 8) (blkOf k v X n.val) fun r j => f (o + 64 * k.val + 8 * n.val + r) j

theorem chain_at (h16 : Reads M.a16 X16 a o) (h17 : Reads M.a17 X17 b o) {acc : FVec Ideal S8x512 .f32} (ha : On (n := 8) acc fun _ j => bef a b (o + 64 * k.val) j) (n : ℕ) (hn : n ≤ 8) :
    On (n := 8) (chain (blkOf k M.a16 X16) (blkOf k M.a17 X17) acc n) fun _ j => bef a b (o + 64 * k.val + 8 * n) j := by
  induction n with
  | zero => exact ha
  | succ n ih => exact last_on (blk_at (h16 k ⟨n, hn⟩) (h17 k ⟨n, hn⟩) (ih (Nat.le_of_succ_le hn)))

/-- The loop carries the state before the next row, and every row stored holds its state. -/
theorem scan_at (h16 : Reads M.a16 X16 a o) (h17 : Reads M.a17 X17 b o) (hi : On (n := 8) init fun _ j => bef a b o j) (k : ℕ) (hk : k ≤ 8) :
    On (n := 8) (scanM c i M arg0 v106 v110 X16 X17 init k).1 (fun _ j => bef a b (o + 64 * k) j)
      ∧ ∀ p ∈ (scanM c i M arg0 v106 v110 X16 X17 init k).2, ∀ z, p.2 z = ((bef a b (o + (p.1.emb z 0).val + 1) (p.1.emb z 1) : ℝ) : EReal) := by
  induction k with
  | zero =>
    unfold scanM
    rw [st_k0_t1_zero]
    exact ⟨hi, fun p hp => absurd hp List.not_mem_nil⟩
  | succ k ih =>
    obtain ⟨h1, h2⟩ := ih (Nat.le_of_succ_le hk)
    have e := st_k0_t1_succ (F := Ideal) Variants.none c none i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 arg0 v106 v110 rn X16 X17 init ⟨k, hk⟩
    unfold scanM at h1 h2 ⊢
    rw [e]
    refine ⟨?_, fun p hp z => ?_⟩
    · exact fun r j => (congrFun (trip_res c i M arg0 v106 v110 X16 X17 ⟨k, hk⟩ _) (ix2 r j)).trans (chain_at M ⟨k, hk⟩ h16 h17 h1 8 le_rfl r j)
    · rcases List.mem_append.mp hp with hp | hp
      · replace hp := (congrArg (p ∈ ·) (trip_list c i M arg0 v106 v110 X16 X17 ⟨k, hk⟩ _)).mp hp
        obtain ⟨n, rfl⟩ : ∃ n : Fin 8, p = piece M X16 X17 ⟨k, hk⟩ (scanM c i M arg0 v106 v110 X16 X17 init k).1 n := by
          simp only [List.mem_cons, List.not_mem_nil, or_false] at hp
          rcases hp with h | h | h | h | h | h | h | h <;> exact ⟨_, h⟩
        obtain ⟨r, l, rfl⟩ : ∃ (r : Fin 8) (l : Fin 512), z = ix2 r l := ⟨z 0, z 1, eq_ix2 z⟩
        refine (blk_at (h16 ⟨k, hk⟩ n) (h17 ⟨k, hk⟩ n) (chain_at M ⟨k, hk⟩ h16 h17 h1 n.val (Nat.le_of_lt n.isLt)) r l).trans ?_
        have eo := k0_off1_eq ⟨k, hk⟩ n
        have e0 : k0_off1 ⟨k, hk⟩ (BitVec.ofNat 32 n.val) 0 = 64 * k + 8 * n.val := congrFun eo 0
        have e1 : k0_off1 ⟨k, hk⟩ (BitVec.ofNat 32 n.val) 1 = 0 := congrFun eo 1
        refine congrArg₂ (fun t q => ((bef a b t q : ℝ) : EReal)) ?_ (Fin.ext ?_)
        · show o + 64 * k + 8 * n.val + r.val + 1 = o + (k0_off1 ⟨k, hk⟩ (BitVec.ofNat 32 n.val) 0 + 1 * r.val) + 1
          omega
        · show l.val = k0_off1 ⟨k, hk⟩ (BitVec.ofNat 32 n.val) 1 + 1 * l.val
          omega
      · exact h2 p hp z

end Cert.Lru

end
-- ==== Proof.LruTile.lean ====
/- One tile of the forward body's recurrent half: its scan from the values read, and the lists of stored rectangles read back. -/
module

public import proofs.«01_k».proof.Proof.LruBody
public import proofs.«01_k».proof.Proof.LruTrips
public import proofs.«01_k».proof.Proof.PoolPoint
public import Idealize.ShloMosaic.Lib.WritesUnit

@[expose] public section

set_option maxRecDepth 16384

noncomputable section

namespace Cert.Lru

open Cert.MixerIdeal Cert.MixerIdeal.Gen Cert.MixFwd
open Idealize.ShloMosaic Idealize.ShloMosaic.TcCoe
open Cert.Pool (idx2 idx3 hit2 mem2 canon_over whole_at readW idxW)

/-- A read of eight rows of a buffer whose newest store is the whole of it. -/
theorem eight_of (v : Memref sig .tc .vmem S512x512 .f32) (w : FVec Ideal S512x512 .f32) {off : Fin 2 → ℕ} (inb : ∀ k : Fin 2, off k + S8x512.size k ≤ S512x512.size k) (a : ℕ) (ho : off = ![a, 0]) (r : Fin 8) (j : Fin 512) (ha : a + r.val < 512) :
    View.readAt (Elt Ideal) v.view (Rect.unit (s := S512x512) off S8x512.size inb).toLoadRect (v.view.writes (Elt Ideal) v.view.junk [⟨Rect.unit (s := S512x512) ![0, 0] S512x512.size inb_S512x512_S512x512_0_0, w⟩]) (ix2 r j)
      = w (ix2 ⟨a + r.val, ha⟩ j) := by
  subst ho
  rw [View.readAt_apply, View.read_writes_junk_eq_canon]
  refine (congrArg (View.canon _) (idx2 (n := 8) (m := 512) (n' := 512) (m' := 512) inb r j (by omega) (by omega))).trans ((whole_at (n := 512) (m := 512) [] _ _).trans ?_)
  exact congrArg (fun q : Fin 512 => w (ix2 ⟨a + r.val, ha⟩ q)) (Fin.ext (Nat.zero_add _))

/-- A read of stored rows through the whole rectangle stored. -/
theorem reads_of {v : Memref sig .tc .vmem S512x512 .f32} {w : FVec Ideal S512x512 .f32} {f : ℕ → Fin 512 → ℝ} {o : ℕ} (h : At o w f) :
    Reads v (v.view.writes (Elt Ideal) v.view.junk [⟨Rect.unit (s := S512x512) ![0, 0] S512x512.size inb_S512x512_S512x512_0_0, w⟩]) f o := by
  intro k n r j
  have hk : k.val < 8 := k.isLt
  have en : Fin.ofNat 8 n.val = n := Fin.ext (Nat.mod_eq_of_lt n.isLt)
  refine (eight_of v w (k0_off1_inb k (Fin.ofNat 8 n.val)) (64 * k.val + 8 * n.val) (by rw [en]; exact k0_off1_eq k n) r j (by omega)).trans ((h _ _).trans ?_)
  exact congrArg (fun t => ((f t j : ℝ) : EReal)) (by dsimp only; omega)

/-- The values one tile's recurrent half is computed from. -/
structure Tile where
  /-- The packed vectors, and the same as first read. -/
  r : FVec Ideal S16x512 .f32
  q : FVec Ideal S16x512 .f32
  /-- The input's rows shifted by three, two, one and no rows. -/
  v0 : FVec Ideal S512x512 .f32
  v1 : FVec Ideal S512x512 .f32
  v2 : FVec Ideal S512x512 .f32
  v3 : FVec Ideal S512x512 .f32
  /-- The two halves of the gates' block-diagonal weights. -/
  wa0 : FVec Ideal S1x256x256 .bf16
  wa1 : FVec Ideal S1x256x256 .bf16
  wx0 : FVec Ideal S1x256x256 .bf16
  wx1 : FVec Ideal S1x256x256 .bf16
  /-- The state before the tile. -/
  h : FVec Ideal S8x512 .f32

namespace Tile

variable (T : Tile)

/-- The recurrence's gate. -/
def ra : FVec Ideal S512x512 .f32 := k0_pay107 T.r (k0_pay106 T.q T.v0 T.v1 T.v2 T.v3) T.wa0 T.wa1
/-- The input's gate. -/
def ia : FVec Ideal S512x512 .f32 := k0_pay108 T.r (k0_pay106 T.q T.v0 T.v1 T.v2 T.v3) T.wx0 T.wx1
/-- The input's multiplier. -/
def mu : FVec Ideal S512x512 .f32 := k0_pay111 T.r T.ra
/-- The gated input. -/
def gx : FVec Ideal S512x512 .f32 := k0_pay113 (k0_pay105 T.q T.v0 T.v1 T.v2 T.v3) T.ia
/-- The tile's scan: the state after it, and the rows stored. -/
def scan (c : Dev nD) (i : grid0.Coords) (M : Mem) := scanM c i M (BitVec.ofNat 32 (i 0).val) T.mu T.gx
  (M.a16.view.writes (Elt Ideal) M.a16.view.junk [⟨Rect.unit (s := S512x512) ![0, 0] S512x512.size inb_S512x512_S512x512_0_0, k0_pay112 (F := Ideal) T.r T.ra⟩])
  (M.a17.view.writes (Elt Ideal) M.a17.view.junk [⟨Rect.unit (s := S512x512) ![0, 0] S512x512.size inb_S512x512_S512x512_0_0, k0_pay114 (F := Ideal) T.mu T.gx⟩])
  T.h (Scf.trips 0#32 (Scalar.addi 0#32 8#32) 1#32)

/-- The tile's values are those of the arrays from row `o` on. -/
structure Ok (A : Arrays) (o : ℕ) : Prop where
  r : Par A T.r
  q : Par A T.q
  v0 : At o T.v0 fun t => padu A t
  v1 : At o T.v1 fun t => padu A (t + 1)
  v2 : At o T.v2 fun t => padu A (t + 2)
  v3 : At o T.v3 fun t => padu A (t + 3)
  wa0 : Dg A.wa 0 T.wa0
  wa1 : Dg A.wa 1 T.wa1
  wx0 : Dg A.wx 0 T.wx0
  wx1 : Dg A.wx 1 T.wx1
  h : On (n := 8) T.h fun _ j => bef (dec A) (inp A) o j

variable {T} {A : Arrays} {o : ℕ} (h : T.Ok A o)
include h

theorem Ok.xc : At o (k0_pay105 (F := Ideal) T.q T.v0 T.v1 T.v2 T.v3) (Lru.xc A) := xc_at h.q h.v0 h.v1 h.v2 h.v3
theorem Ok.xb : At o (k0_pay106 (F := Ideal) T.q T.v0 T.v1 T.v2 T.v3) (Lru.xc A) := fun i j => h.xc i j
theorem Ok.ra : At o T.ra fun t j => sg (gate A A.wa A.ba t j) := ra_at h.r h.xb h.wa0 h.wa1
theorem Ok.ia : At o T.ia fun t j => sg (gate A A.wx A.bx t j) := ia_at h.r h.xb h.wx0 h.wx1

/-- The scan carries the state on, and every row it stores holds its state. -/
theorem Ok.scan (c : Dev nD) (i : grid0.Coords) (M : Mem) : On (n := 8) (T.scan c i M).1 (fun _ j => bef (dec A) (inp A) (o + 512) j)
    ∧ ∀ p ∈ (T.scan c i M).2, ∀ z, p.2 z = ((st A (o + (p.1.emb z 0).val) (p.1.emb z 1) : ℝ) : EReal) :=
  scan_at c i M _ T.mu T.gx (reads_of (dec_at h.r h.ra)) (reads_of (inp_at h.ra h.ia h.xc h.r)) h.h 8 le_rfl

end Tile

/-! ## The gates' weights -/

theorem inbD (g : Fin 8) : ∀ k : Fin 3, (![g.val / 4, 64 * (g.val % 4), 64 * (g.val % 4)] : Fin 3 → ℕ) k + S1x64x64.size k ≤ S2x256x256.size k := by
  revert g; decide

/-- Head `g`'s block of a gate's weight. -/
def blkD (w : Fin 8 → FVec Ideal S1x64x64 .bf16) (g : Fin 8) : View.Piece (Elt Ideal) S2x256x256 .bf16 :=
  ⟨Rect.unit (s := S2x256x256) ![g.val / 4, 64 * (g.val % 4), 64 * (g.val % 4)] S1x64x64.size (inbD g), w g⟩

/-- The stores of a gate's weight: eight blocks on a zero matrix. -/
def LD (w : Fin 8 → FVec Ideal S1x64x64 .bf16) (z : FVec Ideal S2x256x256 .bf16) : List (View.Piece (Elt Ideal) S2x256x256 .bf16) :=
  [blkD w 7, blkD w 6, blkD w 5, blkD w 4, blkD w 3, blkD w 2, blkD w 1, blkD w 0] ++ [⟨Rect.unit (s := S2x256x256) ![0, 0, 0] S2x256x256.size inb_S2x256x256_S2x256x256_0_0_0, z⟩]

theorem LD_at {W : Fin 8 → Fin 64 → Fin 64 → ℝ} {w : Fin 8 → FVec Ideal S1x64x64 .bf16} {z : FVec Ideal S2x256x256 .bf16} (hw : ∀ (g : Fin 8) (a b : Fin 64), w g (ix3 0 a b) = ((W g a b : ℝ) : EReal))
    (hz : ∀ x, z x = 0) (h : Fin 2) (x y : Fin 256) : View.canon (LD w z) (ix3 h x y) = ((diag W h x y : ℝ) : EReal) := by
  refine canon_over (e := .bf16) (fun q : S2x256x256.Idx => ((diag W (q 0) (q 1) (q 2) : ℝ) : EReal)) _ (ix3 h x y) _ ?_ ?_
  · intro q hq t
    obtain ⟨g, rfl⟩ : ∃ g : Fin 8, q = blkD w g := by
      simp only [List.mem_cons, List.not_mem_nil, or_false] at hq
      rcases hq with h | h | h | h | h | h | h | h <;> exact ⟨_, h⟩
    obtain ⟨o, a, b, rfl⟩ : ∃ (o : Fin 1) (a b : Fin 64), t = ix3 o a b := ⟨t 0, t 1, t 2, by funext k; match k with | ⟨0, _⟩ => rfl | ⟨1, _⟩ => rfl | ⟨2, _⟩ => rfl⟩
    obtain rfl : o = 0 := Subsingleton.elim _ _
    refine (hw g a b).trans (congrArg _ ?_)
    have key : ∀ (h : Fin 2) (x y : Fin 256), h.val = g.val / 4 → x.val = 64 * (g.val % 4) + a.val → y.val = 64 * (g.val % 4) + b.val → W g a b = diag W h x y := by
      intro h x y hh hx hy
      rw [diag, if_pos (by omega)]
      congr 1 <;> exact Fin.ext (by dsimp only; omega)
    exact key _ _ _ (by show g.val / 4 + 1 * 0 = _; omega) (by show 64 * (g.val % 4) + 1 * a.val = _; omega) (by show 64 * (g.val % 4) + 1 * b.val = _; omega)
  · intro hn
    have key : x.val / 64 ≠ y.val / 64 := by
      intro he
      have hg : ∀ g : Fin 8, blkD w g ∈ [blkD w 7, blkD w 6, blkD w 5, blkD w 4, blkD w 3, blkD w 2, blkD w 1, blkD w 0] := by
        intro g
        fin_cases g <;> simp
      refine hn _ (hg ⟨4 * h.val + x.val / 64, by omega⟩) ?_
      unfold blkD
      rw [Rect.mem_set_unit]
      intro k
      match k with
      | ⟨0, _⟩ => show (4 * h.val + x.val / 64) / 4 ≤ h.val ∧ h.val < (4 * h.val + x.val / 64) / 4 + 1; omega
      | ⟨1, _⟩ => show 64 * ((4 * h.val + x.val / 64) % 4) ≤ x.val ∧ x.val < 64 * ((4 * h.val + x.val / 64) % 4) + 64; omega
      | ⟨2, _⟩ => show 64 * ((4 * h.val + x.val / 64) % 4) ≤ y.val ∧ y.val < 64 * ((4 * h.val + x.val / 64) % 4) + 64; omega
    refine (Cert.Pool.whole3_at [] h x y).trans ((hz _).trans ?_)
    show (0 : EReal) = ((diag W h x y : ℝ) : EReal)
    rw [diag, if_neg key]
    rfl

/-- A half of a stack that holds a gate's weight. -/
theorem dg_of {W : Fin 8 → Fin 64 → Fin 64 → ℝ} {X : FVec Ideal S2x256x256 .bf16} (hX : ∀ (h : Fin 2) (x y : Fin 256), X (ix3 h x y) = ((diag W h x y : ℝ) : EReal)) {R : FVec Ideal S1x256x256 .bf16} (h : Fin 2) (o : ℕ) (ho : h.val = o)
    (inb : ∀ k : Fin 3, (![o, 0, 0] : Fin 3 → ℕ) k + (![1, 256, 256] : Fin 3 → ℕ) k ≤ S2x256x256.size k)
    (hR : ∀ y, R y = X ((Rect.unit (s := S2x256x256) ![o, 0, 0] ![1, 256, 256] inb).toLoadRect.idx y)) : Dg W h R := by
  intro a b
  refine (hR _).trans ((congrArg X (idx3 inb 0 a b (by show o + 0 < 2; omega) (by omega) (by omega))).trans ?_)
  have e0 : (⟨o + (0 : Fin 1).val, by show o + 0 < 2; omega⟩ : Fin 2) = h := Fin.ext (by show o + 0 = h.val; omega)
  have e1 : (⟨0 + a.val, by omega⟩ : Fin 256) = a := Fin.ext (Nat.zero_add _)
  have e2 : (⟨0 + b.val, by omega⟩ : Fin 256) = b := Fin.ext (Nat.zero_add _)
  rw [e0, e1, e2]
  exact hX h a b

/-! ## The input's rows, the rows before the tile in front -/

/-- The input's row, sixteen rows early, zeros before the first. -/
def early (A : Arrays) (t : ℕ) (j : Fin 512) : ℝ := if t < 16 then 0 else A.u (t - 16) j

theorem early_pad (A : Arrays) (t : ℕ) (j : Fin 512) : early A (t + 13) j = padu A t j := by
  unfold early padu
  by_cases h : t < 3
  · rw [if_pos h, if_pos (by omega)]
  · rw [if_neg h, if_neg (by omega), show t + 13 - 16 = t - 3 by omega]

/-- A read of 512 rows of a buffer that holds the input sixteen rows early. -/
theorem pad_of {A : Arrays} {o : ℕ} {X : FVec Ideal S528x512 .f32} (hX : ∀ (p : Fin 528) (j : Fin 512), X (ix2 p j) = ((early A (o + p.val) j : ℝ) : EReal)) {R : FVec Ideal S512x512 .f32} (a d : ℕ) (ha : a = 13 + d) (hd : d ≤ 3)
    (inb : ∀ k : Fin 2, (![a, 0] : Fin 2 → ℕ) k + (![512, 512] : Fin 2 → ℕ) k ≤ S528x512.size k)
    (hR : ∀ y, R y = X ((Rect.unit (s := S528x512) ![a, 0] ![512, 512] inb).toLoadRect.idx y)) : At o R fun t => padu A (t + d) := by
  subst ha
  intro i j
  refine (hR _).trans ((congrArg X (idx2 inb i j (by omega) (by omega))).trans ((hX _ _).trans ?_))
  refine Eq.trans ?_ (congrArg (fun e : ℝ => (e : EReal)) (early_pad A (o + i.val + d) j))
  exact congrArg₂ (fun t q => ((early A t q : ℝ) : EReal)) (by dsimp only; omega) (Fin.ext (Nat.zero_add _))

/-- The tile's rows stored after sixteen rows. -/
abbrev rowsP (a : FVec Ideal S512x512 .f32) : View.Piece (Elt Ideal) S528x512 .f32 := ⟨Rect.unit (s := S528x512) ![16, 0] S512x512.size inb_S528x512_S512x512_16_0, k0_pay102 (F := Ideal) a⟩

theorem rows_at {A : Arrays} {o : ℕ} {a : FVec Ideal S512x512 .f32} (ha : At o a A.u) (L : List (View.Piece (Elt Ideal) S528x512 .f32)) (p : Fin 528) (j : Fin 512) (hp : 16 ≤ p.val) :
    View.canon (rowsP a :: L) (ix2 p j) = ((early A (o + p.val) j : ℝ) : EReal) := by
  refine (hit2 L ⟨p.val - 16, by omega⟩ j (by show p.val = 16 + (p.val - 16); omega) (by omega)).trans ?_
  refine (show k0_pay102 (F := Ideal) a _ = a _ by unfold k0_pay102; rw [shapeCast_self]).trans ((ha _ _).trans ?_)
  rw [early, if_neg (by omega)]
  exact congrArg (fun t => ((A.u t j : ℝ) : EReal)) (by dsimp only; omega)

/-- The first tile's rows: sixteen rows of zeros in front. -/
theorem rowsA_at {A : Arrays} {a : FVec Ideal S512x512 .f32} (ha : At 0 a A.u) (p : Fin 528) (j : Fin 512) :
    View.canon [rowsP a, ⟨Rect.unit (s := S528x512) ![0, 0] S16x512.size inb_S528x512_S16x512_0_0, k0_pay4 (F := Ideal)⟩] (ix2 p j) = ((early A (0 + p.val) j : ℝ) : EReal) := by
  by_cases hp : 16 ≤ p.val
  · exact rows_at ha _ p j hp
  · refine (Cert.Pool.skip2 _ (by omega)).trans ((hit2 [] ⟨p.val, by omega⟩ j (by show p.val = 0 + p.val; omega) (by omega)).trans ?_)
    refine (show k0_pay4 (F := Ideal) _ = 0 by pointwise [k0_pay4]).trans ?_
    rw [early, if_pos (by omega)]
    rfl

/-- A later tile's rows, over a buffer whose first sixteen rows hold the rows before it. -/
theorem rowsB_at {A : Arrays} {o : ℕ} {a : FVec Ideal S512x512 .f32} (ha : At o a A.u) {v : Memref sig .tc .vmem S528x512 .f32} (hv : v.IsWhole) {X : FVec Ideal S528x512 .f32}
    (hX : ∀ (p : Fin 528) (j : Fin 512), p.val < 16 → X (ix2 p j) = ((early A (o + p.val) j : ℝ) : EReal)) (p : Fin 528) (j : Fin 512) :
    v.view.read (Elt Ideal) (v.view.writes (Elt Ideal) (hv.unread X) [rowsP a]) (ix2 p j) = ((early A (o + p.val) j : ℝ) : EReal) := by
  by_cases hp : 16 ≤ p.val
  · refine (View.read_writes_cons_rows_of_mem v.view _ (o := 16) inb_S528x512_S512x512_16_0 _ [] (ix2 p j) (ix2 (⟨p.val - 16, by omega⟩ : Fin 512) j) rfl (by show p.val = 16 + (p.val - 16); omega) rfl).trans ?_
    refine (show k0_pay102 (F := Ideal) a _ = a _ by unfold k0_pay102; rw [shapeCast_self]).trans ((ha _ _).trans ?_)
    rw [early, if_neg (by omega)]
    exact congrArg (fun t => ((A.u t j : ℝ) : EReal)) (by dsimp only; omega)
  · refine (View.read_writes_cons_rows_of_not_mem v.view _ (o := 16) (W := 512) inb_S528x512_S512x512_16_0 _ [] (ix2 p j) rfl rfl (Or.inl (by show p.val < 16; omega))).trans ?_
    refine Eq.trans (b := X (ix2 p j)) ?_ (hX p j (by omega))
    exact congrFun (hv.read_unread (Val := Elt Ideal) X) (ix2 p j)

end Cert.Lru

end
-- ==== Proof.LruPoint.lean ====
/- What one point of the forward pass leaves of the recurrent half: its rows' states, and the scratch as the next point needs it. -/
module

public import proofs.«01_k».proof.Proof.LruTile
public import proofs.«01_k».proof.Proof.MixFwdStepA
public import proofs.«01_k».proof.Proof.MixFwdStepB
import all proofs.«01_k».proof.Proof.MixFwdRun

@[expose] public section

set_option maxRecDepth 16384

noncomputable section

namespace Cert.Lru

open Cert.MixerIdeal Cert.MixerIdeal.Gen Cert.MixFwd
open Idealize.ShloMosaic Idealize.ShloMosaic.TcCoe
open Cert.Pool (idx2 idx3 hit2 whole_at readW idxW)

/-- The point's blocks hold the arrays' rows. -/
structure InOk (A : Arrays) (it : ℕ) (x : In Ideal) : Prop where
  u : ∀ i j : Fin 512, x.x1 (ix2 i (⟨j.val, by omega⟩ : Fin 1536)) = ((A.u (512 * it + i.val) j : ℝ) : EReal)
  pv : Par A x.x3
  wa : ∀ (g : Fin 8) (a b : Fin 64), x.x4 (ix3 g a b) = ((A.wa g a b : ℝ) : EReal)
  wx : ∀ (g : Fin 8) (a b : Fin 64), x.x5 (ix3 g a b) = ((A.wx g a b : ℝ) : EReal)

/-- The carried scratch holds the sixteen rows before the tile, the state before it, and the gates' weights. -/
structure CarOk (A : Arrays) (it : ℕ) (s : Car Ideal) : Prop where
  e : ∀ (p : Fin 528) (j : Fin 512), p.val < 16 → s.s14 (ix2 p j) = ((early A (512 * it + p.val) j : ℝ) : EReal)
  h : On (n := 8) s.s18 fun _ j => bef (dec A) (inp A) (512 * it) j
  wa : ∀ (h : Fin 2) (x y : Fin 256), s.s19 (ix3 h x y) = ((diag A.wa h x y : ℝ) : EReal)
  wx : ∀ (h : Fin 2) (x y : Fin 256), s.s20 (ix3 h x y) = ((diag A.wx h x y : ℝ) : EReal)

/-- What a point leaves: its rows' states, and the scratch for the next one. -/
structure Done (A : Arrays) (it : ℕ) (o : FVec Ideal S512x512 .f32) (s : Car Ideal) : Prop where
  hs : At (512 * it) o (st A)
  car : CarOk A (it + 1) s

variable (c : Dev nD) (i : grid0.Coords) (M : Mem) (x : In Ideal) (s : Car Ideal)

/-- The tile's own rows of the input. -/
def rowsIn : FVec Ideal S512x512 .f32 := View.readAt (Elt Ideal) M.a1.view (Rect.unit (s := S512x1536) ![0, 0] S512x512.size inb_S512x1536_S512x512_0_0).toLoadRect (M.h1.unread x.x1)

/-- The packed vectors as read. -/
def vecsIn : FVec Ideal S16x512 .f32 := (View.readAt (Elt Ideal) M.a3.view (Rect.unit (s := S16x512) ![0, 0] S16x512.size inb_S16x512_S16x512_0_0).toLoadRect (M.h3.unread x.x3))

theorem inbG (g : Fin 8) : ∀ k : Fin 3, (![g.val, 0, 0] : Fin 3 → ℕ) k + S1x64x64.size k ≤ S8x64x64.size k := by
  revert g; decide

/-- Head `g`'s block of a gate's weight as read. -/
def headIn (a : Memref sig .tc .vmem S8x64x64 .f32) (h : a.IsWhole) (X : FVec Ideal S8x64x64 .f32) (g : Fin 8) : FVec Ideal S1x64x64 .f32 :=
  View.readAt (Elt Ideal) a.view (Rect.unit (s := S8x64x64) ![g.val, 0, 0] S1x64x64.size (inbG g)).toLoadRect (h.unread X)

/-- The blocks of the recurrence's gate. -/
def wsA (b : Fin 8 → FVec Ideal S1x64x64 .f32) : Fin 8 → FVec Ideal S1x64x64 .bf16 :=
  ![k0_pay8 (b 0), k0_pay9 (b 1), k0_pay10 (b 2), k0_pay11 (b 3), k0_pay12 (b 4), k0_pay13 (b 5), k0_pay15 (k0_pay14 (b 6)), k0_pay16 (b 7)]

/-- The blocks of the input's gate. -/
def wsX (b : Fin 8 → FVec Ideal S1x64x64 .f32) : Fin 8 → FVec Ideal S1x64x64 .bf16 :=
  ![k0_pay18 (b 0), k0_pay19 (b 1), k0_pay21 (k0_pay20 (b 2)), k0_pay22 (b 3), k0_pay23 (b 4), k0_pay24 (b 5), k0_pay25 (b 6), k0_pay26 (b 7)]

/-- The stores of the gates' weights at the first point. -/
def LA19 := LD (wsA (headIn M.a4 M.h4 x.x4)) k0_pay7
def LA20 := LD (wsX (headIn M.a5 M.h5 x.x5)) k0_pay17
/-- The stores of the input's rows at the first point. -/
def LA14 : List (View.Piece (Elt Ideal) S528x512 .f32) := [rowsP (rowsIn M x), ⟨Rect.unit (s := S528x512) ![0, 0] S16x512.size inb_S528x512_S16x512_0_0, k0_pay4 (F := Ideal)⟩]

/-- The tile's values at the first point, which fills the scratch. -/
def tileA : Tile where
  r := k0_pay104 (vecsIn M x)
  q := vecsIn M x
  v0 := M.a14.view.readCov (LA14 M x) (Rect.unit (s := S528x512) ![13, 0] S512x512.size inb_S528x512_S512x512_13_0).toLoadRect
  v1 := M.a14.view.readCov (LA14 M x) (Rect.unit (s := S528x512) ![14, 0] S512x512.size inb_S528x512_S512x512_14_0).toLoadRect
  v2 := M.a14.view.readCov (LA14 M x) (Rect.unit (s := S528x512) ![15, 0] S512x512.size inb_S528x512_S512x512_15_0).toLoadRect
  v3 := M.a14.view.readCov (LA14 M x) (Rect.unit (s := S528x512) ![16, 0] S512x512.size inb_S528x512_S512x512_16_0).toLoadRect
  wa0 := M.a19.view.readCov (LA19 M x) (Rect.unit (s := S2x256x256) ![0, 0, 0] S1x256x256.size inb_S2x256x256_S1x256x256_0_0_0).toLoadRect
  wa1 := M.a19.view.readCov (LA19 M x) (Rect.unit (s := S2x256x256) ![1, 0, 0] S1x256x256.size inb_S2x256x256_S1x256x256_1_0_0).toLoadRect
  wx0 := M.a20.view.readCov (LA20 M x) (Rect.unit (s := S2x256x256) ![0, 0, 0] S1x256x256.size inb_S2x256x256_S1x256x256_0_0_0).toLoadRect
  wx1 := M.a20.view.readCov (LA20 M x) (Rect.unit (s := S2x256x256) ![1, 0, 0] S1x256x256.size inb_S2x256x256_S1x256x256_1_0_0).toLoadRect
  h := M.a18.view.readCov (Val := Elt Ideal) [⟨Rect.unit (s := S8x512) ![0, 0] S8x512.size inb_S8x512_S8x512_0_0, k0_pay6 (F := Ideal)⟩] (Rect.unit (s := S8x512) ![0, 0] S8x512.size inb_S8x512_S8x512_0_0).toLoadRect

/-- The tile's values at a later point, which finds the scratch filled. -/
def tileB : Tile where
  r := k0_pay104 (vecsIn M x)
  q := vecsIn M x
  v0 := View.readAt (Elt Ideal) M.a14.view (Rect.unit (s := S528x512) ![13, 0] S512x512.size inb_S528x512_S512x512_13_0).toLoadRect (M.a14.view.writes (Elt Ideal) (M.h14.unread s.s14) [rowsP (rowsIn M x)])
  v1 := View.readAt (Elt Ideal) M.a14.view (Rect.unit (s := S528x512) ![14, 0] S512x512.size inb_S528x512_S512x512_14_0).toLoadRect (M.a14.view.writes (Elt Ideal) (M.h14.unread s.s14) [rowsP (rowsIn M x)])
  v2 := View.readAt (Elt Ideal) M.a14.view (Rect.unit (s := S528x512) ![15, 0] S512x512.size inb_S528x512_S512x512_15_0).toLoadRect (M.a14.view.writes (Elt Ideal) (M.h14.unread s.s14) [rowsP (rowsIn M x)])
  v3 := M.a14.view.readCov [rowsP (rowsIn M x)] (Rect.unit (s := S528x512) ![16, 0] S512x512.size inb_S528x512_S512x512_16_0).toLoadRect
  wa0 := View.readAt (Elt Ideal) M.a19.view (Rect.unit (s := S2x256x256) ![0, 0, 0] S1x256x256.size inb_S2x256x256_S1x256x256_0_0_0).toLoadRect (M.h19.unread s.s19)
  wa1 := View.readAt (Elt Ideal) M.a19.view (Rect.unit (s := S2x256x256) ![1, 0, 0] S1x256x256.size inb_S2x256x256_S1x256x256_1_0_0).toLoadRect (M.h19.unread s.s19)
  wx0 := View.readAt (Elt Ideal) M.a20.view (Rect.unit (s := S2x256x256) ![0, 0, 0] S1x256x256.size inb_S2x256x256_S1x256x256_0_0_0).toLoadRect (M.h20.unread s.s20)
  wx1 := View.readAt (Elt Ideal) M.a20.view (Rect.unit (s := S2x256x256) ![1, 0, 0] S1x256x256.size inb_S2x256x256_S1x256x256_1_0_0).toLoadRect (M.h20.unread s.s20)
  h := View.readAt (Elt Ideal) M.a18.view (Rect.unit (s := S8x512) ![0, 0] S8x512.size inb_S8x512_S8x512_0_0).toLoadRect (M.h18.unread s.s18)

/-! ## The run's stores in these terms -/

set_option maxHeartbeats 1000000 in
theorem headsA : runA.sl.H19_9 (F := Ideal) M.a4 M.h4 x.x4 = LA19 M x := rfl

set_option maxHeartbeats 1000000 in
theorem headsX : runA.sl.H20_9 (F := Ideal) M.a5 M.h5 x.x5 = LA20 M x := rfl

set_option maxHeartbeats 1000000 in
theorem list10A (hc : isFirst i) : (runA' (F := Ideal) c i M x hc).2.1 = ((tileA M x).scan c i M).2 := by
  unfold runA' runA
  dsimp only
  unfold runA.sl.r_7 runA.sl.r_8 runA.sl.H17_1 runA.sl.H16_1 runA.sl.r_7 runA.sl.r_8 runA.sl.r_5 runA.sl.r_6 runA.sl.r_4 runA.sl.r_3 runA.sl.r_2 runA.sl.v37 runA.sl.v41 runA.sl.v56 runA.sl.v60
  rw [headsA, headsX]
  rfl

set_option maxHeartbeats 1000000 in
theorem list10B (hc : ¬isFirst i) : (runB' (F := Ideal) c i M x s hc).2.1 = ((tileB M x s).scan c i M).2 := by
  unfold runB' runB
  dsimp only
  rfl

set_option maxHeartbeats 1000000 in
theorem list18A (hc : isFirst i) : ∃ L : List (View.Piece (Elt Ideal) S8x512 .f32), (runA' (F := Ideal) c i M x hc).2.2.2.2.2.2.2.2.2.1
    = (⟨Rect.unit (s := S8x512) ![0, 0] S8x512.size inb_S8x512_S8x512_0_0, k0_pay121 (F := Ideal) ((tileA M x).scan c i M).1⟩ : View.Piece (Elt Ideal) S8x512 .f32) :: L := by
  unfold runA' runA
  dsimp only
  unfold runA.sl.r_7 runA.sl.r_8 runA.sl.H17_1 runA.sl.H16_1 runA.sl.r_7 runA.sl.r_8 runA.sl.r_5 runA.sl.r_6 runA.sl.r_4 runA.sl.r_3 runA.sl.r_2 runA.sl.v37 runA.sl.v41 runA.sl.v56 runA.sl.v60
  rw [headsA, headsX]
  exact ⟨_, rfl⟩

set_option maxHeartbeats 1000000 in
theorem list18B (hc : ¬isFirst i) : ∃ L : List (View.Piece (Elt Ideal) S8x512 .f32), (runB' (F := Ideal) c i M x s hc).2.2.2.2.2.2.2.2.2.1
    = (⟨Rect.unit (s := S8x512) ![0, 0] S8x512.size inb_S8x512_S8x512_0_0, k0_pay121 (F := Ideal) ((tileB M x s).scan c i M).1⟩ : View.Piece (Elt Ideal) S8x512 .f32) :: L := by
  unfold runB' runB
  dsimp only
  exact ⟨_, rfl⟩

set_option maxHeartbeats 1000000 in
theorem list14A (hc : isFirst i) : ∃ L : List (View.Piece (Elt Ideal) S528x512 .f32), (runA' (F := Ideal) c i M x hc).2.2.2.2.2.1
    = (⟨Rect.unit (s := S528x512) ![0, 0] S16x512.size inb_S528x512_S16x512_0_0, k0_pay2 (F := Ideal) (M.a14.view.readCov (LA14 M x) (Rect.unit (s := S528x512) ![512, 0] S16x512.size inb_S528x512_S16x512_512_0).toLoadRect)⟩ : View.Piece (Elt Ideal) S528x512 .f32) :: L := by
  unfold runA' runA
  dsimp only
  exact ⟨_, rfl⟩

set_option maxHeartbeats 1000000 in
theorem list14B (hc : ¬isFirst i) : ∃ L : List (View.Piece (Elt Ideal) S528x512 .f32), (runB' (F := Ideal) c i M x s hc).2.2.2.2.2.1
    = (⟨Rect.unit (s := S528x512) ![0, 0] S16x512.size inb_S528x512_S16x512_0_0, k0_pay2 (F := Ideal) (M.a14.view.readCov [rowsP (rowsIn M x)] (Rect.unit (s := S528x512) ![512, 0] S16x512.size inb_S528x512_S16x512_512_0).toLoadRect)⟩ : View.Piece (Elt Ideal) S528x512 .f32) :: L := by
  unfold runB' runB
  dsimp only
  exact ⟨_, rfl⟩

set_option maxHeartbeats 1000000 in
theorem list19A (hc : isFirst i) : (runA' (F := Ideal) c i M x hc).2.2.2.2.2.2.2.2.2.2.1 = LA19 M x := by
  unfold runA' runA
  dsimp only
  rfl

set_option maxHeartbeats 1000000 in
theorem list20A (hc : isFirst i) : (runA' (F := Ideal) c i M x hc).2.2.2.2.2.2.2.2.2.2.2.1 = LA20 M x := by
  unfold runA' runA
  dsimp only
  rfl

end Cert.Lru

end
-- ==== Proof.LruDone.lean ====
/- Every point of the forward pass leaves its rows' states. -/
module

public import proofs.«01_k».proof.Proof.LruPoint

@[expose] public section

set_option maxRecDepth 16384

noncomputable section

namespace Cert.Lru

open Cert.MixerIdeal Cert.MixerIdeal.Gen Cert.MixFwd
open Idealize.ShloMosaic Idealize.ShloMosaic.TcCoe
open Cert.Pool (idx2 idx3 hit2 whole_at readW idxW)

variable {A : Arrays} {it : ℕ} {c : Dev nD} {i : grid0.Coords} {M : Mem} {x : In Ideal} {s : Car Ideal}

/-- The tile's rows as read. -/
theorem rows_in (hx : InOk A it x) : At (512 * it) (rowsIn M x) A.u := fun p j => by
  refine (Memref.IsWhole.readAt_unread M.h1 x.x1 _ _).trans ((congrArg x.x1 (idx2 inb_S512x1536_S512x512_0_0 p j (by omega) (by omega))).trans ?_)
  exact Eq.trans (congrArg₂ (fun (a : Fin 512) (b : Fin 1536) => x.x1 (ix2 a b)) (Fin.ext (Nat.zero_add _)) (Fin.ext (Nat.zero_add _))) (hx.u p j)

/-- The packed vectors as read. -/
theorem vecs_in (hx : InOk A it x) : Par A (vecsIn M x) := by
  have hr : ∀ (p : Fin 16) (j : Fin 512), vecsIn M x (ix2 p j) = x.x3 (ix2 p j) := fun p j => readW M.h3 x.x3 inb_S16x512_S16x512_0_0 p j
  exact ⟨fun k j => (hr _ j).trans (hx.pv.cw k j), fun j => (hr _ j).trans (hx.pv.cb j), fun j => (hr _ j).trans (hx.pv.ba j), fun j => (hr _ j).trans (hx.pv.bx j), fun j => (hr _ j).trans (hx.pv.lam j)⟩

/-- A cast to the same shape keeps the packed vectors. -/
theorem vecs_cast {r : FVec Ideal S16x512 .f32} (h : Par A r) : Par A (k0_pay104 (F := Ideal) r) := by
  have e : k0_pay104 (F := Ideal) r = r := by unfold k0_pay104; rw [shapeCast_self]
  rw [e]; exact h

/-- A head's block as read. -/
theorem head_in {W : Fin 8 → Fin 64 → Fin 64 → ℝ} {a : Memref sig .tc .vmem S8x64x64 .f32} {h : a.IsWhole} {X : FVec Ideal S8x64x64 .f32} (hX : ∀ (g : Fin 8) (p q : Fin 64), X (ix3 g p q) = ((W g p q : ℝ) : EReal)) (g : Fin 8) (p q : Fin 64) :
    headIn a h X g (ix3 0 p q) = ((W g p q : ℝ) : EReal) := by
  unfold headIn
  refine (Memref.IsWhole.readAt_unread (Val := Elt Ideal) h X _ _).trans ((congrArg X (idx3 (inbG g) 0 p q (by show g.val + 0 < 8; omega) (by omega) (by omega))).trans ?_)
  have e0 : (⟨g.val + (0 : Fin 1).val, by show g.val + 0 < 8; omega⟩ : Fin 8) = g := Fin.ext (by show g.val + 0 = g.val; omega)
  have e1 : (⟨0 + p.val, by omega⟩ : Fin 64) = p := Fin.ext (Nat.zero_add _)
  have e2 : (⟨0 + q.val, by omega⟩ : Fin 64) = q := Fin.ext (Nat.zero_add _)
  rw [e0, e1, e2]
  exact hX g p q

/-- The casts of a head's block keep its entries. -/
theorem casts (b : FVec Ideal S1x64x64 .f32) (p q : Fin 64) : k0_pay8 (F := Ideal) b (ix3 0 p q) = b (ix3 0 p q) ∧ k0_pay15 (F := Ideal) (k0_pay14 b) (ix3 0 p q) = b (ix3 0 p q) := by
  constructor
  · pointwise [k0_pay8]
  · pointwise [k0_pay15, k0_pay14]

theorem wsA_at (b : Fin 8 → FVec Ideal S1x64x64 .f32) (g : Fin 8) (p q : Fin 64) : wsA b g (ix3 0 p q) = b g (ix3 0 p q) := by
  match g with
  | 0 => exact (casts (b 0) p q).1
  | 1 => exact (casts (b 1) p q).1
  | 2 => exact (casts (b 2) p q).1
  | 3 => exact (casts (b 3) p q).1
  | 4 => exact (casts (b 4) p q).1
  | 5 => exact (casts (b 5) p q).1
  | 6 => exact (casts (b 6) p q).2
  | 7 => exact (casts (b 7) p q).1

theorem wsX_at (b : Fin 8 → FVec Ideal S1x64x64 .f32) (g : Fin 8) (p q : Fin 64) : wsX b g (ix3 0 p q) = b g (ix3 0 p q) := by
  match g with
  | 0 => exact (casts (b 0) p q).1
  | 1 => exact (casts (b 1) p q).1
  | 2 => exact (casts (b 2) p q).2
  | 3 => exact (casts (b 3) p q).1
  | 4 => exact (casts (b 4) p q).1
  | 5 => exact (casts (b 5) p q).1
  | 6 => exact (casts (b 6) p q).1
  | 7 => exact (casts (b 7) p q).1

theorem zero7 (y : S2x256x256.Idx) : k0_pay7 (F := Ideal) y = 0 := by pointwise [k0_pay7]
theorem zero17 (y : S2x256x256.Idx) : k0_pay17 (F := Ideal) y = 0 := by pointwise [k0_pay17]

/-- The gates' weights after the first point's stores. -/
theorem la19_at (hx : InOk A it x) (h : Fin 2) (p q : Fin 256) : View.canon (LA19 M x) (ix3 h p q) = ((diag A.wa h p q : ℝ) : EReal) :=
  LD_at (fun g a b => (wsA_at _ g a b).trans (head_in hx.wa g a b)) zero7 h p q
theorem la20_at (hx : InOk A it x) (h : Fin 2) (p q : Fin 256) : View.canon (LA20 M x) (ix3 h p q) = ((diag A.wx h p q : ℝ) : EReal) :=
  LD_at (fun g a b => (wsX_at _ g a b).trans (head_in hx.wx g a b)) zero17 h p q
theorem la14_at (hx : InOk A 0 x) (p : Fin 528) (j : Fin 512) : View.canon (LA14 M x) (ix2 p j) = ((early A (0 + p.val) j : ℝ) : EReal) :=
  rowsA_at (rows_in hx) p j

/-- A covered read is the list's entry. -/
theorem cov_at {S : Shape} {e : EltTy} (v : View sig .tc .vmem S e) (L : List (View.Piece (Elt Ideal) S e)) (r : LoadRect S) (y : r.shape.Idx) : v.readCov L r y = View.canon L (r.idx y) :=
  congrFun (View.readCov_eq_canon' v L r) y

/-- The first point's shifted rows. -/
theorem shiftA (hx : InOk A 0 x) (a d : ℕ) (ha : a = 13 + d) (hd : d ≤ 3) (inb : ∀ k : Fin 2, (![a, 0] : Fin 2 → ℕ) k + (![512, 512] : Fin 2 → ℕ) k ≤ S528x512.size k) :
    At (e := .f32) 0 (M.a14.view.readCov (LA14 M x) (Rect.unit (s := S528x512) ![a, 0] ![512, 512] inb).toLoadRect) fun t => padu A (t + d) :=
  pad_of (la14_at (M := M) hx) a d ha hd inb fun y => cov_at M.a14.view (LA14 M x) (Rect.unit (s := S528x512) ![a, 0] ![512, 512] inb).toLoadRect y

/-- A gate's weight, read from stores that hold it. -/
theorem gateA {W : Fin 8 → Fin 64 → Fin 64 → ℝ} (v : View sig .tc .vmem S2x256x256 .bf16) (L : List (View.Piece (Elt Ideal) S2x256x256 .bf16)) (hL : ∀ (h : Fin 2) (p q : Fin 256), View.canon L (ix3 h p q) = ((diag W h p q : ℝ) : EReal)) (h : Fin 2) (o : ℕ) (ho : h.val = o)
    (inb : ∀ k : Fin 3, (![o, 0, 0] : Fin 3 → ℕ) k + (![1, 256, 256] : Fin 3 → ℕ) k ≤ S2x256x256.size k) : Dg W h (v.readCov L (Rect.unit (s := S2x256x256) ![o, 0, 0] ![1, 256, 256] inb).toLoadRect) :=
  dg_of hL h o ho inb fun y => cov_at v L (Rect.unit (s := S2x256x256) ![o, 0, 0] ![1, 256, 256] inb).toLoadRect y

/-- The first point finds the state zero. -/
theorem zeroA (v : View sig .tc .vmem S8x512 .f32) : On (n := 8) (v.readCov (Val := Elt Ideal) [⟨Rect.unit (s := S8x512) ![0, 0] S8x512.size inb_S8x512_S8x512_0_0, k0_pay6 (F := Ideal)⟩] (Rect.unit (s := S8x512) ![0, 0] S8x512.size inb_S8x512_S8x512_0_0).toLoadRect) fun _ j => bef (dec A) (inp A) 0 j := fun p j => by
  rw [View.readCov_eq_canon']
  refine (congrArg (View.canon _) (idxW inb_S8x512_S8x512_0_0 p j)).trans ((whole_at _ p j).trans ?_)
  exact (show k0_pay6 (F := Ideal) _ = 0 by pointwise [k0_pay6]).trans EReal.coe_zero.symm

/-- The first point's tile. -/
theorem tileA_ok (hx : InOk A 0 x) : (tileA M x).Ok A 0 := by
  unfold tileA
  exact Tile.Ok.mk (vecs_cast (vecs_in hx)) (vecs_in hx) (shiftA hx 13 0 rfl (by omega) inb_S528x512_S512x512_13_0) (shiftA hx 14 1 rfl (by omega) inb_S528x512_S512x512_14_0)
    (shiftA hx 15 2 rfl (by omega) inb_S528x512_S512x512_15_0) (shiftA hx 16 3 rfl (by omega) inb_S528x512_S512x512_16_0)
    (gateA M.a19.view (LA19 M x) (la19_at hx) 0 0 rfl inb_S2x256x256_S1x256x256_0_0_0) (gateA M.a19.view (LA19 M x) (la19_at hx) 1 1 rfl inb_S2x256x256_S1x256x256_1_0_0)
    (gateA M.a20.view (LA20 M x) (la20_at hx) 0 0 rfl inb_S2x256x256_S1x256x256_0_0_0) (gateA M.a20.view (LA20 M x) (la20_at hx) 1 1 rfl inb_S2x256x256_S1x256x256_1_0_0) (zeroA M.a18.view)

/-- A later point's tile. -/
theorem tileB_ok (hx : InOk A it x) (hs : CarOk A it s) : (tileB M x s).Ok A (512 * it) where
  r := vecs_cast (vecs_in hx)
  q := vecs_in hx
  v0 := pad_of (rowsB_at (rows_in hx) M.h14 hs.e) 13 0 rfl (by omega) inb_S528x512_S512x512_13_0 fun y => View.readAt_apply _ _ _
  v1 := pad_of (rowsB_at (rows_in hx) M.h14 hs.e) 14 1 rfl (by omega) inb_S528x512_S512x512_14_0 fun y => View.readAt_apply _ _ _
  v2 := pad_of (rowsB_at (rows_in hx) M.h14 hs.e) 15 2 rfl (by omega) inb_S528x512_S512x512_15_0 fun y => View.readAt_apply _ _ _
  v3 := fun p j => by
    unfold tileB
    dsimp only
    rw [View.readCov_eq_canon']
    refine (congrArg (View.canon _) (idx2 inb_S528x512_S512x512_16_0 p j (by omega) (by omega))).trans ?_
    refine (rows_at (rows_in hx) [] _ _ (by dsimp only; omega)).trans ?_
    rw [early, if_neg (by dsimp only; omega), padu, if_neg (by omega)]
    exact congrArg₂ (fun t j => ((A.u t j : ℝ) : EReal)) (by dsimp only; omega) (Fin.ext (Nat.zero_add _))
  wa0 := dg_of hs.wa 0 0 rfl inb_S2x256x256_S1x256x256_0_0_0 fun y => Memref.IsWhole.readAt_unread M.h19 s.s19 _ _
  wa1 := dg_of hs.wa 1 1 rfl inb_S2x256x256_S1x256x256_1_0_0 fun y => Memref.IsWhole.readAt_unread M.h19 s.s19 _ _
  wx0 := dg_of hs.wx 0 0 rfl inb_S2x256x256_S1x256x256_0_0_0 fun y => Memref.IsWhole.readAt_unread M.h20 s.s20 _ _
  wx1 := dg_of hs.wx 1 1 rfl inb_S2x256x256_S1x256x256_1_0_0 fun y => Memref.IsWhole.readAt_unread M.h20 s.s20 _ _
  h p j := (readW M.h18 s.s18 inb_S8x512_S8x512_0_0 p j).trans (hs.h p j)

/-- The rows handed on are the tile's last ones. -/
theorem next_e (hx : InOk A it x) (L L' : List (View.Piece (Elt Ideal) S528x512 .f32)) (p : Fin 528) (j : Fin 512) (hp : p.val < 16) :
    View.canon ((⟨Rect.unit (s := S528x512) ![0, 0] S16x512.size inb_S528x512_S16x512_0_0, k0_pay2 (F := Ideal) (M.a14.view.readCov (rowsP (rowsIn M x) :: L) (Rect.unit (s := S528x512) ![512, 0] S16x512.size inb_S528x512_S16x512_512_0).toLoadRect)⟩ : View.Piece (Elt Ideal) S528x512 .f32) :: L') (ix2 p j)
      = ((early A (512 * (it + 1) + p.val) j : ℝ) : EReal) := by
  refine (hit2 L' (⟨p.val, hp⟩ : Fin 16) j (by show p.val = 0 + p.val; omega) (by omega)).trans ?_
  have e : ∀ a : FVec Ideal S16x512 .f32, k0_pay2 (F := Ideal) a = a := fun a => by unfold k0_pay2; rw [shapeCast_self]
  rw [e, View.readCov_eq_canon']
  refine (congrArg (View.canon _) (idx2 inb_S528x512_S16x512_512_0 (⟨p.val, hp⟩ : Fin 16) j (by dsimp only; omega) (by omega))).trans ?_
  refine (rows_at (rows_in hx) L _ _ (by dsimp only; omega)).trans ?_
  exact congrArg₂ (fun t j => ((early A t j : ℝ) : EReal)) (by dsimp only; omega) (Fin.ext (Nat.zero_add _))

/-- The rows stored by the scan are the block's. -/
theorem hs_of {v : View sig .tc .vmem S512x512 .f32} {o : ℕ} {L : List (View.Piece (Elt Ideal) S512x512 .f32)} (hL : ∀ p ∈ L, ∀ z, p.2 z = ((st A (o + (p.1.emb z 0).val) (p.1.emb z 1) : ℝ) : EReal))
    (hc : ∀ y : S512x512.Idx, ∃ pc ∈ L, y ∈ pc.1.set) : At (e := .f32) o (v.read (Elt Ideal) (v.writes (Elt Ideal) v.junk L)) (st A) := fun p j => by
  rw [View.read_writes_junk_eq_canon]
  exact View.canon_apply_of_pieces (fun y : S512x512.Idx => ((st A (o + (y 0).val) (y 1) : ℝ) : EReal)) L hL (ix2 p j) (hc _)

/-- The state stored after the scan. -/
theorem car_h {v : View sig .tc .vmem S8x512 .f32} {o : ℕ} {a : FVec Ideal S8x512 .f32} (ha : On (n := 8) a fun _ j => bef (dec A) (inp A) o j) (L : List (View.Piece (Elt Ideal) S8x512 .f32)) {L' : List (View.Piece (Elt Ideal) S8x512 .f32)}
    (hL : L' = (⟨Rect.unit (s := S8x512) ![0, 0] S8x512.size inb_S8x512_S8x512_0_0, k0_pay121 (F := Ideal) a⟩ : View.Piece (Elt Ideal) S8x512 .f32) :: L) : On (n := 8) (v.read (Elt Ideal) (v.writes (Elt Ideal) v.junk L')) fun _ j => bef (dec A) (inp A) o j := fun p j => by
  rw [View.read_writes_junk_eq_canon, hL]
  refine (whole_at _ p j).trans ?_
  have e : k0_pay121 (F := Ideal) a = a := by unfold k0_pay121; rw [shapeCast_self]
  rw [e]; exact ha p j

set_option maxHeartbeats 2000000 in
/-- The first point. -/
theorem doneA (hc : isFirst i) (hx : InOk A 0 x) : Done A 0 (outA (F := Ideal) c i M x hc).o10 (carA (F := Ideal) c i M x hc) := by
  obtain ⟨h1, h2⟩ := (tileA_ok (M := M) hx).scan c i M
  refine ⟨hs_of (fun p hp => h2 p ((congrArg (p ∈ ·) (list10A c i M x hc)).mp hp)) (covA10 c i M x hc), ⟨fun p j hp => ?_, ?_, fun h y z => ?_, fun h y z => ?_⟩⟩
  · obtain ⟨L, e⟩ := list14A c i M x hc
    refine (congrFun (View.read_writes_junk_eq_canon M.a14.view (runA' (F := Ideal) c i M x hc).2.2.2.2.2.1) (ix2 p j)).trans ((congrArg (fun L => View.canon L (ix2 p j)) e).trans ?_)
    exact next_e hx _ L p j hp
  · obtain ⟨L, e⟩ := list18A c i M x hc
    exact car_h h1 L e
  · refine (congrFun (View.read_writes_junk_eq_canon M.a19.view (runA' (F := Ideal) c i M x hc).2.2.2.2.2.2.2.2.2.2.1) (ix3 h y z)).trans ((congrArg (fun L => View.canon L (ix3 h y z)) (list19A c i M x hc)).trans ?_)
    exact la19_at hx h y z
  · refine (congrFun (View.read_writes_junk_eq_canon M.a20.view (runA' (F := Ideal) c i M x hc).2.2.2.2.2.2.2.2.2.2.2.1) (ix3 h y z)).trans ((congrArg (fun L => View.canon L (ix3 h y z)) (list20A c i M x hc)).trans ?_)
    exact la20_at hx h y z

/-- A later point. -/
theorem doneB (hc : ¬isFirst i) (hx : InOk A it x) (hs : CarOk A it s) : Done A it (outB (F := Ideal) c i M x s hc).o10 (carB (F := Ideal) c i M x s hc) := by
  obtain ⟨h1, h2⟩ := (tileB_ok (M := M) hx hs).scan c i M
  refine ⟨hs_of (fun p hp => h2 p ((congrArg (p ∈ ·) (list10B c i M x s hc)).mp hp)) (covB10 c i M x s hc), ⟨fun p j hp => ?_, ?_, hs.wa, hs.wx⟩⟩
  · obtain ⟨L, e⟩ := list14B c i M x s hc
    refine (congrFun (View.read_writes_junk_eq_canon M.a14.view (runB' (F := Ideal) c i M x s hc).2.2.2.2.2.1) (ix2 p j)).trans ((congrArg (fun L => View.canon L (ix2 p j)) e).trans ?_)
    exact next_e hx _ L p j hp
  · obtain ⟨L, e⟩ := list18B c i M x s hc
    exact car_h h1 L e

end Cert.Lru

end
-- ==== Proof.LruResults.lean ====
/- The mixer's kernel program, its recurrent half: the states it returns, from arguments with real entries. -/
module

public import proofs.«01_k».proof.Proof.LruDone
public import proofs.«01_k».proof.Proof.PoolKernel

@[expose] public section

set_option maxRecDepth 16384

noncomputable section

namespace Cert.Lru

open Cert.MixerIdeal Cert.MixerIdeal.Gen Cert.MixFwd Cert.MixerRun
open Idealize.ShloMosaic Idealize.ShloMosaic.TcCoe

/-- The arrays the forward region finds hold real entries. -/
structure ArrOk (A : Arrays) (V : (c : Dev nD) → Valuation τ sig (Elt Ideal)) (c : Dev nD) : Prop where
  u : ∀ (t : Fin 8192) (j : Fin 512), (V c main_arg2 : FVec Ideal S8192x1536 .f32) (ix2 t (⟨j.val, by omega⟩ : Fin 1536)) = ((A.u t.val j : ℝ) : EReal)
  pv : Par A (V c main_v2 : FVec Ideal S16x512 .f32)
  wa : ∀ (g : Fin 8) (a b : Fin 64), (V c main_v14 : FVec Ideal S8x64x64 .f32) (ix3 g a b) = ((A.wa g a b : ℝ) : EReal)
  wx : ∀ (g : Fin 8) (a b : Fin 64), (V c main_v15 : FVec Ideal S8x64x64 .f32) (ix3 g a b) = ((A.wx g a b : ℝ) : EReal)

/-- The blocks the windows hold at a point. -/
theorem idxs : ∀ t : Fin cfg0.N, win0_0.index t = ![t.val, 0] ∧ win0_2.index t = ![0, 0] ∧ win0_3.index t = ![0, 0, 0] ∧ win0_4.index t = ![0, 0, 0] ∧ win0_9.index t = ![t.val, 0] :=
  (by decide +kernel : ∀ t : Fin grid0.N, _)

section Region

variable {A : Arrays} {V : (c : Dev nD) → Valuation τ sig (Elt Ideal)} {c : Dev nD}

theorem lt_of (t : Fin cfg0.N) : t.val < 16 := Nat.lt_of_lt_of_eq t.isLt N_0

theorem u_in (t : Fin cfg0.N) (i j : Fin 512) : (iblk V c 0 t : FVec Ideal S512x1536 .f32) (ix2 i (⟨j.val, by omega⟩ : Fin 1536))
    = (V c main_arg2 : FVec Ideal S8192x1536 .f32) (ix2 ⟨512 * t.val + i.val, by have := lt_of t; omega⟩ (⟨j.val, by omega⟩ : Fin 1536)) := by
  blk_simp [iblk]
  blk_ext [idxs t]

theorem pv_in (t : Fin cfg0.N) (p : Fin 16) (j : Fin 512) : (iblk V c 2 t : FVec Ideal S16x512 .f32) (ix2 p j) = (V c main_v2 : FVec Ideal S16x512 .f32) (ix2 p j) := by
  blk_simp [iblk]
  blk_ext [idxs t]

theorem wa_in (t : Fin cfg0.N) (g : Fin 8) (a b : Fin 64) : (iblk V c 3 t : FVec Ideal S8x64x64 .f32) (ix3 g a b) = (V c main_v14 : FVec Ideal S8x64x64 .f32) (ix3 g a b) := by
  blk_simp [iblk]
  blk_ext [idxs t]

theorem wx_in (t : Fin cfg0.N) (g : Fin 8) (a b : Fin 64) : (iblk V c 4 t : FVec Ideal S8x64x64 .f32) (ix3 g a b) = (V c main_v15 : FVec Ideal S8x64x64 .f32) (ix3 g a b) := by
  blk_simp [iblk]
  blk_ext [idxs t]

/-- A point's blocks hold the rows of the arrays. -/
theorem ins_ok (h : ArrOk A V c) (t : Fin cfg0.N) : InOk A t.val (ins V c t) where
  u i j := (u_in t i j).trans (h.u _ j)
  pv := ⟨fun k j => (pv_in t _ j).trans (h.pv.cw k j), fun j => (pv_in t 4 j).trans (h.pv.cb j), fun j => (pv_in t 5 j).trans (h.pv.ba j), fun j => (pv_in t 6 j).trans (h.pv.bx j), fun j => (pv_in t 7 j).trans (h.pv.lam j)⟩
  wa g a b := (wa_in t g a b).trans (h.wa g a b)
  wx g a b := (wx_in t g a b).trans (h.wx g a b)

/-- Every point leaves its rows' states. -/
theorem at_ok (h : ArrOk A V c) : ∀ (n : ℕ) (hn : n < cfg0.N), Done A n (outsAt V c n hn).1.o10 (outsAt V c n hn).2
  | 0, hn => doneA ((first_iff ⟨0, hn⟩).mpr rfl) (ins_ok h ⟨0, hn⟩)
  | n + 1, hn => doneB (fun h => Nat.succ_ne_zero n ((first_iff ⟨n + 1, hn⟩).mp h)) (ins_ok h ⟨n + 1, hn⟩) (at_ok h n (Nat.lt_of_succ_lt hn)).car

/-- The position of the point that works on a row. -/
theorem at_lt (t : Fin 8192) : t.val / 512 < cfg0.N := Nat.lt_of_lt_of_eq (by omega) N_0.symm

/-- The states' array: each point's block. -/
def G9 (V : (c : Dev nD) → Valuation τ sig (Elt Ideal)) (c : Dev nD) : FVec Ideal S8192x512 .f32 := fun y =>
  (outsAt V c ((y 0).val / 512) (at_lt (y 0))).1.o10 (ix2 (⟨(y 0).val % 512, Nat.mod_lt _ (by decide)⟩ : Fin 512) (y 1))

/-- The states' array after the region. -/
theorem arr9 : (dat V c).arrAt 9 cfg0.N = G9 V c := by
  refine (dat V c).arrAt_eq_of_covers 9 (G9 V c) (by decide +kernel) fun t hf y => ?_
  blk_simp
  rw [after_9]
  have ht : t.val < 16 := lt_of t
  obtain ⟨i, j, rfl⟩ : ∃ (i : Fin 512) (j : Fin 512), y = ix2 i j := ⟨y 0, y 1, eq_ix2 y⟩
  have hj : (win0_9.blk t).view.emb (ix2 i j) = ix2 (⟨512 * t.val + i.val, by omega⟩ : Fin 8192) j := by blk_ext [idxs t]
  rw [hj]
  have key : ∀ (n : ℕ) (hn : n < cfg0.N) (r : Fin 512), n = t.val → r = i → (outsAt V c t.val t.isLt).1.o10 (ix2 i j) = (outsAt V c n hn).1.o10 (ix2 r j) := by
    rintro n hn r rfl rfl; rfl
  exact key _ _ _ (by show (512 * t.val + i.val) / 512 = t.val; omega) (Fin.ext (by show (512 * t.val + i.val) % 512 = i.val; omega))

/-- The states, in the region's array. -/
theorem hs_end (h : ArrOk A V c) (t : Fin 8192) (j : Fin 512) : (dat V c).arrAt 9 cfg0.N (ix2 t j) = ((st A t.val j : ℝ) : EReal) := by
  rw [arr9]
  refine ((at_ok h _ (at_lt t)).hs (⟨t.val % 512, Nat.mod_lt _ (by decide)⟩ : Fin 512) j).trans ?_
  exact congrArg (fun t => ((st A t j : ℝ) : EReal)) (by show 512 * (t.val / 512) + t.val % 512 = t.val; omega)

end Region

variable (m : (ℓ : Loc nD τ sig) → Buf (Elt Ideal) ℓ) (c : Dev nD)

/-- The arguments hold real entries. -/
structure ArgOk (A : Arrays) : Prop where
  u : ∀ (t : Fin 8192) (j : Fin 512), (m ((c : Thread nD τ).loc main_arg2) : FVec Ideal S8192x1536 .f32) (ix2 t (⟨j.val, by omega⟩ : Fin 1536)) = ((A.u t.val j : ℝ) : EReal)
  cw : ∀ (k : Fin 4) (j : Fin 512), (m ((c : Thread nD τ).loc main_arg4) : FVec Ideal S1x4x512 .f32) (ix3 0 k j) = ((A.cw k j : ℝ) : EReal)
  cb : ∀ j : Fin 512, (m ((c : Thread nD τ).loc main_arg5) : FVec Ideal S1x512 .f32) (ix2 0 j) = ((A.cb j : ℝ) : EReal)
  wa : ∀ (g : Fin 8) (a b : Fin 64), (m ((c : Thread nD τ).loc main_arg6) : FVec Ideal S1x8x64x64 .f32) (ix4 0 g a b) = ((A.wa g a b : ℝ) : EReal)
  ba : ∀ j : Fin 512, (m ((c : Thread nD τ).loc main_arg7) : FVec Ideal S1x512 .f32) (ix2 0 j) = ((A.ba j : ℝ) : EReal)
  wx : ∀ (g : Fin 8) (a b : Fin 64), (m ((c : Thread nD τ).loc main_arg8) : FVec Ideal S1x8x64x64 .f32) (ix4 0 g a b) = ((A.wx g a b : ℝ) : EReal)
  bx : ∀ j : Fin 512, (m ((c : Thread nD τ).loc main_arg9) : FVec Ideal S1x512 .f32) (ix2 0 j) = ((A.bx j : ℝ) : EReal)
  lam : ∀ j : Fin 512, (m ((c : Thread nD τ).loc main_arg10) : FVec Ideal S1x512 .f32) (ix2 0 j) = ((A.lam j : ℝ) : EReal)

theorem v0_in (k : Fin 4) (j : Fin 512) : (V1 m c main_v0 : FVec Ideal S4x512 .f32) (ix2 k j) = (m ((c : Thread nD τ).loc main_arg4) : FVec Ideal S1x4x512 .f32) (ix3 0 k j) := by
  show StableHlo.after hostOps0 (V0 m c) main_v0 (ix2 k j) = _
  entry_read
  pointwise

theorem conv_in (k : Fin 4) (j : Fin 512) : (V1 m c main_v2 : FVec Ideal S16x512 .f32) (ix2 (⟨k.val, by omega⟩ : Fin 16) j) = (m ((c : Thread nD τ).loc main_arg4) : FVec Ideal S1x4x512 .f32) (ix3 0 k j) := by
  refine Eq.trans ?_ (v0_in m c k j)
  rw [Cert.Pool.v2_in]
  pointwise

/-- The rows of the packed vectors. -/
theorem rows_in4 (j : Fin 512) : (V1 m c main_v2 : FVec Ideal S16x512 .f32) (ix2 4 j) = (m ((c : Thread nD τ).loc main_arg5) : FVec Ideal S1x512 .f32) (ix2 0 j)
    ∧ (V1 m c main_v2 : FVec Ideal S16x512 .f32) (ix2 5 j) = (m ((c : Thread nD τ).loc main_arg7) : FVec Ideal S1x512 .f32) (ix2 0 j)
    ∧ (V1 m c main_v2 : FVec Ideal S16x512 .f32) (ix2 6 j) = (m ((c : Thread nD τ).loc main_arg9) : FVec Ideal S1x512 .f32) (ix2 0 j)
    ∧ (V1 m c main_v2 : FVec Ideal S16x512 .f32) (ix2 7 j) = (m ((c : Thread nD τ).loc main_arg10) : FVec Ideal S1x512 .f32) (ix2 0 j) := by
  rw [Cert.Pool.v2_in]
  refine ⟨?_, ?_, ?_, ?_⟩ <;> pointwise

theorem heads_in (g : Fin 8) (a b : Fin 64) : (V1 m c main_v14 : FVec Ideal S8x64x64 .f32) (ix3 g a b) = (m ((c : Thread nD τ).loc main_arg6) : FVec Ideal S1x8x64x64 .f32) (ix4 0 g a b) := by
  show StableHlo.after hostOps0 (V0 m c) main_v14 (ix3 g a b) = _
  entry_read
  pointwise

theorem heads_in' (g : Fin 8) (a b : Fin 64) : (V1 m c main_v15 : FVec Ideal S8x64x64 .f32) (ix3 g a b) = (m ((c : Thread nD τ).loc main_arg8) : FVec Ideal S1x8x64x64 .f32) (ix4 0 g a b) := by
  show StableHlo.after hostOps0 (V0 m c) main_v15 (ix3 g a b) = _
  entry_read
  pointwise

/-- What the forward region finds, from the arguments. -/
theorem arr_ok {A : Arrays} (h : ArgOk m c A) : ArrOk A (V1 m) c where
  u t j := by rw [V1_of m c main_arg2 (by decide)]; exact h.u t j
  pv := ⟨fun k j => (conv_in m c k j).trans (h.cw k j), fun j => (rows_in4 m c j).1.trans (h.cb j), fun j => (rows_in4 m c j).2.1.trans (h.ba j), fun j => (rows_in4 m c j).2.2.1.trans (h.bx j),
    fun j => (rows_in4 m c j).2.2.2.trans (h.lam j)⟩
  wa g a b := (heads_in m c g a b).trans (h.wa g a b)
  wx g a b := (heads_in' m c g a b).trans (h.wx g a b)

/-- The states the program returns. -/
theorem hs_res {A : Arrays} (h : ArgOk m c A) (t : Fin 8192) (j : Fin 512) : (V4 m (outs m) c main_v17_1 : FVec Ideal S8192x512 .f32) (ix2 t j) = ((st A t.val j : ℝ) : EReal) := by
  have e : (V4 m (outs m) c main_v17_1 : FVec Ideal S8192x512 .f32) = (dat (V1 m) c).arrAt 9 cfg0.N :=
    (V4_of m (outs m) c main_v17_1 (by decide)).trans ((V3_of m (outs m) c main_v17_1 (by decide)).trans ((V2_out m c main_v17_1 (by decide)).trans (left0_arr m c 9)))
  rw [e]
  exact hs_end (arr_ok m c h) t j

end Cert.Lru

end
-- ==== Proof.LruRef.lean ====
/- The reference's convolution, gates, decay and input to the recurrence, read at an entry. -/
module

public import proofs.«01_k».proof.Proof.LruMath
public import proofs.«01_k».proof.Proof.LruScan
public import proofs.«01_k».proof.Proof.Gen.MixerRefIdeal.Run

@[expose] public section

set_option maxRecDepth 16384

noncomputable section

namespace Cert.Lru

open Cert.MixerRefIdeal Cert.MixerRefIdeal.Value Cert.RowNorm
open Idealize.ShloMosaic Idealize.ShloMosaic.TcCoe

/-- The reference's arguments hold real entries. -/
structure RefOk (A : Arrays) (σ : Valuation τ sig (Elt Ideal)) : Prop where
  u : ∀ (t : Fin 8192) (j : Fin 512), (σ (Proc.devRef .tc main_arg2) : FVec Ideal S8192x1536 .f32) (ix2 t (⟨j.val, by omega⟩ : Fin 1536)) = ((A.u t.val j : ℝ) : EReal)
  cw : ∀ (k : Fin 4) (j : Fin 512), (σ (Proc.devRef .tc main_arg4) : FVec Ideal S1x4x512 .f32) (ix3 0 k j) = ((A.cw k j : ℝ) : EReal)
  cb : ∀ j : Fin 512, (σ (Proc.devRef .tc main_arg5) : FVec Ideal S1x512 .f32) (ix2 0 j) = ((A.cb j : ℝ) : EReal)
  wa : ∀ (g : Fin 8) (a b : Fin 64), (σ (Proc.devRef .tc main_arg6) : FVec Ideal S1x8x64x64 .f32) (ix4 0 g a b) = ((A.wa g a b : ℝ) : EReal)
  ba : ∀ j : Fin 512, (σ (Proc.devRef .tc main_arg7) : FVec Ideal S1x512 .f32) (ix2 0 j) = ((A.ba j : ℝ) : EReal)
  wx : ∀ (g : Fin 8) (a b : Fin 64), (σ (Proc.devRef .tc main_arg8) : FVec Ideal S1x8x64x64 .f32) (ix4 0 g a b) = ((A.wx g a b : ℝ) : EReal)
  bx : ∀ j : Fin 512, (σ (Proc.devRef .tc main_arg9) : FVec Ideal S1x512 .f32) (ix2 0 j) = ((A.bx j : ℝ) : EReal)
  lam : ∀ j : Fin 512, (σ (Proc.devRef .tc main_arg10) : FVec Ideal S1x512 .f32) (ix2 0 j) = ((A.lam j : ℝ) : EReal)

variable {A : Arrays} {σ : Valuation τ sig (Elt Ideal)}

/-- The convolution's weights. -/
theorem v237_at (h : RefOk A σ) (k : Fin 4) (j : Fin 512) : (res_main_v237 σ : FVec Ideal S4x512 .f32) (ix2 k j) = ((A.cw k j : ℝ) : EReal) := by
  refine Eq.trans ?_ (h.cw k j)
  pointwise [res_main_v237]

/-- The input with three rows of zeros in front. -/
theorem v240_at (h : RefOk A σ) (p : Fin 8195) (j : Fin 512) : (res_main_v240 σ : FVec Ideal S8195x512 .f32) (ix2 p j) = ((padu A p.val j : ℝ) : EReal) := by
  pointwise [res_main_v240]
  unfold padu
  split
  · rfl
  · exact h.u ⟨p.val - 3, by omega⟩ j

/-- The convolution. -/
theorem v270_at (h : RefOk A σ) (t : Fin 8192) (j : Fin 512) : (res_main_v270 σ : FVec Ideal S8192x512 .f32) (ix2 t j) = ((xc A t.val j : ℝ) : EReal) := by
  pointwise [res_main_v270]
  simp only [v237_at h, v240_at h, h.cb, ← EReal.coe_mul, ← EReal.coe_add]
  unfold xc
  rw [Nat.add_comm 1 t.val, Nat.add_comm 2 t.val, Nat.add_comm 3 t.val]

/-- The convolution by heads. -/
theorem v276_at (h : RefOk A σ) (t : Fin 8192) (g : Fin 8) (k : Fin 64) : (res_main_v276 σ : FVec Ideal S8192x8x64 .f32) (ix3 t g k) = ((xc A t.val (lane g k) : ℝ) : EReal) := by
  refine Eq.trans ?_ (v270_at h t (lane g k))
  pointwise [res_main_v276]
  exact congrArg (fun q : Fin 512 => (res_main_v270 σ : FVec Ideal S8192x512 .f32) (ix2 t q)) (Fin.ext (by unfold lane; dsimp only; omega))

/-- The decay's parameter, negated. -/
theorem v303_at (h : RefOk A σ) (j : Fin 512) : (res_main_v303 σ : FVec Ideal S512 .f32) (ix1 j) = ((-A.lam j : ℝ) : EReal) := by
  pointwise [res_main_v303]
  rw [h.lam, EReal.coe_neg]

/-- The logarithm of the decay. -/
theorem v307_at (h : RefOk A σ) (t : Fin 8192) (j : Fin 512) : (res_main_v307 σ : FVec Ideal S8192x512 .f32) (ix2 t j) = ((la A t.val j : ℝ) : EReal) := by
  pointwise [res_main_v307, res_main_call8_v3, res_main_call8_cst]
  simp only [v276_at h, v303_at h, h.wa, h.ba, ← EReal.coe_mul, coe_sum, ← EReal.coe_add]
  rw [if_neg (not_not_intro rfl), sg_exp, cm8]
  refine (congrArg (fun e : EReal => ((-8 : ℝ) : EReal) * _ * e) (sp_log (-A.lam j))).trans ?_
  rw [← EReal.coe_mul, ← EReal.coe_mul]
  rfl

/-- The decay. -/
theorem v308_at (h : RefOk A σ) : On (n := 8192) (res_main_v308 σ) (dec A) := by
  intro t j
  show Ideal.exp ((res_main_v307 σ : FVec Ideal S8192x512 .f32) (ix2 t j)) = _
  rw [v307_at h]; rfl

/-- The word two is written as. -/
theorem c2 : Ideal.ofBits .f32 0x40000000#32 = ((2 : ℝ) : EReal) := by
  simp [Ideal.ofBits, Ideal.ieee]; norm_cast; norm_num

/-- The input to the recurrence. -/
theorem v317_at (h : RefOk A σ) : On (n := 8192) (res_main_v317 σ) (inp A) := by
  intro t j
  pointwise [res_main_v317]
  simp only [v276_at h, v270_at h, v307_at h, h.wx, h.bx, ← EReal.coe_mul, coe_sum, ← EReal.coe_add]
  rw [sg_exp, c2, cfloor, ← EReal.coe_mul, Ideal.exp_coe, show (1 : EReal) = ((1 : ℝ) : EReal) from rfl, ← EReal.coe_sub, ← EReal.coe_neg, root, ← EReal.coe_mul, ← EReal.coe_mul]
  rfl

/-- The decays after `k` levels of pairing rows. -/
def lvA (A : Arrays) : ℕ → ℕ → Fin 512 → ℝ
  | 0 => dec A
  | k + 1 => fun t j => pairA (fun s => lvA A k s j) t

/-- The inputs after `k` levels of pairing rows. -/
def lvB (A : Arrays) : ℕ → ℕ → Fin 512 → ℝ
  | 0 => inp A
  | k + 1 => fun t j => pairB (fun s => lvA A k s j) (fun s => lvB A k s j) t

/-- The states after `k` levels of pairing rows. -/
def lvS (A : Arrays) (k : ℕ) : ℕ → Fin 512 → ℝ := fun t j => pre (fun s => lvA A k s j) (fun s => lvB A k s j) (t + 1)

/-- The last level's one state is its input. -/
theorem last_state {A : Arrays} {k : ℕ} {x : FVec Ideal (Rows 1) .f32} (h : On x (lvB A k)) : On x (lvS A k) := by
  intro i j
  rw [h i j]
  have e : i.val = 0 := by omega
  rw [e]
  show ((lvB A k 0 j : ℝ) : EReal) = ((lvA A k 0 j * 0 + lvB A k 0 j : ℝ) : EReal)
  rw [mul_zero, zero_add]

/-- The zeros between spread rows. -/
theorem zeros (k : S_.Idx) : (constant S_ .f32 0x00000000#32 : FVec Ideal S_ .f32) k = 0 := by pointwise

/-- The states, down the levels of pairs and up again. -/
theorem ref_hs (h : RefOk A σ) : On (n := 8192) (addf (pad S8192x512 ![0, 0] ![1, 0] ![1, 0] (concatenate S4096x512 0 [⟨S1x512, (extractStridedSlice S1x512 ![0, 0] (res_main_v317 σ) Gen.slices_S8192x512_S1x512_0_0)⟩, ⟨S4095x512, (addf (mulf (res_main_v615 σ) (extractStridedSlice S4095x512 ![0, 0] (res_main_v612 σ) Gen.slices_S4096x512_S4095x512_0_0)) (Host.slice S4095x512 ![2, 0] ![2, 1] (res_main_v317 σ) Gen.slicesBy_S8192x512_S4095x512_2s2_0s1))⟩] Gen.concatenates_S1x512_S4095x512_S4096x512_d0) (constant S_ .f32 0x00000000#32) Gen.pads_S4096x512_S8192x512_011_000 Gen.h_S_) (pad S8192x512 ![1, 0] ![0, 0] ![1, 0] (res_main_v612 σ) (constant S_ .f32 0x00000000#32) Gen.pads_S4096x512_S8192x512_101_000 Gen.h_S_)) (st A) := by
  have a0 : On (n := 8192) (res_main_v308 σ) (lvA A 0) := v308_at h
  have b0 : On (n := 8192) (res_main_v317 σ) (lvB A 0) := v317_at h
  have a1 : On (n := 4096) (res_main_v322 σ) (lvA A 1) := downA a0 rfl _ _
  have b1 : On (n := 4096) (res_main_v324 σ) (lvB A 1) := downB a0 b0 rfl _ _
  have a2 : On (n := 2048) (res_main_v329 σ) (lvA A 2) := downA a1 rfl _ _
  have b2 : On (n := 2048) (res_main_v331 σ) (lvB A 2) := downB a1 b1 rfl _ _
  have a3 : On (n := 1024) (res_main_v336 σ) (lvA A 3) := downA a2 rfl _ _
  have b3 : On (n := 1024) (res_main_v338 σ) (lvB A 3) := downB a2 b2 rfl _ _
  have a4 : On (n := 512) (res_main_v343 σ) (lvA A 4) := downA a3 rfl _ _
  have b4 : On (n := 512) (res_main_v345 σ) (lvB A 4) := downB a3 b3 rfl _ _
  have a5 : On (n := 256) (res_main_v350 σ) (lvA A 5) := downA a4 rfl _ _
  have b5 : On (n := 256) (res_main_v352 σ) (lvB A 5) := downB a4 b4 rfl _ _
  have a6 : On (n := 128) (res_main_v357 σ) (lvA A 6) := downA a5 rfl _ _
  have b6 : On (n := 128) (res_main_v359 σ) (lvB A 6) := downB a5 b5 rfl _ _
  have a7 : On (n := 64) (res_main_v364 σ) (lvA A 7) := downA a6 rfl _ _
  have b7 : On (n := 64) (res_main_v366 σ) (lvB A 7) := downB a6 b6 rfl _ _
  have a8 : On (n := 32) (res_main_v371 σ) (lvA A 8) := downA a7 rfl _ _
  have b8 : On (n := 32) (res_main_v373 σ) (lvB A 8) := downB a7 b7 rfl _ _
  have a9 : On (n := 16) (res_main_v378 σ) (lvA A 9) := downA a8 rfl _ _
  have b9 : On (n := 16) (res_main_v380 σ) (lvB A 9) := downB a8 b8 rfl _ _
  have a10 : On (n := 8) (res_main_v385 σ) (lvA A 10) := downA a9 rfl _ _
  have b10 : On (n := 8) (res_main_v387 σ) (lvB A 10) := downB a9 b9 rfl _ _
  have a11 : On (n := 4) (res_main_v392 σ) (lvA A 11) := downA a10 rfl _ _
  have b11 : On (n := 4) (res_main_v394 σ) (lvB A 11) := downB a10 b10 rfl _ _
  have a12 : On (n := 2) (res_main_v399 σ) (lvA A 12) := downA a11 rfl _ _
  have b12 : On (n := 2) (res_main_v401 σ) (lvB A 12) := downB a11 b11 rfl _ _
  have b13 : On (n := 1) (res_main_v408 σ) (lvB A 13) := downB a12 b12 rfl _ _
  have s13 := last_state b13
  have s12 : On (n := 2) (res_main_v425 σ) (lvS A 12) := up a12 b12 s13 rfl rfl _ _ _ _ _ _ _ zeros _
  have s11 : On (n := 4) (res_main_v442 σ) (lvS A 11) := up a11 b11 s12 rfl rfl _ _ _ _ _ _ _ zeros _
  have s10 : On (n := 8) (res_main_v459 σ) (lvS A 10) := up a10 b10 s11 rfl rfl _ _ _ _ _ _ _ zeros _
  have s9 : On (n := 16) (res_main_v476 σ) (lvS A 9) := up a9 b9 s10 rfl rfl _ _ _ _ _ _ _ zeros _
  have s8 : On (n := 32) (res_main_v493 σ) (lvS A 8) := up a8 b8 s9 rfl rfl _ _ _ _ _ _ _ zeros _
  have s7 : On (n := 64) (res_main_v510 σ) (lvS A 7) := up a7 b7 s8 rfl rfl _ _ _ _ _ _ _ zeros _
  have s6 : On (n := 128) (res_main_v527 σ) (lvS A 6) := up a6 b6 s7 rfl rfl _ _ _ _ _ _ _ zeros _
  have s5 : On (n := 256) (res_main_v544 σ) (lvS A 5) := up a5 b5 s6 rfl rfl _ _ _ _ _ _ _ zeros _
  have s4 : On (n := 512) (res_main_v561 σ) (lvS A 4) := up a4 b4 s5 rfl rfl _ _ _ _ _ _ _ zeros _
  have s3 : On (n := 1024) (res_main_v578 σ) (lvS A 3) := up a3 b3 s4 rfl rfl _ _ _ _ _ _ _ zeros _
  have s2 : On (n := 2048) (res_main_v595 σ) (lvS A 2) := up a2 b2 s3 rfl rfl _ _ _ _ _ _ _ zeros _
  have s1 : On (n := 4096) (res_main_v612 σ) (lvS A 1) := up a1 b1 s2 rfl rfl _ _ _ _ _ _ _ zeros _
  exact up a0 b0 s1 rfl rfl _ _ _ _ _ _ _ zeros _

end Cert.Lru

end
-- ==== Proof.MixerFrame.lean ====
module

public import proofs.«01_k».proof.Defs
public import proofs.«01_k».proof.Proof.MixerRun
public import proofs.«01_k».proof.Proof.Gen.Mixer
public import proofs.«01_k».proof.Proof.Gen.MixerRefIdeal.Run

@[expose] public section

set_option maxRecDepth 16384

noncomputable section

namespace Cert.MixerFrame

open Idealize.ShloMosaic Idealize.SL.Sem Cert.MixerIdeal

/-- The frame of the idealized text at the program's own arithmetic. -/
def BitsFrame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0)

/-- The program and its idealized text are the same text, so their frames are one statement. -/
theorem bits_eq : Cert.quiescent_Mixer (hMixer := Cert.Mixer.Gen.facts) = BitsFrame := by
  sl_kernel_rfl

/-- The frame of the mixer's two calls at the program's own arithmetic: the same text, the same run. -/
theorem bits : Cert.quiescent_Mixer (hMixer := Cert.Mixer.Gen.facts) :=
  bits_eq.mpr fun m g _ => MixerRun.frame (F := Bits) m g

/-- Their frame over the reals. -/
theorem ideal : Cert.quiescent_MixerIdeal (hMixerIdeal := Cert.MixerIdeal.Gen.facts) :=
  fun m g _ => MixerRun.frame (F := Ideal) m g

end Cert.MixerFrame

end
-- ==== Proof.MixerClaim.lean ====
/- The claims about the mixer's two calls. -/
module

public import proofs.«01_k».proof.Proof.PoolPre
public import proofs.«01_k».proof.Proof.PoolResults
public import proofs.«01_k».proof.Proof.PoolRefC
public import proofs.«01_k».proof.Proof.LruResults
public import proofs.«01_k».proof.Proof.LruRef
public import proofs.«01_k».proof.Proof.MixerFrame

@[expose] public section

set_option maxRecDepth 16384

noncomputable section

open Idealize.ShloMosaic Idealize.ShloMosaic.TcCoe Idealize.SL.Sem
open Cert.MixerIdeal

namespace Cert.MixerClaim

/-- The reference ends with its arguments unchanged and every counter zero. -/
theorem ref_frame : Cert.quiescent_MixerRefIdeal (hMixerRefIdeal := Cert.MixerRefIdeal.Gen.facts) := fun m g _ =>
  (θ_run _ _ _).mono (fun r h => ⟨fun c => (h c).2.2.2.2.2.2, sem_eq_zero_of_no_sems (by decide) r.2⟩) (Cert.MixerRefIdeal.Value.run m g)

/-- The real arrays that argument arrays with real entries hold. -/
def arrays (a0 : FVec Ideal S8192x1024 .f32) (a2 : FVec Ideal S8192x1536 .f32) (a11 : FVec Ideal S1x4x128x128 .f32)
    (a12 a13 a15 : FVec Ideal S1x512 .f32) (a16 : FVec Ideal S1x1024x1024 .f32) : Pool.Arrays where
  d2 := fun t k => if h : t < 8192 then (a0 (ix2 (⟨t, h⟩ : Fin 8192) k)).toReal else 0
  u := fun t j => if h : t < 8192 then (a2 (ix2 (⟨t, h⟩ : Fin 8192) (⟨1024 + j.val, by omega⟩ : Fin 1536))).toReal else 0
  wp := fun g a b => (a11 (ix4 0 g a b)).toReal
  pb := fun j => (a12 (ix2 0 j)).toReal
  ps := fun j => (a13 (ix2 0 j)).toReal
  gp := fun j => (a15 (ix2 0 j)).toReal
  wo := fun j k => (a16 (ix3 0 (⟨512 + j.val, by omega⟩ : Fin 1024) k)).toReal

section Hold

variable (a0 : FVec Ideal S8192x1024 .f32) (a2 : FVec Ideal S8192x1536 .f32) (a11 : FVec Ideal S1x4x128x128 .f32)
    (a12 a13 a15 : FVec Ideal S1x512 .f32) (a16 : FVec Ideal S1x1024x1024 .f32)
    (h0 : ∀ j, RowNorm.Fin' (a0 j)) (h2 : ∀ j, RowNorm.Fin' (a2 j)) (h11 : ∀ j, RowNorm.Fin' (a11 j)) (h12 : ∀ j, RowNorm.Fin' (a12 j)) (h13 : ∀ j, RowNorm.Fin' (a13 j))
    (h15 : ∀ j, RowNorm.Fin' (a15 j)) (h16 : ∀ j, RowNorm.Fin' (a16 j))

include h0 h2 h11 h12 h13 h15 h16

/-- The kernel program's arguments hold these arrays. -/
theorem arg_ok (m : (ℓ : Loc nD τ sig) → Buf (Elt Ideal) ℓ) (c : Dev nD)
    (e0 : m ((c.tc : Thread nD τ).loc main_arg0) = a0)
    (e2 : m ((c.tc : Thread nD τ).loc main_arg2) = a2)
    (e11 : m ((c.tc : Thread nD τ).loc main_arg11) = a11)
    (e12 : m ((c.tc : Thread nD τ).loc main_arg12) = a12)
    (e13 : m ((c.tc : Thread nD τ).loc main_arg13) = a13)
    (e15 : m ((c.tc : Thread nD τ).loc main_arg15) = a15)
    (e16 : m ((c.tc : Thread nD τ).loc main_arg16) = a16) : Pool.ArgOk m c (arrays a0 a2 a11 a12 a13 a15 a16) where
  d2 := fun t k => by
    rw [e0]
    refine (h0 _).trans (congrArg (fun r : ℝ => (r : EReal)) ?_)
    unfold arrays
    dsimp only
    rw [dif_pos t.isLt]
  u := fun t j => by
    rw [e2]
    refine (h2 _).trans (congrArg (fun r : ℝ => (r : EReal)) ?_)
    unfold arrays
    dsimp only
    rw [dif_pos t.isLt]
  wp := fun g a b => by rw [e11]; exact h11 _
  pb := fun j => by rw [e12]; exact h12 _
  ps := fun j => by rw [e13]; exact h13 _
  gp := fun j => by rw [e15]; exact h15 _
  wo := fun j k => by rw [e16]; exact h16 _

/-- The reference's arguments hold them. -/
theorem ref_ok (σ : Valuation Cert.MixerRefIdeal.τ Cert.MixerRefIdeal.sig (Elt Ideal))
    (e0 : σ (Proc.devRef .tc Cert.MixerRefIdeal.main_arg0) = a0) (e2 : σ (Proc.devRef .tc Cert.MixerRefIdeal.main_arg2) = a2) (e11 : σ (Proc.devRef .tc Cert.MixerRefIdeal.main_arg11) = a11)
    (e12 : σ (Proc.devRef .tc Cert.MixerRefIdeal.main_arg12) = a12) (e13 : σ (Proc.devRef .tc Cert.MixerRefIdeal.main_arg13) = a13) (e15 : σ (Proc.devRef .tc Cert.MixerRefIdeal.main_arg15) = a15)
    (e16 : σ (Proc.devRef .tc Cert.MixerRefIdeal.main_arg16) = a16) : Pool.RefOk (arrays a0 a2 a11 a12 a13 a15 a16) σ where
  d2 := fun t k => by
    rw [e0]
    refine (h0 _).trans (congrArg (fun r : ℝ => (r : EReal)) ?_)
    unfold arrays
    dsimp only
    rw [dif_pos t.isLt]
  u := fun t j => by
    rw [e2]
    refine (h2 _).trans (congrArg (fun r : ℝ => (r : EReal)) ?_)
    unfold arrays
    dsimp only
    rw [dif_pos t.isLt]
  wp := fun g a b => by rw [e11]; exact h11 _
  pb := fun j => by rw [e12]; exact h12 _
  ps := fun j => by rw [e13]; exact h13 _
  gp := fun j => by rw [e15]; exact h15 _
  wo := fun j k => by rw [e16]; exact h16 _

end Hold

/-- The real arrays of the recurrent half. -/
def lruArrays (a2 : FVec Ideal S8192x1536 .f32) (a4 : FVec Ideal S1x4x512 .f32) (a5 : FVec Ideal S1x512 .f32) (a6 : FVec Ideal S1x8x64x64 .f32)
    (a7 : FVec Ideal S1x512 .f32) (a8 : FVec Ideal S1x8x64x64 .f32) (a9 a10 : FVec Ideal S1x512 .f32) : Lru.Arrays where
  u := fun t j => if h : t < 8192 then (a2 (ix2 (⟨t, h⟩ : Fin 8192) (⟨j.val, by omega⟩ : Fin 1536))).toReal else 0
  cw := fun k j => (a4 (ix3 0 k j)).toReal
  cb := fun j => (a5 (ix2 0 j)).toReal
  wa := fun g a b => (a6 (ix4 0 g a b)).toReal
  ba := fun j => (a7 (ix2 0 j)).toReal
  wx := fun g a b => (a8 (ix4 0 g a b)).toReal
  bx := fun j => (a9 (ix2 0 j)).toReal
  lam := fun j => (a10 (ix2 0 j)).toReal

section HoldLru

variable (a2 : FVec Ideal S8192x1536 .f32) (a4 : FVec Ideal S1x4x512 .f32) (a5 : FVec Ideal S1x512 .f32) (a6 : FVec Ideal S1x8x64x64 .f32)
    (a7 : FVec Ideal S1x512 .f32) (a8 : FVec Ideal S1x8x64x64 .f32) (a9 a10 : FVec Ideal S1x512 .f32)
    (h2 : ∀ j, RowNorm.Fin' (a2 j)) (h4 : ∀ j, RowNorm.Fin' (a4 j)) (h5 : ∀ j, RowNorm.Fin' (a5 j)) (h6 : ∀ j, RowNorm.Fin' (a6 j)) (h7 : ∀ j, RowNorm.Fin' (a7 j))
    (h8 : ∀ j, RowNorm.Fin' (a8 j)) (h9 : ∀ j, RowNorm.Fin' (a9 j)) (h10 : ∀ j, RowNorm.Fin' (a10 j))

include h2 h4 h5 h6 h7 h8 h9 h10

/-- The kernel program's arguments hold the recurrent half's arrays. -/
theorem lru_arg_ok (m : (ℓ : Loc nD τ sig) → Buf (Elt Ideal) ℓ) (c : Dev nD)
    (e2 : m ((c.tc : Thread nD τ).loc main_arg2) = a2)
    (e4 : m ((c.tc : Thread nD τ).loc main_arg4) = a4)
    (e5 : m ((c.tc : Thread nD τ).loc main_arg5) = a5)
    (e6 : m ((c.tc : Thread nD τ).loc main_arg6) = a6)
    (e7 : m ((c.tc : Thread nD τ).loc main_arg7) = a7)
    (e8 : m ((c.tc : Thread nD τ).loc main_arg8) = a8)
    (e9 : m ((c.tc : Thread nD τ).loc main_arg9) = a9)
    (e10 : m ((c.tc : Thread nD τ).loc main_arg10) = a10) : Lru.ArgOk m c (lruArrays a2 a4 a5 a6 a7 a8 a9 a10) where
  u := fun t j => by
    rw [e2]
    refine (h2 _).trans (congrArg (fun r : ℝ => (r : EReal)) ?_)
    unfold lruArrays
    dsimp only
    rw [dif_pos t.isLt]
  cw := fun k j => by rw [e4]; exact h4 _
  cb := fun j => by rw [e5]; exact h5 _
  wa := fun g a b => by rw [e6]; exact h6 _
  ba := fun j => by rw [e7]; exact h7 _
  wx := fun g a b => by rw [e8]; exact h8 _
  bx := fun j => by rw [e9]; exact h9 _
  lam := fun j => by rw [e10]; exact h10 _

/-- The reference's arguments hold them. -/
theorem lru_ref_ok (σ : Valuation Cert.MixerRefIdeal.τ Cert.MixerRefIdeal.sig (Elt Ideal))
    (e2 : σ (Proc.devRef .tc Cert.MixerRefIdeal.main_arg2) = a2) (e4 : σ (Proc.devRef .tc Cert.MixerRefIdeal.main_arg4) = a4) (e5 : σ (Proc.devRef .tc Cert.MixerRefIdeal.main_arg5) = a5)
    (e6 : σ (Proc.devRef .tc Cert.MixerRefIdeal.main_arg6) = a6) (e7 : σ (Proc.devRef .tc Cert.MixerRefIdeal.main_arg7) = a7) (e8 : σ (Proc.devRef .tc Cert.MixerRefIdeal.main_arg8) = a8)
    (e9 : σ (Proc.devRef .tc Cert.MixerRefIdeal.main_arg9) = a9) (e10 : σ (Proc.devRef .tc Cert.MixerRefIdeal.main_arg10) = a10) : Lru.RefOk (lruArrays a2 a4 a5 a6 a7 a8 a9 a10) σ where
  u := fun t j => by
    rw [e2]
    refine (h2 _).trans (congrArg (fun r : ℝ => (r : EReal)) ?_)
    unfold lruArrays
    dsimp only
    rw [dif_pos t.isLt]
  cw := fun k j => by rw [e4]; exact h4 _
  cb := fun j => by rw [e5]; exact h5 _
  wa := fun g a b => by rw [e6]; exact h6 _
  ba := fun j => by rw [e7]; exact h7 _
  wx := fun g a b => by rw [e8]; exact h8 _
  bx := fun j => by rw [e9]; exact h9 _
  lam := fun j => by rw [e10]; exact h10 _

end HoldLru

/-- Two rows of a whole array agree when their entries do. -/
theorem row_ext {a b : FVec Ideal S1x512 .f32} (h : ∀ j : Fin 512, a (ix2 0 j) = b (ix2 0 j)) : a = b := by
  funext i
  obtain ⟨j, rfl⟩ : ∃ j : Fin 512, i = ix2 (0 : Fin 1) j := ⟨i 1, by rw [eq_ix2 i]; congr 1; exact Subsingleton.elim _ _⟩
  exact h j

/-- Two arrays of rows agree when their entries do. -/
theorem rows_ext {e : FTy} {a b : FVec Ideal S8192x512 e} (h : ∀ (t : Fin 8192) (j : Fin 512), a (ix2 t j) = b (ix2 t j)) : a = b := by
  funext i
  obtain ⟨t, j, rfl⟩ : ∃ (t : Fin 8192) (j : Fin 512), i = ix2 t j := ⟨i 0, i 1, eq_ix2 i⟩
  exact h t j

/-- Two arrays of matrices agree when their entries do. -/
theorem blocks_ext {a b : FVec Ideal S1x4x128x128 .f32} (h : ∀ (g : Fin 4) (k l : Fin 128), a (ix4 0 g k l) = b (ix4 0 g k l)) : a = b := by
  funext i
  obtain ⟨g, k, l, rfl⟩ : ∃ (g : Fin 4) (k l : Fin 128), i = ix4 (0 : Fin 1) g k l := ⟨i 1, i 2, i 3, by rw [eq_ix4 i]; congr 1; exact Subsingleton.elim _ _⟩
  exact h g k l

set_option maxHeartbeats 4000000 in
/-- The value claim of the mixer's two calls: the pool half's five results and the recurrence's states are the reference's. -/
theorem algebraic : Cert.algebraic_MixerIdeal_MixerRefIdeal_pre_finite_pool (hMixerIdeal := Gen.facts) (hMixerRefIdeal := Cert.MixerRefIdeal.Gen.facts) (hPre_finite_pool := Cert.Pre_finite_pool.side) := by
  haveI := Cert.Pre_finite_pool.side
  intro m g m' g' hpre hagree
  have hfin := fun c => Cert.Pre_finite_pool.finite _ _ _ _ _ _ _ _ _ _ _ _ _ _ _ _ _ (hpre c)
  refine ⟨fun c => Gen.V4 m (Cert.MixerRun.outs m) c main_v32, fun c => Gen.V4 m (Cert.MixerRun.outs m) c main_v31,
    fun c => Gen.V4 m (Cert.MixerRun.outs m) c main_v33, fun c => Gen.V4 m (Cert.MixerRun.outs m) c main_v34,
    fun c => Gen.V4 m (Cert.MixerRun.outs m) c main_v35, fun c => Gen.V4 m (Cert.MixerRun.outs m) c main_v17_1, ?_, ?_⟩
  · refine (θ_run _ _ _).mono (fun r h c => ?_) (Cert.MixerRun.run m g)
    have hc := h.1 c
    exact ⟨hc main_v32 (by decide), hc main_v31 (by decide), hc main_v33 (by decide), hc main_v34 (by decide), hc main_v35 (by decide), hc main_v17_1 (by decide),
      (hc main_arg0 (by decide)).trans (Gen.V4_main_arg0 m (Cert.MixerRun.outs m) c),
      (hc main_arg1 (by decide)).trans (Gen.V4_main_arg1 m (Cert.MixerRun.outs m) c),
      (hc main_arg2 (by decide)).trans (Gen.V4_main_arg2 m (Cert.MixerRun.outs m) c),
      (hc main_arg3 (by decide)).trans (Gen.V4_main_arg3 m (Cert.MixerRun.outs m) c),
      (hc main_arg4 (by decide)).trans (Gen.V4_main_arg4 m (Cert.MixerRun.outs m) c),
      (hc main_arg5 (by decide)).trans (Gen.V4_main_arg5 m (Cert.MixerRun.outs m) c),
      (hc main_arg6 (by decide)).trans (Gen.V4_main_arg6 m (Cert.MixerRun.outs m) c),
      (hc main_arg7 (by decide)).trans (Gen.V4_main_arg7 m (Cert.MixerRun.outs m) c),
      (hc main_arg8 (by decide)).trans (Gen.V4_main_arg8 m (Cert.MixerRun.outs m) c),
      (hc main_arg9 (by decide)).trans (Gen.V4_main_arg9 m (Cert.MixerRun.outs m) c),
      (hc main_arg10 (by decide)).trans (Gen.V4_main_arg10 m (Cert.MixerRun.outs m) c),
      (hc main_arg11 (by decide)).trans (Gen.V4_main_arg11 m (Cert.MixerRun.outs m) c),
      (hc main_arg12 (by decide)).trans (Gen.V4_main_arg12 m (Cert.MixerRun.outs m) c),
      (hc main_arg13 (by decide)).trans (Gen.V4_main_arg13 m (Cert.MixerRun.outs m) c),
      (hc main_arg14 (by decide)).trans (Gen.V4_main_arg14 m (Cert.MixerRun.outs m) c),
      (hc main_arg15 (by decide)).trans (Gen.V4_main_arg15 m (Cert.MixerRun.outs m) c),
      (hc main_arg16 (by decide)).trans (Gen.V4_main_arg16 m (Cert.MixerRun.outs m) c)⟩
  · refine (θ_run _ _ _).mono (fun r h c => ?_) (Cert.MixerRefIdeal.Value.run m' g')
    obtain ⟨e0, e1, e2, e3, e4, e5, e6, e7, e8, e9, e10, e11, e12, e13, e14, e15, e16⟩ := hagree c
    obtain ⟨f0, f2, f11, f12, f13, f15, f16, f4, f5, f6, f7, f8, f9, f10⟩ := hfin c
    have K := arg_ok _ _ _ _ _ _ _ f0 f2 f11 f12 f13 f15 f16 m c rfl rfl rfl rfl rfl rfl rfl
    have L := ref_ok _ _ _ _ _ _ _ f0 f2 f11 f12 f13 f15 f16 (StableHlo.launchContents m' c) e0 e2 e11 e12 e13 e15 e16
    have K' := lru_arg_ok _ _ _ _ _ _ _ _ f2 f4 f5 f6 f7 f8 f9 f10 m c rfl rfl rfl rfl rfl rfl rfl rfl
    have L' := lru_ref_ok _ _ _ _ _ _ _ _ f2 f4 f5 f6 f7 f8 f9 f10 (StableHlo.launchContents m' c) e2 e4 e5 e6 e7 e8 e9 e10
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · exact rows_ext fun t j => (Pool.ref_du L t j).trans (Pool.du_res K t j).symm
    · exact blocks_ext fun g k l => (Pool.ref_wp L g k l).trans (Pool.wp_res K g k l).symm
    · exact row_ext fun j => (Pool.ref_pb L j).trans (Pool.pb_res K j).symm
    · exact row_ext fun j => (Pool.ref_ps L j).trans (Pool.ps_res K j).symm
    · exact row_ext fun j => (Pool.ref_gp L j).trans (Pool.gp_res K j).symm
    · exact rows_ext (e := .f32) fun t j => (Lru.ref_hs L' t j).trans (Lru.hs_res m c K' t j).symm

end Cert.MixerClaim

end
-- ==== Proof.FfnPre.lean ====
/- What the feed-forward claim's precondition says of the argument arrays: every entry of the arrays it names is a real number. -/
module

public import proofs.«01_k».proof.Proof.PoolPre
public import proofs.«01_k».proof.Pre_finite_ffn

@[expose] public section

set_option maxRecDepth 16384

noncomputable section

open Idealize.ShloMosaic

namespace Cert.Pre_finite_ffn

open Facts
open Cert.Pre_finite_pool (bit and_one all_of)

/-- The side conditions of the predicate's operations. -/
theorem side : Facts where
  bcast_S_S8192x1024 := by decide
  reducesTo_S8192x1024_S_d0_1 := by decide
  h_S_ := by decide
  bcast_S_S1x1024 := by decide
  reducesTo_S1x1024_S_d0_1 := by decide
  bcast_S_S1x1024x2816 := by decide
  reducesTo_S1x1024x2816_S_d0_1_2 := by decide
  bcast_S_S1x2816x1024 := by decide
  reducesTo_S1x2816x1024_S_d0_1_2 := by decide
  bcast_S_S1024 := by decide
  reducesTo_S1024_S_d0 := by decide

variable [Facts]

/-- The predicate's meaning. -/
theorem finite (a0 : FVec Ideal S8192x1024 .f32) (a1 : FVec Ideal S1x1024 .f32) (a2 a3 : FVec Ideal S1x1024x2816 .f32) (a4 : FVec Ideal S1x2816x1024 .f32)
    (a5 : FVec Ideal S1024 .f32) (a6 : FVec Ideal S8192x1024 .f32) (h : fn (F := Ideal) a0 a1 a2 a3 a4 a5 a6 = fun _ => 1#1) :
    (∀ j, RowNorm.Fin' (a0 j)) ∧ (∀ j, RowNorm.Fin' (a1 j)) ∧ (∀ j, RowNorm.Fin' (a2 j)) ∧ (∀ j, RowNorm.Fin' (a3 j)) ∧ (∀ j, RowNorm.Fin' (a4 j)) ∧ (∀ j, RowNorm.Fin' (a5 j))
      ∧ ∀ j, RowNorm.Fin' (a6 j) := by
  haveI := Cert.Pre_finite_pool.side
  dsimp only [fn, fn_part1] at h
  obtain ⟨h, h7⟩ := and_one h
  obtain ⟨h, h6⟩ := and_one h
  obtain ⟨h, h5⟩ := and_one h
  obtain ⟨h, h4⟩ := and_one h
  obtain ⟨h, h3⟩ := and_one h
  obtain ⟨h1, h2⟩ := and_one h
  exact ⟨all_of _ _ _ _ _ (fun _ => rfl) h1, all_of _ _ _ _ _ (fun _ => rfl) h2, all_of _ _ _ _ _ (fun _ => rfl) h3, all_of _ _ _ _ _ (fun _ => rfl) h4,
    all_of _ _ _ _ _ (fun _ => rfl) h5, all_of _ _ _ _ _ (fun _ => rfl) h6, all_of _ _ _ _ _ (fun _ => rfl) h7⟩

end Cert.Pre_finite_ffn

end
-- ==== Proof.FfnRun.lean ====
/- The feed-forward block's two calls from any launch: every buffer they do not stage ends at the last boundary's contents. -/
module

public import proofs.«01_k».proof.Proof.Gen.FfnIdeal.Frame

@[expose] public section

set_option maxRecDepth 16384

noncomputable section

namespace Cert.FfnIdeal.Hand

open Cert.FfnIdeal Cert.FfnIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch hands each core its buffers at the launch contents beside what rides along. -/
theorem start (c : Dev nD) :
    (iprop((unscopedBufs c (fun b => m ((c : Thread nD τ).loc b)) ∗ unscopedSems0 c ∗ owes (c : Thread nD τ) (0 : CellTallies nD τ sig Unit) ∅
      ∗ Pipeline.launchCred (fun _ => (0 : CellTallies nD τ sig Unit)) c ∗ prngReg c (ρ c) ∗ BI.emp) ∗ levAts L lv) : sProp 𝕄)
    ⊢ |={Set.univ}=> iprop(StableHlo.held (c : Thread nD τ) (Pipeline.ucRefs τ sig) (W0 m ρ c) ∗ R c) := by
  rw [show unscopedBufs c (fun b => m ((c : Thread nD τ).loc b)) = StableHlo.held (c : Thread nD τ) (Pipeline.ucRefs τ sig) (W0 m ρ c) from Pipeline.unscopedBufs_held c (W0 m ρ c)]
  iintro ⟨⟨Hb, -, HO, -, Hg, -⟩, -⟩
  imodintro
  isplitl [Hb]; · iexact Hb
  isplitl [Hg]; · iexists _; iexact Hg
  iexists ∅; iexact HO

/-- The program terminates from any launch, and every unscoped buffer ends at the last boundary's contents. -/
theorem run : θ_run defs (onTc (τ := τ) (main (F := F))) ⟨m, fun _ => 0, ρ⟩ (fun r => ∀ c : Dev nD, ∀ b : Ref sig .tc, ¬(Proc.devRef (τ := τ) .tc b).isScoped →
      r.2.mem ((c.tc : Thread nD τ).loc b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hb, Hg, HO⟩
      isplitl [Hb Hg]
      · iframe Hb Hg
      iexact HO⟩)
    (hinit := Pipeline.initEach L lv fun c => start m ρ c)
    (QY := fun c s => ∀ b ∈ Pipeline.ucRefs τ sig, s.mem (((c : Thread nD τ)).1, b) = W4 m ρ c b)
    (hfin := fun c s' => by
      unfold Tₙ StableHlo.held
      iintro ⟨⟨Hb, -⟩, HS⟩
      imodintro
      iapply (pointsTo_read_all (Pipeline.ucRefs τ sig) (fun b => (((c : Thread nD τ)).1, b)) (W4 m ρ c) s')
      isplitl [Hb] <;> iassumption)
    (hQ := fun s h _ c b hb => h c _ (mem_uc b hb))

end Cert.FfnIdeal.Hand

end
-- ==== Proof.FfnSpec.lean ====
/- The feed-forward block with its loss, row by row over the reals: the forward values, the loss and the gradients that both programs compute. -/
module

public import proofs.«01_k».proof.Proof.RowNorm

@[expose] public section

noncomputable section

open Idealize.ShloMosaic Finset

namespace Cert.Ff

open RowNorm

/-! ## Constants -/

/-- `0.5`. -/
theorem chalf : Ideal.ofBits .f32 0x3F000000#32 = ((1 / 2 : ℝ) : EReal) := by
  simp [Ideal.ofBits, Ideal.ieee, -EReal.coe_mul]; norm_num

/-- `1.0`. -/
theorem cone : Ideal.ofBits .f32 0x3F800000#32 = ((1 : ℝ) : EReal) := by
  simp [Ideal.ofBits, Ideal.ieee, -EReal.coe_mul]; norm_num

/-- `2.0`. -/
theorem ctwo : Ideal.ofBits .f32 0x40000000#32 = ((2 : ℝ) : EReal) := by
  simp [Ideal.ofBits, Ideal.ieee, -EReal.coe_mul]; norm_num

/-- `1.0 / 1024.0`. -/
theorem cinv : Ideal.ofBits .f32 0x3A800000#32 = ((1 / 1024 : ℝ) : EReal) := by
  simp [Ideal.ofBits, Ideal.ieee, -EReal.coe_mul]; norm_num

/-! ## The logistic function -/

/-- The logistic function. -/
def sg (z : ℝ) : ℝ := (1 + Real.exp (-z))⁻¹

/-- The kernel's form of the logistic function, by the hyperbolic tangent of half the argument. -/
theorem sg_tanh (z : ℝ) : 1 / 2 * Real.tanh (1 / 2 * z) + 1 / 2 = sg z := by
  have e : Real.exp (-z) = Real.exp (-(1 / 2 * z)) * Real.exp (-(1 / 2 * z)) := by rw [← Real.exp_add]; ring_nf
  have h1 : Real.exp (1 / 2 * z) * Real.exp (-(1 / 2 * z)) = 1 := by rw [← Real.exp_add]; simp
  have p1 := Real.exp_pos (1 / 2 * z)
  have p2 := Real.exp_pos (-(1 / 2 * z))
  unfold sg
  rw [Real.tanh_eq_sinh_div_cosh, Real.sinh_eq, Real.cosh_eq, e]
  generalize Real.exp (1 / 2 * z) = a at *
  generalize Real.exp (-(1 / 2 * z)) = b at *
  have : a = b⁻¹ := eq_inv_of_mul_eq_one_left h1
  subst this
  field_simp
  ring

/-! ## One row -/

/-- The weights, gains and the row's target. -/
structure Wts where
  gf : Fin 1024 → ℝ
  w1 : Fin 1024 → Fin 2816 → ℝ
  w3 : Fin 1024 → Fin 2816 → ℝ
  w2 : Fin 2816 → Fin 1024 → ℝ
  gl : Fin 1024 → ℝ

variable (A : Wts) (x t : Fin 1024 → ℝ)

/-- The normalised row times its gain. -/
def h2 (k : Fin 1024) : ℝ := x k * rstd 1024 x * A.gf k
/-- The gate's projection. -/
def G (p : Fin 2816) : ℝ := ∑ k, h2 A x k * A.w1 k p
/-- The value's projection. -/
def V (p : Fin 2816) : ℝ := ∑ k, h2 A x k * A.w3 k p
/-- The hidden row. -/
def ff (p : Fin 2816) : ℝ := G A x p * sg (G A x p) * V A x p
/-- The block's output row. -/
def h3 (l : Fin 1024) : ℝ := x l + ∑ p, ff A x p * A.w2 p l
/-- The output row normalised. -/
def xh (l : Fin 1024) : ℝ := h3 A x l * rstd 1024 (h3 A x)
/-- The row's error against its target. -/
def err (l : Fin 1024) : ℝ := xh A x l * A.gl l - t l
/-- The cotangent of the normalised row times its gain. -/
def dy (l : Fin 1024) : ℝ := err A x t l * (1 / 1024)
/-- The row's part of the loss. -/
def ls : ℝ := (∑ l, err A x t l * err A x t l) / 1024
/-- The cotangent of the block's output row. -/
def d3 (l : Fin 1024) : ℝ := dnorm 1024 (h3 A x) (fun k => dy A x t k * A.gl k) l
/-- The cotangent of the hidden row. -/
def dff (p : Fin 2816) : ℝ := ∑ k, d3 A x t k * A.w2 p k
/-- The cotangent of the gate's projection. -/
def dg (p : Fin 2816) : ℝ := dff A x t p * V A x p * (sg (G A x p) * (1 + G A x p * (1 - sg (G A x p))))
/-- The cotangent of the value's projection. -/
def dv (p : Fin 2816) : ℝ := dff A x t p * (G A x p * sg (G A x p))
/-- The cotangent of the normalised input row times its gain. -/
def dh (l : Fin 1024) : ℝ := (∑ p, dg A x t p * A.w1 l p) + ∑ p, dv A x t p * A.w3 l p
/-- The cotangent of the input row. -/
def d2 (l : Fin 1024) : ℝ := d3 A x t l + dnorm 1024 x (fun k => dh A x t k * A.gf k) l
/-- The row's part of the block gain's gradient. -/
def pf (l : Fin 1024) : ℝ := dh A x t l * (x l * rstd 1024 x)
/-- The row's part of the final gain's gradient. -/
def pl (l : Fin 1024) : ℝ := dy A x t l * xh A x l

/-! ## The two chunks of the hidden row -/

/-- Column `p` of the first chunk. -/
def lo (p : Fin 1536) : Fin 2816 := ⟨p.val, by omega⟩
/-- Column `p` of the second chunk. -/
def hi (p : Fin 1280) : Fin 2816 := ⟨1536 + p.val, by omega⟩

/-- A sum over the hidden row is the sum over its chunks. -/
theorem sum_chunks (f : Fin 2816 → ℝ) : (∑ p : Fin 1536, f (lo p)) + ∑ p : Fin 1280, f (hi p) = ∑ p, f p :=
  (Fin.sum_univ_add (a := 1536) (b := 1280) f).symm

/-- The kernel's form of the logistic function on a real. -/
theorem sg_ker (z : ℝ) : Ideal.ofBits .f32 0x3F000000#32 * Ideal.tanh (Ideal.ofBits .f32 0x3F000000#32 * (z : EReal)) + Ideal.ofBits .f32 0x3F000000#32 = ((sg z : ℝ) : EReal) := by
  rw [chalf, ← EReal.coe_mul, Ideal.tanh_coe, ← EReal.coe_mul, ← EReal.coe_add, sg_tanh]

/-- The reference's form of the logistic function on a real. -/
theorem sg_ref (z : ℝ) : Ideal.div (Ideal.ofBits .f32 0x3F800000#32) (Ideal.ofBits .f32 0x3F800000#32 + Ideal.exp (-(z : EReal))) = ((sg z : ℝ) : EReal) := by
  have h : (1 : ℝ) + Real.exp (-z) ≠ 0 := by positivity
  rw [cone, ← EReal.coe_neg, Ideal.exp_coe, ← EReal.coe_add, div_coe_coe _ h]
  unfold sg; rw [one_div]

end Cert.Ff

end
-- ==== Proof.FfnBody.lean ====
/- The two kernel bodies of the feed-forward block at one row: every value they compute is the real number of the specification. -/
module

public import proofs.«01_k».proof.Proof.FfnSpec
public import proofs.«01_k».proof.Proof.Gen.FfnIdeal.Skeleton
public import Idealize.ShloMosaic.Lib.Pointwise

@[expose] public section

set_option maxRecDepth 16384

noncomputable section

namespace Cert.Ff

open Cert.FfnIdeal Cert.FfnIdeal.Gen Cert.RowNorm
open Idealize.ShloMosaic Idealize.ShloMosaic.TcCoe

variable {A : Wts} {x t : Fin 1024 → ℝ} {r : Fin 512}

/-! ## The forward body -/

section Fwd

variable {v3 : FVec Ideal S512x1024 .bf16} {v5 v70 : FVec Ideal S512x1024 .f32} {v66 : FVec Ideal S1x1024 .f32}
  {a1 a3 a2 : FVec Ideal S1536x1024 .bf16} {b1 b3 b2 : FVec Ideal S1280x1024 .bf16}

/-- The row's blocks and the chunks of the weights hold the specification's numbers. -/
structure FwdOk (A : Wts) (x t : Fin 1024 → ℝ) (r : Fin 512) (v3 : FVec Ideal S512x1024 .bf16) (v5 v70 : FVec Ideal S512x1024 .f32) (v66 : FVec Ideal S1x1024 .f32)
    (a1 a3 a2 : FVec Ideal S1536x1024 .bf16) (b1 b3 b2 : FVec Ideal S1280x1024 .bf16) : Prop where
  h2 : ∀ k : Fin 1024, v3 (ix2 r k) = ((h2 A x k : ℝ) : EReal)
  x : ∀ k : Fin 1024, v5 (ix2 r k) = ((x k : ℝ) : EReal)
  t : ∀ k : Fin 1024, v70 (ix2 r k) = ((t k : ℝ) : EReal)
  gl : ∀ k : Fin 1024, v66 (ix2 (0 : Fin 1) k) = ((A.gl k : ℝ) : EReal)
  a1 : ∀ (p : Fin 1536) (k : Fin 1024), a1 (ix2 p k) = ((A.w1 k (lo p) : ℝ) : EReal)
  a3 : ∀ (p : Fin 1536) (k : Fin 1024), a3 (ix2 p k) = ((A.w3 k (lo p) : ℝ) : EReal)
  a2 : ∀ (p : Fin 1536) (k : Fin 1024), a2 (ix2 p k) = ((A.w2 (lo p) k : ℝ) : EReal)
  b1 : ∀ (p : Fin 1280) (k : Fin 1024), b1 (ix2 p k) = ((A.w1 k (hi p) : ℝ) : EReal)
  b3 : ∀ (p : Fin 1280) (k : Fin 1024), b3 (ix2 p k) = ((A.w3 k (hi p) : ℝ) : EReal)
  b2 : ∀ (p : Fin 1280) (k : Fin 1024), b2 (ix2 p k) = ((A.w2 (hi p) k : ℝ) : EReal)

variable (h : FwdOk A x t r v3 v5 v70 v66 a1 a3 a2 b1 b3 b2)
include h

/-- The first chunk of the gate's projection. -/
theorem fG_lo (p : Fin 1536) : k0_pay5 (F := Ideal) v3 a1 (ix2 r p) = ((G A x (lo p) : ℝ) : EReal) := by
  pointwise [k0_pay5, k0_pay4]
  simp only [h.h2, h.a1, ← EReal.coe_mul, coe_sum]
  rfl

/-- The first chunk of the value's projection. -/
theorem fV_lo (p : Fin 1536) : k0_pay6 (F := Ideal) v3 a3 (ix2 r p) = ((V A x (lo p) : ℝ) : EReal) := by
  pointwise [k0_pay6, k0_pay4]
  simp only [h.h2, h.a3, ← EReal.coe_mul, coe_sum]
  rfl

/-- The second chunk of the gate's projection. -/
theorem fG_hi (p : Fin 1280) : k0_pay11 (F := Ideal) (k0_pay4 v3) b1 (ix2 r p) = ((G A x (hi p) : ℝ) : EReal) := by
  pointwise [k0_pay11, k0_pay4]
  simp only [h.h2, h.b1, ← EReal.coe_mul, coe_sum]
  rfl

/-- The second chunk of the value's projection. -/
theorem fV_hi (p : Fin 1280) : k0_pay12 (F := Ideal) (k0_pay4 v3) b3 (ix2 r p) = ((V A x (hi p) : ℝ) : EReal) := by
  pointwise [k0_pay12, k0_pay4]
  simp only [h.h2, h.b3, ← EReal.coe_mul, coe_sum]
  rfl

/-- The first chunk of the hidden row. -/
theorem fff_lo (p : Fin 1536) : k0_pay9 (F := Ideal) v3 a1 a3 (ix2 r p) = ((ff A x (lo p) : ℝ) : EReal) := by
  pointwise [k0_pay9]
  simp only [fG_lo h, fV_lo h, sg_ker, ← EReal.coe_mul]
  rfl

/-- The second chunk of the hidden row. -/
theorem fff_hi (p : Fin 1280) : k0_pay15 (F := Ideal) (k0_pay4 v3) b1 b3 (ix2 r p) = ((ff A x (hi p) : ℝ) : EReal) := by
  pointwise [k0_pay15]
  simp only [fG_hi h, fV_hi h, sg_ker, ← EReal.coe_mul]
  rfl

/-- The block's output row. -/
theorem fh3 (l : Fin 1024) : k0_pay16 (F := Ideal) (k0_pay4 v3) (k0_pay10 v3 v5 a1 a3 a2) b1 b3 b2 (ix2 r l) = ((h3 A x l : ℝ) : EReal) := by
  pointwise [k0_pay16, k0_pay10]
  simp only [fff_lo h, fff_hi h, h.x, h.a2, h.b2, ← EReal.coe_mul, coe_sum, ← EReal.coe_add]
  rw [add_assoc, sum_chunks fun p => ff A x p * A.w2 p l]
  rfl

/-- The output row's reciprocal root mean square. -/
theorem frs : k0_pay17 (F := Ideal) (k0_pay4 v3) (k0_pay10 v3 v5 a1 a3 a2) b1 b3 b2 (ix2 r (0 : Fin 1)) = ((rstd 1024 (h3 A x) : ℝ) : EReal) := by
  pointwise [k0_pay17]
  simp only [fh3 h, c1024, ceps]
  exact rstd_eq (by norm_num) _

/-- The output row normalised. -/
theorem fxh (l : Fin 1024) : k0_pay18 (F := Ideal) (k0_pay4 v3) (k0_pay10 v3 v5 a1 a3 a2) b1 b3 b2 (ix2 r l) = ((xh A x l : ℝ) : EReal) := by
  pointwise [k0_pay18]
  simp only [fh3 h, frs h, ← EReal.coe_mul]
  rfl

end Fwd

section Tail

variable {v63 : FVec Ideal S512x1 .f32} {v65 v70 : FVec Ideal S512x1024 .f32} {v66 : FVec Ideal S1x1024 .f32}
  (hr : v63 (ix2 r (0 : Fin 1)) = ((rstd 1024 (h3 A x) : ℝ) : EReal))
  (hx : ∀ l : Fin 1024, v65 (ix2 r l) = ((xh A x l : ℝ) : EReal)) (ht : ∀ l : Fin 1024, v70 (ix2 r l) = ((t l : ℝ) : EReal))
  (hg : ∀ l : Fin 1024, v66 (ix2 (0 : Fin 1) l) = ((A.gl l : ℝ) : EReal))

include hx ht hg

/-- The row's error. -/
theorem ferr (l : Fin 1024) : k0_pay20 (F := Ideal) v65 v66 v70 (ix2 r l) = ((err A x t l : ℝ) : EReal) := by
  pointwise [k0_pay20, k0_pay19]
  simp only [hx, ht, hg, ← EReal.coe_mul, ← EReal.coe_sub]
  rfl

/-- The cotangent of the normalised row times its gain. -/
theorem fdy (l : Fin 1024) : k0_pay22 (F := Ideal) v65 v66 v70 (ix2 r l) = ((dy A x t l : ℝ) : EReal) := by
  pointwise [k0_pay22]
  rw [ferr hx ht hg, cinv, ← EReal.coe_mul]
  rfl

include hr

/-- The cotangent of the block's output row. -/
theorem fd3 (l : Fin 1024) : k0_pay23 (F := Ideal) v63 v65 v66 v70 (ix2 r l) = ((d3 A x t l : ℝ) : EReal) := by
  pointwise [k0_pay23, k0_pay19]
  simp only [fdy hx ht hg, hx, hg, hr, c1024, ← EReal.coe_mul, coe_sum]
  rw [div_coe_coe _ (by norm_num)]
  simp only [← EReal.coe_mul, ← EReal.coe_sub]
  rfl

end Tail

/-- A tile's part of the loss. -/
theorem floss {X T : Fin 512 → Fin 1024 → ℝ} {v65 v70 : FVec Ideal S512x1024 .f32} {v66 : FVec Ideal S1x1024 .f32} (v72 : FVec Ideal S8x128 .f32)
    (hx : ∀ (r : Fin 512) (l : Fin 1024), v65 (ix2 r l) = ((xh A (X r) l : ℝ) : EReal)) (ht : ∀ (r : Fin 512) (l : Fin 1024), v70 (ix2 r l) = ((T r l : ℝ) : EReal))
    (hg : ∀ l : Fin 1024, v66 (ix2 (0 : Fin 1) l) = ((A.gl l : ℝ) : EReal)) (i : Fin 8) (j : Fin 128) :
    k0_pay21 (F := Ideal) v65 v66 v70 v72 (ix2 i j) = v72 (ix2 i j) + ((1 / 2 * ∑ r, ls A (X r) (T r) : ℝ) : EReal) := by
  pointwise [k0_pay21]
  simp only [ferr (hx _) (ht _) hg, c1024, ← EReal.coe_mul, coe_sum]
  simp only [div_coe_coe _ (by norm_num : (1024 : ℝ) ≠ 0), Fin.sum_univ_one, coe_sum, chalf, ← EReal.coe_mul]
  rfl

/-- A tile's part of the final gain's gradient. -/
theorem fpl {X T : Fin 512 → Fin 1024 → ℝ} {v65 v70 : FVec Ideal S512x1024 .f32} {v66 : FVec Ideal S1x1024 .f32}
    (hx : ∀ (r : Fin 512) (l : Fin 1024), v65 (ix2 r l) = ((xh A (X r) l : ℝ) : EReal)) (ht : ∀ (r : Fin 512) (l : Fin 1024), v70 (ix2 r l) = ((T r l : ℝ) : EReal))
    (hg : ∀ l : Fin 1024, v66 (ix2 (0 : Fin 1) l) = ((A.gl l : ℝ) : EReal)) (l : Fin 1024) :
    k0_pay24 (F := Ideal) v65 v66 v70 (ix2 (0 : Fin 1) l) = ((∑ r, pl A (X r) (T r) l : ℝ) : EReal) := by
  pointwise [k0_pay24]
  simp only [fdy (hx _) (ht _) hg, hx, ← EReal.coe_mul, coe_sum]
  rfl

/-! ## The backward body -/

section Bwd

variable {c3 c83 : FVec Ideal S512x1024 .f32} {c94 : FVec Ideal S1x1024 .f32} {ga va : FVec Ideal S512x1536 .bf16} {gb vb : FVec Ideal S512x1280 .bf16}
  {a1 a3 a2 : FVec Ideal S1536x1024 .bf16} {b1 b3 b2 : FVec Ideal S1280x1024 .bf16}

/-- The row's blocks and the chunks of the weights hold the specification's numbers. -/
structure BwdOk (A : Wts) (x t : Fin 1024 → ℝ) (r : Fin 512) (c3 c83 : FVec Ideal S512x1024 .f32) (c94 : FVec Ideal S1x1024 .f32) (ga va : FVec Ideal S512x1536 .bf16)
    (gb vb : FVec Ideal S512x1280 .bf16) (a1 a3 a2 : FVec Ideal S1536x1024 .bf16) (b1 b3 b2 : FVec Ideal S1280x1024 .bf16) : Prop where
  hd : ∀ k : Fin 1024, c3 (ix2 r k) = ((d3 A x t k : ℝ) : EReal)
  hx : ∀ k : Fin 1024, c83 (ix2 r k) = ((x k : ℝ) : EReal)
  gf : ∀ k : Fin 1024, c94 (ix2 (0 : Fin 1) k) = ((A.gf k : ℝ) : EReal)
  ga : ∀ p : Fin 1536, ga (ix2 r p) = ((G A x (lo p) : ℝ) : EReal)
  va : ∀ p : Fin 1536, va (ix2 r p) = ((V A x (lo p) : ℝ) : EReal)
  gb : ∀ p : Fin 1280, gb (ix2 r p) = ((G A x (hi p) : ℝ) : EReal)
  vb : ∀ p : Fin 1280, vb (ix2 r p) = ((V A x (hi p) : ℝ) : EReal)
  a1 : ∀ (p : Fin 1536) (k : Fin 1024), a1 (ix2 p k) = ((A.w1 k (lo p) : ℝ) : EReal)
  a3 : ∀ (p : Fin 1536) (k : Fin 1024), a3 (ix2 p k) = ((A.w3 k (lo p) : ℝ) : EReal)
  a2 : ∀ (p : Fin 1536) (k : Fin 1024), a2 (ix2 p k) = ((A.w2 (lo p) k : ℝ) : EReal)
  b1 : ∀ (p : Fin 1280) (k : Fin 1024), b1 (ix2 p k) = ((A.w1 k (hi p) : ℝ) : EReal)
  b3 : ∀ (p : Fin 1280) (k : Fin 1024), b3 (ix2 p k) = ((A.w3 k (hi p) : ℝ) : EReal)
  b2 : ∀ (p : Fin 1280) (k : Fin 1024), b2 (ix2 p k) = ((A.w2 (hi p) k : ℝ) : EReal)

variable (h : BwdOk A x t r c3 c83 c94 ga va gb vb a1 a3 a2 b1 b3 b2)
include h

/-- The first chunk of the hidden row's cotangent. -/
theorem bff_lo (p : Fin 1536) : k1_pay6 (F := Ideal) c3 a2 (ix2 r p) = ((dff A x t (lo p) : ℝ) : EReal) := by
  pointwise [k1_pay6, k1_pay4, k1_pay3]
  simp only [h.hd, h.a2, ← EReal.coe_mul, coe_sum]
  rfl

/-- The second chunk of the hidden row's cotangent. -/
theorem bff_hi (p : Fin 1280) : k1_pay12 (F := Ideal) (k1_pay4 c3) b2 (ix2 r p) = ((dff A x t (hi p) : ℝ) : EReal) := by
  pointwise [k1_pay12, k1_pay4, k1_pay3]
  simp only [h.hd, h.b2, ← EReal.coe_mul, coe_sum]
  rfl

/-- The first chunk of the gate projection's cotangent. -/
theorem bg_lo (p : Fin 1536) : k1_pay9 (F := Ideal) c3 a2 ga va (ix2 r p) = ((dg A x t (lo p) : ℝ) : EReal) := by
  pointwise [k1_pay9, k1_pay8, k1_pay7]
  simp only [bff_lo h, h.ga, h.va, sg_ker, cone, ← EReal.coe_mul, ← EReal.coe_sub, ← EReal.coe_add]
  rfl

/-- The second chunk of the gate projection's cotangent. -/
theorem bg_hi (p : Fin 1280) : k1_pay15 (F := Ideal) (k1_pay4 c3) b2 gb vb (ix2 r p) = ((dg A x t (hi p) : ℝ) : EReal) := by
  pointwise [k1_pay15, k1_pay14, k1_pay13]
  simp only [bff_hi h, h.gb, h.vb, sg_ker, cone, ← EReal.coe_mul, ← EReal.coe_sub, ← EReal.coe_add]
  rfl

/-- The first chunk of the value projection's cotangent. -/
theorem bv_lo (p : Fin 1536) : k1_pay10 (F := Ideal) c3 a2 ga (ix2 r p) = ((dv A x t (lo p) : ℝ) : EReal) := by
  pointwise [k1_pay10, k1_pay8, k1_pay7]
  simp only [bff_lo h, h.ga, sg_ker, ← EReal.coe_mul]
  rfl

/-- The second chunk of the value projection's cotangent. -/
theorem bv_hi (p : Fin 1280) : k1_pay16 (F := Ideal) (k1_pay4 c3) b2 gb (ix2 r p) = ((dv A x t (hi p) : ℝ) : EReal) := by
  pointwise [k1_pay16, k1_pay14, k1_pay13]
  simp only [bff_hi h, h.gb, sg_ker, ← EReal.coe_mul]
  rfl

/-- The cotangent of the normalised input row times its gain. -/
theorem bdh (l : Fin 1024) : k1_pay17 (F := Ideal) (k1_pay11 k1_pay5 (k1_pay9 c3 a2 ga va) (k1_pay10 c3 a2 ga) a1 a3) (k1_pay15 (k1_pay4 c3) b2 gb vb) (k1_pay16 (k1_pay4 c3) b2 gb) b1 b3 (ix2 r l)
    = ((dh A x t l : ℝ) : EReal) := by
  pointwise [k1_pay17, k1_pay11, k1_pay5]
  simp only [bg_lo h, bv_lo h, bg_hi h, bv_hi h, h.a1, h.a3, h.b1, h.b3, ← EReal.coe_mul, coe_sum, ← EReal.coe_add, zero_add]
  unfold dh
  rw [← sum_chunks fun p => dg A x t p * A.w1 l p, ← sum_chunks fun p => dv A x t p * A.w3 l p]
  refine congrArg (fun q : ℝ => (q : EReal)) ?_
  ring

/-- The input row's reciprocal root mean square. -/
theorem brs : k1_pay18 (F := Ideal) c83 (ix2 r (0 : Fin 1)) = ((rstd 1024 x : ℝ) : EReal) := by
  pointwise [k1_pay18]
  simp only [h.hx, c1024, ceps]
  exact rstd_eq (by norm_num) _

/-- The input row normalised. -/
theorem bxh (l : Fin 1024) : k1_pay19 (F := Ideal) c83 (ix2 r l) = ((x l * rstd 1024 x : ℝ) : EReal) := by
  pointwise [k1_pay19]
  rw [h.hx, brs h, ← EReal.coe_mul]

/-- The cotangent of the input row. -/
theorem bd2 (l : Fin 1024) : k1_pay21 (F := Ideal) (k1_pay3 c3) (k1_pay11 k1_pay5 (k1_pay9 c3 a2 ga va) (k1_pay10 c3 a2 ga) a1 a3) (k1_pay15 (k1_pay4 c3) b2 gb vb) (k1_pay16 (k1_pay4 c3) b2 gb) b1 b3 c83 c94 (ix2 r l)
    = ((d2 A x t l : ℝ) : EReal) := by
  pointwise [k1_pay21, k1_pay3]
  simp only [bdh h, bxh h, brs h, h.hd, h.gf, c1024, ← EReal.coe_mul, coe_sum]
  rw [div_coe_coe _ (by norm_num)]
  simp only [← EReal.coe_mul, ← EReal.coe_sub, ← EReal.coe_add]
  rfl

end Bwd

/-- A tile's part of the block gain's gradient. -/
theorem bpf {X T : Fin 512 → Fin 1024 → ℝ} {c3 c83 : FVec Ideal S512x1024 .f32} {c94 : FVec Ideal S1x1024 .f32} {ga va : FVec Ideal S512x1536 .bf16} {gb vb : FVec Ideal S512x1280 .bf16}
    {a1 a3 a2 : FVec Ideal S1536x1024 .bf16} {b1 b3 b2 : FVec Ideal S1280x1024 .bf16} (h : ∀ r : Fin 512, BwdOk A (X r) (T r) r c3 c83 c94 ga va gb vb a1 a3 a2 b1 b3 b2) (l : Fin 1024) :
    k1_pay20 (F := Ideal) (k1_pay11 k1_pay5 (k1_pay9 c3 a2 ga va) (k1_pay10 c3 a2 ga) a1 a3) (k1_pay15 (k1_pay4 c3) b2 gb vb) (k1_pay16 (k1_pay4 c3) b2 gb) b1 b3 c83 (ix2 (0 : Fin 1) l)
      = ((∑ r, pf A (X r) (T r) l : ℝ) : EReal) := by
  pointwise [k1_pay20]
  simp only [bdh (h _), bxh (h _), ← EReal.coe_mul, coe_sum]
  rfl

end Cert.Ff

end
-- ==== Proof.FfnValue.lean ====
/- The feed-forward block's two kernel regions: what each result array holds after the launch, row by row, as the specification's real numbers. -/
module

public import proofs.«01_k».proof.Proof.FfnBody
public import proofs.«01_k».proof.Proof.PoolTile
public import proofs.«01_k».proof.Proof.Gen.FfnIdeal.Frame

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.Ff Cert.RowNorm

/-! ## The two chunks of a block -/

/-- The rows of the first chunk of a weight. -/
theorem ld_lo (X : FVec Ideal S2816x1024 .bf16) (p : Fin 1536) (k : Fin 1024) :
    (View.ld (Val := Elt Ideal) (e' := .bf16) X (Rect.unit ![0, 0] ![1536, 1024] inb_S2816x1024_S1536x1024_0_0) : FVec Ideal S1536x1024 .bf16) (ix2 p k) = X (ix2 (lo p) k) := by
  refine congrArg X ((Cert.Pool.idx2 inb_S2816x1024_S1536x1024_0_0 p k (by omega) (by omega)).trans ?_)
  exact congrArg₂ ix2 (Fin.ext (Nat.zero_add _)) (Fin.ext (Nat.zero_add _))

/-- The rows of the second chunk of a weight. -/
theorem ld_hi (X : FVec Ideal S2816x1024 .bf16) (p : Fin 1280) (k : Fin 1024) :
    (View.ld (Val := Elt Ideal) (e' := .bf16) X (Rect.unit ![1536, 0] ![1280, 1024] inb_S2816x1024_S1280x1024_1536_0) : FVec Ideal S1280x1024 .bf16) (ix2 p k) = X (ix2 (hi p) k) := by
  refine congrArg X ((Cert.Pool.idx2 inb_S2816x1024_S1280x1024_1536_0 p k (by omega) (by omega)).trans ?_)
  exact congrArg₂ ix2 rfl (Fin.ext (Nat.zero_add _))

/-- The columns of the first chunk of a saved row. -/
theorem ldc_lo (X : FVec Ideal S512x2816 .bf16) (r : Fin 512) (p : Fin 1536) :
    (View.ld (Val := Elt Ideal) (e' := .bf16) X (Rect.unit ![0, 0] ![512, 1536] inb_S512x2816_S512x1536_0_0) : FVec Ideal S512x1536 .bf16) (ix2 r p) = X (ix2 r (lo p)) := by
  refine congrArg X ((Cert.Pool.idx2 inb_S512x2816_S512x1536_0_0 r p (by omega) (by omega)).trans ?_)
  exact congrArg₂ ix2 (Fin.ext (Nat.zero_add _)) (Fin.ext (Nat.zero_add _))

/-- The columns of the second chunk of a saved row. -/
theorem ldc_hi (X : FVec Ideal S512x2816 .bf16) (r : Fin 512) (p : Fin 1280) :
    (View.ld (Val := Elt Ideal) (e' := .bf16) X (Rect.unit ![0, 1536] ![512, 1280] inb_S512x2816_S512x1280_0_1536) : FVec Ideal S512x1280 .bf16) (ix2 r p) = X (ix2 r (hi p)) := by
  refine congrArg X ((Cert.Pool.idx2 inb_S512x2816_S512x1280_0_1536 r p (by omega) (by omega)).trans ?_)
  exact congrArg₂ ix2 (Fin.ext (Nat.zero_add _)) rfl

/-- Two stored chunks that hold one function of the column hold it on the whole row. -/
theorem two (wb : FVec Ideal S512x1280 .bf16) (wa : FVec Ideal S512x1536 .bf16) (f : Fin 2816 → EReal) (r : Fin 512) (p : Fin 2816)
    (ha : ∀ q, wa (ix2 r q) = f (lo q)) (hb : ∀ q, wb (ix2 r q) = f (hi q)) :
    View.canon ([⟨Rect.unit ![0, 1536] ![512, 1280] inb_S512x2816_S512x1280_0_1536, wb⟩, ⟨Rect.unit ![0, 0] ![512, 1536] inb_S512x2816_S512x1536_0_0, wa⟩] : List (View.Piece (Elt Ideal) S512x2816 .bf16)) (ix2 r p) = f p := by
  by_cases h : p.val < 1536
  · refine (Cert.Pool.skip2 _ (Or.inr (by omega))).trans ?_
    refine (Cert.Pool.hit2 _ r ⟨p.val, h⟩ (by omega) (by simp)).trans ((ha _).trans ?_)
    exact congrArg f (Fin.ext rfl)
  · refine (Cert.Pool.hit2 _ r ⟨p.val - 1536, by omega⟩ (by omega) (by simp only []; omega)).trans ((hb _).trans ?_)
    exact congrArg f (Fin.ext (by simp only [hi]; omega))

/-! ## Rows and tiles -/

theorem N_16 : cfg0.N = 16 := by decide +kernel
theorem N_16' : cfg1.N = 16 := by decide +kernel

/-- The row of the whole array that row `r` of point `t`'s block is. -/
def row (t : ℕ) (ht : t < 16) (r : Fin 512) : Fin 8192 := ⟨t * 512 + r.val, by omega⟩

/-- The sum over the points of their rows' sums is the sum over all rows. -/
theorem sum_rows {n : ℕ} (hn : n = 16) (f : Fin 8192 → ℝ) : ∑ t : Fin n, ∑ r : Fin 512, f (row t.val (hn ▸ t.isLt) r) = ∑ R : Fin 8192, f R := by
  subst hn
  exact (Fin.sum_univ_tiles 16 512 rfl f).symm

variable (V : (c : Dev nD) → (b : Ref sig .tc) → Buf (Elt Ideal) ((c : Thread nD τ).loc b))
variable (A : Wts) (X T : Fin 8192 → Fin 1024 → ℝ)

/-! ## The forward region -/

/-- The block each window of the forward region holds at a grid point. -/
theorem idx0 : ∀ t : Fin cfg0.N, win0_0.index t = ![t.val, 0] ∧ win0_1.index t = ![t.val, 0] ∧ win0_2.index t = ![0, 0] ∧ win0_3.index t = ![0, 0] ∧ win0_4.index t = ![0, 0]
    ∧ win0_5.index t = ![0, 0] ∧ win0_6.index t = ![t.val, 0] ∧ win0_7.index t = ![t.val, 0] ∧ win0_8.index t = ![t.val, 0] ∧ win0_10.index t = ![t.val, 0]
    ∧ win0_12.index t = ![0, 0] ∧ win0_13.index t = ![0, 0] :=
  (by decide +kernel : ∀ t : Fin grid0.N, _)

/-- What the forward region finds: the specification's rows, weights, gain and targets. -/
structure In0 (c : Dev nD) : Prop where
  x : ∀ R k, (V c main_arg0 : FVec Ideal S8192x1024 .f32) (ix2 R k) = ((X R k : ℝ) : EReal)
  h2 : ∀ R k, (V c main_v20 : FVec Ideal S8192x1024 .bf16) (ix2 R k) = ((h2 A (X R) k : ℝ) : EReal)
  w1 : ∀ p k, (V c main_v2 : FVec Ideal S2816x1024 .bf16) (ix2 p k) = ((A.w1 k p : ℝ) : EReal)
  w3 : ∀ p k, (V c main_v5 : FVec Ideal S2816x1024 .bf16) (ix2 p k) = ((A.w3 k p : ℝ) : EReal)
  w2 : ∀ p k, (V c main_v7 : FVec Ideal S2816x1024 .bf16) (ix2 p k) = ((A.w2 p k : ℝ) : EReal)
  gl : ∀ k, (V c main_v21 : FVec Ideal S1x1024 .f32) (ix2 0 k) = ((A.gl k : ℝ) : EReal)
  t : ∀ R k, (V c main_arg6 : FVec Ideal S8192x1024 .f32) (ix2 R k) = ((T R k : ℝ) : EReal)

section Region0

variable {V A X T} {c : Dev nD} (h : In0 V A X T c)

/-- The row of point `t`. -/
abbrev row0 (t : Fin cfg0.N) (r : Fin 512) : Fin 8192 := row t.val (N_16 ▸ t.isLt) r

include h

theorem i0 (t : Fin cfg0.N) (r : Fin 512) (k : Fin 1024) : (iblk0 V c 0 t : FVec Ideal S512x1024 .f32) (ix2 r k) = ((X (row0 t r) k : ℝ) : EReal) := by
  rw [← h.x]; blk_simp [iblk0]; blk_ext [idx0 t, row0, row]
theorem i1 (t : Fin cfg0.N) (r : Fin 512) (k : Fin 1024) : (iblk0 V c 1 t : FVec Ideal S512x1024 .bf16) (ix2 r k) = ((h2 A (X (row0 t r)) k : ℝ) : EReal) := by
  rw [← h.h2]; blk_simp [iblk0]; blk_ext [idx0 t, row0, row]
theorem i2 (t : Fin cfg0.N) (p : Fin 2816) (k : Fin 1024) : (iblk0 V c 2 t : FVec Ideal S2816x1024 .bf16) (ix2 p k) = ((A.w1 k p : ℝ) : EReal) := by
  rw [← h.w1]; blk_simp [iblk0]; blk_ext [idx0 t]
theorem i3 (t : Fin cfg0.N) (p : Fin 2816) (k : Fin 1024) : (iblk0 V c 3 t : FVec Ideal S2816x1024 .bf16) (ix2 p k) = ((A.w3 k p : ℝ) : EReal) := by
  rw [← h.w3]; blk_simp [iblk0]; blk_ext [idx0 t]
theorem i4 (t : Fin cfg0.N) (p : Fin 2816) (k : Fin 1024) : (iblk0 V c 4 t : FVec Ideal S2816x1024 .bf16) (ix2 p k) = ((A.w2 p k : ℝ) : EReal) := by
  rw [← h.w2]; blk_simp [iblk0]; blk_ext [idx0 t]
theorem i5 (t : Fin cfg0.N) (k : Fin 1024) : (iblk0 V c 5 t : FVec Ideal S1x1024 .f32) (ix2 0 k) = ((A.gl k : ℝ) : EReal) := by
  rw [← h.gl]; blk_simp [iblk0]; blk_ext [idx0 t]
theorem i6 (t : Fin cfg0.N) (r : Fin 512) (k : Fin 1024) : (iblk0 V c 6 t : FVec Ideal S512x1024 .f32) (ix2 r k) = ((T (row0 t r) k : ℝ) : EReal) := by
  rw [← h.t]; blk_simp [iblk0]; blk_ext [idx0 t, row0, row]

/-- The forward body's hypotheses at a row of a point's block. -/
theorem fwd (t : Fin cfg0.N) (r : Fin 512) : FwdOk A (X (row0 t r)) (T (row0 t r)) r (iblk0 V c 1 t) (iblk0 V c 0 t) (iblk0 V c 6 t) (iblk0 V c 5 t)
    (View.ld (iblk0 V c 2 t : FVec Ideal S2816x1024 .bf16) (Rect.unit ![0, 0] ![1536, 1024] inb_S2816x1024_S1536x1024_0_0))
    (View.ld (iblk0 V c 3 t : FVec Ideal S2816x1024 .bf16) (Rect.unit ![0, 0] ![1536, 1024] inb_S2816x1024_S1536x1024_0_0))
    (View.ld (iblk0 V c 4 t : FVec Ideal S2816x1024 .bf16) (Rect.unit ![0, 0] ![1536, 1024] inb_S2816x1024_S1536x1024_0_0))
    (View.ld (iblk0 V c 2 t : FVec Ideal S2816x1024 .bf16) (Rect.unit ![1536, 0] ![1280, 1024] inb_S2816x1024_S1280x1024_1536_0))
    (View.ld (iblk0 V c 3 t : FVec Ideal S2816x1024 .bf16) (Rect.unit ![1536, 0] ![1280, 1024] inb_S2816x1024_S1280x1024_1536_0))
    (View.ld (iblk0 V c 4 t : FVec Ideal S2816x1024 .bf16) (Rect.unit ![1536, 0] ![1280, 1024] inb_S2816x1024_S1280x1024_1536_0)) where
  h2 := i1 h t r
  x := i0 h t r
  t := i6 h t r
  gl := i5 h t
  a1 p k := (ld_lo _ p k).trans (i2 h t _ k)
  a3 p k := (ld_lo _ p k).trans (i3 h t _ k)
  a2 p k := (ld_lo _ p k).trans (i4 h t _ k)
  b1 p k := (ld_hi _ p k).trans (i2 h t _ k)
  b3 p k := (ld_hi _ p k).trans (i3 h t _ k)
  b2 p k := (ld_hi _ p k).trans (i4 h t _ k)

/-- The saved gate's projection. -/
theorem g_arr : (dat0 V c).arrAt 7 cfg0.N = fun j : S8192x2816.Idx => ((G A (X (j 0)) (j 1) : ℝ) : EReal) := by
  refine (dat0 V c).arrAt_eq_of_covers 7 _ (by decide +kernel) fun t hf y => ?_
  blk_simp
  rw [after0_7]
  have hj : (win0_7.blk t).view.emb y = ix2 (row0 t (y 0)) (y 1) := by blk_ext [idx0 t, row0, row]
  rw [hj]
  obtain ⟨r, p, rfl⟩ : ∃ (r : Fin 512) (p : Fin 2816), y = ix2 r p := ⟨y 0, y 1, eq_ix2 y⟩
  by_cases ht : t.val % 16 = 0
  · rw [outsAt0_A V c t ht]; frame_out
    exact two _ _ (fun p => ((G A (X (row0 t r)) p : ℝ) : EReal)) r p (fun q => fG_lo (fwd h t r) q) (fun q => fG_hi (fwd h t r) q)
  · rw [outsAt0_B V c t ht]; frame_out
    exact two _ _ (fun p => ((G A (X (row0 t r)) p : ℝ) : EReal)) r p (fun q => fG_lo (fwd h t r) q) (fun q => fG_hi (fwd h t r) q)

/-- The saved value's projection. -/
theorem v_arr : (dat0 V c).arrAt 8 cfg0.N = fun j : S8192x2816.Idx => ((Cert.Ff.V A (X (j 0)) (j 1) : ℝ) : EReal) := by
  refine (dat0 V c).arrAt_eq_of_covers 8 _ (by decide +kernel) fun t hf y => ?_
  blk_simp
  rw [after0_8]
  have hj : (win0_8.blk t).view.emb y = ix2 (row0 t (y 0)) (y 1) := by blk_ext [idx0 t, row0, row]
  rw [hj]
  obtain ⟨r, p, rfl⟩ : ∃ (r : Fin 512) (p : Fin 2816), y = ix2 r p := ⟨y 0, y 1, eq_ix2 y⟩
  by_cases ht : t.val % 16 = 0
  · rw [outsAt0_A V c t ht]; frame_out
    exact two _ _ (fun p => ((Cert.Ff.V A (X (row0 t r)) p : ℝ) : EReal)) r p (fun q => fV_lo (fwd h t r) q) (fun q => fV_hi (fwd h t r) q)
  · rw [outsAt0_B V c t ht]; frame_out
    exact two _ _ (fun p => ((Cert.Ff.V A (X (row0 t r)) p : ℝ) : EReal)) r p (fun q => fV_lo (fwd h t r) q) (fun q => fV_hi (fwd h t r) q)

/-- The cotangent of the block's output. -/
theorem d3_arr : (dat0 V c).arrAt 10 cfg0.N = fun j : S8192x1024.Idx => ((d3 A (X (j 0)) (T (j 0)) (j 1) : ℝ) : EReal) := by
  refine (dat0 V c).arrAt_eq_of_covers 10 _ (by decide +kernel) fun t hf y => ?_
  blk_simp
  rw [after0_10]
  have hj : (win0_10.blk t).view.emb y = ix2 (row0 t (y 0)) (y 1) := by blk_ext [idx0 t, row0, row]
  rw [hj]
  obtain ⟨r, l, rfl⟩ : ∃ (r : Fin 512) (l : Fin 1024), y = ix2 r l := ⟨y 0, y 1, eq_ix2 y⟩
  by_cases ht : t.val % 16 = 0
  · rw [outsAt0_A V c t ht]; frame_out
    exact fd3 (frs (fwd h t r)) (fxh (fwd h t r)) (i6 h t r) (i5 h t) l
  · rw [outsAt0_B V c t ht]; frame_out
    exact fd3 (frs (fwd h t r)) (fxh (fwd h t r)) (i6 h t r) (i5 h t) l

/-- The loss accumulator: half the sum of every row's part, at each of its entries. -/
theorem loss_arr : (dat0 V c).arrAt 12 cfg0.N = fun _ : S8x128.Idx => ((1 / 2 * ∑ R, ls A (X R) (T R) : ℝ) : EReal) := by
  refine (dat0 V c).arrAt_eq_of_after_last 12 t0_15 (by decide +kernel) _ fun j => ?_
  blk_simp
  rw [after0_12, Pipeline.eq_sum_fin_of_reset_step_apply_last (fun n h => (outsAt0 V c n h).2.2.2.2.2.1) 16 (fun _ => 0)
    (fun t _ => ((1 / 2 * ∑ r, ls A (X (row0 t r)) (T (row0 t r)) : ℝ) : EReal))
    (fun t ht j => by
      rw [outsAt0_A V c t ht]; frame_out
      obtain ⟨p, q, rfl⟩ : ∃ (p : Fin 8) (q : Fin 128), j = ix2 p q := ⟨_, _, eq_ix2 j⟩
      refine (floss _ (fun r => fxh (fwd h t r)) (fun r => i6 h t r) (i5 h t) p q).trans ?_
      congr 1
      pointwise [k0_pay2])
    (fun t ht j => by
      rw [outsAt0_B V c t ht]; frame_out
      obtain ⟨p, q, rfl⟩ : ∃ (p : Fin 8) (q : Fin 128), j = ix2 p q := ⟨_, _, eq_ix2 j⟩
      exact floss _ (fun r => fxh (fwd h t r)) (fun r => i6 h t r) (i5 h t) p q) (le_of_eq N_16) t0_15 rfl j, zero_add]
  rw [coe_sum, ← Finset.mul_sum, sum_rows N_16 fun R => ls A (X R) (T R)]

/-- The final gain's gradient. -/
theorem dgfin_arr : (dat0 V c).arrAt 13 cfg0.N = fun j : S1x1024.Idx => ((∑ R, pl A (X R) (T R) (j 1) : ℝ) : EReal) := by
  refine (dat0 V c).arrAt_eq_of_after_last 13 t0_15 (by decide +kernel) _ fun j => ?_
  blk_simp
  rw [after0_13, Pipeline.eq_sum_fin_of_reset_step_apply_last (fun n h => (outsAt0 V c n h).2.2.2.2.2.2) 16 (fun _ => 0)
    (fun t j => ((∑ r, pl A (X (row0 t r)) (T (row0 t r)) (j 1) : ℝ) : EReal))
    (fun t ht j => by
      rw [outsAt0_A V c t ht]; frame_out
      obtain ⟨l, rfl⟩ : ∃ l : Fin 1024, j = ix2 (0 : Fin 1) l := ⟨j 1, by rw [eq_ix2 j]; congr 1; exact Subsingleton.elim _ _⟩
      pointwise [k0_pay1, k0_pay3]
      exact fpl (fun r => fxh (fwd h t r)) (fun r => i6 h t r) (i5 h t) l)
    (fun t ht j => by
      rw [outsAt0_B V c t ht]; frame_out
      obtain ⟨l, rfl⟩ : ∃ l : Fin 1024, j = ix2 (0 : Fin 1) l := ⟨j 1, by rw [eq_ix2 j]; congr 1; exact Subsingleton.elim _ _⟩
      pointwise [k0_pay1]
      exact congrArg (HAdd.hAdd _) (fpl (fun r => fxh (fwd h t r)) (fun r => i6 h t r) (i5 h t) l)) (le_of_eq N_16) t0_15 rfl j, zero_add]
  obtain ⟨l, rfl⟩ : ∃ l : Fin 1024, j = ix2 (0 : Fin 1) l := ⟨j 1, by rw [eq_ix2 j]; congr 1; exact Subsingleton.elim _ _⟩
  exact (coe_sum _ _).trans (congrArg (fun q : ℝ => (q : EReal)) (sum_rows N_16 fun R => pl A (X R) (T R) l))

end Region0

/-! ## The backward region -/

/-- The block each window of the backward region holds at a grid point. -/
theorem idx1 : ∀ t : Fin cfg1.N, win1_0.index t = ![t.val, 0] ∧ win1_1.index t = ![t.val, 0] ∧ win1_2.index t = ![t.val, 0] ∧ win1_3.index t = ![0, 0] ∧ win1_4.index t = ![0, 0]
    ∧ win1_5.index t = ![0, 0] ∧ win1_6.index t = ![t.val, 0] ∧ win1_7.index t = ![0, 0] ∧ win1_8.index t = ![t.val, 0] ∧ win1_9.index t = ![t.val, 0] ∧ win1_10.index t = ![t.val, 0]
    ∧ win1_11.index t = ![0, 0] :=
  (by decide +kernel : ∀ t : Fin grid1.N, _)

/-- What the backward region finds: the cotangent of the block's output, the saved projections, the weights, the rows and the gain. -/
structure In1 (c : Dev nD) : Prop where
  d : ∀ R k, (V c main_v22_3 : FVec Ideal S8192x1024 .f32) (ix2 R k) = ((d3 A (X R) (T R) k : ℝ) : EReal)
  g : ∀ R p, (V c main_v22_0 : FVec Ideal S8192x2816 .bf16) (ix2 R p) = ((G A (X R) p : ℝ) : EReal)
  v : ∀ R p, (V c main_v22_1 : FVec Ideal S8192x2816 .bf16) (ix2 R p) = ((Cert.Ff.V A (X R) p : ℝ) : EReal)
  w1 : ∀ p k, (V c main_v2 : FVec Ideal S2816x1024 .bf16) (ix2 p k) = ((A.w1 k p : ℝ) : EReal)
  w3 : ∀ p k, (V c main_v5 : FVec Ideal S2816x1024 .bf16) (ix2 p k) = ((A.w3 k p : ℝ) : EReal)
  w2 : ∀ p k, (V c main_v7 : FVec Ideal S2816x1024 .bf16) (ix2 p k) = ((A.w2 p k : ℝ) : EReal)
  x : ∀ R k, (V c main_arg0 : FVec Ideal S8192x1024 .f32) (ix2 R k) = ((X R k : ℝ) : EReal)
  gf : ∀ k, (V c main_arg1 : FVec Ideal S1x1024 .f32) (ix2 0 k) = ((A.gf k : ℝ) : EReal)

section Region1

variable {V A X T} {c : Dev nD} (h : In1 V A X T c)

/-- The row of point `t`. -/
abbrev row1 (t : Fin cfg1.N) (r : Fin 512) : Fin 8192 := row t.val (N_16' ▸ t.isLt) r

include h

theorem j0 (t : Fin cfg1.N) (r : Fin 512) (k : Fin 1024) : (iblk1 V c 0 t : FVec Ideal S512x1024 .f32) (ix2 r k) = ((d3 A (X (row1 t r)) (T (row1 t r)) k : ℝ) : EReal) := by
  rw [← h.d]; blk_simp [iblk1]; blk_ext [idx1 t, row1, row]
theorem j1 (t : Fin cfg1.N) (r : Fin 512) (p : Fin 2816) : (iblk1 V c 1 t : FVec Ideal S512x2816 .bf16) (ix2 r p) = ((G A (X (row1 t r)) p : ℝ) : EReal) := by
  rw [← h.g]; blk_simp [iblk1]; blk_ext [idx1 t, row1, row]
theorem j2 (t : Fin cfg1.N) (r : Fin 512) (p : Fin 2816) : (iblk1 V c 2 t : FVec Ideal S512x2816 .bf16) (ix2 r p) = ((Cert.Ff.V A (X (row1 t r)) p : ℝ) : EReal) := by
  rw [← h.v]; blk_simp [iblk1]; blk_ext [idx1 t, row1, row]
theorem j3 (t : Fin cfg1.N) (p : Fin 2816) (k : Fin 1024) : (iblk1 V c 3 t : FVec Ideal S2816x1024 .bf16) (ix2 p k) = ((A.w1 k p : ℝ) : EReal) := by
  rw [← h.w1]; blk_simp [iblk1]; blk_ext [idx1 t]
theorem j4 (t : Fin cfg1.N) (p : Fin 2816) (k : Fin 1024) : (iblk1 V c 4 t : FVec Ideal S2816x1024 .bf16) (ix2 p k) = ((A.w3 k p : ℝ) : EReal) := by
  rw [← h.w3]; blk_simp [iblk1]; blk_ext [idx1 t]
theorem j5 (t : Fin cfg1.N) (p : Fin 2816) (k : Fin 1024) : (iblk1 V c 5 t : FVec Ideal S2816x1024 .bf16) (ix2 p k) = ((A.w2 p k : ℝ) : EReal) := by
  rw [← h.w2]; blk_simp [iblk1]; blk_ext [idx1 t]
theorem j6 (t : Fin cfg1.N) (r : Fin 512) (k : Fin 1024) : (iblk1 V c 6 t : FVec Ideal S512x1024 .f32) (ix2 r k) = ((X (row1 t r) k : ℝ) : EReal) := by
  rw [← h.x]; blk_simp [iblk1]; blk_ext [idx1 t, row1, row]
theorem j7 (t : Fin cfg1.N) (k : Fin 1024) : (iblk1 V c 7 t : FVec Ideal S1x1024 .f32) (ix2 0 k) = ((A.gf k : ℝ) : EReal) := by
  rw [← h.gf]; blk_simp [iblk1]; blk_ext [idx1 t]

/-- The backward body's hypotheses at a row of a point's block. -/
theorem bwd (t : Fin cfg1.N) (r : Fin 512) : BwdOk A (X (row1 t r)) (T (row1 t r)) r (iblk1 V c 0 t) (iblk1 V c 6 t) (iblk1 V c 7 t)
    (View.ld (iblk1 V c 1 t : FVec Ideal S512x2816 .bf16) (Rect.unit ![0, 0] ![512, 1536] inb_S512x2816_S512x1536_0_0))
    (View.ld (iblk1 V c 2 t : FVec Ideal S512x2816 .bf16) (Rect.unit ![0, 0] ![512, 1536] inb_S512x2816_S512x1536_0_0))
    (View.ld (iblk1 V c 1 t : FVec Ideal S512x2816 .bf16) (Rect.unit ![0, 1536] ![512, 1280] inb_S512x2816_S512x1280_0_1536))
    (View.ld (iblk1 V c 2 t : FVec Ideal S512x2816 .bf16) (Rect.unit ![0, 1536] ![512, 1280] inb_S512x2816_S512x1280_0_1536))
    (View.ld (iblk1 V c 3 t : FVec Ideal S2816x1024 .bf16) (Rect.unit ![0, 0] ![1536, 1024] inb_S2816x1024_S1536x1024_0_0))
    (View.ld (iblk1 V c 4 t : FVec Ideal S2816x1024 .bf16) (Rect.unit ![0, 0] ![1536, 1024] inb_S2816x1024_S1536x1024_0_0))
    (View.ld (iblk1 V c 5 t : FVec Ideal S2816x1024 .bf16) (Rect.unit ![0, 0] ![1536, 1024] inb_S2816x1024_S1536x1024_0_0))
    (View.ld (iblk1 V c 3 t : FVec Ideal S2816x1024 .bf16) (Rect.unit ![1536, 0] ![1280, 1024] inb_S2816x1024_S1280x1024_1536_0))
    (View.ld (iblk1 V c 4 t : FVec Ideal S2816x1024 .bf16) (Rect.unit ![1536, 0] ![1280, 1024] inb_S2816x1024_S1280x1024_1536_0))
    (View.ld (iblk1 V c 5 t : FVec Ideal S2816x1024 .bf16) (Rect.unit ![1536, 0] ![1280, 1024] inb_S2816x1024_S1280x1024_1536_0)) where
  hd := j0 h t r
  hx := j6 h t r
  gf := j7 h t
  ga p := (ldc_lo _ r p).trans (j1 h t r _)
  va p := (ldc_lo _ r p).trans (j2 h t r _)
  gb p := (ldc_hi _ r p).trans (j1 h t r _)
  vb p := (ldc_hi _ r p).trans (j2 h t r _)
  a1 p k := (ld_lo _ p k).trans (j3 h t _ k)
  a3 p k := (ld_lo _ p k).trans (j4 h t _ k)
  a2 p k := (ld_lo _ p k).trans (j5 h t _ k)
  b1 p k := (ld_hi _ p k).trans (j3 h t _ k)
  b3 p k := (ld_hi _ p k).trans (j4 h t _ k)
  b2 p k := (ld_hi _ p k).trans (j5 h t _ k)

/-- The cotangent of the gate's projection. -/
theorem dg_arr : (dat1 V c).arrAt 8 cfg1.N = fun j : S8192x2816.Idx => ((dg A (X (j 0)) (T (j 0)) (j 1) : ℝ) : EReal) := by
  refine (dat1 V c).arrAt_eq_of_covers 8 _ (by decide +kernel) fun t hf y => ?_
  blk_simp
  rw [after1_8]
  have hj : (win1_8.blk t).view.emb y = ix2 (row1 t (y 0)) (y 1) := by blk_ext [idx1 t, row1, row]
  rw [hj]
  obtain ⟨r, p, rfl⟩ : ∃ (r : Fin 512) (p : Fin 2816), y = ix2 r p := ⟨y 0, y 1, eq_ix2 y⟩
  by_cases ht : t.val % 16 = 0
  · rw [outsAt1_A V c t ht]; frame_out
    exact two _ _ (fun p => ((dg A (X (row1 t r)) (T (row1 t r)) p : ℝ) : EReal)) r p (fun q => bg_lo (bwd h t r) q) (fun q => bg_hi (bwd h t r) q)
  · rw [outsAt1_B V c t ht]; frame_out
    exact two _ _ (fun p => ((dg A (X (row1 t r)) (T (row1 t r)) p : ℝ) : EReal)) r p (fun q => bg_lo (bwd h t r) q) (fun q => bg_hi (bwd h t r) q)

/-- The cotangent of the value's projection. -/
theorem dv_arr : (dat1 V c).arrAt 9 cfg1.N = fun j : S8192x2816.Idx => ((dv A (X (j 0)) (T (j 0)) (j 1) : ℝ) : EReal) := by
  refine (dat1 V c).arrAt_eq_of_covers 9 _ (by decide +kernel) fun t hf y => ?_
  blk_simp
  rw [after1_9]
  have hj : (win1_9.blk t).view.emb y = ix2 (row1 t (y 0)) (y 1) := by blk_ext [idx1 t, row1, row]
  rw [hj]
  obtain ⟨r, p, rfl⟩ : ∃ (r : Fin 512) (p : Fin 2816), y = ix2 r p := ⟨y 0, y 1, eq_ix2 y⟩
  by_cases ht : t.val % 16 = 0
  · rw [outsAt1_A V c t ht]; frame_out
    exact two _ _ (fun p => ((dv A (X (row1 t r)) (T (row1 t r)) p : ℝ) : EReal)) r p (fun q => bv_lo (bwd h t r) q) (fun q => bv_hi (bwd h t r) q)
  · rw [outsAt1_B V c t ht]; frame_out
    exact two _ _ (fun p => ((dv A (X (row1 t r)) (T (row1 t r)) p : ℝ) : EReal)) r p (fun q => bv_lo (bwd h t r) q) (fun q => bv_hi (bwd h t r) q)

/-- The cotangent of the block's input rows. -/
theorem d2_arr : (dat1 V c).arrAt 10 cfg1.N = fun j : S8192x1024.Idx => ((d2 A (X (j 0)) (T (j 0)) (j 1) : ℝ) : EReal) := by
  refine (dat1 V c).arrAt_eq_of_covers 10 _ (by decide +kernel) fun t hf y => ?_
  blk_simp
  rw [after1_10]
  have hj : (win1_10.blk t).view.emb y = ix2 (row1 t (y 0)) (y 1) := by blk_ext [idx1 t, row1, row]
  rw [hj]
  obtain ⟨r, l, rfl⟩ : ∃ (r : Fin 512) (l : Fin 1024), y = ix2 r l := ⟨y 0, y 1, eq_ix2 y⟩
  by_cases ht : t.val % 16 = 0
  · rw [outsAt1_A V c t ht]; frame_out
    exact bd2 (bwd h t r) l
  · rw [outsAt1_B V c t ht]; frame_out
    exact bd2 (bwd h t r) l

/-- The block gain's gradient. -/
theorem dgffn_arr : (dat1 V c).arrAt 11 cfg1.N = fun j : S1x1024.Idx => ((∑ R, pf A (X R) (T R) (j 1) : ℝ) : EReal) := by
  refine (dat1 V c).arrAt_eq_of_after_last 11 t1_15 (by decide +kernel) _ fun j => ?_
  blk_simp
  rw [after1_11, Pipeline.eq_sum_fin_of_reset_step_apply_last (fun n h => (outsAt1 V c n h).2.2.2) 16 (fun _ => 0)
    (fun t j => ((∑ r, pf A (X (row1 t r)) (T (row1 t r)) (j 1) : ℝ) : EReal))
    (fun t ht j => by
      rw [outsAt1_A V c t ht]; frame_out
      obtain ⟨l, rfl⟩ : ∃ l : Fin 1024, j = ix2 (0 : Fin 1) l := ⟨j 1, by rw [eq_ix2 j]; congr 1; exact Subsingleton.elim _ _⟩
      pointwise [k1_pay1, k1_pay2]
      exact bpf (fun r => bwd h t r) l)
    (fun t ht j => by
      rw [outsAt1_B V c t ht]; frame_out
      obtain ⟨l, rfl⟩ : ∃ l : Fin 1024, j = ix2 (0 : Fin 1) l := ⟨j 1, by rw [eq_ix2 j]; congr 1; exact Subsingleton.elim _ _⟩
      pointwise [k1_pay1]
      exact congrArg (HAdd.hAdd _) (bpf (fun r => bwd h t r) l)) (le_of_eq N_16') t1_15 rfl j, zero_add]
  obtain ⟨l, rfl⟩ : ∃ l : Fin 1024, j = ix2 (0 : Fin 1) l := ⟨j 1, by rw [eq_ix2 j]; congr 1; exact Subsingleton.elim _ _⟩
  exact (coe_sum _ _).trans (congrArg (fun q : ℝ => (q : EReal)) (sum_rows N_16' fun R => pf A (X R) (T R) l))

end Region1

end Cert.FfnIdeal.Hand

end
-- ==== Proof.FfnResults.lean ====
/- The feed-forward block's two calls: what the program's result buffers hold when it ends. -/
module

public import proofs.«01_k».proof.Proof.FfnValue

@[expose] public section

set_option maxRecDepth 16384

noncomputable section

open Idealize.ShloMosaic Idealize.ShloMosaic.TcCoe Idealize.SL.Sem

namespace Cert.FfnIdeal.Hand

open Cert.FfnIdeal Cert.FfnIdeal.Gen Cert.Ff Cert.RowNorm

variable (A : Wts) (X T : Fin 8192 → Fin 1024 → ℝ) (m : (ℓ : Loc nD τ sig) → Buf (Elt Ideal) ℓ) (ρ : Dev nD → PrngReg) (c : Dev nD)

/-- The program's arguments hold real entries. -/
structure ArgOk : Prop where
  x : ∀ R k, (m ((c : Thread nD τ).loc main_arg0) : FVec Ideal S8192x1024 .f32) (ix2 R k) = ((X R k : ℝ) : EReal)
  gf : ∀ k, (m ((c : Thread nD τ).loc main_arg1) : FVec Ideal S1x1024 .f32) (ix2 0 k) = ((A.gf k : ℝ) : EReal)
  w1 : ∀ k p, (m ((c : Thread nD τ).loc main_arg2) : FVec Ideal S1x1024x2816 .f32) (ix3 0 k p) = ((A.w1 k p : ℝ) : EReal)
  w3 : ∀ k p, (m ((c : Thread nD τ).loc main_arg3) : FVec Ideal S1x1024x2816 .f32) (ix3 0 k p) = ((A.w3 k p : ℝ) : EReal)
  w2 : ∀ p k, (m ((c : Thread nD τ).loc main_arg4) : FVec Ideal S1x2816x1024 .f32) (ix3 0 p k) = ((A.w2 p k : ℝ) : EReal)
  gl : ∀ k, (m ((c : Thread nD τ).loc main_arg5) : FVec Ideal S1024 .f32) (ix1 k) = ((A.gl k : ℝ) : EReal)
  t : ∀ R k, (m ((c : Thread nD τ).loc main_arg6) : FVec Ideal S8192x1024 .f32) (ix2 R k) = ((T R k : ℝ) : EReal)

variable {A X T m c} (h : ArgOk A X T m c)
include h

/-- The forward region finds the normalised rows and the weights as the host wrote them. -/
theorem in0 : In0 (V1 m ρ) A X T c where
  x R k := (congrFun (W1_of m ρ c main_arg0 (by decide)) (ix2 R k)).trans (h.x R k)
  h2 R k := by
    show (StableHlo.after hostOps0 (W0 m ρ c) (Proc.devRef .tc main_v20) : FVec Ideal S8192x1024 .bf16) (ix2 R k) = _
    entry_read
    pointwise
    have ex : ∀ k, (W0 m ρ c (Proc.devRef .tc main_arg0) : FVec Ideal S8192x1024 .f32) (ix2 R k) = ((X R k : ℝ) : EReal) := fun k => h.x R k
    have eg : (W0 m ρ c (Proc.devRef .tc main_arg1) : FVec Ideal S1x1024 .f32) (ix2 0 k) = ((A.gf k : ℝ) : EReal) := h.gf k
    simp only [ex, eg, c1024, ceps]
    rw [rstd_eq (by norm_num), ← EReal.coe_mul, ← EReal.coe_mul]
    rfl
  w1 p k := by
    refine Eq.trans ?_ (h.w1 k p)
    show (StableHlo.after hostOps0 (W0 m ρ c) (Proc.devRef .tc main_v2) : FVec Ideal S2816x1024 .bf16) (ix2 p k) = _
    entry_read
    pointwise
  w3 p k := by
    refine Eq.trans ?_ (h.w3 k p)
    show (StableHlo.after hostOps0 (W0 m ρ c) (Proc.devRef .tc main_v5) : FVec Ideal S2816x1024 .bf16) (ix2 p k) = _
    entry_read
    pointwise
  w2 p k := by
    refine Eq.trans ?_ (h.w2 p k)
    show (StableHlo.after hostOps0 (W0 m ρ c) (Proc.devRef .tc main_v7) : FVec Ideal S2816x1024 .bf16) (ix2 p k) = _
    entry_read
    pointwise
  gl k := by
    refine Eq.trans ?_ (h.gl k)
    show (StableHlo.after hostOps0 (W0 m ρ c) (Proc.devRef .tc main_v21) : FVec Ideal S1x1024 .f32) (ix2 0 k) = _
    entry_read
    pointwise
  t R k := (congrFun (W1_of m ρ c main_arg6 (by decide)) (ix2 R k)).trans (h.t R k)

/-- The backward region finds what the forward region left. -/
theorem in1 : In1 (V2 m ρ) A X T c where
  d R k := congrFun ((W2_arr m ρ c 10).trans (d3_arr (in0 ρ h))) (ix2 R k)
  g R p := congrFun ((W2_arr m ρ c 7).trans (g_arr (in0 ρ h))) (ix2 R p)
  v R p := congrFun ((W2_arr m ρ c 8).trans (v_arr (in0 ρ h))) (ix2 R p)
  w1 p k := (congrFun (W2_of m ρ c main_v2 (by decide +kernel)) (ix2 p k)).trans ((in0 ρ h).w1 p k)
  w3 p k := (congrFun (W2_of m ρ c main_v5 (by decide +kernel)) (ix2 p k)).trans ((in0 ρ h).w3 p k)
  w2 p k := (congrFun (W2_of m ρ c main_v7 (by decide +kernel)) (ix2 p k)).trans ((in0 ρ h).w2 p k)
  x R k := (congrFun (W2_of m ρ c main_arg0 (by decide +kernel)) (ix2 R k)).trans ((in0 ρ h).x R k)
  gf k := (congrFun ((W2_of m ρ c main_arg1 (by decide +kernel)).trans (W1_of m ρ c main_arg1 (by decide))) (ix2 0 k)).trans (h.gf k)

/-- The loss. -/
theorem loss_res : (W4 m ρ c main_v24 : FVec Ideal S1x1 .f32) (ix2 0 0) = ((1 / 2 * ∑ R, ls A (X R) (T R) : ℝ) : EReal) := by
  have e : W3 m ρ c main_v22_5 = (fun _ => ((1 / 2 * ∑ R, ls A (X R) (T R) : ℝ) : EReal) : FVec Ideal S8x128 .f32) :=
    (W3_of m ρ c main_v22_5 (by decide +kernel)).trans ((W2_arr m ρ c 12).trans (loss_arr (in0 ρ h)))
  show (StableHlo.after hostOps2 (W3 m ρ c) (Proc.devRef .tc main_v24) : FVec Ideal S1x1 .f32) (ix2 0 0) = _
  entry_read
  rw [e]
  pointwise

/-- The cotangent of the block's input rows. -/
theorem d2_res (R : Fin 8192) (l : Fin 1024) : (W4 m ρ c main_v23_2 : FVec Ideal S8192x1024 .f32) (ix2 R l) = ((d2 A (X R) (T R) l : ℝ) : EReal) :=
  congrFun ((W4_of m ρ c main_v23_2 (by decide)).trans ((W3_arr m ρ c 10).trans (d2_arr (in1 ρ h)))) (ix2 R l)

/-- The block gain's gradient. -/
theorem gf_res (l : Fin 1024) : (W4 m ρ c main_v23_3 : FVec Ideal S1x1024 .f32) (ix2 0 l) = ((∑ R, pf A (X R) (T R) l : ℝ) : EReal) :=
  congrFun ((W4_of m ρ c main_v23_3 (by decide)).trans ((W3_arr m ρ c 11).trans (dgffn_arr (in1 ρ h)))) (ix2 0 l)

/-- The final gain's gradient. -/
theorem gl_res (l : Fin 1024) : (W4 m ρ c main_v22_6 : FVec Ideal S1x1024 .f32) (ix2 0 l) = ((∑ R, pl A (X R) (T R) l : ℝ) : EReal) :=
  congrFun ((W4_of m ρ c main_v22_6 (by decide)).trans ((W3_of m ρ c main_v22_6 (by decide +kernel)).trans ((W2_arr m ρ c 13).trans (dgfin_arr (in0 ρ h))))) (ix2 0 l)

/-- The cotangent of the gate's projection. -/
theorem dg_res (R : Fin 8192) (p : Fin 2816) : (W4 m ρ c main_v23_0 : FVec Ideal S8192x2816 .bf16) (ix2 R p) = ((dg A (X R) (T R) p : ℝ) : EReal) :=
  congrFun ((W4_of m ρ c main_v23_0 (by decide)).trans ((W3_arr m ρ c 8).trans (dg_arr (in1 ρ h)))) (ix2 R p)

/-- The cotangent of the value's projection. -/
theorem dv_res (R : Fin 8192) (p : Fin 2816) : (W4 m ρ c main_v23_1 : FVec Ideal S8192x2816 .bf16) (ix2 R p) = ((dv A (X R) (T R) p : ℝ) : EReal) :=
  congrFun ((W4_of m ρ c main_v23_1 (by decide)).trans ((W3_arr m ρ c 9).trans (dv_arr (in1 ρ h)))) (ix2 R p)

end Cert.FfnIdeal.Hand

end
-- ==== Proof.FfnRef.lean ====
/- The feed-forward block's reference: the forward pass and its transposed derivative compute the specification's real numbers. -/
module

public import proofs.«01_k».proof.Proof.FfnSpec
public import proofs.«01_k».proof.Proof.Gen.FfnRefIdeal.Run
public import Idealize.ShloMosaic.Lib.Pointwise

@[expose] public section

set_option maxRecDepth 16384

noncomputable section

namespace Cert.Ff

open Cert.FfnRefIdeal Cert.FfnRefIdeal.Gen Cert.FfnRefIdeal.Value Cert.RowNorm Finset
open Idealize.ShloMosaic Idealize.ShloMosaic.TcCoe

/-- The reference's arguments hold real entries. -/
structure RefOk (A : Wts) (X T : Fin 8192 → Fin 1024 → ℝ) (σ : Valuation τ sig (Elt Ideal)) : Prop where
  x : ∀ R k, (σ (Proc.devRef .tc main_arg0) : FVec Ideal S8192x1024 .f32) (ix2 R k) = ((X R k : ℝ) : EReal)
  gf : ∀ k, (σ (Proc.devRef .tc main_arg1) : FVec Ideal S1x1024 .f32) (ix2 0 k) = ((A.gf k : ℝ) : EReal)
  w1 : ∀ k p, (σ (Proc.devRef .tc main_arg2) : FVec Ideal S1x1024x2816 .f32) (ix3 0 k p) = ((A.w1 k p : ℝ) : EReal)
  w3 : ∀ k p, (σ (Proc.devRef .tc main_arg3) : FVec Ideal S1x1024x2816 .f32) (ix3 0 k p) = ((A.w3 k p : ℝ) : EReal)
  w2 : ∀ p k, (σ (Proc.devRef .tc main_arg4) : FVec Ideal S1x2816x1024 .f32) (ix3 0 p k) = ((A.w2 p k : ℝ) : EReal)
  gl : ∀ k, (σ (Proc.devRef .tc main_arg5) : FVec Ideal S1024 .f32) (ix1 k) = ((A.gl k : ℝ) : EReal)
  t : ∀ R k, (σ (Proc.devRef .tc main_arg6) : FVec Ideal S8192x1024 .f32) (ix2 R k) = ((T R k : ℝ) : EReal)

/-- A row's mean square plus the small constant. -/
def mean (x : Fin 1024 → ℝ) : ℝ := (∑ k, x k * x k) / 1024 + eps

theorem mean_pos (x : Fin 1024 → ℝ) : 0 < mean x := var_pos (by norm_num) x

/-- Half of the cotangent of a row's mean square, over the row's length. -/
def half (x d : Fin 1024 → ℝ) : ℝ := (∑ k, x k * d k) * (-(1 / 2) * (rstd 1024 x / mean x)) / 1024

/-- The chain rule's form of the normalisation's gradient. -/
theorem chain (x d : Fin 1024 → ℝ) (l : Fin 1024) : d l * rstd 1024 x + x l * half x d + half x d * x l = dnorm 1024 x d l := by
  rw [add_assoc]; exact dnorm_chain (by norm_num) x d l

variable {A : Wts} {X T : Fin 8192 → Fin 1024 → ℝ} {σ : Valuation τ sig (Elt Ideal)} (h : RefOk A X T σ)
include h

theorem r7 (R : Fin 8192) : (res_main_v7 σ : FVec Ideal S8192x1 .f32) (ix2 R 0) = ((mean (X R) : ℝ) : EReal) := by
  pointwise [res_main_v7]
  simp only [h.x, c1024, ceps, ← EReal.coe_mul, coe_sum]
  rw [div_coe_coe _ (by norm_num), ← EReal.coe_add]
  rfl

theorem r8 (R : Fin 8192) : (res_main_v8 σ : FVec Ideal S8192x1 .f32) (ix2 R 0) = ((rstd 1024 (X R) : ℝ) : EReal) := by
  pointwise [res_main_v8]
  rw [r7 h, rsqrt_pos (mean_pos _)]
  rfl

theorem r13 (R : Fin 8192) (k : Fin 1024) : (res_main_v13 σ : FVec Ideal S8192x1024 .f32) (ix2 R k) = ((X R k * rstd 1024 (X R) : ℝ) : EReal) := by
  pointwise [res_main_v13]
  rw [h.x, r8 h, ← EReal.coe_mul]

theorem r14 (k : Fin 1024) : (res_main_v14 σ : FVec Ideal S1x1024 .f32) (ix2 0 k) = ((A.gf k : ℝ) : EReal) := by
  pointwise [res_main_v14]
  exact h.gf k

theorem r16 (R : Fin 8192) (k : Fin 1024) : (res_main_v16 σ : FVec Ideal S8192x1024 .f32) (ix2 R k) = ((h2 A (X R) k : ℝ) : EReal) := by
  pointwise [res_main_v16]
  rw [r13 h, r14 h, ← EReal.coe_mul]
  rfl

theorem r17 (k : Fin 1024) (p : Fin 2816) : (res_main_v17 σ : FVec Ideal S1024x2816 .f32) (ix2 k p) = ((A.w1 k p : ℝ) : EReal) := by
  pointwise [res_main_v17]
  exact h.w1 k p

theorem r19 (k : Fin 1024) (p : Fin 2816) : (res_main_v19 σ : FVec Ideal S1024x2816 .f32) (ix2 k p) = ((A.w3 k p : ℝ) : EReal) := by
  pointwise [res_main_v19]
  exact h.w3 k p

theorem r23 (p : Fin 2816) (k : Fin 1024) : (res_main_v23 σ : FVec Ideal S2816x1024 .f32) (ix2 p k) = ((A.w2 p k : ℝ) : EReal) := by
  pointwise [res_main_v23]
  exact h.w2 p k

/-- The gate's projection. -/
theorem r18 (R : Fin 8192) (p : Fin 2816) : (res_main_v18 σ : FVec Ideal S8192x2816 .f32) (ix2 R p) = ((G A (X R) p : ℝ) : EReal) := by
  pointwise [res_main_v18]
  simp only [r16 h, r17 h, ← EReal.coe_mul, coe_sum]
  rfl

/-- The value's projection. -/
theorem r20 (R : Fin 8192) (p : Fin 2816) : (res_main_v20 σ : FVec Ideal S8192x2816 .f32) (ix2 R p) = ((V A (X R) p : ℝ) : EReal) := by
  pointwise [res_main_v20]
  simp only [r16 h, r19 h, ← EReal.coe_mul, coe_sum]
  rfl

theorem r21_2 (R : Fin 8192) (p : Fin 2816) : (res_main_v21_2 σ : FVec Ideal S8192x2816 .f32) (ix2 R p) = ((sg (G A (X R) p) : ℝ) : EReal) := by
  pointwise [res_main_v21_2]
  rw [r18 h]
  have e := sg_ref (G A (X R) p)
  rwa [cone, EReal.coe_one] at e

theorem r21_0 (R : Fin 8192) (p : Fin 2816) : (res_main_v21_0 σ : FVec Ideal S8192x2816 .f32) (ix2 R p) = ((G A (X R) p * sg (G A (X R) p) : ℝ) : EReal) := by
  pointwise [res_main_v21_0]
  rw [r18 h, r21_2 h, ← EReal.coe_mul]

/-- The block's output row. -/
theorem r25 (R : Fin 8192) (l : Fin 1024) : (res_main_v25 σ : FVec Ideal S8192x1024 .f32) (ix2 R l) = ((h3 A (X R) l : ℝ) : EReal) := by
  pointwise [res_main_v25]
  simp only [h.x, r21_0 h, r20 h, r23 h, ← EReal.coe_mul, coe_sum, ← EReal.coe_add]
  rfl

theorem r32 (R : Fin 8192) : (res_main_v32 σ : FVec Ideal S8192x1 .f32) (ix2 R 0) = ((mean (h3 A (X R)) : ℝ) : EReal) := by
  pointwise [res_main_v32]
  simp only [r25 h, c1024, ceps, ← EReal.coe_mul, coe_sum]
  rw [div_coe_coe _ (by norm_num), ← EReal.coe_add]
  rfl

theorem r33 (R : Fin 8192) : (res_main_v33 σ : FVec Ideal S8192x1 .f32) (ix2 R 0) = ((rstd 1024 (h3 A (X R)) : ℝ) : EReal) := by
  pointwise [res_main_v33]
  rw [r32 h, rsqrt_pos (mean_pos _)]
  rfl

theorem r38 (R : Fin 8192) (l : Fin 1024) : (res_main_v38 σ : FVec Ideal S8192x1024 .f32) (ix2 R l) = ((xh A (X R) l : ℝ) : EReal) := by
  pointwise [res_main_v38]
  rw [r25 h, r33 h, ← EReal.coe_mul]
  rfl

theorem r39 (k : Fin 1024) : (res_main_v39 σ : FVec Ideal S1x1024 .f32) (ix2 0 k) = ((A.gl k : ℝ) : EReal) := by
  pointwise [res_main_v39]
  exact h.gl k

/-- The row's error. -/
theorem r42 (R : Fin 8192) (l : Fin 1024) : (res_main_v42 σ : FVec Ideal S8192x1024 .f32) (ix2 R l) = ((err A (X R) (T R) l : ℝ) : EReal) := by
  pointwise [res_main_v42]
  rw [r38 h, r39 h, h.t, ← EReal.coe_mul, ← EReal.coe_sub]
  rfl

/-- The cotangent of the normalised row times its gain. -/
theorem r56 (R : Fin 8192) (l : Fin 1024) : (res_main_v56 σ : FVec Ideal S8192x1024 .f32) (ix2 R l) = ((dy A (X R) (T R) l : ℝ) : EReal) := by
  pointwise [res_main_v56]
  rw [r42 h, chalf, ctwo, c1024, div_coe_coe _ (by norm_num), ← EReal.coe_mul, ← EReal.coe_mul]
  refine congrArg (fun q : ℝ => (q : EReal)) ?_
  unfold dy
  ring

theorem r61 (R : Fin 8192) (l : Fin 1024) : (res_main_v61 σ : FVec Ideal S8192x1024 .f32) (ix2 R l) = ((dy A (X R) (T R) l * A.gl l : ℝ) : EReal) := by
  pointwise [res_main_v61]
  rw [r56 h, r39 h, ← EReal.coe_mul]

theorem r72 (R : Fin 8192) (l : Fin 1024) : (res_main_v72 σ : FVec Ideal S8192x1024 .f32) (ix2 R l) = ((half (h3 A (X R)) (fun k => dy A (X R) (T R) k * A.gl k) : ℝ) : EReal) := by
  pointwise [res_main_v72]
  simp only [r25 h, r61 h, r32 h, r33 h, c1024, cneghalf, Fin.sum_univ_one, ← EReal.coe_mul, coe_sum]
  rw [div_coe_coe _ (mean_pos _).ne', ← EReal.coe_mul, ← EReal.coe_mul, div_coe_coe _ (by norm_num)]
  rfl

/-- The cotangent of the block's output row. -/
theorem r76 (R : Fin 8192) (l : Fin 1024) : (res_main_v76 σ : FVec Ideal S8192x1024 .f32) (ix2 R l) = ((d3 A (X R) (T R) l : ℝ) : EReal) := by
  pointwise [res_main_v76]
  rw [r61 h, r33 h, r25 h, r72 h]
  simp only [← EReal.coe_mul, ← EReal.coe_add]
  rw [chain (h3 A (X R)) (fun k => dy A (X R) (T R) k * A.gl k) l]
  rfl

theorem r77 (R : Fin 8192) (p : Fin 2816) : (res_main_v77 σ : FVec Ideal S8192x2816 .f32) (ix2 R p) = ((dff A (X R) (T R) p : ℝ) : EReal) := by
  pointwise [res_main_v77]
  simp only [r76 h, r23 h, ← EReal.coe_mul, coe_sum]
  rfl

/-- The cotangent of the value's projection. -/
theorem r78 (R : Fin 8192) (p : Fin 2816) : (res_main_v78 σ : FVec Ideal S8192x2816 .f32) (ix2 R p) = ((dv A (X R) (T R) p : ℝ) : EReal) := by
  pointwise [res_main_v78]
  rw [r77 h, r21_0 h, ← EReal.coe_mul, mul_comm]
  rfl

theorem r79 (R : Fin 8192) (p : Fin 2816) : (res_main_v79 σ : FVec Ideal S8192x2816 .f32) (ix2 R p) = ((dff A (X R) (T R) p * V A (X R) p : ℝ) : EReal) := by
  pointwise [res_main_v79]
  rw [r77 h, r20 h, ← EReal.coe_mul]

/-- The cotangent of the gate's projection. -/
theorem r80 (R : Fin 8192) (p : Fin 2816) : (res_main_v80 σ : FVec Ideal S8192x2816 .f32) (ix2 R p) = ((dg A (X R) (T R) p : ℝ) : EReal) := by
  pointwise [res_main_v80]
  rw [r79 h, r21_2 h, r18 h, ← EReal.coe_one]
  simp only [← EReal.coe_mul, ← EReal.coe_sub, ← EReal.coe_add]
  refine congrArg (fun q : ℝ => (q : EReal)) ?_
  unfold dg
  ring

theorem r83 (R : Fin 8192) (l : Fin 1024) : (res_main_v83 σ : FVec Ideal S8192x1024 .f32) (ix2 R l) = ((dh A (X R) (T R) l : ℝ) : EReal) := by
  pointwise [res_main_v83]
  simp only [r78 h, r80 h, r17 h, r19 h, ← EReal.coe_mul, coe_sum, ← EReal.coe_add]
  rw [add_comm]
  rfl

theorem r88 (R : Fin 8192) (l : Fin 1024) : (res_main_v88 σ : FVec Ideal S8192x1024 .f32) (ix2 R l) = ((dh A (X R) (T R) l * A.gf l : ℝ) : EReal) := by
  pointwise [res_main_v88]
  rw [r83 h, r14 h, ← EReal.coe_mul]

theorem r100 (R : Fin 8192) (l : Fin 1024) : (res_main_v100 σ : FVec Ideal S8192x1024 .f32) (ix2 R l) = ((half (X R) (fun k => dh A (X R) (T R) k * A.gf k) : ℝ) : EReal) := by
  pointwise [res_main_v100]
  simp only [h.x, r88 h, r7 h, r8 h, c1024, cneghalf, Fin.sum_univ_one, ← EReal.coe_mul, coe_sum]
  rw [div_coe_coe _ (mean_pos _).ne', ← EReal.coe_mul, ← EReal.coe_mul, div_coe_coe _ (by norm_num)]
  rfl

/-! ## The results -/

/-- The loss. -/
theorem ref_loss : (shapeCast S1x1 (mulf (constant S_ .f32 0x3F000000#32) (Host.reduceAdd (Host.divf (Host.reduceAdd (mulf (res_main_v42 σ) (res_main_v42 σ)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) shapeCasts_S_S1x1 : FVec Ideal S1x1 .f32) (ix2 0 0)
    = ((1 / 2 * ∑ R, ls A (X R) (T R) : ℝ) : EReal) := by
  pointwise
  simp only [r42 h, c1024, chalf, ← EReal.coe_mul, coe_sum]
  simp only [div_coe_coe _ (by norm_num : (1024 : ℝ) ≠ 0), coe_sum, ← EReal.coe_mul]
  rfl

/-- The cotangent of the block's input rows. -/
theorem ref_d2 (R : Fin 8192) (l : Fin 1024) : (addf (addf (addf (res_main_v76 σ) (mulf (res_main_v88 σ) (broadcastInDim S8192x1024 ![0, 1] bcast_S8192x1_S8192x1024_0_1 (res_main_v8 σ)))) (mulf (σ (Proc.devRef .tc main_arg0)) (res_main_v100 σ))) (mulf (res_main_v100 σ) (σ (Proc.devRef .tc main_arg0))) : FVec Ideal S8192x1024 .f32) (ix2 R l)
    = ((d2 A (X R) (T R) l : ℝ) : EReal) := by
  pointwise
  rw [r76 h, r88 h, r8 h, r100 h, h.x]
  simp only [← EReal.coe_mul, ← EReal.coe_add]
  refine congrArg (fun q : ℝ => (q : EReal)) ?_
  unfold d2
  rw [← chain (X R) (fun k => dh A (X R) (T R) k * A.gf k) l]
  ring

/-- The block gain's gradient. -/
theorem ref_gf (l : Fin 1024) : (broadcastInDim S1x1024 ![1] bcast_S1024_S1x1024_1 (Host.reduceAdd (shapeCast _ (Host.reduceAdd (mulf (res_main_v13 σ) (res_main_v83 σ)) (constant S_ .f32 0x00000000#32) reducesTo_S8192x1024_S1024_d0 h_S_) shapeCasts_S1024_S1x1024) (constant S_ .f32 0x00000000#32) reducesTo_S1x1024_S1024_d0 h_S_) : FVec Ideal S1x1024 .f32) (ix2 0 l)
    = ((∑ R, pf A (X R) (T R) l : ℝ) : EReal) := by
  pointwise
  simp only [r13 h, r83 h, Fin.sum_univ_one, ← EReal.coe_mul, coe_sum]
  refine congrArg (fun q : ℝ => (q : EReal)) (Finset.sum_congr rfl fun R _ => ?_)
  unfold pf
  ring

/-- The final gain's gradient. -/
theorem ref_gl (l : Fin 1024) : (shapeCast S1x1024 (Host.reduceAdd (shapeCast _ (Host.reduceAdd (mulf (res_main_v38 σ) (res_main_v56 σ)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) (ix2 0 l)
    = ((∑ R, pl A (X R) (T R) l : ℝ) : EReal) := by
  pointwise
  simp only [r38 h, r56 h, Fin.sum_univ_one, ← EReal.coe_mul, coe_sum]
  refine congrArg (fun q : ℝ => (q : EReal)) (Finset.sum_congr rfl fun R _ => ?_)
  unfold pl
  ring

end Cert.Ff

end
-- ==== Proof.FfnFrame.lean ====
module

public import proofs.«01_k».proof.Defs
public import proofs.«01_k».proof.Proof.Gen.FfnIdeal.Frame
public import proofs.«01_k».proof.Proof.Gen.Ffn
public import proofs.«01_k».proof.Proof.Gen.FfnRefIdeal.Run

@[expose] public section

set_option maxRecDepth 16384

noncomputable section

namespace Cert.FfnFrame

open Idealize.ShloMosaic Idealize.SL.Sem Cert.FfnIdeal

/-- The frame of the idealized text at the program's own arithmetic. -/
def BitsFrame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

/-- The program and its idealized text are the same text, so their frames are one statement. -/
theorem bits_eq : Cert.quiescent_Ffn (hFfn := Cert.Ffn.Gen.facts) = BitsFrame := by
  sl_kernel_rfl

/-- The frame of the feed-forward block's two calls at the program's own arithmetic: the same text, the same run. -/
theorem bits : Cert.quiescent_Ffn (hFfn := Cert.Ffn.Gen.facts) :=
  bits_eq.mpr fun m g _ => Cert.FfnIdeal.Gen.frame (F := Bits) m g

/-- Their frame over the reals. -/
theorem ideal : Cert.quiescent_FfnIdeal (hFfnIdeal := Cert.FfnIdeal.Gen.facts) :=
  fun m g _ => Cert.FfnIdeal.Gen.frame (F := Ideal) m g

end Cert.FfnFrame

end
-- ==== Proof.FfnClaim.lean ====
/- The claims about the feed-forward block's two calls. -/
module

public import proofs.«01_k».proof.Proof.FfnPre
public import proofs.«01_k».proof.Proof.FfnRun
public import proofs.«01_k».proof.Proof.FfnResults
public import proofs.«01_k».proof.Proof.FfnRef
public import proofs.«01_k».proof.Proof.FfnFrame

@[expose] public section

set_option maxRecDepth 16384

noncomputable section

open Idealize.ShloMosaic Idealize.ShloMosaic.TcCoe Idealize.SL.Sem
open Cert.FfnIdeal

namespace Cert.FfnClaim

/-- The reference ends with its arguments unchanged and every counter zero. -/
theorem ref_frame : Cert.quiescent_FfnRefIdeal (hFfnRefIdeal := Cert.FfnRefIdeal.Gen.facts) := fun m g _ =>
  (θ_run _ _ _).mono (fun r h => ⟨fun c => (h c).2.2.2.2.2.2, sem_eq_zero_of_no_sems (by decide) r.2⟩) (Cert.FfnRefIdeal.Value.run m g)

/-- The weights and gains that argument arrays with real entries hold. -/
def wts (a1 : FVec Ideal S1x1024 .f32) (a2 a3 : FVec Ideal S1x1024x2816 .f32) (a4 : FVec Ideal S1x2816x1024 .f32) (a5 : FVec Ideal S1024 .f32) : Ff.Wts where
  gf := fun k => (a1 (ix2 0 k)).toReal
  w1 := fun k p => (a2 (ix3 0 k p)).toReal
  w3 := fun k p => (a3 (ix3 0 k p)).toReal
  w2 := fun p k => (a4 (ix3 0 p k)).toReal
  gl := fun k => (a5 (ix1 k)).toReal

/-- The rows that an argument array with real entries holds. -/
def rowsOf (a : FVec Ideal S8192x1024 .f32) (R : Fin 8192) (k : Fin 1024) : ℝ := (a (ix2 R k)).toReal

section Hold

variable (a0 : FVec Ideal S8192x1024 .f32) (a1 : FVec Ideal S1x1024 .f32) (a2 a3 : FVec Ideal S1x1024x2816 .f32) (a4 : FVec Ideal S1x2816x1024 .f32)
    (a5 : FVec Ideal S1024 .f32) (a6 : FVec Ideal S8192x1024 .f32)
    (h0 : ∀ j, RowNorm.Fin' (a0 j)) (h1 : ∀ j, RowNorm.Fin' (a1 j)) (h2 : ∀ j, RowNorm.Fin' (a2 j)) (h3 : ∀ j, RowNorm.Fin' (a3 j)) (h4 : ∀ j, RowNorm.Fin' (a4 j)) (h5 : ∀ j, RowNorm.Fin' (a5 j)) (h6 : ∀ j, RowNorm.Fin' (a6 j))

include h0 h1 h2 h3 h4 h5 h6

/-- The kernel program's arguments hold these arrays. -/
theorem arg_ok (m : (ℓ : Loc nD τ sig) → Buf (Elt Ideal) ℓ) (c : Dev nD)
    (e0 : m ((c.tc : Thread nD τ).loc main_arg0) = a0)
    (e1 : m ((c.tc : Thread nD τ).loc main_arg1) = a1)
    (e2 : m ((c.tc : Thread nD τ).loc main_arg2) = a2)
    (e3 : m ((c.tc : Thread nD τ).loc main_arg3) = a3)
    (e4 : m ((c.tc : Thread nD τ).loc main_arg4) = a4)
    (e5 : m ((c.tc : Thread nD τ).loc main_arg5) = a5)
    (e6 : m ((c.tc : Thread nD τ).loc main_arg6) = a6) : Hand.ArgOk (wts a1 a2 a3 a4 a5) (rowsOf a0) (rowsOf a6) m c where
  x := fun R k => by rw [e0]; exact h0 _
  gf := fun k => by rw [e1]; exact h1 _
  w1 := fun k p => by rw [e2]; exact h2 _
  w3 := fun k p => by rw [e3]; exact h3 _
  w2 := fun p k => by rw [e4]; exact h4 _
  gl := fun k => by rw [e5]; exact h5 _
  t := fun R k => by rw [e6]; exact h6 _

/-- The reference's arguments hold them. -/
theorem ref_ok (σ : Valuation Cert.FfnRefIdeal.τ Cert.FfnRefIdeal.sig (Elt Ideal))
    (e0 : σ (Proc.devRef .tc Cert.FfnRefIdeal.main_arg0) = a0) (e1 : σ (Proc.devRef .tc Cert.FfnRefIdeal.main_arg1) = a1) (e2 : σ (Proc.devRef .tc Cert.FfnRefIdeal.main_arg2) = a2) (e3 : σ (Proc.devRef .tc Cert.FfnRefIdeal.main_arg3) = a3) (e4 : σ (Proc.devRef .tc Cert.FfnRefIdeal.main_arg4) = a4) (e5 : σ (Proc.devRef .tc Cert.FfnRefIdeal.main_arg5) = a5) (e6 : σ (Proc.devRef .tc Cert.FfnRefIdeal.main_arg6) = a6) : Ff.RefOk (wts a1 a2 a3 a4 a5) (rowsOf a0) (rowsOf a6) σ where
  x := fun R k => by rw [e0]; exact h0 _
  gf := fun k => by rw [e1]; exact h1 _
  w1 := fun k p => by rw [e2]; exact h2 _
  w3 := fun k p => by rw [e3]; exact h3 _
  w2 := fun p k => by rw [e4]; exact h4 _
  gl := fun k => by rw [e5]; exact h5 _
  t := fun R k => by rw [e6]; exact h6 _

end Hold

/-- Two rows agree when their entries do. -/
theorem row_ext {a b : FVec Ideal S1x1024 .f32} (h : ∀ l : Fin 1024, a (ix2 0 l) = b (ix2 0 l)) : a = b := by
  funext i
  obtain ⟨l, rfl⟩ : ∃ l : Fin 1024, i = ix2 (0 : Fin 1) l := ⟨i 1, by rw [eq_ix2 i]; congr 1; exact Subsingleton.elim _ _⟩
  exact h l

/-- Two arrays of rows agree when their entries do. -/
theorem rows_ext {a b : FVec Ideal S8192x1024 .f32} (h : ∀ (R : Fin 8192) (l : Fin 1024), a (ix2 R l) = b (ix2 R l)) : a = b := by
  funext i
  obtain ⟨R, l, rfl⟩ : ∃ (R : Fin 8192) (l : Fin 1024), i = ix2 R l := ⟨i 0, i 1, eq_ix2 i⟩
  exact h R l

/-- Two arrays of hidden rows agree when their entries do. -/
theorem hidden_ext {a b : FVec Ideal S8192x2816 .bf16} (h : ∀ (R : Fin 8192) (p : Fin 2816), a (ix2 R p) = b (ix2 R p)) : a = b := by
  funext i
  obtain ⟨R, p, rfl⟩ : ∃ (R : Fin 8192) (p : Fin 2816), i = ix2 R p := ⟨i 0, i 1, eq_ix2 i⟩
  exact h R p

/-- Two single numbers agree when their entries do. -/
theorem one_ext {a b : FVec Ideal S1x1 .f32} (h : a (ix2 0 0) = b (ix2 0 0)) : a = b := by
  funext i
  obtain rfl : i = ix2 (0 : Fin 1) (0 : Fin 1) := by rw [eq_ix2 i]; congr 1 <;> exact Subsingleton.elim _ _
  exact h

set_option maxHeartbeats 4000000 in
/-- The value claim of the feed-forward block's two calls: the six results are the reference's. -/
theorem algebraic : Cert.algebraic_FfnIdeal_FfnRefIdeal_pre_finite_ffn (hFfnIdeal := Gen.facts) (hFfnRefIdeal := Cert.FfnRefIdeal.Gen.facts) (hPre_finite_ffn := Cert.Pre_finite_ffn.side) := by
  haveI := Cert.Pre_finite_ffn.side
  intro m g m' g' hpre hagree
  have hfin := fun c => Cert.Pre_finite_ffn.finite _ _ _ _ _ _ _ (hpre c)
  refine ⟨fun c => Gen.W4 m g c main_v24, fun c => Gen.W4 m g c main_v23_2, fun c => Gen.W4 m g c main_v23_3, fun c => Gen.W4 m g c main_v22_6, fun c => Gen.W4 m g c main_v23_0, fun c => Gen.W4 m g c main_v23_1, ?_, ?_⟩
  · refine (θ_run _ _ _).mono (fun r h c => ?_) (Hand.run m g)
    have hc := h c
    exact ⟨hc main_v24 (by decide), hc main_v23_2 (by decide), hc main_v23_3 (by decide), hc main_v22_6 (by decide), hc main_v23_0 (by decide), hc main_v23_1 (by decide),
      (hc main_arg0 (by decide)).trans (Gen.W4_main_arg0 m g c),
      (hc main_arg1 (by decide)).trans (Gen.W4_main_arg1 m g c),
      (hc main_arg2 (by decide)).trans (Gen.W4_main_arg2 m g c),
      (hc main_arg3 (by decide)).trans (Gen.W4_main_arg3 m g c),
      (hc main_arg4 (by decide)).trans (Gen.W4_main_arg4 m g c),
      (hc main_arg5 (by decide)).trans (Gen.W4_main_arg5 m g c),
      (hc main_arg6 (by decide)).trans (Gen.W4_main_arg6 m g c)⟩
  · refine (θ_run _ _ _).mono (fun r h c => ?_) (Cert.FfnRefIdeal.Value.run m' g')
    obtain ⟨e0, e1, e2, e3, e4, e5, e6⟩ := hagree c
    obtain ⟨f0, f1, f2, f3, f4, f5, f6⟩ := hfin c
    have K := arg_ok _ _ _ _ _ _ _ f0 f1 f2 f3 f4 f5 f6 m c rfl rfl rfl rfl rfl rfl rfl
    have L := ref_ok _ _ _ _ _ _ _ f0 f1 f2 f3 f4 f5 f6 (StableHlo.launchContents m' c) e0 e1 e2 e3 e4 e5 e6
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · exact one_ext ((Ff.ref_loss L).trans (Hand.loss_res g K).symm)
    · exact rows_ext fun R l => (Ff.ref_d2 L R l).trans (Hand.d2_res g K R l).symm
    · exact row_ext fun l => (Ff.ref_gf L l).trans (Hand.gf_res g K l).symm
    · exact row_ext fun l => (Ff.ref_gl L l).trans (Hand.gl_res g K l).symm
    · exact hidden_ext fun R p => (Ff.r80 L R p).trans (Hand.dg_res g K R p).symm
    · exact hidden_ext fun R p => (Ff.r78 L R p).trans (Hand.dv_res g K R p).symm

end Cert.FfnClaim

end
-- ==== Proof.lean ====
module

public import proofs.«01_k».proof.Proof.MixInClaim
public import proofs.«01_k».proof.Proof.MixerClaim
public import proofs.«01_k».proof.Proof.FfnClaim

@[expose] public section

noncomputable section

namespace Cert.Proof

open Idealize.ShloMosaic Idealize.SL.Sem Cert.MixIn

/-- Every claim of the certificate. -/
theorem claim : Cert.Claim := ⟨Cert.MixIn.Gen.facts, Cert.MixInIdeal.Gen.facts, Cert.MixInRefIdeal.Gen.facts, Cert.Mixer.Gen.facts, Cert.MixerIdeal.Gen.facts, Cert.MixerRefIdeal.Gen.facts,
  Cert.Ffn.Gen.facts, Cert.FfnIdeal.Gen.facts, Cert.FfnRefIdeal.Gen.facts, Cert.Pre_finite_mix_in.side, Cert.Pre_finite_pool.side, Cert.Pre_finite_ffn.side,
  fun m g _ => Cert.MixIn.Gen.frame m g,
  fun m g _ => Cert.MixInIdeal.Gen.frame m g,
  fun m g _ => Cert.MixInIdeal.Gen.frame m g,
  fun m g _ => Cert.MixInClaim.ref_frame m g trivial,
  fun m g _ => Cert.MixInClaim.ref_frame m g trivial,
  Cert.MixerFrame.bits,
  Cert.MixerFrame.ideal,
  fun m g _ => Cert.MixerRun.frame (F := Ideal) m g,
  fun m g _ => Cert.MixerClaim.ref_frame m g trivial,
  fun m g _ => Cert.MixerClaim.ref_frame m g trivial,
  Cert.FfnFrame.bits,
  Cert.FfnFrame.ideal,
  fun m g _ => Cert.FfnIdeal.Gen.frame (F := Ideal) m g,
  fun m g _ => Cert.FfnClaim.ref_frame m g trivial,
  fun m g _ => Cert.FfnClaim.ref_frame m g trivial,
  trivial,
  Cert.MixInClaim.algebraic,
  trivial,
  Cert.MixerClaim.algebraic,
  trivial,
  Cert.FfnClaim.algebraic⟩

end Cert.Proof

end
